-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_KernelAttn (m : (ℓ : Loc Cert.KernelAttn.nD Cert.KernelAttn.τ Cert.KernelAttn.sig) → Buf (Elt Bits) ℓ) : Prop :=
  True

def Pre_KernelAttnIdeal (m : (ℓ : Loc Cert.KernelAttnIdeal.nD Cert.KernelAttnIdeal.τ Cert.KernelAttnIdeal.sig) → Buf (Elt Ideal) ℓ) : Prop :=
  True

def Pre_KernelAttnIdeal_finite_attn [hPre_finite_attn : Cert.Pre_finite_attn.Facts] (m : (ℓ : Loc Cert.KernelAttnIdeal.nD Cert.KernelAttnIdeal.τ Cert.KernelAttnIdeal.sig) → Buf (Elt Ideal) ℓ) : Prop :=
  ∀ c : Dev Cert.KernelAttnIdeal.nD,
    (Cert.Pre_finite_attn.fn (F := Ideal) (m ((c.tc : Thread Cert.KernelAttnIdeal.nD Cert.KernelAttnIdeal.τ).loc Cert.KernelAttnIdeal.main_arg0)) (m ((c.tc : Thread Cert.KernelAttnIdeal.nD Cert.KernelAttnIdeal.τ).loc Cert.KernelAttnIdeal.main_arg1)) (m ((c.tc : Thread Cert.KernelAttnIdeal.nD Cert.KernelAttnIdeal.τ).loc Cert.KernelAttnIdeal.main_arg2)) (m ((c.tc : Thread Cert.KernelAttnIdeal.nD Cert.KernelAttnIdeal.τ).loc Cert.KernelAttnIdeal.main_arg3)) (m ((c.tc : Thread Cert.KernelAttnIdeal.nD Cert.KernelAttnIdeal.τ).loc Cert.KernelAttnIdeal.main_arg4)) (m ((c.tc : Thread Cert.KernelAttnIdeal.nD Cert.KernelAttnIdeal.τ).loc Cert.KernelAttnIdeal.main_arg5))).1 = (fun _ => 1#1)
    ∧ (Cert.Pre_finite_attn.fn (F := Ideal) (m ((c.tc : Thread Cert.KernelAttnIdeal.nD Cert.KernelAttnIdeal.τ).loc Cert.KernelAttnIdeal.main_arg0)) (m ((c.tc : Thread Cert.KernelAttnIdeal.nD Cert.KernelAttnIdeal.τ).loc Cert.KernelAttnIdeal.main_arg1)) (m ((c.tc : Thread Cert.KernelAttnIdeal.nD Cert.KernelAttnIdeal.τ).loc Cert.KernelAttnIdeal.main_arg2)) (m ((c.tc : Thread Cert.KernelAttnIdeal.nD Cert.KernelAttnIdeal.τ).loc Cert.KernelAttnIdeal.main_arg3)) (m ((c.tc : Thread Cert.KernelAttnIdeal.nD Cert.KernelAttnIdeal.τ).loc Cert.KernelAttnIdeal.main_arg4)) (m ((c.tc : Thread Cert.KernelAttnIdeal.nD Cert.KernelAttnIdeal.τ).loc Cert.KernelAttnIdeal.main_arg5))).2.1 = (fun _ => 1#1)
    ∧ (Cert.Pre_finite_attn.fn (F := Ideal) (m ((c.tc : Thread Cert.KernelAttnIdeal.nD Cert.KernelAttnIdeal.τ).loc Cert.KernelAttnIdeal.main_arg0)) (m ((c.tc : Thread Cert.KernelAttnIdeal.nD Cert.KernelAttnIdeal.τ).loc Cert.KernelAttnIdeal.main_arg1)) (m ((c.tc : Thread Cert.KernelAttnIdeal.nD Cert.KernelAttnIdeal.τ).loc Cert.KernelAttnIdeal.main_arg2)) (m ((c.tc : Thread Cert.KernelAttnIdeal.nD Cert.KernelAttnIdeal.τ).loc Cert.KernelAttnIdeal.main_arg3)) (m ((c.tc : Thread Cert.KernelAttnIdeal.nD Cert.KernelAttnIdeal.τ).loc Cert.KernelAttnIdeal.main_arg4)) (m ((c.tc : Thread Cert.KernelAttnIdeal.nD Cert.KernelAttnIdeal.τ).loc Cert.KernelAttnIdeal.main_arg5))).2.2.1 = (fun _ => 1#1)
    ∧ (Cert.Pre_finite_attn.fn (F := Ideal) (m ((c.tc : Thread Cert.KernelAttnIdeal.nD Cert.KernelAttnIdeal.τ).loc Cert.KernelAttnIdeal.main_arg0)) (m ((c.tc : Thread Cert.KernelAttnIdeal.nD Cert.KernelAttnIdeal.τ).loc Cert.KernelAttnIdeal.main_arg1)) (m ((c.tc : Thread Cert.KernelAttnIdeal.nD Cert.KernelAttnIdeal.τ).loc Cert.KernelAttnIdeal.main_arg2)) (m ((c.tc : Thread Cert.KernelAttnIdeal.nD Cert.KernelAttnIdeal.τ).loc Cert.KernelAttnIdeal.main_arg3)) (m ((c.tc : Thread Cert.KernelAttnIdeal.nD Cert.KernelAttnIdeal.τ).loc Cert.KernelAttnIdeal.main_arg4)) (m ((c.tc : Thread Cert.KernelAttnIdeal.nD Cert.KernelAttnIdeal.τ).loc Cert.KernelAttnIdeal.main_arg5))).2.2.2.1 = (fun _ => 1#1)
    ∧ (Cert.Pre_finite_attn.fn (F := Ideal) (m ((c.tc : Thread Cert.KernelAttnIdeal.nD Cert.KernelAttnIdeal.τ).loc Cert.KernelAttnIdeal.main_arg0)) (m ((c.tc : Thread Cert.KernelAttnIdeal.nD Cert.KernelAttnIdeal.τ).loc Cert.KernelAttnIdeal.main_arg1)) (m ((c.tc : Thread Cert.KernelAttnIdeal.nD Cert.KernelAttnIdeal.τ).loc Cert.KernelAttnIdeal.main_arg2)) (m ((c.tc : Thread Cert.KernelAttnIdeal.nD Cert.KernelAttnIdeal.τ).loc Cert.KernelAttnIdeal.main_arg3)) (m ((c.tc : Thread Cert.KernelAttnIdeal.nD Cert.KernelAttnIdeal.τ).loc Cert.KernelAttnIdeal.main_arg4)) (m ((c.tc : Thread Cert.KernelAttnIdeal.nD Cert.KernelAttnIdeal.τ).loc Cert.KernelAttnIdeal.main_arg5))).2.2.2.2 = (fun _ => 1#1)

def Pre_ReferenceAttnIdeal (m : (ℓ : Loc Cert.ReferenceAttnIdeal.nD Cert.ReferenceAttnIdeal.τ Cert.ReferenceAttnIdeal.sig) → Buf (Elt Ideal) ℓ) : Prop :=
  True

def Pre_ReferenceAttnIdeal_finite_attn [hPre_finite_attn : Cert.Pre_finite_attn.Facts] (m : (ℓ : Loc Cert.ReferenceAttnIdeal.nD Cert.ReferenceAttnIdeal.τ Cert.ReferenceAttnIdeal.sig) → Buf (Elt Ideal) ℓ) : Prop :=
  ∀ c : Dev Cert.ReferenceAttnIdeal.nD,
    (Cert.Pre_finite_attn.fn (F := Ideal) (m ((c.tc : Thread Cert.ReferenceAttnIdeal.nD Cert.ReferenceAttnIdeal.τ).loc Cert.ReferenceAttnIdeal.main_arg0)) (m ((c.tc : Thread Cert.ReferenceAttnIdeal.nD Cert.ReferenceAttnIdeal.τ).loc Cert.ReferenceAttnIdeal.main_arg1)) (m ((c.tc : Thread Cert.ReferenceAttnIdeal.nD Cert.ReferenceAttnIdeal.τ).loc Cert.ReferenceAttnIdeal.main_arg2)) (m ((c.tc : Thread Cert.ReferenceAttnIdeal.nD Cert.ReferenceAttnIdeal.τ).loc Cert.ReferenceAttnIdeal.main_arg3)) (m ((c.tc : Thread Cert.ReferenceAttnIdeal.nD Cert.ReferenceAttnIdeal.τ).loc Cert.ReferenceAttnIdeal.main_arg4)) (m ((c.tc : Thread Cert.ReferenceAttnIdeal.nD Cert.ReferenceAttnIdeal.τ).loc Cert.ReferenceAttnIdeal.main_arg5))).1 = (fun _ => 1#1)
    ∧ (Cert.Pre_finite_attn.fn (F := Ideal) (m ((c.tc : Thread Cert.ReferenceAttnIdeal.nD Cert.ReferenceAttnIdeal.τ).loc Cert.ReferenceAttnIdeal.main_arg0)) (m ((c.tc : Thread Cert.ReferenceAttnIdeal.nD Cert.ReferenceAttnIdeal.τ).loc Cert.ReferenceAttnIdeal.main_arg1)) (m ((c.tc : Thread Cert.ReferenceAttnIdeal.nD Cert.ReferenceAttnIdeal.τ).loc Cert.ReferenceAttnIdeal.main_arg2)) (m ((c.tc : Thread Cert.ReferenceAttnIdeal.nD Cert.ReferenceAttnIdeal.τ).loc Cert.ReferenceAttnIdeal.main_arg3)) (m ((c.tc : Thread Cert.ReferenceAttnIdeal.nD Cert.ReferenceAttnIdeal.τ).loc Cert.ReferenceAttnIdeal.main_arg4)) (m ((c.tc : Thread Cert.ReferenceAttnIdeal.nD Cert.ReferenceAttnIdeal.τ).loc Cert.ReferenceAttnIdeal.main_arg5))).2.1 = (fun _ => 1#1)
    ∧ (Cert.Pre_finite_attn.fn (F := Ideal) (m ((c.tc : Thread Cert.ReferenceAttnIdeal.nD Cert.ReferenceAttnIdeal.τ).loc Cert.ReferenceAttnIdeal.main_arg0)) (m ((c.tc : Thread Cert.ReferenceAttnIdeal.nD Cert.ReferenceAttnIdeal.τ).loc Cert.ReferenceAttnIdeal.main_arg1)) (m ((c.tc : Thread Cert.ReferenceAttnIdeal.nD Cert.ReferenceAttnIdeal.τ).loc Cert.ReferenceAttnIdeal.main_arg2)) (m ((c.tc : Thread Cert.ReferenceAttnIdeal.nD Cert.ReferenceAttnIdeal.τ).loc Cert.ReferenceAttnIdeal.main_arg3)) (m ((c.tc : Thread Cert.ReferenceAttnIdeal.nD Cert.ReferenceAttnIdeal.τ).loc Cert.ReferenceAttnIdeal.main_arg4)) (m ((c.tc : Thread Cert.ReferenceAttnIdeal.nD Cert.ReferenceAttnIdeal.τ).loc Cert.ReferenceAttnIdeal.main_arg5))).2.2.1 = (fun _ => 1#1)
    ∧ (Cert.Pre_finite_attn.fn (F := Ideal) (m ((c.tc : Thread Cert.ReferenceAttnIdeal.nD Cert.ReferenceAttnIdeal.τ).loc Cert.ReferenceAttnIdeal.main_arg0)) (m ((c.tc : Thread Cert.ReferenceAttnIdeal.nD Cert.ReferenceAttnIdeal.τ).loc Cert.ReferenceAttnIdeal.main_arg1)) (m ((c.tc : Thread Cert.ReferenceAttnIdeal.nD Cert.ReferenceAttnIdeal.τ).loc Cert.ReferenceAttnIdeal.main_arg2)) (m ((c.tc : Thread Cert.ReferenceAttnIdeal.nD Cert.ReferenceAttnIdeal.τ).loc Cert.ReferenceAttnIdeal.main_arg3)) (m ((c.tc : Thread Cert.ReferenceAttnIdeal.nD Cert.ReferenceAttnIdeal.τ).loc Cert.ReferenceAttnIdeal.main_arg4)) (m ((c.tc : Thread Cert.ReferenceAttnIdeal.nD Cert.ReferenceAttnIdeal.τ).loc Cert.ReferenceAttnIdeal.main_arg5))).2.2.2.1 = (fun _ => 1#1)
    ∧ (Cert.Pre_finite_attn.fn (F := Ideal) (m ((c.tc : Thread Cert.ReferenceAttnIdeal.nD Cert.ReferenceAttnIdeal.τ).loc Cert.ReferenceAttnIdeal.main_arg0)) (m ((c.tc : Thread Cert.ReferenceAttnIdeal.nD Cert.ReferenceAttnIdeal.τ).loc Cert.ReferenceAttnIdeal.main_arg1)) (m ((c.tc : Thread Cert.ReferenceAttnIdeal.nD Cert.ReferenceAttnIdeal.τ).loc Cert.ReferenceAttnIdeal.main_arg2)) (m ((c.tc : Thread Cert.ReferenceAttnIdeal.nD Cert.ReferenceAttnIdeal.τ).loc Cert.ReferenceAttnIdeal.main_arg3)) (m ((c.tc : Thread Cert.ReferenceAttnIdeal.nD Cert.ReferenceAttnIdeal.τ).loc Cert.ReferenceAttnIdeal.main_arg4)) (m ((c.tc : Thread Cert.ReferenceAttnIdeal.nD Cert.ReferenceAttnIdeal.τ).loc Cert.ReferenceAttnIdeal.main_arg5))).2.2.2.2 = (fun _ => 1#1)

def Pre_KernelDh (m : (ℓ : Loc Cert.KernelDh.nD Cert.KernelDh.τ Cert.KernelDh.sig) → Buf (Elt Bits) ℓ) : Prop :=
  True

def Pre_KernelDhIdeal (m : (ℓ : Loc Cert.KernelDhIdeal.nD Cert.KernelDhIdeal.τ Cert.KernelDhIdeal.sig) → Buf (Elt Ideal) ℓ) : Prop :=
  True

def Pre_KernelDhIdeal_finite_dh [hPre_finite_dh : Cert.Pre_finite_dh.Facts] (m : (ℓ : Loc Cert.KernelDhIdeal.nD Cert.KernelDhIdeal.τ Cert.KernelDhIdeal.sig) → Buf (Elt Ideal) ℓ) : Prop :=
  ∀ c : Dev Cert.KernelDhIdeal.nD,
    (Cert.Pre_finite_dh.fn (F := Ideal) (m ((c.tc : Thread Cert.KernelDhIdeal.nD Cert.KernelDhIdeal.τ).loc Cert.KernelDhIdeal.main_arg0)) (m ((c.tc : Thread Cert.KernelDhIdeal.nD Cert.KernelDhIdeal.τ).loc Cert.KernelDhIdeal.main_arg1)) (m ((c.tc : Thread Cert.KernelDhIdeal.nD Cert.KernelDhIdeal.τ).loc Cert.KernelDhIdeal.main_arg2)) (m ((c.tc : Thread Cert.KernelDhIdeal.nD Cert.KernelDhIdeal.τ).loc Cert.KernelDhIdeal.main_arg3)) (m ((c.tc : Thread Cert.KernelDhIdeal.nD Cert.KernelDhIdeal.τ).loc Cert.KernelDhIdeal.main_arg4))).1 = (fun _ => 1#1)
    ∧ (Cert.Pre_finite_dh.fn (F := Ideal) (m ((c.tc : Thread Cert.KernelDhIdeal.nD Cert.KernelDhIdeal.τ).loc Cert.KernelDhIdeal.main_arg0)) (m ((c.tc : Thread Cert.KernelDhIdeal.nD Cert.KernelDhIdeal.τ).loc Cert.KernelDhIdeal.main_arg1)) (m ((c.tc : Thread Cert.KernelDhIdeal.nD Cert.KernelDhIdeal.τ).loc Cert.KernelDhIdeal.main_arg2)) (m ((c.tc : Thread Cert.KernelDhIdeal.nD Cert.KernelDhIdeal.τ).loc Cert.KernelDhIdeal.main_arg3)) (m ((c.tc : Thread Cert.KernelDhIdeal.nD Cert.KernelDhIdeal.τ).loc Cert.KernelDhIdeal.main_arg4))).2.1 = (fun _ => 1#1)
    ∧ (Cert.Pre_finite_dh.fn (F := Ideal) (m ((c.tc : Thread Cert.KernelDhIdeal.nD Cert.KernelDhIdeal.τ).loc Cert.KernelDhIdeal.main_arg0)) (m ((c.tc : Thread Cert.KernelDhIdeal.nD Cert.KernelDhIdeal.τ).loc Cert.KernelDhIdeal.main_arg1)) (m ((c.tc : Thread Cert.KernelDhIdeal.nD Cert.KernelDhIdeal.τ).loc Cert.KernelDhIdeal.main_arg2)) (m ((c.tc : Thread Cert.KernelDhIdeal.nD Cert.KernelDhIdeal.τ).loc Cert.KernelDhIdeal.main_arg3)) (m ((c.tc : Thread Cert.KernelDhIdeal.nD Cert.KernelDhIdeal.τ).loc Cert.KernelDhIdeal.main_arg4))).2.2.1 = (fun _ => 1#1)
    ∧ (Cert.Pre_finite_dh.fn (F := Ideal) (m ((c.tc : Thread Cert.KernelDhIdeal.nD Cert.KernelDhIdeal.τ).loc Cert.KernelDhIdeal.main_arg0)) (m ((c.tc : Thread Cert.KernelDhIdeal.nD Cert.KernelDhIdeal.τ).loc Cert.KernelDhIdeal.main_arg1)) (m ((c.tc : Thread Cert.KernelDhIdeal.nD Cert.KernelDhIdeal.τ).loc Cert.KernelDhIdeal.main_arg2)) (m ((c.tc : Thread Cert.KernelDhIdeal.nD Cert.KernelDhIdeal.τ).loc Cert.KernelDhIdeal.main_arg3)) (m ((c.tc : Thread Cert.KernelDhIdeal.nD Cert.KernelDhIdeal.τ).loc Cert.KernelDhIdeal.main_arg4))).2.2.2 = (fun _ => 1#1)

def Pre_ReferenceDhIdeal (m : (ℓ : Loc Cert.ReferenceDhIdeal.nD Cert.ReferenceDhIdeal.τ Cert.ReferenceDhIdeal.sig) → Buf (Elt Ideal) ℓ) : Prop :=
  True

def Pre_ReferenceDhIdeal_finite_dh [hPre_finite_dh : Cert.Pre_finite_dh.Facts] (m : (ℓ : Loc Cert.ReferenceDhIdeal.nD Cert.ReferenceDhIdeal.τ Cert.ReferenceDhIdeal.sig) → Buf (Elt Ideal) ℓ) : Prop :=
  ∀ c : Dev Cert.ReferenceDhIdeal.nD,
    (Cert.Pre_finite_dh.fn (F := Ideal) (m ((c.tc : Thread Cert.ReferenceDhIdeal.nD Cert.ReferenceDhIdeal.τ).loc Cert.ReferenceDhIdeal.main_arg0)) (m ((c.tc : Thread Cert.ReferenceDhIdeal.nD Cert.ReferenceDhIdeal.τ).loc Cert.ReferenceDhIdeal.main_arg1)) (m ((c.tc : Thread Cert.ReferenceDhIdeal.nD Cert.ReferenceDhIdeal.τ).loc Cert.ReferenceDhIdeal.main_arg2)) (m ((c.tc : Thread Cert.ReferenceDhIdeal.nD Cert.ReferenceDhIdeal.τ).loc Cert.ReferenceDhIdeal.main_arg3)) (m ((c.tc : Thread Cert.ReferenceDhIdeal.nD Cert.ReferenceDhIdeal.τ).loc Cert.ReferenceDhIdeal.main_arg4))).1 = (fun _ => 1#1)
    ∧ (Cert.Pre_finite_dh.fn (F := Ideal) (m ((c.tc : Thread Cert.ReferenceDhIdeal.nD Cert.ReferenceDhIdeal.τ).loc Cert.ReferenceDhIdeal.main_arg0)) (m ((c.tc : Thread Cert.ReferenceDhIdeal.nD Cert.ReferenceDhIdeal.τ).loc Cert.ReferenceDhIdeal.main_arg1)) (m ((c.tc : Thread Cert.ReferenceDhIdeal.nD Cert.ReferenceDhIdeal.τ).loc Cert.ReferenceDhIdeal.main_arg2)) (m ((c.tc : Thread Cert.ReferenceDhIdeal.nD Cert.ReferenceDhIdeal.τ).loc Cert.ReferenceDhIdeal.main_arg3)) (m ((c.tc : Thread Cert.ReferenceDhIdeal.nD Cert.ReferenceDhIdeal.τ).loc Cert.ReferenceDhIdeal.main_arg4))).2.1 = (fun _ => 1#1)
    ∧ (Cert.Pre_finite_dh.fn (F := Ideal) (m ((c.tc : Thread Cert.ReferenceDhIdeal.nD Cert.ReferenceDhIdeal.τ).loc Cert.ReferenceDhIdeal.main_arg0)) (m ((c.tc : Thread Cert.ReferenceDhIdeal.nD Cert.ReferenceDhIdeal.τ).loc Cert.ReferenceDhIdeal.main_arg1)) (m ((c.tc : Thread Cert.ReferenceDhIdeal.nD Cert.ReferenceDhIdeal.τ).loc Cert.ReferenceDhIdeal.main_arg2)) (m ((c.tc : Thread Cert.ReferenceDhIdeal.nD Cert.ReferenceDhIdeal.τ).loc Cert.ReferenceDhIdeal.main_arg3)) (m ((c.tc : Thread Cert.ReferenceDhIdeal.nD Cert.ReferenceDhIdeal.τ).loc Cert.ReferenceDhIdeal.main_arg4))).2.2.1 = (fun _ => 1#1)
    ∧ (Cert.Pre_finite_dh.fn (F := Ideal) (m ((c.tc : Thread Cert.ReferenceDhIdeal.nD Cert.ReferenceDhIdeal.τ).loc Cert.ReferenceDhIdeal.main_arg0)) (m ((c.tc : Thread Cert.ReferenceDhIdeal.nD Cert.ReferenceDhIdeal.τ).loc Cert.ReferenceDhIdeal.main_arg1)) (m ((c.tc : Thread Cert.ReferenceDhIdeal.nD Cert.ReferenceDhIdeal.τ).loc Cert.ReferenceDhIdeal.main_arg2)) (m ((c.tc : Thread Cert.ReferenceDhIdeal.nD Cert.ReferenceDhIdeal.τ).loc Cert.ReferenceDhIdeal.main_arg3)) (m ((c.tc : Thread Cert.ReferenceDhIdeal.nD Cert.ReferenceDhIdeal.τ).loc Cert.ReferenceDhIdeal.main_arg4))).2.2.2 = (fun _ => 1#1)

def Pre_KernelBrC2 (m : (ℓ : Loc Cert.KernelBrC2.nD Cert.KernelBrC2.τ Cert.KernelBrC2.sig) → Buf (Elt Bits) ℓ) : Prop :=
  True

def Pre_KernelBrC2Ideal (m : (ℓ : Loc Cert.KernelBrC2Ideal.nD Cert.KernelBrC2Ideal.τ Cert.KernelBrC2Ideal.sig) → Buf (Elt Ideal) ℓ) : Prop :=
  True

def Pre_KernelBrC2Ideal_finite_brc2 [hPre_finite_brc2 : Cert.Pre_finite_brc2.Facts] (m : (ℓ : Loc Cert.KernelBrC2Ideal.nD Cert.KernelBrC2Ideal.τ Cert.KernelBrC2Ideal.sig) → Buf (Elt Ideal) ℓ) : Prop :=
  ∀ c : Dev Cert.KernelBrC2Ideal.nD,
    (Cert.Pre_finite_brc2.fn (F := Ideal) (m ((c.tc : Thread Cert.KernelBrC2Ideal.nD Cert.KernelBrC2Ideal.τ).loc Cert.KernelBrC2Ideal.main_arg0)) (m ((c.tc : Thread Cert.KernelBrC2Ideal.nD Cert.KernelBrC2Ideal.τ).loc Cert.KernelBrC2Ideal.main_arg1)) (m ((c.tc : Thread Cert.KernelBrC2Ideal.nD Cert.KernelBrC2Ideal.τ).loc Cert.KernelBrC2Ideal.main_arg2)) (m ((c.tc : Thread Cert.KernelBrC2Ideal.nD Cert.KernelBrC2Ideal.τ).loc Cert.KernelBrC2Ideal.main_arg3)) (m ((c.tc : Thread Cert.KernelBrC2Ideal.nD Cert.KernelBrC2Ideal.τ).loc Cert.KernelBrC2Ideal.main_arg4)) (m ((c.tc : Thread Cert.KernelBrC2Ideal.nD Cert.KernelBrC2Ideal.τ).loc Cert.KernelBrC2Ideal.main_arg5)) (m ((c.tc : Thread Cert.KernelBrC2Ideal.nD Cert.KernelBrC2Ideal.τ).loc Cert.KernelBrC2Ideal.main_arg6))).1 = (fun _ => 1#1)
    ∧ (Cert.Pre_finite_brc2.fn (F := Ideal) (m ((c.tc : Thread Cert.KernelBrC2Ideal.nD Cert.KernelBrC2Ideal.τ).loc Cert.KernelBrC2Ideal.main_arg0)) (m ((c.tc : Thread Cert.KernelBrC2Ideal.nD Cert.KernelBrC2Ideal.τ).loc Cert.KernelBrC2Ideal.main_arg1)) (m ((c.tc : Thread Cert.KernelBrC2Ideal.nD Cert.KernelBrC2Ideal.τ).loc Cert.KernelBrC2Ideal.main_arg2)) (m ((c.tc : Thread Cert.KernelBrC2Ideal.nD Cert.KernelBrC2Ideal.τ).loc Cert.KernelBrC2Ideal.main_arg3)) (m ((c.tc : Thread Cert.KernelBrC2Ideal.nD Cert.KernelBrC2Ideal.τ).loc Cert.KernelBrC2Ideal.main_arg4)) (m ((c.tc : Thread Cert.KernelBrC2Ideal.nD Cert.KernelBrC2Ideal.τ).loc Cert.KernelBrC2Ideal.main_arg5)) (m ((c.tc : Thread Cert.KernelBrC2Ideal.nD Cert.KernelBrC2Ideal.τ).loc Cert.KernelBrC2Ideal.main_arg6))).2.1 = (fun _ => 1#1)
    ∧ (Cert.Pre_finite_brc2.fn (F := Ideal) (m ((c.tc : Thread Cert.KernelBrC2Ideal.nD Cert.KernelBrC2Ideal.τ).loc Cert.KernelBrC2Ideal.main_arg0)) (m ((c.tc : Thread Cert.KernelBrC2Ideal.nD Cert.KernelBrC2Ideal.τ).loc Cert.KernelBrC2Ideal.main_arg1)) (m ((c.tc : Thread Cert.KernelBrC2Ideal.nD Cert.KernelBrC2Ideal.τ).loc Cert.KernelBrC2Ideal.main_arg2)) (m ((c.tc : Thread Cert.KernelBrC2Ideal.nD Cert.KernelBrC2Ideal.τ).loc Cert.KernelBrC2Ideal.main_arg3)) (m ((c.tc : Thread Cert.KernelBrC2Ideal.nD Cert.KernelBrC2Ideal.τ).loc Cert.KernelBrC2Ideal.main_arg4)) (m ((c.tc : Thread Cert.KernelBrC2Ideal.nD Cert.KernelBrC2Ideal.τ).loc Cert.KernelBrC2Ideal.main_arg5)) (m ((c.tc : Thread Cert.KernelBrC2Ideal.nD Cert.KernelBrC2Ideal.τ).loc Cert.KernelBrC2Ideal.main_arg6))).2.2.1 = (fun _ => 1#1)
    ∧ (Cert.Pre_finite_brc2.fn (F := Ideal) (m ((c.tc : Thread Cert.KernelBrC2Ideal.nD Cert.KernelBrC2Ideal.τ).loc Cert.KernelBrC2Ideal.main_arg0)) (m ((c.tc : Thread Cert.KernelBrC2Ideal.nD Cert.KernelBrC2Ideal.τ).loc Cert.KernelBrC2Ideal.main_arg1)) (m ((c.tc : Thread Cert.KernelBrC2Ideal.nD Cert.KernelBrC2Ideal.τ).loc Cert.KernelBrC2Ideal.main_arg2)) (m ((c.tc : Thread Cert.KernelBrC2Ideal.nD Cert.KernelBrC2Ideal.τ).loc Cert.KernelBrC2Ideal.main_arg3)) (m ((c.tc : Thread Cert.KernelBrC2Ideal.nD Cert.KernelBrC2Ideal.τ).loc Cert.KernelBrC2Ideal.main_arg4)) (m ((c.tc : Thread Cert.KernelBrC2Ideal.nD Cert.KernelBrC2Ideal.τ).loc Cert.KernelBrC2Ideal.main_arg5)) (m ((c.tc : Thread Cert.KernelBrC2Ideal.nD Cert.KernelBrC2Ideal.τ).loc Cert.KernelBrC2Ideal.main_arg6))).2.2.2.1 = (fun _ => 1#1)
    ∧ (Cert.Pre_finite_brc2.fn (F := Ideal) (m ((c.tc : Thread Cert.KernelBrC2Ideal.nD Cert.KernelBrC2Ideal.τ).loc Cert.KernelBrC2Ideal.main_arg0)) (m ((c.tc : Thread Cert.KernelBrC2Ideal.nD Cert.KernelBrC2Ideal.τ).loc Cert.KernelBrC2Ideal.main_arg1)) (m ((c.tc : Thread Cert.KernelBrC2Ideal.nD Cert.KernelBrC2Ideal.τ).loc Cert.KernelBrC2Ideal.main_arg2)) (m ((c.tc : Thread Cert.KernelBrC2Ideal.nD Cert.KernelBrC2Ideal.τ).loc Cert.KernelBrC2Ideal.main_arg3)) (m ((c.tc : Thread Cert.KernelBrC2Ideal.nD Cert.KernelBrC2Ideal.τ).loc Cert.KernelBrC2Ideal.main_arg4)) (m ((c.tc : Thread Cert.KernelBrC2Ideal.nD Cert.KernelBrC2Ideal.τ).loc Cert.KernelBrC2Ideal.main_arg5)) (m ((c.tc : Thread Cert.KernelBrC2Ideal.nD Cert.KernelBrC2Ideal.τ).loc Cert.KernelBrC2Ideal.main_arg6))).2.2.2.2.1 = (fun _ => 1#1)
    ∧ (Cert.Pre_finite_brc2.fn (F := Ideal) (m ((c.tc : Thread Cert.KernelBrC2Ideal.nD Cert.KernelBrC2Ideal.τ).loc Cert.KernelBrC2Ideal.main_arg0)) (m ((c.tc : Thread Cert.KernelBrC2Ideal.nD Cert.KernelBrC2Ideal.τ).loc Cert.KernelBrC2Ideal.main_arg1)) (m ((c.tc : Thread Cert.KernelBrC2Ideal.nD Cert.KernelBrC2Ideal.τ).loc Cert.KernelBrC2Ideal.main_arg2)) (m ((c.tc : Thread Cert.KernelBrC2Ideal.nD Cert.KernelBrC2Ideal.τ).loc Cert.KernelBrC2Ideal.main_arg3)) (m ((c.tc : Thread Cert.KernelBrC2Ideal.nD Cert.KernelBrC2Ideal.τ).loc Cert.KernelBrC2Ideal.main_arg4)) (m ((c.tc : Thread Cert.KernelBrC2Ideal.nD Cert.KernelBrC2Ideal.τ).loc Cert.KernelBrC2Ideal.main_arg5)) (m ((c.tc : Thread Cert.KernelBrC2Ideal.nD Cert.KernelBrC2Ideal.τ).loc Cert.KernelBrC2Ideal.main_arg6))).2.2.2.2.2 = (fun _ => 1#1)

def Pre_ReferenceBrC2Ideal (m : (ℓ : Loc Cert.ReferenceBrC2Ideal.nD Cert.ReferenceBrC2Ideal.τ Cert.ReferenceBrC2Ideal.sig) → Buf (Elt Ideal) ℓ) : Prop :=
  True

def Pre_ReferenceBrC2Ideal_finite_brc2 [hPre_finite_brc2 : Cert.Pre_finite_brc2.Facts] (m : (ℓ : Loc Cert.ReferenceBrC2Ideal.nD Cert.ReferenceBrC2Ideal.τ Cert.ReferenceBrC2Ideal.sig) → Buf (Elt Ideal) ℓ) : Prop :=
  ∀ c : Dev Cert.ReferenceBrC2Ideal.nD,
    (Cert.Pre_finite_brc2.fn (F := Ideal) (m ((c.tc : Thread Cert.ReferenceBrC2Ideal.nD Cert.ReferenceBrC2Ideal.τ).loc Cert.ReferenceBrC2Ideal.main_arg0)) (m ((c.tc : Thread Cert.ReferenceBrC2Ideal.nD Cert.ReferenceBrC2Ideal.τ).loc Cert.ReferenceBrC2Ideal.main_arg1)) (m ((c.tc : Thread Cert.ReferenceBrC2Ideal.nD Cert.ReferenceBrC2Ideal.τ).loc Cert.ReferenceBrC2Ideal.main_arg2)) (m ((c.tc : Thread Cert.ReferenceBrC2Ideal.nD Cert.ReferenceBrC2Ideal.τ).loc Cert.ReferenceBrC2Ideal.main_arg3)) (m ((c.tc : Thread Cert.ReferenceBrC2Ideal.nD Cert.ReferenceBrC2Ideal.τ).loc Cert.ReferenceBrC2Ideal.main_arg4)) (m ((c.tc : Thread Cert.ReferenceBrC2Ideal.nD Cert.ReferenceBrC2Ideal.τ).loc Cert.ReferenceBrC2Ideal.main_arg5)) (m ((c.tc : Thread Cert.ReferenceBrC2Ideal.nD Cert.ReferenceBrC2Ideal.τ).loc Cert.ReferenceBrC2Ideal.main_arg6))).1 = (fun _ => 1#1)
    ∧ (Cert.Pre_finite_brc2.fn (F := Ideal) (m ((c.tc : Thread Cert.ReferenceBrC2Ideal.nD Cert.ReferenceBrC2Ideal.τ).loc Cert.ReferenceBrC2Ideal.main_arg0)) (m ((c.tc : Thread Cert.ReferenceBrC2Ideal.nD Cert.ReferenceBrC2Ideal.τ).loc Cert.ReferenceBrC2Ideal.main_arg1)) (m ((c.tc : Thread Cert.ReferenceBrC2Ideal.nD Cert.ReferenceBrC2Ideal.τ).loc Cert.ReferenceBrC2Ideal.main_arg2)) (m ((c.tc : Thread Cert.ReferenceBrC2Ideal.nD Cert.ReferenceBrC2Ideal.τ).loc Cert.ReferenceBrC2Ideal.main_arg3)) (m ((c.tc : Thread Cert.ReferenceBrC2Ideal.nD Cert.ReferenceBrC2Ideal.τ).loc Cert.ReferenceBrC2Ideal.main_arg4)) (m ((c.tc : Thread Cert.ReferenceBrC2Ideal.nD Cert.ReferenceBrC2Ideal.τ).loc Cert.ReferenceBrC2Ideal.main_arg5)) (m ((c.tc : Thread Cert.ReferenceBrC2Ideal.nD Cert.ReferenceBrC2Ideal.τ).loc Cert.ReferenceBrC2Ideal.main_arg6))).2.1 = (fun _ => 1#1)
    ∧ (Cert.Pre_finite_brc2.fn (F := Ideal) (m ((c.tc : Thread Cert.ReferenceBrC2Ideal.nD Cert.ReferenceBrC2Ideal.τ).loc Cert.ReferenceBrC2Ideal.main_arg0)) (m ((c.tc : Thread Cert.ReferenceBrC2Ideal.nD Cert.ReferenceBrC2Ideal.τ).loc Cert.ReferenceBrC2Ideal.main_arg1)) (m ((c.tc : Thread Cert.ReferenceBrC2Ideal.nD Cert.ReferenceBrC2Ideal.τ).loc Cert.ReferenceBrC2Ideal.main_arg2)) (m ((c.tc : Thread Cert.ReferenceBrC2Ideal.nD Cert.ReferenceBrC2Ideal.τ).loc Cert.ReferenceBrC2Ideal.main_arg3)) (m ((c.tc : Thread Cert.ReferenceBrC2Ideal.nD Cert.ReferenceBrC2Ideal.τ).loc Cert.ReferenceBrC2Ideal.main_arg4)) (m ((c.tc : Thread Cert.ReferenceBrC2Ideal.nD Cert.ReferenceBrC2Ideal.τ).loc Cert.ReferenceBrC2Ideal.main_arg5)) (m ((c.tc : Thread Cert.ReferenceBrC2Ideal.nD Cert.ReferenceBrC2Ideal.τ).loc Cert.ReferenceBrC2Ideal.main_arg6))).2.2.1 = (fun _ => 1#1)
    ∧ (Cert.Pre_finite_brc2.fn (F := Ideal) (m ((c.tc : Thread Cert.ReferenceBrC2Ideal.nD Cert.ReferenceBrC2Ideal.τ).loc Cert.ReferenceBrC2Ideal.main_arg0)) (m ((c.tc : Thread Cert.ReferenceBrC2Ideal.nD Cert.ReferenceBrC2Ideal.τ).loc Cert.ReferenceBrC2Ideal.main_arg1)) (m ((c.tc : Thread Cert.ReferenceBrC2Ideal.nD Cert.ReferenceBrC2Ideal.τ).loc Cert.ReferenceBrC2Ideal.main_arg2)) (m ((c.tc : Thread Cert.ReferenceBrC2Ideal.nD Cert.ReferenceBrC2Ideal.τ).loc Cert.ReferenceBrC2Ideal.main_arg3)) (m ((c.tc : Thread Cert.ReferenceBrC2Ideal.nD Cert.ReferenceBrC2Ideal.τ).loc Cert.ReferenceBrC2Ideal.main_arg4)) (m ((c.tc : Thread Cert.ReferenceBrC2Ideal.nD Cert.ReferenceBrC2Ideal.τ).loc Cert.ReferenceBrC2Ideal.main_arg5)) (m ((c.tc : Thread Cert.ReferenceBrC2Ideal.nD Cert.ReferenceBrC2Ideal.τ).loc Cert.ReferenceBrC2Ideal.main_arg6))).2.2.2.1 = (fun _ => 1#1)
    ∧ (Cert.Pre_finite_brc2.fn (F := Ideal) (m ((c.tc : Thread Cert.ReferenceBrC2Ideal.nD Cert.ReferenceBrC2Ideal.τ).loc Cert.ReferenceBrC2Ideal.main_arg0)) (m ((c.tc : Thread Cert.ReferenceBrC2Ideal.nD Cert.ReferenceBrC2Ideal.τ).loc Cert.ReferenceBrC2Ideal.main_arg1)) (m ((c.tc : Thread Cert.ReferenceBrC2Ideal.nD Cert.ReferenceBrC2Ideal.τ).loc Cert.ReferenceBrC2Ideal.main_arg2)) (m ((c.tc : Thread Cert.ReferenceBrC2Ideal.nD Cert.ReferenceBrC2Ideal.τ).loc Cert.ReferenceBrC2Ideal.main_arg3)) (m ((c.tc : Thread Cert.ReferenceBrC2Ideal.nD Cert.ReferenceBrC2Ideal.τ).loc Cert.ReferenceBrC2Ideal.main_arg4)) (m ((c.tc : Thread Cert.ReferenceBrC2Ideal.nD Cert.ReferenceBrC2Ideal.τ).loc Cert.ReferenceBrC2Ideal.main_arg5)) (m ((c.tc : Thread Cert.ReferenceBrC2Ideal.nD Cert.ReferenceBrC2Ideal.τ).loc Cert.ReferenceBrC2Ideal.main_arg6))).2.2.2.2.1 = (fun _ => 1#1)
    ∧ (Cert.Pre_finite_brc2.fn (F := Ideal) (m ((c.tc : Thread Cert.ReferenceBrC2Ideal.nD Cert.ReferenceBrC2Ideal.τ).loc Cert.ReferenceBrC2Ideal.main_arg0)) (m ((c.tc : Thread Cert.ReferenceBrC2Ideal.nD Cert.ReferenceBrC2Ideal.τ).loc Cert.ReferenceBrC2Ideal.main_arg1)) (m ((c.tc : Thread Cert.ReferenceBrC2Ideal.nD Cert.ReferenceBrC2Ideal.τ).loc Cert.ReferenceBrC2Ideal.main_arg2)) (m ((c.tc : Thread Cert.ReferenceBrC2Ideal.nD Cert.ReferenceBrC2Ideal.τ).loc Cert.ReferenceBrC2Ideal.main_arg3)) (m ((c.tc : Thread Cert.ReferenceBrC2Ideal.nD Cert.ReferenceBrC2Ideal.τ).loc Cert.ReferenceBrC2Ideal.main_arg4)) (m ((c.tc : Thread Cert.ReferenceBrC2Ideal.nD Cert.ReferenceBrC2Ideal.τ).loc Cert.ReferenceBrC2Ideal.main_arg5)) (m ((c.tc : Thread Cert.ReferenceBrC2Ideal.nD Cert.ReferenceBrC2Ideal.τ).loc Cert.ReferenceBrC2Ideal.main_arg6))).2.2.2.2.2 = (fun _ => 1#1)

def Pre_KernelQkv (m : (ℓ : Loc Cert.KernelQkv.nD Cert.KernelQkv.τ Cert.KernelQkv.sig) → Buf (Elt Bits) ℓ) : Prop :=
  True

def Pre_KernelQkvIdeal (m : (ℓ : Loc Cert.KernelQkvIdeal.nD Cert.KernelQkvIdeal.τ Cert.KernelQkvIdeal.sig) → Buf (Elt Ideal) ℓ) : Prop :=
  True

def Pre_KernelQkvIdeal_finite_qkv [hPre_finite_qkv : Cert.Pre_finite_qkv.Facts] (m : (ℓ : Loc Cert.KernelQkvIdeal.nD Cert.KernelQkvIdeal.τ Cert.KernelQkvIdeal.sig) → Buf (Elt Ideal) ℓ) : Prop :=
  ∀ c : Dev Cert.KernelQkvIdeal.nD,
    (Cert.Pre_finite_qkv.fn (F := Ideal) (m ((c.tc : Thread Cert.KernelQkvIdeal.nD Cert.KernelQkvIdeal.τ).loc Cert.KernelQkvIdeal.main_arg0)) (m ((c.tc : Thread Cert.KernelQkvIdeal.nD Cert.KernelQkvIdeal.τ).loc Cert.KernelQkvIdeal.main_arg1)) (m ((c.tc : Thread Cert.KernelQkvIdeal.nD Cert.KernelQkvIdeal.τ).loc Cert.KernelQkvIdeal.main_arg2)) (m ((c.tc : Thread Cert.KernelQkvIdeal.nD Cert.KernelQkvIdeal.τ).loc Cert.KernelQkvIdeal.main_arg3)) (m ((c.tc : Thread Cert.KernelQkvIdeal.nD Cert.KernelQkvIdeal.τ).loc Cert.KernelQkvIdeal.main_arg4)) (m ((c.tc : Thread Cert.KernelQkvIdeal.nD Cert.KernelQkvIdeal.τ).loc Cert.KernelQkvIdeal.main_arg5)) (m ((c.tc : Thread Cert.KernelQkvIdeal.nD Cert.KernelQkvIdeal.τ).loc Cert.KernelQkvIdeal.main_arg6))).1 = (fun _ => 1#1)
    ∧ (Cert.Pre_finite_qkv.fn (F := Ideal) (m ((c.tc : Thread Cert.KernelQkvIdeal.nD Cert.KernelQkvIdeal.τ).loc Cert.KernelQkvIdeal.main_arg0)) (m ((c.tc : Thread Cert.KernelQkvIdeal.nD Cert.KernelQkvIdeal.τ).loc Cert.KernelQkvIdeal.main_arg1)) (m ((c.tc : Thread Cert.KernelQkvIdeal.nD Cert.KernelQkvIdeal.τ).loc Cert.KernelQkvIdeal.main_arg2)) (m ((c.tc : Thread Cert.KernelQkvIdeal.nD Cert.KernelQkvIdeal.τ).loc Cert.KernelQkvIdeal.main_arg3)) (m ((c.tc : Thread Cert.KernelQkvIdeal.nD Cert.KernelQkvIdeal.τ).loc Cert.KernelQkvIdeal.main_arg4)) (m ((c.tc : Thread Cert.KernelQkvIdeal.nD Cert.KernelQkvIdeal.τ).loc Cert.KernelQkvIdeal.main_arg5)) (m ((c.tc : Thread Cert.KernelQkvIdeal.nD Cert.KernelQkvIdeal.τ).loc Cert.KernelQkvIdeal.main_arg6))).2.1 = (fun _ => 1#1)
    ∧ (Cert.Pre_finite_qkv.fn (F := Ideal) (m ((c.tc : Thread Cert.KernelQkvIdeal.nD Cert.KernelQkvIdeal.τ).loc Cert.KernelQkvIdeal.main_arg0)) (m ((c.tc : Thread Cert.KernelQkvIdeal.nD Cert.KernelQkvIdeal.τ).loc Cert.KernelQkvIdeal.main_arg1)) (m ((c.tc : Thread Cert.KernelQkvIdeal.nD Cert.KernelQkvIdeal.τ).loc Cert.KernelQkvIdeal.main_arg2)) (m ((c.tc : Thread Cert.KernelQkvIdeal.nD Cert.KernelQkvIdeal.τ).loc Cert.KernelQkvIdeal.main_arg3)) (m ((c.tc : Thread Cert.KernelQkvIdeal.nD Cert.KernelQkvIdeal.τ).loc Cert.KernelQkvIdeal.main_arg4)) (m ((c.tc : Thread Cert.KernelQkvIdeal.nD Cert.KernelQkvIdeal.τ).loc Cert.KernelQkvIdeal.main_arg5)) (m ((c.tc : Thread Cert.KernelQkvIdeal.nD Cert.KernelQkvIdeal.τ).loc Cert.KernelQkvIdeal.main_arg6))).2.2.1 = (fun _ => 1#1)
    ∧ (Cert.Pre_finite_qkv.fn (F := Ideal) (m ((c.tc : Thread Cert.KernelQkvIdeal.nD Cert.KernelQkvIdeal.τ).loc Cert.KernelQkvIdeal.main_arg0)) (m ((c.tc : Thread Cert.KernelQkvIdeal.nD Cert.KernelQkvIdeal.τ).loc Cert.KernelQkvIdeal.main_arg1)) (m ((c.tc : Thread Cert.KernelQkvIdeal.nD Cert.KernelQkvIdeal.τ).loc Cert.KernelQkvIdeal.main_arg2)) (m ((c.tc : Thread Cert.KernelQkvIdeal.nD Cert.KernelQkvIdeal.τ).loc Cert.KernelQkvIdeal.main_arg3)) (m ((c.tc : Thread Cert.KernelQkvIdeal.nD Cert.KernelQkvIdeal.τ).loc Cert.KernelQkvIdeal.main_arg4)) (m ((c.tc : Thread Cert.KernelQkvIdeal.nD Cert.KernelQkvIdeal.τ).loc Cert.KernelQkvIdeal.main_arg5)) (m ((c.tc : Thread Cert.KernelQkvIdeal.nD Cert.KernelQkvIdeal.τ).loc Cert.KernelQkvIdeal.main_arg6))).2.2.2.1 = (fun _ => 1#1)
    ∧ (Cert.Pre_finite_qkv.fn (F := Ideal) (m ((c.tc : Thread Cert.KernelQkvIdeal.nD Cert.KernelQkvIdeal.τ).loc Cert.KernelQkvIdeal.main_arg0)) (m ((c.tc : Thread Cert.KernelQkvIdeal.nD Cert.KernelQkvIdeal.τ).loc Cert.KernelQkvIdeal.main_arg1)) (m ((c.tc : Thread Cert.KernelQkvIdeal.nD Cert.KernelQkvIdeal.τ).loc Cert.KernelQkvIdeal.main_arg2)) (m ((c.tc : Thread Cert.KernelQkvIdeal.nD Cert.KernelQkvIdeal.τ).loc Cert.KernelQkvIdeal.main_arg3)) (m ((c.tc : Thread Cert.KernelQkvIdeal.nD Cert.KernelQkvIdeal.τ).loc Cert.KernelQkvIdeal.main_arg4)) (m ((c.tc : Thread Cert.KernelQkvIdeal.nD Cert.KernelQkvIdeal.τ).loc Cert.KernelQkvIdeal.main_arg5)) (m ((c.tc : Thread Cert.KernelQkvIdeal.nD Cert.KernelQkvIdeal.τ).loc Cert.KernelQkvIdeal.main_arg6))).2.2.2.2 = (fun _ => 1#1)

def Pre_ReferenceQkvIdeal (m : (ℓ : Loc Cert.ReferenceQkvIdeal.nD Cert.ReferenceQkvIdeal.τ Cert.ReferenceQkvIdeal.sig) → Buf (Elt Ideal) ℓ) : Prop :=
  True

def Pre_ReferenceQkvIdeal_finite_qkv [hPre_finite_qkv : Cert.Pre_finite_qkv.Facts] (m : (ℓ : Loc Cert.ReferenceQkvIdeal.nD Cert.ReferenceQkvIdeal.τ Cert.ReferenceQkvIdeal.sig) → Buf (Elt Ideal) ℓ) : Prop :=
  ∀ c : Dev Cert.ReferenceQkvIdeal.nD,
    (Cert.Pre_finite_qkv.fn (F := Ideal) (m ((c.tc : Thread Cert.ReferenceQkvIdeal.nD Cert.ReferenceQkvIdeal.τ).loc Cert.ReferenceQkvIdeal.main_arg0)) (m ((c.tc : Thread Cert.ReferenceQkvIdeal.nD Cert.ReferenceQkvIdeal.τ).loc Cert.ReferenceQkvIdeal.main_arg1)) (m ((c.tc : Thread Cert.ReferenceQkvIdeal.nD Cert.ReferenceQkvIdeal.τ).loc Cert.ReferenceQkvIdeal.main_arg2)) (m ((c.tc : Thread Cert.ReferenceQkvIdeal.nD Cert.ReferenceQkvIdeal.τ).loc Cert.ReferenceQkvIdeal.main_arg3)) (m ((c.tc : Thread Cert.ReferenceQkvIdeal.nD Cert.ReferenceQkvIdeal.τ).loc Cert.ReferenceQkvIdeal.main_arg4)) (m ((c.tc : Thread Cert.ReferenceQkvIdeal.nD Cert.ReferenceQkvIdeal.τ).loc Cert.ReferenceQkvIdeal.main_arg5)) (m ((c.tc : Thread Cert.ReferenceQkvIdeal.nD Cert.ReferenceQkvIdeal.τ).loc Cert.ReferenceQkvIdeal.main_arg6))).1 = (fun _ => 1#1)
    ∧ (Cert.Pre_finite_qkv.fn (F := Ideal) (m ((c.tc : Thread Cert.ReferenceQkvIdeal.nD Cert.ReferenceQkvIdeal.τ).loc Cert.ReferenceQkvIdeal.main_arg0)) (m ((c.tc : Thread Cert.ReferenceQkvIdeal.nD Cert.ReferenceQkvIdeal.τ).loc Cert.ReferenceQkvIdeal.main_arg1)) (m ((c.tc : Thread Cert.ReferenceQkvIdeal.nD Cert.ReferenceQkvIdeal.τ).loc Cert.ReferenceQkvIdeal.main_arg2)) (m ((c.tc : Thread Cert.ReferenceQkvIdeal.nD Cert.ReferenceQkvIdeal.τ).loc Cert.ReferenceQkvIdeal.main_arg3)) (m ((c.tc : Thread Cert.ReferenceQkvIdeal.nD Cert.ReferenceQkvIdeal.τ).loc Cert.ReferenceQkvIdeal.main_arg4)) (m ((c.tc : Thread Cert.ReferenceQkvIdeal.nD Cert.ReferenceQkvIdeal.τ).loc Cert.ReferenceQkvIdeal.main_arg5)) (m ((c.tc : Thread Cert.ReferenceQkvIdeal.nD Cert.ReferenceQkvIdeal.τ).loc Cert.ReferenceQkvIdeal.main_arg6))).2.1 = (fun _ => 1#1)
    ∧ (Cert.Pre_finite_qkv.fn (F := Ideal) (m ((c.tc : Thread Cert.ReferenceQkvIdeal.nD Cert.ReferenceQkvIdeal.τ).loc Cert.ReferenceQkvIdeal.main_arg0)) (m ((c.tc : Thread Cert.ReferenceQkvIdeal.nD Cert.ReferenceQkvIdeal.τ).loc Cert.ReferenceQkvIdeal.main_arg1)) (m ((c.tc : Thread Cert.ReferenceQkvIdeal.nD Cert.ReferenceQkvIdeal.τ).loc Cert.ReferenceQkvIdeal.main_arg2)) (m ((c.tc : Thread Cert.ReferenceQkvIdeal.nD Cert.ReferenceQkvIdeal.τ).loc Cert.ReferenceQkvIdeal.main_arg3)) (m ((c.tc : Thread Cert.ReferenceQkvIdeal.nD Cert.ReferenceQkvIdeal.τ).loc Cert.ReferenceQkvIdeal.main_arg4)) (m ((c.tc : Thread Cert.ReferenceQkvIdeal.nD Cert.ReferenceQkvIdeal.τ).loc Cert.ReferenceQkvIdeal.main_arg5)) (m ((c.tc : Thread Cert.ReferenceQkvIdeal.nD Cert.ReferenceQkvIdeal.τ).loc Cert.ReferenceQkvIdeal.main_arg6))).2.2.1 = (fun _ => 1#1)
    ∧ (Cert.Pre_finite_qkv.fn (F := Ideal) (m ((c.tc : Thread Cert.ReferenceQkvIdeal.nD Cert.ReferenceQkvIdeal.τ).loc Cert.ReferenceQkvIdeal.main_arg0)) (m ((c.tc : Thread Cert.ReferenceQkvIdeal.nD Cert.ReferenceQkvIdeal.τ).loc Cert.ReferenceQkvIdeal.main_arg1)) (m ((c.tc : Thread Cert.ReferenceQkvIdeal.nD Cert.ReferenceQkvIdeal.τ).loc Cert.ReferenceQkvIdeal.main_arg2)) (m ((c.tc : Thread Cert.ReferenceQkvIdeal.nD Cert.ReferenceQkvIdeal.τ).loc Cert.ReferenceQkvIdeal.main_arg3)) (m ((c.tc : Thread Cert.ReferenceQkvIdeal.nD Cert.ReferenceQkvIdeal.τ).loc Cert.ReferenceQkvIdeal.main_arg4)) (m ((c.tc : Thread Cert.ReferenceQkvIdeal.nD Cert.ReferenceQkvIdeal.τ).loc Cert.ReferenceQkvIdeal.main_arg5)) (m ((c.tc : Thread Cert.ReferenceQkvIdeal.nD Cert.ReferenceQkvIdeal.τ).loc Cert.ReferenceQkvIdeal.main_arg6))).2.2.2.1 = (fun _ => 1#1)
    ∧ (Cert.Pre_finite_qkv.fn (F := Ideal) (m ((c.tc : Thread Cert.ReferenceQkvIdeal.nD Cert.ReferenceQkvIdeal.τ).loc Cert.ReferenceQkvIdeal.main_arg0)) (m ((c.tc : Thread Cert.ReferenceQkvIdeal.nD Cert.ReferenceQkvIdeal.τ).loc Cert.ReferenceQkvIdeal.main_arg1)) (m ((c.tc : Thread Cert.ReferenceQkvIdeal.nD Cert.ReferenceQkvIdeal.τ).loc Cert.ReferenceQkvIdeal.main_arg2)) (m ((c.tc : Thread Cert.ReferenceQkvIdeal.nD Cert.ReferenceQkvIdeal.τ).loc Cert.ReferenceQkvIdeal.main_arg3)) (m ((c.tc : Thread Cert.ReferenceQkvIdeal.nD Cert.ReferenceQkvIdeal.τ).loc Cert.ReferenceQkvIdeal.main_arg4)) (m ((c.tc : Thread Cert.ReferenceQkvIdeal.nD Cert.ReferenceQkvIdeal.τ).loc Cert.ReferenceQkvIdeal.main_arg5)) (m ((c.tc : Thread Cert.ReferenceQkvIdeal.nD Cert.ReferenceQkvIdeal.τ).loc Cert.ReferenceQkvIdeal.main_arg6))).2.2.2.2 = (fun _ => 1#1)

def Pre_KernelBrC2F (m : (ℓ : Loc Cert.KernelBrC2F.nD Cert.KernelBrC2F.τ Cert.KernelBrC2F.sig) → Buf (Elt Bits) ℓ) : Prop :=
  True

def Pre_KernelBrC2FIdeal (m : (ℓ : Loc Cert.KernelBrC2FIdeal.nD Cert.KernelBrC2FIdeal.τ Cert.KernelBrC2FIdeal.sig) → Buf (Elt Ideal) ℓ) : Prop :=
  True

def Pre_ReferenceBrC2FIdeal (m : (ℓ : Loc Cert.ReferenceBrC2FIdeal.nD Cert.ReferenceBrC2FIdeal.τ Cert.ReferenceBrC2FIdeal.sig) → Buf (Elt Ideal) ℓ) : Prop :=
  True

def Pre_KernelMergeF (m : (ℓ : Loc Cert.KernelMergeF.nD Cert.KernelMergeF.τ Cert.KernelMergeF.sig) → Buf (Elt Bits) ℓ) : Prop :=
  True

def Pre_KernelMergeFIdeal (m : (ℓ : Loc Cert.KernelMergeFIdeal.nD Cert.KernelMergeFIdeal.τ Cert.KernelMergeFIdeal.sig) → Buf (Elt Ideal) ℓ) : Prop :=
  True

def Pre_ReferenceMergeFIdeal (m : (ℓ : Loc Cert.ReferenceMergeFIdeal.nD Cert.ReferenceMergeFIdeal.τ Cert.ReferenceMergeFIdeal.sig) → Buf (Elt Ideal) ℓ) : Prop :=
  True

def Pre_KernelDw (m : (ℓ : Loc Cert.KernelDw.nD Cert.KernelDw.τ Cert.KernelDw.sig) → Buf (Elt Bits) ℓ) : Prop :=
  True

def Pre_KernelDwIdeal (m : (ℓ : Loc Cert.KernelDwIdeal.nD Cert.KernelDwIdeal.τ Cert.KernelDwIdeal.sig) → Buf (Elt Ideal) ℓ) : Prop :=
  True

def Pre_ReferenceDwIdeal (m : (ℓ : Loc Cert.ReferenceDwIdeal.nD Cert.ReferenceDwIdeal.τ Cert.ReferenceDwIdeal.sig) → Buf (Elt Ideal) ℓ) : Prop :=
  True

def Pre_KernelTn (m : (ℓ : Loc Cert.KernelTn.nD Cert.KernelTn.τ Cert.KernelTn.sig) → Buf (Elt Bits) ℓ) : Prop :=
  True

def Pre_KernelTnIdeal (m : (ℓ : Loc Cert.KernelTnIdeal.nD Cert.KernelTnIdeal.τ Cert.KernelTnIdeal.sig) → Buf (Elt Ideal) ℓ) : Prop :=
  True

def Pre_ReferenceTnIdeal (m : (ℓ : Loc Cert.ReferenceTnIdeal.nD Cert.ReferenceTnIdeal.τ Cert.ReferenceTnIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_KernelAttn [hKernelAttn : Cert.KernelAttn.Facts] : Prop :=
  ∀ (m : (ℓ : Loc Cert.KernelAttn.nD Cert.KernelAttn.τ Cert.KernelAttn.sig) → Buf (Elt Bits) ℓ) (g : Dev Cert.KernelAttn.nD → PrngReg), Pre_KernelAttn m →
    θ_run (Cert.KernelAttn.defs (F := Bits)) (onTc (τ := Cert.KernelAttn.τ) (Cert.KernelAttn.main (F := Bits))) ⟨m, fun _ => 0, g⟩ (fun r => (∀ c : Dev Cert.KernelAttn.nD,
      r.2.mem ((c.tc : Thread Cert.KernelAttn.nD Cert.KernelAttn.τ).loc Cert.KernelAttn.main_arg0) = m ((c.tc : Thread Cert.KernelAttn.nD Cert.KernelAttn.τ).loc Cert.KernelAttn.main_arg0)
      ∧ r.2.mem ((c.tc : Thread Cert.KernelAttn.nD Cert.KernelAttn.τ).loc Cert.KernelAttn.main_arg1) = m ((c.tc : Thread Cert.KernelAttn.nD Cert.KernelAttn.τ).loc Cert.KernelAttn.main_arg1)
      ∧ r.2.mem ((c.tc : Thread Cert.KernelAttn.nD Cert.KernelAttn.τ).loc Cert.KernelAttn.main_arg2) = m ((c.tc : Thread Cert.KernelAttn.nD Cert.KernelAttn.τ).loc Cert.KernelAttn.main_arg2)
      ∧ r.2.mem ((c.tc : Thread Cert.KernelAttn.nD Cert.KernelAttn.τ).loc Cert.KernelAttn.main_arg3) = m ((c.tc : Thread Cert.KernelAttn.nD Cert.KernelAttn.τ).loc Cert.KernelAttn.main_arg3)
      ∧ r.2.mem ((c.tc : Thread Cert.KernelAttn.nD Cert.KernelAttn.τ).loc Cert.KernelAttn.main_arg4) = m ((c.tc : Thread Cert.KernelAttn.nD Cert.KernelAttn.τ).loc Cert.KernelAttn.main_arg4)
      ∧ r.2.mem ((c.tc : Thread Cert.KernelAttn.nD Cert.KernelAttn.τ).loc Cert.KernelAttn.main_arg5) = m ((c.tc : Thread Cert.KernelAttn.nD Cert.KernelAttn.τ).loc Cert.KernelAttn.main_arg5))
      ∧ r.2.sem = fun _ => 0)

def quiescent_KernelAttnIdeal [hKernelAttnIdeal : Cert.KernelAttnIdeal.Facts] : Prop :=
  ∀ (m : (ℓ : Loc Cert.KernelAttnIdeal.nD Cert.KernelAttnIdeal.τ Cert.KernelAttnIdeal.sig) → Buf (Elt Ideal) ℓ) (g : Dev Cert.KernelAttnIdeal.nD → PrngReg), Pre_KernelAttnIdeal m →
    θ_run (Cert.KernelAttnIdeal.defs (F := Ideal)) (onTc (τ := Cert.KernelAttnIdeal.τ) (Cert.KernelAttnIdeal.main (F := Ideal))) ⟨m, fun _ => 0, g⟩ (fun r => (∀ c : Dev Cert.KernelAttnIdeal.nD,
      r.2.mem ((c.tc : Thread Cert.KernelAttnIdeal.nD Cert.KernelAttnIdeal.τ).loc Cert.KernelAttnIdeal.main_arg0) = m ((c.tc : Thread Cert.KernelAttnIdeal.nD Cert.KernelAttnIdeal.τ).loc Cert.KernelAttnIdeal.main_arg0)
      ∧ r.2.mem ((c.tc : Thread Cert.KernelAttnIdeal.nD Cert.KernelAttnIdeal.τ).loc Cert.KernelAttnIdeal.main_arg1) = m ((c.tc : Thread Cert.KernelAttnIdeal.nD Cert.KernelAttnIdeal.τ).loc Cert.KernelAttnIdeal.main_arg1)
      ∧ r.2.mem ((c.tc : Thread Cert.KernelAttnIdeal.nD Cert.KernelAttnIdeal.τ).loc Cert.KernelAttnIdeal.main_arg2) = m ((c.tc : Thread Cert.KernelAttnIdeal.nD Cert.KernelAttnIdeal.τ).loc Cert.KernelAttnIdeal.main_arg2)
      ∧ r.2.mem ((c.tc : Thread Cert.KernelAttnIdeal.nD Cert.KernelAttnIdeal.τ).loc Cert.KernelAttnIdeal.main_arg3) = m ((c.tc : Thread Cert.KernelAttnIdeal.nD Cert.KernelAttnIdeal.τ).loc Cert.KernelAttnIdeal.main_arg3)
      ∧ r.2.mem ((c.tc : Thread Cert.KernelAttnIdeal.nD Cert.KernelAttnIdeal.τ).loc Cert.KernelAttnIdeal.main_arg4) = m ((c.tc : Thread Cert.KernelAttnIdeal.nD Cert.KernelAttnIdeal.τ).loc Cert.KernelAttnIdeal.main_arg4)
      ∧ r.2.mem ((c.tc : Thread Cert.KernelAttnIdeal.nD Cert.KernelAttnIdeal.τ).loc Cert.KernelAttnIdeal.main_arg5) = m ((c.tc : Thread Cert.KernelAttnIdeal.nD Cert.KernelAttnIdeal.τ).loc Cert.KernelAttnIdeal.main_arg5))
      ∧ r.2.sem = fun _ => 0)

def quiescent_KernelAttnIdeal_pre_finite_attn [hKernelAttnIdeal : Cert.KernelAttnIdeal.Facts] [hPre_finite_attn : Cert.Pre_finite_attn.Facts] : Prop :=
  ∀ (m : (ℓ : Loc Cert.KernelAttnIdeal.nD Cert.KernelAttnIdeal.τ Cert.KernelAttnIdeal.sig) → Buf (Elt Ideal) ℓ) (g : Dev Cert.KernelAttnIdeal.nD → PrngReg), Pre_KernelAttnIdeal_finite_attn m →
    θ_run (Cert.KernelAttnIdeal.defs (F := Ideal)) (onTc (τ := Cert.KernelAttnIdeal.τ) (Cert.KernelAttnIdeal.main (F := Ideal))) ⟨m, fun _ => 0, g⟩ (fun r => (∀ c : Dev Cert.KernelAttnIdeal.nD,
      r.2.mem ((c.tc : Thread Cert.KernelAttnIdeal.nD Cert.KernelAttnIdeal.τ).loc Cert.KernelAttnIdeal.main_arg0) = m ((c.tc : Thread Cert.KernelAttnIdeal.nD Cert.KernelAttnIdeal.τ).loc Cert.KernelAttnIdeal.main_arg0)
      ∧ r.2.mem ((c.tc : Thread Cert.KernelAttnIdeal.nD Cert.KernelAttnIdeal.τ).loc Cert.KernelAttnIdeal.main_arg1) = m ((c.tc : Thread Cert.KernelAttnIdeal.nD Cert.KernelAttnIdeal.τ).loc Cert.KernelAttnIdeal.main_arg1)
      ∧ r.2.mem ((c.tc : Thread Cert.KernelAttnIdeal.nD Cert.KernelAttnIdeal.τ).loc Cert.KernelAttnIdeal.main_arg2) = m ((c.tc : Thread Cert.KernelAttnIdeal.nD Cert.KernelAttnIdeal.τ).loc Cert.KernelAttnIdeal.main_arg2)
      ∧ r.2.mem ((c.tc : Thread Cert.KernelAttnIdeal.nD Cert.KernelAttnIdeal.τ).loc Cert.KernelAttnIdeal.main_arg3) = m ((c.tc : Thread Cert.KernelAttnIdeal.nD Cert.KernelAttnIdeal.τ).loc Cert.KernelAttnIdeal.main_arg3)
      ∧ r.2.mem ((c.tc : Thread Cert.KernelAttnIdeal.nD Cert.KernelAttnIdeal.τ).loc Cert.KernelAttnIdeal.main_arg4) = m ((c.tc : Thread Cert.KernelAttnIdeal.nD Cert.KernelAttnIdeal.τ).loc Cert.KernelAttnIdeal.main_arg4)
      ∧ r.2.mem ((c.tc : Thread Cert.KernelAttnIdeal.nD Cert.KernelAttnIdeal.τ).loc Cert.KernelAttnIdeal.main_arg5) = m ((c.tc : Thread Cert.KernelAttnIdeal.nD Cert.KernelAttnIdeal.τ).loc Cert.KernelAttnIdeal.main_arg5))
      ∧ r.2.sem = fun _ => 0)

def quiescent_ReferenceAttnIdeal [hReferenceAttnIdeal : Cert.ReferenceAttnIdeal.Facts] : Prop :=
  ∀ (m : (ℓ : Loc Cert.ReferenceAttnIdeal.nD Cert.ReferenceAttnIdeal.τ Cert.ReferenceAttnIdeal.sig) → Buf (Elt Ideal) ℓ) (g : Dev Cert.ReferenceAttnIdeal.nD → PrngReg), Pre_ReferenceAttnIdeal m →
    θ_run (Cert.ReferenceAttnIdeal.defs (F := Ideal)) (onTc (τ := Cert.ReferenceAttnIdeal.τ) (Cert.ReferenceAttnIdeal.main (F := Ideal))) ⟨m, fun _ => 0, g⟩ (fun r => (∀ c : Dev Cert.ReferenceAttnIdeal.nD,
      r.2.mem ((c.tc : Thread Cert.ReferenceAttnIdeal.nD Cert.ReferenceAttnIdeal.τ).loc Cert.ReferenceAttnIdeal.main_arg0) = m ((c.tc : Thread Cert.ReferenceAttnIdeal.nD Cert.ReferenceAttnIdeal.τ).loc Cert.ReferenceAttnIdeal.main_arg0)
      ∧ r.2.mem ((c.tc : Thread Cert.ReferenceAttnIdeal.nD Cert.ReferenceAttnIdeal.τ).loc Cert.ReferenceAttnIdeal.main_arg1) = m ((c.tc : Thread Cert.ReferenceAttnIdeal.nD Cert.ReferenceAttnIdeal.τ).loc Cert.ReferenceAttnIdeal.main_arg1)
      ∧ r.2.mem ((c.tc : Thread Cert.ReferenceAttnIdeal.nD Cert.ReferenceAttnIdeal.τ).loc Cert.ReferenceAttnIdeal.main_arg2) = m ((c.tc : Thread Cert.ReferenceAttnIdeal.nD Cert.ReferenceAttnIdeal.τ).loc Cert.ReferenceAttnIdeal.main_arg2)
      ∧ r.2.mem ((c.tc : Thread Cert.ReferenceAttnIdeal.nD Cert.ReferenceAttnIdeal.τ).loc Cert.ReferenceAttnIdeal.main_arg3) = m ((c.tc : Thread Cert.ReferenceAttnIdeal.nD Cert.ReferenceAttnIdeal.τ).loc Cert.ReferenceAttnIdeal.main_arg3)
      ∧ r.2.mem ((c.tc : Thread Cert.ReferenceAttnIdeal.nD Cert.ReferenceAttnIdeal.τ).loc Cert.ReferenceAttnIdeal.main_arg4) = m ((c.tc : Thread Cert.ReferenceAttnIdeal.nD Cert.ReferenceAttnIdeal.τ).loc Cert.ReferenceAttnIdeal.main_arg4)
      ∧ r.2.mem ((c.tc : Thread Cert.ReferenceAttnIdeal.nD Cert.ReferenceAttnIdeal.τ).loc Cert.ReferenceAttnIdeal.main_arg5) = m ((c.tc : Thread Cert.ReferenceAttnIdeal.nD Cert.ReferenceAttnIdeal.τ).loc Cert.ReferenceAttnIdeal.main_arg5))
      ∧ r.2.sem = fun _ => 0)

def quiescent_ReferenceAttnIdeal_pre_finite_attn [hReferenceAttnIdeal : Cert.ReferenceAttnIdeal.Facts] [hPre_finite_attn : Cert.Pre_finite_attn.Facts] : Prop :=
  ∀ (m : (ℓ : Loc Cert.ReferenceAttnIdeal.nD Cert.ReferenceAttnIdeal.τ Cert.ReferenceAttnIdeal.sig) → Buf (Elt Ideal) ℓ) (g : Dev Cert.ReferenceAttnIdeal.nD → PrngReg), Pre_ReferenceAttnIdeal_finite_attn m →
    θ_run (Cert.ReferenceAttnIdeal.defs (F := Ideal)) (onTc (τ := Cert.ReferenceAttnIdeal.τ) (Cert.ReferenceAttnIdeal.main (F := Ideal))) ⟨m, fun _ => 0, g⟩ (fun r => (∀ c : Dev Cert.ReferenceAttnIdeal.nD,
      r.2.mem ((c.tc : Thread Cert.ReferenceAttnIdeal.nD Cert.ReferenceAttnIdeal.τ).loc Cert.ReferenceAttnIdeal.main_arg0) = m ((c.tc : Thread Cert.ReferenceAttnIdeal.nD Cert.ReferenceAttnIdeal.τ).loc Cert.ReferenceAttnIdeal.main_arg0)
      ∧ r.2.mem ((c.tc : Thread Cert.ReferenceAttnIdeal.nD Cert.ReferenceAttnIdeal.τ).loc Cert.ReferenceAttnIdeal.main_arg1) = m ((c.tc : Thread Cert.ReferenceAttnIdeal.nD Cert.ReferenceAttnIdeal.τ).loc Cert.ReferenceAttnIdeal.main_arg1)
      ∧ r.2.mem ((c.tc : Thread Cert.ReferenceAttnIdeal.nD Cert.ReferenceAttnIdeal.τ).loc Cert.ReferenceAttnIdeal.main_arg2) = m ((c.tc : Thread Cert.ReferenceAttnIdeal.nD Cert.ReferenceAttnIdeal.τ).loc Cert.ReferenceAttnIdeal.main_arg2)
      ∧ r.2.mem ((c.tc : Thread Cert.ReferenceAttnIdeal.nD Cert.ReferenceAttnIdeal.τ).loc Cert.ReferenceAttnIdeal.main_arg3) = m ((c.tc : Thread Cert.ReferenceAttnIdeal.nD Cert.ReferenceAttnIdeal.τ).loc Cert.ReferenceAttnIdeal.main_arg3)
      ∧ r.2.mem ((c.tc : Thread Cert.ReferenceAttnIdeal.nD Cert.ReferenceAttnIdeal.τ).loc Cert.ReferenceAttnIdeal.main_arg4) = m ((c.tc : Thread Cert.ReferenceAttnIdeal.nD Cert.ReferenceAttnIdeal.τ).loc Cert.ReferenceAttnIdeal.main_arg4)
      ∧ r.2.mem ((c.tc : Thread Cert.ReferenceAttnIdeal.nD Cert.ReferenceAttnIdeal.τ).loc Cert.ReferenceAttnIdeal.main_arg5) = m ((c.tc : Thread Cert.ReferenceAttnIdeal.nD Cert.ReferenceAttnIdeal.τ).loc Cert.ReferenceAttnIdeal.main_arg5))
      ∧ r.2.sem = fun _ => 0)

def quiescent_KernelDh [hKernelDh : Cert.KernelDh.Facts] : Prop :=
  ∀ (m : (ℓ : Loc Cert.KernelDh.nD Cert.KernelDh.τ Cert.KernelDh.sig) → Buf (Elt Bits) ℓ) (g : Dev Cert.KernelDh.nD → PrngReg), Pre_KernelDh m →
    θ_run (Cert.KernelDh.defs (F := Bits)) (onTc (τ := Cert.KernelDh.τ) (Cert.KernelDh.main (F := Bits))) ⟨m, fun _ => 0, g⟩ (fun r => (∀ c : Dev Cert.KernelDh.nD,
      r.2.mem ((c.tc : Thread Cert.KernelDh.nD Cert.KernelDh.τ).loc Cert.KernelDh.main_arg0) = m ((c.tc : Thread Cert.KernelDh.nD Cert.KernelDh.τ).loc Cert.KernelDh.main_arg0)
      ∧ r.2.mem ((c.tc : Thread Cert.KernelDh.nD Cert.KernelDh.τ).loc Cert.KernelDh.main_arg1) = m ((c.tc : Thread Cert.KernelDh.nD Cert.KernelDh.τ).loc Cert.KernelDh.main_arg1)
      ∧ r.2.mem ((c.tc : Thread Cert.KernelDh.nD Cert.KernelDh.τ).loc Cert.KernelDh.main_arg2) = m ((c.tc : Thread Cert.KernelDh.nD Cert.KernelDh.τ).loc Cert.KernelDh.main_arg2)
      ∧ r.2.mem ((c.tc : Thread Cert.KernelDh.nD Cert.KernelDh.τ).loc Cert.KernelDh.main_arg3) = m ((c.tc : Thread Cert.KernelDh.nD Cert.KernelDh.τ).loc Cert.KernelDh.main_arg3)
      ∧ r.2.mem ((c.tc : Thread Cert.KernelDh.nD Cert.KernelDh.τ).loc Cert.KernelDh.main_arg4) = m ((c.tc : Thread Cert.KernelDh.nD Cert.KernelDh.τ).loc Cert.KernelDh.main_arg4))
      ∧ r.2.sem = fun _ => 0)

def quiescent_KernelDhIdeal [hKernelDhIdeal : Cert.KernelDhIdeal.Facts] : Prop :=
  ∀ (m : (ℓ : Loc Cert.KernelDhIdeal.nD Cert.KernelDhIdeal.τ Cert.KernelDhIdeal.sig) → Buf (Elt Ideal) ℓ) (g : Dev Cert.KernelDhIdeal.nD → PrngReg), Pre_KernelDhIdeal m →
    θ_run (Cert.KernelDhIdeal.defs (F := Ideal)) (onTc (τ := Cert.KernelDhIdeal.τ) (Cert.KernelDhIdeal.main (F := Ideal))) ⟨m, fun _ => 0, g⟩ (fun r => (∀ c : Dev Cert.KernelDhIdeal.nD,
      r.2.mem ((c.tc : Thread Cert.KernelDhIdeal.nD Cert.KernelDhIdeal.τ).loc Cert.KernelDhIdeal.main_arg0) = m ((c.tc : Thread Cert.KernelDhIdeal.nD Cert.KernelDhIdeal.τ).loc Cert.KernelDhIdeal.main_arg0)
      ∧ r.2.mem ((c.tc : Thread Cert.KernelDhIdeal.nD Cert.KernelDhIdeal.τ).loc Cert.KernelDhIdeal.main_arg1) = m ((c.tc : Thread Cert.KernelDhIdeal.nD Cert.KernelDhIdeal.τ).loc Cert.KernelDhIdeal.main_arg1)
      ∧ r.2.mem ((c.tc : Thread Cert.KernelDhIdeal.nD Cert.KernelDhIdeal.τ).loc Cert.KernelDhIdeal.main_arg2) = m ((c.tc : Thread Cert.KernelDhIdeal.nD Cert.KernelDhIdeal.τ).loc Cert.KernelDhIdeal.main_arg2)
      ∧ r.2.mem ((c.tc : Thread Cert.KernelDhIdeal.nD Cert.KernelDhIdeal.τ).loc Cert.KernelDhIdeal.main_arg3) = m ((c.tc : Thread Cert.KernelDhIdeal.nD Cert.KernelDhIdeal.τ).loc Cert.KernelDhIdeal.main_arg3)
      ∧ r.2.mem ((c.tc : Thread Cert.KernelDhIdeal.nD Cert.KernelDhIdeal.τ).loc Cert.KernelDhIdeal.main_arg4) = m ((c.tc : Thread Cert.KernelDhIdeal.nD Cert.KernelDhIdeal.τ).loc Cert.KernelDhIdeal.main_arg4))
      ∧ r.2.sem = fun _ => 0)

def quiescent_KernelDhIdeal_pre_finite_dh [hKernelDhIdeal : Cert.KernelDhIdeal.Facts] [hPre_finite_dh : Cert.Pre_finite_dh.Facts] : Prop :=
  ∀ (m : (ℓ : Loc Cert.KernelDhIdeal.nD Cert.KernelDhIdeal.τ Cert.KernelDhIdeal.sig) → Buf (Elt Ideal) ℓ) (g : Dev Cert.KernelDhIdeal.nD → PrngReg), Pre_KernelDhIdeal_finite_dh m →
    θ_run (Cert.KernelDhIdeal.defs (F := Ideal)) (onTc (τ := Cert.KernelDhIdeal.τ) (Cert.KernelDhIdeal.main (F := Ideal))) ⟨m, fun _ => 0, g⟩ (fun r => (∀ c : Dev Cert.KernelDhIdeal.nD,
      r.2.mem ((c.tc : Thread Cert.KernelDhIdeal.nD Cert.KernelDhIdeal.τ).loc Cert.KernelDhIdeal.main_arg0) = m ((c.tc : Thread Cert.KernelDhIdeal.nD Cert.KernelDhIdeal.τ).loc Cert.KernelDhIdeal.main_arg0)
      ∧ r.2.mem ((c.tc : Thread Cert.KernelDhIdeal.nD Cert.KernelDhIdeal.τ).loc Cert.KernelDhIdeal.main_arg1) = m ((c.tc : Thread Cert.KernelDhIdeal.nD Cert.KernelDhIdeal.τ).loc Cert.KernelDhIdeal.main_arg1)
      ∧ r.2.mem ((c.tc : Thread Cert.KernelDhIdeal.nD Cert.KernelDhIdeal.τ).loc Cert.KernelDhIdeal.main_arg2) = m ((c.tc : Thread Cert.KernelDhIdeal.nD Cert.KernelDhIdeal.τ).loc Cert.KernelDhIdeal.main_arg2)
      ∧ r.2.mem ((c.tc : Thread Cert.KernelDhIdeal.nD Cert.KernelDhIdeal.τ).loc Cert.KernelDhIdeal.main_arg3) = m ((c.tc : Thread Cert.KernelDhIdeal.nD Cert.KernelDhIdeal.τ).loc Cert.KernelDhIdeal.main_arg3)
      ∧ r.2.mem ((c.tc : Thread Cert.KernelDhIdeal.nD Cert.KernelDhIdeal.τ).loc Cert.KernelDhIdeal.main_arg4) = m ((c.tc : Thread Cert.KernelDhIdeal.nD Cert.KernelDhIdeal.τ).loc Cert.KernelDhIdeal.main_arg4))
      ∧ r.2.sem = fun _ => 0)

def quiescent_ReferenceDhIdeal [hReferenceDhIdeal : Cert.ReferenceDhIdeal.Facts] : Prop :=
  ∀ (m : (ℓ : Loc Cert.ReferenceDhIdeal.nD Cert.ReferenceDhIdeal.τ Cert.ReferenceDhIdeal.sig) → Buf (Elt Ideal) ℓ) (g : Dev Cert.ReferenceDhIdeal.nD → PrngReg), Pre_ReferenceDhIdeal m →
    θ_run (Cert.ReferenceDhIdeal.defs (F := Ideal)) (onTc (τ := Cert.ReferenceDhIdeal.τ) (Cert.ReferenceDhIdeal.main (F := Ideal))) ⟨m, fun _ => 0, g⟩ (fun r => (∀ c : Dev Cert.ReferenceDhIdeal.nD,
      r.2.mem ((c.tc : Thread Cert.ReferenceDhIdeal.nD Cert.ReferenceDhIdeal.τ).loc Cert.ReferenceDhIdeal.main_arg0) = m ((c.tc : Thread Cert.ReferenceDhIdeal.nD Cert.ReferenceDhIdeal.τ).loc Cert.ReferenceDhIdeal.main_arg0)
      ∧ r.2.mem ((c.tc : Thread Cert.ReferenceDhIdeal.nD Cert.ReferenceDhIdeal.τ).loc Cert.ReferenceDhIdeal.main_arg1) = m ((c.tc : Thread Cert.ReferenceDhIdeal.nD Cert.ReferenceDhIdeal.τ).loc Cert.ReferenceDhIdeal.main_arg1)
      ∧ r.2.mem ((c.tc : Thread Cert.ReferenceDhIdeal.nD Cert.ReferenceDhIdeal.τ).loc Cert.ReferenceDhIdeal.main_arg2) = m ((c.tc : Thread Cert.ReferenceDhIdeal.nD Cert.ReferenceDhIdeal.τ).loc Cert.ReferenceDhIdeal.main_arg2)
      ∧ r.2.mem ((c.tc : Thread Cert.ReferenceDhIdeal.nD Cert.ReferenceDhIdeal.τ).loc Cert.ReferenceDhIdeal.main_arg3) = m ((c.tc : Thread Cert.ReferenceDhIdeal.nD Cert.ReferenceDhIdeal.τ).loc Cert.ReferenceDhIdeal.main_arg3)
      ∧ r.2.mem ((c.tc : Thread Cert.ReferenceDhIdeal.nD Cert.ReferenceDhIdeal.τ).loc Cert.ReferenceDhIdeal.main_arg4) = m ((c.tc : Thread Cert.ReferenceDhIdeal.nD Cert.ReferenceDhIdeal.τ).loc Cert.ReferenceDhIdeal.main_arg4))
      ∧ r.2.sem = fun _ => 0)

def quiescent_ReferenceDhIdeal_pre_finite_dh [hReferenceDhIdeal : Cert.ReferenceDhIdeal.Facts] [hPre_finite_dh : Cert.Pre_finite_dh.Facts] : Prop :=
  ∀ (m : (ℓ : Loc Cert.ReferenceDhIdeal.nD Cert.ReferenceDhIdeal.τ Cert.ReferenceDhIdeal.sig) → Buf (Elt Ideal) ℓ) (g : Dev Cert.ReferenceDhIdeal.nD → PrngReg), Pre_ReferenceDhIdeal_finite_dh m →
    θ_run (Cert.ReferenceDhIdeal.defs (F := Ideal)) (onTc (τ := Cert.ReferenceDhIdeal.τ) (Cert.ReferenceDhIdeal.main (F := Ideal))) ⟨m, fun _ => 0, g⟩ (fun r => (∀ c : Dev Cert.ReferenceDhIdeal.nD,
      r.2.mem ((c.tc : Thread Cert.ReferenceDhIdeal.nD Cert.ReferenceDhIdeal.τ).loc Cert.ReferenceDhIdeal.main_arg0) = m ((c.tc : Thread Cert.ReferenceDhIdeal.nD Cert.ReferenceDhIdeal.τ).loc Cert.ReferenceDhIdeal.main_arg0)
      ∧ r.2.mem ((c.tc : Thread Cert.ReferenceDhIdeal.nD Cert.ReferenceDhIdeal.τ).loc Cert.ReferenceDhIdeal.main_arg1) = m ((c.tc : Thread Cert.ReferenceDhIdeal.nD Cert.ReferenceDhIdeal.τ).loc Cert.ReferenceDhIdeal.main_arg1)
      ∧ r.2.mem ((c.tc : Thread Cert.ReferenceDhIdeal.nD Cert.ReferenceDhIdeal.τ).loc Cert.ReferenceDhIdeal.main_arg2) = m ((c.tc : Thread Cert.ReferenceDhIdeal.nD Cert.ReferenceDhIdeal.τ).loc Cert.ReferenceDhIdeal.main_arg2)
      ∧ r.2.mem ((c.tc : Thread Cert.ReferenceDhIdeal.nD Cert.ReferenceDhIdeal.τ).loc Cert.ReferenceDhIdeal.main_arg3) = m ((c.tc : Thread Cert.ReferenceDhIdeal.nD Cert.ReferenceDhIdeal.τ).loc Cert.ReferenceDhIdeal.main_arg3)
      ∧ r.2.mem ((c.tc : Thread Cert.ReferenceDhIdeal.nD Cert.ReferenceDhIdeal.τ).loc Cert.ReferenceDhIdeal.main_arg4) = m ((c.tc : Thread Cert.ReferenceDhIdeal.nD Cert.ReferenceDhIdeal.τ).loc Cert.ReferenceDhIdeal.main_arg4))
      ∧ r.2.sem = fun _ => 0)

def quiescent_KernelBrC2 [hKernelBrC2 : Cert.KernelBrC2.Facts] : Prop :=
  ∀ (m : (ℓ : Loc Cert.KernelBrC2.nD Cert.KernelBrC2.τ Cert.KernelBrC2.sig) → Buf (Elt Bits) ℓ) (g : Dev Cert.KernelBrC2.nD → PrngReg), Pre_KernelBrC2 m →
    θ_run (Cert.KernelBrC2.defs (F := Bits)) (onTc (τ := Cert.KernelBrC2.τ) (Cert.KernelBrC2.main (F := Bits))) ⟨m, fun _ => 0, g⟩ (fun r => (∀ c : Dev Cert.KernelBrC2.nD,
      r.2.mem ((c.tc : Thread Cert.KernelBrC2.nD Cert.KernelBrC2.τ).loc Cert.KernelBrC2.main_arg0) = m ((c.tc : Thread Cert.KernelBrC2.nD Cert.KernelBrC2.τ).loc Cert.KernelBrC2.main_arg0)
      ∧ r.2.mem ((c.tc : Thread Cert.KernelBrC2.nD Cert.KernelBrC2.τ).loc Cert.KernelBrC2.main_arg1) = m ((c.tc : Thread Cert.KernelBrC2.nD Cert.KernelBrC2.τ).loc Cert.KernelBrC2.main_arg1)
      ∧ r.2.mem ((c.tc : Thread Cert.KernelBrC2.nD Cert.KernelBrC2.τ).loc Cert.KernelBrC2.main_arg2) = m ((c.tc : Thread Cert.KernelBrC2.nD Cert.KernelBrC2.τ).loc Cert.KernelBrC2.main_arg2)
      ∧ r.2.mem ((c.tc : Thread Cert.KernelBrC2.nD Cert.KernelBrC2.τ).loc Cert.KernelBrC2.main_arg3) = m ((c.tc : Thread Cert.KernelBrC2.nD Cert.KernelBrC2.τ).loc Cert.KernelBrC2.main_arg3)
      ∧ r.2.mem ((c.tc : Thread Cert.KernelBrC2.nD Cert.KernelBrC2.τ).loc Cert.KernelBrC2.main_arg4) = m ((c.tc : Thread Cert.KernelBrC2.nD Cert.KernelBrC2.τ).loc Cert.KernelBrC2.main_arg4)
      ∧ r.2.mem ((c.tc : Thread Cert.KernelBrC2.nD Cert.KernelBrC2.τ).loc Cert.KernelBrC2.main_arg5) = m ((c.tc : Thread Cert.KernelBrC2.nD Cert.KernelBrC2.τ).loc Cert.KernelBrC2.main_arg5)
      ∧ r.2.mem ((c.tc : Thread Cert.KernelBrC2.nD Cert.KernelBrC2.τ).loc Cert.KernelBrC2.main_arg6) = m ((c.tc : Thread Cert.KernelBrC2.nD Cert.KernelBrC2.τ).loc Cert.KernelBrC2.main_arg6))
      ∧ r.2.sem = fun _ => 0)

def quiescent_KernelBrC2Ideal [hKernelBrC2Ideal : Cert.KernelBrC2Ideal.Facts] : Prop :=
  ∀ (m : (ℓ : Loc Cert.KernelBrC2Ideal.nD Cert.KernelBrC2Ideal.τ Cert.KernelBrC2Ideal.sig) → Buf (Elt Ideal) ℓ) (g : Dev Cert.KernelBrC2Ideal.nD → PrngReg), Pre_KernelBrC2Ideal m →
    θ_run (Cert.KernelBrC2Ideal.defs (F := Ideal)) (onTc (τ := Cert.KernelBrC2Ideal.τ) (Cert.KernelBrC2Ideal.main (F := Ideal))) ⟨m, fun _ => 0, g⟩ (fun r => (∀ c : Dev Cert.KernelBrC2Ideal.nD,
      r.2.mem ((c.tc : Thread Cert.KernelBrC2Ideal.nD Cert.KernelBrC2Ideal.τ).loc Cert.KernelBrC2Ideal.main_arg0) = m ((c.tc : Thread Cert.KernelBrC2Ideal.nD Cert.KernelBrC2Ideal.τ).loc Cert.KernelBrC2Ideal.main_arg0)
      ∧ r.2.mem ((c.tc : Thread Cert.KernelBrC2Ideal.nD Cert.KernelBrC2Ideal.τ).loc Cert.KernelBrC2Ideal.main_arg1) = m ((c.tc : Thread Cert.KernelBrC2Ideal.nD Cert.KernelBrC2Ideal.τ).loc Cert.KernelBrC2Ideal.main_arg1)
      ∧ r.2.mem ((c.tc : Thread Cert.KernelBrC2Ideal.nD Cert.KernelBrC2Ideal.τ).loc Cert.KernelBrC2Ideal.main_arg2) = m ((c.tc : Thread Cert.KernelBrC2Ideal.nD Cert.KernelBrC2Ideal.τ).loc Cert.KernelBrC2Ideal.main_arg2)
      ∧ r.2.mem ((c.tc : Thread Cert.KernelBrC2Ideal.nD Cert.KernelBrC2Ideal.τ).loc Cert.KernelBrC2Ideal.main_arg3) = m ((c.tc : Thread Cert.KernelBrC2Ideal.nD Cert.KernelBrC2Ideal.τ).loc Cert.KernelBrC2Ideal.main_arg3)
      ∧ r.2.mem ((c.tc : Thread Cert.KernelBrC2Ideal.nD Cert.KernelBrC2Ideal.τ).loc Cert.KernelBrC2Ideal.main_arg4) = m ((c.tc : Thread Cert.KernelBrC2Ideal.nD Cert.KernelBrC2Ideal.τ).loc Cert.KernelBrC2Ideal.main_arg4)
      ∧ r.2.mem ((c.tc : Thread Cert.KernelBrC2Ideal.nD Cert.KernelBrC2Ideal.τ).loc Cert.KernelBrC2Ideal.main_arg5) = m ((c.tc : Thread Cert.KernelBrC2Ideal.nD Cert.KernelBrC2Ideal.τ).loc Cert.KernelBrC2Ideal.main_arg5)
      ∧ r.2.mem ((c.tc : Thread Cert.KernelBrC2Ideal.nD Cert.KernelBrC2Ideal.τ).loc Cert.KernelBrC2Ideal.main_arg6) = m ((c.tc : Thread Cert.KernelBrC2Ideal.nD Cert.KernelBrC2Ideal.τ).loc Cert.KernelBrC2Ideal.main_arg6))
      ∧ r.2.sem = fun _ => 0)

def quiescent_KernelBrC2Ideal_pre_finite_brc2 [hKernelBrC2Ideal : Cert.KernelBrC2Ideal.Facts] [hPre_finite_brc2 : Cert.Pre_finite_brc2.Facts] : Prop :=
  ∀ (m : (ℓ : Loc Cert.KernelBrC2Ideal.nD Cert.KernelBrC2Ideal.τ Cert.KernelBrC2Ideal.sig) → Buf (Elt Ideal) ℓ) (g : Dev Cert.KernelBrC2Ideal.nD → PrngReg), Pre_KernelBrC2Ideal_finite_brc2 m →
    θ_run (Cert.KernelBrC2Ideal.defs (F := Ideal)) (onTc (τ := Cert.KernelBrC2Ideal.τ) (Cert.KernelBrC2Ideal.main (F := Ideal))) ⟨m, fun _ => 0, g⟩ (fun r => (∀ c : Dev Cert.KernelBrC2Ideal.nD,
      r.2.mem ((c.tc : Thread Cert.KernelBrC2Ideal.nD Cert.KernelBrC2Ideal.τ).loc Cert.KernelBrC2Ideal.main_arg0) = m ((c.tc : Thread Cert.KernelBrC2Ideal.nD Cert.KernelBrC2Ideal.τ).loc Cert.KernelBrC2Ideal.main_arg0)
      ∧ r.2.mem ((c.tc : Thread Cert.KernelBrC2Ideal.nD Cert.KernelBrC2Ideal.τ).loc Cert.KernelBrC2Ideal.main_arg1) = m ((c.tc : Thread Cert.KernelBrC2Ideal.nD Cert.KernelBrC2Ideal.τ).loc Cert.KernelBrC2Ideal.main_arg1)
      ∧ r.2.mem ((c.tc : Thread Cert.KernelBrC2Ideal.nD Cert.KernelBrC2Ideal.τ).loc Cert.KernelBrC2Ideal.main_arg2) = m ((c.tc : Thread Cert.KernelBrC2Ideal.nD Cert.KernelBrC2Ideal.τ).loc Cert.KernelBrC2Ideal.main_arg2)
      ∧ r.2.mem ((c.tc : Thread Cert.KernelBrC2Ideal.nD Cert.KernelBrC2Ideal.τ).loc Cert.KernelBrC2Ideal.main_arg3) = m ((c.tc : Thread Cert.KernelBrC2Ideal.nD Cert.KernelBrC2Ideal.τ).loc Cert.KernelBrC2Ideal.main_arg3)
      ∧ r.2.mem ((c.tc : Thread Cert.KernelBrC2Ideal.nD Cert.KernelBrC2Ideal.τ).loc Cert.KernelBrC2Ideal.main_arg4) = m ((c.tc : Thread Cert.KernelBrC2Ideal.nD Cert.KernelBrC2Ideal.τ).loc Cert.KernelBrC2Ideal.main_arg4)
      ∧ r.2.mem ((c.tc : Thread Cert.KernelBrC2Ideal.nD Cert.KernelBrC2Ideal.τ).loc Cert.KernelBrC2Ideal.main_arg5) = m ((c.tc : Thread Cert.KernelBrC2Ideal.nD Cert.KernelBrC2Ideal.τ).loc Cert.KernelBrC2Ideal.main_arg5)
      ∧ r.2.mem ((c.tc : Thread Cert.KernelBrC2Ideal.nD Cert.KernelBrC2Ideal.τ).loc Cert.KernelBrC2Ideal.main_arg6) = m ((c.tc : Thread Cert.KernelBrC2Ideal.nD Cert.KernelBrC2Ideal.τ).loc Cert.KernelBrC2Ideal.main_arg6))
      ∧ r.2.sem = fun _ => 0)

def quiescent_ReferenceBrC2Ideal [hReferenceBrC2Ideal : Cert.ReferenceBrC2Ideal.Facts] : Prop :=
  ∀ (m : (ℓ : Loc Cert.ReferenceBrC2Ideal.nD Cert.ReferenceBrC2Ideal.τ Cert.ReferenceBrC2Ideal.sig) → Buf (Elt Ideal) ℓ) (g : Dev Cert.ReferenceBrC2Ideal.nD → PrngReg), Pre_ReferenceBrC2Ideal m →
    θ_run (Cert.ReferenceBrC2Ideal.defs (F := Ideal)) (onTc (τ := Cert.ReferenceBrC2Ideal.τ) (Cert.ReferenceBrC2Ideal.main (F := Ideal))) ⟨m, fun _ => 0, g⟩ (fun r => (∀ c : Dev Cert.ReferenceBrC2Ideal.nD,
      r.2.mem ((c.tc : Thread Cert.ReferenceBrC2Ideal.nD Cert.ReferenceBrC2Ideal.τ).loc Cert.ReferenceBrC2Ideal.main_arg0) = m ((c.tc : Thread Cert.ReferenceBrC2Ideal.nD Cert.ReferenceBrC2Ideal.τ).loc Cert.ReferenceBrC2Ideal.main_arg0)
      ∧ r.2.mem ((c.tc : Thread Cert.ReferenceBrC2Ideal.nD Cert.ReferenceBrC2Ideal.τ).loc Cert.ReferenceBrC2Ideal.main_arg1) = m ((c.tc : Thread Cert.ReferenceBrC2Ideal.nD Cert.ReferenceBrC2Ideal.τ).loc Cert.ReferenceBrC2Ideal.main_arg1)
      ∧ r.2.mem ((c.tc : Thread Cert.ReferenceBrC2Ideal.nD Cert.ReferenceBrC2Ideal.τ).loc Cert.ReferenceBrC2Ideal.main_arg2) = m ((c.tc : Thread Cert.ReferenceBrC2Ideal.nD Cert.ReferenceBrC2Ideal.τ).loc Cert.ReferenceBrC2Ideal.main_arg2)
      ∧ r.2.mem ((c.tc : Thread Cert.ReferenceBrC2Ideal.nD Cert.ReferenceBrC2Ideal.τ).loc Cert.ReferenceBrC2Ideal.main_arg3) = m ((c.tc : Thread Cert.ReferenceBrC2Ideal.nD Cert.ReferenceBrC2Ideal.τ).loc Cert.ReferenceBrC2Ideal.main_arg3)
      ∧ r.2.mem ((c.tc : Thread Cert.ReferenceBrC2Ideal.nD Cert.ReferenceBrC2Ideal.τ).loc Cert.ReferenceBrC2Ideal.main_arg4) = m ((c.tc : Thread Cert.ReferenceBrC2Ideal.nD Cert.ReferenceBrC2Ideal.τ).loc Cert.ReferenceBrC2Ideal.main_arg4)
      ∧ r.2.mem ((c.tc : Thread Cert.ReferenceBrC2Ideal.nD Cert.ReferenceBrC2Ideal.τ).loc Cert.ReferenceBrC2Ideal.main_arg5) = m ((c.tc : Thread Cert.ReferenceBrC2Ideal.nD Cert.ReferenceBrC2Ideal.τ).loc Cert.ReferenceBrC2Ideal.main_arg5)
      ∧ r.2.mem ((c.tc : Thread Cert.ReferenceBrC2Ideal.nD Cert.ReferenceBrC2Ideal.τ).loc Cert.ReferenceBrC2Ideal.main_arg6) = m ((c.tc : Thread Cert.ReferenceBrC2Ideal.nD Cert.ReferenceBrC2Ideal.τ).loc Cert.ReferenceBrC2Ideal.main_arg6))
      ∧ r.2.sem = fun _ => 0)

def quiescent_ReferenceBrC2Ideal_pre_finite_brc2 [hReferenceBrC2Ideal : Cert.ReferenceBrC2Ideal.Facts] [hPre_finite_brc2 : Cert.Pre_finite_brc2.Facts] : Prop :=
  ∀ (m : (ℓ : Loc Cert.ReferenceBrC2Ideal.nD Cert.ReferenceBrC2Ideal.τ Cert.ReferenceBrC2Ideal.sig) → Buf (Elt Ideal) ℓ) (g : Dev Cert.ReferenceBrC2Ideal.nD → PrngReg), Pre_ReferenceBrC2Ideal_finite_brc2 m →
    θ_run (Cert.ReferenceBrC2Ideal.defs (F := Ideal)) (onTc (τ := Cert.ReferenceBrC2Ideal.τ) (Cert.ReferenceBrC2Ideal.main (F := Ideal))) ⟨m, fun _ => 0, g⟩ (fun r => (∀ c : Dev Cert.ReferenceBrC2Ideal.nD,
      r.2.mem ((c.tc : Thread Cert.ReferenceBrC2Ideal.nD Cert.ReferenceBrC2Ideal.τ).loc Cert.ReferenceBrC2Ideal.main_arg0) = m ((c.tc : Thread Cert.ReferenceBrC2Ideal.nD Cert.ReferenceBrC2Ideal.τ).loc Cert.ReferenceBrC2Ideal.main_arg0)
      ∧ r.2.mem ((c.tc : Thread Cert.ReferenceBrC2Ideal.nD Cert.ReferenceBrC2Ideal.τ).loc Cert.ReferenceBrC2Ideal.main_arg1) = m ((c.tc : Thread Cert.ReferenceBrC2Ideal.nD Cert.ReferenceBrC2Ideal.τ).loc Cert.ReferenceBrC2Ideal.main_arg1)
      ∧ r.2.mem ((c.tc : Thread Cert.ReferenceBrC2Ideal.nD Cert.ReferenceBrC2Ideal.τ).loc Cert.ReferenceBrC2Ideal.main_arg2) = m ((c.tc : Thread Cert.ReferenceBrC2Ideal.nD Cert.ReferenceBrC2Ideal.τ).loc Cert.ReferenceBrC2Ideal.main_arg2)
      ∧ r.2.mem ((c.tc : Thread Cert.ReferenceBrC2Ideal.nD Cert.ReferenceBrC2Ideal.τ).loc Cert.ReferenceBrC2Ideal.main_arg3) = m ((c.tc : Thread Cert.ReferenceBrC2Ideal.nD Cert.ReferenceBrC2Ideal.τ).loc Cert.ReferenceBrC2Ideal.main_arg3)
      ∧ r.2.mem ((c.tc : Thread Cert.ReferenceBrC2Ideal.nD Cert.ReferenceBrC2Ideal.τ).loc Cert.ReferenceBrC2Ideal.main_arg4) = m ((c.tc : Thread Cert.ReferenceBrC2Ideal.nD Cert.ReferenceBrC2Ideal.τ).loc Cert.ReferenceBrC2Ideal.main_arg4)
      ∧ r.2.mem ((c.tc : Thread Cert.ReferenceBrC2Ideal.nD Cert.ReferenceBrC2Ideal.τ).loc Cert.ReferenceBrC2Ideal.main_arg5) = m ((c.tc : Thread Cert.ReferenceBrC2Ideal.nD Cert.ReferenceBrC2Ideal.τ).loc Cert.ReferenceBrC2Ideal.main_arg5)
      ∧ r.2.mem ((c.tc : Thread Cert.ReferenceBrC2Ideal.nD Cert.ReferenceBrC2Ideal.τ).loc Cert.ReferenceBrC2Ideal.main_arg6) = m ((c.tc : Thread Cert.ReferenceBrC2Ideal.nD Cert.ReferenceBrC2Ideal.τ).loc Cert.ReferenceBrC2Ideal.main_arg6))
      ∧ r.2.sem = fun _ => 0)

def quiescent_KernelQkv [hKernelQkv : Cert.KernelQkv.Facts] : Prop :=
  ∀ (m : (ℓ : Loc Cert.KernelQkv.nD Cert.KernelQkv.τ Cert.KernelQkv.sig) → Buf (Elt Bits) ℓ) (g : Dev Cert.KernelQkv.nD → PrngReg), Pre_KernelQkv m →
    θ_run (Cert.KernelQkv.defs (F := Bits)) (onTc (τ := Cert.KernelQkv.τ) (Cert.KernelQkv.main (F := Bits))) ⟨m, fun _ => 0, g⟩ (fun r => (∀ c : Dev Cert.KernelQkv.nD,
      r.2.mem ((c.tc : Thread Cert.KernelQkv.nD Cert.KernelQkv.τ).loc Cert.KernelQkv.main_arg0) = m ((c.tc : Thread Cert.KernelQkv.nD Cert.KernelQkv.τ).loc Cert.KernelQkv.main_arg0)
      ∧ r.2.mem ((c.tc : Thread Cert.KernelQkv.nD Cert.KernelQkv.τ).loc Cert.KernelQkv.main_arg1) = m ((c.tc : Thread Cert.KernelQkv.nD Cert.KernelQkv.τ).loc Cert.KernelQkv.main_arg1)
      ∧ r.2.mem ((c.tc : Thread Cert.KernelQkv.nD Cert.KernelQkv.τ).loc Cert.KernelQkv.main_arg2) = m ((c.tc : Thread Cert.KernelQkv.nD Cert.KernelQkv.τ).loc Cert.KernelQkv.main_arg2)
      ∧ r.2.mem ((c.tc : Thread Cert.KernelQkv.nD Cert.KernelQkv.τ).loc Cert.KernelQkv.main_arg3) = m ((c.tc : Thread Cert.KernelQkv.nD Cert.KernelQkv.τ).loc Cert.KernelQkv.main_arg3)
      ∧ r.2.mem ((c.tc : Thread Cert.KernelQkv.nD Cert.KernelQkv.τ).loc Cert.KernelQkv.main_arg4) = m ((c.tc : Thread Cert.KernelQkv.nD Cert.KernelQkv.τ).loc Cert.KernelQkv.main_arg4)
      ∧ r.2.mem ((c.tc : Thread Cert.KernelQkv.nD Cert.KernelQkv.τ).loc Cert.KernelQkv.main_arg5) = m ((c.tc : Thread Cert.KernelQkv.nD Cert.KernelQkv.τ).loc Cert.KernelQkv.main_arg5)
      ∧ r.2.mem ((c.tc : Thread Cert.KernelQkv.nD Cert.KernelQkv.τ).loc Cert.KernelQkv.main_arg6) = m ((c.tc : Thread Cert.KernelQkv.nD Cert.KernelQkv.τ).loc Cert.KernelQkv.main_arg6))
      ∧ r.2.sem = fun _ => 0)

def quiescent_KernelQkvIdeal [hKernelQkvIdeal : Cert.KernelQkvIdeal.Facts] : Prop :=
  ∀ (m : (ℓ : Loc Cert.KernelQkvIdeal.nD Cert.KernelQkvIdeal.τ Cert.KernelQkvIdeal.sig) → Buf (Elt Ideal) ℓ) (g : Dev Cert.KernelQkvIdeal.nD → PrngReg), Pre_KernelQkvIdeal m →
    θ_run (Cert.KernelQkvIdeal.defs (F := Ideal)) (onTc (τ := Cert.KernelQkvIdeal.τ) (Cert.KernelQkvIdeal.main (F := Ideal))) ⟨m, fun _ => 0, g⟩ (fun r => (∀ c : Dev Cert.KernelQkvIdeal.nD,
      r.2.mem ((c.tc : Thread Cert.KernelQkvIdeal.nD Cert.KernelQkvIdeal.τ).loc Cert.KernelQkvIdeal.main_arg0) = m ((c.tc : Thread Cert.KernelQkvIdeal.nD Cert.KernelQkvIdeal.τ).loc Cert.KernelQkvIdeal.main_arg0)
      ∧ r.2.mem ((c.tc : Thread Cert.KernelQkvIdeal.nD Cert.KernelQkvIdeal.τ).loc Cert.KernelQkvIdeal.main_arg1) = m ((c.tc : Thread Cert.KernelQkvIdeal.nD Cert.KernelQkvIdeal.τ).loc Cert.KernelQkvIdeal.main_arg1)
      ∧ r.2.mem ((c.tc : Thread Cert.KernelQkvIdeal.nD Cert.KernelQkvIdeal.τ).loc Cert.KernelQkvIdeal.main_arg2) = m ((c.tc : Thread Cert.KernelQkvIdeal.nD Cert.KernelQkvIdeal.τ).loc Cert.KernelQkvIdeal.main_arg2)
      ∧ r.2.mem ((c.tc : Thread Cert.KernelQkvIdeal.nD Cert.KernelQkvIdeal.τ).loc Cert.KernelQkvIdeal.main_arg3) = m ((c.tc : Thread Cert.KernelQkvIdeal.nD Cert.KernelQkvIdeal.τ).loc Cert.KernelQkvIdeal.main_arg3)
      ∧ r.2.mem ((c.tc : Thread Cert.KernelQkvIdeal.nD Cert.KernelQkvIdeal.τ).loc Cert.KernelQkvIdeal.main_arg4) = m ((c.tc : Thread Cert.KernelQkvIdeal.nD Cert.KernelQkvIdeal.τ).loc Cert.KernelQkvIdeal.main_arg4)
      ∧ r.2.mem ((c.tc : Thread Cert.KernelQkvIdeal.nD Cert.KernelQkvIdeal.τ).loc Cert.KernelQkvIdeal.main_arg5) = m ((c.tc : Thread Cert.KernelQkvIdeal.nD Cert.KernelQkvIdeal.τ).loc Cert.KernelQkvIdeal.main_arg5)
      ∧ r.2.mem ((c.tc : Thread Cert.KernelQkvIdeal.nD Cert.KernelQkvIdeal.τ).loc Cert.KernelQkvIdeal.main_arg6) = m ((c.tc : Thread Cert.KernelQkvIdeal.nD Cert.KernelQkvIdeal.τ).loc Cert.KernelQkvIdeal.main_arg6))
      ∧ r.2.sem = fun _ => 0)

def quiescent_KernelQkvIdeal_pre_finite_qkv [hKernelQkvIdeal : Cert.KernelQkvIdeal.Facts] [hPre_finite_qkv : Cert.Pre_finite_qkv.Facts] : Prop :=
  ∀ (m : (ℓ : Loc Cert.KernelQkvIdeal.nD Cert.KernelQkvIdeal.τ Cert.KernelQkvIdeal.sig) → Buf (Elt Ideal) ℓ) (g : Dev Cert.KernelQkvIdeal.nD → PrngReg), Pre_KernelQkvIdeal_finite_qkv m →
    θ_run (Cert.KernelQkvIdeal.defs (F := Ideal)) (onTc (τ := Cert.KernelQkvIdeal.τ) (Cert.KernelQkvIdeal.main (F := Ideal))) ⟨m, fun _ => 0, g⟩ (fun r => (∀ c : Dev Cert.KernelQkvIdeal.nD,
      r.2.mem ((c.tc : Thread Cert.KernelQkvIdeal.nD Cert.KernelQkvIdeal.τ).loc Cert.KernelQkvIdeal.main_arg0) = m ((c.tc : Thread Cert.KernelQkvIdeal.nD Cert.KernelQkvIdeal.τ).loc Cert.KernelQkvIdeal.main_arg0)
      ∧ r.2.mem ((c.tc : Thread Cert.KernelQkvIdeal.nD Cert.KernelQkvIdeal.τ).loc Cert.KernelQkvIdeal.main_arg1) = m ((c.tc : Thread Cert.KernelQkvIdeal.nD Cert.KernelQkvIdeal.τ).loc Cert.KernelQkvIdeal.main_arg1)
      ∧ r.2.mem ((c.tc : Thread Cert.KernelQkvIdeal.nD Cert.KernelQkvIdeal.τ).loc Cert.KernelQkvIdeal.main_arg2) = m ((c.tc : Thread Cert.KernelQkvIdeal.nD Cert.KernelQkvIdeal.τ).loc Cert.KernelQkvIdeal.main_arg2)
      ∧ r.2.mem ((c.tc : Thread Cert.KernelQkvIdeal.nD Cert.KernelQkvIdeal.τ).loc Cert.KernelQkvIdeal.main_arg3) = m ((c.tc : Thread Cert.KernelQkvIdeal.nD Cert.KernelQkvIdeal.τ).loc Cert.KernelQkvIdeal.main_arg3)
      ∧ r.2.mem ((c.tc : Thread Cert.KernelQkvIdeal.nD Cert.KernelQkvIdeal.τ).loc Cert.KernelQkvIdeal.main_arg4) = m ((c.tc : Thread Cert.KernelQkvIdeal.nD Cert.KernelQkvIdeal.τ).loc Cert.KernelQkvIdeal.main_arg4)
      ∧ r.2.mem ((c.tc : Thread Cert.KernelQkvIdeal.nD Cert.KernelQkvIdeal.τ).loc Cert.KernelQkvIdeal.main_arg5) = m ((c.tc : Thread Cert.KernelQkvIdeal.nD Cert.KernelQkvIdeal.τ).loc Cert.KernelQkvIdeal.main_arg5)
      ∧ r.2.mem ((c.tc : Thread Cert.KernelQkvIdeal.nD Cert.KernelQkvIdeal.τ).loc Cert.KernelQkvIdeal.main_arg6) = m ((c.tc : Thread Cert.KernelQkvIdeal.nD Cert.KernelQkvIdeal.τ).loc Cert.KernelQkvIdeal.main_arg6))
      ∧ r.2.sem = fun _ => 0)

def quiescent_ReferenceQkvIdeal [hReferenceQkvIdeal : Cert.ReferenceQkvIdeal.Facts] : Prop :=
  ∀ (m : (ℓ : Loc Cert.ReferenceQkvIdeal.nD Cert.ReferenceQkvIdeal.τ Cert.ReferenceQkvIdeal.sig) → Buf (Elt Ideal) ℓ) (g : Dev Cert.ReferenceQkvIdeal.nD → PrngReg), Pre_ReferenceQkvIdeal m →
    θ_run (Cert.ReferenceQkvIdeal.defs (F := Ideal)) (onTc (τ := Cert.ReferenceQkvIdeal.τ) (Cert.ReferenceQkvIdeal.main (F := Ideal))) ⟨m, fun _ => 0, g⟩ (fun r => (∀ c : Dev Cert.ReferenceQkvIdeal.nD,
      r.2.mem ((c.tc : Thread Cert.ReferenceQkvIdeal.nD Cert.ReferenceQkvIdeal.τ).loc Cert.ReferenceQkvIdeal.main_arg0) = m ((c.tc : Thread Cert.ReferenceQkvIdeal.nD Cert.ReferenceQkvIdeal.τ).loc Cert.ReferenceQkvIdeal.main_arg0)
      ∧ r.2.mem ((c.tc : Thread Cert.ReferenceQkvIdeal.nD Cert.ReferenceQkvIdeal.τ).loc Cert.ReferenceQkvIdeal.main_arg1) = m ((c.tc : Thread Cert.ReferenceQkvIdeal.nD Cert.ReferenceQkvIdeal.τ).loc Cert.ReferenceQkvIdeal.main_arg1)
      ∧ r.2.mem ((c.tc : Thread Cert.ReferenceQkvIdeal.nD Cert.ReferenceQkvIdeal.τ).loc Cert.ReferenceQkvIdeal.main_arg2) = m ((c.tc : Thread Cert.ReferenceQkvIdeal.nD Cert.ReferenceQkvIdeal.τ).loc Cert.ReferenceQkvIdeal.main_arg2)
      ∧ r.2.mem ((c.tc : Thread Cert.ReferenceQkvIdeal.nD Cert.ReferenceQkvIdeal.τ).loc Cert.ReferenceQkvIdeal.main_arg3) = m ((c.tc : Thread Cert.ReferenceQkvIdeal.nD Cert.ReferenceQkvIdeal.τ).loc Cert.ReferenceQkvIdeal.main_arg3)
      ∧ r.2.mem ((c.tc : Thread Cert.ReferenceQkvIdeal.nD Cert.ReferenceQkvIdeal.τ).loc Cert.ReferenceQkvIdeal.main_arg4) = m ((c.tc : Thread Cert.ReferenceQkvIdeal.nD Cert.ReferenceQkvIdeal.τ).loc Cert.ReferenceQkvIdeal.main_arg4)
      ∧ r.2.mem ((c.tc : Thread Cert.ReferenceQkvIdeal.nD Cert.ReferenceQkvIdeal.τ).loc Cert.ReferenceQkvIdeal.main_arg5) = m ((c.tc : Thread Cert.ReferenceQkvIdeal.nD Cert.ReferenceQkvIdeal.τ).loc Cert.ReferenceQkvIdeal.main_arg5)
      ∧ r.2.mem ((c.tc : Thread Cert.ReferenceQkvIdeal.nD Cert.ReferenceQkvIdeal.τ).loc Cert.ReferenceQkvIdeal.main_arg6) = m ((c.tc : Thread Cert.ReferenceQkvIdeal.nD Cert.ReferenceQkvIdeal.τ).loc Cert.ReferenceQkvIdeal.main_arg6))
      ∧ r.2.sem = fun _ => 0)

def quiescent_ReferenceQkvIdeal_pre_finite_qkv [hReferenceQkvIdeal : Cert.ReferenceQkvIdeal.Facts] [hPre_finite_qkv : Cert.Pre_finite_qkv.Facts] : Prop :=
  ∀ (m : (ℓ : Loc Cert.ReferenceQkvIdeal.nD Cert.ReferenceQkvIdeal.τ Cert.ReferenceQkvIdeal.sig) → Buf (Elt Ideal) ℓ) (g : Dev Cert.ReferenceQkvIdeal.nD → PrngReg), Pre_ReferenceQkvIdeal_finite_qkv m →
    θ_run (Cert.ReferenceQkvIdeal.defs (F := Ideal)) (onTc (τ := Cert.ReferenceQkvIdeal.τ) (Cert.ReferenceQkvIdeal.main (F := Ideal))) ⟨m, fun _ => 0, g⟩ (fun r => (∀ c : Dev Cert.ReferenceQkvIdeal.nD,
      r.2.mem ((c.tc : Thread Cert.ReferenceQkvIdeal.nD Cert.ReferenceQkvIdeal.τ).loc Cert.ReferenceQkvIdeal.main_arg0) = m ((c.tc : Thread Cert.ReferenceQkvIdeal.nD Cert.ReferenceQkvIdeal.τ).loc Cert.ReferenceQkvIdeal.main_arg0)
      ∧ r.2.mem ((c.tc : Thread Cert.ReferenceQkvIdeal.nD Cert.ReferenceQkvIdeal.τ).loc Cert.ReferenceQkvIdeal.main_arg1) = m ((c.tc : Thread Cert.ReferenceQkvIdeal.nD Cert.ReferenceQkvIdeal.τ).loc Cert.ReferenceQkvIdeal.main_arg1)
      ∧ r.2.mem ((c.tc : Thread Cert.ReferenceQkvIdeal.nD Cert.ReferenceQkvIdeal.τ).loc Cert.ReferenceQkvIdeal.main_arg2) = m ((c.tc : Thread Cert.ReferenceQkvIdeal.nD Cert.ReferenceQkvIdeal.τ).loc Cert.ReferenceQkvIdeal.main_arg2)
      ∧ r.2.mem ((c.tc : Thread Cert.ReferenceQkvIdeal.nD Cert.ReferenceQkvIdeal.τ).loc Cert.ReferenceQkvIdeal.main_arg3) = m ((c.tc : Thread Cert.ReferenceQkvIdeal.nD Cert.ReferenceQkvIdeal.τ).loc Cert.ReferenceQkvIdeal.main_arg3)
      ∧ r.2.mem ((c.tc : Thread Cert.ReferenceQkvIdeal.nD Cert.ReferenceQkvIdeal.τ).loc Cert.ReferenceQkvIdeal.main_arg4) = m ((c.tc : Thread Cert.ReferenceQkvIdeal.nD Cert.ReferenceQkvIdeal.τ).loc Cert.ReferenceQkvIdeal.main_arg4)
      ∧ r.2.mem ((c.tc : Thread Cert.ReferenceQkvIdeal.nD Cert.ReferenceQkvIdeal.τ).loc Cert.ReferenceQkvIdeal.main_arg5) = m ((c.tc : Thread Cert.ReferenceQkvIdeal.nD Cert.ReferenceQkvIdeal.τ).loc Cert.ReferenceQkvIdeal.main_arg5)
      ∧ r.2.mem ((c.tc : Thread Cert.ReferenceQkvIdeal.nD Cert.ReferenceQkvIdeal.τ).loc Cert.ReferenceQkvIdeal.main_arg6) = m ((c.tc : Thread Cert.ReferenceQkvIdeal.nD Cert.ReferenceQkvIdeal.τ).loc Cert.ReferenceQkvIdeal.main_arg6))
      ∧ r.2.sem = fun _ => 0)

def quiescent_KernelBrC2F [hKernelBrC2F : Cert.KernelBrC2F.Facts] : Prop :=
  ∀ (m : (ℓ : Loc Cert.KernelBrC2F.nD Cert.KernelBrC2F.τ Cert.KernelBrC2F.sig) → Buf (Elt Bits) ℓ) (g : Dev Cert.KernelBrC2F.nD → PrngReg), Pre_KernelBrC2F m →
    θ_run (Cert.KernelBrC2F.defs (F := Bits)) (onTc (τ := Cert.KernelBrC2F.τ) (Cert.KernelBrC2F.main (F := Bits))) ⟨m, fun _ => 0, g⟩ (fun r => (∀ c : Dev Cert.KernelBrC2F.nD,
      r.2.mem ((c.tc : Thread Cert.KernelBrC2F.nD Cert.KernelBrC2F.τ).loc Cert.KernelBrC2F.main_arg0) = m ((c.tc : Thread Cert.KernelBrC2F.nD Cert.KernelBrC2F.τ).loc Cert.KernelBrC2F.main_arg0)
      ∧ r.2.mem ((c.tc : Thread Cert.KernelBrC2F.nD Cert.KernelBrC2F.τ).loc Cert.KernelBrC2F.main_arg1) = m ((c.tc : Thread Cert.KernelBrC2F.nD Cert.KernelBrC2F.τ).loc Cert.KernelBrC2F.main_arg1)
      ∧ r.2.mem ((c.tc : Thread Cert.KernelBrC2F.nD Cert.KernelBrC2F.τ).loc Cert.KernelBrC2F.main_arg2) = m ((c.tc : Thread Cert.KernelBrC2F.nD Cert.KernelBrC2F.τ).loc Cert.KernelBrC2F.main_arg2)
      ∧ r.2.mem ((c.tc : Thread Cert.KernelBrC2F.nD Cert.KernelBrC2F.τ).loc Cert.KernelBrC2F.main_arg3) = m ((c.tc : Thread Cert.KernelBrC2F.nD Cert.KernelBrC2F.τ).loc Cert.KernelBrC2F.main_arg3))
      ∧ r.2.sem = fun _ => 0)

def quiescent_KernelBrC2FIdeal [hKernelBrC2FIdeal : Cert.KernelBrC2FIdeal.Facts] : Prop :=
  ∀ (m : (ℓ : Loc Cert.KernelBrC2FIdeal.nD Cert.KernelBrC2FIdeal.τ Cert.KernelBrC2FIdeal.sig) → Buf (Elt Ideal) ℓ) (g : Dev Cert.KernelBrC2FIdeal.nD → PrngReg), Pre_KernelBrC2FIdeal m →
    θ_run (Cert.KernelBrC2FIdeal.defs (F := Ideal)) (onTc (τ := Cert.KernelBrC2FIdeal.τ) (Cert.KernelBrC2FIdeal.main (F := Ideal))) ⟨m, fun _ => 0, g⟩ (fun r => (∀ c : Dev Cert.KernelBrC2FIdeal.nD,
      r.2.mem ((c.tc : Thread Cert.KernelBrC2FIdeal.nD Cert.KernelBrC2FIdeal.τ).loc Cert.KernelBrC2FIdeal.main_arg0) = m ((c.tc : Thread Cert.KernelBrC2FIdeal.nD Cert.KernelBrC2FIdeal.τ).loc Cert.KernelBrC2FIdeal.main_arg0)
      ∧ r.2.mem ((c.tc : Thread Cert.KernelBrC2FIdeal.nD Cert.KernelBrC2FIdeal.τ).loc Cert.KernelBrC2FIdeal.main_arg1) = m ((c.tc : Thread Cert.KernelBrC2FIdeal.nD Cert.KernelBrC2FIdeal.τ).loc Cert.KernelBrC2FIdeal.main_arg1)
      ∧ r.2.mem ((c.tc : Thread Cert.KernelBrC2FIdeal.nD Cert.KernelBrC2FIdeal.τ).loc Cert.KernelBrC2FIdeal.main_arg2) = m ((c.tc : Thread Cert.KernelBrC2FIdeal.nD Cert.KernelBrC2FIdeal.τ).loc Cert.KernelBrC2FIdeal.main_arg2)
      ∧ r.2.mem ((c.tc : Thread Cert.KernelBrC2FIdeal.nD Cert.KernelBrC2FIdeal.τ).loc Cert.KernelBrC2FIdeal.main_arg3) = m ((c.tc : Thread Cert.KernelBrC2FIdeal.nD Cert.KernelBrC2FIdeal.τ).loc Cert.KernelBrC2FIdeal.main_arg3))
      ∧ r.2.sem = fun _ => 0)

def quiescent_ReferenceBrC2FIdeal [hReferenceBrC2FIdeal : Cert.ReferenceBrC2FIdeal.Facts] : Prop :=
  ∀ (m : (ℓ : Loc Cert.ReferenceBrC2FIdeal.nD Cert.ReferenceBrC2FIdeal.τ Cert.ReferenceBrC2FIdeal.sig) → Buf (Elt Ideal) ℓ) (g : Dev Cert.ReferenceBrC2FIdeal.nD → PrngReg), Pre_ReferenceBrC2FIdeal m →
    θ_run (Cert.ReferenceBrC2FIdeal.defs (F := Ideal)) (onTc (τ := Cert.ReferenceBrC2FIdeal.τ) (Cert.ReferenceBrC2FIdeal.main (F := Ideal))) ⟨m, fun _ => 0, g⟩ (fun r => (∀ c : Dev Cert.ReferenceBrC2FIdeal.nD,
      r.2.mem ((c.tc : Thread Cert.ReferenceBrC2FIdeal.nD Cert.ReferenceBrC2FIdeal.τ).loc Cert.ReferenceBrC2FIdeal.main_arg0) = m ((c.tc : Thread Cert.ReferenceBrC2FIdeal.nD Cert.ReferenceBrC2FIdeal.τ).loc Cert.ReferenceBrC2FIdeal.main_arg0)
      ∧ r.2.mem ((c.tc : Thread Cert.ReferenceBrC2FIdeal.nD Cert.ReferenceBrC2FIdeal.τ).loc Cert.ReferenceBrC2FIdeal.main_arg1) = m ((c.tc : Thread Cert.ReferenceBrC2FIdeal.nD Cert.ReferenceBrC2FIdeal.τ).loc Cert.ReferenceBrC2FIdeal.main_arg1)
      ∧ r.2.mem ((c.tc : Thread Cert.ReferenceBrC2FIdeal.nD Cert.ReferenceBrC2FIdeal.τ).loc Cert.ReferenceBrC2FIdeal.main_arg2) = m ((c.tc : Thread Cert.ReferenceBrC2FIdeal.nD Cert.ReferenceBrC2FIdeal.τ).loc Cert.ReferenceBrC2FIdeal.main_arg2)
      ∧ r.2.mem ((c.tc : Thread Cert.ReferenceBrC2FIdeal.nD Cert.ReferenceBrC2FIdeal.τ).loc Cert.ReferenceBrC2FIdeal.main_arg3) = m ((c.tc : Thread Cert.ReferenceBrC2FIdeal.nD Cert.ReferenceBrC2FIdeal.τ).loc Cert.ReferenceBrC2FIdeal.main_arg3))
      ∧ r.2.sem = fun _ => 0)

def quiescent_KernelMergeF [hKernelMergeF : Cert.KernelMergeF.Facts] : Prop :=
  ∀ (m : (ℓ : Loc Cert.KernelMergeF.nD Cert.KernelMergeF.τ Cert.KernelMergeF.sig) → Buf (Elt Bits) ℓ) (g : Dev Cert.KernelMergeF.nD → PrngReg), Pre_KernelMergeF m →
    θ_run (Cert.KernelMergeF.defs (F := Bits)) (onTc (τ := Cert.KernelMergeF.τ) (Cert.KernelMergeF.main (F := Bits))) ⟨m, fun _ => 0, g⟩ (fun r => (∀ c : Dev Cert.KernelMergeF.nD,
      r.2.mem ((c.tc : Thread Cert.KernelMergeF.nD Cert.KernelMergeF.τ).loc Cert.KernelMergeF.main_arg0) = m ((c.tc : Thread Cert.KernelMergeF.nD Cert.KernelMergeF.τ).loc Cert.KernelMergeF.main_arg0)
      ∧ r.2.mem ((c.tc : Thread Cert.KernelMergeF.nD Cert.KernelMergeF.τ).loc Cert.KernelMergeF.main_arg1) = m ((c.tc : Thread Cert.KernelMergeF.nD Cert.KernelMergeF.τ).loc Cert.KernelMergeF.main_arg1)
      ∧ r.2.mem ((c.tc : Thread Cert.KernelMergeF.nD Cert.KernelMergeF.τ).loc Cert.KernelMergeF.main_arg2) = m ((c.tc : Thread Cert.KernelMergeF.nD Cert.KernelMergeF.τ).loc Cert.KernelMergeF.main_arg2)
      ∧ r.2.mem ((c.tc : Thread Cert.KernelMergeF.nD Cert.KernelMergeF.τ).loc Cert.KernelMergeF.main_arg3) = m ((c.tc : Thread Cert.KernelMergeF.nD Cert.KernelMergeF.τ).loc Cert.KernelMergeF.main_arg3)
      ∧ r.2.mem ((c.tc : Thread Cert.KernelMergeF.nD Cert.KernelMergeF.τ).loc Cert.KernelMergeF.main_arg4) = m ((c.tc : Thread Cert.KernelMergeF.nD Cert.KernelMergeF.τ).loc Cert.KernelMergeF.main_arg4)
      ∧ r.2.mem ((c.tc : Thread Cert.KernelMergeF.nD Cert.KernelMergeF.τ).loc Cert.KernelMergeF.main_arg5) = m ((c.tc : Thread Cert.KernelMergeF.nD Cert.KernelMergeF.τ).loc Cert.KernelMergeF.main_arg5)
      ∧ r.2.mem ((c.tc : Thread Cert.KernelMergeF.nD Cert.KernelMergeF.τ).loc Cert.KernelMergeF.main_arg6) = m ((c.tc : Thread Cert.KernelMergeF.nD Cert.KernelMergeF.τ).loc Cert.KernelMergeF.main_arg6)
      ∧ r.2.mem ((c.tc : Thread Cert.KernelMergeF.nD Cert.KernelMergeF.τ).loc Cert.KernelMergeF.main_arg7) = m ((c.tc : Thread Cert.KernelMergeF.nD Cert.KernelMergeF.τ).loc Cert.KernelMergeF.main_arg7)
      ∧ r.2.mem ((c.tc : Thread Cert.KernelMergeF.nD Cert.KernelMergeF.τ).loc Cert.KernelMergeF.main_arg8) = m ((c.tc : Thread Cert.KernelMergeF.nD Cert.KernelMergeF.τ).loc Cert.KernelMergeF.main_arg8)
      ∧ r.2.mem ((c.tc : Thread Cert.KernelMergeF.nD Cert.KernelMergeF.τ).loc Cert.KernelMergeF.main_arg9) = m ((c.tc : Thread Cert.KernelMergeF.nD Cert.KernelMergeF.τ).loc Cert.KernelMergeF.main_arg9))
      ∧ r.2.sem = fun _ => 0)

def quiescent_KernelMergeFIdeal [hKernelMergeFIdeal : Cert.KernelMergeFIdeal.Facts] : Prop :=
  ∀ (m : (ℓ : Loc Cert.KernelMergeFIdeal.nD Cert.KernelMergeFIdeal.τ Cert.KernelMergeFIdeal.sig) → Buf (Elt Ideal) ℓ) (g : Dev Cert.KernelMergeFIdeal.nD → PrngReg), Pre_KernelMergeFIdeal m →
    θ_run (Cert.KernelMergeFIdeal.defs (F := Ideal)) (onTc (τ := Cert.KernelMergeFIdeal.τ) (Cert.KernelMergeFIdeal.main (F := Ideal))) ⟨m, fun _ => 0, g⟩ (fun r => (∀ c : Dev Cert.KernelMergeFIdeal.nD,
      r.2.mem ((c.tc : Thread Cert.KernelMergeFIdeal.nD Cert.KernelMergeFIdeal.τ).loc Cert.KernelMergeFIdeal.main_arg0) = m ((c.tc : Thread Cert.KernelMergeFIdeal.nD Cert.KernelMergeFIdeal.τ).loc Cert.KernelMergeFIdeal.main_arg0)
      ∧ r.2.mem ((c.tc : Thread Cert.KernelMergeFIdeal.nD Cert.KernelMergeFIdeal.τ).loc Cert.KernelMergeFIdeal.main_arg1) = m ((c.tc : Thread Cert.KernelMergeFIdeal.nD Cert.KernelMergeFIdeal.τ).loc Cert.KernelMergeFIdeal.main_arg1)
      ∧ r.2.mem ((c.tc : Thread Cert.KernelMergeFIdeal.nD Cert.KernelMergeFIdeal.τ).loc Cert.KernelMergeFIdeal.main_arg2) = m ((c.tc : Thread Cert.KernelMergeFIdeal.nD Cert.KernelMergeFIdeal.τ).loc Cert.KernelMergeFIdeal.main_arg2)
      ∧ r.2.mem ((c.tc : Thread Cert.KernelMergeFIdeal.nD Cert.KernelMergeFIdeal.τ).loc Cert.KernelMergeFIdeal.main_arg3) = m ((c.tc : Thread Cert.KernelMergeFIdeal.nD Cert.KernelMergeFIdeal.τ).loc Cert.KernelMergeFIdeal.main_arg3)
      ∧ r.2.mem ((c.tc : Thread Cert.KernelMergeFIdeal.nD Cert.KernelMergeFIdeal.τ).loc Cert.KernelMergeFIdeal.main_arg4) = m ((c.tc : Thread Cert.KernelMergeFIdeal.nD Cert.KernelMergeFIdeal.τ).loc Cert.KernelMergeFIdeal.main_arg4)
      ∧ r.2.mem ((c.tc : Thread Cert.KernelMergeFIdeal.nD Cert.KernelMergeFIdeal.τ).loc Cert.KernelMergeFIdeal.main_arg5) = m ((c.tc : Thread Cert.KernelMergeFIdeal.nD Cert.KernelMergeFIdeal.τ).loc Cert.KernelMergeFIdeal.main_arg5)
      ∧ r.2.mem ((c.tc : Thread Cert.KernelMergeFIdeal.nD Cert.KernelMergeFIdeal.τ).loc Cert.KernelMergeFIdeal.main_arg6) = m ((c.tc : Thread Cert.KernelMergeFIdeal.nD Cert.KernelMergeFIdeal.τ).loc Cert.KernelMergeFIdeal.main_arg6)
      ∧ r.2.mem ((c.tc : Thread Cert.KernelMergeFIdeal.nD Cert.KernelMergeFIdeal.τ).loc Cert.KernelMergeFIdeal.main_arg7) = m ((c.tc : Thread Cert.KernelMergeFIdeal.nD Cert.KernelMergeFIdeal.τ).loc Cert.KernelMergeFIdeal.main_arg7)
      ∧ r.2.mem ((c.tc : Thread Cert.KernelMergeFIdeal.nD Cert.KernelMergeFIdeal.τ).loc Cert.KernelMergeFIdeal.main_arg8) = m ((c.tc : Thread Cert.KernelMergeFIdeal.nD Cert.KernelMergeFIdeal.τ).loc Cert.KernelMergeFIdeal.main_arg8)
      ∧ r.2.mem ((c.tc : Thread Cert.KernelMergeFIdeal.nD Cert.KernelMergeFIdeal.τ).loc Cert.KernelMergeFIdeal.main_arg9) = m ((c.tc : Thread Cert.KernelMergeFIdeal.nD Cert.KernelMergeFIdeal.τ).loc Cert.KernelMergeFIdeal.main_arg9))
      ∧ r.2.sem = fun _ => 0)

def quiescent_ReferenceMergeFIdeal [hReferenceMergeFIdeal : Cert.ReferenceMergeFIdeal.Facts] : Prop :=
  ∀ (m : (ℓ : Loc Cert.ReferenceMergeFIdeal.nD Cert.ReferenceMergeFIdeal.τ Cert.ReferenceMergeFIdeal.sig) → Buf (Elt Ideal) ℓ) (g : Dev Cert.ReferenceMergeFIdeal.nD → PrngReg), Pre_ReferenceMergeFIdeal m →
    θ_run (Cert.ReferenceMergeFIdeal.defs (F := Ideal)) (onTc (τ := Cert.ReferenceMergeFIdeal.τ) (Cert.ReferenceMergeFIdeal.main (F := Ideal))) ⟨m, fun _ => 0, g⟩ (fun r => (∀ c : Dev Cert.ReferenceMergeFIdeal.nD,
      r.2.mem ((c.tc : Thread Cert.ReferenceMergeFIdeal.nD Cert.ReferenceMergeFIdeal.τ).loc Cert.ReferenceMergeFIdeal.main_arg0) = m ((c.tc : Thread Cert.ReferenceMergeFIdeal.nD Cert.ReferenceMergeFIdeal.τ).loc Cert.ReferenceMergeFIdeal.main_arg0)
      ∧ r.2.mem ((c.tc : Thread Cert.ReferenceMergeFIdeal.nD Cert.ReferenceMergeFIdeal.τ).loc Cert.ReferenceMergeFIdeal.main_arg1) = m ((c.tc : Thread Cert.ReferenceMergeFIdeal.nD Cert.ReferenceMergeFIdeal.τ).loc Cert.ReferenceMergeFIdeal.main_arg1)
      ∧ r.2.mem ((c.tc : Thread Cert.ReferenceMergeFIdeal.nD Cert.ReferenceMergeFIdeal.τ).loc Cert.ReferenceMergeFIdeal.main_arg2) = m ((c.tc : Thread Cert.ReferenceMergeFIdeal.nD Cert.ReferenceMergeFIdeal.τ).loc Cert.ReferenceMergeFIdeal.main_arg2)
      ∧ r.2.mem ((c.tc : Thread Cert.ReferenceMergeFIdeal.nD Cert.ReferenceMergeFIdeal.τ).loc Cert.ReferenceMergeFIdeal.main_arg3) = m ((c.tc : Thread Cert.ReferenceMergeFIdeal.nD Cert.ReferenceMergeFIdeal.τ).loc Cert.ReferenceMergeFIdeal.main_arg3)
      ∧ r.2.mem ((c.tc : Thread Cert.ReferenceMergeFIdeal.nD Cert.ReferenceMergeFIdeal.τ).loc Cert.ReferenceMergeFIdeal.main_arg4) = m ((c.tc : Thread Cert.ReferenceMergeFIdeal.nD Cert.ReferenceMergeFIdeal.τ).loc Cert.ReferenceMergeFIdeal.main_arg4)
      ∧ r.2.mem ((c.tc : Thread Cert.ReferenceMergeFIdeal.nD Cert.ReferenceMergeFIdeal.τ).loc Cert.ReferenceMergeFIdeal.main_arg5) = m ((c.tc : Thread Cert.ReferenceMergeFIdeal.nD Cert.ReferenceMergeFIdeal.τ).loc Cert.ReferenceMergeFIdeal.main_arg5)
      ∧ r.2.mem ((c.tc : Thread Cert.ReferenceMergeFIdeal.nD Cert.ReferenceMergeFIdeal.τ).loc Cert.ReferenceMergeFIdeal.main_arg6) = m ((c.tc : Thread Cert.ReferenceMergeFIdeal.nD Cert.ReferenceMergeFIdeal.τ).loc Cert.ReferenceMergeFIdeal.main_arg6)
      ∧ r.2.mem ((c.tc : Thread Cert.ReferenceMergeFIdeal.nD Cert.ReferenceMergeFIdeal.τ).loc Cert.ReferenceMergeFIdeal.main_arg7) = m ((c.tc : Thread Cert.ReferenceMergeFIdeal.nD Cert.ReferenceMergeFIdeal.τ).loc Cert.ReferenceMergeFIdeal.main_arg7)
      ∧ r.2.mem ((c.tc : Thread Cert.ReferenceMergeFIdeal.nD Cert.ReferenceMergeFIdeal.τ).loc Cert.ReferenceMergeFIdeal.main_arg8) = m ((c.tc : Thread Cert.ReferenceMergeFIdeal.nD Cert.ReferenceMergeFIdeal.τ).loc Cert.ReferenceMergeFIdeal.main_arg8)
      ∧ r.2.mem ((c.tc : Thread Cert.ReferenceMergeFIdeal.nD Cert.ReferenceMergeFIdeal.τ).loc Cert.ReferenceMergeFIdeal.main_arg9) = m ((c.tc : Thread Cert.ReferenceMergeFIdeal.nD Cert.ReferenceMergeFIdeal.τ).loc Cert.ReferenceMergeFIdeal.main_arg9))
      ∧ r.2.sem = fun _ => 0)

def quiescent_KernelDw [hKernelDw : Cert.KernelDw.Facts] : Prop :=
  ∀ (m : (ℓ : Loc Cert.KernelDw.nD Cert.KernelDw.τ Cert.KernelDw.sig) → Buf (Elt Bits) ℓ) (g : Dev Cert.KernelDw.nD → PrngReg), Pre_KernelDw m →
    θ_run (Cert.KernelDw.defs (F := Bits)) (onTc (τ := Cert.KernelDw.τ) (Cert.KernelDw.main (F := Bits))) ⟨m, fun _ => 0, g⟩ (fun r => (∀ c : Dev Cert.KernelDw.nD,
      r.2.mem ((c.tc : Thread Cert.KernelDw.nD Cert.KernelDw.τ).loc Cert.KernelDw.main_arg0) = m ((c.tc : Thread Cert.KernelDw.nD Cert.KernelDw.τ).loc Cert.KernelDw.main_arg0)
      ∧ r.2.mem ((c.tc : Thread Cert.KernelDw.nD Cert.KernelDw.τ).loc Cert.KernelDw.main_arg1) = m ((c.tc : Thread Cert.KernelDw.nD Cert.KernelDw.τ).loc Cert.KernelDw.main_arg1))
      ∧ r.2.sem = fun _ => 0)

def quiescent_KernelDwIdeal [hKernelDwIdeal : Cert.KernelDwIdeal.Facts] : Prop :=
  ∀ (m : (ℓ : Loc Cert.KernelDwIdeal.nD Cert.KernelDwIdeal.τ Cert.KernelDwIdeal.sig) → Buf (Elt Ideal) ℓ) (g : Dev Cert.KernelDwIdeal.nD → PrngReg), Pre_KernelDwIdeal m →
    θ_run (Cert.KernelDwIdeal.defs (F := Ideal)) (onTc (τ := Cert.KernelDwIdeal.τ) (Cert.KernelDwIdeal.main (F := Ideal))) ⟨m, fun _ => 0, g⟩ (fun r => (∀ c : Dev Cert.KernelDwIdeal.nD,
      r.2.mem ((c.tc : Thread Cert.KernelDwIdeal.nD Cert.KernelDwIdeal.τ).loc Cert.KernelDwIdeal.main_arg0) = m ((c.tc : Thread Cert.KernelDwIdeal.nD Cert.KernelDwIdeal.τ).loc Cert.KernelDwIdeal.main_arg0)
      ∧ r.2.mem ((c.tc : Thread Cert.KernelDwIdeal.nD Cert.KernelDwIdeal.τ).loc Cert.KernelDwIdeal.main_arg1) = m ((c.tc : Thread Cert.KernelDwIdeal.nD Cert.KernelDwIdeal.τ).loc Cert.KernelDwIdeal.main_arg1))
      ∧ r.2.sem = fun _ => 0)

def quiescent_ReferenceDwIdeal [hReferenceDwIdeal : Cert.ReferenceDwIdeal.Facts] : Prop :=
  ∀ (m : (ℓ : Loc Cert.ReferenceDwIdeal.nD Cert.ReferenceDwIdeal.τ Cert.ReferenceDwIdeal.sig) → Buf (Elt Ideal) ℓ) (g : Dev Cert.ReferenceDwIdeal.nD → PrngReg), Pre_ReferenceDwIdeal m →
    θ_run (Cert.ReferenceDwIdeal.defs (F := Ideal)) (onTc (τ := Cert.ReferenceDwIdeal.τ) (Cert.ReferenceDwIdeal.main (F := Ideal))) ⟨m, fun _ => 0, g⟩ (fun r => (∀ c : Dev Cert.ReferenceDwIdeal.nD,
      r.2.mem ((c.tc : Thread Cert.ReferenceDwIdeal.nD Cert.ReferenceDwIdeal.τ).loc Cert.ReferenceDwIdeal.main_arg0) = m ((c.tc : Thread Cert.ReferenceDwIdeal.nD Cert.ReferenceDwIdeal.τ).loc Cert.ReferenceDwIdeal.main_arg0)
      ∧ r.2.mem ((c.tc : Thread Cert.ReferenceDwIdeal.nD Cert.ReferenceDwIdeal.τ).loc Cert.ReferenceDwIdeal.main_arg1) = m ((c.tc : Thread Cert.ReferenceDwIdeal.nD Cert.ReferenceDwIdeal.τ).loc Cert.ReferenceDwIdeal.main_arg1))
      ∧ r.2.sem = fun _ => 0)

def quiescent_KernelTn [hKernelTn : Cert.KernelTn.Facts] : Prop :=
  ∀ (m : (ℓ : Loc Cert.KernelTn.nD Cert.KernelTn.τ Cert.KernelTn.sig) → Buf (Elt Bits) ℓ) (g : Dev Cert.KernelTn.nD → PrngReg), Pre_KernelTn m →
    θ_run (Cert.KernelTn.defs (F := Bits)) (onTc (τ := Cert.KernelTn.τ) (Cert.KernelTn.main (F := Bits))) ⟨m, fun _ => 0, g⟩ (fun r => (∀ c : Dev Cert.KernelTn.nD,
      r.2.mem ((c.tc : Thread Cert.KernelTn.nD Cert.KernelTn.τ).loc Cert.KernelTn.main_arg0) = m ((c.tc : Thread Cert.KernelTn.nD Cert.KernelTn.τ).loc Cert.KernelTn.main_arg0)
      ∧ r.2.mem ((c.tc : Thread Cert.KernelTn.nD Cert.KernelTn.τ).loc Cert.KernelTn.main_arg1) = m ((c.tc : Thread Cert.KernelTn.nD Cert.KernelTn.τ).loc Cert.KernelTn.main_arg1))
      ∧ r.2.sem = fun _ => 0)

def quiescent_KernelTnIdeal [hKernelTnIdeal : Cert.KernelTnIdeal.Facts] : Prop :=
  ∀ (m : (ℓ : Loc Cert.KernelTnIdeal.nD Cert.KernelTnIdeal.τ Cert.KernelTnIdeal.sig) → Buf (Elt Ideal) ℓ) (g : Dev Cert.KernelTnIdeal.nD → PrngReg), Pre_KernelTnIdeal m →
    θ_run (Cert.KernelTnIdeal.defs (F := Ideal)) (onTc (τ := Cert.KernelTnIdeal.τ) (Cert.KernelTnIdeal.main (F := Ideal))) ⟨m, fun _ => 0, g⟩ (fun r => (∀ c : Dev Cert.KernelTnIdeal.nD,
      r.2.mem ((c.tc : Thread Cert.KernelTnIdeal.nD Cert.KernelTnIdeal.τ).loc Cert.KernelTnIdeal.main_arg0) = m ((c.tc : Thread Cert.KernelTnIdeal.nD Cert.KernelTnIdeal.τ).loc Cert.KernelTnIdeal.main_arg0)
      ∧ r.2.mem ((c.tc : Thread Cert.KernelTnIdeal.nD Cert.KernelTnIdeal.τ).loc Cert.KernelTnIdeal.main_arg1) = m ((c.tc : Thread Cert.KernelTnIdeal.nD Cert.KernelTnIdeal.τ).loc Cert.KernelTnIdeal.main_arg1))
      ∧ r.2.sem = fun _ => 0)

def quiescent_ReferenceTnIdeal [hReferenceTnIdeal : Cert.ReferenceTnIdeal.Facts] : Prop :=
  ∀ (m : (ℓ : Loc Cert.ReferenceTnIdeal.nD Cert.ReferenceTnIdeal.τ Cert.ReferenceTnIdeal.sig) → Buf (Elt Ideal) ℓ) (g : Dev Cert.ReferenceTnIdeal.nD → PrngReg), Pre_ReferenceTnIdeal m →
    θ_run (Cert.ReferenceTnIdeal.defs (F := Ideal)) (onTc (τ := Cert.ReferenceTnIdeal.τ) (Cert.ReferenceTnIdeal.main (F := Ideal))) ⟨m, fun _ => 0, g⟩ (fun r => (∀ c : Dev Cert.ReferenceTnIdeal.nD,
      r.2.mem ((c.tc : Thread Cert.ReferenceTnIdeal.nD Cert.ReferenceTnIdeal.τ).loc Cert.ReferenceTnIdeal.main_arg0) = m ((c.tc : Thread Cert.ReferenceTnIdeal.nD Cert.ReferenceTnIdeal.τ).loc Cert.ReferenceTnIdeal.main_arg0)
      ∧ r.2.mem ((c.tc : Thread Cert.ReferenceTnIdeal.nD Cert.ReferenceTnIdeal.τ).loc Cert.ReferenceTnIdeal.main_arg1) = m ((c.tc : Thread Cert.ReferenceTnIdeal.nD Cert.ReferenceTnIdeal.τ).loc Cert.ReferenceTnIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_KernelAttn_KernelAttnIdeal : Prop :=
  True

def algebraic_KernelAttnIdeal_ReferenceAttnIdeal_pre_finite_attn [hKernelAttnIdeal : Cert.KernelAttnIdeal.Facts] [hReferenceAttnIdeal : Cert.ReferenceAttnIdeal.Facts] [hPre_finite_attn : Cert.Pre_finite_attn.Facts] : Prop :=
  ∀ (m : (ℓ : Loc Cert.KernelAttnIdeal.nD Cert.KernelAttnIdeal.τ Cert.KernelAttnIdeal.sig) → Buf (Elt Ideal) ℓ) (g : Dev Cert.KernelAttnIdeal.nD → PrngReg)
    (m' : (ℓ : Loc Cert.ReferenceAttnIdeal.nD Cert.ReferenceAttnIdeal.τ Cert.ReferenceAttnIdeal.sig) → Buf (Elt Ideal) ℓ) (g' : Dev Cert.ReferenceAttnIdeal.nD → PrngReg), Pre_KernelAttnIdeal_finite_attn m →
    (∀ c : Dev Cert.KernelAttnIdeal.nD,
      m' ((c.tc : Thread Cert.ReferenceAttnIdeal.nD Cert.ReferenceAttnIdeal.τ).loc Cert.ReferenceAttnIdeal.main_arg0) = m ((c.tc : Thread Cert.KernelAttnIdeal.nD Cert.KernelAttnIdeal.τ).loc Cert.KernelAttnIdeal.main_arg0)
      ∧ m' ((c.tc : Thread Cert.ReferenceAttnIdeal.nD Cert.ReferenceAttnIdeal.τ).loc Cert.ReferenceAttnIdeal.main_arg1) = m ((c.tc : Thread Cert.KernelAttnIdeal.nD Cert.KernelAttnIdeal.τ).loc Cert.KernelAttnIdeal.main_arg1)
      ∧ m' ((c.tc : Thread Cert.ReferenceAttnIdeal.nD Cert.ReferenceAttnIdeal.τ).loc Cert.ReferenceAttnIdeal.main_arg2) = m ((c.tc : Thread Cert.KernelAttnIdeal.nD Cert.KernelAttnIdeal.τ).loc Cert.KernelAttnIdeal.main_arg2)
      ∧ m' ((c.tc : Thread Cert.ReferenceAttnIdeal.nD Cert.ReferenceAttnIdeal.τ).loc Cert.ReferenceAttnIdeal.main_arg3) = m ((c.tc : Thread Cert.KernelAttnIdeal.nD Cert.KernelAttnIdeal.τ).loc Cert.KernelAttnIdeal.main_arg3)
      ∧ m' ((c.tc : Thread Cert.ReferenceAttnIdeal.nD Cert.ReferenceAttnIdeal.τ).loc Cert.ReferenceAttnIdeal.main_arg4) = m ((c.tc : Thread Cert.KernelAttnIdeal.nD Cert.KernelAttnIdeal.τ).loc Cert.KernelAttnIdeal.main_arg4)
      ∧ m' ((c.tc : Thread Cert.ReferenceAttnIdeal.nD Cert.ReferenceAttnIdeal.τ).loc Cert.ReferenceAttnIdeal.main_arg5) = m ((c.tc : Thread Cert.KernelAttnIdeal.nD Cert.KernelAttnIdeal.τ).loc Cert.KernelAttnIdeal.main_arg5)) →
    ∃ (v0 : (c : Dev Cert.KernelAttnIdeal.nD) → Buf (Elt Ideal) ((c.tc : Thread Cert.KernelAttnIdeal.nD Cert.KernelAttnIdeal.τ).loc Cert.KernelAttnIdeal.main_v7_0)) (v1 : (c : Dev Cert.KernelAttnIdeal.nD) → Buf (Elt Ideal) ((c.tc : Thread Cert.KernelAttnIdeal.nD Cert.KernelAttnIdeal.τ).loc Cert.KernelAttnIdeal.main_v7_1)) (v2 : (c : Dev Cert.KernelAttnIdeal.nD) → Buf (Elt Ideal) ((c.tc : Thread Cert.KernelAttnIdeal.nD Cert.KernelAttnIdeal.τ).loc Cert.KernelAttnIdeal.main_v10_0)) (v3 : (c : Dev Cert.KernelAttnIdeal.nD) → Buf (Elt Ideal) ((c.tc : Thread Cert.KernelAttnIdeal.nD Cert.KernelAttnIdeal.τ).loc Cert.KernelAttnIdeal.main_v10_1)) (v4 : (c : Dev Cert.KernelAttnIdeal.nD) → Buf (Elt Ideal) ((c.tc : Thread Cert.KernelAttnIdeal.nD Cert.KernelAttnIdeal.τ).loc Cert.KernelAttnIdeal.main_v10_2)) (v5 : (c : Dev Cert.KernelAttnIdeal.nD) → Buf (Elt Ideal) ((c.tc : Thread Cert.KernelAttnIdeal.nD Cert.KernelAttnIdeal.τ).loc Cert.KernelAttnIdeal.main_v10_3)),
      θ_run (Cert.KernelAttnIdeal.defs (F := Ideal)) (onTc (τ := Cert.KernelAttnIdeal.τ) (Cert.KernelAttnIdeal.main (F := Ideal))) ⟨m, fun _ => 0, g⟩ (fun r => ∀ c : Dev Cert.KernelAttnIdeal.nD,
          r.2.mem ((c.tc : Thread Cert.KernelAttnIdeal.nD Cert.KernelAttnIdeal.τ).loc Cert.KernelAttnIdeal.main_v7_0) = v0 c
          ∧ r.2.mem ((c.tc : Thread Cert.KernelAttnIdeal.nD Cert.KernelAttnIdeal.τ).loc Cert.KernelAttnIdeal.main_v7_1) = v1 c
          ∧ r.2.mem ((c.tc : Thread Cert.KernelAttnIdeal.nD Cert.KernelAttnIdeal.τ).loc Cert.KernelAttnIdeal.main_v10_0) = v2 c
          ∧ r.2.mem ((c.tc : Thread Cert.KernelAttnIdeal.nD Cert.KernelAttnIdeal.τ).loc Cert.KernelAttnIdeal.main_v10_1) = v3 c
          ∧ r.2.mem ((c.tc : Thread Cert.KernelAttnIdeal.nD Cert.KernelAttnIdeal.τ).loc Cert.KernelAttnIdeal.main_v10_2) = v4 c
          ∧ r.2.mem ((c.tc : Thread Cert.KernelAttnIdeal.nD Cert.KernelAttnIdeal.τ).loc Cert.KernelAttnIdeal.main_v10_3) = v5 c
          ∧ r.2.mem ((c.tc : Thread Cert.KernelAttnIdeal.nD Cert.KernelAttnIdeal.τ).loc Cert.KernelAttnIdeal.main_arg0) = m ((c.tc : Thread Cert.KernelAttnIdeal.nD Cert.KernelAttnIdeal.τ).loc Cert.KernelAttnIdeal.main_arg0)
          ∧ r.2.mem ((c.tc : Thread Cert.KernelAttnIdeal.nD Cert.KernelAttnIdeal.τ).loc Cert.KernelAttnIdeal.main_arg1) = m ((c.tc : Thread Cert.KernelAttnIdeal.nD Cert.KernelAttnIdeal.τ).loc Cert.KernelAttnIdeal.main_arg1)
          ∧ r.2.mem ((c.tc : Thread Cert.KernelAttnIdeal.nD Cert.KernelAttnIdeal.τ).loc Cert.KernelAttnIdeal.main_arg2) = m ((c.tc : Thread Cert.KernelAttnIdeal.nD Cert.KernelAttnIdeal.τ).loc Cert.KernelAttnIdeal.main_arg2)
          ∧ r.2.mem ((c.tc : Thread Cert.KernelAttnIdeal.nD Cert.KernelAttnIdeal.τ).loc Cert.KernelAttnIdeal.main_arg3) = m ((c.tc : Thread Cert.KernelAttnIdeal.nD Cert.KernelAttnIdeal.τ).loc Cert.KernelAttnIdeal.main_arg3)
          ∧ r.2.mem ((c.tc : Thread Cert.KernelAttnIdeal.nD Cert.KernelAttnIdeal.τ).loc Cert.KernelAttnIdeal.main_arg4) = m ((c.tc : Thread Cert.KernelAttnIdeal.nD Cert.KernelAttnIdeal.τ).loc Cert.KernelAttnIdeal.main_arg4)
          ∧ r.2.mem ((c.tc : Thread Cert.KernelAttnIdeal.nD Cert.KernelAttnIdeal.τ).loc Cert.KernelAttnIdeal.main_arg5) = m ((c.tc : Thread Cert.KernelAttnIdeal.nD Cert.KernelAttnIdeal.τ).loc Cert.KernelAttnIdeal.main_arg5))
      ∧ θ_run (Cert.ReferenceAttnIdeal.defs (F := Ideal)) (onTc (τ := Cert.ReferenceAttnIdeal.τ) (Cert.ReferenceAttnIdeal.main (F := Ideal))) ⟨m', fun _ => 0, g'⟩ (fun r => ∀ c : Dev Cert.ReferenceAttnIdeal.nD,
          r.2.mem ((c.tc : Thread Cert.ReferenceAttnIdeal.nD Cert.ReferenceAttnIdeal.τ).loc Cert.ReferenceAttnIdeal.main_v70) = v0 c
          ∧ r.2.mem ((c.tc : Thread Cert.ReferenceAttnIdeal.nD Cert.ReferenceAttnIdeal.τ).loc Cert.ReferenceAttnIdeal.main_v72) = v1 c
          ∧ r.2.mem ((c.tc : Thread Cert.ReferenceAttnIdeal.nD Cert.ReferenceAttnIdeal.τ).loc Cert.ReferenceAttnIdeal.main_v73) = v2 c
          ∧ r.2.mem ((c.tc : Thread Cert.ReferenceAttnIdeal.nD Cert.ReferenceAttnIdeal.τ).loc Cert.ReferenceAttnIdeal.main_v74) = v3 c
          ∧ r.2.mem ((c.tc : Thread Cert.ReferenceAttnIdeal.nD Cert.ReferenceAttnIdeal.τ).loc Cert.ReferenceAttnIdeal.main_v75) = v4 c
          ∧ r.2.mem ((c.tc : Thread Cert.ReferenceAttnIdeal.nD Cert.ReferenceAttnIdeal.τ).loc Cert.ReferenceAttnIdeal.main_v78) = v5 c
          ∧ r.2.mem ((c.tc : Thread Cert.ReferenceAttnIdeal.nD Cert.ReferenceAttnIdeal.τ).loc Cert.ReferenceAttnIdeal.main_arg0) = m' ((c.tc : Thread Cert.ReferenceAttnIdeal.nD Cert.ReferenceAttnIdeal.τ).loc Cert.ReferenceAttnIdeal.main_arg0)
          ∧ r.2.mem ((c.tc : Thread Cert.ReferenceAttnIdeal.nD Cert.ReferenceAttnIdeal.τ).loc Cert.ReferenceAttnIdeal.main_arg1) = m' ((c.tc : Thread Cert.ReferenceAttnIdeal.nD Cert.ReferenceAttnIdeal.τ).loc Cert.ReferenceAttnIdeal.main_arg1)
          ∧ r.2.mem ((c.tc : Thread Cert.ReferenceAttnIdeal.nD Cert.ReferenceAttnIdeal.τ).loc Cert.ReferenceAttnIdeal.main_arg2) = m' ((c.tc : Thread Cert.ReferenceAttnIdeal.nD Cert.ReferenceAttnIdeal.τ).loc Cert.ReferenceAttnIdeal.main_arg2)
          ∧ r.2.mem ((c.tc : Thread Cert.ReferenceAttnIdeal.nD Cert.ReferenceAttnIdeal.τ).loc Cert.ReferenceAttnIdeal.main_arg3) = m' ((c.tc : Thread Cert.ReferenceAttnIdeal.nD Cert.ReferenceAttnIdeal.τ).loc Cert.ReferenceAttnIdeal.main_arg3)
          ∧ r.2.mem ((c.tc : Thread Cert.ReferenceAttnIdeal.nD Cert.ReferenceAttnIdeal.τ).loc Cert.ReferenceAttnIdeal.main_arg4) = m' ((c.tc : Thread Cert.ReferenceAttnIdeal.nD Cert.ReferenceAttnIdeal.τ).loc Cert.ReferenceAttnIdeal.main_arg4)
          ∧ r.2.mem ((c.tc : Thread Cert.ReferenceAttnIdeal.nD Cert.ReferenceAttnIdeal.τ).loc Cert.ReferenceAttnIdeal.main_arg5) = m' ((c.tc : Thread Cert.ReferenceAttnIdeal.nD Cert.ReferenceAttnIdeal.τ).loc Cert.ReferenceAttnIdeal.main_arg5))

def preserves_KernelDh_KernelDhIdeal : Prop :=
  True

def algebraic_KernelDhIdeal_ReferenceDhIdeal_pre_finite_dh [hKernelDhIdeal : Cert.KernelDhIdeal.Facts] [hReferenceDhIdeal : Cert.ReferenceDhIdeal.Facts] [hPre_finite_dh : Cert.Pre_finite_dh.Facts] : Prop :=
  ∀ (m : (ℓ : Loc Cert.KernelDhIdeal.nD Cert.KernelDhIdeal.τ Cert.KernelDhIdeal.sig) → Buf (Elt Ideal) ℓ) (g : Dev Cert.KernelDhIdeal.nD → PrngReg)
    (m' : (ℓ : Loc Cert.ReferenceDhIdeal.nD Cert.ReferenceDhIdeal.τ Cert.ReferenceDhIdeal.sig) → Buf (Elt Ideal) ℓ) (g' : Dev Cert.ReferenceDhIdeal.nD → PrngReg), Pre_KernelDhIdeal_finite_dh m →
    (∀ c : Dev Cert.KernelDhIdeal.nD,
      m' ((c.tc : Thread Cert.ReferenceDhIdeal.nD Cert.ReferenceDhIdeal.τ).loc Cert.ReferenceDhIdeal.main_arg0) = m ((c.tc : Thread Cert.KernelDhIdeal.nD Cert.KernelDhIdeal.τ).loc Cert.KernelDhIdeal.main_arg0)
      ∧ m' ((c.tc : Thread Cert.ReferenceDhIdeal.nD Cert.ReferenceDhIdeal.τ).loc Cert.ReferenceDhIdeal.main_arg1) = m ((c.tc : Thread Cert.KernelDhIdeal.nD Cert.KernelDhIdeal.τ).loc Cert.KernelDhIdeal.main_arg1)
      ∧ m' ((c.tc : Thread Cert.ReferenceDhIdeal.nD Cert.ReferenceDhIdeal.τ).loc Cert.ReferenceDhIdeal.main_arg2) = m ((c.tc : Thread Cert.KernelDhIdeal.nD Cert.KernelDhIdeal.τ).loc Cert.KernelDhIdeal.main_arg2)
      ∧ m' ((c.tc : Thread Cert.ReferenceDhIdeal.nD Cert.ReferenceDhIdeal.τ).loc Cert.ReferenceDhIdeal.main_arg3) = m ((c.tc : Thread Cert.KernelDhIdeal.nD Cert.KernelDhIdeal.τ).loc Cert.KernelDhIdeal.main_arg3)
      ∧ m' ((c.tc : Thread Cert.ReferenceDhIdeal.nD Cert.ReferenceDhIdeal.τ).loc Cert.ReferenceDhIdeal.main_arg4) = m ((c.tc : Thread Cert.KernelDhIdeal.nD Cert.KernelDhIdeal.τ).loc Cert.KernelDhIdeal.main_arg4)) →
    ∃ (v0 : (c : Dev Cert.KernelDhIdeal.nD) → Buf (Elt Ideal) ((c.tc : Thread Cert.KernelDhIdeal.nD Cert.KernelDhIdeal.τ).loc Cert.KernelDhIdeal.main_v7_0)) (v1 : (c : Dev Cert.KernelDhIdeal.nD) → Buf (Elt Ideal) ((c.tc : Thread Cert.KernelDhIdeal.nD Cert.KernelDhIdeal.τ).loc Cert.KernelDhIdeal.main_v7_1)),
      θ_run (Cert.KernelDhIdeal.defs (F := Ideal)) (onTc (τ := Cert.KernelDhIdeal.τ) (Cert.KernelDhIdeal.main (F := Ideal))) ⟨m, fun _ => 0, g⟩ (fun r => ∀ c : Dev Cert.KernelDhIdeal.nD,
          r.2.mem ((c.tc : Thread Cert.KernelDhIdeal.nD Cert.KernelDhIdeal.τ).loc Cert.KernelDhIdeal.main_v7_0) = v0 c
          ∧ r.2.mem ((c.tc : Thread Cert.KernelDhIdeal.nD Cert.KernelDhIdeal.τ).loc Cert.KernelDhIdeal.main_v7_1) = v1 c
          ∧ r.2.mem ((c.tc : Thread Cert.KernelDhIdeal.nD Cert.KernelDhIdeal.τ).loc Cert.KernelDhIdeal.main_arg0) = m ((c.tc : Thread Cert.KernelDhIdeal.nD Cert.KernelDhIdeal.τ).loc Cert.KernelDhIdeal.main_arg0)
          ∧ r.2.mem ((c.tc : Thread Cert.KernelDhIdeal.nD Cert.KernelDhIdeal.τ).loc Cert.KernelDhIdeal.main_arg1) = m ((c.tc : Thread Cert.KernelDhIdeal.nD Cert.KernelDhIdeal.τ).loc Cert.KernelDhIdeal.main_arg1)
          ∧ r.2.mem ((c.tc : Thread Cert.KernelDhIdeal.nD Cert.KernelDhIdeal.τ).loc Cert.KernelDhIdeal.main_arg2) = m ((c.tc : Thread Cert.KernelDhIdeal.nD Cert.KernelDhIdeal.τ).loc Cert.KernelDhIdeal.main_arg2)
          ∧ r.2.mem ((c.tc : Thread Cert.KernelDhIdeal.nD Cert.KernelDhIdeal.τ).loc Cert.KernelDhIdeal.main_arg3) = m ((c.tc : Thread Cert.KernelDhIdeal.nD Cert.KernelDhIdeal.τ).loc Cert.KernelDhIdeal.main_arg3)
          ∧ r.2.mem ((c.tc : Thread Cert.KernelDhIdeal.nD Cert.KernelDhIdeal.τ).loc Cert.KernelDhIdeal.main_arg4) = m ((c.tc : Thread Cert.KernelDhIdeal.nD Cert.KernelDhIdeal.τ).loc Cert.KernelDhIdeal.main_arg4))
      ∧ θ_run (Cert.ReferenceDhIdeal.defs (F := Ideal)) (onTc (τ := Cert.ReferenceDhIdeal.τ) (Cert.ReferenceDhIdeal.main (F := Ideal))) ⟨m', fun _ => 0, g'⟩ (fun r => ∀ c : Dev Cert.ReferenceDhIdeal.nD,
          r.2.mem ((c.tc : Thread Cert.ReferenceDhIdeal.nD Cert.ReferenceDhIdeal.τ).loc Cert.ReferenceDhIdeal.main_v40) = v0 c
          ∧ r.2.mem ((c.tc : Thread Cert.ReferenceDhIdeal.nD Cert.ReferenceDhIdeal.τ).loc Cert.ReferenceDhIdeal.main_v41) = v1 c
          ∧ r.2.mem ((c.tc : Thread Cert.ReferenceDhIdeal.nD Cert.ReferenceDhIdeal.τ).loc Cert.ReferenceDhIdeal.main_arg0) = m' ((c.tc : Thread Cert.ReferenceDhIdeal.nD Cert.ReferenceDhIdeal.τ).loc Cert.ReferenceDhIdeal.main_arg0)
          ∧ r.2.mem ((c.tc : Thread Cert.ReferenceDhIdeal.nD Cert.ReferenceDhIdeal.τ).loc Cert.ReferenceDhIdeal.main_arg1) = m' ((c.tc : Thread Cert.ReferenceDhIdeal.nD Cert.ReferenceDhIdeal.τ).loc Cert.ReferenceDhIdeal.main_arg1)
          ∧ r.2.mem ((c.tc : Thread Cert.ReferenceDhIdeal.nD Cert.ReferenceDhIdeal.τ).loc Cert.ReferenceDhIdeal.main_arg2) = m' ((c.tc : Thread Cert.ReferenceDhIdeal.nD Cert.ReferenceDhIdeal.τ).loc Cert.ReferenceDhIdeal.main_arg2)
          ∧ r.2.mem ((c.tc : Thread Cert.ReferenceDhIdeal.nD Cert.ReferenceDhIdeal.τ).loc Cert.ReferenceDhIdeal.main_arg3) = m' ((c.tc : Thread Cert.ReferenceDhIdeal.nD Cert.ReferenceDhIdeal.τ).loc Cert.ReferenceDhIdeal.main_arg3)
          ∧ r.2.mem ((c.tc : Thread Cert.ReferenceDhIdeal.nD Cert.ReferenceDhIdeal.τ).loc Cert.ReferenceDhIdeal.main_arg4) = m' ((c.tc : Thread Cert.ReferenceDhIdeal.nD Cert.ReferenceDhIdeal.τ).loc Cert.ReferenceDhIdeal.main_arg4))

def preserves_KernelBrC2_KernelBrC2Ideal : Prop :=
  True

def algebraic_KernelBrC2Ideal_ReferenceBrC2Ideal_pre_finite_brc2 [hKernelBrC2Ideal : Cert.KernelBrC2Ideal.Facts] [hReferenceBrC2Ideal : Cert.ReferenceBrC2Ideal.Facts] [hPre_finite_brc2 : Cert.Pre_finite_brc2.Facts] : Prop :=
  ∀ (m : (ℓ : Loc Cert.KernelBrC2Ideal.nD Cert.KernelBrC2Ideal.τ Cert.KernelBrC2Ideal.sig) → Buf (Elt Ideal) ℓ) (g : Dev Cert.KernelBrC2Ideal.nD → PrngReg)
    (m' : (ℓ : Loc Cert.ReferenceBrC2Ideal.nD Cert.ReferenceBrC2Ideal.τ Cert.ReferenceBrC2Ideal.sig) → Buf (Elt Ideal) ℓ) (g' : Dev Cert.ReferenceBrC2Ideal.nD → PrngReg), Pre_KernelBrC2Ideal_finite_brc2 m →
    (∀ c : Dev Cert.KernelBrC2Ideal.nD,
      m' ((c.tc : Thread Cert.ReferenceBrC2Ideal.nD Cert.ReferenceBrC2Ideal.τ).loc Cert.ReferenceBrC2Ideal.main_arg0) = m ((c.tc : Thread Cert.KernelBrC2Ideal.nD Cert.KernelBrC2Ideal.τ).loc Cert.KernelBrC2Ideal.main_arg0)
      ∧ m' ((c.tc : Thread Cert.ReferenceBrC2Ideal.nD Cert.ReferenceBrC2Ideal.τ).loc Cert.ReferenceBrC2Ideal.main_arg1) = m ((c.tc : Thread Cert.KernelBrC2Ideal.nD Cert.KernelBrC2Ideal.τ).loc Cert.KernelBrC2Ideal.main_arg1)
      ∧ m' ((c.tc : Thread Cert.ReferenceBrC2Ideal.nD Cert.ReferenceBrC2Ideal.τ).loc Cert.ReferenceBrC2Ideal.main_arg2) = m ((c.tc : Thread Cert.KernelBrC2Ideal.nD Cert.KernelBrC2Ideal.τ).loc Cert.KernelBrC2Ideal.main_arg2)
      ∧ m' ((c.tc : Thread Cert.ReferenceBrC2Ideal.nD Cert.ReferenceBrC2Ideal.τ).loc Cert.ReferenceBrC2Ideal.main_arg3) = m ((c.tc : Thread Cert.KernelBrC2Ideal.nD Cert.KernelBrC2Ideal.τ).loc Cert.KernelBrC2Ideal.main_arg3)
      ∧ m' ((c.tc : Thread Cert.ReferenceBrC2Ideal.nD Cert.ReferenceBrC2Ideal.τ).loc Cert.ReferenceBrC2Ideal.main_arg4) = m ((c.tc : Thread Cert.KernelBrC2Ideal.nD Cert.KernelBrC2Ideal.τ).loc Cert.KernelBrC2Ideal.main_arg4)
      ∧ m' ((c.tc : Thread Cert.ReferenceBrC2Ideal.nD Cert.ReferenceBrC2Ideal.τ).loc Cert.ReferenceBrC2Ideal.main_arg5) = m ((c.tc : Thread Cert.KernelBrC2Ideal.nD Cert.KernelBrC2Ideal.τ).loc Cert.KernelBrC2Ideal.main_arg5)
      ∧ m' ((c.tc : Thread Cert.ReferenceBrC2Ideal.nD Cert.ReferenceBrC2Ideal.τ).loc Cert.ReferenceBrC2Ideal.main_arg6) = m ((c.tc : Thread Cert.KernelBrC2Ideal.nD Cert.KernelBrC2Ideal.τ).loc Cert.KernelBrC2Ideal.main_arg6)) →
    ∃ (v0 : (c : Dev Cert.KernelBrC2Ideal.nD) → Buf (Elt Ideal) ((c.tc : Thread Cert.KernelBrC2Ideal.nD Cert.KernelBrC2Ideal.τ).loc Cert.KernelBrC2Ideal.main_v8_0)) (v1 : (c : Dev Cert.KernelBrC2Ideal.nD) → Buf (Elt Ideal) ((c.tc : Thread Cert.KernelBrC2Ideal.nD Cert.KernelBrC2Ideal.τ).loc Cert.KernelBrC2Ideal.main_v8_1)) (v2 : (c : Dev Cert.KernelBrC2Ideal.nD) → Buf (Elt Ideal) ((c.tc : Thread Cert.KernelBrC2Ideal.nD Cert.KernelBrC2Ideal.τ).loc Cert.KernelBrC2Ideal.main_v8_2)) (v3 : (c : Dev Cert.KernelBrC2Ideal.nD) → Buf (Elt Ideal) ((c.tc : Thread Cert.KernelBrC2Ideal.nD Cert.KernelBrC2Ideal.τ).loc Cert.KernelBrC2Ideal.main_v8_3)) (v4 : (c : Dev Cert.KernelBrC2Ideal.nD) → Buf (Elt Ideal) ((c.tc : Thread Cert.KernelBrC2Ideal.nD Cert.KernelBrC2Ideal.τ).loc Cert.KernelBrC2Ideal.main_v8_4)),
      θ_run (Cert.KernelBrC2Ideal.defs (F := Ideal)) (onTc (τ := Cert.KernelBrC2Ideal.τ) (Cert.KernelBrC2Ideal.main (F := Ideal))) ⟨m, fun _ => 0, g⟩ (fun r => ∀ c : Dev Cert.KernelBrC2Ideal.nD,
          r.2.mem ((c.tc : Thread Cert.KernelBrC2Ideal.nD Cert.KernelBrC2Ideal.τ).loc Cert.KernelBrC2Ideal.main_v8_0) = v0 c
          ∧ r.2.mem ((c.tc : Thread Cert.KernelBrC2Ideal.nD Cert.KernelBrC2Ideal.τ).loc Cert.KernelBrC2Ideal.main_v8_1) = v1 c
          ∧ r.2.mem ((c.tc : Thread Cert.KernelBrC2Ideal.nD Cert.KernelBrC2Ideal.τ).loc Cert.KernelBrC2Ideal.main_v8_2) = v2 c
          ∧ r.2.mem ((c.tc : Thread Cert.KernelBrC2Ideal.nD Cert.KernelBrC2Ideal.τ).loc Cert.KernelBrC2Ideal.main_v8_3) = v3 c
          ∧ r.2.mem ((c.tc : Thread Cert.KernelBrC2Ideal.nD Cert.KernelBrC2Ideal.τ).loc Cert.KernelBrC2Ideal.main_v8_4) = v4 c
          ∧ r.2.mem ((c.tc : Thread Cert.KernelBrC2Ideal.nD Cert.KernelBrC2Ideal.τ).loc Cert.KernelBrC2Ideal.main_arg0) = m ((c.tc : Thread Cert.KernelBrC2Ideal.nD Cert.KernelBrC2Ideal.τ).loc Cert.KernelBrC2Ideal.main_arg0)
          ∧ r.2.mem ((c.tc : Thread Cert.KernelBrC2Ideal.nD Cert.KernelBrC2Ideal.τ).loc Cert.KernelBrC2Ideal.main_arg1) = m ((c.tc : Thread Cert.KernelBrC2Ideal.nD Cert.KernelBrC2Ideal.τ).loc Cert.KernelBrC2Ideal.main_arg1)
          ∧ r.2.mem ((c.tc : Thread Cert.KernelBrC2Ideal.nD Cert.KernelBrC2Ideal.τ).loc Cert.KernelBrC2Ideal.main_arg2) = m ((c.tc : Thread Cert.KernelBrC2Ideal.nD Cert.KernelBrC2Ideal.τ).loc Cert.KernelBrC2Ideal.main_arg2)
          ∧ r.2.mem ((c.tc : Thread Cert.KernelBrC2Ideal.nD Cert.KernelBrC2Ideal.τ).loc Cert.KernelBrC2Ideal.main_arg3) = m ((c.tc : Thread Cert.KernelBrC2Ideal.nD Cert.KernelBrC2Ideal.τ).loc Cert.KernelBrC2Ideal.main_arg3)
          ∧ r.2.mem ((c.tc : Thread Cert.KernelBrC2Ideal.nD Cert.KernelBrC2Ideal.τ).loc Cert.KernelBrC2Ideal.main_arg4) = m ((c.tc : Thread Cert.KernelBrC2Ideal.nD Cert.KernelBrC2Ideal.τ).loc Cert.KernelBrC2Ideal.main_arg4)
          ∧ r.2.mem ((c.tc : Thread Cert.KernelBrC2Ideal.nD Cert.KernelBrC2Ideal.τ).loc Cert.KernelBrC2Ideal.main_arg5) = m ((c.tc : Thread Cert.KernelBrC2Ideal.nD Cert.KernelBrC2Ideal.τ).loc Cert.KernelBrC2Ideal.main_arg5)
          ∧ r.2.mem ((c.tc : Thread Cert.KernelBrC2Ideal.nD Cert.KernelBrC2Ideal.τ).loc Cert.KernelBrC2Ideal.main_arg6) = m ((c.tc : Thread Cert.KernelBrC2Ideal.nD Cert.KernelBrC2Ideal.τ).loc Cert.KernelBrC2Ideal.main_arg6))
      ∧ θ_run (Cert.ReferenceBrC2Ideal.defs (F := Ideal)) (onTc (τ := Cert.ReferenceBrC2Ideal.τ) (Cert.ReferenceBrC2Ideal.main (F := Ideal))) ⟨m', fun _ => 0, g'⟩ (fun r => ∀ c : Dev Cert.ReferenceBrC2Ideal.nD,
          r.2.mem ((c.tc : Thread Cert.ReferenceBrC2Ideal.nD Cert.ReferenceBrC2Ideal.τ).loc Cert.ReferenceBrC2Ideal.main_v74) = v0 c
          ∧ r.2.mem ((c.tc : Thread Cert.ReferenceBrC2Ideal.nD Cert.ReferenceBrC2Ideal.τ).loc Cert.ReferenceBrC2Ideal.main_v75) = v1 c
          ∧ r.2.mem ((c.tc : Thread Cert.ReferenceBrC2Ideal.nD Cert.ReferenceBrC2Ideal.τ).loc Cert.ReferenceBrC2Ideal.main_v76) = v2 c
          ∧ r.2.mem ((c.tc : Thread Cert.ReferenceBrC2Ideal.nD Cert.ReferenceBrC2Ideal.τ).loc Cert.ReferenceBrC2Ideal.main_v77) = v3 c
          ∧ r.2.mem ((c.tc : Thread Cert.ReferenceBrC2Ideal.nD Cert.ReferenceBrC2Ideal.τ).loc Cert.ReferenceBrC2Ideal.main_v80) = v4 c
          ∧ r.2.mem ((c.tc : Thread Cert.ReferenceBrC2Ideal.nD Cert.ReferenceBrC2Ideal.τ).loc Cert.ReferenceBrC2Ideal.main_arg0) = m' ((c.tc : Thread Cert.ReferenceBrC2Ideal.nD Cert.ReferenceBrC2Ideal.τ).loc Cert.ReferenceBrC2Ideal.main_arg0)
          ∧ r.2.mem ((c.tc : Thread Cert.ReferenceBrC2Ideal.nD Cert.ReferenceBrC2Ideal.τ).loc Cert.ReferenceBrC2Ideal.main_arg1) = m' ((c.tc : Thread Cert.ReferenceBrC2Ideal.nD Cert.ReferenceBrC2Ideal.τ).loc Cert.ReferenceBrC2Ideal.main_arg1)
          ∧ r.2.mem ((c.tc : Thread Cert.ReferenceBrC2Ideal.nD Cert.ReferenceBrC2Ideal.τ).loc Cert.ReferenceBrC2Ideal.main_arg2) = m' ((c.tc : Thread Cert.ReferenceBrC2Ideal.nD Cert.ReferenceBrC2Ideal.τ).loc Cert.ReferenceBrC2Ideal.main_arg2)
          ∧ r.2.mem ((c.tc : Thread Cert.ReferenceBrC2Ideal.nD Cert.ReferenceBrC2Ideal.τ).loc Cert.ReferenceBrC2Ideal.main_arg3) = m' ((c.tc : Thread Cert.ReferenceBrC2Ideal.nD Cert.ReferenceBrC2Ideal.τ).loc Cert.ReferenceBrC2Ideal.main_arg3)
          ∧ r.2.mem ((c.tc : Thread Cert.ReferenceBrC2Ideal.nD Cert.ReferenceBrC2Ideal.τ).loc Cert.ReferenceBrC2Ideal.main_arg4) = m' ((c.tc : Thread Cert.ReferenceBrC2Ideal.nD Cert.ReferenceBrC2Ideal.τ).loc Cert.ReferenceBrC2Ideal.main_arg4)
          ∧ r.2.mem ((c.tc : Thread Cert.ReferenceBrC2Ideal.nD Cert.ReferenceBrC2Ideal.τ).loc Cert.ReferenceBrC2Ideal.main_arg5) = m' ((c.tc : Thread Cert.ReferenceBrC2Ideal.nD Cert.ReferenceBrC2Ideal.τ).loc Cert.ReferenceBrC2Ideal.main_arg5)
          ∧ r.2.mem ((c.tc : Thread Cert.ReferenceBrC2Ideal.nD Cert.ReferenceBrC2Ideal.τ).loc Cert.ReferenceBrC2Ideal.main_arg6) = m' ((c.tc : Thread Cert.ReferenceBrC2Ideal.nD Cert.ReferenceBrC2Ideal.τ).loc Cert.ReferenceBrC2Ideal.main_arg6))

def preserves_KernelQkv_KernelQkvIdeal : Prop :=
  True

def algebraic_KernelQkvIdeal_ReferenceQkvIdeal_pre_finite_qkv [hKernelQkvIdeal : Cert.KernelQkvIdeal.Facts] [hReferenceQkvIdeal : Cert.ReferenceQkvIdeal.Facts] [hPre_finite_qkv : Cert.Pre_finite_qkv.Facts] : Prop :=
  ∀ (m : (ℓ : Loc Cert.KernelQkvIdeal.nD Cert.KernelQkvIdeal.τ Cert.KernelQkvIdeal.sig) → Buf (Elt Ideal) ℓ) (g : Dev Cert.KernelQkvIdeal.nD → PrngReg)
    (m' : (ℓ : Loc Cert.ReferenceQkvIdeal.nD Cert.ReferenceQkvIdeal.τ Cert.ReferenceQkvIdeal.sig) → Buf (Elt Ideal) ℓ) (g' : Dev Cert.ReferenceQkvIdeal.nD → PrngReg), Pre_KernelQkvIdeal_finite_qkv m →
    (∀ c : Dev Cert.KernelQkvIdeal.nD,
      m' ((c.tc : Thread Cert.ReferenceQkvIdeal.nD Cert.ReferenceQkvIdeal.τ).loc Cert.ReferenceQkvIdeal.main_arg0) = m ((c.tc : Thread Cert.KernelQkvIdeal.nD Cert.KernelQkvIdeal.τ).loc Cert.KernelQkvIdeal.main_arg0)
      ∧ m' ((c.tc : Thread Cert.ReferenceQkvIdeal.nD Cert.ReferenceQkvIdeal.τ).loc Cert.ReferenceQkvIdeal.main_arg1) = m ((c.tc : Thread Cert.KernelQkvIdeal.nD Cert.KernelQkvIdeal.τ).loc Cert.KernelQkvIdeal.main_arg1)
      ∧ m' ((c.tc : Thread Cert.ReferenceQkvIdeal.nD Cert.ReferenceQkvIdeal.τ).loc Cert.ReferenceQkvIdeal.main_arg2) = m ((c.tc : Thread Cert.KernelQkvIdeal.nD Cert.KernelQkvIdeal.τ).loc Cert.KernelQkvIdeal.main_arg2)
      ∧ m' ((c.tc : Thread Cert.ReferenceQkvIdeal.nD Cert.ReferenceQkvIdeal.τ).loc Cert.ReferenceQkvIdeal.main_arg3) = m ((c.tc : Thread Cert.KernelQkvIdeal.nD Cert.KernelQkvIdeal.τ).loc Cert.KernelQkvIdeal.main_arg3)
      ∧ m' ((c.tc : Thread Cert.ReferenceQkvIdeal.nD Cert.ReferenceQkvIdeal.τ).loc Cert.ReferenceQkvIdeal.main_arg4) = m ((c.tc : Thread Cert.KernelQkvIdeal.nD Cert.KernelQkvIdeal.τ).loc Cert.KernelQkvIdeal.main_arg4)
      ∧ m' ((c.tc : Thread Cert.ReferenceQkvIdeal.nD Cert.ReferenceQkvIdeal.τ).loc Cert.ReferenceQkvIdeal.main_arg5) = m ((c.tc : Thread Cert.KernelQkvIdeal.nD Cert.KernelQkvIdeal.τ).loc Cert.KernelQkvIdeal.main_arg5)
      ∧ m' ((c.tc : Thread Cert.ReferenceQkvIdeal.nD Cert.ReferenceQkvIdeal.τ).loc Cert.ReferenceQkvIdeal.main_arg6) = m ((c.tc : Thread Cert.KernelQkvIdeal.nD Cert.KernelQkvIdeal.τ).loc Cert.KernelQkvIdeal.main_arg6)) →
    ∃ (v0 : (c : Dev Cert.KernelQkvIdeal.nD) → Buf (Elt Ideal) ((c.tc : Thread Cert.KernelQkvIdeal.nD Cert.KernelQkvIdeal.τ).loc Cert.KernelQkvIdeal.main_v39_0)) (v1 : (c : Dev Cert.KernelQkvIdeal.nD) → Buf (Elt Ideal) ((c.tc : Thread Cert.KernelQkvIdeal.nD Cert.KernelQkvIdeal.τ).loc Cert.KernelQkvIdeal.main_v39_1)) (v2 : (c : Dev Cert.KernelQkvIdeal.nD) → Buf (Elt Ideal) ((c.tc : Thread Cert.KernelQkvIdeal.nD Cert.KernelQkvIdeal.τ).loc Cert.KernelQkvIdeal.main_v39_2)),
      θ_run (Cert.KernelQkvIdeal.defs (F := Ideal)) (onTc (τ := Cert.KernelQkvIdeal.τ) (Cert.KernelQkvIdeal.main (F := Ideal))) ⟨m, fun _ => 0, g⟩ (fun r => ∀ c : Dev Cert.KernelQkvIdeal.nD,
          r.2.mem ((c.tc : Thread Cert.KernelQkvIdeal.nD Cert.KernelQkvIdeal.τ).loc Cert.KernelQkvIdeal.main_v39_0) = v0 c
          ∧ r.2.mem ((c.tc : Thread Cert.KernelQkvIdeal.nD Cert.KernelQkvIdeal.τ).loc Cert.KernelQkvIdeal.main_v39_1) = v1 c
          ∧ r.2.mem ((c.tc : Thread Cert.KernelQkvIdeal.nD Cert.KernelQkvIdeal.τ).loc Cert.KernelQkvIdeal.main_v39_2) = v2 c
          ∧ r.2.mem ((c.tc : Thread Cert.KernelQkvIdeal.nD Cert.KernelQkvIdeal.τ).loc Cert.KernelQkvIdeal.main_arg0) = m ((c.tc : Thread Cert.KernelQkvIdeal.nD Cert.KernelQkvIdeal.τ).loc Cert.KernelQkvIdeal.main_arg0)
          ∧ r.2.mem ((c.tc : Thread Cert.KernelQkvIdeal.nD Cert.KernelQkvIdeal.τ).loc Cert.KernelQkvIdeal.main_arg1) = m ((c.tc : Thread Cert.KernelQkvIdeal.nD Cert.KernelQkvIdeal.τ).loc Cert.KernelQkvIdeal.main_arg1)
          ∧ r.2.mem ((c.tc : Thread Cert.KernelQkvIdeal.nD Cert.KernelQkvIdeal.τ).loc Cert.KernelQkvIdeal.main_arg2) = m ((c.tc : Thread Cert.KernelQkvIdeal.nD Cert.KernelQkvIdeal.τ).loc Cert.KernelQkvIdeal.main_arg2)
          ∧ r.2.mem ((c.tc : Thread Cert.KernelQkvIdeal.nD Cert.KernelQkvIdeal.τ).loc Cert.KernelQkvIdeal.main_arg3) = m ((c.tc : Thread Cert.KernelQkvIdeal.nD Cert.KernelQkvIdeal.τ).loc Cert.KernelQkvIdeal.main_arg3)
          ∧ r.2.mem ((c.tc : Thread Cert.KernelQkvIdeal.nD Cert.KernelQkvIdeal.τ).loc Cert.KernelQkvIdeal.main_arg4) = m ((c.tc : Thread Cert.KernelQkvIdeal.nD Cert.KernelQkvIdeal.τ).loc Cert.KernelQkvIdeal.main_arg4)
          ∧ r.2.mem ((c.tc : Thread Cert.KernelQkvIdeal.nD Cert.KernelQkvIdeal.τ).loc Cert.KernelQkvIdeal.main_arg5) = m ((c.tc : Thread Cert.KernelQkvIdeal.nD Cert.KernelQkvIdeal.τ).loc Cert.KernelQkvIdeal.main_arg5)
          ∧ r.2.mem ((c.tc : Thread Cert.KernelQkvIdeal.nD Cert.KernelQkvIdeal.τ).loc Cert.KernelQkvIdeal.main_arg6) = m ((c.tc : Thread Cert.KernelQkvIdeal.nD Cert.KernelQkvIdeal.τ).loc Cert.KernelQkvIdeal.main_arg6))
      ∧ θ_run (Cert.ReferenceQkvIdeal.defs (F := Ideal)) (onTc (τ := Cert.ReferenceQkvIdeal.τ) (Cert.ReferenceQkvIdeal.main (F := Ideal))) ⟨m', fun _ => 0, g'⟩ (fun r => ∀ c : Dev Cert.ReferenceQkvIdeal.nD,
          r.2.mem ((c.tc : Thread Cert.ReferenceQkvIdeal.nD Cert.ReferenceQkvIdeal.τ).loc Cert.ReferenceQkvIdeal.main_v196) = v0 c
          ∧ r.2.mem ((c.tc : Thread Cert.ReferenceQkvIdeal.nD Cert.ReferenceQkvIdeal.τ).loc Cert.ReferenceQkvIdeal.main_v197) = v1 c
          ∧ r.2.mem ((c.tc : Thread Cert.ReferenceQkvIdeal.nD Cert.ReferenceQkvIdeal.τ).loc Cert.ReferenceQkvIdeal.main_v200) = v2 c
          ∧ r.2.mem ((c.tc : Thread Cert.ReferenceQkvIdeal.nD Cert.ReferenceQkvIdeal.τ).loc Cert.ReferenceQkvIdeal.main_arg0) = m' ((c.tc : Thread Cert.ReferenceQkvIdeal.nD Cert.ReferenceQkvIdeal.τ).loc Cert.ReferenceQkvIdeal.main_arg0)
          ∧ r.2.mem ((c.tc : Thread Cert.ReferenceQkvIdeal.nD Cert.ReferenceQkvIdeal.τ).loc Cert.ReferenceQkvIdeal.main_arg1) = m' ((c.tc : Thread Cert.ReferenceQkvIdeal.nD Cert.ReferenceQkvIdeal.τ).loc Cert.ReferenceQkvIdeal.main_arg1)
          ∧ r.2.mem ((c.tc : Thread Cert.ReferenceQkvIdeal.nD Cert.ReferenceQkvIdeal.τ).loc Cert.ReferenceQkvIdeal.main_arg2) = m' ((c.tc : Thread Cert.ReferenceQkvIdeal.nD Cert.ReferenceQkvIdeal.τ).loc Cert.ReferenceQkvIdeal.main_arg2)
          ∧ r.2.mem ((c.tc : Thread Cert.ReferenceQkvIdeal.nD Cert.ReferenceQkvIdeal.τ).loc Cert.ReferenceQkvIdeal.main_arg3) = m' ((c.tc : Thread Cert.ReferenceQkvIdeal.nD Cert.ReferenceQkvIdeal.τ).loc Cert.ReferenceQkvIdeal.main_arg3)
          ∧ r.2.mem ((c.tc : Thread Cert.ReferenceQkvIdeal.nD Cert.ReferenceQkvIdeal.τ).loc Cert.ReferenceQkvIdeal.main_arg4) = m' ((c.tc : Thread Cert.ReferenceQkvIdeal.nD Cert.ReferenceQkvIdeal.τ).loc Cert.ReferenceQkvIdeal.main_arg4)
          ∧ r.2.mem ((c.tc : Thread Cert.ReferenceQkvIdeal.nD Cert.ReferenceQkvIdeal.τ).loc Cert.ReferenceQkvIdeal.main_arg5) = m' ((c.tc : Thread Cert.ReferenceQkvIdeal.nD Cert.ReferenceQkvIdeal.τ).loc Cert.ReferenceQkvIdeal.main_arg5)
          ∧ r.2.mem ((c.tc : Thread Cert.ReferenceQkvIdeal.nD Cert.ReferenceQkvIdeal.τ).loc Cert.ReferenceQkvIdeal.main_arg6) = m' ((c.tc : Thread Cert.ReferenceQkvIdeal.nD Cert.ReferenceQkvIdeal.τ).loc Cert.ReferenceQkvIdeal.main_arg6))

def preserves_KernelBrC2F_KernelBrC2FIdeal : Prop :=
  True

def algebraic_KernelBrC2FIdeal_ReferenceBrC2FIdeal [hKernelBrC2FIdeal : Cert.KernelBrC2FIdeal.Facts] [hReferenceBrC2FIdeal : Cert.ReferenceBrC2FIdeal.Facts] : Prop :=
  ∀ (m : (ℓ : Loc Cert.KernelBrC2FIdeal.nD Cert.KernelBrC2FIdeal.τ Cert.KernelBrC2FIdeal.sig) → Buf (Elt Ideal) ℓ) (g : Dev Cert.KernelBrC2FIdeal.nD → PrngReg)
    (m' : (ℓ : Loc Cert.ReferenceBrC2FIdeal.nD Cert.ReferenceBrC2FIdeal.τ Cert.ReferenceBrC2FIdeal.sig) → Buf (Elt Ideal) ℓ) (g' : Dev Cert.ReferenceBrC2FIdeal.nD → PrngReg), Pre_KernelBrC2FIdeal m →
    (∀ c : Dev Cert.KernelBrC2FIdeal.nD,
      m' ((c.tc : Thread Cert.ReferenceBrC2FIdeal.nD Cert.ReferenceBrC2FIdeal.τ).loc Cert.ReferenceBrC2FIdeal.main_arg0) = m ((c.tc : Thread Cert.KernelBrC2FIdeal.nD Cert.KernelBrC2FIdeal.τ).loc Cert.KernelBrC2FIdeal.main_arg0)
      ∧ m' ((c.tc : Thread Cert.ReferenceBrC2FIdeal.nD Cert.ReferenceBrC2FIdeal.τ).loc Cert.ReferenceBrC2FIdeal.main_arg1) = m ((c.tc : Thread Cert.KernelBrC2FIdeal.nD Cert.KernelBrC2FIdeal.τ).loc Cert.KernelBrC2FIdeal.main_arg1)
      ∧ m' ((c.tc : Thread Cert.ReferenceBrC2FIdeal.nD Cert.ReferenceBrC2FIdeal.τ).loc Cert.ReferenceBrC2FIdeal.main_arg2) = m ((c.tc : Thread Cert.KernelBrC2FIdeal.nD Cert.KernelBrC2FIdeal.τ).loc Cert.KernelBrC2FIdeal.main_arg2)
      ∧ m' ((c.tc : Thread Cert.ReferenceBrC2FIdeal.nD Cert.ReferenceBrC2FIdeal.τ).loc Cert.ReferenceBrC2FIdeal.main_arg3) = m ((c.tc : Thread Cert.KernelBrC2FIdeal.nD Cert.KernelBrC2FIdeal.τ).loc Cert.KernelBrC2FIdeal.main_arg3)) →
    ∃ (v0 : (c : Dev Cert.KernelBrC2FIdeal.nD) → Buf (Elt Ideal) ((c.tc : Thread Cert.KernelBrC2FIdeal.nD Cert.KernelBrC2FIdeal.τ).loc Cert.KernelBrC2FIdeal.main_v4)),
      θ_run (Cert.KernelBrC2FIdeal.defs (F := Ideal)) (onTc (τ := Cert.KernelBrC2FIdeal.τ) (Cert.KernelBrC2FIdeal.main (F := Ideal))) ⟨m, fun _ => 0, g⟩ (fun r => ∀ c : Dev Cert.KernelBrC2FIdeal.nD,
          r.2.mem ((c.tc : Thread Cert.KernelBrC2FIdeal.nD Cert.KernelBrC2FIdeal.τ).loc Cert.KernelBrC2FIdeal.main_v4) = v0 c
          ∧ r.2.mem ((c.tc : Thread Cert.KernelBrC2FIdeal.nD Cert.KernelBrC2FIdeal.τ).loc Cert.KernelBrC2FIdeal.main_arg0) = m ((c.tc : Thread Cert.KernelBrC2FIdeal.nD Cert.KernelBrC2FIdeal.τ).loc Cert.KernelBrC2FIdeal.main_arg0)
          ∧ r.2.mem ((c.tc : Thread Cert.KernelBrC2FIdeal.nD Cert.KernelBrC2FIdeal.τ).loc Cert.KernelBrC2FIdeal.main_arg1) = m ((c.tc : Thread Cert.KernelBrC2FIdeal.nD Cert.KernelBrC2FIdeal.τ).loc Cert.KernelBrC2FIdeal.main_arg1)
          ∧ r.2.mem ((c.tc : Thread Cert.KernelBrC2FIdeal.nD Cert.KernelBrC2FIdeal.τ).loc Cert.KernelBrC2FIdeal.main_arg2) = m ((c.tc : Thread Cert.KernelBrC2FIdeal.nD Cert.KernelBrC2FIdeal.τ).loc Cert.KernelBrC2FIdeal.main_arg2)
          ∧ r.2.mem ((c.tc : Thread Cert.KernelBrC2FIdeal.nD Cert.KernelBrC2FIdeal.τ).loc Cert.KernelBrC2FIdeal.main_arg3) = m ((c.tc : Thread Cert.KernelBrC2FIdeal.nD Cert.KernelBrC2FIdeal.τ).loc Cert.KernelBrC2FIdeal.main_arg3))
      ∧ θ_run (Cert.ReferenceBrC2FIdeal.defs (F := Ideal)) (onTc (τ := Cert.ReferenceBrC2FIdeal.τ) (Cert.ReferenceBrC2FIdeal.main (F := Ideal))) ⟨m', fun _ => 0, g'⟩ (fun r => ∀ c : Dev Cert.ReferenceBrC2FIdeal.nD,
          r.2.mem ((c.tc : Thread Cert.ReferenceBrC2FIdeal.nD Cert.ReferenceBrC2FIdeal.τ).loc Cert.ReferenceBrC2FIdeal.main_v27) = v0 c
          ∧ r.2.mem ((c.tc : Thread Cert.ReferenceBrC2FIdeal.nD Cert.ReferenceBrC2FIdeal.τ).loc Cert.ReferenceBrC2FIdeal.main_arg0) = m' ((c.tc : Thread Cert.ReferenceBrC2FIdeal.nD Cert.ReferenceBrC2FIdeal.τ).loc Cert.ReferenceBrC2FIdeal.main_arg0)
          ∧ r.2.mem ((c.tc : Thread Cert.ReferenceBrC2FIdeal.nD Cert.ReferenceBrC2FIdeal.τ).loc Cert.ReferenceBrC2FIdeal.main_arg1) = m' ((c.tc : Thread Cert.ReferenceBrC2FIdeal.nD Cert.ReferenceBrC2FIdeal.τ).loc Cert.ReferenceBrC2FIdeal.main_arg1)
          ∧ r.2.mem ((c.tc : Thread Cert.ReferenceBrC2FIdeal.nD Cert.ReferenceBrC2FIdeal.τ).loc Cert.ReferenceBrC2FIdeal.main_arg2) = m' ((c.tc : Thread Cert.ReferenceBrC2FIdeal.nD Cert.ReferenceBrC2FIdeal.τ).loc Cert.ReferenceBrC2FIdeal.main_arg2)
          ∧ r.2.mem ((c.tc : Thread Cert.ReferenceBrC2FIdeal.nD Cert.ReferenceBrC2FIdeal.τ).loc Cert.ReferenceBrC2FIdeal.main_arg3) = m' ((c.tc : Thread Cert.ReferenceBrC2FIdeal.nD Cert.ReferenceBrC2FIdeal.τ).loc Cert.ReferenceBrC2FIdeal.main_arg3))

def preserves_KernelMergeF_KernelMergeFIdeal : Prop :=
  True

def algebraic_KernelMergeFIdeal_ReferenceMergeFIdeal [hKernelMergeFIdeal : Cert.KernelMergeFIdeal.Facts] [hReferenceMergeFIdeal : Cert.ReferenceMergeFIdeal.Facts] : Prop :=
  ∀ (m : (ℓ : Loc Cert.KernelMergeFIdeal.nD Cert.KernelMergeFIdeal.τ Cert.KernelMergeFIdeal.sig) → Buf (Elt Ideal) ℓ) (g : Dev Cert.KernelMergeFIdeal.nD → PrngReg)
    (m' : (ℓ : Loc Cert.ReferenceMergeFIdeal.nD Cert.ReferenceMergeFIdeal.τ Cert.ReferenceMergeFIdeal.sig) → Buf (Elt Ideal) ℓ) (g' : Dev Cert.ReferenceMergeFIdeal.nD → PrngReg), Pre_KernelMergeFIdeal m →
    (∀ c : Dev Cert.KernelMergeFIdeal.nD,
      m' ((c.tc : Thread Cert.ReferenceMergeFIdeal.nD Cert.ReferenceMergeFIdeal.τ).loc Cert.ReferenceMergeFIdeal.main_arg0) = m ((c.tc : Thread Cert.KernelMergeFIdeal.nD Cert.KernelMergeFIdeal.τ).loc Cert.KernelMergeFIdeal.main_arg0)
      ∧ m' ((c.tc : Thread Cert.ReferenceMergeFIdeal.nD Cert.ReferenceMergeFIdeal.τ).loc Cert.ReferenceMergeFIdeal.main_arg1) = m ((c.tc : Thread Cert.KernelMergeFIdeal.nD Cert.KernelMergeFIdeal.τ).loc Cert.KernelMergeFIdeal.main_arg1)
      ∧ m' ((c.tc : Thread Cert.ReferenceMergeFIdeal.nD Cert.ReferenceMergeFIdeal.τ).loc Cert.ReferenceMergeFIdeal.main_arg2) = m ((c.tc : Thread Cert.KernelMergeFIdeal.nD Cert.KernelMergeFIdeal.τ).loc Cert.KernelMergeFIdeal.main_arg2)
      ∧ m' ((c.tc : Thread Cert.ReferenceMergeFIdeal.nD Cert.ReferenceMergeFIdeal.τ).loc Cert.ReferenceMergeFIdeal.main_arg3) = m ((c.tc : Thread Cert.KernelMergeFIdeal.nD Cert.KernelMergeFIdeal.τ).loc Cert.KernelMergeFIdeal.main_arg3)
      ∧ m' ((c.tc : Thread Cert.ReferenceMergeFIdeal.nD Cert.ReferenceMergeFIdeal.τ).loc Cert.ReferenceMergeFIdeal.main_arg4) = m ((c.tc : Thread Cert.KernelMergeFIdeal.nD Cert.KernelMergeFIdeal.τ).loc Cert.KernelMergeFIdeal.main_arg4)
      ∧ m' ((c.tc : Thread Cert.ReferenceMergeFIdeal.nD Cert.ReferenceMergeFIdeal.τ).loc Cert.ReferenceMergeFIdeal.main_arg5) = m ((c.tc : Thread Cert.KernelMergeFIdeal.nD Cert.KernelMergeFIdeal.τ).loc Cert.KernelMergeFIdeal.main_arg5)
      ∧ m' ((c.tc : Thread Cert.ReferenceMergeFIdeal.nD Cert.ReferenceMergeFIdeal.τ).loc Cert.ReferenceMergeFIdeal.main_arg6) = m ((c.tc : Thread Cert.KernelMergeFIdeal.nD Cert.KernelMergeFIdeal.τ).loc Cert.KernelMergeFIdeal.main_arg6)
      ∧ m' ((c.tc : Thread Cert.ReferenceMergeFIdeal.nD Cert.ReferenceMergeFIdeal.τ).loc Cert.ReferenceMergeFIdeal.main_arg7) = m ((c.tc : Thread Cert.KernelMergeFIdeal.nD Cert.KernelMergeFIdeal.τ).loc Cert.KernelMergeFIdeal.main_arg7)
      ∧ m' ((c.tc : Thread Cert.ReferenceMergeFIdeal.nD Cert.ReferenceMergeFIdeal.τ).loc Cert.ReferenceMergeFIdeal.main_arg8) = m ((c.tc : Thread Cert.KernelMergeFIdeal.nD Cert.KernelMergeFIdeal.τ).loc Cert.KernelMergeFIdeal.main_arg8)
      ∧ m' ((c.tc : Thread Cert.ReferenceMergeFIdeal.nD Cert.ReferenceMergeFIdeal.τ).loc Cert.ReferenceMergeFIdeal.main_arg9) = m ((c.tc : Thread Cert.KernelMergeFIdeal.nD Cert.KernelMergeFIdeal.τ).loc Cert.KernelMergeFIdeal.main_arg9)) →
    ∃ (v0 : (c : Dev Cert.KernelMergeFIdeal.nD) → Buf (Elt Ideal) ((c.tc : Thread Cert.KernelMergeFIdeal.nD Cert.KernelMergeFIdeal.τ).loc Cert.KernelMergeFIdeal.main_v19_0)) (v1 : (c : Dev Cert.KernelMergeFIdeal.nD) → Buf (Elt Ideal) ((c.tc : Thread Cert.KernelMergeFIdeal.nD Cert.KernelMergeFIdeal.τ).loc Cert.KernelMergeFIdeal.main_v19_1)) (v2 : (c : Dev Cert.KernelMergeFIdeal.nD) → Buf (Elt Ideal) ((c.tc : Thread Cert.KernelMergeFIdeal.nD Cert.KernelMergeFIdeal.τ).loc Cert.KernelMergeFIdeal.main_v19_2)) (v3 : (c : Dev Cert.KernelMergeFIdeal.nD) → Buf (Elt Ideal) ((c.tc : Thread Cert.KernelMergeFIdeal.nD Cert.KernelMergeFIdeal.τ).loc Cert.KernelMergeFIdeal.main_v19_3)) (v4 : (c : Dev Cert.KernelMergeFIdeal.nD) → Buf (Elt Ideal) ((c.tc : Thread Cert.KernelMergeFIdeal.nD Cert.KernelMergeFIdeal.τ).loc Cert.KernelMergeFIdeal.main_v19_4)) (v5 : (c : Dev Cert.KernelMergeFIdeal.nD) → Buf (Elt Ideal) ((c.tc : Thread Cert.KernelMergeFIdeal.nD Cert.KernelMergeFIdeal.τ).loc Cert.KernelMergeFIdeal.main_v19_5)),
      θ_run (Cert.KernelMergeFIdeal.defs (F := Ideal)) (onTc (τ := Cert.KernelMergeFIdeal.τ) (Cert.KernelMergeFIdeal.main (F := Ideal))) ⟨m, fun _ => 0, g⟩ (fun r => ∀ c : Dev Cert.KernelMergeFIdeal.nD,
          r.2.mem ((c.tc : Thread Cert.KernelMergeFIdeal.nD Cert.KernelMergeFIdeal.τ).loc Cert.KernelMergeFIdeal.main_v19_0) = v0 c
          ∧ r.2.mem ((c.tc : Thread Cert.KernelMergeFIdeal.nD Cert.KernelMergeFIdeal.τ).loc Cert.KernelMergeFIdeal.main_v19_1) = v1 c
          ∧ r.2.mem ((c.tc : Thread Cert.KernelMergeFIdeal.nD Cert.KernelMergeFIdeal.τ).loc Cert.KernelMergeFIdeal.main_v19_2) = v2 c
          ∧ r.2.mem ((c.tc : Thread Cert.KernelMergeFIdeal.nD Cert.KernelMergeFIdeal.τ).loc Cert.KernelMergeFIdeal.main_v19_3) = v3 c
          ∧ r.2.mem ((c.tc : Thread Cert.KernelMergeFIdeal.nD Cert.KernelMergeFIdeal.τ).loc Cert.KernelMergeFIdeal.main_v19_4) = v4 c
          ∧ r.2.mem ((c.tc : Thread Cert.KernelMergeFIdeal.nD Cert.KernelMergeFIdeal.τ).loc Cert.KernelMergeFIdeal.main_v19_5) = v5 c
          ∧ r.2.mem ((c.tc : Thread Cert.KernelMergeFIdeal.nD Cert.KernelMergeFIdeal.τ).loc Cert.KernelMergeFIdeal.main_arg0) = m ((c.tc : Thread Cert.KernelMergeFIdeal.nD Cert.KernelMergeFIdeal.τ).loc Cert.KernelMergeFIdeal.main_arg0)
          ∧ r.2.mem ((c.tc : Thread Cert.KernelMergeFIdeal.nD Cert.KernelMergeFIdeal.τ).loc Cert.KernelMergeFIdeal.main_arg1) = m ((c.tc : Thread Cert.KernelMergeFIdeal.nD Cert.KernelMergeFIdeal.τ).loc Cert.KernelMergeFIdeal.main_arg1)
          ∧ r.2.mem ((c.tc : Thread Cert.KernelMergeFIdeal.nD Cert.KernelMergeFIdeal.τ).loc Cert.KernelMergeFIdeal.main_arg2) = m ((c.tc : Thread Cert.KernelMergeFIdeal.nD Cert.KernelMergeFIdeal.τ).loc Cert.KernelMergeFIdeal.main_arg2)
          ∧ r.2.mem ((c.tc : Thread Cert.KernelMergeFIdeal.nD Cert.KernelMergeFIdeal.τ).loc Cert.KernelMergeFIdeal.main_arg3) = m ((c.tc : Thread Cert.KernelMergeFIdeal.nD Cert.KernelMergeFIdeal.τ).loc Cert.KernelMergeFIdeal.main_arg3)
          ∧ r.2.mem ((c.tc : Thread Cert.KernelMergeFIdeal.nD Cert.KernelMergeFIdeal.τ).loc Cert.KernelMergeFIdeal.main_arg4) = m ((c.tc : Thread Cert.KernelMergeFIdeal.nD Cert.KernelMergeFIdeal.τ).loc Cert.KernelMergeFIdeal.main_arg4)
          ∧ r.2.mem ((c.tc : Thread Cert.KernelMergeFIdeal.nD Cert.KernelMergeFIdeal.τ).loc Cert.KernelMergeFIdeal.main_arg5) = m ((c.tc : Thread Cert.KernelMergeFIdeal.nD Cert.KernelMergeFIdeal.τ).loc Cert.KernelMergeFIdeal.main_arg5)
          ∧ r.2.mem ((c.tc : Thread Cert.KernelMergeFIdeal.nD Cert.KernelMergeFIdeal.τ).loc Cert.KernelMergeFIdeal.main_arg6) = m ((c.tc : Thread Cert.KernelMergeFIdeal.nD Cert.KernelMergeFIdeal.τ).loc Cert.KernelMergeFIdeal.main_arg6)
          ∧ r.2.mem ((c.tc : Thread Cert.KernelMergeFIdeal.nD Cert.KernelMergeFIdeal.τ).loc Cert.KernelMergeFIdeal.main_arg7) = m ((c.tc : Thread Cert.KernelMergeFIdeal.nD Cert.KernelMergeFIdeal.τ).loc Cert.KernelMergeFIdeal.main_arg7)
          ∧ r.2.mem ((c.tc : Thread Cert.KernelMergeFIdeal.nD Cert.KernelMergeFIdeal.τ).loc Cert.KernelMergeFIdeal.main_arg8) = m ((c.tc : Thread Cert.KernelMergeFIdeal.nD Cert.KernelMergeFIdeal.τ).loc Cert.KernelMergeFIdeal.main_arg8)
          ∧ r.2.mem ((c.tc : Thread Cert.KernelMergeFIdeal.nD Cert.KernelMergeFIdeal.τ).loc Cert.KernelMergeFIdeal.main_arg9) = m ((c.tc : Thread Cert.KernelMergeFIdeal.nD Cert.KernelMergeFIdeal.τ).loc Cert.KernelMergeFIdeal.main_arg9))
      ∧ θ_run (Cert.ReferenceMergeFIdeal.defs (F := Ideal)) (onTc (τ := Cert.ReferenceMergeFIdeal.τ) (Cert.ReferenceMergeFIdeal.main (F := Ideal))) ⟨m', fun _ => 0, g'⟩ (fun r => ∀ c : Dev Cert.ReferenceMergeFIdeal.nD,
          r.2.mem ((c.tc : Thread Cert.ReferenceMergeFIdeal.nD Cert.ReferenceMergeFIdeal.τ).loc Cert.ReferenceMergeFIdeal.main_v45) = v0 c
          ∧ r.2.mem ((c.tc : Thread Cert.ReferenceMergeFIdeal.nD Cert.ReferenceMergeFIdeal.τ).loc Cert.ReferenceMergeFIdeal.main_v46) = v1 c
          ∧ r.2.mem ((c.tc : Thread Cert.ReferenceMergeFIdeal.nD Cert.ReferenceMergeFIdeal.τ).loc Cert.ReferenceMergeFIdeal.main_v47) = v2 c
          ∧ r.2.mem ((c.tc : Thread Cert.ReferenceMergeFIdeal.nD Cert.ReferenceMergeFIdeal.τ).loc Cert.ReferenceMergeFIdeal.main_v49) = v3 c
          ∧ r.2.mem ((c.tc : Thread Cert.ReferenceMergeFIdeal.nD Cert.ReferenceMergeFIdeal.τ).loc Cert.ReferenceMergeFIdeal.main_v50) = v4 c
          ∧ r.2.mem ((c.tc : Thread Cert.ReferenceMergeFIdeal.nD Cert.ReferenceMergeFIdeal.τ).loc Cert.ReferenceMergeFIdeal.main_v51) = v5 c
          ∧ r.2.mem ((c.tc : Thread Cert.ReferenceMergeFIdeal.nD Cert.ReferenceMergeFIdeal.τ).loc Cert.ReferenceMergeFIdeal.main_arg0) = m' ((c.tc : Thread Cert.ReferenceMergeFIdeal.nD Cert.ReferenceMergeFIdeal.τ).loc Cert.ReferenceMergeFIdeal.main_arg0)
          ∧ r.2.mem ((c.tc : Thread Cert.ReferenceMergeFIdeal.nD Cert.ReferenceMergeFIdeal.τ).loc Cert.ReferenceMergeFIdeal.main_arg1) = m' ((c.tc : Thread Cert.ReferenceMergeFIdeal.nD Cert.ReferenceMergeFIdeal.τ).loc Cert.ReferenceMergeFIdeal.main_arg1)
          ∧ r.2.mem ((c.tc : Thread Cert.ReferenceMergeFIdeal.nD Cert.ReferenceMergeFIdeal.τ).loc Cert.ReferenceMergeFIdeal.main_arg2) = m' ((c.tc : Thread Cert.ReferenceMergeFIdeal.nD Cert.ReferenceMergeFIdeal.τ).loc Cert.ReferenceMergeFIdeal.main_arg2)
          ∧ r.2.mem ((c.tc : Thread Cert.ReferenceMergeFIdeal.nD Cert.ReferenceMergeFIdeal.τ).loc Cert.ReferenceMergeFIdeal.main_arg3) = m' ((c.tc : Thread Cert.ReferenceMergeFIdeal.nD Cert.ReferenceMergeFIdeal.τ).loc Cert.ReferenceMergeFIdeal.main_arg3)
          ∧ r.2.mem ((c.tc : Thread Cert.ReferenceMergeFIdeal.nD Cert.ReferenceMergeFIdeal.τ).loc Cert.ReferenceMergeFIdeal.main_arg4) = m' ((c.tc : Thread Cert.ReferenceMergeFIdeal.nD Cert.ReferenceMergeFIdeal.τ).loc Cert.ReferenceMergeFIdeal.main_arg4)
          ∧ r.2.mem ((c.tc : Thread Cert.ReferenceMergeFIdeal.nD Cert.ReferenceMergeFIdeal.τ).loc Cert.ReferenceMergeFIdeal.main_arg5) = m' ((c.tc : Thread Cert.ReferenceMergeFIdeal.nD Cert.ReferenceMergeFIdeal.τ).loc Cert.ReferenceMergeFIdeal.main_arg5)
          ∧ r.2.mem ((c.tc : Thread Cert.ReferenceMergeFIdeal.nD Cert.ReferenceMergeFIdeal.τ).loc Cert.ReferenceMergeFIdeal.main_arg6) = m' ((c.tc : Thread Cert.ReferenceMergeFIdeal.nD Cert.ReferenceMergeFIdeal.τ).loc Cert.ReferenceMergeFIdeal.main_arg6)
          ∧ r.2.mem ((c.tc : Thread Cert.ReferenceMergeFIdeal.nD Cert.ReferenceMergeFIdeal.τ).loc Cert.ReferenceMergeFIdeal.main_arg7) = m' ((c.tc : Thread Cert.ReferenceMergeFIdeal.nD Cert.ReferenceMergeFIdeal.τ).loc Cert.ReferenceMergeFIdeal.main_arg7)
          ∧ r.2.mem ((c.tc : Thread Cert.ReferenceMergeFIdeal.nD Cert.ReferenceMergeFIdeal.τ).loc Cert.ReferenceMergeFIdeal.main_arg8) = m' ((c.tc : Thread Cert.ReferenceMergeFIdeal.nD Cert.ReferenceMergeFIdeal.τ).loc Cert.ReferenceMergeFIdeal.main_arg8)
          ∧ r.2.mem ((c.tc : Thread Cert.ReferenceMergeFIdeal.nD Cert.ReferenceMergeFIdeal.τ).loc Cert.ReferenceMergeFIdeal.main_arg9) = m' ((c.tc : Thread Cert.ReferenceMergeFIdeal.nD Cert.ReferenceMergeFIdeal.τ).loc Cert.ReferenceMergeFIdeal.main_arg9))

def preserves_KernelDw_KernelDwIdeal : Prop :=
  True

def algebraic_KernelDwIdeal_ReferenceDwIdeal [hKernelDwIdeal : Cert.KernelDwIdeal.Facts] [hReferenceDwIdeal : Cert.ReferenceDwIdeal.Facts] : Prop :=
  ∀ (m : (ℓ : Loc Cert.KernelDwIdeal.nD Cert.KernelDwIdeal.τ Cert.KernelDwIdeal.sig) → Buf (Elt Ideal) ℓ) (g : Dev Cert.KernelDwIdeal.nD → PrngReg)
    (m' : (ℓ : Loc Cert.ReferenceDwIdeal.nD Cert.ReferenceDwIdeal.τ Cert.ReferenceDwIdeal.sig) → Buf (Elt Ideal) ℓ) (g' : Dev Cert.ReferenceDwIdeal.nD → PrngReg), Pre_KernelDwIdeal m →
    (∀ c : Dev Cert.KernelDwIdeal.nD,
      m' ((c.tc : Thread Cert.ReferenceDwIdeal.nD Cert.ReferenceDwIdeal.τ).loc Cert.ReferenceDwIdeal.main_arg0) = m ((c.tc : Thread Cert.KernelDwIdeal.nD Cert.KernelDwIdeal.τ).loc Cert.KernelDwIdeal.main_arg0)
      ∧ m' ((c.tc : Thread Cert.ReferenceDwIdeal.nD Cert.ReferenceDwIdeal.τ).loc Cert.ReferenceDwIdeal.main_arg1) = m ((c.tc : Thread Cert.KernelDwIdeal.nD Cert.KernelDwIdeal.τ).loc Cert.KernelDwIdeal.main_arg1)) →
    ∃ (v0 : (c : Dev Cert.KernelDwIdeal.nD) → Buf (Elt Ideal) ((c.tc : Thread Cert.KernelDwIdeal.nD Cert.KernelDwIdeal.τ).loc Cert.KernelDwIdeal.main_v4)),
      θ_run (Cert.KernelDwIdeal.defs (F := Ideal)) (onTc (τ := Cert.KernelDwIdeal.τ) (Cert.KernelDwIdeal.main (F := Ideal))) ⟨m, fun _ => 0, g⟩ (fun r => ∀ c : Dev Cert.KernelDwIdeal.nD,
          r.2.mem ((c.tc : Thread Cert.KernelDwIdeal.nD Cert.KernelDwIdeal.τ).loc Cert.KernelDwIdeal.main_v4) = v0 c
          ∧ r.2.mem ((c.tc : Thread Cert.KernelDwIdeal.nD Cert.KernelDwIdeal.τ).loc Cert.KernelDwIdeal.main_arg0) = m ((c.tc : Thread Cert.KernelDwIdeal.nD Cert.KernelDwIdeal.τ).loc Cert.KernelDwIdeal.main_arg0)
          ∧ r.2.mem ((c.tc : Thread Cert.KernelDwIdeal.nD Cert.KernelDwIdeal.τ).loc Cert.KernelDwIdeal.main_arg1) = m ((c.tc : Thread Cert.KernelDwIdeal.nD Cert.KernelDwIdeal.τ).loc Cert.KernelDwIdeal.main_arg1))
      ∧ θ_run (Cert.ReferenceDwIdeal.defs (F := Ideal)) (onTc (τ := Cert.ReferenceDwIdeal.τ) (Cert.ReferenceDwIdeal.main (F := Ideal))) ⟨m', fun _ => 0, g'⟩ (fun r => ∀ c : Dev Cert.ReferenceDwIdeal.nD,
          r.2.mem ((c.tc : Thread Cert.ReferenceDwIdeal.nD Cert.ReferenceDwIdeal.τ).loc Cert.ReferenceDwIdeal.main_v7) = v0 c
          ∧ r.2.mem ((c.tc : Thread Cert.ReferenceDwIdeal.nD Cert.ReferenceDwIdeal.τ).loc Cert.ReferenceDwIdeal.main_arg0) = m' ((c.tc : Thread Cert.ReferenceDwIdeal.nD Cert.ReferenceDwIdeal.τ).loc Cert.ReferenceDwIdeal.main_arg0)
          ∧ r.2.mem ((c.tc : Thread Cert.ReferenceDwIdeal.nD Cert.ReferenceDwIdeal.τ).loc Cert.ReferenceDwIdeal.main_arg1) = m' ((c.tc : Thread Cert.ReferenceDwIdeal.nD Cert.ReferenceDwIdeal.τ).loc Cert.ReferenceDwIdeal.main_arg1))

def preserves_KernelTn_KernelTnIdeal : Prop :=
  True

def algebraic_KernelTnIdeal_ReferenceTnIdeal [hKernelTnIdeal : Cert.KernelTnIdeal.Facts] [hReferenceTnIdeal : Cert.ReferenceTnIdeal.Facts] : Prop :=
  ∀ (m : (ℓ : Loc Cert.KernelTnIdeal.nD Cert.KernelTnIdeal.τ Cert.KernelTnIdeal.sig) → Buf (Elt Ideal) ℓ) (g : Dev Cert.KernelTnIdeal.nD → PrngReg)
    (m' : (ℓ : Loc Cert.ReferenceTnIdeal.nD Cert.ReferenceTnIdeal.τ Cert.ReferenceTnIdeal.sig) → Buf (Elt Ideal) ℓ) (g' : Dev Cert.ReferenceTnIdeal.nD → PrngReg), Pre_KernelTnIdeal m →
    (∀ c : Dev Cert.KernelTnIdeal.nD,
      m' ((c.tc : Thread Cert.ReferenceTnIdeal.nD Cert.ReferenceTnIdeal.τ).loc Cert.ReferenceTnIdeal.main_arg0) = m ((c.tc : Thread Cert.KernelTnIdeal.nD Cert.KernelTnIdeal.τ).loc Cert.KernelTnIdeal.main_arg0)
      ∧ m' ((c.tc : Thread Cert.ReferenceTnIdeal.nD Cert.ReferenceTnIdeal.τ).loc Cert.ReferenceTnIdeal.main_arg1) = m ((c.tc : Thread Cert.KernelTnIdeal.nD Cert.KernelTnIdeal.τ).loc Cert.KernelTnIdeal.main_arg1)) →
    ∃ (v0 : (c : Dev Cert.KernelTnIdeal.nD) → Buf (Elt Ideal) ((c.tc : Thread Cert.KernelTnIdeal.nD Cert.KernelTnIdeal.τ).loc Cert.KernelTnIdeal.main_v4)),
      θ_run (Cert.KernelTnIdeal.defs (F := Ideal)) (onTc (τ := Cert.KernelTnIdeal.τ) (Cert.KernelTnIdeal.main (F := Ideal))) ⟨m, fun _ => 0, g⟩ (fun r => ∀ c : Dev Cert.KernelTnIdeal.nD,
          r.2.mem ((c.tc : Thread Cert.KernelTnIdeal.nD Cert.KernelTnIdeal.τ).loc Cert.KernelTnIdeal.main_v4) = v0 c
          ∧ r.2.mem ((c.tc : Thread Cert.KernelTnIdeal.nD Cert.KernelTnIdeal.τ).loc Cert.KernelTnIdeal.main_arg0) = m ((c.tc : Thread Cert.KernelTnIdeal.nD Cert.KernelTnIdeal.τ).loc Cert.KernelTnIdeal.main_arg0)
          ∧ r.2.mem ((c.tc : Thread Cert.KernelTnIdeal.nD Cert.KernelTnIdeal.τ).loc Cert.KernelTnIdeal.main_arg1) = m ((c.tc : Thread Cert.KernelTnIdeal.nD Cert.KernelTnIdeal.τ).loc Cert.KernelTnIdeal.main_arg1))
      ∧ θ_run (Cert.ReferenceTnIdeal.defs (F := Ideal)) (onTc (τ := Cert.ReferenceTnIdeal.τ) (Cert.ReferenceTnIdeal.main (F := Ideal))) ⟨m', fun _ => 0, g'⟩ (fun r => ∀ c : Dev Cert.ReferenceTnIdeal.nD,
          r.2.mem ((c.tc : Thread Cert.ReferenceTnIdeal.nD Cert.ReferenceTnIdeal.τ).loc Cert.ReferenceTnIdeal.main_v6) = v0 c
          ∧ r.2.mem ((c.tc : Thread Cert.ReferenceTnIdeal.nD Cert.ReferenceTnIdeal.τ).loc Cert.ReferenceTnIdeal.main_arg0) = m' ((c.tc : Thread Cert.ReferenceTnIdeal.nD Cert.ReferenceTnIdeal.τ).loc Cert.ReferenceTnIdeal.main_arg0)
          ∧ r.2.mem ((c.tc : Thread Cert.ReferenceTnIdeal.nD Cert.ReferenceTnIdeal.τ).loc Cert.ReferenceTnIdeal.main_arg1) = m' ((c.tc : Thread Cert.ReferenceTnIdeal.nD Cert.ReferenceTnIdeal.τ).loc Cert.ReferenceTnIdeal.main_arg1))

def Claim : Prop :=
  ∃ (hKernel : Cert.Kernel.Facts) (hKernelIdeal : Cert.KernelIdeal.Facts) (hReferenceIdeal : Cert.ReferenceIdeal.Facts) (hKernelAttn : Cert.KernelAttn.Facts) (hKernelAttnIdeal : Cert.KernelAttnIdeal.Facts) (hReferenceAttnIdeal : Cert.ReferenceAttnIdeal.Facts) (hKernelDh : Cert.KernelDh.Facts) (hKernelDhIdeal : Cert.KernelDhIdeal.Facts) (hReferenceDhIdeal : Cert.ReferenceDhIdeal.Facts) (hKernelBrC2 : Cert.KernelBrC2.Facts) (hKernelBrC2Ideal : Cert.KernelBrC2Ideal.Facts) (hReferenceBrC2Ideal : Cert.ReferenceBrC2Ideal.Facts) (hKernelQkv : Cert.KernelQkv.Facts) (hKernelQkvIdeal : Cert.KernelQkvIdeal.Facts) (hReferenceQkvIdeal : Cert.ReferenceQkvIdeal.Facts) (hKernelBrC2F : Cert.KernelBrC2F.Facts) (hKernelBrC2FIdeal : Cert.KernelBrC2FIdeal.Facts) (hReferenceBrC2FIdeal : Cert.ReferenceBrC2FIdeal.Facts) (hKernelMergeF : Cert.KernelMergeF.Facts) (hKernelMergeFIdeal : Cert.KernelMergeFIdeal.Facts) (hReferenceMergeFIdeal : Cert.ReferenceMergeFIdeal.Facts) (hKernelDw : Cert.KernelDw.Facts) (hKernelDwIdeal : Cert.KernelDwIdeal.Facts) (hReferenceDwIdeal : Cert.ReferenceDwIdeal.Facts) (hKernelTn : Cert.KernelTn.Facts) (hKernelTnIdeal : Cert.KernelTnIdeal.Facts) (hReferenceTnIdeal : Cert.ReferenceTnIdeal.Facts) (hPre_finite_attn : Cert.Pre_finite_attn.Facts) (hPre_finite_dh : Cert.Pre_finite_dh.Facts) (hPre_finite_brc2 : Cert.Pre_finite_brc2.Facts) (hPre_finite_qkv : Cert.Pre_finite_qkv.Facts),
    quiescent_Kernel (hKernel := hKernel)
    ∧ quiescent_KernelIdeal (hKernelIdeal := hKernelIdeal)
    ∧ quiescent_ReferenceIdeal (hReferenceIdeal := hReferenceIdeal)
    ∧ quiescent_KernelAttn (hKernelAttn := hKernelAttn)
    ∧ quiescent_KernelAttnIdeal (hKernelAttnIdeal := hKernelAttnIdeal)
    ∧ quiescent_KernelAttnIdeal_pre_finite_attn (hKernelAttnIdeal := hKernelAttnIdeal) (hPre_finite_attn := hPre_finite_attn)
    ∧ quiescent_ReferenceAttnIdeal (hReferenceAttnIdeal := hReferenceAttnIdeal)
    ∧ quiescent_ReferenceAttnIdeal_pre_finite_attn (hReferenceAttnIdeal := hReferenceAttnIdeal) (hPre_finite_attn := hPre_finite_attn)
    ∧ quiescent_KernelDh (hKernelDh := hKernelDh)
    ∧ quiescent_KernelDhIdeal (hKernelDhIdeal := hKernelDhIdeal)
    ∧ quiescent_KernelDhIdeal_pre_finite_dh (hKernelDhIdeal := hKernelDhIdeal) (hPre_finite_dh := hPre_finite_dh)
    ∧ quiescent_ReferenceDhIdeal (hReferenceDhIdeal := hReferenceDhIdeal)
    ∧ quiescent_ReferenceDhIdeal_pre_finite_dh (hReferenceDhIdeal := hReferenceDhIdeal) (hPre_finite_dh := hPre_finite_dh)
    ∧ quiescent_KernelBrC2 (hKernelBrC2 := hKernelBrC2)
    ∧ quiescent_KernelBrC2Ideal (hKernelBrC2Ideal := hKernelBrC2Ideal)
    ∧ quiescent_KernelBrC2Ideal_pre_finite_brc2 (hKernelBrC2Ideal := hKernelBrC2Ideal) (hPre_finite_brc2 := hPre_finite_brc2)
    ∧ quiescent_ReferenceBrC2Ideal (hReferenceBrC2Ideal := hReferenceBrC2Ideal)
    ∧ quiescent_ReferenceBrC2Ideal_pre_finite_brc2 (hReferenceBrC2Ideal := hReferenceBrC2Ideal) (hPre_finite_brc2 := hPre_finite_brc2)
    ∧ quiescent_KernelQkv (hKernelQkv := hKernelQkv)
    ∧ quiescent_KernelQkvIdeal (hKernelQkvIdeal := hKernelQkvIdeal)
    ∧ quiescent_KernelQkvIdeal_pre_finite_qkv (hKernelQkvIdeal := hKernelQkvIdeal) (hPre_finite_qkv := hPre_finite_qkv)
    ∧ quiescent_ReferenceQkvIdeal (hReferenceQkvIdeal := hReferenceQkvIdeal)
    ∧ quiescent_ReferenceQkvIdeal_pre_finite_qkv (hReferenceQkvIdeal := hReferenceQkvIdeal) (hPre_finite_qkv := hPre_finite_qkv)
    ∧ quiescent_KernelBrC2F (hKernelBrC2F := hKernelBrC2F)
    ∧ quiescent_KernelBrC2FIdeal (hKernelBrC2FIdeal := hKernelBrC2FIdeal)
    ∧ quiescent_ReferenceBrC2FIdeal (hReferenceBrC2FIdeal := hReferenceBrC2FIdeal)
    ∧ quiescent_KernelMergeF (hKernelMergeF := hKernelMergeF)
    ∧ quiescent_KernelMergeFIdeal (hKernelMergeFIdeal := hKernelMergeFIdeal)
    ∧ quiescent_ReferenceMergeFIdeal (hReferenceMergeFIdeal := hReferenceMergeFIdeal)
    ∧ quiescent_KernelDw (hKernelDw := hKernelDw)
    ∧ quiescent_KernelDwIdeal (hKernelDwIdeal := hKernelDwIdeal)
    ∧ quiescent_ReferenceDwIdeal (hReferenceDwIdeal := hReferenceDwIdeal)
    ∧ quiescent_KernelTn (hKernelTn := hKernelTn)
    ∧ quiescent_KernelTnIdeal (hKernelTnIdeal := hKernelTnIdeal)
    ∧ quiescent_ReferenceTnIdeal (hReferenceTnIdeal := hReferenceTnIdeal)
    ∧ preserves_Kernel_KernelIdeal
    ∧ algebraic_KernelIdeal_ReferenceIdeal (hKernelIdeal := hKernelIdeal) (hReferenceIdeal := hReferenceIdeal)
    ∧ preserves_KernelAttn_KernelAttnIdeal
    ∧ algebraic_KernelAttnIdeal_ReferenceAttnIdeal_pre_finite_attn (hKernelAttnIdeal := hKernelAttnIdeal) (hReferenceAttnIdeal := hReferenceAttnIdeal) (hPre_finite_attn := hPre_finite_attn)
    ∧ preserves_KernelDh_KernelDhIdeal
    ∧ algebraic_KernelDhIdeal_ReferenceDhIdeal_pre_finite_dh (hKernelDhIdeal := hKernelDhIdeal) (hReferenceDhIdeal := hReferenceDhIdeal) (hPre_finite_dh := hPre_finite_dh)
    ∧ preserves_KernelBrC2_KernelBrC2Ideal
    ∧ algebraic_KernelBrC2Ideal_ReferenceBrC2Ideal_pre_finite_brc2 (hKernelBrC2Ideal := hKernelBrC2Ideal) (hReferenceBrC2Ideal := hReferenceBrC2Ideal) (hPre_finite_brc2 := hPre_finite_brc2)
    ∧ preserves_KernelQkv_KernelQkvIdeal
    ∧ algebraic_KernelQkvIdeal_ReferenceQkvIdeal_pre_finite_qkv (hKernelQkvIdeal := hKernelQkvIdeal) (hReferenceQkvIdeal := hReferenceQkvIdeal) (hPre_finite_qkv := hPre_finite_qkv)
    ∧ preserves_KernelBrC2F_KernelBrC2FIdeal
    ∧ algebraic_KernelBrC2FIdeal_ReferenceBrC2FIdeal (hKernelBrC2FIdeal := hKernelBrC2FIdeal) (hReferenceBrC2FIdeal := hReferenceBrC2FIdeal)
    ∧ preserves_KernelMergeF_KernelMergeFIdeal
    ∧ algebraic_KernelMergeFIdeal_ReferenceMergeFIdeal (hKernelMergeFIdeal := hKernelMergeFIdeal) (hReferenceMergeFIdeal := hReferenceMergeFIdeal)
    ∧ preserves_KernelDw_KernelDwIdeal
    ∧ algebraic_KernelDwIdeal_ReferenceDwIdeal (hKernelDwIdeal := hKernelDwIdeal) (hReferenceDwIdeal := hReferenceDwIdeal)
    ∧ preserves_KernelTn_KernelTnIdeal
    ∧ algebraic_KernelTnIdeal_ReferenceTnIdeal (hKernelTnIdeal := hKernelTnIdeal) (hReferenceTnIdeal := hReferenceTnIdeal)
-- ==== Pre_finite_attn.lean ====
abbrev S1x2048x1024 : Shape := ⟨3, ![1, 2048, 1024]⟩
abbrev S1x2048x8x128 : Shape := ⟨4, ![1, 2048, 8, 128]⟩
abbrev S1x2048x2x128 : Shape := ⟨4, ![1, 2048, 2, 128]⟩
abbrev S1x2048x12800 : Shape := ⟨3, ![1, 2048, 12800]⟩
abbrev S2048x12800 : Shape := ⟨2, ![2048, 12800]⟩
abbrev S_ : Shape := ⟨0, ![]⟩

class Facts : Prop where
  bcast_S_S1x2048x1024 : S_.BroadcastsInDim S1x2048x1024 (![] : Fin 0 → Fin S1x2048x1024.rank)
  bcast_S_S1x2048x8x128 : S_.BroadcastsInDim S1x2048x8x128 (![] : Fin 0 → Fin S1x2048x8x128.rank)
  bcast_S_S1x2048x2x128 : S_.BroadcastsInDim S1x2048x2x128 (![] : Fin 0 → Fin S1x2048x2x128.rank)
  bcast_S_S1x2048x12800 : S_.BroadcastsInDim S1x2048x12800 (![] : Fin 0 → Fin S1x2048x12800.rank)

variable [Facts]

def fn {F : FTy → Type} [FloatOps F] (main_arg0 : FVec F S1x2048x1024 .f32) (main_arg1 : FVec F S1x2048x8x128 .f32) (main_arg2 : FVec F S1x2048x2x128 .f32) (main_arg3 : FVec F S1x2048x2x128 .f32) (main_arg4 : FVec F S1x2048x12800 .f32) (main_arg5 : FVec F S2048x12800 .bf16) : IVec S1x2048x1024 1 × IVec S1x2048x8x128 1 × IVec S1x2048x2x128 1 × IVec S1x2048x2x128 1 × IVec S1x2048x12800 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_v3 : FVec F S1x2048x8x128 .f32 := Host.absf main_arg1
  let main_cst_0 : FVec F S_ .f32 := constant S_ .f32 0x7F800000#32
  let main_v4 : FVec F S1x2048x8x128 .f32 := broadcastInDim S1x2048x8x128 ![] bcast_S_S1x2048x8x128 main_cst_0
  let main_v5 : IVec S1x2048x8x128 1 := cmpf .olt main_v3 main_v4
  let main_v6 : FVec F S1x2048x2x128 .f32 := Host.absf main_arg2
  let main_cst_1 : FVec F S_ .f32 := constant S_ .f32 0x7F800000#32
  let main_v7 : FVec F S1x2048x2x128 .f32 := broadcastInDim S1x2048x2x128 ![] bcast_S_S1x2048x2x128 main_cst_1
  let main_v8 : IVec S1x2048x2x128 1 := cmpf .olt main_v6 main_v7
  let main_v9 : FVec F S1x2048x2x128 .f32 := Host.absf main_arg3
  let main_cst_2 : FVec F S_ .f32 := constant S_ .f32 0x7F800000#32
  let main_v10 : FVec F S1x2048x2x128 .f32 := broadcastInDim S1x2048x2x128 ![] bcast_S_S1x2048x2x128 main_cst_2
  let main_v11 : IVec S1x2048x2x128 1 := cmpf .olt main_v9 main_v10
  let main_v12 : FVec F S1x2048x12800 .f32 := Host.absf main_arg4
  let main_cst_3 : FVec F S_ .f32 := constant S_ .f32 0x7F800000#32
  let main_v13 : FVec F S1x2048x12800 .f32 := broadcastInDim S1x2048x12800 ![] bcast_S_S1x2048x12800 main_cst_3
  let main_v14 : IVec S1x2048x12800 1 := cmpf .olt main_v12 main_v13
  (main_v2, main_v5, main_v8, main_v11, main_v14)
-- ==== Pre_finite_brc2.lean ====
abbrev S1x2048x1024 : Shape := ⟨3, ![1, 2048, 1024]⟩
abbrev S1024 : Shape := ⟨1, ![1024]⟩
abbrev S1x2048x12800 : Shape := ⟨3, ![1, 2048, 12800]⟩
abbrev S2048x12800 : Shape := ⟨2, ![2048, 12800]⟩
abbrev S_ : Shape := ⟨0, ![]⟩

class Facts : Prop where
  bcast_S_S1x2048x1024 : S_.BroadcastsInDim S1x2048x1024 (![] : Fin 0 → Fin S1x2048x1024.rank)
  bcast_S_S1024 : S_.BroadcastsInDim S1024 (![] : Fin 0 → Fin S1024.rank)
  bcast_S_S1x2048x12800 : S_.BroadcastsInDim S1x2048x12800 (![] : Fin 0 → Fin S1x2048x12800.rank)

variable [Facts]

def fn {F : FTy → Type} [FloatOps F] (main_arg0 : FVec F S1x2048x1024 .f32) (main_arg1 : FVec F S1x2048x1024 .f32) (main_arg2 : FVec F S1024 .f32) (main_arg3 : FVec F S1024 .f32) (main_arg4 : FVec F S1024 .f32) (main_arg5 : FVec F S1x2048x12800 .f32) (main_arg6 : FVec F S2048x12800 .bf16) : IVec S1x2048x1024 1 × IVec S1x2048x1024 1 × IVec S1024 1 × IVec S1024 1 × IVec S1024 1 × IVec S1x2048x12800 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_v3 : FVec F S1x2048x1024 .f32 := Host.absf main_arg1
  let main_cst_0 : FVec F S_ .f32 := constant S_ .f32 0x7F800000#32
  let main_v4 : FVec F S1x2048x1024 .f32 := broadcastInDim S1x2048x1024 ![] bcast_S_S1x2048x1024 main_cst_0
  let main_v5 : IVec S1x2048x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S1024 .f32 := Host.absf main_arg4
  let main_cst_3 : FVec F S_ .f32 := constant S_ .f32 0x7F800000#32
  let main_v13 : FVec F S1024 .f32 := broadcastInDim S1024 ![] bcast_S_S1024 main_cst_3
  let main_v14 : IVec S1024 1 := cmpf .olt main_v12 main_v13
  let main_v15 : FVec F S1x2048x12800 .f32 := Host.absf main_arg5
  let main_cst_4 : FVec F S_ .f32 := constant S_ .f32 0x7F800000#32
  let main_v16 : FVec F S1x2048x12800 .f32 := broadcastInDim S1x2048x12800 ![] bcast_S_S1x2048x12800 main_cst_4
  let main_v17 : IVec S1x2048x12800 1 := cmpf .olt main_v15 main_v16
  (main_v2, main_v5, main_v8, main_v11, main_v14, main_v17)
-- ==== Pre_finite_dh.lean ====
abbrev S1x2048x1024 : Shape := ⟨3, ![1, 2048, 1024]⟩
abbrev S1024 : Shape := ⟨1, ![1024]⟩
abbrev S1024x12800 : Shape := ⟨2, ![1024, 12800]⟩
abbrev S1x2048x12800 : Shape := ⟨3, ![1, 2048, 12800]⟩
abbrev S_ : Shape := ⟨0, ![]⟩

class Facts : Prop where
  bcast_S_S1x2048x1024 : S_.BroadcastsInDim S1x2048x1024 (![] : Fin 0 → Fin S1x2048x1024.rank)
  bcast_S_S1024 : S_.BroadcastsInDim S1024 (![] : Fin 0 → Fin S1024.rank)
  bcast_S_S1024x12800 : S_.BroadcastsInDim S1024x12800 (![] : Fin 0 → Fin S1024x12800.rank)
  bcast_S_S1x2048x12800 : S_.BroadcastsInDim S1x2048x12800 (![] : Fin 0 → Fin S1x2048x12800.rank)

variable [Facts]

def fn {F : FTy → Type} [FloatOps F] (main_arg0 : FVec F S1x2048x1024 .f32) (main_arg1 : FVec F S1024 .f32) (main_arg2 : FVec F S1024x12800 .f32) (main_arg3 : FVec F S1x2048x1024 .f32) (main_arg4 : FVec F S1x2048x12800 .f32) : IVec S1x2048x1024 1 × IVec S1024 1 × IVec S1024x12800 1 × IVec S1x2048x12800 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x12800 .f32 := Host.absf main_arg2
  let main_cst_1 : FVec F S_ .f32 := constant S_ .f32 0x7F800000#32
  let main_v7 : FVec F S1024x12800 .f32 := broadcastInDim S1024x12800 ![] bcast_S_S1024x12800 main_cst_1
  let main_v8 : IVec S1024x12800 1 := cmpf .olt main_v6 main_v7
  let main_v9 : FVec F S1x2048x12800 .f32 := Host.absf main_arg4
  let main_cst_2 : FVec F S_ .f32 := constant S_ .f32 0x7F800000#32
  let main_v10 : FVec F S1x2048x12800 .f32 := broadcastInDim S1x2048x12800 ![] bcast_S_S1x2048x12800 main_cst_2
  let main_v11 : IVec S1x2048x12800 1 := cmpf .olt main_v9 main_v10
  (main_v2, main_v5, main_v8, main_v11)
-- ==== Pre_finite_qkv.lean ====
abbrev S1x2048x8x128 : Shape := ⟨4, ![1, 2048, 8, 128]⟩
abbrev S1x2048x2x128 : Shape := ⟨4, ![1, 2048, 2, 128]⟩
abbrev S1x2048x12800 : Shape := ⟨3, ![1, 2048, 12800]⟩
abbrev S128 : Shape := ⟨1, ![128]⟩
abbrev S2048x12800 : Shape := ⟨2, ![2048, 12800]⟩
abbrev S_ : Shape := ⟨0, ![]⟩

class Facts : Prop where
  bcast_S_S1x2048x8x128 : S_.BroadcastsInDim S1x2048x8x128 (![] : Fin 0 → Fin S1x2048x8x128.rank)
  bcast_S_S1x2048x2x128 : S_.BroadcastsInDim S1x2048x2x128 (![] : Fin 0 → Fin S1x2048x2x128.rank)
  bcast_S_S1x2048x12800 : S_.BroadcastsInDim S1x2048x12800 (![] : Fin 0 → Fin S1x2048x12800.rank)
  bcast_S_S128 : S_.BroadcastsInDim S128 (![] : Fin 0 → Fin S128.rank)

variable [Facts]

def fn {F : FTy → Type} [FloatOps F] (main_arg0 : FVec F S1x2048x8x128 .f32) (main_arg1 : FVec F S1x2048x2x128 .f32) (main_arg2 : FVec F S1x2048x2x128 .f32) (main_arg3 : FVec F S1x2048x12800 .f32) (main_arg4 : FVec F S128 .f32) (main_arg5 : FVec F S128 .f32) (main_arg6 : FVec F S2048x12800 .bf16) : IVec S1x2048x8x128 1 × IVec S1x2048x2x128 1 × IVec S1x2048x12800 1 × IVec S128 1 × IVec S128 1 :=
  let main_v0 : FVec F S1x2048x8x128 .f32 := Host.absf main_arg0
  let main_cst : FVec F S_ .f32 := constant S_ .f32 0x7F800000#32
  let main_v1 : FVec F S1x2048x8x128 .f32 := broadcastInDim S1x2048x8x128 ![] bcast_S_S1x2048x8x128 main_cst
  let main_v2 : IVec S1x2048x8x128 1 := cmpf .olt main_v0 main_v1
  let main_v3 : FVec F S1x2048x2x128 .f32 := Host.absf main_arg1
  let main_cst_0 : FVec F S_ .f32 := constant S_ .f32 0x7F800000#32
  let main_v4 : FVec F S1x2048x2x128 .f32 := broadcastInDim S1x2048x2x128 ![] bcast_S_S1x2048x2x128 main_cst_0
  let main_v5 : IVec S1x2048x2x128 1 := cmpf .olt main_v3 main_v4
  let main_v6 : FVec F S1x2048x12800 .f32 := Host.absf main_arg3
  let main_cst_1 : FVec F S_ .f32 := constant S_ .f32 0x7F800000#32
  let main_v7 : FVec F S1x2048x12800 .f32 := broadcastInDim S1x2048x12800 ![] bcast_S_S1x2048x12800 main_cst_1
  let main_v8 : IVec S1x2048x12800 1 := cmpf .olt main_v6 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_v12 : FVec F S128 .f32 := Host.absf main_arg5
  let main_cst_3 : FVec F S_ .f32 := constant S_ .f32 0x7F800000#32
  let main_v13 : FVec F S128 .f32 := broadcastInDim S128 ![] bcast_S_S128 main_cst_3
  let main_v14 : IVec S128 1 := cmpf .olt main_v12 main_v13
  (main_v2, main_v5, main_v8, main_v11, main_v14)
-- ==== Kernel.lean ====
abbrev S2048x1024 : Shape := ⟨2, ![2048, 1024]⟩
abbrev S1x128 : Shape := ⟨2, ![1, 128]⟩
abbrev S256x1024 : Shape := ⟨2, ![256, 1024]⟩
abbrev S1x256x1024 : Shape := ⟨3, ![1, 256, 1024]⟩
abbrev S1 : Shape := ⟨1, ![1]⟩
abbrev S1x1x1 : Shape := ⟨3, ![1, 1, 1]⟩

abbrev nBuf : Space → Nat
  | .hbm => 4
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S1x128, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S2048x1024 : Shape := ⟨2, ![2048, 1024]⟩
abbrev S_ : Shape := ⟨0, ![]⟩
abbrev S2048 : Shape := ⟨1, ![2048]⟩
abbrev S1x128 : Shape := ⟨2, ![1, 128]⟩

abbrev nBuf : Space → Nat
  | .hbm => 26
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S_, .f32⟩
  | .hbm, ⟨10, _⟩ => ⟨S2048, .f32⟩
  | .hbm, ⟨11, _⟩ => ⟨S2048, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S2048, .f32⟩
  | .hbm, ⟨20, _⟩ => ⟨S_, .f32⟩
  | .hbm, ⟨21, _⟩ => ⟨S2048, .f32⟩
  | .hbm, ⟨22, _⟩ => ⟨S2048, .f32⟩
  | .hbm, ⟨23, _⟩ => ⟨S2048x1024, .f32⟩
  | .hbm, ⟨24, _⟩ => ⟨S2048x1024, .f32⟩
  | .hbm, ⟨25, _⟩ => ⟨S1x128, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== KernelAttn.lean ====
abbrev S1x2048x1024 : Shape := ⟨3, ![1, 2048, 1024]⟩
abbrev S1x2048x8x128 : Shape := ⟨4, ![1, 2048, 8, 128]⟩
abbrev S1x2048x2x128 : Shape := ⟨4, ![1, 2048, 2, 128]⟩
abbrev S1x2048x12800 : Shape := ⟨3, ![1, 2048, 12800]⟩
abbrev S2048x12800 : Shape := ⟨2, ![2048, 12800]⟩
abbrev S2048x1024 : Shape := ⟨2, ![2048, 1024]⟩
abbrev S2048x256 : Shape := ⟨2, ![2048, 256]⟩
abbrev S512x512 : Shape := ⟨2, ![512, 512]⟩
abbrev S2048x128 : Shape := ⟨2, ![2048, 128]⟩
abbrev S512x128 : Shape := ⟨2, ![512, 128]⟩
abbrev S512x2048 : Shape := ⟨2, ![512, 2048]⟩
abbrev S512 : Shape := ⟨1, ![512]⟩
abbrev S512x1 : Shape := ⟨2, ![512, 1]⟩

abbrev nBuf : Space → Nat
  | .hbm => 21
  | .vmem => 32
  | .smem => 0
  | _ => 0

abbrev bufTy : (tb : Table) → Fin (tcTables nBuf tb) → BufTy
  | .hbm, ⟨0, _⟩ => ⟨S1x2048x1024, .f32⟩
  | .hbm, ⟨1, _⟩ => ⟨S1x2048x8x128, .f32⟩
  | .hbm, ⟨2, _⟩ => ⟨S1x2048x2x128, .f32⟩
  | .hbm, ⟨3, _⟩ => ⟨S1x2048x2x128, .f32⟩
  | .hbm, ⟨4, _⟩ => ⟨S1x2048x12800, .f32⟩
  | .hbm, ⟨5, _⟩ => ⟨S2048x12800, .bf16⟩
  | .hbm, ⟨6, _⟩ => ⟨S2048x1024, .f32⟩
  | .hbm, ⟨7, _⟩ => ⟨S2048x1024, .bf16⟩
  | .hbm, ⟨8, _⟩ => ⟨S2048x256, .f32⟩
  | .hbm, ⟨9, _⟩ => ⟨S2048x256, .bf16⟩
  | .hbm, ⟨10, _⟩ => ⟨S2048x256, .f32⟩
  | .hbm, ⟨11, _⟩ => ⟨S2048x256, .bf16⟩
  | .hbm, ⟨12, _⟩ => ⟨S2048x12800, .f32⟩
  | .hbm, ⟨13, _⟩ => ⟨S2048x1024, .f32⟩
  | .hbm, ⟨14, _⟩ => ⟨S2048x1024, .bf16⟩
  | .hbm, ⟨15, _⟩ => ⟨S2048x1024, .f32⟩
  | .hbm, ⟨16, _⟩ => ⟨S2048x12800, .f32⟩
  | .hbm, ⟨17, _⟩ => ⟨S2048x1024, .f32⟩
  | .hbm, ⟨18, _⟩ => ⟨S2048x256, .f32⟩
  | .hbm, ⟨19, _⟩ => ⟨S2048x256, .f32⟩
  | .hbm, ⟨20, _⟩ => ⟨S2048x12800, .bf16⟩
  | .local _ .vmem, ⟨0, _⟩ => ⟨S512x512, .bf16⟩
  | .local _ .vmem, ⟨1, _⟩ => ⟨S512x512, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .bf16⟩
  | .local _ .vmem, ⟨11, _⟩ => ⟨S512x512, .bf16⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .bf16⟩
  | .local _ .vmem, ⟨17, _⟩ => ⟨S512x512, .bf16⟩
  | .local _ .vmem, ⟨18, _⟩ => ⟨S2048x128, .bf16⟩
  | .local _ .vmem, ⟨19, _⟩ => ⟨S2048x128, .bf16⟩
  | .local _ .vmem, ⟨20, _⟩ => ⟨S2048x128, .bf16⟩
  | .local _ .vmem, ⟨21, _⟩ => ⟨S2048x128, .bf16⟩
  | .local _ .vmem, ⟨22, _⟩ => ⟨S512x512, .f32⟩
  | .local _ .vmem, ⟨23, _⟩ => ⟨S512x512, .f32⟩
  | .local _ .vmem, ⟨24, _⟩ => ⟨S512x512, .f32⟩
  | .local _ .vmem, ⟨25, _⟩ => ⟨S512x512, .f32⟩
  | .local _ .vmem, ⟨26, _⟩ => ⟨S2048x128, .f32⟩
  | .local _ .vmem, ⟨27, _⟩ => ⟨S2048x128, .f32⟩
  | .local _ .vmem, ⟨28, _⟩ => ⟨S2048x128, .f32⟩
  | .local _ .vmem, ⟨29, _⟩ => ⟨S2048x128, .f32⟩
  | .local _ .vmem, ⟨30, _⟩ => ⟨S512x512, .bf16⟩
  | .local _ .vmem, ⟨31, _⟩ => ⟨S512x512, .bf16⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v10_2 : Ref sig .tc := ⟨.hbm, 19, rfl⟩
abbrev main_v10_3 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc1_stg6_0 : Ref sig .tc := ⟨.vmem, 24, rfl⟩
abbrev cc1_stg6_1 : Ref sig .tc := ⟨.vmem, 25, rfl⟩
abbrev cc1_stg7_0 : Ref sig .tc := ⟨.vmem, 26, rfl⟩
abbrev cc1_stg7_1 : Ref sig .tc := ⟨.vmem, 27, rfl⟩
abbrev cc1_stg8_0 : Ref sig .tc := ⟨.vmem, 28, rfl⟩
abbrev cc1_stg8_1 : Ref sig .tc := ⟨.vmem, 29, rfl⟩
abbrev cc1_stg9_0 : Ref sig .tc := ⟨.vmem, 30, rfl⟩
abbrev cc1_stg9_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc1_sem6_0 : DmaSem sig := 24
abbrev cc1_sem6_1 : DmaSem sig := 25
abbrev cc1_sem7_0 : DmaSem sig := 26
abbrev cc1_sem7_1 : DmaSem sig := 27
abbrev cc1_sem8_0 : DmaSem sig := 28
abbrev cc1_sem8_1 : DmaSem sig := 29
abbrev cc1_sem9_0 : DmaSem sig := 30
abbrev cc1_sem9_1 : DmaSem sig := 31

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![2, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  ![arg1.toNat, v0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_10 (i : grid1.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  ![arg1.toNat, v0.toNat]

abbrev stage1_0 : Fin 2 → Memref sig .tc .vmem S512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S512x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S2048x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S2048x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S512x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S512x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S2048x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S2048x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev stage1_9 : Fin 2 → Memref sig .tc .vmem S512x512 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]
-- ==== ReferenceAttnIdeal.lean ====
abbrev S1x2048x1024 : Shape := ⟨3, ![1, 2048, 1024]⟩
abbrev S1x2048x8x128 : Shape := ⟨4, ![1, 2048, 8, 128]⟩
abbrev S1x2048x2x128 : Shape := ⟨4, ![1, 2048, 2, 128]⟩
abbrev S1x2048x12800 : Shape := ⟨3, ![1, 2048, 12800]⟩
abbrev S2048x12800 : Shape := ⟨2, ![2048, 12800]⟩
abbrev S1x2048x2x4x128 : Shape := ⟨5, ![1, 2048, 2, 4, 128]⟩
abbrev S1x2x2048x2048x4 : Shape := ⟨5, ![1, 2, 2048, 2048, 4]⟩
abbrev S1x2x4x2048x2048 : Shape := ⟨5, ![1, 2, 4, 2048, 2048]⟩
abbrev S_ : Shape := ⟨0, ![]⟩
abbrev S1x2x4x2048 : Shape := ⟨4, ![1, 2, 4, 2048]⟩
abbrev S1x2x4x2048x1 : Shape := ⟨5, ![1, 2, 4, 2048, 1]⟩
abbrev S1x2x128x4x2048 : Shape := ⟨5, ![1, 2, 128, 4, 2048]⟩
abbrev S1x2x128x2048 : Shape := ⟨4, ![1, 2, 128, 2048]⟩
abbrev S2x4x2048 : Shape := ⟨3, ![2, 4, 2048]⟩
abbrev S1x2x2048x4x128 : Shape := ⟨5, ![1, 2, 2048, 4, 128]⟩
abbrev S1x2x2048x128 : Shape := ⟨4, ![1, 2, 2048, 128]⟩
abbrev S2048x1024 : Shape := ⟨2, ![2048, 1024]⟩
abbrev S2048x256 : Shape := ⟨2, ![2048, 256]⟩
abbrev S2048x5632 : Shape := ⟨2, ![2048, 5632]⟩
abbrev S2048x6144 : Shape := ⟨2, ![2048, 6144]⟩

abbrev nBuf : Space → Nat
  | .hbm => 114
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x2048x8x128, .f32⟩
  | .hbm, ⟨2, _⟩ => ⟨S1x2048x2x128, .f32⟩
  | .hbm, ⟨3, _⟩ => ⟨S1x2048x2x128, .f32⟩
  | .hbm, ⟨4, _⟩ => ⟨S1x2048x12800, .f32⟩
  | .hbm, ⟨5, _⟩ => ⟨S2048x12800, .bf16⟩
  | .hbm, ⟨6, _⟩ => ⟨S1x2048x1024, .f32⟩
  | .hbm, ⟨7, _⟩ => ⟨S1x2048x2x4x128, .f32⟩
  | .hbm, ⟨8, _⟩ => ⟨S1x2x2048x2048x4, .f32⟩
  | .hbm, ⟨9, _⟩ => ⟨S1x2x4x2048x2048, .f32⟩
  | .hbm, ⟨10, _⟩ => ⟨S_, .f32⟩
  | .hbm, ⟨11, _⟩ => ⟨S1x2x4x2048x2048, .f32⟩
  | .hbm, ⟨12, _⟩ => ⟨S1x2x4x2048x2048, .f32⟩
  | .hbm, ⟨13, _⟩ => ⟨S_, .f32⟩
  | .hbm, ⟨14, _⟩ => ⟨S1x2x4x2048, .f32⟩
  | .hbm, ⟨15, _⟩ => ⟨S1x2x4x2048x1, .f32⟩
  | .hbm, ⟨16, _⟩ => ⟨S1x2x4x2048x2048, .f32⟩
  | .hbm, ⟨17, _⟩ => ⟨S1x2x4x2048x2048, .i1⟩
  | .hbm, ⟨18, _⟩ => ⟨S1x2x4x2048x2048, .f32⟩
  | .hbm, ⟨19, _⟩ => ⟨S_, .f32⟩
  | .hbm, ⟨20, _⟩ => ⟨S1x2x4x2048, .f32⟩
  | .hbm, ⟨21, _⟩ => ⟨S_, .f32⟩
  | .hbm, ⟨22, _⟩ => ⟨S1x2x4x2048, .f32⟩
  | .hbm, ⟨23, _⟩ => ⟨S1x2x4x2048, .f32⟩
  | .hbm, ⟨24, _⟩ => ⟨S_, .f32⟩
  | .hbm, ⟨25, _⟩ => ⟨S1x2x4x2048, .f32⟩
  | .hbm, ⟨26, _⟩ => ⟨S1x2x4x2048, .i1⟩
  | .hbm, ⟨27, _⟩ => ⟨S_, .f32⟩
  | .hbm, ⟨28, _⟩ => ⟨S1x2x4x2048, .f32⟩
  | .hbm, ⟨29, _⟩ => ⟨S1x2x4x2048, .i1⟩
  | .hbm, ⟨30, _⟩ => ⟨S_, .f32⟩
  | .hbm, ⟨31, _⟩ => ⟨S1x2x4x2048, .f32⟩
  | .hbm, ⟨32, _⟩ => ⟨S_, .f32⟩
  | .hbm, ⟨33, _⟩ => ⟨S1x2x4x2048, .f32⟩
  | .hbm, ⟨34, _⟩ => ⟨S_, .f32⟩
  | .hbm, ⟨35, _⟩ => ⟨S1x2x4x2048, .f32⟩
  | .hbm, ⟨36, _⟩ => ⟨S1x2x4x2048, .f32⟩
  | .hbm, ⟨37, _⟩ => ⟨S1x2x4x2048, .f32⟩
  | .hbm, ⟨38, _⟩ => ⟨S1x2x4x2048x1, .f32⟩
  | .hbm, ⟨39, _⟩ => ⟨S1x2x4x2048x2048, .f32⟩
  | .hbm, ⟨40, _⟩ => ⟨S1x2x4x2048x2048, .f32⟩
  | .hbm, ⟨41, _⟩ => ⟨S1x2x4x2048x2048, .f32⟩
  | .hbm, ⟨42, _⟩ => ⟨S_, .f32⟩
  | .hbm, ⟨43, _⟩ => ⟨S1x2x4x2048, .f32⟩
  | .hbm, ⟨44, _⟩ => ⟨S1x2x4x2048x1, .f32⟩
  | .hbm, ⟨45, _⟩ => ⟨S1x2x4x2048x2048, .f32⟩
  | .hbm, ⟨46, _⟩ => ⟨S1x2x4x2048x2048, .f32⟩
  | .hbm, ⟨47, _⟩ => ⟨S1x2x4x2048x1, .f32⟩
  | .hbm, ⟨48, _⟩ => ⟨S_, .f32⟩
  | .hbm, ⟨49, _⟩ => ⟨S1x2x4x2048x1, .f32⟩
  | .hbm, ⟨50, _⟩ => ⟨S1x2x4x2048x1, .f32⟩
  | .hbm, ⟨51, _⟩ => ⟨S1x2x128x4x2048, .f32⟩
  | .hbm, ⟨52, _⟩ => ⟨S1x2048x2x4x128, .f32⟩
  | .hbm, ⟨53, _⟩ => ⟨S1x2048x1024, .f32⟩
  | .hbm, ⟨54, _⟩ => ⟨S1x2048x1024, .f32⟩
  | .hbm, ⟨55, _⟩ => ⟨S1x2048x1024, .f32⟩
  | .hbm, ⟨56, _⟩ => ⟨S_, .f32⟩
  | .hbm, ⟨57, _⟩ => ⟨S1x2048x1024, .f32⟩
  | .hbm, ⟨58, _⟩ => ⟨S1x2048x1024, .f32⟩
  | .hbm, ⟨59, _⟩ => ⟨S_, .f32⟩
  | .hbm, ⟨60, _⟩ => ⟨S1x2048x1024, .f32⟩
  | .hbm, ⟨61, _⟩ => ⟨S1x2048x1024, .f32⟩
  | .hbm, ⟨62, _⟩ => ⟨S_, .f32⟩
  | .hbm, ⟨63, _⟩ => ⟨S1x2048x1024, .f32⟩
  | .hbm, ⟨64, _⟩ => ⟨S1x2048x1024, .f32⟩
  | .hbm, ⟨65, _⟩ => ⟨S1x2048x1024, .f32⟩
  | .hbm, ⟨66, _⟩ => ⟨S1x2048x1024, .f32⟩
  | .hbm, ⟨67, _⟩ => ⟨S1x2048x1024, .f32⟩
  | .hbm, ⟨68, _⟩ => ⟨S1x2048x1024, .f32⟩
  | .hbm, ⟨69, _⟩ => ⟨S1x2048x1024, .f32⟩
  | .hbm, ⟨70, _⟩ => ⟨S1x2048x1024, .f32⟩
  | .hbm, ⟨71, _⟩ => ⟨S1x2048x1024, .f32⟩
  | .hbm, ⟨72, _⟩ => ⟨S1x2048x1024, .f32⟩
  | .hbm, ⟨73, _⟩ => ⟨S1x2048x1024, .f32⟩
  | .hbm, ⟨74, _⟩ => ⟨S1x2048x2x4x128, .f32⟩
  | .hbm, ⟨75, _⟩ => ⟨S1x2x128x4x2048, .f32⟩
  | .hbm, ⟨76, _⟩ => ⟨S1x2x4x2048x2048, .f32⟩
  | .hbm, ⟨77, _⟩ => ⟨S1x2x128x2048, .f32⟩
  | .hbm, ⟨78, _⟩ => ⟨S1x2048x2x128, .f32⟩
  | .hbm, ⟨79, _⟩ => ⟨S1x2x4x2048x2048, .f32⟩
  | .hbm, ⟨80, _⟩ => ⟨S1x2x4x2048x2048, .f32⟩
  | .hbm, ⟨81, _⟩ => ⟨S1x2x4x2048x2048, .f32⟩
  | .hbm, ⟨82, _⟩ => ⟨S_, .f32⟩
  | .hbm, ⟨83, _⟩ => ⟨S1x2x4x2048, .f32⟩
  | .hbm, ⟨84, _⟩ => ⟨S1x2x4x2048x1, .f32⟩
  | .hbm, ⟨85, _⟩ => ⟨S1x2x4x2048x1, .f32⟩
  | .hbm, ⟨86, _⟩ => ⟨S1x2x4x2048x2048, .f32⟩
  | .hbm, ⟨87, _⟩ => ⟨S1x2x4x2048x2048, .f32⟩
  | .hbm, ⟨88, _⟩ => ⟨S_, .f32⟩
  | .hbm, ⟨89, _⟩ => ⟨S2x4x2048, .f32⟩
  | .hbm, ⟨90, _⟩ => ⟨S1x2x4x2048, .f32⟩
  | .hbm, ⟨91, _⟩ => ⟨S1x2x4x2048x2048, .f32⟩
  | .hbm, ⟨92, _⟩ => ⟨S1x2x4x2048x2048, .f32⟩
  | .hbm, ⟨93, _⟩ => ⟨S1x2x4x2048x2048, .f32⟩
  | .hbm, ⟨94, _⟩ => ⟨S_, .f32⟩
  | .hbm, ⟨95, _⟩ => ⟨S1x2x4x2048x2048, .f32⟩
  | .hbm, ⟨96, _⟩ => ⟨S1x2x4x2048x2048, .f32⟩
  | .hbm, ⟨97, _⟩ => ⟨S1x2x2048x2048x4, .f32⟩
  | .hbm, ⟨98, _⟩ => ⟨S1x2x2048x4x128, .f32⟩
  | .hbm, ⟨99, _⟩ => ⟨S1x2048x2x4x128, .f32⟩
  | .hbm, ⟨100, _⟩ => ⟨S1x2x2048x128, .f32⟩
  | .hbm, ⟨101, _⟩ => ⟨S1x2048x2x128, .f32⟩
  | .hbm, ⟨102, _⟩ => ⟨S1x2048x8x128, .f32⟩
  | .hbm, ⟨103, _⟩ => ⟨S2048x1024, .f32⟩
  | .hbm, ⟨104, _⟩ => ⟨S2048x1024, .bf16⟩
  | .hbm, ⟨105, _⟩ => ⟨S2048x1024, .f32⟩
  | .hbm, ⟨106, _⟩ => ⟨S2048x1024, .f32⟩
  | .hbm, ⟨107, _⟩ => ⟨S2048x1024, .bf16⟩
  | .hbm, ⟨108, _⟩ => ⟨S2048x1024, .f32⟩
  | .hbm, ⟨109, _⟩ => ⟨S2048x256, .f32⟩
  | .hbm, ⟨110, _⟩ => ⟨S2048x256, .f32⟩
  | .hbm, ⟨111, _⟩ => ⟨S2048x5632, .bf16⟩
  | .hbm, ⟨112, _⟩ => ⟨S2048x6144, .bf16⟩
  | .hbm, ⟨113, _⟩ => ⟨S2048x12800, .bf16⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_cst_5 : Ref sig .tc := ⟨.hbm, 30, rfl⟩
abbrev main_v18 : Ref sig .tc := ⟨.hbm, 31, rfl⟩
abbrev main_cst_6 : Ref sig .tc := ⟨.hbm, 32, rfl⟩
abbrev main_v19 : Ref sig .tc := ⟨.hbm, 33, rfl⟩
abbrev main_cst_7 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_8 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_9 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_call0_v0 : Ref sig .tc := ⟨.hbm, 54, rfl⟩
abbrev main_call0_v1 : Ref sig .tc := ⟨.hbm, 55, rfl⟩
abbrev main_call0_cst : Ref sig .tc := ⟨.hbm, 56, rfl⟩
abbrev main_call0_v2 : Ref sig .tc := ⟨.hbm, 57, rfl⟩
abbrev main_call0_v3 : Ref sig .tc := ⟨.hbm, 58, rfl⟩
abbrev main_call0_cst_0 : Ref sig .tc := ⟨.hbm, 59, rfl⟩
abbrev main_call0_v4 : Ref sig .tc := ⟨.hbm, 60, rfl⟩
abbrev main_v37_2 : Ref sig .tc := ⟨.hbm, 61, rfl⟩
abbrev main_call0_cst_1 : Ref sig .tc := ⟨.hbm, 62, rfl⟩
abbrev main_call0_v6 : Ref sig .tc := ⟨.hbm, 63, rfl⟩
abbrev main_call0_v7 : Ref sig .tc := ⟨.hbm, 64, rfl⟩
abbrev main_v37_1 : Ref sig .tc := ⟨.hbm, 65, rfl⟩
abbrev main_v37_0 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_call1_v0 : Ref sig .tc := ⟨.hbm, 70, rfl⟩
abbrev main_call1_v1 : Ref sig .tc := ⟨.hbm, 71, rfl⟩
abbrev main_call1_v2 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_cst_10 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_cst_11 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_cst_12 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩

abbrev nD : Nat := 1
abbrev τ : Topo := Topo.v7x

variable {F : FTy → Type} [FloatOps F]
-- ==== KernelDh.lean ====
abbrev S1x2048x1024 : Shape := ⟨3, ![1, 2048, 1024]⟩
abbrev S1024 : Shape := ⟨1, ![1024]⟩
abbrev S1024x12800 : Shape := ⟨2, ![1024, 12800]⟩
abbrev S1x2048x12800 : Shape := ⟨3, ![1, 2048, 12800]⟩
abbrev S12800x1024 : Shape := ⟨2, ![12800, 1024]⟩
abbrev S2048x12800 : Shape := ⟨2, ![2048, 12800]⟩
abbrev S2048x1024 : Shape := ⟨2, ![2048, 1024]⟩
abbrev S1x1024 : Shape := ⟨2, ![1, 1024]⟩
abbrev S1024x2560 : Shape := ⟨2, ![1024, 2560]⟩
abbrev S2560x1024 : Shape := ⟨2, ![2560, 1024]⟩
abbrev S1024x1024 : Shape := ⟨2, ![1024, 1024]⟩
abbrev S1024x1 : Shape := ⟨2, ![1024, 1]⟩

abbrev nBuf : Space → Nat
  | .hbm => 14
  | .vmem => 13
  | .smem => 0
  | _ => 0

abbrev bufTy : (tb : Table) → Fin (tcTables nBuf tb) → BufTy
  | .hbm, ⟨0, _⟩ => ⟨S1x2048x1024, .f32⟩
  | .hbm, ⟨1, _⟩ => ⟨S1024, .f32⟩
  | .hbm, ⟨2, _⟩ => ⟨S1024x12800, .f32⟩
  | .hbm, ⟨3, _⟩ => ⟨S1x2048x1024, .f32⟩
  | .hbm, ⟨4, _⟩ => ⟨S1x2048x12800, .f32⟩
  | .hbm, ⟨5, _⟩ => ⟨S12800x1024, .f32⟩
  | .hbm, ⟨6, _⟩ => ⟨S12800x1024, .bf16⟩
  | .hbm, ⟨7, _⟩ => ⟨S2048x12800, .f32⟩
  | .hbm, ⟨8, _⟩ => ⟨S2048x12800, .bf16⟩
  | .hbm, ⟨9, _⟩ => ⟨S2048x1024, .f32⟩
  | .hbm, ⟨10, _⟩ => ⟨S2048x1024, .f32⟩
  | .hbm, ⟨11, _⟩ => ⟨S1x1024, .f32⟩
  | .hbm, ⟨12, _⟩ => ⟨S2048x1024, .f32⟩
  | .hbm, ⟨13, _⟩ => ⟨S1x1024, .f32⟩
  | .local _ .vmem, ⟨0, _⟩ => ⟨S1024x2560, .bf16⟩
  | .local _ .vmem, ⟨1, _⟩ => ⟨S1024x2560, .bf16⟩
  | .local _ .vmem, ⟨2, _⟩ => ⟨S2560x1024, .bf16⟩
  | .local _ .vmem, ⟨3, _⟩ => ⟨S2560x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![2, 5], ![false, false]⟩

def k0_cond3 (i : grid0.Coords) : BitVec 1 :=
  let arg1 : BitVec 32 := BitVec.ofNat 32 (i 1).val
  let c4_i32 : BitVec 32 := 4#32
  let v18 : BitVec 1 := Scalar.cmpi .eq arg1 c4_i32
  let v19 : BitVec 32 := Scalar.extui v18
  let c0_i32_11 : BitVec 32 := 0#32
  let v20 : BitVec 1 := Scalar.cmpi .ne v19 c0_i32_11
  v20

def k0_cond2 (i : grid0.Coords) : BitVec 1 :=
  let arg1 : BitVec 32 := BitVec.ofNat 32 (i 1).val
  let c0_i32_8 : BitVec 32 := 0#32
  let v13 : BitVec 1 := Scalar.cmpi .eq arg1 c0_i32_8
  let arg0 : BitVec 32 := BitVec.ofNat 32 (i 0).val
  let c0_i32_9 : BitVec 32 := 0#32
  let v14 : BitVec 1 := Scalar.cmpi .eq arg0 c0_i32_9
  let v15 : BitVec 1 := Scalar.andi v13 v14
  let v16 : BitVec 32 := Scalar.extui v15
  let c0_i32_10 : BitVec 32 := 0#32
  let v17 : BitVec 1 := Scalar.cmpi .ne v16 c0_i32_10
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2560x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== ReferenceDhIdeal.lean ====
abbrev S1x2048x1024 : Shape := ⟨3, ![1, 2048, 1024]⟩
abbrev S1024 : Shape := ⟨1, ![1024]⟩
abbrev S1024x12800 : Shape := ⟨2, ![1024, 12800]⟩
abbrev S1x2048x12800 : Shape := ⟨3, ![1, 2048, 12800]⟩
abbrev S_ : Shape := ⟨0, ![]⟩
abbrev S1x2048 : Shape := ⟨2, ![1, 2048]⟩
abbrev S1x2048x1 : Shape := ⟨3, ![1, 2048, 1]⟩
abbrev S1x1x1024 : Shape := ⟨3, ![1, 1, 1024]⟩
abbrev S1x1024 : Shape := ⟨2, ![1, 1024]⟩
abbrev S2048 : Shape := ⟨1, ![2048]⟩
abbrev S2048x1024 : Shape := ⟨2, ![2048, 1024]⟩

abbrev nBuf : Space → Nat
  | .hbm => 56
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1024, .f32⟩
  | .hbm, ⟨2, _⟩ => ⟨S1024x12800, .f32⟩
  | .hbm, ⟨3, _⟩ => ⟨S1x2048x1024, .f32⟩
  | .hbm, ⟨4, _⟩ => ⟨S1x2048x12800, .f32⟩
  | .hbm, ⟨5, _⟩ => ⟨S1x2048x1024, .f32⟩
  | .hbm, ⟨6, _⟩ => ⟨S_, .f32⟩
  | .hbm, ⟨7, _⟩ => ⟨S1x2048, .f32⟩
  | .hbm, ⟨8, _⟩ => ⟨S1x2048x1, .f32⟩
  | .hbm, ⟨9, _⟩ => ⟨S_, .f32⟩
  | .hbm, ⟨10, _⟩ => ⟨S1x2048x1, .f32⟩
  | .hbm, ⟨11, _⟩ => ⟨S1x2048x1, .f32⟩
  | .hbm, ⟨12, _⟩ => ⟨S_, .f32⟩
  | .hbm, ⟨13, _⟩ => ⟨S1x2048x1, .f32⟩
  | .hbm, ⟨14, _⟩ => ⟨S1x2048x1, .f32⟩
  | .hbm, ⟨15, _⟩ => ⟨S1x2048x1, .f32⟩
  | .hbm, ⟨16, _⟩ => ⟨S1x2048x1, .f32⟩
  | .hbm, ⟨17, _⟩ => ⟨S_, .f32⟩
  | .hbm, ⟨18, _⟩ => ⟨S1x2048x1, .f32⟩
  | .hbm, ⟨19, _⟩ => ⟨S1x2048x1, .f32⟩
  | .hbm, ⟨20, _⟩ => ⟨S1x2048x1024, .f32⟩
  | .hbm, ⟨21, _⟩ => ⟨S1x2048x1024, .f32⟩
  | .hbm, ⟨22, _⟩ => ⟨S1x1x1024, .f32⟩
  | .hbm, ⟨23, _⟩ => ⟨S1x2048x1024, .f32⟩
  | .hbm, ⟨24, _⟩ => ⟨S1x2048x1024, .f32⟩
  | .hbm, ⟨25, _⟩ => ⟨S1x2048x12800, .f32⟩
  | .hbm, ⟨26, _⟩ => ⟨S1x2048x1024, .f32⟩
  | .hbm, ⟨27, _⟩ => ⟨S1x2048x1024, .f32⟩
  | .hbm, ⟨28, _⟩ => ⟨S_, .f32⟩
  | .hbm, ⟨29, _⟩ => ⟨S1x1024, .f32⟩
  | .hbm, ⟨30, _⟩ => ⟨S1x1x1024, .f32⟩
  | .hbm, ⟨31, _⟩ => ⟨S1x2048x1024, .f32⟩
  | .hbm, ⟨32, _⟩ => ⟨S1x2048x1024, .f32⟩
  | .hbm, ⟨33, _⟩ => ⟨S_, .f32⟩
  | .hbm, ⟨34, _⟩ => ⟨S1024, .f32⟩
  | .hbm, ⟨35, _⟩ => ⟨S1x2048x1024, .f32⟩
  | .hbm, ⟨36, _⟩ => ⟨S_, .f32⟩
  | .hbm, ⟨37, _⟩ => ⟨S1x2048, .f32⟩
  | .hbm, ⟨38, _⟩ => ⟨S1x2048x1, .f32⟩
  | .hbm, ⟨39, _⟩ => ⟨S1x2048x1024, .f32⟩
  | .hbm, ⟨40, _⟩ => ⟨S1x2048x1024, .f32⟩
  | .hbm, ⟨41, _⟩ => ⟨S1x2048x1024, .f32⟩
  | .hbm, ⟨42, _⟩ => ⟨S1x2048x1, .f32⟩
  | .hbm, ⟨43, _⟩ => ⟨S_, .f32⟩
  | .hbm, ⟨44, _⟩ => ⟨S1x2048x1, .f32⟩
  | .hbm, ⟨45, _⟩ => ⟨S1x2048x1, .f32⟩
  | .hbm, ⟨46, _⟩ => ⟨S_, .f32⟩
  | .hbm, ⟨47, _⟩ => ⟨S2048, .f32⟩
  | .hbm, ⟨48, _⟩ => ⟨S1x2048, .f32⟩
  | .hbm, ⟨49, _⟩ => ⟨S1x2048x1024, .f32⟩
  | .hbm, ⟨50, _⟩ => ⟨S1x2048x1024, .f32⟩
  | .hbm, ⟨51, _⟩ => ⟨S1x2048x1024, .f32⟩
  | .hbm, ⟨52, _⟩ => ⟨S1x2048x1024, .f32⟩
  | .hbm, ⟨53, _⟩ => ⟨S1x2048x1024, .f32⟩
  | .hbm, ⟨54, _⟩ => ⟨S2048x1024, .f32⟩
  | .hbm, ⟨55, _⟩ => ⟨S1x1024, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== KernelBrC2.lean ====
abbrev S1x2048x1024 : Shape := ⟨3, ![1, 2048, 1024]⟩
abbrev S1024 : Shape := ⟨1, ![1024]⟩
abbrev S1x2048x12800 : Shape := ⟨3, ![1, 2048, 12800]⟩
abbrev S2048x12800 : Shape := ⟨2, ![2048, 12800]⟩
abbrev S1x1x1024 : Shape := ⟨3, ![1, 1, 1024]⟩
abbrev S2048x1024 : Shape := ⟨2, ![2048, 1024]⟩
abbrev S1x1024 : Shape := ⟨2, ![1, 1024]⟩
abbrev S512x1024 : Shape := ⟨2, ![512, 1024]⟩
abbrev S512x512 : Shape := ⟨2, ![512, 512]⟩
abbrev S1x512x1024 : Shape := ⟨3, ![1, 512, 1024]⟩
abbrev S1 : Shape := ⟨1, ![1]⟩
abbrev S512 : Shape := ⟨1, ![512]⟩
abbrev S512x1 : Shape := ⟨2, ![512, 1]⟩
abbrev S_ : Shape := ⟨0, ![]⟩

abbrev nBuf : Space → Nat
  | .hbm => 20
  | .vmem => 16
  | .smem => 0
  | _ => 0

abbrev bufTy : (tb : Table) → Fin (tcTables nBuf tb) → BufTy
  | .hbm, ⟨0, _⟩ => ⟨S1x2048x1024, .f32⟩
  | .hbm, ⟨1, _⟩ => ⟨S1x2048x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1x2048x12800, .f32⟩
  | .hbm, ⟨6, _⟩ => ⟨S2048x12800, .bf16⟩
  | .hbm, ⟨7, _⟩ => ⟨S1x1x1024, .f32⟩
  | .hbm, ⟨8, _⟩ => ⟨S1x2048x1024, .f32⟩
  | .hbm, ⟨9, _⟩ => ⟨S1x2048x1024, .f32⟩
  | .hbm, ⟨10, _⟩ => ⟨S2048x1024, .f32⟩
  | .hbm, ⟨11, _⟩ => ⟨S2048x1024, .f32⟩
  | .hbm, ⟨12, _⟩ => ⟨S2048x12800, .f32⟩
  | .hbm, ⟨13, _⟩ => ⟨S1x1024, .f32⟩
  | .hbm, ⟨14, _⟩ => ⟨S1x1024, .f32⟩
  | .hbm, ⟨15, _⟩ => ⟨S2048x1024, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S2048x12800, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1x512x1024, .bf16⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev main_v8_3 : Ref sig .tc := ⟨.hbm, 18, rfl⟩
abbrev main_v8_4 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![4], ![false]⟩

def k0_mult1 (i : grid0.Coords) : BitVec 32 :=
  let arg0 : BitVec 32 := BitVec.ofNat 32 (i 0).val
  let c512_i32 : BitVec 32 := 512#32
  let v5 : BitVec 32 := Scalar.muli arg0 c512_i32
  v5
def k0_cond1 (i : grid0.Coords) : BitVec 1 :=
  let arg0 : BitVec 32 := BitVec.ofNat 32 (i 0).val
  let c0_i32 : BitVec 32 := 0#32
  let v35 : BitVec 1 := Scalar.cmpi .sgt arg0 c0_i32
  let v36 : BitVec 32 := Scalar.extui v35
  let c0_i32_17 : BitVec 32 := 0#32
  let v37 : BitVec 1 := Scalar.cmpi .ne v36 c0_i32_17
  v37

def k0_off1 (i : grid0.Coords) : Fin 2 → Nat :=
  let arg0 : BitVec 32 := BitVec.ofNat 32 (i 0).val
  let c512_i32 : BitVec 32 := 512#32
  let v5 : BitVec 32 := Scalar.muli arg0 c512_i32
  let v6 : BitVec 32 := v5
  let c8704_i32_73 : BitVec 32 := 8704#32
  ![v6.toNat, 8704]
def k0_off2 (i : grid0.Coords) : Fin 2 → Nat :=
  let arg0 : BitVec 32 := BitVec.ofNat 32 (i 0).val
  let c512_i32 : BitVec 32 := 512#32
  let v5 : BitVec 32 := Scalar.muli arg0 c512_i32
  let v6 : BitVec 32 := v5
  let c8704_i32 : BitVec 32 := 8704#32
  ![v6.toNat, 8704]
def k0_cond2 (i : grid0.Coords) : BitVec 1 :=
  let arg0 : BitVec 32 := BitVec.ofNat 32 (i 0).val
  let c3_i32 : BitVec 32 := 3#32
  let v70 : BitVec 1 := Scalar.cmpi .eq arg0 c3_i32
  let v71 : BitVec 32 := Scalar.extui v70
  let c0_i32_35 : BitVec 32 := 0#32
  let v72 : BitVec 1 := Scalar.cmpi .ne v71 c0_i32_35
  v72

def k0_off3 (i : grid0.Coords) : Fin 2 → Nat :=
  let arg0 : BitVec 32 := BitVec.ofNat 32 (i 0).val
  let c512_i32 : BitVec 32 := 512#32
  let v5 : BitVec 32 := Scalar.muli arg0 c512_i32
  let v6 : BitVec 32 := v5
  let c8704_i32_73 : BitVec 32 := 8704#32
  ![v6.toNat, 8704]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c17_i32 : BitVec 32 := 17#32
  let c0_i32 : BitVec 32 := 0#32
  ![arg0.toNat, c17_i32.toNat]

def cc0_transform_3 (i : grid0.Coords) : Fin 2 → Nat :=
  let arg0 : BitVec 32 := BitVec.ofNat 32 (i 0).val
  let c18_i32 : BitVec 32 := 18#32
  let c0_i32 : BitVec 32 := 0#32
  ![arg0.toNat, c18_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceBrC2Ideal.lean ====
abbrev S1x2048x1024 : Shape := ⟨3, ![1, 2048, 1024]⟩
abbrev S1024 : Shape := ⟨1, ![1024]⟩
abbrev S1x2048x12800 : Shape := ⟨3, ![1, 2048, 12800]⟩
abbrev S2048x12800 : Shape := ⟨2, ![2048, 12800]⟩
abbrev S1x1x1024 : Shape := ⟨3, ![1, 1, 1024]⟩
abbrev S_ : Shape := ⟨0, ![]⟩
abbrev S1x2048 : Shape := ⟨2, ![1, 2048]⟩
abbrev S1x2048x1 : Shape := ⟨3, ![1, 2048, 1]⟩
abbrev S1x1024 : Shape := ⟨2, ![1, 1024]⟩
abbrev S2048 : Shape := ⟨1, ![2048]⟩
abbrev S2048x1024 : Shape := ⟨2, ![2048, 1024]⟩
abbrev S2048x8704 : Shape := ⟨2, ![2048, 8704]⟩
abbrev S2048x3072 : Shape := ⟨2, ![2048, 3072]⟩

abbrev nBuf : Space → Nat
  | .hbm => 136
  | .vmem => 0
  | .smem => 0
  | _ => 0

abbrev hbmTy0_0 (i : Nat) : BufTy := match i % 128 with
  | 0 => ⟨S1x2048x1024, .f32⟩
  | 1 => ⟨S1x2048x1024, .f32⟩
  | 2 => ⟨S1024, .f32⟩
  | 3 => ⟨S1024, .f32⟩
  | 4 => ⟨S1024, .f32⟩
  | 5 => ⟨S1x2048x12800, .f32⟩
  | 6 => ⟨S2048x12800, .bf16⟩
  | 7 => ⟨S1x2048x1024, .f32⟩
  | 8 => ⟨S1x1x1024, .f32⟩
  | 9 => ⟨S1x2048x1024, .f32⟩
  | 10 => ⟨S1x2048x1024, .f32⟩
  | 11 => ⟨S_, .f32⟩
  | 12 => ⟨S1x2048, .f32⟩
  | 13 => ⟨S1x2048x1, .f32⟩
  | 14 => ⟨S_, .f32⟩
  | 15 => ⟨S1x2048x1, .f32⟩
  | 16 => ⟨S1x2048x1, .f32⟩
  | 17 => ⟨S1x2048x1024, .f32⟩
  | 18 => ⟨S1x2048x1024, .f32⟩
  | 19 => ⟨S1x2048x1024, .f32⟩
  | 20 => ⟨S_, .f32⟩
  | 21 => ⟨S1x2048, .f32⟩
  | 22 => ⟨S1x2048x1, .f32⟩
  | 23 => ⟨S_, .f32⟩
  | 24 => ⟨S1x2048x1, .f32⟩
  | 25 => ⟨S1x2048x1, .f32⟩
  | 26 => ⟨S_, .f32⟩
  | 27 => ⟨S1x2048x1, .f32⟩
  | 28 => ⟨S1x2048x1, .f32⟩
  | 29 => ⟨S1x2048x1, .f32⟩
  | 30 => ⟨S1x2048x1, .f32⟩
  | 31 => ⟨S_, .f32⟩
  | 32 => ⟨S1x2048x1, .f32⟩
  | 33 => ⟨S1x2048x1, .f32⟩
  | 34 => ⟨S1x2048x1024, .f32⟩
  | 35 => ⟨S1x2048x1024, .f32⟩
  | 36 => ⟨S1x1x1024, .f32⟩
  | 37 => ⟨S1x2048x1024, .f32⟩
  | 38 => ⟨S1x2048x1024, .f32⟩
  | 39 => ⟨S1x1x1024, .f32⟩
  | 40 => ⟨S1x2048x1024, .f32⟩
  | 41 => ⟨S1x2048x1024, .f32⟩
  | 42 => ⟨S1x2048x1024, .f32⟩
  | 43 => ⟨S1x2048x1024, .f32⟩
  | 44 => ⟨S_, .f32⟩
  | 45 => ⟨S1x2048x1024, .f32⟩
  | 46 => ⟨S1x2048x1024, .f32⟩
  | 47 => ⟨S_, .f32⟩
  | 48 => ⟨S1x2048x1024, .f32⟩
  | 49 => ⟨S1x2048x1024, .f32⟩
  | 50 => ⟨S_, .f32⟩
  | 51 => ⟨S1x2048x1024, .f32⟩
  | 52 => ⟨S1x2048x1024, .f32⟩
  | 53 => ⟨S1x2048x1024, .f32⟩
  | 54 => ⟨S1x2048x1024, .f32⟩
  | 55 => ⟨S1x2048x1024, .f32⟩
  | 56 => ⟨S1x2048x1024, .f32⟩
  | 57 => ⟨S_, .f32⟩
  | 58 => ⟨S1x2048x1024, .f32⟩
  | 59 => ⟨S1x2048x1024, .f32⟩
  | 60 => ⟨S_, .f32⟩
  | 61 => ⟨S1x2048x1024, .f32⟩
  | 62 => ⟨S1x2048x1024, .f32⟩
  | 63 => ⟨S_, .f32⟩
  | 64 => ⟨S1x2048x1024, .f32⟩
  | 65 => ⟨S1x2048x1024, .f32⟩
  | 66 => ⟨S1x2048x1024, .f32⟩
  | 67 => ⟨S1x2048x1024, .f32⟩
  | 68 => ⟨S1x2048x1024, .f32⟩
  | 69 => ⟨S1x2048x1024, .f32⟩
  | 70 => ⟨S1x2048x1024, .f32⟩
  | 71 => ⟨S1x2048x1024, .f32⟩
  | 72 => ⟨S1x2048x1024, .f32⟩
  | 73 => ⟨S1x2048x1024, .f32⟩
  | 74 => ⟨S1x2048x1024, .f32⟩
  | 75 => ⟨S1x2048x1024, .f32⟩
  | 76 => ⟨S1x2048x1024, .f32⟩
  | 77 => ⟨S1x2048x1024, .f32⟩
  | 78 => ⟨S1x2048x1024, .f32⟩
  | 79 => ⟨S_, .f32⟩
  | 80 => ⟨S1x1024, .f32⟩
  | 81 => ⟨S1x1x1024, .f32⟩
  | 82 => ⟨S_, .f32⟩
  | 83 => ⟨S1024, .f32⟩
  | 84 => ⟨S1x2048x1024, .f32⟩
  | 85 => ⟨S_, .f32⟩
  | 86 => ⟨S1x1024, .f32⟩
  | 87 => ⟨S1x1x1024, .f32⟩
  | 88 => ⟨S1x2048x1024, .f32⟩
  | 89 => ⟨S1x2048x1024, .f32⟩
  | 90 => ⟨S_, .f32⟩
  | 91 => ⟨S1024, .f32⟩
  | 92 => ⟨S1x2048x1024, .f32⟩
  | 93 => ⟨S_, .f32⟩
  | 94 => ⟨S1x2048, .f32⟩
  | 95 => ⟨S1x2048x1, .f32⟩
  | 96 => ⟨S1x2048x1024, .f32⟩
  | 97 => ⟨S1x2048x1024, .f32⟩
  | 98 => ⟨S1x2048x1, .f32⟩
  | 99 => ⟨S_, .f32⟩
  | 100 => ⟨S1x2048x1, .f32⟩
  | 101 => ⟨S1x2048x1, .f32⟩
  | 102 => ⟨S_, .f32⟩
  | 103 => ⟨S2048, .f32⟩
  | 104 => ⟨S1x2048, .f32⟩
  | 105 => ⟨S1x2048x1024, .f32⟩
  | 106 => ⟨S1x2048x1024, .f32⟩
  | 107 => ⟨S1x2048x1024, .f32⟩
  | 108 => ⟨S1x2048x1024, .f32⟩
  | 109 => ⟨S1x2048x1024, .f32⟩
  | 110 => ⟨S1x2048x1024, .f32⟩
  | 111 => ⟨S_, .f32⟩
  | 112 => ⟨S1x2048, .f32⟩
  | 113 => ⟨S1x2048x1, .f32⟩
  | 114 => ⟨S_, .f32⟩
  | 115 => ⟨S1x2048x1, .f32⟩
  | 116 => ⟨S1x2048x1, .f32⟩
  | 117 => ⟨S_, .f32⟩
  | 118 => ⟨S2048, .f32⟩
  | 119 => ⟨S1x2048, .f32⟩
  | 120 => ⟨S1x2048x1024, .f32⟩
  | 121 => ⟨S1x2048x1024, .f32⟩
  | 122 => ⟨S_, .f32⟩
  | 123 => ⟨S1x1024, .f32⟩
  | 124 => ⟨S1x1x1024, .f32⟩
  | 125 => ⟨S_, .f32⟩
  | 126 => ⟨S1024, .f32⟩
  | 127 => ⟨S2048x1024, .f32⟩
  | _ => ⟨S1x2048x1024, .f32⟩

abbrev hbmTy0_1 (i : Nat) : BufTy := match i % 128 with
  | 0 => ⟨S2048x1024, .bf16⟩
  | 1 => ⟨S2048x1024, .f32⟩
  | 2 => ⟨S1x1024, .f32⟩
  | 3 => ⟨S1x1024, .f32⟩
  | 4 => ⟨S1x1024, .f32⟩
  | 5 => ⟨S2048x8704, .bf16⟩
  | 6 => ⟨S2048x3072, .bf16⟩
  | 7 => ⟨S2048x12800, .bf16⟩
  | _ => ⟨S1x2048x1024, .f32⟩

abbrev hbmTy (i : Nat) : BufTy := match i / 128 with
  | 0 => hbmTy0_0 i
  | 1 => hbmTy0_1 i
  | _ => ⟨S1x2048x1024, .f32⟩

abbrev bufTy : (tb : Table) → Fin (tcTables nBuf tb) → BufTy
  | .hbm, ⟨i, _⟩ => hbmTy i
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_v29_2 : Ref sig .tc := ⟨.hbm, 49, rfl⟩
abbrev main_call0_cst_1 : Ref sig .tc := ⟨.hbm, 50, rfl⟩
abbrev main_call0_v6 : Ref sig .tc := ⟨.hbm, 51, rfl⟩
abbrev main_call0_v7 : Ref sig .tc := ⟨.hbm, 52, rfl⟩
abbrev main_v29_1 : Ref sig .tc := ⟨.hbm, 53, rfl⟩
abbrev main_v29_0 : Ref sig .tc := ⟨.hbm, 54, rfl⟩
abbrev main_call1_v0 : Ref sig .tc := ⟨.hbm, 55, rfl⟩
abbrev main_call1_v1 : Ref sig .tc := ⟨.hbm, 56, rfl⟩
abbrev main_call1_cst : Ref sig .tc := ⟨.hbm, 57, rfl⟩
abbrev main_call1_v2 : Ref sig .tc := ⟨.hbm, 58, rfl⟩
abbrev main_call1_v3 : Ref sig .tc := ⟨.hbm, 59, rfl⟩
abbrev main_call1_cst_0 : Ref sig .tc := ⟨.hbm, 60, rfl⟩
abbrev main_call1_v4 : Ref sig .tc := ⟨.hbm, 61, rfl⟩
abbrev main_v30_2 : Ref sig .tc := ⟨.hbm, 62, rfl⟩
abbrev main_call1_cst_1 : Ref sig .tc := ⟨.hbm, 63, rfl⟩
abbrev main_call1_v6 : Ref sig .tc := ⟨.hbm, 64, rfl⟩
abbrev main_call1_v7 : Ref sig .tc := ⟨.hbm, 65, rfl⟩
abbrev main_v30_1 : Ref sig .tc := ⟨.hbm, 66, rfl⟩
abbrev main_v30_0 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_call2_v0 : Ref sig .tc := ⟨.hbm, 71, rfl⟩
abbrev main_call2_v1 : Ref sig .tc := ⟨.hbm, 72, rfl⟩
abbrev main_call2_v2 : Ref sig .tc := ⟨.hbm, 73, rfl⟩
abbrev main_v34 : Ref sig .tc := ⟨.hbm, 74, rfl⟩
abbrev main_call3_v0 : Ref sig .tc := ⟨.hbm, 75, rfl⟩
abbrev main_call3_v1 : Ref sig .tc := ⟨.hbm, 76, rfl⟩
abbrev main_call3_v2 : Ref sig .tc := ⟨.hbm, 77, rfl⟩
abbrev main_v35 : Ref sig .tc := ⟨.hbm, 78, rfl⟩
abbrev main_cst_5 : Ref sig .tc := ⟨.hbm, 79, rfl⟩
abbrev main_v36 : Ref sig .tc := ⟨.hbm, 80, rfl⟩
abbrev main_v37 : Ref sig .tc := ⟨.hbm, 81, rfl⟩
abbrev main_cst_6 : Ref sig .tc := ⟨.hbm, 82, rfl⟩
abbrev main_v38 : Ref sig .tc := ⟨.hbm, 83, rfl⟩
abbrev main_v39 : Ref sig .tc := ⟨.hbm, 84, rfl⟩
abbrev main_cst_7 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_cst_8 : Ref sig .tc := ⟨.hbm, 90, rfl⟩
abbrev main_v44 : Ref sig .tc := ⟨.hbm, 91, rfl⟩
abbrev main_v45 : Ref sig .tc := ⟨.hbm, 92, rfl⟩
abbrev main_cst_9 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_cst_10 : Ref sig .tc := ⟨.hbm, 99, rfl⟩
abbrev main_v51 : Ref sig .tc := ⟨.hbm, 100, rfl⟩
abbrev main_v52 : Ref sig .tc := ⟨.hbm, 101, rfl⟩
abbrev main_cst_11 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_cst_12 : Ref sig .tc := ⟨.hbm, 111, rfl⟩
abbrev main_v61 : Ref sig .tc := ⟨.hbm, 112, rfl⟩
abbrev main_v62 : Ref sig .tc := ⟨.hbm, 113, rfl⟩
abbrev main_cst_13 : Ref sig .tc := ⟨.hbm, 114, rfl⟩
abbrev main_v63 : Ref sig .tc := ⟨.hbm, 115, rfl⟩
abbrev main_v64 : Ref sig .tc := ⟨.hbm, 116, rfl⟩
abbrev main_cst_14 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev main_cst_15 : Ref sig .tc := ⟨.hbm, 122, rfl⟩
abbrev main_v69 : Ref sig .tc := ⟨.hbm, 123, rfl⟩
abbrev main_v70 : Ref sig .tc := ⟨.hbm, 124, rfl⟩
abbrev main_cst_16 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩

abbrev nD : Nat := 1
abbrev τ : Topo := Topo.v7x

variable {F : FTy → Type} [FloatOps F]
-- ==== KernelQkv.lean ====
abbrev S1x2048x8x128 : Shape := ⟨4, ![1, 2048, 8, 128]⟩
abbrev S1x2048x2x128 : Shape := ⟨4, ![1, 2048, 2, 128]⟩
abbrev S1x2048x12800 : Shape := ⟨3, ![1, 2048, 12800]⟩
abbrev S128 : Shape := ⟨1, ![128]⟩
abbrev S2048x12800 : Shape := ⟨2, ![2048, 12800]⟩
abbrev S2048 : Shape := ⟨1, ![2048]⟩
abbrev S_ : Shape := ⟨0, ![]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S2048x128 : Shape := ⟨2, ![2048, 128]⟩
abbrev S2048x1024 : Shape := ⟨2, ![2048, 1024]⟩
abbrev S2048x256 : Shape := ⟨2, ![2048, 256]⟩
abbrev S1x128 : Shape := ⟨2, ![1, 128]⟩
abbrev S512x1024 : Shape := ⟨2, ![512, 1024]⟩
abbrev S512x256 : Shape := ⟨2, ![512, 256]⟩
abbrev S512x128 : Shape := ⟨2, ![512, 128]⟩
abbrev S1x512x1536 : Shape := ⟨3, ![1, 512, 1536]⟩
abbrev S1 : Shape := ⟨1, ![1]⟩
abbrev S512x1536 : Shape := ⟨2, ![512, 1536]⟩
abbrev S512 : Shape := ⟨1, ![512]⟩
abbrev S512x1 : Shape := ⟨2, ![512, 1]⟩
abbrev S1x512x128 : Shape := ⟨3, ![1, 512, 128]⟩
abbrev S1x512x256 : Shape := ⟨3, ![1, 512, 256]⟩

abbrev nBuf : Space → Nat
  | .hbm => 89
  | .vmem => 19
  | .smem => 0
  | _ => 0

abbrev bufTy : (tb : Table) → Fin (tcTables nBuf tb) → BufTy
  | .hbm, ⟨0, _⟩ => ⟨S1x2048x8x128, .f32⟩
  | .hbm, ⟨1, _⟩ => ⟨S1x2048x2x128, .f32⟩
  | .hbm, ⟨2, _⟩ => ⟨S1x2048x2x128, .f32⟩
  | .hbm, ⟨3, _⟩ => ⟨S1x2048x12800, .f32⟩
  | .hbm, ⟨4, _⟩ => ⟨S128, .f32⟩
  | .hbm, ⟨5, _⟩ => ⟨S128, .f32⟩
  | .hbm, ⟨6, _⟩ => ⟨S2048x12800, .bf16⟩
  | .hbm, ⟨7, _⟩ => ⟨S2048, .i32⟩
  | .hbm, ⟨8, _⟩ => ⟨S_, .i32⟩
  | .hbm, ⟨9, _⟩ => ⟨S_, .i32⟩
  | .hbm, ⟨10, _⟩ => ⟨S2048, .i32⟩
  | .hbm, ⟨11, _⟩ => ⟨S2048, .i32⟩
  | .hbm, ⟨12, _⟩ => ⟨S2048, .i32⟩
  | .hbm, ⟨13, _⟩ => ⟨S_, .i32⟩
  | .hbm, ⟨14, _⟩ => ⟨S2048, .i32⟩
  | .hbm, ⟨15, _⟩ => ⟨S2048, .i1⟩
  | .hbm, ⟨16, _⟩ => ⟨S2048, .i32⟩
  | .hbm, ⟨17, _⟩ => ⟨S2048, .i32⟩
  | .hbm, ⟨18, _⟩ => ⟨S_, .i32⟩
  | .hbm, ⟨19, _⟩ => ⟨S2048, .i32⟩
  | .hbm, ⟨20, _⟩ => ⟨S2048, .i1⟩
  | .hbm, ⟨21, _⟩ => ⟨S2048, .i1⟩
  | .hbm, ⟨22, _⟩ => ⟨S_, .i32⟩
  | .hbm, ⟨23, _⟩ => ⟨S2048, .i32⟩
  | .hbm, ⟨24, _⟩ => ⟨S2048, .i32⟩
  | .hbm, ⟨25, _⟩ => ⟨S2048, .i32⟩
  | .hbm, ⟨26, _⟩ => ⟨S2048, .f32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i1⟩
  | .hbm, ⟨31, _⟩ => ⟨S_, .i32⟩
  | .hbm, ⟨32, _⟩ => ⟨S_, .i32⟩
  | .hbm, ⟨33, _⟩ => ⟨S2048, .i32⟩
  | .hbm, ⟨34, _⟩ => ⟨S2048, .i32⟩
  | .hbm, ⟨35, _⟩ => ⟨S_, .i32⟩
  | .hbm, ⟨36, _⟩ => ⟨S2048, .i32⟩
  | .hbm, ⟨37, _⟩ => ⟨S2048, .i1⟩
  | .hbm, ⟨38, _⟩ => ⟨S_, .i32⟩
  | .hbm, ⟨39, _⟩ => ⟨S2048, .i32⟩
  | .hbm, ⟨40, _⟩ => ⟨S2048, .i1⟩
  | .hbm, ⟨41, _⟩ => ⟨S_, .i32⟩
  | .hbm, ⟨42, _⟩ => ⟨S_, .i1⟩
  | .hbm, ⟨43, _⟩ => ⟨S2048, .i1⟩
  | .hbm, ⟨44, _⟩ => ⟨S2048, .i1⟩
  | .hbm, ⟨45, _⟩ => ⟨S2048, .i1⟩
  | .hbm, ⟨46, _⟩ => ⟨S2048, .i32⟩
  | .hbm, ⟨47, _⟩ => ⟨S2048, .i32⟩
  | .hbm, ⟨48, _⟩ => ⟨S2048, .i32⟩
  | .hbm, ⟨49, _⟩ => ⟨S2048, .f32⟩
  | .hbm, ⟨50, _⟩ => ⟨S32, .f32⟩
  | .hbm, ⟨51, _⟩ => ⟨S32, .f32⟩
  | .hbm, ⟨52, _⟩ => ⟨S_, .f32⟩
  | .hbm, ⟨53, _⟩ => ⟨S32, .f32⟩
  | .hbm, ⟨54, _⟩ => ⟨S32, .f32⟩
  | .hbm, ⟨55, _⟩ => ⟨S_, .f32⟩
  | .hbm, ⟨56, _⟩ => ⟨S32, .f32⟩
  | .hbm, ⟨57, _⟩ => ⟨S32, .f32⟩
  | .hbm, ⟨58, _⟩ => ⟨S2048x1, .f32⟩
  | .hbm, ⟨59, _⟩ => ⟨S1x32, .f32⟩
  | .hbm, ⟨60, _⟩ => ⟨S2048x32, .f32⟩
  | .hbm, ⟨61, _⟩ => ⟨S2048x32, .f32⟩
  | .hbm, ⟨62, _⟩ => ⟨S2048x32, .f32⟩
  | .hbm, ⟨63, _⟩ => ⟨S2048x1, .f32⟩
  | .hbm, ⟨64, _⟩ => ⟨S1x32, .f32⟩
  | .hbm, ⟨65, _⟩ => ⟨S2048x32, .f32⟩
  | .hbm, ⟨66, _⟩ => ⟨S2048x32, .f32⟩
  | .hbm, ⟨67, _⟩ => ⟨S2048x32, .f32⟩
  | .hbm, ⟨68, _⟩ => ⟨S2048x32, .f32⟩
  | .hbm, ⟨69, _⟩ => ⟨S2048x32, .f32⟩
  | .hbm, ⟨70, _⟩ => ⟨S2048x32, .f32⟩
  | .hbm, ⟨71, _⟩ => ⟨S2048x32, .f32⟩
  | .hbm, ⟨72, _⟩ => ⟨S2048x128, .f32⟩
  | .hbm, ⟨73, _⟩ => ⟨S2048x32, .f32⟩
  | .hbm, ⟨74, _⟩ => ⟨S2048x32, .f32⟩
  | .hbm, ⟨75, _⟩ => ⟨S2048x32, .f32⟩
  | .hbm, ⟨76, _⟩ => ⟨S2048x32, .f32⟩
  | .hbm, ⟨77, _⟩ => ⟨S2048x32, .f32⟩
  | .hbm, ⟨78, _⟩ => ⟨S2048x32, .f32⟩
  | .hbm, ⟨79, _⟩ => ⟨S2048x128, .f32⟩
  | .hbm, ⟨80, _⟩ => ⟨S2048x1024, .f32⟩
  | .hbm, ⟨81, _⟩ => ⟨S2048x256, .f32⟩
  | .hbm, ⟨82, _⟩ => ⟨S2048x256, .f32⟩
  | .hbm, ⟨83, _⟩ => ⟨S2048x12800, .f32⟩
  | .hbm, ⟨84, _⟩ => ⟨S1x128, .f32⟩
  | .hbm, ⟨85, _⟩ => ⟨S1x128, .f32⟩
  | .hbm, ⟨86, _⟩ => ⟨S1x128, .f32⟩
  | .hbm, ⟨87, _⟩ => ⟨S1x128, .f32⟩
  | .hbm, ⟨88, _⟩ => ⟨S2048x12800, .bf16⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x1024, .f32⟩
  | .local _ .vmem, ⟨7, _⟩ => ⟨S512x1024, .f32⟩
  | .local _ .vmem, ⟨8, _⟩ => ⟨S512x256, .f32⟩
  | .local _ .vmem, ⟨9, _⟩ => ⟨S512x256, .f32⟩
  | .local _ .vmem, ⟨10, _⟩ => ⟨S1x128, .f32⟩
  | .local _ .vmem, ⟨11, _⟩ => ⟨S1x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S1x128, .f32⟩
  | .local _ .vmem, ⟨17, _⟩ => ⟨S1x128, .f32⟩
  | .local _ .vmem, ⟨18, _⟩ => ⟨S1x512x1536, .bf16⟩
  | _, _ => ⟨S1x2048x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v1 : Ref sig .tc := ⟨.hbm, 25, rfl⟩
abbrev main_v2 : Ref sig .tc := ⟨.hbm, 26, rfl⟩
abbrev main_c_0 : Ref sig .tc := ⟨.hbm, 27, rfl⟩
abbrev main_call1_v0 : Ref sig .tc := ⟨.hbm, 28, rfl⟩
abbrev main_call1_c : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_c_1 : Ref sig .tc := ⟨.hbm, 35, rfl⟩
abbrev main_call1_v5 : Ref sig .tc := ⟨.hbm, 36, rfl⟩
abbrev main_call1_v6 : Ref sig .tc := ⟨.hbm, 37, rfl⟩
abbrev main_call1_c_2 : Ref sig .tc := ⟨.hbm, 38, rfl⟩
abbrev main_call1_v7 : Ref sig .tc := ⟨.hbm, 39, rfl⟩
abbrev main_call1_v8 : Ref sig .tc := ⟨.hbm, 40, rfl⟩
abbrev main_call1_c_3 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_v3 : Ref sig .tc := ⟨.hbm, 48, rfl⟩
abbrev main_v4 : Ref sig .tc := ⟨.hbm, 49, rfl⟩
abbrev main_v5 : Ref sig .tc := ⟨.hbm, 50, rfl⟩
abbrev main_v6 : Ref sig .tc := ⟨.hbm, 51, rfl⟩
abbrev main_cst : Ref sig .tc := ⟨.hbm, 52, rfl⟩
abbrev main_v7 : Ref sig .tc := ⟨.hbm, 53, rfl⟩
abbrev main_v8 : Ref sig .tc := ⟨.hbm, 54, rfl⟩
abbrev main_cst_1 : Ref sig .tc := ⟨.hbm, 55, rfl⟩
abbrev main_v9 : Ref sig .tc := ⟨.hbm, 56, rfl⟩
abbrev main_v10 : Ref sig .tc := ⟨.hbm, 57, rfl⟩
abbrev main_v11 : Ref sig .tc := ⟨.hbm, 58, rfl⟩
abbrev main_v12 : Ref sig .tc := ⟨.hbm, 59, rfl⟩
abbrev main_v13 : Ref sig .tc := ⟨.hbm, 60, rfl⟩
abbrev main_v14 : Ref sig .tc := ⟨.hbm, 61, rfl⟩
abbrev main_v15 : Ref sig .tc := ⟨.hbm, 62, rfl⟩
abbrev main_v16 : Ref sig .tc := ⟨.hbm, 63, rfl⟩
abbrev main_v17 : Ref sig .tc := ⟨.hbm, 64, rfl⟩
abbrev main_v18 : Ref sig .tc := ⟨.hbm, 65, rfl⟩
abbrev main_v19 : Ref sig .tc := ⟨.hbm, 66, rfl⟩
abbrev main_v20 : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39_0 : Ref sig .tc := ⟨.hbm, 86, rfl⟩
abbrev main_v39_1 : Ref sig .tc := ⟨.hbm, 87, rfl⟩
abbrev main_v39_2 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨1, ![4], ![false]⟩

def k0_mult1 (i : grid0.Coords) : BitVec 32 :=
  let arg0 : BitVec 32 := BitVec.ofNat 32 (i 0).val
  let c512_i32 : BitVec 32 := 512#32
  let v4 : BitVec 32 := Scalar.muli arg0 c512_i32
  v4
def k0_cond1 (i : grid0.Coords) : BitVec 1 :=
  let arg0 : BitVec 32 := BitVec.ofNat 32 (i 0).val
  let c0_i32 : BitVec 32 := 0#32
  let v10 : BitVec 1 := Scalar.cmpi .sgt arg0 c0_i32
  let v11 : BitVec 32 := Scalar.extui v10
  let c0_i32_9 : BitVec 32 := 0#32
  let v12 : BitVec 1 := Scalar.cmpi .ne v11 c0_i32_9
  v12

def k0_off1 (i : grid0.Coords) : Fin 2 → Nat :=
  let arg0 : BitVec 32 := BitVec.ofNat 32 (i 0).val
  let c512_i32 : BitVec 32 := 512#32
  let v4 : BitVec 32 := Scalar.muli arg0 c512_i32
  let v5 : BitVec 32 := v4
  let c4096_i32_279 : BitVec 32 := 4096#32
  ![v5.toNat, 4096]
def k0_off2 (i : grid0.Coords) : Fin 2 → Nat :=
  let arg0 : BitVec 32 := BitVec.ofNat 32 (i 0).val
  let c512_i32 : BitVec 32 := 512#32
  let v4 : BitVec 32 := Scalar.muli arg0 c512_i32
  let v5 : BitVec 32 := v4
  let c4096_i32 : BitVec 32 := 4096#32
  ![v5.toNat, 4096]
def k0_cond4 (i : grid0.Coords) : BitVec 1 :=
  let arg0 : BitVec 32 := BitVec.ofNat 32 (i 0).val
  let c3_i32 : BitVec 32 := 3#32
  let v858 : BitVec 1 := Scalar.cmpi .eq arg0 c3_i32
  let v859 : BitVec 32 := Scalar.extui v858
  let c0_i32_278 : BitVec 32 := 0#32
  let v860 : BitVec 1 := Scalar.cmpi .ne v859 c0_i32_278
  v860

def k0_off3 (i : grid0.Coords) : Fin 2 → Nat :=
  let arg0 : BitVec 32 := BitVec.ofNat 32 (i 0).val
  let c512_i32 : BitVec 32 := 512#32
  let v4 : BitVec 32 := Scalar.muli arg0 c512_i32
  let v5 : BitVec 32 := v4
  let c4096_i32_279 : BitVec 32 := 4096#32
  ![v5.toNat, 4096]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c20_i32 : BitVec 32 := 20#32
  let c0_i32 : BitVec 32 := 0#32
  ![arg0.toNat, c20_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceQkvIdeal.lean ====
abbrev S1x2048x8x128 : Shape := ⟨4, ![1, 2048, 8, 128]⟩
abbrev S1x2048x2x128 : Shape := ⟨4, ![1, 2048, 2, 128]⟩
abbrev S1x2048x12800 : Shape := ⟨3, ![1, 2048, 12800]⟩
abbrev S128 : Shape := ⟨1, ![128]⟩
abbrev S2048x12800 : Shape := ⟨2, ![2048, 12800]⟩
abbrev S32 : Shape := ⟨1, ![32]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S_ : Shape := ⟨0, ![]⟩
abbrev S2048x1 : Shape := ⟨2, ![2048, 1]⟩
abbrev S2048x2 : Shape := ⟨2, ![2048, 2]⟩
abbrev S2048x2x1 : Shape := ⟨3, ![2048, 2, 1]⟩
abbrev S1x1x32 : Shape := ⟨3, ![1, 1, 32]⟩
abbrev S2048x2x32 : Shape := ⟨3, ![2048, 2, 32]⟩
abbrev S1x2048x1024 : Shape := ⟨3, ![1, 2048, 1024]⟩
abbrev S1x2048x256 : Shape := ⟨3, ![1, 2048, 256]⟩
abbrev S1x2048x8 : Shape := ⟨3, ![1, 2048, 8]⟩
abbrev S1x2048x8x1 : Shape := ⟨4, ![1, 2048, 8, 1]⟩
abbrev S1x1x1x128 : Shape := ⟨4, ![1, 1, 1, 128]⟩
abbrev S1x2048x8x2x2x32 : Shape := ⟨6, ![1, 2048, 8, 2, 2, 32]⟩
abbrev S1x2048x8x2x1x32 : Shape := ⟨6, ![1, 2048, 8, 2, 1, 32]⟩
abbrev S1x2048x8x2x32 : Shape := ⟨5, ![1, 2048, 8, 2, 32]⟩
abbrev S1x2048x1x2x32 : Shape := ⟨5, ![1, 2048, 1, 2, 32]⟩
abbrev S1x2048x2 : Shape := ⟨3, ![1, 2048, 2]⟩
abbrev S1x2048x2x1 : Shape := ⟨4, ![1, 2048, 2, 1]⟩
abbrev S1x2048x2x2x2x32 : Shape := ⟨6, ![1, 2048, 2, 2, 2, 32]⟩
abbrev S1x2048x2x2x1x32 : Shape := ⟨6, ![1, 2048, 2, 2, 1, 32]⟩
abbrev S1x2048x2x2x32 : Shape := ⟨5, ![1, 2048, 2, 2, 32]⟩
abbrev S1x128 : Shape := ⟨2, ![1, 128]⟩
abbrev S2048x8 : Shape := ⟨2, ![2048, 8]⟩
abbrev S1x2048x1536 : Shape := ⟨3, ![1, 2048, 1536]⟩
abbrev S2048x1536 : Shape := ⟨2, ![2048, 1536]⟩
abbrev S2048x4096 : Shape := ⟨2, ![2048, 4096]⟩
abbrev S2048x7168 : Shape := ⟨2, ![2048, 7168]⟩

abbrev nBuf : Space → Nat
  | .hbm => 232
  | .vmem => 0
  | .smem => 0
  | _ => 0

abbrev hbmTy0_0 (i : Nat) : BufTy := match i % 128 with
  | 0 => ⟨S1x2048x8x128, .f32⟩
  | 1 => ⟨S1x2048x2x128, .f32⟩
  | 2 => ⟨S1x2048x2x128, .f32⟩
  | 3 => ⟨S1x2048x12800, .f32⟩
  | 4 => ⟨S128, .f32⟩
  | 5 => ⟨S128, .f32⟩
  | 6 => ⟨S2048x12800, .bf16⟩
  | 7 => ⟨S32, .i32⟩
  | 8 => ⟨S32x64, .i32⟩
  | 9 => ⟨S2048, .i32⟩
  | 10 => ⟨S64, .i32⟩
  | 11 => ⟨S1x64, .i32⟩
  | 12 => ⟨S32x64, .i32⟩
  | 13 => ⟨S2048, .i32⟩
  | 14 => ⟨S32, .f32⟩
  | 15 => ⟨S32, .f32⟩
  | 16 => ⟨S_, .f32⟩
  | 17 => ⟨S32, .f32⟩
  | 18 => ⟨S32, .f32⟩
  | 19 => ⟨S_, .f32⟩
  | 20 => ⟨S32, .f32⟩
  | 21 => ⟨S32, .f32⟩
  | 22 => ⟨S2048x1, .i32⟩
  | 23 => ⟨S2048x1, .i32⟩
  | 24 => ⟨S2048x2, .i32⟩
  | 25 => ⟨S2048x2, .f32⟩
  | 26 => ⟨S2048x2x1, .f32⟩
  | 27 => ⟨S1x1x32, .f32⟩
  | 28 => ⟨S2048x2x32, .f32⟩
  | 29 => ⟨S2048x2x32, .f32⟩
  | 30 => ⟨S2048x2x32, .f32⟩
  | 31 => ⟨S2048x2x32, .f32⟩
  | 32 => ⟨S2048x2x32, .f32⟩
  | 33 => ⟨S1x2048x1024, .f32⟩
  | 34 => ⟨S1x2048x256, .f32⟩
  | 35 => ⟨S1x2048x256, .f32⟩
  | 36 => ⟨S1x2048x8x128, .f32⟩
  | 37 => ⟨S1x2048x8x128, .f32⟩
  | 38 => ⟨S_, .f32⟩
  | 39 => ⟨S1x2048x8, .f32⟩
  | 40 => ⟨S1x2048x8x1, .f32⟩
  | 41 => ⟨S_, .f32⟩
  | 42 => ⟨S1x2048x8x1, .f32⟩
  | 43 => ⟨S1x2048x8x1, .f32⟩
  | 44 => ⟨S_, .f32⟩
  | 45 => ⟨S1x2048x8x1, .f32⟩
  | 46 => ⟨S1x2048x8x1, .f32⟩
  | 47 => ⟨S1x2048x8x1, .f32⟩
  | 48 => ⟨S1x2048x8x1, .f32⟩
  | 49 => ⟨S_, .f32⟩
  | 50 => ⟨S1x2048x8x1, .f32⟩
  | 51 => ⟨S1x2048x8x1, .f32⟩
  | 52 => ⟨S1x2048x8x128, .f32⟩
  | 53 => ⟨S1x2048x8x128, .f32⟩
  | 54 => ⟨S1x1x1x128, .f32⟩
  | 55 => ⟨S1x2048x8x128, .f32⟩
  | 56 => ⟨S1x2048x8x128, .f32⟩
  | 57 => ⟨S1x2048x8x2x2x32, .f32⟩
  | 58 => ⟨S1x2048x8x2x1x32, .f32⟩
  | 59 => ⟨S1x2048x8x2x32, .f32⟩
  | 60 => ⟨S1x2048x8x2x1x32, .f32⟩
  | 61 => ⟨S1x2048x8x2x32, .f32⟩
  | 62 => ⟨S1x2048x1x2x32, .f32⟩
  | 63 => ⟨S1x2048x1x2x32, .f32⟩
  | 64 => ⟨S1x2048x8x2x32, .f32⟩
  | 65 => ⟨S1x2048x8x2x32, .f32⟩
  | 66 => ⟨S1x2048x8x2x32, .f32⟩
  | 67 => ⟨S1x2048x8x2x32, .f32⟩
  | 68 => ⟨S1x2048x8x2x32, .f32⟩
  | 69 => ⟨S1x2048x8x2x32, .f32⟩
  | 70 => ⟨S1x2048x8x2x32, .f32⟩
  | 71 => ⟨S1x2048x8x2x32, .f32⟩
  | 72 => ⟨S1x2048x8x2x32, .f32⟩
  | 73 => ⟨S1x2048x8x2x32, .f32⟩
  | 74 => ⟨S1x2048x8x2x1x32, .f32⟩
  | 75 => ⟨S1x2048x8x2x1x32, .f32⟩
  | 76 => ⟨S1x2048x8x2x2x32, .f32⟩
  | 77 => ⟨S1x2048x8x128, .f32⟩
  | 78 => ⟨S1x2048x2x128, .f32⟩
  | 79 => ⟨S1x2048x2x128, .f32⟩
  | 80 => ⟨S_, .f32⟩
  | 81 => ⟨S1x2048x2, .f32⟩
  | 82 => ⟨S1x2048x2x1, .f32⟩
  | 83 => ⟨S_, .f32⟩
  | 84 => ⟨S1x2048x2x1, .f32⟩
  | 85 => ⟨S1x2048x2x1, .f32⟩
  | 86 => ⟨S_, .f32⟩
  | 87 => ⟨S1x2048x2x1, .f32⟩
  | 88 => ⟨S1x2048x2x1, .f32⟩
  | 89 => ⟨S1x2048x2x1, .f32⟩
  | 90 => ⟨S1x2048x2x1, .f32⟩
  | 91 => ⟨S_, .f32⟩
  | 92 => ⟨S1x2048x2x1, .f32⟩
  | 93 => ⟨S1x2048x2x1, .f32⟩
  | 94 => ⟨S1x2048x2x128, .f32⟩
  | 95 => ⟨S1x2048x2x128, .f32⟩
  | 96 => ⟨S1x1x1x128, .f32⟩
  | 97 => ⟨S1x2048x2x128, .f32⟩
  | 98 => ⟨S1x2048x2x128, .f32⟩
  | 99 => ⟨S1x2048x2x2x2x32, .f32⟩
  | 100 => ⟨S1x2048x2x2x1x32, .f32⟩
  | 101 => ⟨S1x2048x2x2x32, .f32⟩
  | 102 => ⟨S1x2048x2x2x1x32, .f32⟩
  | 103 => ⟨S1x2048x2x2x32, .f32⟩
  | 104 => ⟨S1x2048x1x2x32, .f32⟩
  | 105 => ⟨S1x2048x1x2x32, .f32⟩
  | 106 => ⟨S1x2048x2x2x32, .f32⟩
  | 107 => ⟨S1x2048x2x2x32, .f32⟩
  | 108 => ⟨S1x2048x2x2x32, .f32⟩
  | 109 => ⟨S1x2048x2x2x32, .f32⟩
  | 110 => ⟨S1x2048x2x2x32, .f32⟩
  | 111 => ⟨S1x2048x2x2x32, .f32⟩
  | 112 => ⟨S1x2048x2x2x32, .f32⟩
  | 113 => ⟨S1x2048x2x2x32, .f32⟩
  | 114 => ⟨S1x2048x2x2x32, .f32⟩
  | 115 => ⟨S1x2048x2x2x32, .f32⟩
  | 116 => ⟨S1x2048x2x2x1x32, .f32⟩
  | 117 => ⟨S1x2048x2x2x1x32, .f32⟩
  | 118 => ⟨S1x2048x2x2x2x32, .f32⟩
  | 119 => ⟨S1x2048x2x128, .f32⟩
  | 120 => ⟨S1x2048x2x128, .f32⟩
  | 121 => ⟨S1x2048x256, .f32⟩
  | 122 => ⟨S1x2048x2x2x2x32, .f32⟩
  | 123 => ⟨S1x2048x2x2x1x32, .f32⟩
  | 124 => ⟨S1x2048x2x2x32, .f32⟩
  | 125 => ⟨S1x2048x2x2x1x32, .f32⟩
  | 126 => ⟨S1x2048x2x2x32, .f32⟩
  | 127 => ⟨S1x2048x2x2x32, .f32⟩
  | _ => ⟨S1x2048x8x128, .f32⟩

abbrev hbmTy0_1 (i : Nat) : BufTy := match i % 128 with
  | 0 => ⟨S1x2048x2x2x32, .f32⟩
  | 1 => ⟨S1x2048x2x2x32, .f32⟩
  | 2 => ⟨S1x2048x2x2x32, .f32⟩
  | 3 => ⟨S1x2048x2x2x32, .f32⟩
  | 4 => ⟨S1x2048x2x2x32, .f32⟩
  | 5 => ⟨S1x2048x2x2x32, .f32⟩
  | 6 => ⟨S1x2048x2x2x32, .f32⟩
  | 7 => ⟨S1x2048x2x2x32, .f32⟩
  | 8 => ⟨S1x2048x2x2x32, .f32⟩
  | 9 => ⟨S1x2048x2x2x32, .f32⟩
  | 10 => ⟨S1x2048x2x2x1x32, .f32⟩
  | 11 => ⟨S_, .f32⟩
  | 12 => ⟨S1x2048x2x2x2x32, .f32⟩
  | 13 => ⟨S1x2048x2x2x1x32, .f32⟩
  | 14 => ⟨S_, .f32⟩
  | 15 => ⟨S1x2048x2x2x2x32, .f32⟩
  | 16 => ⟨S1x2048x2x2x2x32, .f32⟩
  | 17 => ⟨S1x2048x2x128, .f32⟩
  | 18 => ⟨S1x2048x2x128, .f32⟩
  | 19 => ⟨S_, .f32⟩
  | 20 => ⟨S1x128, .f32⟩
  | 21 => ⟨S1x1x1x128, .f32⟩
  | 22 => ⟨S1x2048x2x128, .f32⟩
  | 23 => ⟨S1x2048x2x128, .f32⟩
  | 24 => ⟨S_, .f32⟩
  | 25 => ⟨S128, .f32⟩
  | 26 => ⟨S1x2048x2x128, .f32⟩
  | 27 => ⟨S_, .f32⟩
  | 28 => ⟨S1x2048x2, .f32⟩
  | 29 => ⟨S1x2048x2x1, .f32⟩
  | 30 => ⟨S1x2048x2x128, .f32⟩
  | 31 => ⟨S1x2048x2x128, .f32⟩
  | 32 => ⟨S1x2048x2x1, .f32⟩
  | 33 => ⟨S_, .f32⟩
  | 34 => ⟨S1x2048x2x1, .f32⟩
  | 35 => ⟨S1x2048x2x1, .f32⟩
  | 36 => ⟨S_, .f32⟩
  | 37 => ⟨S2048x2, .f32⟩
  | 38 => ⟨S1x2048x2, .f32⟩
  | 39 => ⟨S1x2048x2x128, .f32⟩
  | 40 => ⟨S1x2048x2x128, .f32⟩
  | 41 => ⟨S1x2048x2x128, .f32⟩
  | 42 => ⟨S1x2048x2x128, .f32⟩
  | 43 => ⟨S1x2048x2x128, .f32⟩
  | 44 => ⟨S1x2048x256, .f32⟩
  | 45 => ⟨S1x2048x8x2x2x32, .f32⟩
  | 46 => ⟨S1x2048x8x2x1x32, .f32⟩
  | 47 => ⟨S1x2048x8x2x32, .f32⟩
  | 48 => ⟨S1x2048x8x2x1x32, .f32⟩
  | 49 => ⟨S1x2048x8x2x32, .f32⟩
  | 50 => ⟨S1x2048x8x2x32, .f32⟩
  | 51 => ⟨S1x2048x8x2x32, .f32⟩
  | 52 => ⟨S1x2048x8x2x32, .f32⟩
  | 53 => ⟨S1x2048x8x2x32, .f32⟩
  | 54 => ⟨S1x2048x8x2x32, .f32⟩
  | 55 => ⟨S1x2048x8x2x32, .f32⟩
  | 56 => ⟨S1x2048x8x2x32, .f32⟩
  | 57 => ⟨S1x2048x8x2x32, .f32⟩
  | 58 => ⟨S1x2048x8x2x32, .f32⟩
  | 59 => ⟨S1x2048x8x2x32, .f32⟩
  | 60 => ⟨S1x2048x8x2x32, .f32⟩
  | 61 => ⟨S1x2048x8x2x1x32, .f32⟩
  | 62 => ⟨S_, .f32⟩
  | 63 => ⟨S1x2048x8x2x2x32, .f32⟩
  | 64 => ⟨S1x2048x8x2x1x32, .f32⟩
  | 65 => ⟨S_, .f32⟩
  | 66 => ⟨S1x2048x8x2x2x32, .f32⟩
  | 67 => ⟨S1x2048x8x2x2x32, .f32⟩
  | 68 => ⟨S1x2048x8x128, .f32⟩
  | 69 => ⟨S1x2048x8x128, .f32⟩
  | 70 => ⟨S_, .f32⟩
  | 71 => ⟨S1x128, .f32⟩
  | 72 => ⟨S1x1x1x128, .f32⟩
  | 73 => ⟨S1x2048x8x128, .f32⟩
  | 74 => ⟨S1x2048x8x128, .f32⟩
  | 75 => ⟨S_, .f32⟩
  | 76 => ⟨S128, .f32⟩
  | 77 => ⟨S1x2048x8x128, .f32⟩
  | 78 => ⟨S_, .f32⟩
  | 79 => ⟨S1x2048x8, .f32⟩
  | 80 => ⟨S1x2048x8x1, .f32⟩
  | 81 => ⟨S1x2048x8x128, .f32⟩
  | 82 => ⟨S1x2048x8x128, .f32⟩
  | 83 => ⟨S1x2048x8x1, .f32⟩
  | 84 => ⟨S_, .f32⟩
  | 85 => ⟨S1x2048x8x1, .f32⟩
  | 86 => ⟨S1x2048x8x1, .f32⟩
  | 87 => ⟨S_, .f32⟩
  | 88 => ⟨S2048x8, .f32⟩
  | 89 => ⟨S1x2048x8, .f32⟩
  | 90 => ⟨S1x2048x8x128, .f32⟩
  | 91 => ⟨S1x2048x8x128, .f32⟩
  | 92 => ⟨S1x2048x8x128, .f32⟩
  | 93 => ⟨S1x2048x8x128, .f32⟩
  | 94 => ⟨S1x2048x8x128, .f32⟩
  | 95 => ⟨S1x2048x1024, .f32⟩
  | 96 => ⟨S1x2048x1536, .f32⟩
  | 97 => ⟨S2048x1536, .f32⟩
  | 98 => ⟨S2048x1536, .bf16⟩
  | 99 => ⟨S1x128, .f32⟩
  | 100 => ⟨S1x128, .f32⟩
  | 101 => ⟨S2048x4096, .bf16⟩
  | 102 => ⟨S2048x7168, .bf16⟩
  | 103 => ⟨S2048x12800, .bf16⟩
  | _ => ⟨S1x2048x8x128, .f32⟩

abbrev hbmTy (i : Nat) : BufTy := match i / 128 with
  | 0 => hbmTy0_0 i
  | 1 => hbmTy0_1 i
  | _ => ⟨S1x2048x8x128, .f32⟩

abbrev bufTy : (tb : Table) → Fin (tcTables nBuf tb) → BufTy
  | .hbm, ⟨i, _⟩ => hbmTy i
  | _, _ => ⟨S1x2048x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_1 : Ref sig .tc := ⟨.hbm, 38, rfl⟩
abbrev main_v29 : Ref sig .tc := ⟨.hbm, 39, rfl⟩
abbrev main_v30 : Ref sig .tc := ⟨.hbm, 40, rfl⟩
abbrev main_cst_2 : Ref sig .tc := ⟨.hbm, 41, rfl⟩
abbrev main_v31 : Ref sig .tc := ⟨.hbm, 42, rfl⟩
abbrev main_v32 : Ref sig .tc := ⟨.hbm, 43, rfl⟩
abbrev main_cst_3 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_4 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_cst_5 : Ref sig .tc := ⟨.hbm, 80, rfl⟩
abbrev main_v67 : Ref sig .tc := ⟨.hbm, 81, rfl⟩
abbrev main_v68 : Ref sig .tc := ⟨.hbm, 82, rfl⟩
abbrev main_cst_6 : Ref sig .tc := ⟨.hbm, 83, rfl⟩
abbrev main_v69 : Ref sig .tc := ⟨.hbm, 84, rfl⟩
abbrev main_v70 : Ref sig .tc := ⟨.hbm, 85, rfl⟩
abbrev main_cst_7 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_cst_8 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_cst_9 : Ref sig .tc := ⟨.hbm, 139, rfl⟩
abbrev main_v122 : Ref sig .tc := ⟨.hbm, 140, rfl⟩
abbrev main_v123 : Ref sig .tc := ⟨.hbm, 141, rfl⟩
abbrev main_cst_10 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_v127 : Ref sig .tc := ⟨.hbm, 146, rfl⟩
abbrev main_cst_11 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_cst_12 : Ref sig .tc := ⟨.hbm, 152, rfl⟩
abbrev main_v132 : Ref sig .tc := ⟨.hbm, 153, rfl⟩
abbrev main_v133 : Ref sig .tc := ⟨.hbm, 154, rfl⟩
abbrev main_cst_13 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_cst_14 : Ref sig .tc := ⟨.hbm, 161, rfl⟩
abbrev main_v139 : Ref sig .tc := ⟨.hbm, 162, rfl⟩
abbrev main_v140 : Ref sig .tc := ⟨.hbm, 163, rfl⟩
abbrev main_cst_15 : Ref sig .tc := ⟨.hbm, 164, rfl⟩
abbrev main_v141 : Ref sig .tc := ⟨.hbm, 165, rfl⟩
abbrev main_v142 : Ref sig .tc := ⟨.hbm, 166, rfl⟩
abbrev main_v143 : Ref sig .tc := ⟨.hbm, 167, rfl⟩
abbrev main_v144 : Ref sig .tc := ⟨.hbm, 168, rfl⟩
abbrev main_v145 : Ref sig .tc := ⟨.hbm, 169, rfl⟩
abbrev main_v146 : Ref sig .tc := ⟨.hbm, 170, rfl⟩
abbrev main_v147 : Ref sig .tc := ⟨.hbm, 171, rfl⟩
abbrev main_v148 : Ref sig .tc := ⟨.hbm, 172, rfl⟩
abbrev main_v149 : Ref sig .tc := ⟨.hbm, 173, rfl⟩
abbrev main_v150 : Ref sig .tc := ⟨.hbm, 174, rfl⟩
abbrev main_v151 : Ref sig .tc := ⟨.hbm, 175, rfl⟩
abbrev main_v152 : Ref sig .tc := ⟨.hbm, 176, rfl⟩
abbrev main_v153 : Ref sig .tc := ⟨.hbm, 177, rfl⟩
abbrev main_v154 : Ref sig .tc := ⟨.hbm, 178, rfl⟩
abbrev main_v155 : Ref sig .tc := ⟨.hbm, 179, rfl⟩
abbrev main_v156 : Ref sig .tc := ⟨.hbm, 180, rfl⟩
abbrev main_v157 : Ref sig .tc := ⟨.hbm, 181, rfl⟩
abbrev main_v158 : Ref sig .tc := ⟨.hbm, 182, rfl⟩
abbrev main_v159 : Ref sig .tc := ⟨.hbm, 183, rfl⟩
abbrev main_v160 : Ref sig .tc := ⟨.hbm, 184, rfl⟩
abbrev main_v161 : Ref sig .tc := ⟨.hbm, 185, rfl⟩
abbrev main_v162 : Ref sig .tc := ⟨.hbm, 186, rfl⟩
abbrev main_v163 : Ref sig .tc := ⟨.hbm, 187, rfl⟩
abbrev main_v164 : Ref sig .tc := ⟨.hbm, 188, rfl⟩
abbrev main_v165 : Ref sig .tc := ⟨.hbm, 189, rfl⟩
abbrev main_cst_16 : Ref sig .tc := ⟨.hbm, 190, rfl⟩
abbrev main_v166 : Ref sig .tc := ⟨.hbm, 191, rfl⟩
abbrev main_v167 : Ref sig .tc := ⟨.hbm, 192, rfl⟩
abbrev main_cst_17 : Ref sig .tc := ⟨.hbm, 193, rfl⟩
abbrev main_v168 : Ref sig .tc := ⟨.hbm, 194, rfl⟩
abbrev main_v169 : Ref sig .tc := ⟨.hbm, 195, rfl⟩
abbrev main_v170 : Ref sig .tc := ⟨.hbm, 196, rfl⟩
abbrev main_v171 : Ref sig .tc := ⟨.hbm, 197, rfl⟩
abbrev main_cst_18 : Ref sig .tc := ⟨.hbm, 198, rfl⟩
abbrev main_v172 : Ref sig .tc := ⟨.hbm, 199, rfl⟩
abbrev main_v173 : Ref sig .tc := ⟨.hbm, 200, rfl⟩
abbrev main_v174 : Ref sig .tc := ⟨.hbm, 201, rfl⟩
abbrev main_v175 : Ref sig .tc := ⟨.hbm, 202, rfl⟩
abbrev main_cst_19 : Ref sig .tc := ⟨.hbm, 203, rfl⟩
abbrev main_v176 : Ref sig .tc := ⟨.hbm, 204, rfl⟩
abbrev main_v177 : Ref sig .tc := ⟨.hbm, 205, rfl⟩
abbrev main_cst_20 : Ref sig .tc := ⟨.hbm, 206, rfl⟩
abbrev main_v178 : Ref sig .tc := ⟨.hbm, 207, rfl⟩
abbrev main_v179 : Ref sig .tc := ⟨.hbm, 208, rfl⟩
abbrev main_v180 : Ref sig .tc := ⟨.hbm, 209, rfl⟩
abbrev main_v181 : Ref sig .tc := ⟨.hbm, 210, rfl⟩
abbrev main_v182 : Ref sig .tc := ⟨.hbm, 211, rfl⟩
abbrev main_cst_21 : Ref sig .tc := ⟨.hbm, 212, rfl⟩
abbrev main_v183 : Ref sig .tc := ⟨.hbm, 213, rfl⟩
abbrev main_v184 : Ref sig .tc := ⟨.hbm, 214, rfl⟩
abbrev main_cst_22 : Ref sig .tc := ⟨.hbm, 215, rfl⟩
abbrev main_v185 : Ref sig .tc := ⟨.hbm, 216, rfl⟩
abbrev main_v186 : Ref sig .tc := ⟨.hbm, 217, rfl⟩
abbrev main_v187 : Ref sig .tc := ⟨.hbm, 218, rfl⟩
abbrev main_v188 : Ref sig .tc := ⟨.hbm, 219, rfl⟩
abbrev main_v189 : Ref sig .tc := ⟨.hbm, 220, rfl⟩
abbrev main_v190 : Ref sig .tc := ⟨.hbm, 221, rfl⟩
abbrev main_v191 : Ref sig .tc := ⟨.hbm, 222, rfl⟩
abbrev main_v192 : Ref sig .tc := ⟨.hbm, 223, rfl⟩
abbrev main_v193 : Ref sig .tc := ⟨.hbm, 224, rfl⟩
abbrev main_v194 : Ref sig .tc := ⟨.hbm, 225, rfl⟩
abbrev main_v195 : Ref sig .tc := ⟨.hbm, 226, rfl⟩
abbrev main_v196 : Ref sig .tc := ⟨.hbm, 227, rfl⟩
abbrev main_v197 : Ref sig .tc := ⟨.hbm, 228, rfl⟩
abbrev main_v198 : Ref sig .tc := ⟨.hbm, 229, rfl⟩
abbrev main_v199 : Ref sig .tc := ⟨.hbm, 230, rfl⟩
abbrev main_v200 : Ref sig .tc := ⟨.hbm, 231, rfl⟩

abbrev nD : Nat := 1
abbrev τ : Topo := Topo.v7x

variable {F : FTy → Type} [FloatOps F]
-- ==== KernelBrC2F.lean ====
abbrev S1x2048x1024 : Shape := ⟨3, ![1, 2048, 1024]⟩
abbrev S1024 : Shape := ⟨1, ![1024]⟩
abbrev S1x2048x12800 : Shape := ⟨3, ![1, 2048, 12800]⟩
abbrev S2048x1024 : Shape := ⟨2, ![2048, 1024]⟩
abbrev S2048x12800 : Shape := ⟨2, ![2048, 12800]⟩
abbrev S1x1024 : Shape := ⟨2, ![1, 1024]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩

abbrev nBuf : Space → Nat
  | .hbm => 9
  | .vmem => 10
  | .smem => 0
  | _ => 0

abbrev bufTy : (tb : Table) → Fin (tcTables nBuf tb) → BufTy
  | .hbm, ⟨0, _⟩ => ⟨S1x2048x1024, .f32⟩
  | .hbm, ⟨1, _⟩ => ⟨S1024, .f32⟩
  | .hbm, ⟨2, _⟩ => ⟨S1024, .f32⟩
  | .hbm, ⟨3, _⟩ => ⟨S1x2048x12800, .f32⟩
  | .hbm, ⟨4, _⟩ => ⟨S2048x1024, .f32⟩
  | .hbm, ⟨5, _⟩ => ⟨S2048x12800, .f32⟩
  | .hbm, ⟨6, _⟩ => ⟨S1x1024, .f32⟩
  | .hbm, ⟨7, _⟩ => ⟨S1x1024, .f32⟩
  | .hbm, ⟨8, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1x1024, .f32⟩
  | .local _ .vmem, ⟨7, _⟩ => ⟨S1x1024, .f32⟩
  | .local _ .vmem, ⟨8, _⟩ => ⟨S512x1024, .bf16⟩
  | .local _ .vmem, ⟨9, _⟩ => ⟨S512x1024, .bf16⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c17_i32 : BitVec 32 := 17#32
  let c0_i32 : BitVec 32 := 0#32
  ![arg0.toNat, c17_i32.toNat]

def cc0_transform_2 (i : grid0.Coords) : Fin 2 → Nat :=
  let arg0 : BitVec 32 := BitVec.ofNat 32 (i 0).val
  let c18_i32 : BitVec 32 := 18#32
  let c0_i32 : BitVec 32 := 0#32
  ![arg0.toNat, c18_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceBrC2FIdeal.lean ====
abbrev S1x2048x1024 : Shape := ⟨3, ![1, 2048, 1024]⟩
abbrev S1024 : Shape := ⟨1, ![1024]⟩
abbrev S1x2048x12800 : Shape := ⟨3, ![1, 2048, 12800]⟩
abbrev S_ : Shape := ⟨0, ![]⟩
abbrev S1x2048 : Shape := ⟨2, ![1, 2048]⟩
abbrev S1x2048x1 : Shape := ⟨3, ![1, 2048, 1]⟩
abbrev S1x1x1024 : Shape := ⟨3, ![1, 1, 1024]⟩
abbrev S2048x1024 : Shape := ⟨2, ![2048, 1024]⟩

abbrev nBuf : Space → Nat
  | .hbm => 53
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1024, .f32⟩
  | .hbm, ⟨2, _⟩ => ⟨S1024, .f32⟩
  | .hbm, ⟨3, _⟩ => ⟨S1x2048x12800, .f32⟩
  | .hbm, ⟨4, _⟩ => ⟨S1x2048x1024, .f32⟩
  | .hbm, ⟨5, _⟩ => ⟨S_, .f32⟩
  | .hbm, ⟨6, _⟩ => ⟨S1x2048, .f32⟩
  | .hbm, ⟨7, _⟩ => ⟨S1x2048x1, .f32⟩
  | .hbm, ⟨8, _⟩ => ⟨S_, .f32⟩
  | .hbm, ⟨9, _⟩ => ⟨S1x2048x1, .f32⟩
  | .hbm, ⟨10, _⟩ => ⟨S1x2048x1, .f32⟩
  | .hbm, ⟨11, _⟩ => ⟨S1x2048x1024, .f32⟩
  | .hbm, ⟨12, _⟩ => ⟨S1x2048x1024, .f32⟩
  | .hbm, ⟨13, _⟩ => ⟨S1x2048x1024, .f32⟩
  | .hbm, ⟨14, _⟩ => ⟨S_, .f32⟩
  | .hbm, ⟨15, _⟩ => ⟨S1x2048, .f32⟩
  | .hbm, ⟨16, _⟩ => ⟨S1x2048x1, .f32⟩
  | .hbm, ⟨17, _⟩ => ⟨S_, .f32⟩
  | .hbm, ⟨18, _⟩ => ⟨S1x2048x1, .f32⟩
  | .hbm, ⟨19, _⟩ => ⟨S1x2048x1, .f32⟩
  | .hbm, ⟨20, _⟩ => ⟨S_, .f32⟩
  | .hbm, ⟨21, _⟩ => ⟨S1x2048x1, .f32⟩
  | .hbm, ⟨22, _⟩ => ⟨S1x2048x1, .f32⟩
  | .hbm, ⟨23, _⟩ => ⟨S1x2048x1, .f32⟩
  | .hbm, ⟨24, _⟩ => ⟨S1x2048x1024, .f32⟩
  | .hbm, ⟨25, _⟩ => ⟨S1x2048x1024, .f32⟩
  | .hbm, ⟨26, _⟩ => ⟨S1x1x1024, .f32⟩
  | .hbm, ⟨27, _⟩ => ⟨S1x2048x1024, .f32⟩
  | .hbm, ⟨28, _⟩ => ⟨S1x2048x1024, .f32⟩
  | .hbm, ⟨29, _⟩ => ⟨S1x1x1024, .f32⟩
  | .hbm, ⟨30, _⟩ => ⟨S1x2048x1024, .f32⟩
  | .hbm, ⟨31, _⟩ => ⟨S1x2048x1024, .f32⟩
  | .hbm, ⟨32, _⟩ => ⟨S1x2048x1024, .f32⟩
  | .hbm, ⟨33, _⟩ => ⟨S1x2048x1024, .f32⟩
  | .hbm, ⟨34, _⟩ => ⟨S_, .f32⟩
  | .hbm, ⟨35, _⟩ => ⟨S1x2048x1024, .f32⟩
  | .hbm, ⟨36, _⟩ => ⟨S1x2048x1024, .f32⟩
  | .hbm, ⟨37, _⟩ => ⟨S_, .f32⟩
  | .hbm, ⟨38, _⟩ => ⟨S1x2048x1024, .f32⟩
  | .hbm, ⟨39, _⟩ => ⟨S1x2048x1024, .f32⟩
  | .hbm, ⟨40, _⟩ => ⟨S1x2048x1024, .f32⟩
  | .hbm, ⟨41, _⟩ => ⟨S1x2048x1024, .f32⟩
  | .hbm, ⟨42, _⟩ => ⟨S1x2048x1024, .f32⟩
  | .hbm, ⟨43, _⟩ => ⟨S_, .f32⟩
  | .hbm, ⟨44, _⟩ => ⟨S1x2048x1024, .f32⟩
  | .hbm, ⟨45, _⟩ => ⟨S1x2048x1024, .f32⟩
  | .hbm, ⟨46, _⟩ => ⟨S_, .f32⟩
  | .hbm, ⟨47, _⟩ => ⟨S1x2048x1024, .f32⟩
  | .hbm, ⟨48, _⟩ => ⟨S1x2048x1024, .f32⟩
  | .hbm, ⟨49, _⟩ => ⟨S1x2048x1024, .f32⟩
  | .hbm, ⟨50, _⟩ => ⟨S1x2048x1024, .f32⟩
  | .hbm, ⟨51, _⟩ => ⟨S2048x1024, .f32⟩
  | .hbm, ⟨52, _⟩ => ⟨S2048x1024, .bf16⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v23 : Ref sig .tc := ⟨.hbm, 40, rfl⟩
abbrev main_call1_v0 : Ref sig .tc := ⟨.hbm, 41, rfl⟩
abbrev main_call1_v1 : Ref sig .tc := ⟨.hbm, 42, rfl⟩
abbrev main_call1_cst : Ref sig .tc := ⟨.hbm, 43, rfl⟩
abbrev main_call1_v2 : Ref sig .tc := ⟨.hbm, 44, rfl⟩
abbrev main_call1_v3 : Ref sig .tc := ⟨.hbm, 45, rfl⟩
abbrev main_call1_cst_0 : Ref sig .tc := ⟨.hbm, 46, rfl⟩
abbrev main_call1_v4 : Ref sig .tc := ⟨.hbm, 47, rfl⟩
abbrev main_call1_v5 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩

abbrev nD : Nat := 1
abbrev τ : Topo := Topo.v7x

variable {F : FTy → Type} [FloatOps F]
-- ==== KernelMergeF.lean ====
abbrev S1x2048x1024 : Shape := ⟨3, ![1, 2048, 1024]⟩
abbrev S1x2048x12800 : Shape := ⟨3, ![1, 2048, 12800]⟩
abbrev S1024x1024 : Shape := ⟨2, ![1024, 1024]⟩
abbrev S1024 : Shape := ⟨1, ![1024]⟩
abbrev S2048x1024 : Shape := ⟨2, ![2048, 1024]⟩
abbrev S2048x12800 : Shape := ⟨2, ![2048, 12800]⟩
abbrev S8x128x1024 : Shape := ⟨3, ![8, 128, 1024]⟩
abbrev S8x1x128x1024 : Shape := ⟨4, ![8, 1, 128, 1024]⟩
abbrev S8x4x128x1024 : Shape := ⟨4, ![8, 4, 128, 1024]⟩
abbrev S1x1024 : Shape := ⟨2, ![1, 1024]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩

abbrev nBuf : Space → Nat
  | .hbm => 35
  | .vmem => 34
  | .smem => 0
  | _ => 0

abbrev bufTy : (tb : Table) → Fin (tcTables nBuf tb) → BufTy
  | .hbm, ⟨0, _⟩ => ⟨S1x2048x1024, .f32⟩
  | .hbm, ⟨1, _⟩ => ⟨S1x2048x1024, .f32⟩
  | .hbm, ⟨2, _⟩ => ⟨S1x2048x1024, .f32⟩
  | .hbm, ⟨3, _⟩ => ⟨S1x2048x1024, .f32⟩
  | .hbm, ⟨4, _⟩ => ⟨S1x2048x12800, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024, .f32⟩
  | .hbm, ⟨10, _⟩ => ⟨S2048x1024, .f32⟩
  | .hbm, ⟨11, _⟩ => ⟨S2048x1024, .f32⟩
  | .hbm, ⟨12, _⟩ => ⟨S2048x1024, .bf16⟩
  | .hbm, ⟨13, _⟩ => ⟨S2048x1024, .f32⟩
  | .hbm, ⟨14, _⟩ => ⟨S2048x1024, .bf16⟩
  | .hbm, ⟨15, _⟩ => ⟨S2048x1024, .f32⟩
  | .hbm, ⟨16, _⟩ => ⟨S2048x1024, .bf16⟩
  | .hbm, ⟨17, _⟩ => ⟨S2048x12800, .f32⟩
  | .hbm, ⟨18, _⟩ => ⟨S8x128x1024, .f32⟩
  | .hbm, ⟨19, _⟩ => ⟨S8x128x1024, .f32⟩
  | .hbm, ⟨20, _⟩ => ⟨S8x128x1024, .f32⟩
  | .hbm, ⟨21, _⟩ => ⟨S8x128x1024, .f32⟩
  | .hbm, ⟨22, _⟩ => ⟨S8x1x128x1024, .f32⟩
  | .hbm, ⟨23, _⟩ => ⟨S8x1x128x1024, .f32⟩
  | .hbm, ⟨24, _⟩ => ⟨S8x1x128x1024, .f32⟩
  | .hbm, ⟨25, _⟩ => ⟨S8x1x128x1024, .f32⟩
  | .hbm, ⟨26, _⟩ => ⟨S8x4x128x1024, .f32⟩
  | .hbm, ⟨27, _⟩ => ⟨S8x4x128x1024, .bf16⟩
  | .hbm, ⟨28, _⟩ => ⟨S1x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .bf16⟩
  | .hbm, ⟨33, _⟩ => ⟨S2048x1024, .f32⟩
  | .hbm, ⟨34, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S8x4x128x1024, .bf16⟩
  | .local _ .vmem, ⟨21, _⟩ => ⟨S1x1024, .f32⟩
  | .local _ .vmem, ⟨22, _⟩ => ⟨S512x1024, .f32⟩
  | .local _ .vmem, ⟨23, _⟩ => ⟨S512x1024, .f32⟩
  | .local _ .vmem, ⟨24, _⟩ => ⟨S512x1024, .f32⟩
  | .local _ .vmem, ⟨25, _⟩ => ⟨S512x1024, .f32⟩
  | .local _ .vmem, ⟨26, _⟩ => ⟨S512x1024, .f32⟩
  | .local _ .vmem, ⟨27, _⟩ => ⟨S512x1024, .f32⟩
  | .local _ .vmem, ⟨28, _⟩ => ⟨S512x1024, .bf16⟩
  | .local _ .vmem, ⟨29, _⟩ => ⟨S512x1024, .bf16⟩
  | .local _ .vmem, ⟨30, _⟩ => ⟨S512x1024, .f32⟩
  | .local _ .vmem, ⟨31, _⟩ => ⟨S512x1024, .f32⟩
  | .local _ .vmem, ⟨32, _⟩ => ⟨S512x1024, .f32⟩
  | .local _ .vmem, ⟨33, _⟩ => ⟨S512x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19_0 : Ref sig .tc := ⟨.hbm, 29, rfl⟩
abbrev main_v19_1 : Ref sig .tc := ⟨.hbm, 30, rfl⟩
abbrev main_v19_2 : Ref sig .tc := ⟨.hbm, 31, rfl⟩
abbrev main_v19_3 : Ref sig .tc := ⟨.hbm, 32, rfl⟩
abbrev main_v19_4 : Ref sig .tc := ⟨.hbm, 33, rfl⟩
abbrev main_v19_5 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c19_i32 : BitVec 32 := 19#32
  let c0_i32 : BitVec 32 := 0#32
  ![arg0.toNat, c19_i32.toNat]

def cc0_transform_5 (i : grid0.Coords) : Fin 2 → Nat :=
  let arg0 : BitVec 32 := BitVec.ofNat 32 (i 0).val
  let c20_i32 : BitVec 32 := 20#32
  let c0_i32 : BitVec 32 := 0#32
  ![arg0.toNat, c20_i32.toNat]

def cc0_transform_6 (i : grid0.Coords) : Fin 2 → Nat :=
  let arg0 : BitVec 32 := BitVec.ofNat 32 (i 0).val
  let c21_i32 : BitVec 32 := 21#32
  let c0_i32 : BitVec 32 := 0#32
  ![arg0.toNat, c21_i32.toNat]

def cc0_transform_7 (i : grid0.Coords) : Fin 2 → Nat :=
  let arg0 : BitVec 32 := BitVec.ofNat 32 (i 0).val
  let c22_i32 : BitVec 32 := 22#32
  let c0_i32 : BitVec 32 := 0#32
  ![arg0.toNat, c22_i32.toNat]

def cc0_transform_8 (i : grid0.Coords) : Fin 2 → Nat :=
  let arg0 : BitVec 32 := BitVec.ofNat 32 (i 0).val
  let c23_i32 : BitVec 32 := 23#32
  let c0_i32 : BitVec 32 := 0#32
  ![arg0.toNat, c23_i32.toNat]

def cc0_transform_9 (i : grid0.Coords) : Fin 2 → Nat :=
  let arg0 : BitVec 32 := BitVec.ofNat 32 (i 0).val
  let c24_i32 : BitVec 32 := 24#32
  let c0_i32 : BitVec 32 := 0#32
  ![arg0.toNat, c24_i32.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x4x128x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== ReferenceMergeFIdeal.lean ====
abbrev S1x2048x1024 : Shape := ⟨3, ![1, 2048, 1024]⟩
abbrev S1x2048x12800 : Shape := ⟨3, ![1, 2048, 12800]⟩
abbrev S1024x1024 : Shape := ⟨2, ![1024, 1024]⟩
abbrev S1024 : Shape := ⟨1, ![1024]⟩
abbrev S1x2048x3072 : Shape := ⟨3, ![1, 2048, 3072]⟩
abbrev S_ : Shape := ⟨0, ![]⟩
abbrev S1x2048 : Shape := ⟨2, ![1, 2048]⟩
abbrev S1x2048x1 : Shape := ⟨3, ![1, 2048, 1]⟩
abbrev S1x1x1024 : Shape := ⟨3, ![1, 1, 1024]⟩
abbrev S2048x1024 : Shape := ⟨2, ![2048, 1024]⟩

abbrev nBuf : Space → Nat
  | .hbm => 71
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x2048x1024, .f32⟩
  | .hbm, ⟨2, _⟩ => ⟨S1x2048x1024, .f32⟩
  | .hbm, ⟨3, _⟩ => ⟨S1x2048x1024, .f32⟩
  | .hbm, ⟨4, _⟩ => ⟨S1x2048x12800, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024, .f32⟩
  | .hbm, ⟨10, _⟩ => ⟨S1x2048x3072, .f32⟩
  | .hbm, ⟨11, _⟩ => ⟨S1x2048x1024, .f32⟩
  | .hbm, ⟨12, _⟩ => ⟨S1x2048x1024, .f32⟩
  | .hbm, ⟨13, _⟩ => ⟨S1x2048x1024, .f32⟩
  | .hbm, ⟨14, _⟩ => ⟨S1x2048x1024, .f32⟩
  | .hbm, ⟨15, _⟩ => ⟨S1x2048x1024, .f32⟩
  | .hbm, ⟨16, _⟩ => ⟨S1x2048x1024, .f32⟩
  | .hbm, ⟨17, _⟩ => ⟨S1x2048x1024, .f32⟩
  | .hbm, ⟨18, _⟩ => ⟨S1x2048x1024, .f32⟩
  | .hbm, ⟨19, _⟩ => ⟨S_, .f32⟩
  | .hbm, ⟨20, _⟩ => ⟨S1x2048x1024, .f32⟩
  | .hbm, ⟨21, _⟩ => ⟨S1x2048x1024, .f32⟩
  | .hbm, ⟨22, _⟩ => ⟨S_, .f32⟩
  | .hbm, ⟨23, _⟩ => ⟨S1x2048x1024, .f32⟩
  | .hbm, ⟨24, _⟩ => ⟨S1x2048x1024, .f32⟩
  | .hbm, ⟨25, _⟩ => ⟨S1x2048x1024, .f32⟩
  | .hbm, ⟨26, _⟩ => ⟨S1x2048x1024, .f32⟩
  | .hbm, ⟨27, _⟩ => ⟨S1x2048x1024, .f32⟩
  | .hbm, ⟨28, _⟩ => ⟨S_, .f32⟩
  | .hbm, ⟨29, _⟩ => ⟨S1x2048x1024, .f32⟩
  | .hbm, ⟨30, _⟩ => ⟨S1x2048x1024, .f32⟩
  | .hbm, ⟨31, _⟩ => ⟨S_, .f32⟩
  | .hbm, ⟨32, _⟩ => ⟨S1x2048x1024, .f32⟩
  | .hbm, ⟨33, _⟩ => ⟨S1x2048x1024, .f32⟩
  | .hbm, ⟨34, _⟩ => ⟨S1x2048x1024, .f32⟩
  | .hbm, ⟨35, _⟩ => ⟨S1x2048x1024, .f32⟩
  | .hbm, ⟨36, _⟩ => ⟨S1x2048x1024, .f32⟩
  | .hbm, ⟨37, _⟩ => ⟨S1x2048x1024, .f32⟩
  | .hbm, ⟨38, _⟩ => ⟨S_, .f32⟩
  | .hbm, ⟨39, _⟩ => ⟨S1x2048x1024, .f32⟩
  | .hbm, ⟨40, _⟩ => ⟨S1x2048x1024, .f32⟩
  | .hbm, ⟨41, _⟩ => ⟨S_, .f32⟩
  | .hbm, ⟨42, _⟩ => ⟨S1x2048x1024, .f32⟩
  | .hbm, ⟨43, _⟩ => ⟨S1x2048x1024, .f32⟩
  | .hbm, ⟨44, _⟩ => ⟨S1x2048x1024, .f32⟩
  | .hbm, ⟨45, _⟩ => ⟨S1x2048x1024, .f32⟩
  | .hbm, ⟨46, _⟩ => ⟨S1x2048x1024, .f32⟩
  | .hbm, ⟨47, _⟩ => ⟨S1x2048x1024, .f32⟩
  | .hbm, ⟨48, _⟩ => ⟨S_, .f32⟩
  | .hbm, ⟨49, _⟩ => ⟨S1x2048, .f32⟩
  | .hbm, ⟨50, _⟩ => ⟨S1x2048x1, .f32⟩
  | .hbm, ⟨51, _⟩ => ⟨S_, .f32⟩
  | .hbm, ⟨52, _⟩ => ⟨S1x2048x1, .f32⟩
  | .hbm, ⟨53, _⟩ => ⟨S1x2048x1, .f32⟩
  | .hbm, ⟨54, _⟩ => ⟨S_, .f32⟩
  | .hbm, ⟨55, _⟩ => ⟨S1x2048x1, .f32⟩
  | .hbm, ⟨56, _⟩ => ⟨S1x2048x1, .f32⟩
  | .hbm, ⟨57, _⟩ => ⟨S1x2048x1, .f32⟩
  | .hbm, ⟨58, _⟩ => ⟨S1x2048x1024, .f32⟩
  | .hbm, ⟨59, _⟩ => ⟨S1x2048x1024, .f32⟩
  | .hbm, ⟨60, _⟩ => ⟨S1x1x1024, .f32⟩
  | .hbm, ⟨61, _⟩ => ⟨S1x2048x1024, .f32⟩
  | .hbm, ⟨62, _⟩ => ⟨S1x2048x1024, .f32⟩
  | .hbm, ⟨63, _⟩ => ⟨S1x2048x1024, .f32⟩
  | .hbm, ⟨64, _⟩ => ⟨S2048x1024, .f32⟩
  | .hbm, ⟨65, _⟩ => ⟨S2048x1024, .f32⟩
  | .hbm, ⟨66, _⟩ => ⟨S2048x1024, .f32⟩
  | .hbm, ⟨67, _⟩ => ⟨S2048x1024, .f32⟩
  | .hbm, ⟨68, _⟩ => ⟨S2048x1024, .bf16⟩
  | .hbm, ⟨69, _⟩ => ⟨S2048x1024, .f32⟩
  | .hbm, ⟨70, _⟩ => ⟨S2048x1024, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_v33 : Ref sig .tc := ⟨.hbm, 50, rfl⟩
abbrev main_cst_6 : Ref sig .tc := ⟨.hbm, 51, rfl⟩
abbrev main_v34 : Ref sig .tc := ⟨.hbm, 52, rfl⟩
abbrev main_v35 : Ref sig .tc := ⟨.hbm, 53, rfl⟩
abbrev main_cst_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩

abbrev nD : Nat := 1
abbrev τ : Topo := Topo.v7x

variable {F : FTy → Type} [FloatOps F]
-- ==== KernelDw.lean ====
abbrev S1x2048x1024 : Shape := ⟨3, ![1, 2048, 1024]⟩
abbrev S1x2048x12800 : Shape := ⟨3, ![1, 2048, 12800]⟩
abbrev S2048x1024 : Shape := ⟨2, ![2048, 1024]⟩
abbrev S2048x12800 : Shape := ⟨2, ![2048, 12800]⟩
abbrev S12800x1024 : Shape := ⟨2, ![12800, 1024]⟩
abbrev S2048x1280 : Shape := ⟨2, ![2048, 1280]⟩
abbrev S1280x1024 : Shape := ⟨2, ![1280, 1024]⟩

abbrev nBuf : Space → Nat
  | .hbm => 7
  | .vmem => 5
  | .smem => 0
  | _ => 0

abbrev bufTy : (tb : Table) → Fin (tcTables nBuf tb) → BufTy
  | .hbm, ⟨0, _⟩ => ⟨S1x2048x1024, .f32⟩
  | .hbm, ⟨1, _⟩ => ⟨S1x2048x12800, .f32⟩
  | .hbm, ⟨2, _⟩ => ⟨S2048x1024, .f32⟩
  | .hbm, ⟨3, _⟩ => ⟨S2048x1024, .bf16⟩
  | .hbm, ⟨4, _⟩ => ⟨S2048x12800, .f32⟩
  | .hbm, ⟨5, _⟩ => ⟨S2048x12800, .bf16⟩
  | .hbm, ⟨6, _⟩ => ⟨S12800x1024, .bf16⟩
  | .local _ .vmem, ⟨0, _⟩ => ⟨S2048x1280, .bf16⟩
  | .local _ .vmem, ⟨1, _⟩ => ⟨S2048x1280, .bf16⟩
  | .local _ .vmem, ⟨2, _⟩ => ⟨S2048x1024, .bf16⟩
  | .local _ .vmem, ⟨3, _⟩ => ⟨S1280x1024, .bf16⟩
  | .local _ .vmem, ⟨4, _⟩ => ⟨S1280x1024, .bf16⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1280x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceDwIdeal.lean ====
abbrev S1x2048x1024 : Shape := ⟨3, ![1, 2048, 1024]⟩
abbrev S1x2048x12800 : Shape := ⟨3, ![1, 2048, 12800]⟩
abbrev S_ : Shape := ⟨0, ![]⟩
abbrev S1024x12800 : Shape := ⟨2, ![1024, 12800]⟩
abbrev S2048x1024 : Shape := ⟨2, ![2048, 1024]⟩
abbrev S2048x12800 : Shape := ⟨2, ![2048, 12800]⟩
abbrev S12800x1024 : Shape := ⟨2, ![12800, 1024]⟩

abbrev nBuf : Space → Nat
  | .hbm => 11
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x2048x12800, .f32⟩
  | .hbm, ⟨2, _⟩ => ⟨S_, .f32⟩
  | .hbm, ⟨3, _⟩ => ⟨S1024x12800, .f32⟩
  | .hbm, ⟨4, _⟩ => ⟨S2048x1024, .f32⟩
  | .hbm, ⟨5, _⟩ => ⟨S2048x12800, .f32⟩
  | .hbm, ⟨6, _⟩ => ⟨S2048x12800, .f32⟩
  | .hbm, ⟨7, _⟩ => ⟨S12800x1024, .f32⟩
  | .hbm, ⟨8, _⟩ => ⟨S1024x12800, .f32⟩
  | .hbm, ⟨9, _⟩ => ⟨S12800x1024, .f32⟩
  | .hbm, ⟨10, _⟩ => ⟨S12800x1024, .bf16⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== KernelTn.lean ====
abbrev S1x2048x1024 : Shape := ⟨3, ![1, 2048, 1024]⟩
abbrev S2048x1024 : Shape := ⟨2, ![2048, 1024]⟩
abbrev S1024x1024 : Shape := ⟨2, ![1024, 1024]⟩
abbrev S2048x512 : Shape := ⟨2, ![2048, 512]⟩
abbrev S512x1024 : Shape := ⟨2, ![512, 1024]⟩

abbrev nBuf : Space → Nat
  | .hbm => 7
  | .vmem => 5
  | .smem => 0
  | _ => 0

abbrev bufTy : (tb : Table) → Fin (tcTables nBuf tb) → BufTy
  | .hbm, ⟨0, _⟩ => ⟨S1x2048x1024, .f32⟩
  | .hbm, ⟨1, _⟩ => ⟨S1x2048x1024, .f32⟩
  | .hbm, ⟨2, _⟩ => ⟨S2048x1024, .f32⟩
  | .hbm, ⟨3, _⟩ => ⟨S2048x1024, .bf16⟩
  | .hbm, ⟨4, _⟩ => ⟨S2048x1024, .f32⟩
  | .hbm, ⟨5, _⟩ => ⟨S2048x1024, .bf16⟩
  | .hbm, ⟨6, _⟩ => ⟨S1024x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S512x1024, .bf16⟩
  | .local _ .vmem, ⟨4, _⟩ => ⟨S512x1024, .bf16⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceTnIdeal.lean ====
abbrev S1x2048x1024 : Shape := ⟨3, ![1, 2048, 1024]⟩
abbrev S_ : Shape := ⟨0, ![]⟩
abbrev S1024x1024 : Shape := ⟨2, ![1024, 1024]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x2048x1024, .f32⟩
  | .hbm, ⟨2, _⟩ => ⟨S_, .f32⟩
  | .hbm, ⟨3, _⟩ => ⟨S1024x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Proof.Consts.lean ====
/-
  The float words of these programs' constants, as the numbers they denote, and the laws of the extended reals
  that the comparisons below share: a finite factor that is not negative goes into a sum of terms that are not negative.
-/
module

public import Idealize.ShloMosaic.Lib.IdealHost
public import Idealize.ShloMosaic.Lib.Pointwise

@[expose] public section

noncomputable section

namespace Cert.Maths

open Idealize.ShloMosaic

theorem w_zero : Ideal.ofBits .f32 0x00000000#32 = 0 := by simp [Ideal.ofBits, Ideal.ieee]
theorem w_one : Ideal.ofBits .f32 0x3F800000#32 = ((1 : ℝ) : EReal) := by
  simp [Ideal.ofBits, Ideal.ieee, -EReal.coe_mul]; norm_num
theorem w_half : Ideal.ofBits .f32 0x3F000000#32 = ((1 / 2 : ℝ) : EReal) := by
  simp [Ideal.ofBits, Ideal.ieee, -EReal.coe_mul]; norm_num
theorem w_two : Ideal.ofBits .f32 0x40000000#32 = ((2 : ℝ) : EReal) := by
  simp [Ideal.ofBits, Ideal.ieee, -EReal.coe_mul]; norm_num
theorem w_1024 : Ideal.ofBits .f32 0x44800000#32 = ((1024 : ℝ) : EReal) := by
  simp [Ideal.ofBits, Ideal.ieee, -EReal.coe_mul]; norm_num
theorem w_inv2048 : Ideal.ofBits .f32 0x3A000000#32 = ((1 / 2048 : ℝ) : EReal) := by
  simp [Ideal.ofBits, Ideal.ieee, -EReal.coe_mul]; norm_num

/-- A square is not negative, at the infinities too. -/
theorem sq_nonneg' (e : EReal) : 0 ≤ e * e := by
  induction e with
  | bot => simp
  | top => simp
  | coe r => rw [← EReal.coe_mul]; exact EReal.coe_nonneg.mpr (mul_self_nonneg r)

/-- A finite factor `c ≥ 0` goes into a sum of terms that are not negative. -/
theorem mul_sum_nonneg {ι : Type*} (s : Finset ι) (f : ι → EReal) (hf : ∀ i, 0 ≤ f i) (c : EReal) :
    c * ∑ i ∈ s, f i = ∑ i ∈ s, c * f i := by
  classical
  induction s using Finset.induction_on with
  | empty => simp
  | insert a s ha ih =>
    rw [Finset.sum_insert ha, Finset.sum_insert ha, EReal.left_distrib_of_nonneg (hf a) (Finset.sum_nonneg fun i _ => hf i), ih]

end Cert.Maths

end
-- ==== Proof.Loss.lean ====
/-
  The loss head. The kernel walks the 2048 rows in eight blocks of 256: it writes (y - t) / 1024 and adds
  1/2048 times the block's sum of squares into one row of 128 equal lanes. The reference halves the sum over the rows
  of the row means of the squares and differentiates it.
-/
module

public import proofs.«01_k».proof.Proof.Consts
public import proofs.«01_k».proof.Proof.Gen.KernelIdeal.Value
public import proofs.«01_k».proof.Proof.Gen.ReferenceIdeal.Read
public import Idealize.ShloMosaic.Lib.Pipeline.ValueKit

@[expose] public section

set_option maxRecDepth 16384

noncomputable section

namespace Cert.Loss

open Idealize.ShloMosaic Idealize.ShloMosaic.TcCoe Idealize.SL.Sem
open Idealize.ShloMosaic.Pipeline (Dat)
open Cert.KernelIdeal Cert.KernelIdeal.Gen Cert.Maths

variable (m : (ℓ : Loc nD τ sig) → Buf (Elt Ideal) ℓ)

abbrev DY (y t : FVec Ideal S2048x1024 .f32) : FVec Ideal S2048x1024 .f32 := Cert.ReferenceIdeal.Read.val_main_v14 (F := Ideal) y t
abbrev LOSS (y t : FVec Ideal S2048x1024 .f32) : FVec Ideal S1x128 .f32 := Cert.ReferenceIdeal.Read.val_main_v15 (F := Ideal) y t

open Cert.ReferenceIdeal.Read in
theorem dy_at (y t : FVec Ideal S2048x1024 .f32) (r : Fin 2048) (c : Fin 1024) :
    DY y t (ix2 r c) = Ideal.div (y (ix2 r c) - t (ix2 r c)) (Ideal.ofBits .f32 0x44800000#32) := by
  pointwise [DY, val_main_v14, val_main_v13, val_main_v12, val_main_v11, val_main_v10, val_main_v9, val_main_v3, val_main_v2,
    val_main_v0, val_main_cst, val_main_cst_4, val_main_cst_5, val_main_cst_6]
  rw [w_1024, w_half, w_two, Ideal.div_coe (by norm_num), Ideal.div_coe (by norm_num), ← mul_assoc, ← EReal.coe_mul, ← EReal.coe_mul,
    mul_comm]
  norm_num

open Cert.ReferenceIdeal.Read in
theorem loss_at (y t : FVec Ideal S2048x1024 .f32) (l : Fin 128) :
    LOSS y t (ix2 0 l) = ∑ r : Fin 2048, ∑ c : Fin 1024, ((1 / 2048 : ℝ) : EReal) * ((y (ix2 r c) - t (ix2 r c)) * (y (ix2 r c) - t (ix2 r c))) := by
  pointwise [LOSS, val_main_v15, val_main_v8, val_main_v7, val_main_v6, val_main_v5, val_main_v4, val_main_v1, val_main_v0,
    val_main_cst_0, val_main_cst_1, val_main_cst_2, val_main_cst_3]
  rw [w_1024, w_half]
  simp only [zero_add, Ideal.div_coe (show (1024 : ℝ) ≠ 0 by norm_num)]
  have hn : ∀ (r : Fin 2048) (c : Fin 1024), 0 ≤ (y (ix2 r c) - t (ix2 r c)) * (y (ix2 r c) - t (ix2 r c)) := fun r c => sq_nonneg' _
  rw [mul_sum_nonneg]
  · refine Finset.sum_congr rfl fun r _ => ?_
    rw [mul_left_comm, ← EReal.coe_mul, mul_comm, mul_sum_nonneg _ _ (hn r)]
    norm_num
  · exact fun r => mul_nonneg (Finset.sum_nonneg fun c _ => hn r c) (EReal.coe_nonneg.mpr (by norm_num))

theorem hzero (j) : k0_pay3 (F := Ideal) j = 0 := by pointwise [k0_pay3]

theorem hpay (x0 x1 acc j) : k0_pay4 (F := Ideal) x0 x1 acc j
    = acc j + ∑ r : Fin 256, ∑ c : Fin 1024, ((1 / 2048 : ℝ) : EReal) * ((x0 (ix2 r c) - x1 (ix2 r c)) * (x0 (ix2 r c) - x1 (ix2 r c))) := by
  pointwise [k0_pay4, k0_pay1]
  rw [w_inv2048, mul_sum_nonneg _ _ fun r => Finset.sum_nonneg fun c _ => sq_nonneg' _]
  exact congrArg _ (Finset.sum_congr rfl fun r _ => mul_sum_nonneg _ _ (fun c => sq_nonneg' _) _)

theorem idx : ∀ t : Fin cfg0.N, win0_0.index t = ![t.val, 0] ∧ win0_1.index t = ![t.val, 0] ∧ win0_2.index t = ![t.val, 0] :=
  (by decide +kernel : ∀ t : Fin grid0.N, _)

theorem point (c : Dev nD) (t : Fin cfg0.N) (y) : k0_pay2 (F := Ideal) (iblk m c 0 t) (iblk m c 1 t) y
    = DY (m ((c : Thread nD τ).loc main_arg0)) (m ((c : Thread nD τ).loc main_arg1)) (((cfg0.win 2).blk t).view.emb y) := by
  rw [eq_ix2 (n0 := 2048) (n1 := 1024) (((cfg0.win 2).blk t).view.emb y)]
  refine Eq.trans ?_ (dy_at _ _ _ _).symm
  pointwise [k0_pay2, k0_pay1]
  blk_point [iblk, V, idx t]

/-- The cotangent after the run. -/
theorem final_dy (c : Dev nD) : (dats m 0 c).arrAt 2 (cfgs 0).N
    = DY (m ((c : Thread nD τ).loc main_arg0)) (m ((c : Thread nD τ).loc main_arg1)) := by
  refine (dats m 0 c).arrAt_eq_of_covers 2 _ (by decide +kernel) fun t _ y => ?_
  blk_simp
  rw [after0_2]
  refine Eq.trans ?_ (point m c t y)
  by_cases h : t.val % 8 = 0
  · rw [outsAt0_A m c t h]; frame_out
  · rw [outsAt0_B m c t h]; frame_out

/-- The loss after the run, in each lane. -/
theorem final_loss (c : Dev nD) : (dats m 0 c).arrAt 3 (cfgs 0).N
    = LOSS (m ((c : Thread nD τ).loc main_arg0)) (m ((c : Thread nD τ).loc main_arg1)) := by
  refine (dats m 0 c).arrAt_eq_of_after_last 3 t0_7 (by decide +kernel) _ fun j => ?_
  blk_simp
  rw [after0_3, Pipeline.eq_sum_fin_of_reset_step_apply_last (fun n h => (outsAt0 m c n h).2) 8 (fun _ => 0) _
    (fun t h j => by rw [outsAt0_A m c t h]; frame_out; rw [hpay, hzero])
    (fun t h j => by rw [outsAt0_B m c t h]; frame_out; rw [hpay])
    (le_of_eq N_0) t0_7 rfl j, zero_add]
  idx_vars j
  obtain rfl : j0 = 0 := Subsingleton.elim _ _
  refine Eq.trans ?_ (loss_at _ _ j1).symm
  refine Fin.sum_mul_add_congr fun t r hl => ?_
  blk_point [iblk, V, idx t]

end Cert.Loss

end
-- ==== Proof.AttnReal.lean ====
/-
  The attention of one head over the reals: the weights, the output, and the gradients in the order in which the
  kernel computes them, with the two laws that relate them to the derivative of the softmax.
-/
module

public import proofs.«01_k».proof.Proof.Consts
public import Idealize.ShloMosaic.Lib.Pointwise
public import Mathlib.Analysis.SpecialFunctions.Exp

@[expose] public section

noncomputable section

namespace Cert.Maths

open Idealize.ShloMosaic

/-- A finite sum of reals, read in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The largest of finitely many reals, taken from −∞ on, is a real. -/
theorem fold_max_coe {n : ℕ} (f : Fin (n + 1) → ℝ) :
    ∃ M : ℝ, (Finset.univ : Finset (Fin (n + 1))).fold max (⊥ : EReal) (fun j => (f j : EReal)) = M := by
  have key : ∀ s : Finset (Fin (n + 1)), (s.fold max (⊥ : EReal) (fun j => (f j : EReal)) = ⊥ ∧ s = ∅) ∨
      ∃ M : ℝ, s.fold max (⊥ : EReal) (fun j => (f j : EReal)) = M := by
    intro s
    induction s using Finset.induction_on with
    | empty => exact .inl ⟨by simp, rfl⟩
    | insert a s ha ih =>
      right
      rw [Finset.fold_insert ha]
      rcases ih with ⟨h, -⟩ | ⟨M, h⟩
      · exact ⟨f a, by rw [h]; simp⟩
      · exact ⟨max (f a) M, by rw [h]; exact (EReal.coe_strictMono.monotone.map_max).symm⟩
  rcases key Finset.univ with ⟨-, h⟩ | h
  · exact absurd (h ▸ Finset.mem_univ (0 : Fin (n + 1))) (Finset.notMem_empty _)
  · exact h

theorem w_neg_inf : Ideal.ofBits .f32 0xFF800000#32 = ⊥ := by simp [Ideal.ofBits, Ideal.ieee]

/-- The logistic function. -/
def sig (x : ℝ) : ℝ := 1 / (1 + Real.exp (-x))
/-- The gate x · σ(x) and its slope. -/
def silu (x : ℝ) : ℝ := x * sig x
def dsilu (x : ℝ) : ℝ := sig x * (1 + x * (1 - sig x))

/-- The scale of the scores: the 32-bit word nearest to 1/√128. -/
def scale : ℝ := 11863283 / 134217728

theorem w_scale : Ideal.ofBits .f32 0x3DB504F3#32 = (scale : EReal) := by
  unfold scale
  simp [Ideal.ofBits, Ideal.ieee, -EReal.coe_mul]; norm_num

theorem one_add_exp_ne (x : ℝ) : 1 + Real.exp x ≠ 0 := (add_pos one_pos (Real.exp_pos x)).ne'

end Cert.Maths

namespace Cert.Attn

open Cert.Maths

variable {n : ℕ} (q : Fin 128 → ℝ) (K V : Fin n → Fin 128 → ℝ) (z : Fin 128 → ℝ)

/-- The score of key `j`. -/
def score (j : Fin n) : ℝ := ∑ e, q e * K j e
/-- The unnormalised weight of key `j`. -/
def num (j : Fin n) : ℝ := Real.exp (score q K j * scale)
/-- The softmax weight of key `j`. -/
def wt (j : Fin n) : ℝ := num q K j / ∑ i, num q K i
/-- The output of the head. -/
def out (d : Fin 128) : ℝ := ∑ j, wt q K j * V j d
/-- The derivative of the weights' cotangent through the softmax, `z` the cotangent of the output. -/
def dscore (j : Fin n) : ℝ := wt q K j * ((∑ d, z d * V j d) - ∑ d, z d * out q K V d)
/-- The gradient of the query. -/
def dquery (e : Fin 128) : ℝ := scale * ∑ j, dscore q K V z j * K j e
/-- What the row adds to the gradients of key and value `j`. -/
def dkey (j : Fin n) (e : Fin 128) : ℝ := scale * (dscore q K V z j * q e)
def dval (j : Fin n) (d : Fin 128) : ℝ := wt q K j * z d

theorem sum_num_pos [NeZero n] : 0 < ∑ i, num q K i :=
  Finset.sum_pos (fun _ _ => Real.exp_pos _) Finset.univ_nonempty

/-- The mean of the cotangents of the weights is the product of the output with its cotangent. -/
theorem mean_eq : ∑ j, wt q K j * (∑ d, z d * V j d) = ∑ d, z d * out q K V d := by
  simp only [out, Finset.mul_sum]
  rw [Finset.sum_comm]
  exact Finset.sum_congr rfl fun d _ => Finset.sum_congr rfl fun j _ => by ring

/-- The weights do not depend on the number that the scores are lowered by. -/
theorem exp_shift (M : ℝ) (j : Fin n) : Real.exp ((score q K j - M) * scale) = Real.exp (-(M * scale)) * num q K j := by
  rw [num, ← Real.exp_add]; congr 1; ring

theorem exp_shift' (M : ℝ) (j : Fin n) : Real.exp (score q K j * scale - M) = Real.exp (-M) * num q K j := by
  rw [num, ← Real.exp_add]; congr 1; ring

end Cert.Attn
-- ==== Proof.AttnTile.lean ====
/-
  One tile of the attention kernels: 512 query rows of one head against all 2048 keys of its group, read over the reals
  where every entry of the tiles is a real.
-/
module

public import proofs.«01_k».proof.Proof.AttnReal
public import proofs.«01_k».proof.Proof.Gen.KernelAttnIdeal.Frame
public import Idealize.ShloMosaic.Lib.Pipeline.ValueKit

@[expose] public section

set_option maxRecDepth 16384

noncomputable section

namespace Cert.Attn

open Idealize.ShloMosaic Idealize.ShloMosaic.TcCoe Idealize.SL.Sem
open Cert.KernelAttnIdeal Cert.KernelAttnIdeal.Gen Cert.Maths

section Tile

variable {k v : FVec Ideal S2048x128 .bf16} {q : FVec Ideal S512x128 .bf16} {d bg o : FVec Ideal S512x128 .f32}
variable {K V : Fin 2048 → Fin 128 → ℝ} {Q Z B O : Fin 512 → Fin 128 → ℝ}

/-- The rows' unnormalised weights up to a factor per row, and the reciprocals of their sums. -/
theorem p_at (hk : ∀ j e, k (ix2 j e) = (K j e : EReal)) (hq : ∀ r e, q (ix2 r e) = (Q r e : EReal)) :
    ∃ A : Fin 512 → ℝ, (∀ r, 0 < A r)
      ∧ (∀ r j, k1_pay18 (F := Ideal) k q (ix2 r j) = ((A r * num (Q r) K j : ℝ) : EReal))
      ∧ ∀ r, k1_pay19 (F := Ideal) k q (ix2 r 0) = ((1 / (A r * ∑ j, num (Q r) K j) : ℝ) : EReal) := by
  choose M hM using fun r : Fin 512 => fold_max_coe (n := 2047) (fun j => score (Q r) K j)
  have hp : ∀ r j, k1_pay18 (F := Ideal) k q (ix2 r j) = ((Real.exp (-(M r * scale)) * num (Q r) K j : ℝ) : EReal) := by
    intro r j
    rw [← exp_shift]
    pointwise [k1_pay18]
    simp only [hk, hq, ← EReal.coe_mul, ← coe_sum, w_neg_inf, w_scale]
    have := hM r
    unfold score at this
    rw [this, ← EReal.coe_sub, ← EReal.coe_mul, Ideal.exp_coe]
    rfl
  refine ⟨fun r => Real.exp (-(M r * scale)), fun r => Real.exp_pos _, hp, fun r => ?_⟩
  pointwise [k1_pay19]
  simp only [hp, ← coe_sum, ← Finset.mul_sum]
  rw [← EReal.coe_one, Ideal.div_coe (mul_pos (Real.exp_pos _) (sum_num_pos _ _)).ne', ← EReal.coe_mul, one_mul]

/-- The gated cotangent of the head's output. -/
theorem do_at (hd : ∀ r e, d (ix2 r e) = (Z r e : EReal)) (hb : ∀ r e, bg (ix2 r e) = (B r e : EReal)) (r e) :
    k1_pay17 (F := Ideal) d bg (ix2 r e) = ((Z r e * silu (B r e) : ℝ) : EReal) := by
  pointwise [k1_pay17]
  simp only [hd, hb, ← EReal.coe_one, zero_sub, ← EReal.coe_neg, Ideal.exp_coe, ← EReal.coe_add]
  rw [Ideal.div_coe (one_add_exp_ne _)]
  simp only [← EReal.coe_mul, one_mul]
  rfl

theorem cast_k (x : FVec Ideal S2048x128 .bf16) : k1_pay8 (F := Ideal) x = x := by
  funext i; pointwise [k1_pay8]
theorem cast_q (x : FVec Ideal S512x128 .bf16) : k1_pay14 (F := Ideal) x = x := by
  funext i; pointwise [k1_pay14]
theorem cast_d (x : FVec Ideal S512x128 .f32) : k1_pay12 (F := Ideal) x = x := by
  funext i; pointwise [k1_pay12]

theorem o_eq : k0_pay5 (F := Ideal) k v q = mulf (matmul dot_S512x2048_S2048x128_S512x128_1_0_0_1_n_n none
      (truncf .bf16 (k1_pay18 k q) bitsLt_bf16_f32) v (constant S512x128 .f32 0x00000000#32))
    (broadcastTo S512x128 (k1_pay19 k q) broadcasts_S512x1_S512x128) := by
  conv_rhs => rw [← cast_k k, ← cast_k v, ← cast_q q]
  rfl

/-- The head's output. -/
theorem o_at (hk : ∀ j e, k (ix2 j e) = (K j e : EReal)) (hv : ∀ j e, v (ix2 j e) = (V j e : EReal))
    (hq : ∀ r e, q (ix2 r e) = (Q r e : EReal)) (r e) :
    k0_pay5 (F := Ideal) k v q (ix2 r e) = ((out (Q r) K V e : ℝ) : EReal) := by
  obtain ⟨A, hA, hp, hl⟩ := p_at (k := k) (q := q) hk hq
  rw [o_eq]
  pointwise
  simp only [hp, hl, hv, ← EReal.coe_mul, ← coe_sum]
  congr 1
  rw [Finset.sum_mul, out]
  refine Finset.sum_congr rfl fun j _ => ?_
  have := (sum_num_pos (Q r) K).ne'
  have := (hA r).ne'
  rw [wt]; field_simp

/-- The gated output. -/
theorem y_at (hk : ∀ j e, k (ix2 j e) = (K j e : EReal)) (hv : ∀ j e, v (ix2 j e) = (V j e : EReal))
    (hq : ∀ r e, q (ix2 r e) = (Q r e : EReal)) (hb : ∀ r e, bg (ix2 r e) = (B r e : EReal)) (r e) :
    k0_pay6 (F := Ideal) k v q bg (ix2 r e) = ((out (Q r) K V e * silu (B r e) : ℝ) : EReal) := by
  pointwise [k0_pay6]
  simp only [o_at hk hv hq, hb, ← EReal.coe_one, zero_sub, ← EReal.coe_neg, Ideal.exp_coe, ← EReal.coe_add]
  rw [Ideal.div_coe (one_add_exp_ne _)]
  simp only [← EReal.coe_mul, one_mul]
  rfl

/-- The gradient of the gate. -/
theorem dbg_at (hd : ∀ r e, d (ix2 r e) = (Z r e : EReal)) (hb : ∀ r e, bg (ix2 r e) = (B r e : EReal))
    (ho : ∀ r e, o (ix2 r e) = (O r e : EReal)) (r e) :
    k1_pay16 (F := Ideal) d bg o (ix2 r e) = ((Z r e * O r e * dsilu (B r e) : ℝ) : EReal) := by
  pointwise [k1_pay16, k1_pay12, k1_pay13, k1_pay15]
  simp only [hd, hb, ho, ← EReal.coe_one, zero_sub, ← EReal.coe_neg, Ideal.exp_coe, ← EReal.coe_add,
    Ideal.div_coe (one_add_exp_ne _), ← EReal.coe_mul, ← EReal.coe_sub, one_mul]
  rfl

/-- What the tile adds to the values' gradient. -/
theorem dv_at (hk : ∀ j e, k (ix2 j e) = (K j e : EReal)) (hq : ∀ r e, q (ix2 r e) = (Q r e : EReal))
    (hd : ∀ r e, d (ix2 r e) = (Z r e : EReal)) (hb : ∀ r e, bg (ix2 r e) = (B r e : EReal))
    (acc : FVec Ideal S2048x128 .f32) (j e) :
    k1_pay20 (F := Ideal) k acc d bg q (ix2 j e)
      = acc (ix2 j e) + ((∑ r, dval (Q r) K (fun e => Z r e * silu (B r e)) j e : ℝ) : EReal) := by
  obtain ⟨A, hA, hp, hl⟩ := p_at (k := k) (q := q) hk hq
  pointwise [k1_pay20]
  simp only [hp, hl, do_at hd hb, ← EReal.coe_mul, ← coe_sum]
  congr 2
  refine Finset.sum_congr rfl fun r _ => ?_
  have := (sum_num_pos (Q r) K).ne'
  have := (hA r).ne'
  rw [dval, wt]; field_simp

/-- The derivative of the scores, up to the row's factor and the sum of its weights. -/
theorem ds_at (hk : ∀ j e, k (ix2 j e) = (K j e : EReal)) (hv : ∀ j e, v (ix2 j e) = (V j e : EReal))
    (hq : ∀ r e, q (ix2 r e) = (Q r e : EReal)) (hd : ∀ r e, d (ix2 r e) = (Z r e : EReal))
    (hb : ∀ r e, bg (ix2 r e) = (B r e : EReal)) (ho : ∀ r e, o (ix2 r e) = ((out (Q r) K V e : ℝ) : EReal)) :
    ∃ A : Fin 512 → ℝ, (∀ r, A r ≠ 0)
      ∧ (∀ r j, k1_pay21 (F := Ideal) k v d bg q o (ix2 r j)
          = ((A r * dscore (Q r) K V (fun e => Z r e * silu (B r e)) j : ℝ) : EReal))
      ∧ ∀ r, k1_pay22 (F := Ideal) k q (ix2 r 0) = ((scale / A r : ℝ) : EReal) := by
  obtain ⟨A, hA, hp, hl⟩ := p_at (k := k) (q := q) hk hq
  have hS := fun r => (sum_num_pos (Q r) K).ne'
  refine ⟨fun r => A r * ∑ j, num (Q r) K j, fun r => mul_ne_zero (hA r).ne' (hS r), fun r j => ?_, fun r => ?_⟩
  · pointwise [k1_pay21]
    simp only [hp, do_at hd hb, hv, ho, ← EReal.coe_mul, ← coe_sum, ← EReal.coe_sub]
    congr 1
    have := hS r
    rw [dscore, wt]; field_simp
  · pointwise [k1_pay22]
    simp only [hl, w_scale, ← EReal.coe_mul]
    congr 1
    ring

/-- The gradient of the queries. -/
theorem dq_at (hk : ∀ j e, k (ix2 j e) = (K j e : EReal)) (hv : ∀ j e, v (ix2 j e) = (V j e : EReal))
    (hq : ∀ r e, q (ix2 r e) = (Q r e : EReal)) (hd : ∀ r e, d (ix2 r e) = (Z r e : EReal))
    (hb : ∀ r e, bg (ix2 r e) = (B r e : EReal)) (ho : ∀ r e, o (ix2 r e) = ((out (Q r) K V e : ℝ) : EReal)) (r e) :
    k1_pay23 (F := Ideal) k v d bg q o (ix2 r e)
      = ((dquery (Q r) K V (fun e => Z r e * silu (B r e)) e : ℝ) : EReal) := by
  obtain ⟨A, hA, hs, hl⟩ := ds_at hk hv hq hd hb ho
  pointwise [k1_pay23]
  simp only [hs, hl, hk, ← EReal.coe_mul, ← coe_sum]
  congr 1
  rw [dquery, Finset.mul_sum, Finset.sum_mul]
  refine Finset.sum_congr rfl fun j _ => ?_
  have := hA r
  field_simp

/-- What the tile adds to the keys' gradient. -/
theorem dk_at (hk : ∀ j e, k (ix2 j e) = (K j e : EReal)) (hv : ∀ j e, v (ix2 j e) = (V j e : EReal))
    (hq : ∀ r e, q (ix2 r e) = (Q r e : EReal)) (hd : ∀ r e, d (ix2 r e) = (Z r e : EReal))
    (hb : ∀ r e, bg (ix2 r e) = (B r e : EReal)) (ho : ∀ r e, o (ix2 r e) = ((out (Q r) K V e : ℝ) : EReal))
    (acc : FVec Ideal S2048x128 .f32) (j e) :
    k1_pay25 (F := Ideal) acc (k1_pay21 k v d bg q o) (k1_pay22 k q) (k1_pay24 q) (ix2 j e)
      = acc (ix2 j e) + ((∑ r, dkey (Q r) K V (fun e => Z r e * silu (B r e)) j e : ℝ) : EReal) := by
  obtain ⟨A, hA, hs, hl⟩ := ds_at hk hv hq hd hb ho
  pointwise [k1_pay25, k1_pay24]
  simp only [hs, hl, hq, ← EReal.coe_mul, ← coe_sum]
  congr 2
  refine Finset.sum_congr rfl fun r _ => ?_
  have := hA r
  rw [dkey]; field_simp

end Tile
end Cert.Attn
-- ==== Proof.AttnBlock.lean ====
/-
  What one grid point of the two attention kernels leaves in its output blocks: the four heads of the group side by side,
  each a tile of AttnTile.
-/
module

public import proofs.«01_k».proof.Proof.AttnTile
public import proofs.«01_k».proof.Proof.Gen.KernelAttnIdeal.Frame
public import Idealize.ShloMosaic.Lib.Pipeline.ValueKit

@[expose] public section

set_option maxRecDepth 16384

noncomputable section

namespace Cert.Attn

open Idealize.ShloMosaic Idealize.ShloMosaic.TcCoe Idealize.SL.Sem
open Idealize.ShloMosaic.Pipeline (Dat)
open Cert.KernelAttnIdeal Cert.KernelAttnIdeal.Gen Cert.Maths

/-- The column of entry `e` of head `g` in a block of four heads. -/
def hcol (g : Fin 4) (e : Fin 128) : Fin 512 := ⟨g.val * 128 + e.val, by omega⟩

section Outs

variable (x0 x1 : Vec Ideal S512x512 .f32) (x2 : Vec Ideal S512x512 .bf16) (x3 x4 : Vec Ideal S2048x128 .bf16) (x5 : Vec Ideal S512x512 .f32)

/-- The queries' gradient of the four heads. -/
def dqBlock : Vec Ideal S512x512 .f32 :=
  View.canon
    [⟨r0_4, k1_pay23 (k1_pay8 x3) (k1_pay9 x4) (k1_pay12 (View.ld x0 r0_4)) (k1_pay13 (View.ld x5 r0_4)) (k1_pay14 (View.ld x2 r0_4)) (k1_pay15 (View.ld x1 r0_4))⟩,
     ⟨r0_3, k1_pay23 (k1_pay8 x3) (k1_pay9 x4) (k1_pay12 (View.ld x0 r0_3)) (k1_pay13 (View.ld x5 r0_3)) (k1_pay14 (View.ld x2 r0_3)) (k1_pay15 (View.ld x1 r0_3))⟩,
     ⟨r0_2, k1_pay23 (k1_pay8 x3) (k1_pay9 x4) (k1_pay12 (View.ld x0 r0_2)) (k1_pay13 (View.ld x5 r0_2)) (k1_pay14 (View.ld x2 r0_2)) (k1_pay15 (View.ld x1 r0_2))⟩,
     ⟨r0_1, k1_pay23 (k1_pay8 x3) (k1_pay9 x4) (k1_pay12 (View.ld x0 r0_1)) (k1_pay13 (View.ld x5 r0_1)) (k1_pay14 (View.ld x2 r0_1)) (k1_pay15 (View.ld x1 r0_1))⟩]

/-- The gate's gradient of the four heads. -/
def dbgBlock : Vec Ideal S512x512 .bf16 :=
  View.canon
    [⟨r0_4, k1_pay16 (View.ld x0 r0_4) (View.ld x5 r0_4) (View.ld x1 r0_4)⟩,
     ⟨r0_3, k1_pay16 (View.ld x0 r0_3) (View.ld x5 r0_3) (View.ld x1 r0_3)⟩,
     ⟨r0_2, k1_pay16 (View.ld x0 r0_2) (View.ld x5 r0_2) (View.ld x1 r0_2)⟩,
     ⟨r0_1, k1_pay16 (View.ld x0 r0_1) (View.ld x5 r0_1) (View.ld x1 r0_1)⟩]

/-- What a head adds to the keys' gradient. -/
def dkHead (d bg o : FVec Ideal S512x128 .f32) (q : FVec Ideal S512x128 .bf16) (acc : FVec Ideal S2048x128 .f32) : FVec Ideal S2048x128 .f32 :=
  k1_pay25 acc (k1_pay21 (k1_pay8 x3) (k1_pay9 x4) (k1_pay12 d) (k1_pay13 bg) (k1_pay14 q) (k1_pay15 o)) (k1_pay22 (k1_pay8 x3) (k1_pay14 q)) (k1_pay24 (k1_pay14 q))

def dkBlock : FVec Ideal S2048x128 .f32 :=
  dkHead x3 x4 (View.ld x0 r0_4) (View.ld x5 r0_4) (View.ld x1 r0_4) (View.ld x2 r0_4) <|
  dkHead x3 x4 (View.ld x0 r0_3) (View.ld x5 r0_3) (View.ld x1 r0_3) (View.ld x2 r0_3) <|
  dkHead x3 x4 (View.ld x0 r0_2) (View.ld x5 r0_2) (View.ld x1 r0_2) (View.ld x2 r0_2) <|
  dkHead x3 x4 (View.ld x0 r0_1) (View.ld x5 r0_1) (View.ld x1 r0_1) (View.ld x2 r0_1) k1_pay10

def dvBlock : FVec Ideal S2048x128 .f32 :=
  k1_pay20 (k1_pay8 x3) (k1_pay20 (k1_pay8 x3) (k1_pay20 (k1_pay8 x3) (k1_pay20 (k1_pay8 x3) k1_pay11
    (k1_pay12 (View.ld x0 r0_1)) (k1_pay13 (View.ld x5 r0_1)) (k1_pay14 (View.ld x2 r0_1)))
    (k1_pay12 (View.ld x0 r0_2)) (k1_pay13 (View.ld x5 r0_2)) (k1_pay14 (View.ld x2 r0_2)))
    (k1_pay12 (View.ld x0 r0_3)) (k1_pay13 (View.ld x5 r0_3)) (k1_pay14 (View.ld x2 r0_3)))
    (k1_pay12 (View.ld x0 r0_4)) (k1_pay13 (View.ld x5 r0_4)) (k1_pay14 (View.ld x2 r0_4))

end Outs

variable (V : (c : Dev nD) → (b : Ref sig .tc) → Buf (Elt Ideal) ((c : Thread nD τ).loc b))

theorem dq_outs (c : Dev nD) (t : Fin cfg1.N) : (outsAt1 V c t.val t.isLt).1
    = dqBlock (iblk1 V c 0 t) (iblk1 V c 1 t) (iblk1 V c 2 t) (iblk1 V c 3 t) (iblk1 V c 4 t) (iblk1 V c 5 t) := by
  by_cases h : t.val % 4 = 0
  · rw [outsAt1_A V c t h]; frame_out; rfl
  · rw [outsAt1_B V c t h]; frame_out; rfl

theorem dbg_outs (c : Dev nD) (t : Fin cfg1.N) : (outsAt1 V c t.val t.isLt).2.2.2
    = dbgBlock (iblk1 V c 0 t) (iblk1 V c 1 t) (iblk1 V c 5 t) := by
  by_cases h : t.val % 4 = 0
  · rw [outsAt1_A V c t h]; frame_out; rfl
  · rw [outsAt1_B V c t h]; frame_out; rfl

theorem dk_outs_A (c : Dev nD) (t : Fin cfg1.N) (h : t.val % 4 = 0) : (outsAt1 V c t.val t.isLt).2.1
    = k1_pay5 (dkBlock (iblk1 V c 0 t) (iblk1 V c 1 t) (iblk1 V c 2 t) (iblk1 V c 3 t) (iblk1 V c 4 t) (iblk1 V c 5 t)) (k1_pay6 (F := Ideal)) := by
  rw [outsAt1_A V c t h]; frame_out; rfl

theorem dk_outs_B (c : Dev nD) (t : Fin cfg1.N) (h : ¬t.val % 4 = 0) : (outsAt1 V c t.val t.isLt).2.1
    = k1_pay5 (dkBlock (iblk1 V c 0 t) (iblk1 V c 1 t) (iblk1 V c 2 t) (iblk1 V c 3 t) (iblk1 V c 4 t) (iblk1 V c 5 t))
      (outsAt1 V c (t.val - 1) (Nat.lt_of_le_of_lt (Nat.sub_le _ _) t.isLt)).2.1 := by
  rw [outsAt1_B V c t h]; frame_out; rfl

theorem dv_outs_A (c : Dev nD) (t : Fin cfg1.N) (h : t.val % 4 = 0) : (outsAt1 V c t.val t.isLt).2.2.1
    = k1_pay5 (dvBlock (iblk1 V c 0 t) (iblk1 V c 2 t) (iblk1 V c 3 t) (iblk1 V c 5 t)) (k1_pay7 (F := Ideal)) := by
  rw [outsAt1_A V c t h]; frame_out; rfl

theorem dv_outs_B (c : Dev nD) (t : Fin cfg1.N) (h : ¬t.val % 4 = 0) : (outsAt1 V c t.val t.isLt).2.2.1
    = k1_pay5 (dvBlock (iblk1 V c 0 t) (iblk1 V c 2 t) (iblk1 V c 3 t) (iblk1 V c 5 t))
      (outsAt1 V c (t.val - 1) (Nat.lt_of_le_of_lt (Nat.sub_le _ _) t.isLt)).2.2.1 := by
  rw [outsAt1_B V c t h]; frame_out; rfl

end Cert.Attn
-- ==== Proof.AttnHeads.lean ====
/-
  The values of one grid point's output blocks, over the reals.
-/
module

public import proofs.«01_k».proof.Proof.AttnBlock

@[expose] public section

set_option maxRecDepth 16384

noncomputable section

namespace Cert.Attn

open Idealize.ShloMosaic Idealize.ShloMosaic.TcCoe Idealize.SL.Sem
open Idealize.ShloMosaic.Pipeline (Dat)
open Cert.KernelAttnIdeal Cert.KernelAttnIdeal.Gen Cert.Maths

/-- Four heads side by side: an entry is the one of its head. -/
theorem four_tiles {φ : EltTy} (p : Fin 4 → Vec Ideal S512x128 φ) (r : Fin 512) (g : Fin 4) (e : Fin 128) :
    View.canon [⟨r0_4, p 3⟩, ⟨r0_3, p 2⟩, ⟨r0_2, p 1⟩, ⟨r0_1, p 0⟩] (ix2 r (hcol g e) : S512x512.Idx) = p g (ix2 r e) := by
  canon_tiles x h
  all_goals
    have hr : r = x 0 := Fin.ext h0
    subst hr
    replace h1 : g.val * 128 + e.val = _ := h1
  case' piece0 => obtain rfl : g = 3 := Fin.ext (by change g.val = 3; omega)
  case' piece1 => obtain rfl : g = 2 := Fin.ext (by change g.val = 2; omega)
  case' piece2 => obtain rfl : g = 1 := Fin.ext (by change g.val = 1; omega)
  case' piece3 => obtain rfl : g = 0 := Fin.ext (by change g.val = 0; omega)
  all_goals
    replace h1 : _ * 128 + e.val = _ := h1
    obtain rfl : e = x 1 := Fin.ext (by simp at h1 ⊢; omega)
    congr 1
    blk_ext

theorem ld_1 {φ : EltTy} (x : Vec Ideal S512x512 φ) (r : Fin 512) (e : Fin 128) :
    View.ld x r0_1 (ix2 r e) = x (ix2 r (hcol 0 e)) := by
  pointwise; blk_ext [hcol]
theorem ld_2 {φ : EltTy} (x : Vec Ideal S512x512 φ) (r : Fin 512) (e : Fin 128) :
    View.ld x r0_2 (ix2 r e) = x (ix2 r (hcol 1 e)) := by
  pointwise; blk_ext [hcol]
theorem ld_3 {φ : EltTy} (x : Vec Ideal S512x512 φ) (r : Fin 512) (e : Fin 128) :
    View.ld x r0_3 (ix2 r e) = x (ix2 r (hcol 2 e)) := by
  pointwise; blk_ext [hcol]
theorem ld_4 {φ : EltTy} (x : Vec Ideal S512x512 φ) (r : Fin 512) (e : Fin 128) :
    View.ld x r0_4 (ix2 r e) = x (ix2 r (hcol 3 e)) := by
  pointwise; blk_ext [hcol]

/-- The block of each head. -/
def heads {φ : EltTy} (x : Vec Ideal S512x512 φ) : Fin 4 → Vec Ideal S512x128 φ :=
  ![View.ld x r0_1, View.ld x r0_2, View.ld x r0_3, View.ld x r0_4]

theorem heads_at {φ : EltTy} (x : Vec Ideal S512x512 φ) (g : Fin 4) (r : Fin 512) (e : Fin 128) :
    heads x g (ix2 r e) = x (ix2 r (hcol g e)) := by
  match g with
  | 0 => exact ld_1 x r e
  | 1 => exact ld_2 x r e
  | 2 => exact ld_3 x r e
  | 3 => exact ld_4 x r e

section Values

variable {x0 x1 : Vec Ideal S512x512 .f32} {x2 : Vec Ideal S512x512 .bf16} {x3 x4 : Vec Ideal S2048x128 .bf16} {x5 : Vec Ideal S512x512 .f32}
  {K V : Fin 2048 → Fin 128 → ℝ} {Q Z B O : Fin 512 → Fin 4 → Fin 128 → ℝ}

/-- The output's gradient of head `g` at row `r`, past the gate. -/
abbrev zg (Z B : Fin 512 → Fin 4 → Fin 128 → ℝ) (g : Fin 4) (r : Fin 512) : Fin 128 → ℝ := fun e => Z r g e * silu (B r g e)

theorem dq_block (hk : ∀ j e, x3 (ix2 j e) = (K j e : EReal)) (hv : ∀ j e, x4 (ix2 j e) = (V j e : EReal))
    (hq : ∀ r g e, x2 (ix2 r (hcol g e)) = (Q r g e : EReal)) (hd : ∀ r g e, x0 (ix2 r (hcol g e)) = (Z r g e : EReal))
    (hb : ∀ r g e, x5 (ix2 r (hcol g e)) = (B r g e : EReal))
    (ho : ∀ r g e, x1 (ix2 r (hcol g e)) = ((out (Q r g) K V e : ℝ) : EReal)) (r : Fin 512) (g : Fin 4) (e : Fin 128) :
    dqBlock x0 x1 x2 x3 x4 x5 (ix2 r (hcol g e)) = ((dquery (Q r g) K V (zg Z B g r) e : ℝ) : EReal) := by
  refine (four_tiles (φ := .f32) (fun g => k1_pay23 (k1_pay8 x3) (k1_pay9 x4) (k1_pay12 (heads x0 g)) (k1_pay13 (heads x5 g)) (k1_pay14 (heads x2 g))
    (k1_pay15 (heads x1 g))) r g e).trans ?_
  exact dq_at (Q := fun r => Q r g) (Z := fun r => Z r g) (B := fun r => B r g)
    (fun j e => (congrFun (cast_k x3) _).trans (hk j e)) (fun j e => (congrFun (cast_k x4) _).trans (hv j e))
    (fun r e => (congrFun (cast_q _) _).trans ((heads_at x2 g r e).trans (hq r g e)))
    (fun r e => (congrFun (cast_d _) _).trans ((heads_at x0 g r e).trans (hd r g e)))
    (fun r e => (congrFun (cast_d _) _).trans ((heads_at x5 g r e).trans (hb r g e)))
    (fun r e => (congrFun (cast_d _) _).trans ((heads_at x1 g r e).trans (ho r g e))) r e

theorem dbg_block (hd : ∀ r g e, x0 (ix2 r (hcol g e)) = (Z r g e : EReal)) (hb : ∀ r g e, x5 (ix2 r (hcol g e)) = (B r g e : EReal))
    (ho : ∀ r g e, x1 (ix2 r (hcol g e)) = (O r g e : EReal)) (r : Fin 512) (g : Fin 4) (e : Fin 128) :
    dbgBlock x0 x1 x5 (ix2 r (hcol g e)) = ((Z r g e * O r g e * dsilu (B r g e) : ℝ) : EReal) := by
  refine (four_tiles (φ := .bf16) (fun g => k1_pay16 (heads x0 g) (heads x5 g) (heads x1 g)) r g e).trans ?_
  exact dbg_at (Z := fun r => Z r g) (B := fun r => B r g) (O := fun r => O r g)
    (fun r e => (heads_at x0 g r e).trans (hd r g e)) (fun r e => (heads_at x5 g r e).trans (hb r g e))
    (fun r e => (heads_at x1 g r e).trans (ho r g e)) r e

theorem dv_block (hk : ∀ j e, x3 (ix2 j e) = (K j e : EReal))
    (hq : ∀ r g e, x2 (ix2 r (hcol g e)) = (Q r g e : EReal)) (hd : ∀ r g e, x0 (ix2 r (hcol g e)) = (Z r g e : EReal))
    (hb : ∀ r g e, x5 (ix2 r (hcol g e)) = (B r g e : EReal)) (j : Fin 2048) (e : Fin 128) :
    dvBlock x0 x2 x3 x5 (ix2 j e) = ((∑ g, ∑ r, dval (Q r g) K (zg Z B g r) j e : ℝ) : EReal) := by
  have step := fun (g : Fin 4) (acc : FVec Ideal S2048x128 .f32) => dv_at (k := k1_pay8 x3) (q := k1_pay14 (heads x2 g)) (d := k1_pay12 (heads x0 g))
    (bg := k1_pay13 (heads x5 g)) (Q := fun r => Q r g) (Z := fun r => Z r g) (B := fun r => B r g)
    (fun j e => (congrFun (cast_k x3) _).trans (hk j e))
    (fun r e => (congrFun (cast_q _) _).trans ((heads_at x2 g r e).trans (hq r g e)))
    (fun r e => (congrFun (cast_d _) _).trans ((heads_at x0 g r e).trans (hd r g e)))
    (fun r e => (congrFun (cast_d _) _).trans ((heads_at x5 g r e).trans (hb r g e))) acc j e
  unfold dvBlock
  refine (step 3 _).trans ?_
  refine (congrArg (· + _) ((step 2 _).trans (congrArg (· + _) ((step 1 _).trans (congrArg (· + _) (step 0 _)))))).trans ?_
  rw [show k1_pay11 (F := Ideal) (ix2 j e) = 0 by pointwise [k1_pay11], Fin.sum_univ_four, zero_add, ← EReal.coe_add, ← EReal.coe_add, ← EReal.coe_add]

theorem dk_block (hk : ∀ j e, x3 (ix2 j e) = (K j e : EReal)) (hv : ∀ j e, x4 (ix2 j e) = (V j e : EReal))
    (hq : ∀ r g e, x2 (ix2 r (hcol g e)) = (Q r g e : EReal)) (hd : ∀ r g e, x0 (ix2 r (hcol g e)) = (Z r g e : EReal))
    (hb : ∀ r g e, x5 (ix2 r (hcol g e)) = (B r g e : EReal))
    (ho : ∀ r g e, x1 (ix2 r (hcol g e)) = ((out (Q r g) K V e : ℝ) : EReal)) (j : Fin 2048) (e : Fin 128) :
    dkBlock x0 x1 x2 x3 x4 x5 (ix2 j e) = ((∑ g, ∑ r, dkey (Q r g) K V (zg Z B g r) j e : ℝ) : EReal) := by
  have step := fun (g : Fin 4) (acc : FVec Ideal S2048x128 .f32) => dk_at (k := k1_pay8 x3) (v := k1_pay9 x4) (q := k1_pay14 (heads x2 g))
    (d := k1_pay12 (heads x0 g)) (bg := k1_pay13 (heads x5 g)) (o := k1_pay15 (heads x1 g))
    (Q := fun r => Q r g) (Z := fun r => Z r g) (B := fun r => B r g)
    (fun j e => (congrFun (cast_k x3) _).trans (hk j e)) (fun j e => (congrFun (cast_k x4) _).trans (hv j e))
    (fun r e => (congrFun (cast_q _) _).trans ((heads_at x2 g r e).trans (hq r g e)))
    (fun r e => (congrFun (cast_d _) _).trans ((heads_at x0 g r e).trans (hd r g e)))
    (fun r e => (congrFun (cast_d _) _).trans ((heads_at x5 g r e).trans (hb r g e)))
    (fun r e => (congrFun (cast_d _) _).trans ((heads_at x1 g r e).trans (ho r g e))) acc j e
  unfold dkBlock dkHead
  refine (step 3 _).trans ?_
  refine (congrArg (· + _) ((step 2 _).trans (congrArg (· + _) ((step 1 _).trans (congrArg (· + _) (step 0 _)))))).trans ?_
  rw [show k1_pay10 (F := Ideal) (ix2 j e) = 0 by pointwise [k1_pay10], Fin.sum_univ_four, zero_add, ← EReal.coe_add, ← EReal.coe_add, ← EReal.coe_add]

theorem add_prev (b prev : FVec Ideal S2048x128 .f32) (i) : k1_pay5 b prev i = prev i + b i := by
  pointwise [k1_pay5]
theorem start_k (i) : k1_pay6 (F := Ideal) i = 0 := by pointwise [k1_pay6]
theorem start_v (i) : k1_pay7 (F := Ideal) i = 0 := by pointwise [k1_pay7]

/-- A point of the forward kernel: the heads' outputs, then the gated ones. -/
theorem o_block {q : Vec Ideal S512x512 .bf16} {k v : Vec Ideal S2048x128 .bf16} {bg : Vec Ideal S512x512 .f32}
    (hk : ∀ j e, k (ix2 j e) = (K j e : EReal)) (hv : ∀ j e, v (ix2 j e) = (V j e : EReal))
    (hq : ∀ r g e, q (ix2 r (hcol g e)) = (Q r g e : EReal)) (r : Fin 512) (g : Fin 4) (e : Fin 128) :
    out0_4 (F := Ideal) q k v bg (ix2 r (hcol g e)) = ((out (Q r g) K V e : ℝ) : EReal) := by
  refine Eq.trans ?_ ((four_tiles (fun g => k0_pay5 (View.ld k r0_0) (View.ld v r0_0) (heads q g)) r g e).trans ?_)
  · unfold_out out0_4
    rfl
  · exact o_at (Q := fun r => Q r g) (fun j e => (by pointwise; blk_ext : View.ld k r0_0 (ix2 j e) = k (ix2 j e)).trans (hk j e))
      (fun j e => (by pointwise; blk_ext : View.ld v r0_0 (ix2 j e) = v (ix2 j e)).trans (hv j e))
      (fun r e => (heads_at q g r e).trans (hq r g e)) r e

theorem y_block {q : Vec Ideal S512x512 .bf16} {k v : Vec Ideal S2048x128 .bf16} {bg : Vec Ideal S512x512 .f32}
    (hk : ∀ j e, k (ix2 j e) = (K j e : EReal)) (hv : ∀ j e, v (ix2 j e) = (V j e : EReal))
    (hq : ∀ r g e, q (ix2 r (hcol g e)) = (Q r g e : EReal)) (hb : ∀ r g e, bg (ix2 r (hcol g e)) = (B r g e : EReal))
    (r : Fin 512) (g : Fin 4) (e : Fin 128) :
    out0_5 (F := Ideal) q k v bg (ix2 r (hcol g e)) = ((out (Q r g) K V e * silu (B r g e) : ℝ) : EReal) := by
  refine Eq.trans ?_ ((four_tiles (fun g => k0_pay6 (View.ld k r0_0) (View.ld v r0_0) (heads q g) (heads bg g)) r g e).trans ?_)
  · unfold_out out0_5
    rfl
  · exact y_at (Q := fun r => Q r g) (B := fun r => B r g)
      (fun j e => (by pointwise; blk_ext : View.ld k r0_0 (ix2 j e) = k (ix2 j e)).trans (hk j e))
      (fun j e => (by pointwise; blk_ext : View.ld v r0_0 (ix2 j e) = v (ix2 j e)).trans (hv j e))
      (fun r e => (heads_at q g r e).trans (hq r g e)) (fun r e => (heads_at bg g r e).trans (hb r g e)) r e

end Values

end Cert.Attn
-- ==== Proof.AttnRef.lean ====
/-
  The reference's attention and its derivative, read over the reals where every entry of the arguments is a real.
-/
module

public import proofs.«01_k».proof.Proof.AttnReal
public import proofs.«01_k».proof.Proof.Gen.ReferenceAttnIdeal.Read
public import Idealize.ShloMosaic.Lib.Pipeline.ValueKit

@[expose] public section

set_option maxRecDepth 16384

noncomputable section

namespace Cert.Attn

open Idealize.ShloMosaic Idealize.ShloMosaic.TcCoe Idealize.SL.Sem
open Cert.ReferenceAttnIdeal Cert.ReferenceAttnIdeal.Read Cert.Maths

/-- The query head `g` of group `b`, and the column of entry `e` of that head. -/
def head (b : Fin 2) (g : Fin 4) : Fin 8 := ⟨b.val * 4 + g.val, by omega⟩

/-- The column of entry `e` of head `g` of group `b`, in an array of all the query heads. -/
def col (b : Fin 2) (g : Fin 4) (e : Fin 128) : Fin 1024 := ⟨b.val * 512 + (g.val * 128 + e.val), by omega⟩

/-- The column of entry `e` of group `b`, in an array of the two groups. -/
def kcol (b : Fin 2) (e : Fin 128) : Fin 256 := ⟨b.val * 128 + e.val, by omega⟩

/-- The gate's column `c` in the projection. -/
def bcol (c : Fin 1024) : Fin 12800 := ⟨5632 + c.val, by omega⟩

/-- A sum over two axes of size one is the one entry. -/
theorem sum_unit_axes (x : S1x2x4x2048x1.Idx → EReal) (init : EReal) (b : Fin 2) (g : Fin 4) (r : Fin 2048) :
    Ideal.hostReduceAdd Gen.reducesTo_S1x2x4x2048x1_S2x4x2048_d0_4 x init (ix3 b g r) = init + x (ix5 0 b g r 0) := by
  unfold Ideal.hostReduceAdd
  congr 1
  have hd : ∀ b' g' r', Gen.reducesTo_S1x2x4x2048x1_S2x4x2048_d0_4.drop (ix5 (0 : Fin 1) (b' : Fin 2) (g' : Fin 4) (r' : Fin 2048) (0 : Fin 1)) = ix3 b' g' r' := by
    intro b' g' r'
    funext a
    match a with
    | ⟨0, _⟩ => rfl
    | ⟨1, _⟩ => rfl
    | ⟨2, _⟩ => rfl
  rw [Finset.sum_eq_single (ix5 0 b g r 0)]
  · intro i hi hne
    idx_vars i
    obtain rfl : i0 = 0 := Subsingleton.elim _ _
    obtain rfl : i4 = 0 := Subsingleton.elim _ _
    have h := (Finset.mem_filter.mp hi).2
    rw [hd] at h
    have h0 : i1 = b := congrFun h 0
    have h1 : i2 = g := congrFun h 1
    have h2 : i3 = r := congrFun h 2
    rw [h0, h1, h2] at hne
    exact absurd rfl hne
  · exact fun h => (h (Finset.mem_filter.mpr ⟨Finset.mem_univ _, hd b g r⟩)).elim

section Ref

variable {dy : FVec Ideal S1x2048x1024 .f32} {q : FVec Ideal S1x2048x8x128 .f32} {k v : FVec Ideal S1x2048x2x128 .f32}
  {pr : FVec Ideal S1x2048x12800 .f32} {dp : FVec Ideal S2048x12800 .bf16}
variable {Z : Fin 2048 → Fin 1024 → ℝ} {Q : Fin 2048 → Fin 8 → Fin 128 → ℝ} {K V : Fin 2048 → Fin 2 → Fin 128 → ℝ}
  {B : Fin 2048 → Fin 12800 → ℝ}

/-- The scaled score. -/
theorem s_at (hk : ∀ j b e, k (ix4 0 j b e) = (K j b e : EReal)) (hq : ∀ r h e, q (ix4 0 r h e) = (Q r h e : EReal)) (b g r j) :
    val_main_v5 (F := Ideal) q k (ix5 0 b g r j) = ((score (Q r (head b g)) (fun j e => K j b e) j * scale : ℝ) : EReal) := by
  pointwise [val_main_v5, val_main_v4, val_main_v3, val_main_v2, val_main_v1, val_main_cst]
  simp only [hk, hq, w_scale, ← EReal.coe_mul, ← coe_sum]
  congr 2
  exact Finset.sum_congr rfl fun e _ => mul_comm _ _

theorem v24_at (b g r j) :
    val_main_v24 (F := Ideal) q k (ix5 0 b g r j) = val_main_v13 (F := Ideal) q k (ix4 0 b g r) := by
  unfold val_main_v24 val_main_v23
  generalize val_main_v13 (F := Ideal) q k = y
  pointwise

theorem v13_at (b g r) :
    val_main_v13 (F := Ideal) q k (ix4 0 b g r) = max ⊥ (val_main_v6 (F := Ideal) q k (ix4 0 b g r)) := by
  rw [val_main_v13_apply, val_main_v12_apply, val_main_cst_2_apply]
  generalize val_main_v6 (F := Ideal) q k (ix4 0 b g r) = y
  rw [← w_neg_inf]
  rfl

theorem v6_at (b g r) :
    val_main_v6 (F := Ideal) q k (ix4 0 b g r)
      = Finset.fold max (Ideal.ofBits FTy.f32 4286578688#32) (fun x => val_main_v5 (F := Ideal) q k (ix5 0 b g r x)) Finset.univ := by
  pointwise [val_main_v6, val_main_cst_0]

theorem v26_at (b g r j) :
    val_main_v26 (F := Ideal) q k (ix5 0 b g r j)
      = Ideal.exp (val_main_v5 (F := Ideal) q k (ix5 0 b g r j) - val_main_v24 (F := Ideal) q k (ix5 0 b g r j)) := by
  rw [val_main_v26_apply, val_main_v25_apply]
  rfl

theorem v28_at (b g r u) :
    val_main_v28 (F := Ideal) q k (ix5 0 b g r u) = ∑ j, val_main_v26 (F := Ideal) q k (ix5 0 b g r j) := by
  unfold val_main_v28 val_main_v27
  generalize val_main_v26 (F := Ideal) q k = y
  pointwise [val_main_cst_8]

/-- The row's exponentials and their sum, up to a common positive factor. -/
theorem e_at (hk : ∀ j b e, k (ix4 0 j b e) = (K j b e : EReal)) (hq : ∀ r h e, q (ix4 0 r h e) = (Q r h e : EReal)) (b g r) :
    ∃ A : ℝ, 0 < A ∧
      (∀ j, val_main_v26 (F := Ideal) q k (ix5 0 b g r j) = ((A * num (Q r (head b g)) (fun j e => K j b e) j : ℝ) : EReal)) ∧
      ∀ u, val_main_v28 (F := Ideal) q k (ix5 0 b g r u) = ((A * ∑ j, num (Q r (head b g)) (fun j e => K j b e) j : ℝ) : EReal) := by
  obtain ⟨M, hM⟩ := fold_max_coe fun j => score (Q r (head b g)) (fun j e => K j b e) j * scale
  have h : ∀ j, val_main_v26 (F := Ideal) q k (ix5 0 b g r j)
      = ((Real.exp (-M) * num (Q r (head b g)) (fun j e => K j b e) j : ℝ) : EReal) := by
    intro j
    rw [v26_at, v24_at, v13_at, v6_at, w_neg_inf]
    simp only [s_at hk hq]
    rw [hM, max_eq_right bot_le, ← EReal.coe_sub, Ideal.exp_coe, exp_shift']
  refine ⟨Real.exp (-M), Real.exp_pos _, h, fun u => ?_⟩
  rw [v28_at]
  simp only [h, ← coe_sum, Finset.mul_sum]

theorem v30_at (b g r j) :
    val_main_v30 (F := Ideal) q k (ix5 0 b g r j)
      = Ideal.div (val_main_v26 (F := Ideal) q k (ix5 0 b g r j)) (val_main_v28 (F := Ideal) q k (ix5 0 b g r 0)) := by
  unfold val_main_v30 val_main_v29
  generalize val_main_v26 (F := Ideal) q k = y
  generalize val_main_v28 (F := Ideal) q k = z
  pointwise

/-- The softmax's weight. -/
theorem w_at (hk : ∀ j b e, k (ix4 0 j b e) = (K j b e : EReal)) (hq : ∀ r h e, q (ix4 0 r h e) = (Q r h e : EReal)) (b g r j) :
    val_main_v30 (F := Ideal) q k (ix5 0 b g r j) = ((wt (Q r (head b g)) (fun j e => K j b e) j : ℝ) : EReal) := by
  obtain ⟨A, hA, hn, hs⟩ := e_at hk hq b g r
  have hp := sum_num_pos (Q r (head b g)) (fun j e => K j b e)
  rw [v30_at, hn, hs, Ideal.div_coe (mul_pos hA hp).ne', ← EReal.coe_mul]
  congr 1
  unfold wt
  field_simp

theorem v36_at (b g r e) :
    val_main_v36 (F := Ideal) q k v (ix3 0 r (col b g e))
      = ∑ j, v (ix4 0 j b e) * val_main_v30 (F := Ideal) q k (ix5 0 b g r j) := by
  unfold val_main_v36 val_main_v35 val_main_v34 col
  generalize val_main_v30 (F := Ideal) q k = y
  pointwise

/-- The attention's output. -/
theorem ref_o (hk : ∀ j b e, k (ix4 0 j b e) = (K j b e : EReal)) (hq : ∀ r h e, q (ix4 0 r h e) = (Q r h e : EReal))
    (hv : ∀ j b e, v (ix4 0 j b e) = (V j b e : EReal)) (b g r e) :
    val_main_v36 (F := Ideal) q k v (ix3 0 r (col b g e))
      = ((out (Q r (head b g)) (fun j e => K j b e) (fun j e => V j b e) e : ℝ) : EReal) := by
  rw [v36_at]
  simp only [hv, w_at hk hq, ← EReal.coe_mul, ← coe_sum]
  congr 1
  exact Finset.sum_congr rfl fun j _ => mul_comm _ _

theorem sig_at (hp : ∀ r c, pr (ix3 0 r c) = (B r c : EReal)) (r c) :
    val_main_v37_2 (F := Ideal) pr (ix3 0 r c) = ((sig (B r (bcol c)) : ℝ) : EReal) := by
  pointwise [val_main_v37_2, val_main_call0_v4, val_main_call0_v3, val_main_call0_v2, val_main_call0_v1, val_main_call0_v0, val_main_v0, val_main_call0_cst, val_main_call0_cst_0]
  have h := hp r (bcol c)
  unfold bcol at h
  rw [h]
  simp only [← EReal.coe_neg, Ideal.exp_coe, ← EReal.coe_one, ← EReal.coe_add]
  rw [Ideal.div_coe (one_add_exp_ne _), ← EReal.coe_mul, one_mul]
  rfl

theorem v0_at (hp : ∀ r c, pr (ix3 0 r c) = (B r c : EReal)) (r c) :
    val_main_v0 (F := Ideal) pr (ix3 0 r c) = ((B r (bcol c) : ℝ) : EReal) := by
  rw [← hp]
  pointwise [val_main_v0, bcol]

/-- The gate. -/
theorem silu_at (hp : ∀ r c, pr (ix3 0 r c) = (B r c : EReal)) (r c) :
    val_main_v37_0 (F := Ideal) pr (ix3 0 r c) = ((silu (B r (bcol c)) : ℝ) : EReal) := by
  rw [val_main_v37_0_apply, sig_at hp, v0_at hp]
  exact (EReal.coe_mul _ _).symm

theorem sig'_at (hp : ∀ r c, pr (ix3 0 r c) = (B r c : EReal)) (r c) :
    val_main_v37_1 (F := Ideal) pr (ix3 0 r c) = ((sig (B r (bcol c)) * (1 - sig (B r (bcol c))) : ℝ) : EReal) := by
  rw [val_main_v37_1_apply, val_main_call0_v7_apply, sig_at hp]
  pointwise [val_main_call0_v6, val_main_call0_cst_1]
  simp only [← EReal.coe_one, ← EReal.coe_sub, ← EReal.coe_mul]

theorem v42_at (b e g r) :
    val_main_v43 (F := Ideal) dy pr (ix5 0 b e g r) = val_main_v40 (F := Ideal) dy pr (ix3 0 r (col b g e)) := by
  unfold val_main_v43 val_main_v42 col
  generalize val_main_v40 (F := Ideal) dy pr = y
  pointwise
  simp only [Nat.add_assoc]

/-- The cotangent of the attention's output. -/
theorem do_at' (hz : ∀ r c, dy (ix3 0 r c) = (Z r c : EReal)) (hp : ∀ r c, pr (ix3 0 r c) = (B r c : EReal)) (b e g r) :
    val_main_v43 (F := Ideal) dy pr (ix5 0 b e g r)
      = ((Z r (col b g e) * silu (B r (bcol (col b g e))) : ℝ) : EReal) := by
  rw [v42_at, val_main_v40_apply, hz, silu_at hp]
  exact (EReal.coe_mul _ _).symm

theorem v44_at (b g r j) :
    val_main_v44 (F := Ideal) dy v pr (ix5 0 b g r j)
      = ∑ e, val_main_v43 (F := Ideal) dy pr (ix5 0 b e g r) * v (ix4 0 j b e) := by
  unfold val_main_v44
  generalize val_main_v43 (F := Ideal) dy pr = y
  pointwise

theorem v47_at (b g r j) :
    val_main_v47 (F := Ideal) q k (ix5 0 b g r j)
      = Ideal.div 1 (val_main_v28 (F := Ideal) q k (ix5 0 b g r 0) * val_main_v28 (F := Ideal) q k (ix5 0 b g r 0)) := by
  unfold val_main_v47 val_main_v33 val_main_v31 val_main_v32
  generalize val_main_v28 (F := Ideal) q k = y
  pointwise [val_main_cst_9]

theorem v55_at (b g r) :
    val_main_v55 (F := Ideal) dy q k v pr (ix3 b g r) = val_main_v52 (F := Ideal) dy q k v pr (ix5 0 b g r 0) := by
  unfold val_main_v55
  generalize val_main_v52 (F := Ideal) dy q k v pr = y
  refine (sum_unit_axes y _ b g r).trans ?_
  pointwise [val_main_cst_11]

theorem v52_at (b g r) :
    val_main_v52 (F := Ideal) dy q k v pr (ix5 0 b g r 0) = -∑ j, val_main_v49 (F := Ideal) dy q k v pr (ix5 0 b g r j) := by
  unfold val_main_v52 val_main_v51 val_main_v50
  generalize val_main_v49 (F := Ideal) dy q k v pr = y
  pointwise [val_main_cst_10]

theorem v49_at (b g r j) :
    val_main_v49 (F := Ideal) dy q k v pr (ix5 0 b g r j)
      = val_main_v44 (F := Ideal) dy v pr (ix5 0 b g r j) * val_main_v47 (F := Ideal) q k (ix5 0 b g r j)
        * val_main_v26 (F := Ideal) q k (ix5 0 b g r j) := by
  rw [val_main_v49_apply, val_main_v48_apply]
  rfl

theorem v57_at (b g r j) :
    val_main_v57 (F := Ideal) dy q k v pr (ix5 0 b g r j) = val_main_v55 (F := Ideal) dy q k v pr (ix3 b g r) := by
  unfold val_main_v57 val_main_v56
  generalize val_main_v55 (F := Ideal) dy q k v pr = y
  pointwise

theorem v54_at (b g r j) :
    val_main_v54 (F := Ideal) dy q k v pr (ix5 0 b g r j)
      = Ideal.div (val_main_v44 (F := Ideal) dy v pr (ix5 0 b g r j)) (val_main_v28 (F := Ideal) q k (ix5 0 b g r 0)) := by
  unfold val_main_v54 val_main_v53
  generalize val_main_v28 (F := Ideal) q k = y
  generalize val_main_v44 (F := Ideal) dy v pr = z
  pointwise

theorem v61_at (b g r j) :
    val_main_v61 (F := Ideal) dy q k v pr (ix5 0 b g r j)
      = (val_main_v54 (F := Ideal) dy q k v pr (ix5 0 b g r j) + val_main_v57 (F := Ideal) dy q k v pr (ix5 0 b g r j))
        * val_main_v26 (F := Ideal) q k (ix5 0 b g r j) * Ideal.ofBits .f32 0x3DB504F3#32 := by
  rw [val_main_v61_apply, val_main_v60_apply, val_main_cst_12_apply, val_main_v59_apply, val_main_v58_apply]
  rfl

/-- The head's cotangent of the attention's output. -/
abbrev zo (Z : Fin 2048 → Fin 1024 → ℝ) (B : Fin 2048 → Fin 12800 → ℝ) (b : Fin 2) (g : Fin 4) (r : Fin 2048) (e : Fin 128) : ℝ :=
  Z r (col b g e) * silu (B r (bcol (col b g e)))

/-- The cotangent of the score, times the scale. -/
theorem ref_ds (hk : ∀ j b e, k (ix4 0 j b e) = (K j b e : EReal)) (hq : ∀ r h e, q (ix4 0 r h e) = (Q r h e : EReal))
    (hv : ∀ j b e, v (ix4 0 j b e) = (V j b e : EReal)) (hz : ∀ r c, dy (ix3 0 r c) = (Z r c : EReal))
    (hp : ∀ r c, pr (ix3 0 r c) = (B r c : EReal)) (b g r j) :
    val_main_v61 (F := Ideal) dy q k v pr (ix5 0 b g r j)
      = ((scale * dscore (Q r (head b g)) (fun j e => K j b e) (fun j e => V j b e) (zo Z B b g r) j : ℝ) : EReal) := by
  obtain ⟨A, hA, hn, hs⟩ := e_at hk hq b g r
  have hp' := sum_num_pos (Q r (head b g)) (fun j e => K j b e)
  have h44 : ∀ j, val_main_v44 (F := Ideal) dy v pr (ix5 0 b g r j) = ((∑ e, zo Z B b g r e * V j b e : ℝ) : EReal) := by
    intro j
    rw [v44_at]
    simp only [do_at' hz hp, hv, ← EReal.coe_mul, ← coe_sum]
  have hAS := mul_pos hA hp'
  rw [v61_at, v54_at, v57_at, v55_at, v52_at]
  simp only [v49_at, v47_at, h44, hn, hs, w_scale, ← EReal.coe_mul, ← EReal.coe_one, Ideal.div_coe hAS.ne', Ideal.div_coe (mul_pos hAS hAS).ne', ← coe_sum,
    ← EReal.coe_neg, ← EReal.coe_add]
  congr 1
  unfold dscore
  rw [← mean_eq]
  simp only [wt]
  have hc : ∀ j, (∑ e, zo Z B b g r e * V j b e) * (1 * (1 / (A * (∑ j, num (Q r (head b g)) (fun j e => K j b e) j) * (A * ∑ j, num (Q r (head b g)) (fun j e => K j b e) j)))) * (A * num (Q r (head b g)) (fun j e => K j b e) j)
     = (1 / (A * ∑ j, num (Q r (head b g)) (fun j e => K j b e) j)) * (num (Q r (head b g)) (fun j e => K j b e) j / (∑ j, num (Q r (head b g)) (fun j e => K j b e) j) * ∑ e, zo Z B b g r e * V j b e) := by
    intro j
    field_simp
  simp only [hc, ← Finset.mul_sum]
  field_simp
  ring

theorem v73_at (b g r e) :
    val_main_v73 (F := Ideal) dy q k v pr (ix2 r (col b g e))
      = ∑ j, val_main_v61 (F := Ideal) dy q k v pr (ix5 0 b g r j) * k (ix4 0 j b e) := by
  unfold val_main_v73 val_main_v67 val_main_v64 val_main_v63 val_main_v62 col
  generalize val_main_v61 (F := Ideal) dy q k v pr = y
  pointwise

theorem v74_at (b j e) :
    val_main_v74 (F := Ideal) dy q k v pr (ix2 j (kcol b e))
      = ∑ g, ∑ r, val_main_v61 (F := Ideal) dy q k v pr (ix5 0 b g r j) * q (ix4 0 r (head b g) e) := by
  unfold val_main_v74 val_main_v66 val_main_v65 val_main_v62 kcol head
  generalize val_main_v61 (F := Ideal) dy q k v pr = y
  pointwise [val_main_v1]
  exact Finset.sum_comm

theorem v75_at (b j e) :
    val_main_v75 (F := Ideal) dy q k pr (ix2 j (kcol b e))
      = ∑ g, ∑ r, val_main_v43 (F := Ideal) dy pr (ix5 0 b e g r) * val_main_v30 (F := Ideal) q k (ix5 0 b g r j) := by
  unfold val_main_v75 val_main_v46 val_main_v45 kcol
  generalize val_main_v43 (F := Ideal) dy pr = y
  generalize val_main_v30 (F := Ideal) q k = z
  pointwise

theorem v69_at (r c) :
    val_main_v69 (F := Ideal) dy q k v pr (ix2 r c) = val_main_v41 (F := Ideal) dy q k v pr (ix3 0 r c) := by
  unfold val_main_v69 val_main_v68
  generalize val_main_v41 (F := Ideal) dy q k v pr = y
  pointwise

theorem ref_dq (hk : ∀ j b e, k (ix4 0 j b e) = (K j b e : EReal)) (hq : ∀ r h e, q (ix4 0 r h e) = (Q r h e : EReal))
    (hv : ∀ j b e, v (ix4 0 j b e) = (V j b e : EReal)) (hz : ∀ r c, dy (ix3 0 r c) = (Z r c : EReal))
    (hp : ∀ r c, pr (ix3 0 r c) = (B r c : EReal)) (b g r e) :
    val_main_v73 (F := Ideal) dy q k v pr (ix2 r (col b g e))
      = ((dquery (Q r (head b g)) (fun j e => K j b e) (fun j e => V j b e) (zo Z B b g r) e : ℝ) : EReal) := by
  rw [v73_at]
  simp only [ref_ds hk hq hv hz hp, hk, ← EReal.coe_mul, ← coe_sum]
  congr 1
  unfold dquery
  rw [Finset.mul_sum]
  exact Finset.sum_congr rfl fun j _ => by ring

theorem ref_dk (hk : ∀ j b e, k (ix4 0 j b e) = (K j b e : EReal)) (hq : ∀ r h e, q (ix4 0 r h e) = (Q r h e : EReal))
    (hv : ∀ j b e, v (ix4 0 j b e) = (V j b e : EReal)) (hz : ∀ r c, dy (ix3 0 r c) = (Z r c : EReal))
    (hp : ∀ r c, pr (ix3 0 r c) = (B r c : EReal)) (b j e) :
    val_main_v74 (F := Ideal) dy q k v pr (ix2 j (kcol b e))
      = ((∑ g, ∑ r, dkey (Q r (head b g)) (fun j e => K j b e) (fun j e => V j b e) (zo Z B b g r) j e : ℝ) : EReal) := by
  rw [v74_at]
  simp only [ref_ds hk hq hv hz hp, hq, ← EReal.coe_mul, ← coe_sum]
  congr 1
  unfold dkey
  exact Finset.sum_congr rfl fun g _ => Finset.sum_congr rfl fun r _ => by ring

theorem ref_dv (hk : ∀ j b e, k (ix4 0 j b e) = (K j b e : EReal)) (hq : ∀ r h e, q (ix4 0 r h e) = (Q r h e : EReal))
    (hz : ∀ r c, dy (ix3 0 r c) = (Z r c : EReal))
    (hp : ∀ r c, pr (ix3 0 r c) = (B r c : EReal)) (b j e) :
    val_main_v75 (F := Ideal) dy q k pr (ix2 j (kcol b e))
      = ((∑ g, ∑ r, dval (Q r (head b g)) (fun j e => K j b e) (zo Z B b g r) j e : ℝ) : EReal) := by
  rw [v75_at]
  simp only [do_at' hz hp, w_at hk hq, ← EReal.coe_mul, ← coe_sum]
  congr 1
  unfold dval
  exact Finset.sum_congr rfl fun g _ => Finset.sum_congr rfl fun r _ => by ring

theorem ref_dbg (hk : ∀ j b e, k (ix4 0 j b e) = (K j b e : EReal)) (hq : ∀ r h e, q (ix4 0 r h e) = (Q r h e : EReal))
    (hv : ∀ j b e, v (ix4 0 j b e) = (V j b e : EReal)) (hz : ∀ r c, dy (ix3 0 r c) = (Z r c : EReal))
    (hp : ∀ r c, pr (ix3 0 r c) = (B r c : EReal)) (b g r e) :
    val_main_v69 (F := Ideal) dy q k v pr (ix2 r (col b g e))
      = ((Z r (col b g e) * out (Q r (head b g)) (fun j e => K j b e) (fun j e => V j b e) e * dsilu (B r (bcol (col b g e))) : ℝ) : EReal) := by
  rw [v69_at, val_main_v41_apply, val_main_call1_v1_apply, val_main_call1_v2_apply, val_main_call1_v0_apply, val_main_v39_apply, sig_at hp, sig'_at hp,
    v0_at hp, hz, ref_o hk hq hv]
  change (_ : EReal) * _ * _ + _ * (_ * _) * _ = _
  simp only [← EReal.coe_mul, ← EReal.coe_add]
  congr 1
  unfold dsilu
  ring

theorem ref_o' (hk : ∀ j b e, k (ix4 0 j b e) = (K j b e : EReal)) (hq : ∀ r h e, q (ix4 0 r h e) = (Q r h e : EReal))
    (hv : ∀ j b e, v (ix4 0 j b e) = (V j b e : EReal)) (b g r e) :
    val_main_v70 (F := Ideal) q k v (ix2 r (col b g e))
      = ((out (Q r (head b g)) (fun j e => K j b e) (fun j e => V j b e) e : ℝ) : EReal) := by
  rw [← ref_o hk hq hv]
  unfold val_main_v70
  generalize val_main_v36 (F := Ideal) q k v = y
  pointwise

theorem ref_y (hk : ∀ j b e, k (ix4 0 j b e) = (K j b e : EReal)) (hq : ∀ r h e, q (ix4 0 r h e) = (Q r h e : EReal))
    (hv : ∀ j b e, v (ix4 0 j b e) = (V j b e : EReal)) (hp : ∀ r c, pr (ix3 0 r c) = (B r c : EReal)) (b g r e) :
    val_main_v72 (F := Ideal) q k v pr (ix2 r (col b g e))
      = ((out (Q r (head b g)) (fun j e => K j b e) (fun j e => V j b e) e * silu (B r (bcol (col b g e))) : ℝ) : EReal) := by
  rw [EReal.coe_mul, ← ref_o hk hq hv, ← silu_at hp]
  unfold val_main_v72 val_main_v71 val_main_v38
  generalize val_main_v36 (F := Ideal) q k v = y
  generalize val_main_v37_0 (F := Ideal) pr = z
  pointwise

end Ref
end Cert.Attn
-- ==== Proof.AttnRegion.lean ====
/-
  The arrays the two attention kernels leave, over the reals, from what their operands hold at entry.
-/
module

public import proofs.«01_k».proof.Proof.AttnHeads
public import proofs.«01_k».proof.Proof.AttnRef

@[expose] public section

set_option maxRecDepth 16384

noncomputable section

namespace Cert.Attn

open Idealize.ShloMosaic Idealize.ShloMosaic.TcCoe Idealize.SL.Sem
open Idealize.ShloMosaic.Pipeline (Dat)
open Cert.KernelAttnIdeal Cert.KernelAttnIdeal.Gen Cert.Maths

/-- The group and the rows of grid point `n`. -/
def grp (n : ℕ) (h : n < 8) : Fin 2 := ⟨n / 4, by omega⟩
def row (n : ℕ) (r : Fin 512) : Fin 2048 := ⟨n % 4 * 512 + r.val, by omega⟩

theorem exists_hcol (y : Fin 512) : ∃ g e, y = hcol g e :=
  ⟨⟨y.val / 128, by omega⟩, ⟨y.val % 128, by omega⟩, Fin.ext (by simp only [hcol]; omega)⟩

theorem idx0 : ∀ t : Fin cfg0.N, win0_0.index t = ![t.val % 4, t.val / 4] ∧ win0_1.index t = ![0, t.val / 4] ∧ win0_2.index t = ![0, t.val / 4]
    ∧ win0_3.index t = ![t.val % 4, 11 + t.val / 4] ∧ win0_4.index t = ![t.val % 4, t.val / 4] ∧ win0_5.index t = ![t.val % 4, t.val / 4]
    ∧ t.val < 8 :=
  (by decide +kernel : ∀ t : Fin grid0.N, _)

theorem idx1 : ∀ t : Fin cfg1.N, win1_0.index t = ![t.val % 4, t.val / 4] ∧ win1_1.index t = ![t.val % 4, t.val / 4]
    ∧ win1_2.index t = ![t.val % 4, t.val / 4] ∧ win1_3.index t = ![0, t.val / 4] ∧ win1_4.index t = ![0, t.val / 4]
    ∧ win1_5.index t = ![t.val % 4, 11 + t.val / 4] ∧ win1_6.index t = ![t.val % 4, t.val / 4] ∧ win1_7.index t = ![0, t.val / 4]
    ∧ win1_8.index t = ![0, t.val / 4] ∧ win1_9.index t = ![t.val % 4, 11 + t.val / 4] ∧ t.val < 8 :=
  (by decide +kernel : ∀ t : Fin grid1.N, _)

variable (V : (c : Dev nD) → (b : Ref sig .tc) → Buf (Elt Ideal) ((c : Thread nD τ).loc b)) (c : Dev nD)
  (Q : Fin 2048 → Fin 8 → Fin 128 → ℝ) (K W : Fin 2048 → Fin 2 → Fin 128 → ℝ) (Z : Fin 2048 → Fin 1024 → ℝ) (B : Fin 2048 → Fin 12800 → ℝ)

/-- The forward kernel's operands: queries, keys, values and the gate, all real. -/
structure Entry0 : Prop where
  q : ∀ R b g e, V c main_v1 (ix2 R (col b g e)) = (Q R (head b g) e : EReal)
  k : ∀ j b e, V c main_v3 (ix2 j (kcol b e)) = (K j b e : EReal)
  v : ∀ j b e, V c main_v5 (ix2 j (kcol b e)) = (W j b e : EReal)
  p : ∀ R i, V c main_v6 (ix2 R i) = (B R i : EReal)

/-- The backward kernel's operands: besides those, the cotangent and the forward kernel's output. -/
structure Entry1 : Prop where
  q : ∀ R b g e, V c main_v1 (ix2 R (col b g e)) = (Q R (head b g) e : EReal)
  k : ∀ j b e, V c main_v3 (ix2 j (kcol b e)) = (K j b e : EReal)
  v : ∀ j b e, V c main_v5 (ix2 j (kcol b e)) = (W j b e : EReal)
  p : ∀ R i, V c main_v9 (ix2 R i) = (B R i : EReal)
  z : ∀ R i, V c main_v8 (ix2 R i) = (Z R i : EReal)
  o : ∀ R b g e, V c main_v7_0 (ix2 R (col b g e)) = ((out (Q R (head b g)) (fun j e => K j b e) (fun j e => W j b e) e : ℝ) : EReal)

variable {V c Q K W Z B}

section Forward

variable (h : Entry0 V c Q K W B) (t : Fin cfg0.N)
include h

theorem fq (r g e) : iblk0 V c 0 t (ix2 r (hcol g e)) = (Q (row t r) (head (grp t (idx0 t).2.2.2.2.2.2) g) e : EReal) :=
  Eq.trans (by blk_ext [iblk0, idx0 t, row, col, grp, hcol]) (h.q _ _ _ _)
theorem fk (j e) : iblk0 V c 1 t (ix2 j e) = (K j (grp t (idx0 t).2.2.2.2.2.2) e : EReal) :=
  Eq.trans (by blk_ext [iblk0, idx0 t, kcol, grp]) (h.k _ _ _)
theorem fv (j e) : iblk0 V c 2 t (ix2 j e) = (W j (grp t (idx0 t).2.2.2.2.2.2) e : EReal) :=
  Eq.trans (by blk_ext [iblk0, idx0 t, kcol, grp]) (h.v _ _ _)
theorem fb (r g e) : iblk0 V c 3 t (ix2 r (hcol g e)) = (B (row t r) (bcol (col (grp t (idx0 t).2.2.2.2.2.2) g e)) : EReal) :=
  Eq.trans (by blk_ext [iblk0, idx0 t, row, col, bcol, grp, hcol]) (h.p _ _)

omit t

theorem final_o (G : Vec Ideal S2048x1024 .f32)
    (hG : ∀ b g R e, G (ix2 R (col b g e)) = ((out (Q R (head b g)) (fun j e => K j b e) (fun j e => W j b e) e : ℝ) : EReal)) :
    (dat0 V c).arrAt 4 cfg0.N = G := by
  refine (dat0 V c).arrAt_eq_of_covers 4 _ (by decide +kernel) fun t hf y => ?_
  blk_simp
  rw [after0_4]
  idx_vars y
  obtain ⟨g, e, rfl⟩ := exists_hcol y1
  refine (o_block (Q := fun r g => Q (row t r) (head (grp t (idx0 t).2.2.2.2.2.2) g)) (fk h t) (fv h t) (fq h t) y0 g e).trans ((hG _ g _ e).symm.trans ?_)
  blk_ext [idx0 t, row, col, grp, hcol]

theorem final_y (G : Vec Ideal S2048x1024 .bf16)
    (hG : ∀ b g R e, G (ix2 R (col b g e))
      = ((out (Q R (head b g)) (fun j e => K j b e) (fun j e => W j b e) e * silu (B R (bcol (col b g e))) : ℝ) : EReal)) :
    (dat0 V c).arrAt 5 cfg0.N = G := by
  refine (dat0 V c).arrAt_eq_of_covers 5 _ (by decide +kernel) fun t hf y => ?_
  blk_simp
  rw [after0_5]
  idx_vars y
  obtain ⟨g, e, rfl⟩ := exists_hcol y1
  refine (y_block (Q := fun r g => Q (row t r) (head (grp t (idx0 t).2.2.2.2.2.2) g))
    (B := fun r g e => B (row t r) (bcol (col (grp t (idx0 t).2.2.2.2.2.2) g e))) (fk h t) (fv h t) (fq h t) (fb h t) y0 g e).trans ((hG _ g _ e).symm.trans ?_)
  blk_ext [idx0 t, row, col, grp, hcol]

end Forward

section Backward

/-- The group of a point of the backward kernel. -/
abbrev grp1 (t : Fin cfg1.N) : Fin 2 := grp t (idx1 t).2.2.2.2.2.2.2.2.2.2

variable (h : Entry1 V c Q K W Z B) (t : Fin cfg1.N)
include h

theorem bd (r g e) : iblk1 V c 0 t (ix2 r (hcol g e)) = (Z (row t r) (col (grp1 t) g e) : EReal) :=
  Eq.trans (by blk_ext [iblk1, idx1 t, row, col, grp, hcol]) (h.z _ _)
theorem bo (r g e) : iblk1 V c 1 t (ix2 r (hcol g e))
    = ((out (Q (row t r) (head (grp1 t) g)) (fun j e => K j (grp1 t) e) (fun j e => W j (grp1 t) e) e : ℝ) : EReal) :=
  Eq.trans (by blk_ext [iblk1, idx1 t, row, col, grp, hcol]) (h.o _ _ _ _)
theorem bq (r g e) : iblk1 V c 2 t (ix2 r (hcol g e)) = (Q (row t r) (head (grp1 t) g) e : EReal) :=
  Eq.trans (by blk_ext [iblk1, idx1 t, row, col, grp, hcol]) (h.q _ _ _ _)
theorem bk (j e) : iblk1 V c 3 t (ix2 j e) = (K j (grp1 t) e : EReal) :=
  Eq.trans (by blk_ext [iblk1, idx1 t, kcol, grp]) (h.k _ _ _)
theorem bv (j e) : iblk1 V c 4 t (ix2 j e) = (W j (grp1 t) e : EReal) :=
  Eq.trans (by blk_ext [iblk1, idx1 t, kcol, grp]) (h.v _ _ _)
theorem bb (r g e) : iblk1 V c 5 t (ix2 r (hcol g e)) = (B (row t r) (bcol (col (grp1 t) g e)) : EReal) :=
  Eq.trans (by blk_ext [iblk1, idx1 t, row, col, bcol, grp, hcol]) (h.p _ _)

/-- The queries' gradient of a point. -/
theorem dq_point (r g e) : dqBlock (iblk1 V c 0 t) (iblk1 V c 1 t) (iblk1 V c 2 t) (iblk1 V c 3 t) (iblk1 V c 4 t) (iblk1 V c 5 t) (ix2 r (hcol g e))
    = ((dquery (Q (row t r) (head (grp1 t) g)) (fun j e => K j (grp1 t) e) (fun j e => W j (grp1 t) e) (zo Z B (grp1 t) g (row t r)) e : ℝ) : EReal) :=
  dq_block (Q := fun r g => Q (row t r) (head (grp1 t) g)) (Z := fun r g e => Z (row t r) (col (grp1 t) g e))
    (B := fun r g e => B (row t r) (bcol (col (grp1 t) g e))) (bk h t) (bv h t) (bq h t) (bd h t) (bb h t) (bo h t) r g e

theorem dbg_point (r g e) : dbgBlock (iblk1 V c 0 t) (iblk1 V c 1 t) (iblk1 V c 5 t) (ix2 r (hcol g e))
    = ((Z (row t r) (col (grp1 t) g e) * out (Q (row t r) (head (grp1 t) g)) (fun j e => K j (grp1 t) e) (fun j e => W j (grp1 t) e) e
        * dsilu (B (row t r) (bcol (col (grp1 t) g e))) : ℝ) : EReal) :=
  dbg_block (Z := fun r g e => Z (row t r) (col (grp1 t) g e)) (B := fun r g e => B (row t r) (bcol (col (grp1 t) g e)))
    (O := fun r g => out (Q (row t r) (head (grp1 t) g)) (fun j e => K j (grp1 t) e) (fun j e => W j (grp1 t) e)) (bd h t) (bb h t) (bo h t) r g e

theorem dk_point (j e) : dkBlock (iblk1 V c 0 t) (iblk1 V c 1 t) (iblk1 V c 2 t) (iblk1 V c 3 t) (iblk1 V c 4 t) (iblk1 V c 5 t) (ix2 j e)
    = ((∑ g, ∑ r, dkey (Q (row t r) (head (grp1 t) g)) (fun j e => K j (grp1 t) e) (fun j e => W j (grp1 t) e) (zo Z B (grp1 t) g (row t r)) j e : ℝ) : EReal) :=
  dk_block (Q := fun r g => Q (row t r) (head (grp1 t) g)) (Z := fun r g e => Z (row t r) (col (grp1 t) g e))
    (B := fun r g e => B (row t r) (bcol (col (grp1 t) g e))) (bk h t) (bv h t) (bq h t) (bd h t) (bb h t) (bo h t) j e

theorem dv_point (j e) : dvBlock (iblk1 V c 0 t) (iblk1 V c 2 t) (iblk1 V c 3 t) (iblk1 V c 5 t) (ix2 j e)
    = ((∑ g, ∑ r, dval (Q (row t r) (head (grp1 t) g)) (fun j e => K j (grp1 t) e) (zo Z B (grp1 t) g (row t r)) j e : ℝ) : EReal) :=
  dv_block (Q := fun r g => Q (row t r) (head (grp1 t) g)) (Z := fun r g e => Z (row t r) (col (grp1 t) g e))
    (B := fun r g e => B (row t r) (bcol (col (grp1 t) g e))) (bk h t) (bq h t) (bd h t) (bb h t) j e

omit t

theorem final_dq (G : Vec Ideal S2048x1024 .f32)
    (hG : ∀ b g R e, G (ix2 R (col b g e))
      = ((dquery (Q R (head b g)) (fun j e => K j b e) (fun j e => W j b e) (zo Z B b g R) e : ℝ) : EReal)) :
    (dat1 V c).arrAt 6 cfg1.N = G := by
  refine (dat1 V c).arrAt_eq_of_covers 6 _ (by decide +kernel) fun t hf y => ?_
  blk_simp
  rw [after1_6, dq_outs]
  idx_vars y
  obtain ⟨g, e, rfl⟩ := exists_hcol y1
  refine (dq_point h t y0 g e).trans ((hG _ g _ e).symm.trans ?_)
  blk_ext [idx1 t, row, col, grp, hcol]

omit h in
/-- The four row blocks of a group make its 2048 rows. -/
theorem sum_rows (t : Fin cfg1.N) (hr : t.val % 4 = 4 - 1) (f : Fin 2 → Fin 4 → Fin 2048 → ℝ) :
    ∑ s : Fin 4, ((∑ g, ∑ r, f (grp1 ⟨4 * (t.val / 4) + s.val, Pipeline.run_point_lt_of_flush t hr s⟩) g
        (row (4 * (t.val / 4) + s.val) r) : ℝ) : EReal) = ((∑ g, ∑ R, f (grp1 t) g R : ℝ) : EReal) := by
  rw [← coe_sum, Finset.sum_comm]
  congr 1
  refine Finset.sum_congr rfl fun g _ => ?_
  rw [Fin.sum_univ_tiles 4 512 rfl]
  refine Finset.sum_congr rfl fun s _ => Finset.sum_congr rfl fun r _ => ?_
  congr 1
  · exact Fin.ext (by change (4 * (t.val / 4) + s.val) / 4 = t.val / 4; omega)
  · exact Fin.ext (by change (4 * (t.val / 4) + s.val) % 4 * 512 + r.val = s.val * 512 + r.val; omega)

omit h in
theorem dk_fold (t : Fin cfg1.N) (hr : t.val % 4 = 4 - 1) (y : S2048x128.Idx) : (outsAt1 V c t.val t.isLt).2.1 y
    = ∑ s : Fin 4, (fun (t : Fin cfg1.N) => dkBlock (iblk1 V c 0 t) (iblk1 V c 1 t) (iblk1 V c 2 t) (iblk1 V c 3 t) (iblk1 V c 4 t) (iblk1 V c 5 t))
        ⟨4 * (t.val / 4) + s.val, Pipeline.run_point_lt_of_flush t hr s⟩ y :=
  (Pipeline.eq_sum_fin_of_reset_step_apply_of_flush (fun n h => (outsAt1 V c n h).2.1) 4 (fun _ => 0)
    (fun t => dkBlock (iblk1 V c 0 t) (iblk1 V c 1 t) (iblk1 V c 2 t) (iblk1 V c 3 t) (iblk1 V c 4 t) (iblk1 V c 5 t))
    (fun t h j => by rw [dk_outs_A V c t h, add_prev, start_k]) (fun t h j => by rw [dk_outs_B V c t h, add_prev]) t hr y).trans (zero_add _)

omit h in
theorem dv_fold (t : Fin cfg1.N) (hr : t.val % 4 = 4 - 1) (y : S2048x128.Idx) : (outsAt1 V c t.val t.isLt).2.2.1 y
    = ∑ s : Fin 4, (fun (t : Fin cfg1.N) => dvBlock (iblk1 V c 0 t) (iblk1 V c 2 t) (iblk1 V c 3 t) (iblk1 V c 5 t))
        ⟨4 * (t.val / 4) + s.val, Pipeline.run_point_lt_of_flush t hr s⟩ y :=
  (Pipeline.eq_sum_fin_of_reset_step_apply_of_flush (fun n h => (outsAt1 V c n h).2.2.1) 4 (fun _ => 0)
    (fun t => dvBlock (iblk1 V c 0 t) (iblk1 V c 2 t) (iblk1 V c 3 t) (iblk1 V c 5 t))
    (fun t h j => by rw [dv_outs_A V c t h, add_prev, start_v]) (fun t h j => by rw [dv_outs_B V c t h, add_prev]) t hr y).trans (zero_add _)

theorem dk_flushed (t : Fin cfg1.N) (hr : t.val % 4 = 4 - 1) (j : Fin 2048) (e : Fin 128) : (outsAt1 V c t.val t.isLt).2.1 (ix2 j e)
    = ((∑ g, ∑ R, dkey (Q R (head (grp1 t) g)) (fun j e => K j (grp1 t) e) (fun j e => W j (grp1 t) e) (zo Z B (grp1 t) g R) j e : ℝ) : EReal) :=
  (dk_fold t hr _).trans ((Finset.sum_congr rfl fun s _ => dk_point h _ j e).trans
    (sum_rows t hr fun b g R => dkey (Q R (head b g)) (fun j e => K j b e) (fun j e => W j b e) (zo Z B b g R) j e))

theorem dv_flushed (t : Fin cfg1.N) (hr : t.val % 4 = 4 - 1) (j : Fin 2048) (e : Fin 128) : (outsAt1 V c t.val t.isLt).2.2.1 (ix2 j e)
    = ((∑ g, ∑ R, dval (Q R (head (grp1 t) g)) (fun j e => K j (grp1 t) e) (zo Z B (grp1 t) g R) j e : ℝ) : EReal) :=
  (dv_fold t hr _).trans ((Finset.sum_congr rfl fun s _ => dv_point h _ j e).trans
    (sum_rows t hr fun b g R => dval (Q R (head b g)) (fun j e => K j b e) (zo Z B b g R) j e))

theorem final_dk (G : Vec Ideal S2048x256 .f32)
    (hG : ∀ b j e, G (ix2 j (kcol b e))
      = ((∑ g, ∑ R, dkey (Q R (head b g)) (fun j e => K j b e) (fun j e => W j b e) (zo Z B b g R) j e : ℝ) : EReal)) :
    (dat1 V c).arrAt 7 cfg1.N = G := by
  refine (dat1 V c).arrAt_eq_of_covers 7 _ (by decide +kernel) fun t hf y => ?_
  blk_simp
  rw [after1_7]
  idx_vars y
  refine (dk_flushed h t ((flush1_7 t).mp hf) y0 y1).trans ((hG _ _ y1).symm.trans ?_)
  blk_ext [idx1 t, kcol, grp]

theorem final_dv (G : Vec Ideal S2048x256 .f32)
    (hG : ∀ b j e, G (ix2 j (kcol b e))
      = ((∑ g, ∑ R, dval (Q R (head b g)) (fun j e => K j b e) (zo Z B b g R) j e : ℝ) : EReal)) :
    (dat1 V c).arrAt 8 cfg1.N = G := by
  refine (dat1 V c).arrAt_eq_of_covers 8 _ (by decide +kernel) fun t hf y => ?_
  blk_simp
  rw [after1_8]
  idx_vars y
  refine (dv_flushed h t ((flush1_8 t).mp hf) y0 y1).trans ((hG _ _ y1).symm.trans ?_)
  blk_ext [idx1 t, kcol, grp]

/-- The gate's columns 5632 to 6655 are written, the others keep what they held. -/
theorem final_dproj (G : Vec Ideal S2048x12800 .bf16)
    (hG : ∀ b g R e, G (ix2 R (bcol (col b g e)))
      = ((Z R (col b g e) * out (Q R (head b g)) (fun j e => K j b e) (fun j e => W j b e) e * dsilu (B R (bcol (col b g e))) : ℝ) : EReal)) :
    (dat1 V c).arrAt 9 cfg1.N = fun i => if 5632 ≤ (i 1 : ℕ) ∧ (i 1 : ℕ) < 6656 then G i else V c main_v10_3 i := by
  refine (dat1 V c).arrAt_eq_of_coversWhere 9 _ (fun β => 11 ≤ β 1 ∧ β 1 < 13) (by decide +kernel) (fun t hf y => ?_)
    (fun j => by blk_simp [Pipeline.Window.cell_apply]; omega)
  blk_simp
  rw [after1_9, dbg_outs]
  idx_vars y
  obtain ⟨g, e, rfl⟩ := exists_hcol y1
  refine (dbg_point h t y0 g e).trans ((hG _ g _ e).symm.trans ?_)
  blk_ext [idx1 t, row, col, bcol, grp, hcol]

end Backward

end Cert.Attn
-- ==== Proof.FiniteArgs.lean ====
/-
  What the preconditions say: an array all of whose entries are below infinity in absolute value holds reals.
-/
module

public import proofs.«01_k».proof.Proof.Consts
public import proofs.«01_k».proof.Pre_finite_attn
public import Idealize.ShloMosaic.Lib.Pipeline.ValueKit

@[expose] public section

noncomputable section

namespace Cert.Maths

open Idealize.ShloMosaic Idealize.ShloMosaic.TcCoe Idealize.SL.Sem

instance facts_finite_attn : Cert.Pre_finite_attn.Facts := ⟨by decide, by decide, by decide, by decide⟩

theorem w_inf : Ideal.ofBits .f32 0x7F800000#32 = ⊤ := by simp [Ideal.ofBits, Ideal.ieee]

/-- An entry whose absolute value compares below infinity is a real. -/
theorem real_of_mask {x : Ideal .f32} (h : FloatOps.cmpf .olt (FloatOps.hostAbsf x) (FloatOps.ofBits (F := Ideal) .f32 0x7F800000#32) = 1#1) :
    (x : EReal) = ((EReal.toReal x : ℝ) : EReal) := by
  change Ideal.cmp .olt (max (x : EReal) (-(x : EReal))) (Ideal.ofBits .f32 0x7F800000#32) = 1#1 at h
  rw [w_inf] at h
  have hlt : max (x : EReal) (-x) < ⊤ := by
    by_contra hn
    simp [Ideal.cmp, hn] at h
  rw [max_lt_iff] at hlt
  refine (EReal.coe_toReal hlt.1.ne fun hb => ?_).symm
  rw [hb] at hlt
  simp at hlt

end Cert.Maths
-- ==== Proof.AttnRun.lean ====
/-
  What the attention's two kernels leave after the whole run.
-/
module

public import proofs.«01_k».proof.Proof.AttnRegion
public import proofs.«01_k».proof.Proof.FiniteArgs
public import Idealize.ShloMosaic.Lib.Claim

@[expose] public section

set_option maxRecDepth 16384

noncomputable section

namespace Cert.Attn

open Idealize.ShloMosaic Idealize.ShloMosaic.TcCoe Idealize.SL.Sem
open Idealize.ShloMosaic.Pipeline (Dat)
open Cert.KernelAttnIdeal Cert.KernelAttnIdeal.Gen Cert.Maths

variable (m : (ℓ : Loc nD τ sig) → Buf (Elt Ideal) ℓ) (ρ : Dev nD → PrngReg) (c : Dev nD)

theorem read_q (R b g e) : W1 m ρ c main_v1 (ix2 R (col b g e)) = m ((c : Thread nD τ).loc main_arg1) (ix4 0 R (head b g) e) := by
  unfold W1
  entry_read
  pointwise
  blk_ext [col, head]
theorem read_k (j b e) : W1 m ρ c main_v3 (ix2 j (kcol b e)) = m ((c : Thread nD τ).loc main_arg2) (ix4 0 j b e) := by
  unfold W1
  entry_read
  pointwise
  blk_ext [kcol]
theorem read_v (j b e) : W1 m ρ c main_v5 (ix2 j (kcol b e)) = m ((c : Thread nD τ).loc main_arg3) (ix4 0 j b e) := by
  unfold W1
  entry_read
  pointwise
  blk_ext [kcol]
theorem read_p (R i) : W1 m ρ c main_v6 (ix2 R i) = m ((c : Thread nD τ).loc main_arg4) (ix3 0 R i) := by
  unfold W1
  entry_read
  pointwise
  blk_ext

theorem read_z (R i) : W3 m ρ c main_v8 (ix2 R i) = m ((c : Thread nD τ).loc main_arg0) (ix3 0 R i) := by
  unfold W3
  entry_read
  rw [W2_args m ρ c main_arg0 (by decide)]
  pointwise
  blk_ext
theorem read_p' (R i) : W3 m ρ c main_v9 (ix2 R i) = m ((c : Thread nD τ).loc main_arg4) (ix3 0 R i) := by
  unfold W3
  entry_read
  rw [W2_args m ρ c main_arg4 (by decide)]
  pointwise
  blk_ext
theorem read_dproj : W3 m ρ c main_v10_3 = m ((c : Thread nD τ).loc main_arg5) := by
  unfold W3
  entry_read
  exact W2_args m ρ c main_arg5 (by decide)

/-- What the backward kernel reads of the forward kernel's operands. -/
theorem W3_kept (r : Ref sig .tc) (h : r ∉ hostOps1_W) (h' : ∀ w : Fin cfg0.W, Pipeline.arrRef spec0 w = r → (cfg0.win w).isOut = false) :
    W3 m ρ c (Proc.devRef .tc r) = W1 m ρ c (Proc.devRef .tc r) := (W3_of m ρ c r h).trans (W2_of m ρ c r h')

/-- The real arguments behind the arrays. -/
abbrev rq (R : Fin 2048) (h : Fin 8) (e : Fin 128) : ℝ := EReal.toReal (m ((c : Thread nD τ).loc main_arg1) (ix4 0 R h e))
abbrev rk (j : Fin 2048) (b : Fin 2) (e : Fin 128) : ℝ := EReal.toReal (m ((c : Thread nD τ).loc main_arg2) (ix4 0 j b e))
abbrev rv (j : Fin 2048) (b : Fin 2) (e : Fin 128) : ℝ := EReal.toReal (m ((c : Thread nD τ).loc main_arg3) (ix4 0 j b e))
abbrev rp (R : Fin 2048) (i : Fin 12800) : ℝ := EReal.toReal (m ((c : Thread nD τ).loc main_arg4) (ix3 0 R i))
abbrev rz (R : Fin 2048) (i : Fin 1024) : ℝ := EReal.toReal (m ((c : Thread nD τ).loc main_arg0) (ix3 0 R i))

/-- The arguments hold reals. -/
structure Finite : Prop where
  z : ∀ R i, m ((c : Thread nD τ).loc main_arg0) (ix3 0 R i) = (rz m c R i : EReal)
  q : ∀ R h e, m ((c : Thread nD τ).loc main_arg1) (ix4 0 R h e) = (rq m c R h e : EReal)
  k : ∀ j b e, m ((c : Thread nD τ).loc main_arg2) (ix4 0 j b e) = (rk m c j b e : EReal)
  v : ∀ j b e, m ((c : Thread nD τ).loc main_arg3) (ix4 0 j b e) = (rv m c j b e : EReal)
  p : ∀ R i, m ((c : Thread nD τ).loc main_arg4) (ix3 0 R i) = (rp m c R i : EReal)

variable {m c} (h : Finite m c)
include h

theorem entry0 : Entry0 (V1 m ρ) c (rq m c) (rk m c) (rv m c) (rp m c) where
  q R b g e := (read_q m ρ c R b g e).trans (h.q _ _ _)
  k j b e := (read_k m ρ c j b e).trans (h.k _ _ _)
  v j b e := (read_v m ρ c j b e).trans (h.v _ _ _)
  p R i := (read_p m ρ c R i).trans (h.p _ _)

open Cert.ReferenceAttnIdeal.Read in
theorem o_run : W2 m ρ c main_v7_0 = val_main_v70 (F := Ideal) (m ((c : Thread nD τ).loc main_arg1)) (m ((c : Thread nD τ).loc main_arg2)) (m ((c : Thread nD τ).loc main_arg3)) :=
  (W2_arr m ρ c 4).trans (final_o (entry0 ρ h) _ fun b g R e => ref_o' h.k h.q h.v b g R e)

open Cert.ReferenceAttnIdeal.Read in
theorem y_run : W2 m ρ c main_v7_1 = val_main_v72 (F := Ideal) (m ((c : Thread nD τ).loc main_arg1)) (m ((c : Thread nD τ).loc main_arg2)) (m ((c : Thread nD τ).loc main_arg3)) (m ((c : Thread nD τ).loc main_arg4)) :=
  (W2_arr m ρ c 5).trans (final_y (entry0 ρ h) _ fun b g R e => ref_y h.k h.q h.v h.p b g R e)

theorem entry1 : Entry1 (V3 m ρ) c (rq m c) (rk m c) (rv m c) (rz m c) (rp m c) where
  q R b g e := (congrFun (W3_kept m ρ c main_v1 (by decide) (by decide)) _).trans ((entry0 ρ h).q R b g e)
  k j b e := (congrFun (W3_kept m ρ c main_v3 (by decide) (by decide)) _).trans ((entry0 ρ h).k j b e)
  v j b e := (congrFun (W3_kept m ρ c main_v5 (by decide) (by decide)) _).trans ((entry0 ρ h).v j b e)
  p R i := (read_p' m ρ c R i).trans (h.p _ _)
  z R i := (read_z m ρ c R i).trans (h.z _ _)
  o R b g e := (congrFun ((W3_of m ρ c main_v7_0 (by decide)).trans (o_run ρ h)) _).trans (ref_o' h.k h.q h.v b g R e)

end Cert.Attn
-- ==== Proof.AttnLaunch.lean ====
/-
  The run of the attention's two kernels: every buffer ends with what the last boundary says.
-/
module

public import proofs.«01_k».proof.Proof.Gen.KernelAttnIdeal.Frame

@[expose] public section

set_option maxRecDepth 16384

noncomputable section

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelAttnIdeal Cert.KernelAttnIdeal.Gen

variable {F : FTy → Type} [FloatOps F]
local notation "𝕄" => MT nD τ sig Unit (Elt F) ℕ (UR sig nD τ) ℕ

-- the launch theorem's implicit arguments are found by unifying its conclusion, which unfolds plain definitions in a
-- metavariable's type
set_option backward.isDefEq.respectTransparency.types false in
theorem run_regions (m : (ℓ : Loc nD τ sig) → Buf (Elt F) ℓ) (ρ : Dev nD → PrngReg) :
    θ_run defs (onTc (τ := τ) (main (F := F))) ⟨m, fun _ => 0, ρ⟩ fun r => ∀ c : Dev nD, ∀ b ∈ Pipeline.ucRefs τ sig,
      r.2.mem (((c : Thread nD τ)).1, b) = W4 m ρ c b :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => h)

end Cert.Attn
-- ==== Proof.AttnClaim.lean ====
/-
  The attention's claim: what a run of the two kernels leaves is what the reference computes.
-/
module

public import proofs.«01_k».proof.Proof.AttnRun
public import proofs.«01_k».proof.Proof.AttnLaunch
public import proofs.«01_k».proof.Defs
public import Idealize.ShloMosaic.Lib.Claim

@[expose] public section

set_option maxRecDepth 16384

noncomputable section

namespace Cert.Attn

open Idealize.ShloMosaic Idealize.ShloMosaic.TcCoe Idealize.SL.Sem
open Idealize.ShloMosaic.Pipeline (Dat)
open Cert.KernelAttnIdeal Cert.KernelAttnIdeal.Gen Cert.Maths

open Cert.ReferenceAttnIdeal.Read

/-- The reference's `dproj`: the gate's columns hold its gradient, the others what they held. -/
theorem ref_dproj (x0 : FVec Ideal ReferenceAttnIdeal.S1x2048x1024 .f32) (x1 : FVec Ideal ReferenceAttnIdeal.S1x2048x8x128 .f32)
    (x2 x3 : FVec Ideal ReferenceAttnIdeal.S1x2048x2x128 .f32) (x4 : FVec Ideal ReferenceAttnIdeal.S1x2048x12800 .f32)
    (x5 : FVec Ideal ReferenceAttnIdeal.S2048x12800 .bf16) (r : Fin 2048) (i : Fin 12800) :
    val_main_v78 (F := Ideal) x0 x1 x2 x3 x4 x5 (ix2 r i)
      = if h : 5632 ≤ i.val ∧ i.val < 6656 then val_main_v69 (F := Ideal) x0 x1 x2 x3 x4 (ix2 r ⟨i.val - 5632, by omega⟩) else x5 (ix2 r i) := by
  unfold val_main_v78 val_main_v76 val_main_v77
  generalize val_main_v69 (F := Ideal) x0 x1 x2 x3 x4 = y
  pointwise
  split_ifs
  all_goals first
    | omega
    | rw [dif_pos ⟨by omega, by omega⟩]
    | rfl
    | (rw [dif_neg (by omega)]; blk_ext)

variable {m : (ℓ : Loc nD τ sig) → Buf (Elt Ideal) ℓ} (ρ : Dev nD → PrngReg) {c : Dev nD} (h : Finite m c)

section Results
include h

theorem res_o : W4 m ρ c main_v7_0 = val_main_v70 (F := Ideal) (m ((c : Thread nD τ).loc main_arg1)) (m ((c : Thread nD τ).loc main_arg2)) (m ((c : Thread nD τ).loc main_arg3)) :=
  (W4_of m ρ c main_v7_0 (by decide)).trans ((W3_of m ρ c main_v7_0 (by decide)).trans (o_run ρ h))

theorem res_y : W4 m ρ c main_v7_1 = val_main_v72 (F := Ideal) (m ((c : Thread nD τ).loc main_arg1)) (m ((c : Thread nD τ).loc main_arg2)) (m ((c : Thread nD τ).loc main_arg3)) (m ((c : Thread nD τ).loc main_arg4)) :=
  (W4_of_ne m ρ c main_v7_1 (by decide)).trans ((W3_of m ρ c main_v7_1 (by decide)).trans (y_run ρ h))

theorem res_dq : W4 m ρ c main_v10_0 = val_main_v73 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (W4_arr m ρ c 6).trans (final_dq (entry1 ρ h) _ fun b g R e => ref_dq h.k h.q h.v h.z h.p b g R e)

theorem res_dk : W4 m ρ c main_v10_1 = val_main_v74 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (W4_arr m ρ c 7).trans (final_dk (entry1 ρ h) _ fun b j e => ref_dk h.k h.q h.v h.z h.p b j e)

theorem res_dv : W4 m ρ c main_v10_2 = val_main_v75 (F := Ideal) (m ((c : Thread nD τ).loc main_arg0)) (m ((c : Thread nD τ).loc main_arg1)) (m ((c : Thread nD τ).loc main_arg2)) (m ((c : Thread nD τ).loc main_arg4)) :=
  (W4_arr m ρ c 8).trans (final_dv (entry1 ρ h) _ fun b j e => ref_dv h.k h.q h.z h.p b j e)

theorem res_dproj : W4 m ρ c main_v10_3 = val_main_v78 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W4_arr m ρ c 9).trans ((final_dproj (entry1 ρ h) (val_main_v78 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) fun b g R e => ?_).trans (funext fun i => ?_))
  · refine (ref_dproj _ _ _ _ _ _ _ _).trans ?_
    rw [dif_pos ⟨by simp only [bcol]; omega, by simp only [bcol]; omega⟩]
    refine Eq.trans ?_ (ref_dbg h.k h.q h.v h.z h.p b g R e)
    blk_ext [bcol]
  · by_cases hi : 5632 ≤ (i 1 : ℕ) ∧ (i 1 : ℕ) < 6656
    · rw [if_pos hi]
    · rw [if_neg hi, show V3 m ρ c main_v10_3 = _ from read_dproj m ρ c, eq_ix2 (n0 := 2048) (n1 := 12800) i]
      exact ((ref_dproj _ _ _ _ _ _ (i 0) (i 1)).trans (dif_neg hi)).symm

end Results

/-- Every weakly fair run of the two kernels ends with the reference's values in the six results. -/
theorem run_kernel (m : (ℓ : Loc nD τ sig) → Buf (Elt Ideal) ℓ) (hm : ∀ c, Finite m c) :
    θ_run defs (onTc (τ := τ) (main (F := Ideal))) ⟨m, fun _ => 0, ρ⟩ fun r => ∀ c : Dev nD,
      r.2.mem ((c.tc : Thread nD τ).loc main_v7_0) = val_main_v70 (F := Ideal) (m ((c.tc : Thread nD τ).loc main_arg1)) (m ((c.tc : Thread nD τ).loc main_arg2)) (m ((c.tc : Thread nD τ).loc main_arg3))
      ∧ r.2.mem ((c.tc : Thread nD τ).loc main_v7_1) = val_main_v72 (F := Ideal) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v10_0) = val_main_v73 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v10_1) = val_main_v74 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v10_2) = val_main_v75 (F := Ideal) (m ((c.tc : Thread nD τ).loc main_arg0)) (m ((c.tc : Thread nD τ).loc main_arg1)) (m ((c.tc : Thread nD τ).loc main_arg2)) (m ((c.tc : Thread nD τ).loc main_arg4))
      ∧ r.2.mem ((c.tc : Thread nD τ).loc main_v10_3) = val_main_v78 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c =>
      ⟨(h c _ (mem_uc main_v7_0 (by decide))).trans (res_o ρ (hm c)),
       (h c _ (mem_uc main_v7_1 (by decide))).trans (res_y ρ (hm c)),
       (h c _ (mem_uc main_v10_0 (by decide))).trans (res_dq ρ (hm c)),
       (h c _ (mem_uc main_v10_1 (by decide))).trans (res_dk ρ (hm c)),
       (h c _ (mem_uc main_v10_2 (by decide))).trans (res_dv ρ (hm c)),
       (h c _ (mem_uc main_v10_3 (by decide))).trans (res_dproj ρ (hm c)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩) (run_regions m ρ)

/-- Where the arguments pass the precondition's masks they hold reals. -/
theorem finite_of_pre (m : (ℓ : Loc nD τ sig) → Buf (Elt Ideal) ℓ) (hpre : Cert.Pre_KernelAttnIdeal_finite_attn m) (c : Dev nD) : Finite m c where
  z R i := real_of_mask (congrFun (hpre c).1 (ix3 0 R i))
  q R h e := real_of_mask (congrFun (hpre c).2.1 (ix4 0 R h e))
  k j b e := real_of_mask (congrFun (hpre c).2.2.1 (ix4 0 j b e))
  v j b e := real_of_mask (congrFun (hpre c).2.2.2.1 (ix4 0 j b e))
  p R i := real_of_mask (congrFun (hpre c).2.2.2.2 (ix3 0 R i))

end Cert.Attn

namespace Cert.Attn.Ref

open Idealize.ShloMosaic Idealize.ShloMosaic.TcCoe Idealize.SL.Sem
open Cert.ReferenceAttnIdeal Cert.ReferenceAttnIdeal.Read

/-- The reference's run, each result by the name of its value. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v70) = val_main_v70 (F := Ideal) (m ((c.tc : Thread nD τ).loc main_arg1)) (m ((c.tc : Thread nD τ).loc main_arg2)) (m ((c.tc : Thread nD τ).loc main_arg3))
      ∧ r.2.mem ((c.tc : Thread nD τ).loc main_v72) = val_main_v72 (F := Ideal) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v73) = val_main_v73 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v74) = val_main_v74 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v75) = val_main_v75 (F := Ideal) (m ((c.tc : Thread nD τ).loc main_arg0)) (m ((c.tc : Thread nD τ).loc main_arg1)) (m ((c.tc : Thread nD τ).loc main_arg2)) (m ((c.tc : Thread nD τ).loc main_arg4))
      ∧ r.2.mem ((c.tc : Thread nD τ).loc main_v78) = val_main_v78 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨(h c).1.trans (val_main_v70_eq _ _ _), (h c).2.1.trans (val_main_v72_eq _ _ _ _),
    (h c).2.2.1.trans (val_main_v73_eq m c), (h c).2.2.2.1.trans (val_main_v74_eq m c), (h c).2.2.2.2.1.trans (val_main_v75_eq _ _ _ _),
    (h c).2.2.2.2.2.1.trans (val_main_v78_eq m c), (h c).2.2.2.2.2.2⟩) (Cert.ReferenceAttnIdeal.Value.run (F := Ideal) m ρ)

theorem frame_ref : Cert.quiescent_ReferenceAttnIdeal := fun m ρ _ =>
  (θ_run defs _ _).mono (fun r h => ⟨fun c => (h c).2.2.2.2.2.2, sem_eq_zero_of_no_sems (by decide) r.2⟩)
    (Cert.ReferenceAttnIdeal.Value.run (F := Ideal) m ρ)

end Cert.Attn.Ref

namespace Cert.Attn

open Idealize.ShloMosaic Idealize.ShloMosaic.TcCoe Idealize.SL.Sem

theorem algebraic : Cert.algebraic_KernelAttnIdeal_ReferenceAttnIdeal_pre_finite_attn := by
  intro m g m' g' hpre hagree
  refine ⟨_, _, _, _, _, _, run_kernel g m (finite_of_pre m hpre), (θ_run _ _ _).mono (fun r h c => ?_) (Ref.run_ref m' g')⟩
  have := h c
  rw [(hagree c).1, (hagree c).2.1, (hagree c).2.2.1, (hagree c).2.2.2.1, (hagree c).2.2.2.2.1, (hagree c).2.2.2.2.2] at this ⊢
  exact this

end Cert.Attn
-- ==== Proof.NormReal.lean ====
/-
  The gradient of the root-mean-square norm over the reals: the form in which the kernels compute it and the form in
  which the derivative of the norm's own lines leaves it, with their readings in the extended reals.
-/
module

public import proofs.«01_k».proof.Proof.AttnReal

@[expose] public section

noncomputable section

namespace Cert.Norm

open Idealize.ShloMosaic Cert.Maths

/-- The norm's epsilon: the 32-bit word nearest to 10⁻⁶. -/
def eps : ℝ := 8796093 / 8796093022208

theorem w_eps : Ideal.ofBits .f32 0x358637BD#32 = (eps : EReal) := by
  unfold eps
  simp [Ideal.ofBits, Ideal.ieee, -EReal.coe_mul]; norm_num

theorem w_neg_half : Ideal.ofBits .f32 0xBF000000#32 = ((-(1 / 2) : ℝ) : EReal) := by
  simp [Ideal.ofBits, Ideal.ieee, -EReal.coe_mul]; norm_num

theorem w_128 : Ideal.ofBits .f32 0x43000000#32 = ((128 : ℝ) : EReal) := by
  simp [Ideal.ofBits, Ideal.ieee, -EReal.coe_mul]; norm_num

variable {n : ℕ} (N : ℝ) (x z : Fin n → ℝ)

/-- The mean square with epsilon, its inverse root, the normalised entries. -/
def ms : ℝ := (∑ i, x i * x i) * (1 / N) + eps
def inv : ℝ := (Real.sqrt (ms N x))⁻¹
def xn (i : Fin n) : ℝ := x i * inv N x
/-- The gradient of `x`, where `z` is the cotangent of the normalised entries. -/
def dx (i : Fin n) : ℝ := inv N x * (z i - xn N x i * ((∑ j, z j * xn N x j) * (1 / N)))

variable {N}

theorem ms_pos (hN : 0 < N) : 0 < ms N x := by
  have h : 0 ≤ ∑ i, x i * x i := Finset.sum_nonneg fun i _ => mul_self_nonneg _
  have : (0 : ℝ) < eps := by unfold eps; norm_num
  unfold ms; positivity

theorem inv_sq (hN : 0 < N) : inv N x * inv N x = 1 / ms N x := by
  unfold inv
  rw [← mul_inv, Real.mul_self_sqrt (ms_pos x hN).le, one_div]

/-- What the derivative of the norm's own lines adds up to. -/
theorem dx_eq (hN : 0 < N) (i : Fin n) :
    z i * inv N x + x i * ((∑ j, x j * z j) * (-(1 / 2) * (inv N x * (1 / ms N x))) * (1 / N))
        + (∑ j, x j * z j) * (-(1 / 2) * (inv N x * (1 / ms N x))) * (1 / N) * x i
      = dx N x z i := by
  have hs : ∑ j, z j * xn N x j = inv N x * ∑ j, x j * z j := by
    rw [Finset.mul_sum]; exact Finset.sum_congr rfl fun j _ => by unfold xn; ring
  unfold dx xn
  unfold xn at hs
  rw [hs, ← inv_sq x hN]
  ring

theorem rsqrt_ms (hN : 0 < N) : Ideal.rsqrt (ms N x : EReal) = (inv N x : EReal) := by
  have h := ms_pos x hN
  rw [Ideal.rsqrt_coe, if_neg (not_lt.mpr h.le), if_neg h.ne']
  rfl

theorem rsqrt_at (hN : 0 < N) :
    Ideal.rsqrt ((∑ i, (x i : EReal) * (x i : EReal)) * ((1 / N : ℝ) : EReal) + (eps : EReal)) = (inv N x : EReal) := by
  have h := ms_pos x hN
  simp only [← EReal.coe_mul, ← coe_sum, ← EReal.coe_add]
  change Ideal.rsqrt ((ms N x : ℝ) : EReal) = _
  rw [Ideal.rsqrt_coe, if_neg (not_lt.mpr h.le), if_neg h.ne']
  rfl

end Cert.Norm

end
-- ==== Proof.DhRef.lean ====
/-
  The reference's gradient of the layer's input, read over the reals where every entry but the residual's cotangent is a
  real.
-/
module

public import proofs.«01_k».proof.Proof.NormReal
public import proofs.«01_k».proof.Proof.Gen.ReferenceDhIdeal.Read
public import Idealize.ShloMosaic.Lib.Pipeline.ValueKit

@[expose] public section

set_option maxRecDepth 16384

noncomputable section

namespace Cert.Dh

open Idealize.ShloMosaic Idealize.ShloMosaic.TcCoe Idealize.SL.Sem
open Cert.ReferenceDhIdeal Cert.ReferenceDhIdeal.Read Cert.Maths

/-- A sum over the axes 0 and 2 where both have size one is the one entry. -/
theorem sum_row (x : S1x2048x1.Idx → EReal) (init : EReal) (r : Fin 2048) :
    Ideal.hostReduceAdd Gen.reducesTo_S1x2048x1_S2048_d0_2 x init (ix1 r) = init + x (ix3 0 r 0) := by
  unfold Ideal.hostReduceAdd
  congr 1
  have hd : ∀ r', Gen.reducesTo_S1x2048x1_S2048_d0_2.drop (ix3 (0 : Fin 1) (r' : Fin 2048) (0 : Fin 1)) = ix1 r' := by
    intro r'
    funext a
    match a with
    | ⟨0, _⟩ => rfl
  rw [Finset.sum_eq_single (ix3 0 r 0)]
  · intro i hi hne
    idx_vars i
    obtain rfl : i0 = 0 := Subsingleton.elim _ _
    obtain rfl : i2 = 0 := Subsingleton.elim _ _
    have h := (Finset.mem_filter.mp hi).2
    rw [hd] at h
    have h1 : i1 = r := congrFun h 0
    rw [h1] at hne
    exact absurd rfl hne
  · exact fun h => (h (Finset.mem_filter.mpr ⟨Finset.mem_univ _, hd r⟩)).elim

/-- A sum over the axes 0 and 1 where both have size one is the one entry. -/
theorem sum_gain (x : S1x1x1024.Idx → EReal) (init : EReal) (i : Fin 1024) :
    Ideal.hostReduceAdd Gen.reducesTo_S1x1x1024_S1024_d0_1 x init (ix1 i) = init + x (ix3 0 0 i) := by
  unfold Ideal.hostReduceAdd
  congr 1
  have hd : ∀ r', Gen.reducesTo_S1x1x1024_S1024_d0_1.drop (ix3 (0 : Fin 1) (0 : Fin 1) (r' : Fin 1024)) = ix1 r' := by
    intro r'
    funext a
    match a with
    | ⟨0, _⟩ => rfl
  rw [Finset.sum_eq_single (ix3 0 0 i)]
  · intro j hj hne
    idx_vars j
    obtain rfl : j0 = 0 := Subsingleton.elim _ _
    obtain rfl : j1 = 0 := Subsingleton.elim _ _
    have h := (Finset.mem_filter.mp hj).2
    rw [hd] at h
    have h1 : j2 = i := congrFun h 0
    rw [h1] at hne
    exact absurd rfl hne
  · exact fun h => (h (Finset.mem_filter.mpr ⟨Finset.mem_univ _, hd i⟩)).elim

/-- The cotangent of the norm's output: `dproj` through the transpose of the weights. -/
def cot (P : Fin 2048 → Fin 12800 → ℝ) (W : Fin 1024 → Fin 12800 → ℝ) (r : Fin 2048) (i : Fin 1024) : ℝ := ∑ k, P r k * W i k

variable {x0 : FVec Ideal S1x2048x1024 .f32} {x1 : FVec Ideal S1024 .f32} {x2 : FVec Ideal S1024x12800 .f32}
  {x3 : FVec Ideal S1x2048x1024 .f32} {x4 : FVec Ideal S1x2048x12800 .f32}
  {X : Fin 2048 → Fin 1024 → ℝ} {G : Fin 1024 → ℝ} {W : Fin 1024 → Fin 12800 → ℝ} {P : Fin 2048 → Fin 12800 → ℝ}
  (hx : ∀ r i, x0 (ix3 0 r i) = (X r i : EReal)) (hg : ∀ i, x1 (ix1 i) = (G i : EReal))
  (hw : ∀ i k, x2 (ix2 i k) = (W i k : EReal)) (hp : ∀ r k, x4 (ix3 0 r k) = (P r k : EReal))

include hx in
theorem ref_ms (r : Fin 2048) : val_main_v6 (F := Ideal) x0 (ix3 0 r 0) = (Norm.ms 1024 (X r) : EReal) := by
  pointwise [val_main_v6, val_main_v5, val_main_v4, val_main_v3, val_main_v2, val_main_v1, val_main_v0, val_main_cst, val_main_cst_0, val_main_cst_1]
  rw [w_1024, Norm.w_eps, Ideal.div_coe (by norm_num)]
  simp only [hx, zero_add, ← EReal.coe_mul, ← coe_sum, ← EReal.coe_add]
  rfl

include hx in
theorem ref_inv (r : Fin 2048) : val_main_v7 (F := Ideal) x0 (ix3 0 r 0) = (Norm.inv 1024 (X r) : EReal) := by
  have h := ref_ms hx r
  unfold val_main_v7
  generalize val_main_v6 (F := Ideal) x0 = y at h ⊢
  pointwise
  rw [h, Ideal.rsqrt_coe, if_neg (not_lt.mpr (Norm.ms_pos (X r) (by norm_num)).le), if_neg (Norm.ms_pos (X r) (by norm_num)).ne']
  rfl

include hx in
theorem ref_half (r : Fin 2048) : val_main_v10 (F := Ideal) x0 (ix3 0 r 0)
    = ((-(1 / 2) * (Norm.inv 1024 (X r) * (1 / Norm.ms 1024 (X r))) : ℝ) : EReal) := by
  have h := ref_ms hx r
  have h' := ref_inv hx r
  unfold val_main_v10 val_main_v9 val_main_v8 val_main_cst_2
  generalize val_main_v7 (F := Ideal) x0 = y at h' ⊢
  generalize val_main_v6 (F := Ideal) x0 = y at h ⊢
  pointwise
  rw [h, h', Norm.w_neg_half, Ideal.div_coe (Norm.ms_pos (X r) (by norm_num)).ne', ← EReal.coe_mul, ← EReal.coe_mul]

include hw hp in
theorem ref_cot (r : Fin 2048) (i : Fin 1024) : val_main_v17 (F := Ideal) x2 x4 (ix3 0 r i) = (cot P W r i : EReal) := by
  pointwise [val_main_v17]
  simp only [hw, hp, ← EReal.coe_mul, ← coe_sum]
  rfl

include hg hw hp in
theorem ref_z (r : Fin 2048) (i : Fin 1024) : val_main_v22 (F := Ideal) x1 x2 x4 (ix3 0 r i) = ((cot P W r i * G i : ℝ) : EReal) := by
  have h := ref_cot hw hp r i
  unfold val_main_v22
  generalize val_main_v17 (F := Ideal) x2 x4 = y at h ⊢
  pointwise [val_main_v21, val_main_v13]
  rw [h, hg, ← EReal.coe_mul]

include hx hg hw hp in
theorem ref_dot (r : Fin 2048) : val_main_v25 (F := Ideal) x0 x1 x2 x4 (ix2 0 r)
    = ((∑ i, X r i * (cot P W r i * G i) : ℝ) : EReal) := by
  have h := ref_z hg hw hp r
  unfold val_main_v25 val_main_v24 val_main_cst_5
  generalize val_main_v22 (F := Ideal) x1 x2 x4 = y at h ⊢
  pointwise
  simp only [h, hx, zero_add, ← EReal.coe_mul, ← coe_sum]

include hx hg hw hp in
theorem ref_mean (r : Fin 2048) (i : Fin 1024) : val_main_v35 (F := Ideal) x0 x1 x2 x4 (ix3 0 r i)
    = (((∑ i, X r i * (cot P W r i * G i)) * (-(1 / 2) * (Norm.inv 1024 (X r) * (1 / Norm.ms 1024 (X r)))) * (1 / 1024) : ℝ) : EReal) := by
  have h : val_main_v32 (F := Ideal) x0 x1 x2 x4 (ix3 0 r 0)
      = (((∑ i, X r i * (cot P W r i * G i)) * (-(1 / 2) * (Norm.inv 1024 (X r) * (1 / Norm.ms 1024 (X r)))) * (1 / 1024) : ℝ) : EReal) := by
    have h := ref_dot hx hg hw hp r
    have h' := ref_half hx r
    unfold val_main_v32 val_main_v31 val_main_v30 val_main_v26 val_main_cst_6
    generalize val_main_v25 (F := Ideal) x0 x1 x2 x4 = y at h ⊢
    generalize val_main_v10 (F := Ideal) x0 = y at h' ⊢
    pointwise
    rw [h, h', w_1024, Ideal.div_coe (by norm_num), ← EReal.coe_mul, ← EReal.coe_mul]
  have h2 : val_main_v33 (F := Ideal) x0 x1 x2 x4 (ix1 r)
      = (((∑ i, X r i * (cot P W r i * G i)) * (-(1 / 2) * (Norm.inv 1024 (X r) * (1 / Norm.ms 1024 (X r)))) * (1 / 1024) : ℝ) : EReal) := by
    unfold val_main_v33
    exact (sum_row _ _ r).trans (by rw [h]; unfold val_main_cst_7; pointwise)
  unfold val_main_v35 val_main_v34
  generalize val_main_v33 (F := Ideal) x0 x1 x2 x4 = y at h2 ⊢
  pointwise
  rw [← h2]

include hx hg hw hp in
theorem ref_dx (r : Fin 2048) (i : Fin 1024) : val_main_v40 (F := Ideal) x0 x1 x2 x3 x4 (ix2 r i)
    = x3 (ix3 0 r i) + (Norm.dx 1024 (X r) (fun i => cot P W r i * G i) i : EReal) := by
  have h := ref_mean hx hg hw hp r i
  have h' := ref_inv hx r
  have h'' := ref_z hg hw hp r i
  unfold val_main_v40 val_main_v39 val_main_v38 val_main_v37 val_main_v36 val_main_v29 val_main_v28 val_main_v27
  generalize val_main_v35 (F := Ideal) x0 x1 x2 x4 = y at h ⊢
  generalize val_main_v22 (F := Ideal) x1 x2 x4 = y at h'' ⊢
  generalize val_main_v7 (F := Ideal) x0 = y at h' ⊢
  pointwise
  rw [h, h', h'', hx, ← Norm.dx_eq (X r) (fun i => cot P W r i * G i) (by norm_num : (0 : ℝ) < 1024) i, add_assoc, add_assoc]
  simp only [← EReal.coe_mul, ← EReal.coe_add]
  rw [add_assoc]

include hx hw hp in
theorem ref_dg (i : Fin 1024) : val_main_v41 (F := Ideal) x0 x2 x4 (ix2 0 i)
    = ((∑ r, cot P W r i * Norm.xn 1024 (X r) i : ℝ) : EReal) := by
  have h : val_main_v20 (F := Ideal) x0 x2 x4 (ix3 0 0 i) = ((∑ r, cot P W r i * Norm.xn 1024 (X r) i : ℝ) : EReal) := by
    have h := fun r => ref_cot hw hp r i
    have h' := ref_inv hx
    unfold val_main_v20 val_main_v19 val_main_v18 val_main_v12 val_main_v11 val_main_cst_3
    generalize val_main_v17 (F := Ideal) x2 x4 = y at h ⊢
    generalize val_main_v7 (F := Ideal) x0 = y at h' ⊢
    pointwise
    simp only [h, h', hx, zero_add, ← EReal.coe_mul, ← coe_sum]
    exact congrArg _ (Finset.sum_congr rfl fun r _ => mul_comm _ _)
  have h2 : val_main_v23 (F := Ideal) x0 x2 x4 (ix1 i)
      = ((∑ r, cot P W r i * Norm.xn 1024 (X r) i : ℝ) : EReal) := by
    unfold val_main_v23
    exact (sum_gain _ _ i).trans (by rw [h]; unfold val_main_cst_4; pointwise)
  unfold val_main_v41
  generalize val_main_v23 (F := Ideal) x0 x2 x4 = y at h2 ⊢
  pointwise
  rw [← h2]

end Cert.Dh

end
-- ==== Proof.Dh.lean ====
/-
  The gradient of the layer's input. The kernel walks two blocks of 1024 rows, each in five steps over 2560 of the
  12800 columns: it accumulates `dproj` times the transposed weights in scratch and, at the fifth step, turns the sum
  into the gradient through the norm and adds the norm gain's gradient.
-/
module

public import proofs.«01_k».proof.Proof.DhRef
public import proofs.«01_k».proof.Proof.FiniteArgs
public import proofs.«01_k».proof.Proof.Gen.KernelDhIdeal.Value
public import proofs.«01_k».proof.Pre_finite_dh
public import proofs.«01_k».proof.Defs
public import Idealize.ShloMosaic.Lib.Pipeline.ValueKit
public import Idealize.ShloMosaic.Lib.Claim

@[expose] public section

set_option maxRecDepth 16384

noncomputable section

namespace Cert.Dh

open Idealize.ShloMosaic Idealize.ShloMosaic.TcCoe Idealize.SL.Sem
open Idealize.ShloMosaic.Pipeline (Dat)
open Cert.KernelDhIdeal Cert.KernelDhIdeal.Gen Cert.Maths

instance facts_finite_dh : Cert.Pre_finite_dh.Facts := ⟨by decide, by decide, by decide, by decide⟩

theorem start (j) : k0_pay1 (F := Ideal) j = 0 := by pointwise [k0_pay1]

theorem start_gain (j) : k0_pay3 (F := Ideal) j = 0 := by pointwise [k0_pay3]

/-- One step's product, over a block of columns. -/
def part (d : Vec Ideal S1024x2560 .bf16) (w : Vec Ideal S2560x1024 .bf16) (y : S1024x1024.Idx) : EReal :=
  ∑ k : Fin 2560, d (ix2 (y 0) k) * w (ix2 k (y 1))

theorem add_part (acc d w) (y) : k0_pay2 (F := Ideal) acc d w y = acc y + part d w y := by
  idx_vars y
  unfold part
  pointwise [k0_pay2]

section Blocks

variable {x : Vec Ideal S1024x1024 .f32} {X : Fin 1024 → Fin 1024 → ℝ} (hx : ∀ r i, x (ix2 r i) = (X r i : EReal))

include hx in
theorem inv_at (r : Fin 1024) : k0_pay5 (F := Ideal) x (ix2 r 0) = (Norm.inv 1024 (X r) : EReal) := by
  rw [← Norm.rsqrt_at (N := 1024) (X r) (by norm_num)]
  pointwise [k0_pay5, k0_pay4]
  rw [w_1024, Norm.w_eps, Ideal.div_coe (by norm_num)]
  simp only [hx, zero_add]

include hx in
theorem xn_at (r i : Fin 1024) : k0_pay6 (F := Ideal) x (ix2 r i) = (Norm.xn 1024 (X r) i : EReal) := by
  have h := inv_at hx r
  unfold k0_pay6
  generalize k0_pay5 (F := Ideal) x = y at h ⊢
  pointwise [k0_pay4]
  rw [h, hx, ← EReal.coe_mul]
  rfl

variable {a : Vec Ideal S1024x1024 .f32} {A : Fin 1024 → Fin 1024 → ℝ} (ha : ∀ r i, a (ix2 r i) = (A r i : EReal))

include hx ha in
theorem gain_at (prev : Vec Ideal S1x1024 .f32) (i : Fin 1024) :
    k0_pay7 (F := Ideal) x a prev (ix2 0 i) = prev (ix2 0 i) + ((∑ r, A r i * Norm.xn 1024 (X r) i : ℝ) : EReal) := by
  have h := xn_at hx
  unfold k0_pay7
  generalize k0_pay6 (F := Ideal) x = y at h ⊢
  pointwise
  simp only [h, ha, zero_add, ← EReal.coe_mul, ← coe_sum]

variable {g : Vec Ideal S1x1024 .f32} {G : Fin 1024 → ℝ} (hg : ∀ i, g (ix2 0 i) = (G i : EReal))

include hx ha hg in
theorem dx_at (d : Vec Ideal S1024x1024 .f32) (r i : Fin 1024) :
    k0_pay8 (F := Ideal) x a g d (ix2 r i) = d (ix2 r i) + (Norm.dx 1024 (X r) (fun i => A r i * G i) i : EReal) := by
  have h := xn_at hx r
  have h' := inv_at hx r
  unfold k0_pay8
  generalize k0_pay6 (F := Ideal) x = y at h ⊢
  generalize k0_pay5 (F := Ideal) x = y at h' ⊢
  pointwise
  simp only [h, h', ha, hg, w_1024, Ideal.div_coe (show (1024 : ℝ) ≠ 0 by norm_num), zero_add, ← EReal.coe_mul, ← coe_sum, ← EReal.coe_sub]
  rfl

end Blocks

variable (m : (ℓ : Loc nD τ sig) → Buf (Elt Ideal) ℓ) (c : Dev nD)

theorem read_dproj (R k) : V m c main_v3 (ix2 R k) = m ((c : Thread nD τ).loc main_arg4) (ix3 0 R k) := by
  entry_read
  pointwise
  blk_ext

theorem read_w (k i) : V m c main_v1 (ix2 k i) = m ((c : Thread nD τ).loc main_arg2) (ix2 i k) := by
  entry_read
  pointwise

theorem read_x (R i) : V m c main_v4 (ix2 R i) = m ((c : Thread nD τ).loc main_arg0) (ix3 0 R i) := by
  entry_read
  pointwise
  blk_ext

theorem read_dout (R i) : V m c main_v5 (ix2 R i) = m ((c : Thread nD τ).loc main_arg3) (ix3 0 R i) := by
  entry_read
  pointwise
  blk_ext

theorem read_gain (i) : V m c main_v6 (ix2 0 i) = m ((c : Thread nD τ).loc main_arg1) (ix1 i) := by
  entry_read
  pointwise

theorem idx : ∀ t : Fin cfg0.N, win0_0.index t = ![t.val / 5, t.val % 5] ∧ win0_1.index t = ![t.val % 5, 0]
    ∧ win0_2.index t = ![t.val / 5, 0] ∧ win0_3.index t = ![t.val / 5, 0] ∧ win0_4.index t = ![0, 0]
    ∧ win0_5.index t = ![t.val / 5, 0] ∧ win0_6.index t = ![0, 0] ∧ t.val < 10 :=
  (by decide +kernel : ∀ t : Fin grid0.N, _)

/-- The row of the arrays at row `r` of point `t`'s blocks. -/
def row (t : Fin cfg0.N) (r : Fin 1024) : Fin 2048 := ⟨t.val / 5 * 1024 + r.val, by have := (idx t).2.2.2.2.2.2.2; omega⟩

/-- The real arguments behind the arrays. -/
abbrev rx (R : Fin 2048) (i : Fin 1024) : ℝ := EReal.toReal (m ((c : Thread nD τ).loc main_arg0) (ix3 0 R i))
abbrev rg (i : Fin 1024) : ℝ := EReal.toReal (m ((c : Thread nD τ).loc main_arg1) (ix1 i))
abbrev rw' (i : Fin 1024) (k : Fin 12800) : ℝ := EReal.toReal (m ((c : Thread nD τ).loc main_arg2) (ix2 i k))
abbrev rp (R : Fin 2048) (k : Fin 12800) : ℝ := EReal.toReal (m ((c : Thread nD τ).loc main_arg4) (ix3 0 R k))

/-- Every entry of the arguments but the residual's cotangent is a real. -/
structure Finite : Prop where
  x : ∀ R i, m ((c : Thread nD τ).loc main_arg0) (ix3 0 R i) = (rx m c R i : EReal)
  g : ∀ i, m ((c : Thread nD τ).loc main_arg1) (ix1 i) = (rg m c i : EReal)
  w : ∀ i k, m ((c : Thread nD τ).loc main_arg2) (ix2 i k) = (rw' m c i k : EReal)
  p : ∀ R k, m ((c : Thread nD τ).loc main_arg4) (ix3 0 R k) = (rp m c R k : EReal)

theorem scratch_reset (t : Fin cfg0.N) (h : t.val % 5 = 0) (y) :
    (outsAt0 m c t.val t.isLt).2.2 y = 0 + part (iblk m c 0 t) (iblk m c 1 t) y := by
  by_cases h' : t.val % 10 = 0
  · rw [outsAt0_A m c t h h' (by omega)]; frame_out; rw [add_part, start]
  · rw [outsAt0_D m c t h h' (by omega)]; frame_out; rw [add_part, start]

theorem scratch_step (t : Fin cfg0.N) (h : ¬t.val % 5 = 0) (y) :
    (outsAt0 m c t.val t.isLt).2.2 y = (outsAt0 m c (t.val - 1) (Nat.lt_of_le_of_lt (Nat.sub_le _ _) t.isLt)).2.2 y + part (iblk m c 0 t) (iblk m c 1 t) y := by
  by_cases h' : t.val % 5 = 4
  · rw [outsAt0_C m c t h (by omega) h']; frame_out; rw [add_part]; exact congrArg (· + _) (congrFun (Memref.IsWhole.read_unread _ _) _)
  · rw [outsAt0_B m c t h (by omega) h']; frame_out; rw [add_part]; exact congrArg (· + _) (congrFun (Memref.IsWhole.read_unread _ _) _)

theorem out_C (t : Fin cfg0.N) (h : t.val % 5 = 4) (y) :
    (outsAt0 m c t.val t.isLt).1 y = k0_pay8 (F := Ideal) (iblk m c 2 t) (outsAt0 m c t.val t.isLt).2.2 (iblk m c 4 t) (iblk m c 3 t) y := by
  rw [outsAt0_C m c t (by omega) (by omega) h]; frame_out

theorem gain_C (t : Fin cfg0.N) (h : t.val % 5 = 4) (y) :
    (outsAt0 m c t.val t.isLt).2.1 y = k0_pay7 (F := Ideal) (iblk m c 2 t) (outsAt0 m c t.val t.isLt).2.2
      (outsAt0 m c (t.val - 1) (Nat.lt_of_le_of_lt (Nat.sub_le _ _) t.isLt)).2.1 y := by
  rw [outsAt0_C m c t (by omega) (by omega) h]; frame_out

theorem gain_reset (t : Fin cfg0.N) (h : t.val % 10 = 0) (y) : (outsAt0 m c t.val t.isLt).2.1 y = 0 := by
  rw [outsAt0_A m c t (by omega) h (by omega)]; frame_out; rw [start_gain]

theorem gain_idle (t : Fin cfg0.N) (h : ¬t.val % 10 = 0) (h' : ¬t.val % 5 = 4) (y) :
    (outsAt0 m c t.val t.isLt).2.1 y = (outsAt0 m c (t.val - 1) (Nat.lt_of_le_of_lt (Nat.sub_le _ _) t.isLt)).2.1 y := by
  by_cases h0 : t.val % 5 = 0
  · rw [outsAt0_D m c t h0 h h']; unfold out0_D_6; rfl
  · rw [outsAt0_B m c t h0 h h']; unfold out0_B_6; rfl

variable {m c} (h : Finite m c)

omit h in
theorem scratch_fold (t : Fin cfg0.N) (hr : t.val % 5 = 5 - 1) (y : S1024x1024.Idx) : (outsAt0 m c t.val t.isLt).2.2 y
    = ∑ s : Fin 5, (fun t : Fin cfg0.N => part (iblk m c 0 t) (iblk m c 1 t)) ⟨5 * (t.val / 5) + s.val, Pipeline.run_point_lt_of_flush t hr s⟩ y :=
  (Pipeline.eq_sum_fin_of_reset_step_apply_of_flush (fun n h => (outsAt0 m c n h).2.2) 5 (fun _ => 0)
    (fun t => part (iblk m c 0 t) (iblk m c 1 t)) (fun t h y => scratch_reset m c t h y) (fun t h y => scratch_step m c t h y) t hr y).trans (zero_add _)

/-- The column of the arrays at column `k` of point `t`'s blocks. -/
def kcol (t : Fin cfg0.N) (k : Fin 2560) : Fin 12800 := ⟨t.val % 5 * 2560 + k.val, by omega⟩

include h in
theorem part_at (t : Fin cfg0.N) (r i : Fin 1024) : part (iblk m c 0 t) (iblk m c 1 t) (ix2 r i)
    = ∑ k : Fin 2560, ((rp m c (row t r) (kcol t k) * rw' m c i (kcol t k) : ℝ) : EReal) := by
  refine Finset.sum_congr rfl fun k _ => ?_
  rw [EReal.coe_mul]
  refine congrArg₂ (· * ·) (Eq.trans ?_ ((read_dproj m c _ _).trans (h.p _ _))) (Eq.trans ?_ ((read_w m c _ _).trans (h.w _ _)))
  · blk_ext [iblk, row, kcol, idx t]
  · blk_ext [iblk, row, kcol, idx t]

include h in
/-- At a block's last step the scratch holds the cotangent of the norm's output. -/
theorem scratch_last (t : Fin cfg0.N) (hr : t.val % 5 = 5 - 1) (r i : Fin 1024) :
    (outsAt0 m c t.val t.isLt).2.2 (ix2 r i) = (cot (rp m c) (rw' m c) (row t r) i : EReal) := by
  refine (scratch_fold t hr _).trans ((Finset.sum_congr rfl fun s _ => part_at h _ r i).trans ?_)
  unfold cot
  rw [coe_sum]
  refine Fin.sum_mul_add_congr fun s k hl => ?_
  have e1 : row ⟨5 * (t.val / 5) + s.val, Pipeline.run_point_lt_of_flush t hr s⟩ r = row t r := by
    unfold row; apply Fin.ext; simp only; omega
  have e2 : kcol ⟨5 * (t.val / 5) + s.val, Pipeline.run_point_lt_of_flush t hr s⟩ k = ⟨s.val * 2560 + k.val, hl⟩ := by
    unfold kcol; apply Fin.ext; simp only; omega
  rw [e1, e2]

include h in
theorem block_x (t : Fin cfg0.N) (r i : Fin 1024) : iblk m c 2 t (ix2 r i) = (rx m c (row t r) i : EReal) := by
  rw [← h.x, ← read_x m c]
  blk_ext [iblk, row, idx t]

include h in
theorem block_gain (t : Fin cfg0.N) (i : Fin 1024) : iblk m c 4 t (ix2 0 i) = (rg m c i : EReal) := by
  rw [← h.g, ← read_gain m c]
  blk_ext [iblk, idx t]

include h in
theorem final_dx : (dats m 0 c).arrAt 5 cfg0.N = Cert.ReferenceDhIdeal.Read.val_main_v40 (F := Ideal) (m ((c : Thread nD τ).loc main_arg0))
    (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  have hm : t.val % 5 = 4 := (flush0_5 t).mp hf
  blk_simp
  rw [after0_5]
  idx_vars y
  rw [show ((cfg0.win 5).blk t).view.emb (ix2 y0 y1) = ix2 (row t y0) y1 by blk_ext [row, idx t], out_C m c t hm]
  refine ((dx_at (block_x h t) (scratch_last h t hm) (block_gain h t) _ _ _).trans ?_).trans (ref_dx h.x h.g h.w h.p _ _).symm
  refine congrArg (· + _) (Eq.trans ?_ (read_dout m c _ _))
  blk_ext [iblk, row, idx t]

/-- What point `t` adds to the norm gain's gradient. -/
def gainTerm (m : (ℓ : Loc nD τ sig) → Buf (Elt Ideal) ℓ) (c : Dev nD) (t : Fin cfg0.N) (y : S1x1024.Idx) : EReal :=
  if t.val % 5 = 4 then ((∑ r, cot (rp m c) (rw' m c) (row t r) (y 1) * Norm.xn 1024 (rx m c (row t r)) (y 1) : ℝ) : EReal) else 0

/-- A sum over the ten points in which the points 4 and 9 alone count. -/
theorem sum_ends (f : Fin 10 → EReal) (h0 : ∀ p, ¬p.val % 5 = 4 → f p = 0) : ∑ p, f p = f 4 + f 9 :=
  Finset.sum_eq_add 4 9 (by decide) (fun p _ hp => h0 p (by omega)) (by simp) (by simp)

/-- The two blocks' terms are the sum over all the rows. -/
theorem gain_sum (m : (ℓ : Loc nD τ sig) → Buf (Elt Ideal) ℓ) (c : Dev nD) (i : Fin 1024) : ∑ t, gainTerm m c t (ix2 0 i)
    = ((∑ R, cot (rp m c) (rw' m c) R i * Norm.xn 1024 (rx m c R) i : ℝ) : EReal) := by
  rw [← Fin.sum_congr' (fun t => gainTerm m c t (ix2 0 i)) N_0.symm]
  refine (sum_ends _ fun p hp => if_neg hp).trans ?_
  refine (congrArg₂ (· + ·) (if_pos (by decide)) (if_pos (by decide))).trans ?_
  rw [← EReal.coe_add, ← Fin.sum_mul_add_congr (S := 2) (n := 1024) (F := fun b r => cot (rp m c) (rw' m c) ⟨b.val * 1024 + r.val, by omega⟩ i
    * Norm.xn 1024 (rx m c ⟨b.val * 1024 + r.val, by omega⟩) i) (fun _ _ _ => rfl) rfl, Fin.sum_univ_two]
  rfl

include h in
theorem gain_point (t : Fin cfg0.N) (h' : ¬t.val % 10 = 0) (y : S1x1024.Idx) :
    (outsAt0 m c t.val t.isLt).2.1 y = (outsAt0 m c (t.val - 1) (Nat.lt_of_le_of_lt (Nat.sub_le _ _) t.isLt)).2.1 y + gainTerm m c t y := by
  unfold gainTerm
  by_cases h4 : t.val % 5 = 4
  · rw [if_pos h4, gain_C m c t h4]
    idx_vars y
    obtain rfl : y0 = 0 := Subsingleton.elim _ _
    exact gain_at (block_x h t) (scratch_last h t h4) _ _
  · rw [if_neg h4, gain_idle m c t h' h4, add_zero]

include h in
theorem final_dg : (dats m 0 c).arrAt 6 cfg0.N = Cert.ReferenceDhIdeal.Read.val_main_v41 (F := Ideal) (m ((c : Thread nD τ).loc main_arg0))
    (m ((c : Thread nD τ).loc main_arg2)) (m ((c : Thread nD τ).loc main_arg4)) := by
  refine (dats m 0 c).arrAt_eq_of_after_last 6 t0_9 (by decide +kernel) _ fun j => ?_
  blk_simp
  rw [after0_6]
  refine (Pipeline.eq_sum_fin_of_reset_step_apply_last (fun n h => (outsAt0 m c n h).2.1) 10 (fun _ => 0) (gainTerm m c)
    (fun t ht j => by rw [gain_reset m c t ht, gainTerm, if_neg (by omega), add_zero])
    (fun t ht j => gain_point h t ht j) (le_of_eq N_0) t0_9 rfl j).trans ?_
  rw [zero_add]
  idx_vars j
  obtain rfl : j0 = 0 := Subsingleton.elim _ _
  refine Eq.trans ?_ (ref_dg h.x h.w h.p _).symm
  exact gain_sum m c j1

theorem finite_of_pre (m : (ℓ : Loc nD τ sig) → Buf (Elt Ideal) ℓ) (hpre : Cert.Pre_KernelDhIdeal_finite_dh m) (c : Dev nD) : Finite m c where
  x R i := real_of_mask (congrFun (hpre c).1 (ix3 0 R i))
  g i := real_of_mask (congrFun (hpre c).2.1 (ix1 i))
  w i k := real_of_mask (congrFun (hpre c).2.2.1 (ix2 i k))
  p R k := real_of_mask (congrFun (hpre c).2.2.2 (ix3 0 R k))

end Cert.Dh

namespace Cert.Dh.Ref

open Idealize.ShloMosaic Idealize.ShloMosaic.TcCoe Idealize.SL.Sem
open Cert.ReferenceDhIdeal Cert.ReferenceDhIdeal.Read

theorem frame_ref : Cert.quiescent_ReferenceDhIdeal := fun m ρ _ =>
  (θ_run defs _ _).mono (fun r h => ⟨fun c => (h c).2.2, sem_eq_zero_of_no_sems (by decide) r.2⟩)
    (Cert.ReferenceDhIdeal.Value.run (F := Ideal) m ρ)

end Cert.Dh.Ref

namespace Cert.Dh

open Idealize.ShloMosaic Idealize.ShloMosaic.TcCoe Idealize.SL.Sem

theorem algebraic : Cert.algebraic_KernelDhIdeal_ReferenceDhIdeal_pre_finite_dh := by
  intro m g m' g' hpre hagree
  refine ⟨_, _, (θ_run _ _ _).mono (fun r h c => ⟨(h c).1.trans (final_dx (finite_of_pre m hpre c)),
    (h c).2.1.trans (final_dg (finite_of_pre m hpre c)), (h c).2.2⟩) (Cert.KernelDhIdeal.Value.run_blocks (F := Ideal) m g),
    (θ_run _ _ _).mono (fun r h c => ?_) (Cert.ReferenceDhIdeal.Value.run (F := Ideal) m' g')⟩
  have e := Cert.ReferenceDhIdeal.Read.val_main_v40_eq m' c
  have e' := h c
  rw [(hagree c).1, (hagree c).2.1, (hagree c).2.2.1, (hagree c).2.2.2.1, (hagree c).2.2.2.2] at e e' ⊢
  exact ⟨e'.1.trans e, e'.2.1.trans (Cert.ReferenceDhIdeal.Read.val_main_v41_eq _ _ _), e'.2.2⟩

end Cert.Dh

end
-- ==== Proof.LayerReal.lean ====
/-
  The layer norm and its gradient over the reals, in the form in which the kernel computes it and the form in which the
  derivative of the norm's own lines leaves it; the logistic function and the derivative of `x` times it.
-/
module

public import proofs.«01_k».proof.Proof.AttnReal

@[expose] public section

noncomputable section

namespace Cert.Layer

open Idealize.ShloMosaic Cert.Maths

/-- The norm's epsilon: the 32-bit word nearest to 10⁻⁵. -/
def eps : ℝ := 2748779 / 274877906944

theorem w_eps : Ideal.ofBits .f32 0x3727C5AC#32 = (eps : EReal) := by
  unfold eps
  simp [Ideal.ofBits, Ideal.ieee, -EReal.coe_mul]; norm_num

theorem w_neg_half : Ideal.ofBits .f32 0xBF000000#32 = ((-(1 / 2) : ℝ) : EReal) := by
  simp [Ideal.ofBits, Ideal.ieee, -EReal.coe_mul]; norm_num

/-! ## The logistic function -/

/-- The logistic function. -/
def sg (x : ℝ) : ℝ := (1 + Real.exp (-x))⁻¹
/-- The derivative of `x * sg x`. -/
def dsilu (x : ℝ) : ℝ := sg x * (1 + x * (1 - sg x))

theorem sg_of_neg (x : ℝ) : Ideal.div 1 (1 + Ideal.exp (-(x : EReal))) = (sg x : EReal) := by
  have h : (1 + Real.exp (-x)) ≠ 0 := by positivity
  rw [← EReal.coe_neg, Ideal.exp_coe, ← EReal.coe_one, ← EReal.coe_add, Ideal.div_coe h, ← EReal.coe_mul, one_mul, one_div]
  rfl

theorem sg_of_sub (x : ℝ) : Ideal.div 1 (1 + Ideal.exp (0 - (x : EReal))) = (sg x : EReal) := by
  rw [zero_sub, sg_of_neg]

theorem coe_one_sub (x : ℝ) : (1 : EReal) - (x : EReal) = ((1 - x : ℝ) : EReal) := by norm_cast
theorem coe_one_add (x : ℝ) : (1 : EReal) + (x : EReal) = ((1 + x : ℝ) : EReal) := by norm_cast

/-! ## The norm -/

variable {n : ℕ} (N : ℝ) (x z : Fin n → ℝ)

/-- The entries less their mean, the mean square of these with epsilon, its inverse root, the normalised entries. -/
def cen (i : Fin n) : ℝ := x i - (∑ j, x j) * (1 / N)
def ms : ℝ := (∑ i, cen N x i * cen N x i) * (1 / N) + eps
def inv : ℝ := (Real.sqrt (ms N x))⁻¹
def xn (i : Fin n) : ℝ := cen N x i * inv N x
/-- The gradient of `x`, where `z` is the cotangent of the normalised entries. -/
def dx (i : Fin n) : ℝ := inv N x * (z i - (∑ j, z j) * (1 / N) - xn N x i * ((∑ j, z j * xn N x j) * (1 / N)))

variable {N}

theorem ms_pos (hN : 0 < N) : 0 < ms N x := by
  have h : 0 ≤ ∑ i, cen N x i * cen N x i := Finset.sum_nonneg fun i _ => mul_self_nonneg _
  have : (0 : ℝ) < eps := by unfold eps; norm_num
  unfold ms; positivity

theorem inv_sq (hN : 0 < N) : inv N x * inv N x = 1 / ms N x := by
  unfold inv
  rw [← mul_inv, Real.mul_self_sqrt (ms_pos x hN).le, one_div]

theorem sum_cen (hN : N = n) (h0 : N ≠ 0) : ∑ i, cen N x i = 0 := by
  simp only [cen, Finset.sum_sub_distrib, Finset.sum_const, Finset.card_univ, Fintype.card_fin, nsmul_eq_mul, ← hN]
  field_simp
  ring

/-- The factor of the centred entries in the derivative of the norm's own lines. -/
def pull (N : ℝ) (x z : Fin n → ℝ) : ℝ := (∑ j, cen N x j * z j) * (-(1 / 2) * (inv N x * (1 / ms N x))) * (1 / N)
/-- The gradient of the centred entries. -/
def dcen (N : ℝ) (x z : Fin n → ℝ) (i : Fin n) : ℝ := z i * inv N x + cen N x i * pull N x z + pull N x z * cen N x i

/-- What the derivative of the norm's own lines adds up to. -/
theorem dx_eq (hN : N = n) (h0 : 0 < N) (i : Fin n) :
    dcen N x z i + (∑ j, -dcen N x z j) * (1 / N) = dx N x z i := by
  have hs : ∑ j, z j * xn N x j = inv N x * ∑ j, cen N x j * z j := by
    rw [Finset.mul_sum]; exact Finset.sum_congr rfl fun j _ => by unfold xn; ring
  have ht : ∑ j, -dcen N x z j = -(inv N x * ∑ j, z j) := by
    have e : ∀ j, -dcen N x z j = -(inv N x * z j) + -(2 * pull N x z) * cen N x j := fun j => by unfold dcen; ring
    simp only [e, Finset.sum_add_distrib, ← Finset.mul_sum, Finset.sum_neg_distrib, sum_cen x hN h0.ne']
    ring
  rw [ht]
  unfold dx dcen pull
  rw [hs]
  unfold xn
  rw [← inv_sq x h0]
  ring

theorem rsqrt_at (hN : 0 < N) : Ideal.rsqrt (ms N x : EReal) = (inv N x : EReal) := by
  have h := ms_pos x hN
  rw [Ideal.rsqrt_coe, if_neg (not_lt.mpr h.le), if_neg h.ne']
  rfl

end Cert.Layer

end
-- ==== Proof.BrC2Ref.lean ====
/-
  The reference's gradients of the second gate, read over the reals where the forward pass's arrays and the cotangent
  hold reals.
-/
module

public import proofs.«01_k».proof.Proof.LayerReal
public import proofs.«01_k».proof.Proof.Gen.ReferenceBrC2Ideal.Read
public import Idealize.ShloMosaic.Lib.Pipeline.ValueKit

@[expose] public section

set_option maxRecDepth 16384

noncomputable section

namespace Cert.BrC2

open Idealize.ShloMosaic Idealize.ShloMosaic.TcCoe Idealize.SL.Sem
open Cert.ReferenceBrC2Ideal Cert.ReferenceBrC2Ideal.Read Cert.Maths

/-- A sum over the axes 0 and 2 where both have size one is the one entry. -/
theorem sum_row (x : S1x2048x1.Idx → EReal) (init : EReal) (r : Fin 2048) :
    Ideal.hostReduceAdd Gen.reducesTo_S1x2048x1_S2048_d0_2 x init (ix1 r) = init + x (ix3 0 r 0) := by
  unfold Ideal.hostReduceAdd
  congr 1
  have hd : ∀ r', Gen.reducesTo_S1x2048x1_S2048_d0_2.drop (ix3 (0 : Fin 1) (r' : Fin 2048) (0 : Fin 1)) = ix1 r' := fun r' =>
    funext fun a => match a with
    | ⟨0, _⟩ => rfl
  refine (Finset.sum_eq_single (ix3 0 r 0) (fun i hi hne => ?_) fun h => (h (Finset.mem_filter.mpr ⟨Finset.mem_univ _, hd r⟩)).elim)
  idx_vars i
  obtain rfl : i0 = 0 := Subsingleton.elim _ _
  obtain rfl : i2 = 0 := Subsingleton.elim _ _
  have h := (Finset.mem_filter.mp hi).2
  rw [hd] at h
  exact (hne (by rw [show i1 = r from congrFun h 0])).elim

/-- A sum over the axes 0 and 1 where both have size one is the one entry. -/
theorem sum_col (x : S1x1x1024.Idx → EReal) (init : EReal) (i : Fin 1024) :
    Ideal.hostReduceAdd Gen.reducesTo_S1x1x1024_S1024_d0_1 x init (ix1 i) = init + x (ix3 0 0 i) := by
  unfold Ideal.hostReduceAdd
  congr 1
  have hd : ∀ r', Gen.reducesTo_S1x1x1024_S1024_d0_1.drop (ix3 (0 : Fin 1) (0 : Fin 1) (r' : Fin 1024)) = ix1 r' := fun r' =>
    funext fun a => match a with
    | ⟨0, _⟩ => rfl
  refine (Finset.sum_eq_single (ix3 0 0 i) (fun j hi hne => ?_) fun h => (h (Finset.mem_filter.mpr ⟨Finset.mem_univ _, hd i⟩)).elim)
  idx_vars j
  obtain rfl : j0 = 0 := Subsingleton.elim _ _
  obtain rfl : j1 = 0 := Subsingleton.elim _ _
  have h := (Finset.mem_filter.mp hi).2
  rw [hd] at h
  exact (hne (by rw [show j2 = i from congrFun h 0])).elim

/-! ## The gradients over the reals -/

section Real
variable {n : ℕ} (D U : Fin n → Fin 1024 → ℝ) (G B : Fin 1024 → ℝ) (C : Fin n → Fin 1024 → ℝ)

/-- The layer norm's output. -/
def ln (r : Fin n) (i : Fin 1024) : ℝ := Layer.xn 1024 (U r) i * G i + B i
/-- The gradient of the layer norm's output, and of the gate's columns. -/
def dln (r : Fin n) (i : Fin 1024) : ℝ := D r i * (C r i * Layer.sg (C r i)) * Layer.dsilu (ln U G B r i)
def dgate (r : Fin n) (i : Fin 1024) : ℝ := D r i * (ln U G B r i * Layer.sg (ln U G B r i)) * Layer.dsilu (C r i)
/-- The gradient of the norm's input. -/
def du (r : Fin n) (i : Fin 1024) : ℝ := Layer.dx 1024 (U r) (fun j => dln D U G B C r j * G j) i
end Real

variable {x0 x1 : FVec Ideal S1x2048x1024 .f32} {x2 x3 x4 : FVec Ideal S1024 .f32} {x5 : FVec Ideal S1x2048x12800 .f32}
  {D X : Fin 2048 → Fin 1024 → ℝ} {K G B : Fin 1024 → ℝ} {P : Fin 2048 → Fin 12800 → ℝ}

/-- The norm's input: the convolution's output with its bias. -/
def biased (X : Fin 2048 → Fin 1024 → ℝ) (K : Fin 1024 → ℝ) (r : Fin 2048) (i : Fin 1024) : ℝ := X r i + K i
/-- The gate's columns of the projection. -/
def gatecol (P : Fin 2048 → Fin 12800 → ℝ) (r : Fin 2048) (i : Fin 1024) : ℝ := P r ⟨8704 + i.val, by omega⟩

section Norm
variable (hx : ∀ r i, x1 (ix3 0 r i) = (X r i : EReal)) (hk : ∀ i, x2 (ix1 i) = (K i : EReal))
include hx hk

theorem ref_u (r i) : val_main_v3 (F := Ideal) x1 x2 (ix3 0 r i) = (biased X K r i : EReal) := by
  pointwise [val_main_v3, val_main_v2, val_main_v1]
  rw [hx, hk, ← EReal.coe_add]
  rfl

theorem ref_cen (r i) : val_main_v9 (F := Ideal) x1 x2 (ix3 0 r i) = (Layer.cen 1024 (biased X K r) i : EReal) := by
  have h := ref_u hx hk
  unfold val_main_v9 val_main_v8 val_main_v7 val_main_v6 val_main_v5 val_main_v4 val_main_cst val_main_cst_0
  generalize val_main_v3 (F := Ideal) x1 x2 = y at h ⊢
  pointwise
  simp only [h, w_1024, Ideal.div_coe (show (1024 : ℝ) ≠ 0 by norm_num), zero_add, ← EReal.coe_mul, ← coe_sum, ← EReal.coe_sub]
  rfl

theorem ref_ms (r) : val_main_v16 (F := Ideal) x1 x2 (ix3 0 r 0) = (Layer.ms 1024 (biased X K r) : EReal) := by
  have h := ref_cen hx hk
  unfold val_main_v16 val_main_v15 val_main_v14 val_main_v13 val_main_v12 val_main_v11 val_main_v10 val_main_cst_1 val_main_cst_2 val_main_cst_3
  generalize val_main_v9 (F := Ideal) x1 x2 = y at h ⊢
  pointwise
  rw [w_1024, Layer.w_eps, Ideal.div_coe (by norm_num)]
  simp only [h, zero_add, ← EReal.coe_mul, ← coe_sum, ← EReal.coe_add]
  rfl

theorem ref_inv (r) : val_main_v17 (F := Ideal) x1 x2 (ix3 0 r 0) = (Layer.inv 1024 (biased X K r) : EReal) := by
  have h := ref_ms hx hk r
  unfold val_main_v17
  generalize val_main_v16 (F := Ideal) x1 x2 = y at h ⊢
  pointwise
  rw [h, Layer.rsqrt_at _ (by norm_num)]

theorem ref_half (r) : val_main_v20 (F := Ideal) x1 x2 (ix3 0 r 0)
    = ((-(1 / 2) * (Layer.inv 1024 (biased X K r) * (1 / Layer.ms 1024 (biased X K r))) : ℝ) : EReal) := by
  have h := ref_ms hx hk r
  have h' := ref_inv hx hk r
  unfold val_main_v20 val_main_v19 val_main_v18 val_main_cst_4
  generalize val_main_v17 (F := Ideal) x1 x2 = y at h' ⊢
  generalize val_main_v16 (F := Ideal) x1 x2 = y at h ⊢
  pointwise
  rw [h, h', Layer.w_neg_half, Ideal.div_coe (Layer.ms_pos _ (by norm_num)).ne', ← EReal.coe_mul, ← EReal.coe_mul]

theorem ref_xn (r i) : val_main_v22 (F := Ideal) x1 x2 (ix3 0 r i) = (Layer.xn 1024 (biased X K r) i : EReal) := by
  have h := ref_cen hx hk r i
  have h' := ref_inv hx hk r
  unfold val_main_v22 val_main_v21
  generalize val_main_v17 (F := Ideal) x1 x2 = y at h' ⊢
  generalize val_main_v9 (F := Ideal) x1 x2 = y at h ⊢
  pointwise
  rw [h, h', ← EReal.coe_mul]
  rfl

variable (hg : ∀ i, x3 (ix1 i) = (G i : EReal)) (hb : ∀ i, x4 (ix1 i) = (B i : EReal))
include hg hb

theorem ref_ln (r i) : val_main_v28 (F := Ideal) x1 x2 x3 x4 (ix3 0 r i) = (ln (biased X K) G B r i : EReal) := by
  have h := ref_xn hx hk r i
  unfold val_main_v28 val_main_v27 val_main_v26 val_main_v25 val_main_v24 val_main_v23
  generalize val_main_v22 (F := Ideal) x1 x2 = y at h ⊢
  pointwise
  rw [h, hg, hb, ← EReal.coe_mul, ← EReal.coe_add]
  rfl

theorem ref_sg (r i) : val_main_v29_2 (F := Ideal) x1 x2 x3 x4 (ix3 0 r i) = (Layer.sg (ln (biased X K) G B r i) : EReal) := by
  have h := ref_ln hx hk hg hb r i
  unfold val_main_v29_2 val_main_call0_v4 val_main_call0_cst_0 val_main_call0_v3 val_main_call0_v2 val_main_call0_cst val_main_call0_v1 val_main_call0_v0
  generalize val_main_v28 (F := Ideal) x1 x2 x3 x4 = y at h ⊢
  pointwise
  rw [h, Layer.sg_of_neg]

theorem ref_sgc (r i) : val_main_v29_1 (F := Ideal) x1 x2 x3 x4 (ix3 0 r i)
    = ((Layer.sg (ln (biased X K) G B r i) * (1 - Layer.sg (ln (biased X K) G B r i)) : ℝ) : EReal) := by
  have h := ref_sg hx hk hg hb r i
  unfold val_main_v29_1 val_main_call0_v7 val_main_call0_v6 val_main_call0_cst_1
  generalize val_main_v29_2 (F := Ideal) x1 x2 x3 x4 = y at h ⊢
  pointwise
  rw [h, Layer.coe_one_sub, ← EReal.coe_mul]

end Norm

section Gate
variable (hp : ∀ r k, x5 (ix3 0 r k) = (P r k : EReal))
include hp

theorem ref_gate (r i) : val_main_v0 (F := Ideal) x5 (ix3 0 r i) = (gatecol P r i : EReal) := by
  unfold gatecol
  rw [← hp]
  pointwise [val_main_v0]
  blk_ext

theorem ref_gsg (r i) : val_main_v30_2 (F := Ideal) x5 (ix3 0 r i) = (Layer.sg (gatecol P r i) : EReal) := by
  have h := ref_gate hp r i
  unfold val_main_v30_2 val_main_call1_v4 val_main_call1_cst_0 val_main_call1_v3 val_main_call1_v2 val_main_call1_cst val_main_call1_v1 val_main_call1_v0
  generalize val_main_v0 (F := Ideal) x5 = y at h ⊢
  pointwise
  rw [h, Layer.sg_of_neg]

theorem ref_gsgc (r i) : val_main_v30_1 (F := Ideal) x5 (ix3 0 r i) = ((Layer.sg (gatecol P r i) * (1 - Layer.sg (gatecol P r i)) : ℝ) : EReal) := by
  have h := ref_gsg hp r i
  unfold val_main_v30_1 val_main_call1_v7 val_main_call1_v6 val_main_call1_cst_1
  generalize val_main_v30_2 (F := Ideal) x5 = y at h ⊢
  pointwise
  rw [h, Layer.coe_one_sub, ← EReal.coe_mul]

end Gate

section All
variable (hd : ∀ r i, x0 (ix3 0 r i) = (D r i : EReal))
  (hx : ∀ r i, x1 (ix3 0 r i) = (X r i : EReal)) (hk : ∀ i, x2 (ix1 i) = (K i : EReal))
  (hg : ∀ i, x3 (ix1 i) = (G i : EReal)) (hb : ∀ i, x4 (ix1 i) = (B i : EReal))
  (hp : ∀ r k, x5 (ix3 0 r k) = (P r k : EReal))
include hd hx hk hg hb hp

theorem ref_dgate (r i) : val_main_v34 (F := Ideal) x0 x1 x2 x3 x4 x5 (ix3 0 r i)
    = (dgate D (biased X K) G B (gatecol P) r i : EReal) := by
  have h1 := ref_ln hx hk hg hb r i
  have h2 := ref_sg hx hk hg hb r i
  have h3 := ref_gate hp r i
  have h4 := ref_gsg hp r i
  have h5 := ref_gsgc hp r i
  unfold val_main_v34 val_main_call2_v2 val_main_call2_v1 val_main_call2_v0 val_main_v32 val_main_v29_0
  generalize val_main_v30_1 (F := Ideal) x5 = y at h5 ⊢
  generalize val_main_v30_2 (F := Ideal) x5 = y at h4 ⊢
  generalize val_main_v0 (F := Ideal) x5 = y at h3 ⊢
  generalize val_main_v29_2 (F := Ideal) x1 x2 x3 x4 = y at h2 ⊢
  generalize val_main_v28 (F := Ideal) x1 x2 x3 x4 = y at h1 ⊢
  pointwise
  rw [h1, h2, h3, h4, h5, hd]
  simp only [← EReal.coe_mul, ← EReal.coe_add]
  unfold dgate Layer.dsilu
  congr 1
  ring

theorem ref_dln (r i) : val_main_v35 (F := Ideal) x0 x1 x2 x3 x4 x5 (ix3 0 r i)
    = (dln D (biased X K) G B (gatecol P) r i : EReal) := by
  have h1 := ref_ln hx hk hg hb r i
  have h2 := ref_sg hx hk hg hb r i
  have h3 := ref_gate hp r i
  have h4 := ref_gsg hp r i
  have h5 := ref_sgc hx hk hg hb r i
  unfold val_main_v35 val_main_call3_v2 val_main_call3_v1 val_main_call3_v0 val_main_v33 val_main_v30_0
  generalize val_main_v29_1 (F := Ideal) x1 x2 x3 x4 = y at h5 ⊢
  generalize val_main_v30_2 (F := Ideal) x5 = y at h4 ⊢
  generalize val_main_v0 (F := Ideal) x5 = y at h3 ⊢
  generalize val_main_v29_2 (F := Ideal) x1 x2 x3 x4 = y at h2 ⊢
  generalize val_main_v28 (F := Ideal) x1 x2 x3 x4 = y at h1 ⊢
  pointwise
  rw [h1, h2, h3, h4, h5, hd]
  simp only [← EReal.coe_mul, ← EReal.coe_add]
  unfold dln Layer.dsilu
  congr 1
  ring

/-- The gradient of the norm's gain. -/
theorem ref_dg (i) : val_main_v75 (F := Ideal) x0 x1 x2 x3 x4 x5 (ix2 0 i)
    = ((∑ r, dln D (biased X K) G B (gatecol P) r i * Layer.xn 1024 (biased X K r) i : ℝ) : EReal) := by
  have h : val_main_v41 (F := Ideal) x0 x1 x2 x3 x4 x5 (ix3 0 0 i)
      = ((∑ r, dln D (biased X K) G B (gatecol P) r i * Layer.xn 1024 (biased X K r) i : ℝ) : EReal) := by
    have h := ref_dln hd hx hk hg hb hp
    have h' := ref_xn hx hk
    unfold val_main_v41 val_main_v40 val_main_v39 val_main_cst_7
    generalize val_main_v35 (F := Ideal) x0 x1 x2 x3 x4 x5 = y at h ⊢
    generalize val_main_v22 (F := Ideal) x1 x2 = y at h' ⊢
    pointwise
    simp only [h, h', zero_add, ← EReal.coe_mul, ← coe_sum]
    exact congrArg _ (Finset.sum_congr rfl fun r _ => mul_comm _ _)
  have h2 : val_main_v44 (F := Ideal) x0 x1 x2 x3 x4 x5 (ix1 i) = val_main_v41 (F := Ideal) x0 x1 x2 x3 x4 x5 (ix3 0 0 i) := by
    unfold val_main_v44
    refine (sum_col _ _ i).trans ?_
    generalize val_main_v41 (F := Ideal) x0 x1 x2 x3 x4 x5 = y
    unfold val_main_cst_8
    pointwise
  unfold val_main_v75
  generalize val_main_v44 (F := Ideal) x0 x1 x2 x3 x4 x5 = y at h2 ⊢
  pointwise
  rw [h2, h]

/-- The gradient of the norm's shift. -/
theorem ref_db (i) : val_main_v76 (F := Ideal) x0 x1 x2 x3 x4 x5 (ix2 0 i)
    = ((∑ r, dln D (biased X K) G B (gatecol P) r i : ℝ) : EReal) := by
  have h : val_main_v37 (F := Ideal) x0 x1 x2 x3 x4 x5 (ix3 0 0 i) = ((∑ r, dln D (biased X K) G B (gatecol P) r i : ℝ) : EReal) := by
    have h := ref_dln hd hx hk hg hb hp
    unfold val_main_v37 val_main_v36 val_main_cst_5
    generalize val_main_v35 (F := Ideal) x0 x1 x2 x3 x4 x5 = y at h ⊢
    pointwise
    simp only [h, zero_add, ← coe_sum]
  have h2 : val_main_v38 (F := Ideal) x0 x1 x2 x3 x4 x5 (ix1 i) = val_main_v37 (F := Ideal) x0 x1 x2 x3 x4 x5 (ix3 0 0 i) := by
    unfold val_main_v38
    refine (sum_col _ _ i).trans ?_
    generalize val_main_v37 (F := Ideal) x0 x1 x2 x3 x4 x5 = y
    unfold val_main_cst_6
    pointwise
  unfold val_main_v76
  generalize val_main_v38 (F := Ideal) x0 x1 x2 x3 x4 x5 = y at h2 ⊢
  pointwise
  rw [h2, h]

theorem ref_z (r i) : val_main_v43 (F := Ideal) x0 x1 x2 x3 x4 x5 (ix3 0 r i)
    = ((dln D (biased X K) G B (gatecol P) r i * G i : ℝ) : EReal) := by
  have h := ref_dln hd hx hk hg hb hp r i
  unfold val_main_v43 val_main_v42 val_main_v23
  generalize val_main_v35 (F := Ideal) x0 x1 x2 x3 x4 x5 = y at h ⊢
  pointwise
  rw [h, hg, ← EReal.coe_mul]

theorem ref_pull (r i) : val_main_v55 (F := Ideal) x0 x1 x2 x3 x4 x5 (ix3 0 r i)
    = (Layer.pull 1024 (biased X K r) (fun j => dln D (biased X K) G B (gatecol P) r j * G j) : EReal) := by
  have h : val_main_v47 (F := Ideal) x0 x1 x2 x3 x4 x5 (ix3 0 r 0)
      = ((∑ j, Layer.cen 1024 (biased X K r) j * (dln D (biased X K) G B (gatecol P) r j * G j) : ℝ) : EReal) := by
    have h := ref_z hd hx hk hg hb hp r
    have h' := ref_cen hx hk r
    unfold val_main_v47 val_main_v46 val_main_v45 val_main_cst_9
    generalize val_main_v43 (F := Ideal) x0 x1 x2 x3 x4 x5 = y at h ⊢
    generalize val_main_v9 (F := Ideal) x1 x2 = y at h' ⊢
    pointwise
    simp only [h, h', zero_add, ← EReal.coe_mul, ← coe_sum]
  have h1 : val_main_v52 (F := Ideal) x0 x1 x2 x3 x4 x5 (ix3 0 r 0)
      = (Layer.pull 1024 (biased X K r) (fun j => dln D (biased X K) G B (gatecol P) r j * G j) : EReal) := by
    have h' := ref_half hx hk r
    unfold val_main_v52 val_main_v51 val_main_v50 val_main_cst_10
    generalize val_main_v47 (F := Ideal) x0 x1 x2 x3 x4 x5 = y at h ⊢
    generalize val_main_v20 (F := Ideal) x1 x2 = y at h' ⊢
    pointwise
    rw [h, h', w_1024, Ideal.div_coe (by norm_num), ← EReal.coe_mul, ← EReal.coe_mul]
    rfl
  have h2 : val_main_v53 (F := Ideal) x0 x1 x2 x3 x4 x5 (ix1 r) = val_main_v52 (F := Ideal) x0 x1 x2 x3 x4 x5 (ix3 0 r 0) := by
    unfold val_main_v53
    refine (sum_row _ _ r).trans ?_
    generalize val_main_v52 (F := Ideal) x0 x1 x2 x3 x4 x5 = y
    unfold val_main_cst_11
    pointwise
  unfold val_main_v55 val_main_v54
  generalize val_main_v53 (F := Ideal) x0 x1 x2 x3 x4 x5 = y at h2 ⊢
  pointwise
  rw [h2, h1]

theorem ref_dcen (r i) : val_main_v59 (F := Ideal) x0 x1 x2 x3 x4 x5 (ix3 0 r i)
    = (Layer.dcen 1024 (biased X K r) (fun j => dln D (biased X K) G B (gatecol P) r j * G j) i : EReal) := by
  have h1 := ref_pull hd hx hk hg hb hp r i
  have h2 := ref_z hd hx hk hg hb hp r i
  have h3 := ref_cen hx hk r i
  have h4 := ref_inv hx hk r
  unfold val_main_v59 val_main_v58 val_main_v57 val_main_v56 val_main_v49 val_main_v48
  generalize val_main_v55 (F := Ideal) x0 x1 x2 x3 x4 x5 = y at h1 ⊢
  generalize val_main_v43 (F := Ideal) x0 x1 x2 x3 x4 x5 = y at h2 ⊢
  generalize val_main_v9 (F := Ideal) x1 x2 = y at h3 ⊢
  generalize val_main_v17 (F := Ideal) x1 x2 = y at h4 ⊢
  pointwise
  rw [h1, h2, h3, h4]
  simp only [← EReal.coe_mul, ← EReal.coe_add]
  rfl

theorem ref_mean (r i) : val_main_v67 (F := Ideal) x0 x1 x2 x3 x4 x5 (ix3 0 r i)
    = (((∑ j, -Layer.dcen 1024 (biased X K r) (fun j => dln D (biased X K) G B (gatecol P) r j * G j) j) * (1 / 1024) : ℝ) : EReal) := by
  have h1 : val_main_v64 (F := Ideal) x0 x1 x2 x3 x4 x5 (ix3 0 r 0)
      = (((∑ j, -Layer.dcen 1024 (biased X K r) (fun j => dln D (biased X K) G B (gatecol P) r j * G j) j) * (1 / 1024) : ℝ) : EReal) := by
    have h := ref_dcen hd hx hk hg hb hp r
    unfold val_main_v64 val_main_v63 val_main_v62 val_main_v61 val_main_v60 val_main_cst_12 val_main_cst_13
    generalize val_main_v59 (F := Ideal) x0 x1 x2 x3 x4 x5 = y at h ⊢
    pointwise
    rw [w_1024, Ideal.div_coe (by norm_num)]
    simp only [h, zero_add, ← EReal.coe_neg, ← EReal.coe_mul, ← coe_sum]
  have h2 : val_main_v65 (F := Ideal) x0 x1 x2 x3 x4 x5 (ix1 r) = val_main_v64 (F := Ideal) x0 x1 x2 x3 x4 x5 (ix3 0 r 0) := by
    unfold val_main_v65
    refine (sum_row _ _ r).trans ?_
    generalize val_main_v64 (F := Ideal) x0 x1 x2 x3 x4 x5 = y
    unfold val_main_cst_14
    pointwise
  unfold val_main_v67 val_main_v66
  generalize val_main_v65 (F := Ideal) x0 x1 x2 x3 x4 x5 = y at h2 ⊢
  pointwise
  rw [h2, h1]

theorem ref_du3 (r i) : val_main_v68 (F := Ideal) x0 x1 x2 x3 x4 x5 (ix3 0 r i)
    = (du D (biased X K) G B (gatecol P) r i : EReal) := by
  have h1 := ref_dcen hd hx hk hg hb hp r i
  have h2 := ref_mean hd hx hk hg hb hp r i
  unfold val_main_v68
  generalize val_main_v67 (F := Ideal) x0 x1 x2 x3 x4 x5 = y at h2 ⊢
  generalize val_main_v59 (F := Ideal) x0 x1 x2 x3 x4 x5 = y at h1 ⊢
  pointwise
  rw [h1, h2, ← EReal.coe_add, Layer.dx_eq (N := 1024) _ _ (by norm_num) (by norm_num) i]
  rfl

/-- The gradient of the norm's input. -/
theorem ref_du (r i) : val_main_v74 (F := Ideal) x0 x1 x2 x3 x4 x5 (ix2 r i)
    = (du D (biased X K) G B (gatecol P) r i : EReal) := by
  have h := ref_du3 hd hx hk hg hb hp r i
  unfold val_main_v74
  generalize val_main_v68 (F := Ideal) x0 x1 x2 x3 x4 x5 = y at h ⊢
  pointwise
  rw [h]

/-- The gradient of the convolution's bias. -/
theorem ref_dk (i) : val_main_v77 (F := Ideal) x0 x1 x2 x3 x4 x5 (ix2 0 i)
    = ((∑ r, du D (biased X K) G B (gatecol P) r i : ℝ) : EReal) := by
  have h : val_main_v70 (F := Ideal) x0 x1 x2 x3 x4 x5 (ix3 0 0 i) = ((∑ r, du D (biased X K) G B (gatecol P) r i : ℝ) : EReal) := by
    have h := ref_du3 hd hx hk hg hb hp
    unfold val_main_v70 val_main_v69 val_main_cst_15
    generalize val_main_v68 (F := Ideal) x0 x1 x2 x3 x4 x5 = y at h ⊢
    pointwise
    simp only [h, zero_add, ← coe_sum]
  have h2 : val_main_v71 (F := Ideal) x0 x1 x2 x3 x4 x5 (ix1 i) = val_main_v70 (F := Ideal) x0 x1 x2 x3 x4 x5 (ix3 0 0 i) := by
    unfold val_main_v71
    refine (sum_col _ _ i).trans ?_
    generalize val_main_v70 (F := Ideal) x0 x1 x2 x3 x4 x5 = y
    unfold val_main_cst_16
    pointwise
  unfold val_main_v77
  generalize val_main_v71 (F := Ideal) x0 x1 x2 x3 x4 x5 = y at h2 ⊢
  pointwise
  rw [h2, h]

/-- The projection's gradient: the gate's columns are replaced. -/
theorem ref_dproj_in {x6 : FVec Ideal S2048x12800 .bf16} (r : Fin 2048) (i : Fin 1024) :
    val_main_v80 (F := Ideal) x0 x1 x2 x3 x4 x5 x6 (ix2 r ⟨8704 + i.val, by omega⟩)
      = (dgate D (biased X K) G B (gatecol P) r i : EReal) := by
  have h := ref_dgate hd hx hk hg hb hp r i
  have h1 : val_main_v73 (F := Ideal) x0 x1 x2 x3 x4 x5 (ix2 r i) = (dgate D (biased X K) G B (gatecol P) r i : EReal) := by
    unfold val_main_v73 val_main_v72
    generalize val_main_v34 (F := Ideal) x0 x1 x2 x3 x4 x5 = y at h ⊢
    pointwise
    rw [h]
  rw [← h1]
  unfold val_main_v80
  generalize val_main_v73 (F := Ideal) x0 x1 x2 x3 x4 x5 = y
  pointwise [val_main_v78, val_main_v79]

end All

theorem ref_dproj_out {x6 : FVec Ideal S2048x12800 .bf16} (r : Fin 2048) (k : Fin 12800) (hk : ¬(8704 ≤ k.val ∧ k.val < 9728)) :
    val_main_v80 (F := Ideal) x0 x1 x2 x3 x4 x5 x6 (ix2 r k) = x6 (ix2 r k) := by
  unfold val_main_v80
  generalize val_main_v73 (F := Ideal) x0 x1 x2 x3 x4 x5 = y
  pointwise [val_main_v78, val_main_v79]
  by_cases h1 : k.val < 8704
  · rw [dif_pos h1]
  · rw [dif_neg h1, dif_neg (by omega)]
    refine congrArg x6 (congrArg (ix2 r) (Fin.ext ?_))
    change 9728 + (k.val - 8704 - 1024) = k.val
    omega

end Cert.BrC2

end
-- ==== Proof.BrC2Run.lean ====
module

public import proofs.«01_k».proof.Proof.Gen.KernelBrC2Ideal.Frame
public import proofs.«01_k».proof.Proof.Gen.KernelBrC2Ideal.Skeleton
public import Idealize.ShloMosaic.Lib.Pipeline.FrameValue
public import Idealize.ShloMosaic.Lib.Ring
public import Idealize.ShloMosaic.Lib.Pipeline.ValueKit
public import Idealize.ShloMosaic.Lib.VecWindow

@[expose] public section

set_option maxRecDepth 16384

noncomputable section

/-! # The body of the second gate's backward kernel, run once

At step `t` the body reads a block of 512 rows of its inputs, writes the same rows of `du`, adds to the three
accumulated rows, packs the gradient of the gate's columns into its stash and sends the stash behind its back to
the rows' place in the array of the projection's gradient.  Before it packs, it waits for the copy the step before
has sent; at the last step it also waits for its own. -/

namespace Cert.KernelBrC2Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelBrC2Ideal Cert.KernelBrC2Ideal.Gen

variable {F : FTy → Type} [FloatOps F]

local notation "𝕄" => MT nD τ sig Unit (Elt F) ℕ (Pipeline.UD sig nD τ) ℕ

/-! ## Names for what the copies touch -/

/-- The array the copies write, and the stash they read. -/
abbrev hbM : Memref sig .tc .hbm S2048x12800 .bf16 := Memref.whole main_v8_4
abbrev scM : Memref sig .tc .vmem S1x512x1024 .bf16 := Memref.whole cc0_scratch0

theorem inb_piece (u : Fin 4) : ∀ a, (![512 * u.val, 8704] : Fin 2 → Nat) a + S512x1024.size a ≤ S2048x12800.size a := by
  revert u; decide

/-- The stash as a copy names it. -/
def tile : Memref sig .tc .vmem S512x1024 .bf16 :=
  (scM.slice (Rect.unit (s := S1x512x1024) ![0, 0, 0] S1x512x1024.size inb_S1x512x1024_S1x512x1024_0_0_0) (fun _ => rfl)).squeeze S512x1024 squeezes_S1x512x1024_S512x1024

/-- The place step `u` writes: its 512 rows, the gate's 1024 columns. -/
def piece (u : Fin 4) : Memref sig .tc .hbm S512x1024 .bf16 :=
  hbM.slice (Rect.unit (s := S2048x12800) ![512 * u.val, 8704] S512x1024.size (inb_piece u)) (fun _ => rfl)

/-- The one cell the copies are counted on. -/
def cellA : DmaSems sig S_ := (cc0_scratch1.slice (Rect.unit (s := S1) ![0] S1.size inb_S1_S1_0)).squeeze S_ squeezes_S1_S_
abbrev cellR : SemLoc sig := SemLoc.dma cellA.sem

/-- Contents of the buffer under a memref. -/
abbrev BufOf (c : Dev nD) {sp : Space} {S : Shape} {e : EltTy} (M : Memref sig .tc sp S e) : Type := Buf (Elt F) (M.view.loc (c : Thread nD τ))

abbrev tileP (c : Dev nD) (e : BufOf (F := F) c tile) : sProp 𝕄 := tile.view.loc (c : Thread nD τ) ↦[tile.view.set]{fullShare} e
abbrev cellP (c : Dev nD) : sProp 𝕄 := semVal ((c : Thread nD τ), cellR) 0
abbrev pieceP (c : Dev nD) (u : Fin 4) (f : BufOf (F := F) c (piece u)) : sProp 𝕄 := (piece u).view.loc (c : Thread nD τ) ↦[(piece u).view.set]{fullShare} f
/-- The copy of step `u` under way: it will hand over the piece at `f` and the stash at `e`. -/
abbrev flightP (c : Dev nD) (u : Fin 4) (f : BufOf (F := F) c (piece u)) (e : BufOf (F := F) c tile) : sProp 𝕄 :=
  Transfers.Flight countersEmb (c : Thread nD τ) cellR default ((piece u).view.amount cellR) iprop(pieceP c u f ∗ tileP c e)

/-- The step of a point, as a number below 4. -/
abbrev stepOf (t : Fin cfg0.N) : Fin 4 := Ring.bk 4 t.val

section Canon
omit [FloatOps F]
@[sl_canon] theorem tile_canon :
    (scM.slice (Rect.unit (s := S1x512x1024) ![0, 0, 0] S1x512x1024.size inb_S1x512x1024_S1x512x1024_0_0_0) (fun _ => rfl)).squeeze S512x1024 squeezes_S1x512x1024_S512x1024 = tile := rfl
@[sl_canon] theorem tile_canon' :
    (scM.slice (Rect.unit (s := S1x512x1024) ![0, 0, 0] ![1, 512, 1024] inb_S1x512x1024_S1x512x1024_0_0_0) (fun _ => rfl)).squeeze S512x1024 squeezes_S1x512x1024_S512x1024 = tile := rfl
@[sl_canon] theorem cell_canon : (cc0_scratch1.slice (Rect.unit (s := S1) ![0] S1.size inb_S1_S1_0)).squeeze S_ squeezes_S1_S_ = cellA := rfl
@[sl_canon] theorem cell_canon' : (cc0_scratch1.slice (Rect.unit (s := S1) ![0] ![1] inb_S1_S1_0)).squeeze S_ squeezes_S1_S_ = cellA := rfl
theorem off2_eq : ∀ t : Fin grid0.N, k0_off2 (grid0.coords t) = ![512 * (Ring.bk 4 t.val).val, 8704] := by decide +kernel
@[sl_canon] theorem piece_canon (t : Fin grid0.N) :
    hbM.slice (Rect.unit (s := S2048x12800) (k0_off2 (grid0.coords t)) S512x1024.size (k0_off2_inb (grid0.coords t))) (fun _ => rfl) = piece (Ring.bk 4 t.val) :=
  congrArg (fun M : Memref sig .tc .hbm S512x1024 .bf16 => M) (Memref.slice_unit_congr _ (off2_eq t) _ _ (fun _ => rfl) (fun _ => rfl))
@[sl_canon] theorem piece_canon' (t : Fin grid0.N) :
    hbM.slice (Rect.unit (s := S2048x12800) (k0_off2 (grid0.coords t)) ![512, 1024] (k0_off2_inb (grid0.coords t))) (fun _ => rfl) = piece (Ring.bk 4 t.val) :=
  piece_canon t
end Canon

/-! ## The conditions of the body -/

abbrev later (i : grid0.Coords) : Prop := k0_cond1 i = 1#1
abbrev final (i : grid0.Coords) : Prop := k0_cond2 i = 1#1
abbrev first (i : grid0.Coords) : Prop := (Scalar.cmpi .ne (Scalar.extui (Scalar.cmpi .eq (BitVec.ofNat 32 (i 0).val) 0#32)) 0#32) = 1#1
theorem later_iff : ∀ t : Fin cfg0.N, later (grid0.coords t) ↔ 1 ≤ t.val :=
  (by decide +kernel : ∀ t : Fin grid0.N, later (grid0.coords t) ↔ 1 ≤ t.val)
theorem final_iff : ∀ t : Fin cfg0.N, final (grid0.coords t) ↔ t.val % 4 = 3 :=
  (by decide +kernel : ∀ t : Fin grid0.N, final (grid0.coords t) ↔ t.val % 4 = 3)
theorem first_iff : ∀ t : Fin cfg0.N, first (grid0.coords t) ↔ t.val % 4 = 0 := fun t => by
  have ht : t.val < 4 := Nat.lt_of_lt_of_eq t.isLt N_0
  have e0 : (grid0.coords t 0).val = t.val / 1 % 4 := Pipeline.Grid.coords_val t 0 (by decide) rfl
  simp only [first, e0]
  word_cmp

/-! ## The runs -/

/-- The six inputs' buffers at their blocks. -/
def ins (c : Dev nD) (arg1 arg2 : Memref sig .tc .vmem S512x1024 .f32) (arg3 arg4 : Memref sig .tc .vmem S512x512 .f32) (arg5 arg6 : Memref sig .tc .vmem S1x1024 .f32)
    (x0 x1 : Vec F S512x1024 .f32) (x2 x3 : Vec F S512x512 .f32) (x4 x5 : Vec F S1x1024 .f32) : sProp 𝕄 :=
  iprop(owns (c : Thread nD τ) arg1 fullShare x0 ∗ owns (c : Thread nD τ) arg2 fullShare x1 ∗ owns (c : Thread nD τ) arg3 fullShare x2
    ∗ owns (c : Thread nD τ) arg4 fullShare x3 ∗ owns (c : Thread nD τ) arg5 fullShare x4 ∗ owns (c : Thread nD τ) arg6 fullShare x5)

/-- The four outputs' buffers at what a step leaves. -/
def outs (c : Dev nD) (arg8 : Memref sig .tc .vmem S512x1024 .f32) (arg9 arg10 arg11 : Memref sig .tc .vmem S1x1024 .f32)
    (y6 : Vec F S512x1024 .f32) (y7 y8 y9 : Vec F S1x1024 .f32) : sProp 𝕄 :=
  iprop(owns (c : Thread nD τ) arg8 fullShare y6 ∗ owns (c : Thread nD τ) arg9 fullShare y7
    ∗ owns (c : Thread nD τ) arg10 fullShare y8 ∗ owns (c : Thread nD τ) arg11 fullShare y9)

/-! What a step computes from its blocks: the gradient of the layer norm's output, and from it the rows of `du`, the
three accumulated rows over what they held, and the gradient of the gate's columns that the copy carries. -/

section Values
variable (x0 x1 : Vec F S512x1024 .f32) (x2 x3 : Vec F S512x512 .f32) (x4 x5 : Vec F S1x1024 .f32)

def dlnAt : FVec F S512x1024 .f32 := k0_pay12 (k0_pay5 x2 x3) (k0_pay6 x0) (k0_pay10 x1 x4 x5)
def duAt : Vec F S512x1024 .f32 := k0_pay2 (k0_pay8 x1) (k0_pay9 x1) (dlnAt x0 x1 x2 x3 x4 x5) x4
def lgAt (y : Vec F S1x1024 .f32) : Vec F S1x1024 .f32 := k0_pay14 (k0_pay5 x2 x3) (k0_pay6 x0) (k0_pay9 x1) (k0_pay10 x1 x4 x5) y
def lbAt (y : Vec F S1x1024 .f32) : Vec F S1x1024 .f32 := k0_pay1 (k0_pay15 (k0_pay5 x2 x3) (k0_pay6 x0) (k0_pay10 x1 x4 x5)) y
def cbAt (y : Vec F S1x1024 .f32) : Vec F S1x1024 .f32 := k0_pay4 (k0_pay8 x1) (k0_pay9 x1) (dlnAt x0 x1 x2 x3 x4 x5) x4 y
def gateAt : Vec F S512x1024 .bf16 :=
  fun y => k0_pay11 (k0_pay5 x2 x3) (k0_pay6 x0) (k0_pay10 x1 x4 x5) (Shape.reshapeEquiv squeezes_S1x512x1024_S512x1024.numel_eq y)
end Values

/-- What the copy reads of the stash after the body has packed it. -/
theorem tile_read (f : scM.view.ty.Contents (Elt F)) (x : Vec F S1x512x1024 .bf16) :
    tile.view.read (Elt F) (View.write (Elt F) (scM.access (Rect.unit ![0, 0, 0] S1x512x1024.size inb_S1x512x1024_S1x512x1024_0_0_0)) f x Finset.univ)
      = fun y => x (Shape.reshapeEquiv squeezes_S1x512x1024_S512x1024.numel_eq y) :=
  funext fun y => congrFun (Memref.read_slice_write scM inb_S1x512x1024_S1x512x1024_0_0_0 rfl inb_S1x512x1024_S1x512x1024_0_0_0 f x) _

set_option maxHeartbeats 1000000 in
/-- The first step: the accumulated rows are reset, nothing is waited for. -/
theorem runA (c : Dev nD) (t : Fin cfg0.N) (arg1 : Memref sig .tc .vmem S512x1024 .f32) (harg1 : arg1.IsWhole) (arg2 : Memref sig .tc .vmem S512x1024 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S1x1024 .f32) (harg5 : arg5.IsWhole) (arg6 : Memref sig .tc .vmem S1x1024 .f32) (harg6 : arg6.IsWhole) (arg8 : Memref sig .tc .vmem S512x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (hc0 : ¬later (grid0.coords t)) (hc1 : ¬final (grid0.coords t)) (hc2 : first (grid0.coords t))
    (x0 x1 : Vec F S512x1024 .f32) (x2 x3 : Vec F S512x512 .f32) (x4 x5 : Vec F S1x1024 .f32)
     (ev : BufOf (F := F) c tile) (fp : BufOf (F := F) c (piece (stepOf t))) (W : Waits sig Unit) (K : PUnit → sProp 𝕄) :
    iprop(ins (F := F) c arg1 arg2 arg3 arg4 arg5 arg6 x0 x1 x2 x3 x4 x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ pieceP c (stepOf t) fp ∗ cellP c ∗ tileP c ev ∗ owes (c : Thread nD τ) 0 W
        ∗ (iprop(ins (F := F) c arg1 arg2 arg3 arg4 arg5 arg6 x0 x1 x2 x3 x4 x5 ∗ outs (F := F) c arg8 arg9 arg10 arg11 (duAt x0 x1 x2 x3 x4 x5) (lgAt x0 x1 x2 x3 x4 x5 k0_pay13) (lbAt x0 x1 x2 x3 x4 x5 k0_pay16) (cbAt x0 x1 x2 x3 x4 x5 k0_pay3) ∗ (∃ f e, ⌜(piece (stepOf t)).view.read (Elt F) f = gateAt x0 x1 x2 x3 x4 x5⌝ ∗ flightP c (stepOf t) f e) ∗ (∃ W', owes (c : Thread nD τ) 0 W')) -∗ K ⟨⟩))
      ⊢ wp frame (wpE (defs₀ (F := F)) Variants.none c none) Set.univ (cc0_brc2_bwd (grid0.coords t) arg1 harg1 arg2 harg2 arg3 harg3 arg4 harg4 arg5 harg5 arg6 harg6 hbM (Memref.isWhole_whole _) arg8 harg8 arg9 harg9 arg10 harg10 arg11 harg11 hbM (Memref.isWhole_whole _) scM (Memref.isWhole_whole _) cc0_scratch1) K := by
  haveI : Fact (¬later (grid0.coords t)) := ⟨hc0⟩
  haveI : Fact (¬final (grid0.coords t)) := ⟨hc1⟩
  haveI : Fact (first (grid0.coords t)) := ⟨hc2⟩
  simp only [cc0_brc2_bwd_eq_skeleton]; unfold cc0_brc2_bwd_skel
  simp only [k0_part1_eq_skeleton, k0_part2_eq_skeleton, k0_part3_eq_skeleton]
  unfold ins outs owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨%d6, %f6, -, H6⟩, ⟨%d7, %f7, -, H7⟩, ⟨%d8, %f8, -, H8⟩, ⟨%d9, %f9, -, H9⟩, Hp, Hq, Ht, HW, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5

  sl_exec (disch := first | sl_exact hc0 | sl_exact hc1 | sl_exact hc2)
  sl_step
  iapply Hk
  isplitl [H0 H1 H2 H3 H4 H5]
  · isplitl [H0]
    · iexists _; isplitr; swap; · iexact H0
      ipureintro; exact hf0
    isplitl [H1]
    · iexists _; isplitr; swap; · iexact H1
      ipureintro; exact hf1
    isplitl [H2]
    · iexists _; isplitr; swap; · iexact H2
      ipureintro; exact hf2
    isplitl [H3]
    · iexists _; isplitr; swap; · iexact H3
      ipureintro; exact hf3
    isplitl [H4]
    · iexists _; isplitr; swap; · iexact H4
      ipureintro; exact hf4
    iexists _; isplitr; swap; · iexact H5
    ipureintro; exact hf5
  isplitl [H6 H7 H8 H9]
  · isplitl [H6]
    · iexists _; isplitr; swap; · iexact H6
      ipureintro; (try frame_out); exact View.read_writes_full _ _ _ _ []
    isplitl [H7]
    · iexists _; isplitr; swap; · iexact H7
      ipureintro; (try frame_out); exact View.read_writes_full _ _ _ _ []
    isplitl [H8]
    · iexists _; isplitr; swap; · iexact H8
      ipureintro; (try frame_out); exact View.read_writes_full _ _ _ _ []
    iexists _; isplitr; swap; · iexact H9
    ipureintro; (try frame_out); exact View.read_writes_full _ _ _ _ []
  isplitl [Hq]
  · iexists _, _; isplitr; swap; · iexact Hq
    ipureintro; refine (View.read_writes_whole _ _ _).trans ?_; frame_out; exact tile_read _ _
  iexists _; iexact HW

set_option maxHeartbeats 1000000 in
/-- A middle step: the copy of the step before is waited for, the accumulated rows hold what that step left. -/
theorem runB (c : Dev nD) (t : Fin cfg0.N) (arg1 : Memref sig .tc .vmem S512x1024 .f32) (harg1 : arg1.IsWhole) (arg2 : Memref sig .tc .vmem S512x1024 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S1x1024 .f32) (harg5 : arg5.IsWhole) (arg6 : Memref sig .tc .vmem S1x1024 .f32) (harg6 : arg6.IsWhole) (arg8 : Memref sig .tc .vmem S512x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (hc0 : later (grid0.coords t)) (hc1 : ¬final (grid0.coords t)) (hc2 : ¬first (grid0.coords t))
    (x0 x1 : Vec F S512x1024 .f32) (x2 x3 : Vec F S512x512 .f32) (x4 x5 : Vec F S1x1024 .f32) (xo7 xo8 xo9 : Vec F S1x1024 .f32)
     (v : Fin 4) (fv : BufOf (F := F) c (piece v)) (ev : BufOf (F := F) c tile) (fp : BufOf (F := F) c (piece (stepOf t))) (W : Waits sig Unit) (K : PUnit → sProp 𝕄) :
    iprop(ins (F := F) c arg1 arg2 arg3 arg4 arg5 arg6 x0 x1 x2 x3 x4 x5 ∗ (∃ d, owns (c : Thread nD τ) arg8 fullShare d) ∗ owns (c : Thread nD τ) arg9 fullShare xo7 ∗ owns (c : Thread nD τ) arg10 fullShare xo8 ∗ owns (c : Thread nD τ) arg11 fullShare xo9 ∗ pieceP c (stepOf t) fp ∗ flightP c v fv ev ∗ owes (c : Thread nD τ) 0 W
        ∗ (iprop(ins (F := F) c arg1 arg2 arg3 arg4 arg5 arg6 x0 x1 x2 x3 x4 x5 ∗ outs (F := F) c arg8 arg9 arg10 arg11 (duAt x0 x1 x2 x3 x4 x5) (lgAt x0 x1 x2 x3 x4 x5 xo7) (lbAt x0 x1 x2 x3 x4 x5 xo8) (cbAt x0 x1 x2 x3 x4 x5 xo9) ∗ pieceP c v fv ∗ (∃ f e, ⌜(piece (stepOf t)).view.read (Elt F) f = gateAt x0 x1 x2 x3 x4 x5⌝ ∗ flightP c (stepOf t) f e) ∗ (∃ W', owes (c : Thread nD τ) 0 W')) -∗ K ⟨⟩))
      ⊢ wp frame (wpE (defs₀ (F := F)) Variants.none c none) Set.univ (cc0_brc2_bwd (grid0.coords t) arg1 harg1 arg2 harg2 arg3 harg3 arg4 harg4 arg5 harg5 arg6 harg6 hbM (Memref.isWhole_whole _) arg8 harg8 arg9 harg9 arg10 harg10 arg11 harg11 hbM (Memref.isWhole_whole _) scM (Memref.isWhole_whole _) cc0_scratch1) K := by
  haveI : Fact (later (grid0.coords t)) := ⟨hc0⟩
  haveI : Fact (¬final (grid0.coords t)) := ⟨hc1⟩
  haveI : Fact (¬first (grid0.coords t)) := ⟨hc2⟩
  simp only [cc0_brc2_bwd_eq_skeleton]; unfold cc0_brc2_bwd_skel
  simp only [k0_part1_eq_skeleton, k0_part2_eq_skeleton, k0_part3_eq_skeleton]
  unfold ins outs owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨%d6, %f6, -, H6⟩, ⟨%f7, %hf7, H7⟩, ⟨%f8, %hf8, H8⟩, ⟨%f9, %hf9, H9⟩, Hp, HF, HW, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5
  obtain rfl := harg9.eq_unread hf7; obtain rfl := harg10.eq_unread hf8; obtain rfl := harg11.eq_unread hf9
  sl_exec (disch := first | sl_exact hc0 | sl_exact hc1 | sl_exact hc2)
  sl_step
  iapply Hk
  isplitl [H0 H1 H2 H3 H4 H5]
  · isplitl [H0]
    · iexists _; isplitr; swap; · iexact H0
      ipureintro; exact hf0
    isplitl [H1]
    · iexists _; isplitr; swap; · iexact H1
      ipureintro; exact hf1
    isplitl [H2]
    · iexists _; isplitr; swap; · iexact H2
      ipureintro; exact hf2
    isplitl [H3]
    · iexists _; isplitr; swap; · iexact H3
      ipureintro; exact hf3
    isplitl [H4]
    · iexists _; isplitr; swap; · iexact H4
      ipureintro; exact hf4
    iexists _; isplitr; swap; · iexact H5
    ipureintro; exact hf5
  isplitl [H6 H7 H8 H9]
  · isplitl [H6]
    · iexists _; isplitr; swap; · iexact H6
      ipureintro; (try frame_out); exact View.read_writes_full _ _ _ _ []
    isplitl [H7]
    · iexists _; isplitr; swap; · iexact H7
      ipureintro; (try frame_out); exact View.read_writes_full _ _ _ _ []
    isplitl [H8]
    · iexists _; isplitr; swap; · iexact H8
      ipureintro; (try frame_out); exact View.read_writes_full _ _ _ _ []
    iexists _; isplitr; swap; · iexact H9
    ipureintro; (try frame_out); exact View.read_writes_full _ _ _ _ []
  isplitl [HF_dst]; · iexact HF_dst
  isplitl [HF]
  · iexists _, _; isplitr; swap; · iexact HF
    ipureintro; refine (View.read_writes_whole _ _ _).trans ?_; frame_out; exact tile_read _ _
  iexists _; iexact HW

set_option maxHeartbeats 1000000 in
/-- The last step: as a middle one, and its own copy is waited for too. -/
theorem runD (c : Dev nD) (t : Fin cfg0.N) (arg1 : Memref sig .tc .vmem S512x1024 .f32) (harg1 : arg1.IsWhole) (arg2 : Memref sig .tc .vmem S512x1024 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S1x1024 .f32) (harg5 : arg5.IsWhole) (arg6 : Memref sig .tc .vmem S1x1024 .f32) (harg6 : arg6.IsWhole) (arg8 : Memref sig .tc .vmem S512x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (hc0 : later (grid0.coords t)) (hc1 : final (grid0.coords t)) (hc2 : ¬first (grid0.coords t))
    (x0 x1 : Vec F S512x1024 .f32) (x2 x3 : Vec F S512x512 .f32) (x4 x5 : Vec F S1x1024 .f32) (xo7 xo8 xo9 : Vec F S1x1024 .f32)
     (v : Fin 4) (fv : BufOf (F := F) c (piece v)) (ev : BufOf (F := F) c tile) (fp : BufOf (F := F) c (piece (stepOf t))) (W : Waits sig Unit) (K : PUnit → sProp 𝕄) :
    iprop(ins (F := F) c arg1 arg2 arg3 arg4 arg5 arg6 x0 x1 x2 x3 x4 x5 ∗ (∃ d, owns (c : Thread nD τ) arg8 fullShare d) ∗ owns (c : Thread nD τ) arg9 fullShare xo7 ∗ owns (c : Thread nD τ) arg10 fullShare xo8 ∗ owns (c : Thread nD τ) arg11 fullShare xo9 ∗ pieceP c (stepOf t) fp ∗ flightP c v fv ev ∗ owes (c : Thread nD τ) 0 W
        ∗ (iprop(ins (F := F) c arg1 arg2 arg3 arg4 arg5 arg6 x0 x1 x2 x3 x4 x5 ∗ outs (F := F) c arg8 arg9 arg10 arg11 (duAt x0 x1 x2 x3 x4 x5) (lgAt x0 x1 x2 x3 x4 x5 xo7) (lbAt x0 x1 x2 x3 x4 x5 xo8) (cbAt x0 x1 x2 x3 x4 x5 xo9) ∗ pieceP c v fv ∗ cellP c ∗ (∃ f, ⌜(piece (stepOf t)).view.read (Elt F) f = gateAt x0 x1 x2 x3 x4 x5⌝ ∗ pieceP c (stepOf t) f) ∗ (∃ e, tileP c e) ∗ (∃ W', owes (c : Thread nD τ) 0 W')) -∗ K ⟨⟩))
      ⊢ wp frame (wpE (defs₀ (F := F)) Variants.none c none) Set.univ (cc0_brc2_bwd (grid0.coords t) arg1 harg1 arg2 harg2 arg3 harg3 arg4 harg4 arg5 harg5 arg6 harg6 hbM (Memref.isWhole_whole _) arg8 harg8 arg9 harg9 arg10 harg10 arg11 harg11 hbM (Memref.isWhole_whole _) scM (Memref.isWhole_whole _) cc0_scratch1) K := by
  haveI : Fact (later (grid0.coords t)) := ⟨hc0⟩
  haveI : Fact (final (grid0.coords t)) := ⟨hc1⟩
  haveI : Fact (¬first (grid0.coords t)) := ⟨hc2⟩
  simp only [cc0_brc2_bwd_eq_skeleton]; unfold cc0_brc2_bwd_skel
  simp only [k0_part1_eq_skeleton, k0_part2_eq_skeleton, k0_part3_eq_skeleton]
  unfold ins outs owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨%d6, %f6, -, H6⟩, ⟨%f7, %hf7, H7⟩, ⟨%f8, %hf8, H8⟩, ⟨%f9, %hf9, H9⟩, Hp, HF, HW, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5
  obtain rfl := harg9.eq_unread hf7; obtain rfl := harg10.eq_unread hf8; obtain rfl := harg11.eq_unread hf9
  sl_exec (disch := first | sl_exact hc0 | sl_exact hc1 | sl_exact hc2)
  sl_step
  iapply Hk
  isplitl [H0 H1 H2 H3 H4 H5]
  · isplitl [H0]
    · iexists _; isplitr; swap; · iexact H0
      ipureintro; exact hf0
    isplitl [H1]
    · iexists _; isplitr; swap; · iexact H1
      ipureintro; exact hf1
    isplitl [H2]
    · iexists _; isplitr; swap; · iexact H2
      ipureintro; exact hf2
    isplitl [H3]
    · iexists _; isplitr; swap; · iexact H3
      ipureintro; exact hf3
    isplitl [H4]
    · iexists _; isplitr; swap; · iexact H4
      ipureintro; exact hf4
    iexists _; isplitr; swap; · iexact H5
    ipureintro; exact hf5
  isplitl [H6 H7 H8 H9]
  · isplitl [H6]
    · iexists _; isplitr; swap; · iexact H6
      ipureintro; (try frame_out); exact View.read_writes_full _ _ _ _ []
    isplitl [H7]
    · iexists _; isplitr; swap; · iexact H7
      ipureintro; (try frame_out); exact View.read_writes_full _ _ _ _ []
    isplitl [H8]
    · iexists _; isplitr; swap; · iexact H8
      ipureintro; (try frame_out); exact View.read_writes_full _ _ _ _ []
    iexists _; isplitr; swap; · iexact H9
    ipureintro; (try frame_out); exact View.read_writes_full _ _ _ _ []
  isplitl [HF_dst]; · iexact HF_dst
  isplitl [HF]; · iexact HF
  isplitl [Hp]
  · iexists _; isplitr; swap; · iexact Hp
    ipureintro; refine (View.read_writes_whole _ _ _).trans ?_; frame_out; exact tile_read _ _
  isplitl [HF_src]; · iexists _; iexact HF_src
  iexists _; iexact HW

end Cert.KernelBrC2Ideal.Hand

end
-- ==== Proof.BrC2Frame.lean ====
module

public import proofs.«01_k».proof.Proof.BrC2Run
public import Idealize.ShloMosaic.Lib.ViewIndex

@[expose] public section

set_option maxRecDepth 16384

noncomputable section

/-! # The second gate's backward kernel from launch to end

The copies out of the stash are one at a time: before step `k` (but the first) the copy of step `k - 1` is under way.
So before step `k` the array of the projection's gradient holds, outside the piece of that copy, what the first `k`
copies make of it (`sent k`), and the copy will hand the piece over at the same contents. -/

namespace Cert.KernelBrC2Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelBrC2Ideal Cert.KernelBrC2Ideal.Gen

variable {F : FTy → Type} [FloatOps F]

local notation "𝕄" => MT nD τ sig Unit (Elt F) ℕ (Pipeline.UD sig nD τ) ℕ

/-! ## The pieces -/

section Pieces
omit [FloatOps F]

theorem piece_emb (u : Fin 4) (y : S512x1024.Idx) (a : Fin 2) :
    ((piece u).view.emb y a : Nat) = (![512 * u.val, 8704] : Fin 2 → Nat) a + 1 * (y a).val := rfl

/-- The elements of step `u`'s piece. -/
abbrev pset (u : Fin 4) : Finset S2048x12800.Idx := (piece u).view.set

theorem pieces_disjoint {u v : Fin 4} (h : u ≠ v) : Disjoint (pset u) (pset v) := by
  refine Finset.disjoint_left.mpr fun i hi hj => h ?_
  obtain ⟨y, -, rfl⟩ := Finset.mem_map.mp hi
  obtain ⟨z, -, e⟩ := Finset.mem_map.mp hj
  have e0 := congrArg (fun i : S2048x12800.Idx => (i 0 : Nat)) e
  have hy : (y 0).val < 512 := (y 0).isLt
  have hz : (z 0).val < 512 := (z 0).isLt
  have e1 : 512 * v.val + 1 * (z 0).val = 512 * u.val + 1 * (y 0).val := e0
  exact Fin.ext (by omega)

theorem tile_set : tile.view.set = (Finset.univ : Finset S1x512x1024.Idx) := by
  simp only [tile, Memref.view_squeeze, View.set_reshape]
  exact (View.set_slice_whole _ _).trans (Rect.set_eq_univ_of_whole _ (by decide))

end Pieces

variable (m : (ℓ : Loc nD τ sig) → Buf (Elt F) ℓ) (ρ : Dev nD → PrngReg)

/-! ## What the steps leave -/

/-- The point of step `k`. -/
def pt (k : ℕ) : Fin cfg0.N := ⟨k % 4, lt_of_lt_of_eq (Nat.mod_lt k (by decide)) N_0.symm⟩
theorem pt_val (t : Fin cfg0.N) : pt t.val = t := by
  have ht : t.val < 4 := Nat.lt_of_lt_of_eq t.isLt N_0
  exact Fin.ext (Nat.mod_eq_of_lt ht)

/-- The three accumulated rows before step `k`. -/
def lgN (c : Dev nD) : ℕ → Vec F S1x1024 .f32
  | 0 => k0_pay13
  | k + 1 => lgAt (iblk m c 0 (pt k)) (iblk m c 1 (pt k)) (iblk m c 2 (pt k)) (iblk m c 3 (pt k)) (iblk m c 4 (pt k)) (iblk m c 5 (pt k)) (lgN c k)
def lbN (c : Dev nD) : ℕ → Vec F S1x1024 .f32
  | 0 => k0_pay16
  | k + 1 => lbAt (iblk m c 0 (pt k)) (iblk m c 1 (pt k)) (iblk m c 2 (pt k)) (iblk m c 3 (pt k)) (iblk m c 4 (pt k)) (iblk m c 5 (pt k)) (lbN c k)
def cbN (c : Dev nD) : ℕ → Vec F S1x1024 .f32
  | 0 => k0_pay3
  | k + 1 => cbAt (iblk m c 0 (pt k)) (iblk m c 1 (pt k)) (iblk m c 2 (pt k)) (iblk m c 3 (pt k)) (iblk m c 4 (pt k)) (iblk m c 5 (pt k)) (cbN c k)
/-- The rows of `du` of step `t`, and what its copy carries. -/
def duT (c : Dev nD) (t : Fin cfg0.N) : Vec F S512x1024 .f32 :=
  duAt (iblk m c 0 t) (iblk m c 1 t) (iblk m c 2 t) (iblk m c 3 t) (iblk m c 4 t) (iblk m c 5 t)
def gateT (c : Dev nD) (t : Fin cfg0.N) : Vec F S512x1024 .bf16 :=
  gateAt (iblk m c 0 t) (iblk m c 1 t) (iblk m c 2 t) (iblk m c 3 t) (iblk m c 4 t) (iblk m c 5 t)

/-- The array of the projection's gradient after the first `k` copies. -/
def sent (c : Dev nD) : ℕ → Buf (Elt F) ((c : Thread nD τ).loc main_v8_4)
  | 0 => V m c main_v8_4
  | k + 1 => (piece (Ring.bk 4 k)).view.write (Elt F) (sent c k) (gateT m c (pt k)) Finset.univ

theorem lgN_succ (c : Dev nD) (t : Fin cfg0.N) : lgN m c (t.val + 1) = lgAt (iblk m c 0 t) (iblk m c 1 t) (iblk m c 2 t) (iblk m c 3 t) (iblk m c 4 t) (iblk m c 5 t) (lgN m c t.val) := by
  rw [lgN, pt_val]
theorem lbN_succ (c : Dev nD) (t : Fin cfg0.N) : lbN m c (t.val + 1) = lbAt (iblk m c 0 t) (iblk m c 1 t) (iblk m c 2 t) (iblk m c 3 t) (iblk m c 4 t) (iblk m c 5 t) (lbN m c t.val) := by
  rw [lbN, pt_val]
theorem cbN_succ (c : Dev nD) (t : Fin cfg0.N) : cbN m c (t.val + 1) = cbAt (iblk m c 0 t) (iblk m c 1 t) (iblk m c 2 t) (iblk m c 3 t) (iblk m c 4 t) (iblk m c 5 t) (cbN m c t.val) := by
  rw [cbN, pt_val]

/-! ## Handing pieces out and taking them back -/

/-- The array, but for some of its elements. -/
abbrev restP (c : Dev nD) (S : Finset S2048x12800.Idx) (f : Buf (Elt F) ((c : Thread nD τ).loc main_v8_4)) : sProp 𝕄 :=
  ((c : Thread nD τ).loc main_v8_4) ↦[S]{fullShare} f

/-- A piece is held by what is read of it. -/
theorem piece_eq (c : Dev nD) (u : Fin 4) (f : BufOf (F := F) c (piece u)) (g : Buf (Elt F) ((c : Thread nD τ).loc main_v8_4)) (x : Vec F S512x1024 .bf16)
    (h : (piece u).view.read (Elt F) f = x) :
    pieceP c u f = restP c (pset u) ((piece u).view.write (Elt F) g x Finset.univ) := by
  refine pointsTo_congr fun i hi => ?_
  obtain ⟨y, -, rfl⟩ := Finset.mem_map.mp hi
  refine View.eq_of_read_eq (v := (piece u).view) (f := f) (x := y) ?_
  exact (congrFun h y).trans (congrFun (View.read_write_univ (v := (piece u).view) g x).symm y)

/-- Off the piece, the array is as before the write. -/
theorem rest_eq (c : Dev nD) (u : Fin 4) (S : Finset S2048x12800.Idx) (hS : Disjoint S (pset u)) (g : Buf (Elt F) ((c : Thread nD τ).loc main_v8_4)) (x : Vec F S512x1024 .bf16) :
    restP c S g = restP c S ((piece u).view.write (Elt F) g x Finset.univ) :=
  pointsTo_congr fun i hi => (View.write_of_not_mem _ _ _ (fun h => Finset.disjoint_left.mp hS hi h)).symm

theorem bk_val (k : ℕ) (h : k < 4) : (Ring.bk 4 k).val = k := Nat.mod_eq_of_lt h

/-- Before step `k` with a copy under way: the array off that copy's piece, and the copy. -/
def going (c : Dev nD) (k : ℕ) : sProp 𝕄 :=
  iprop(restP c (Finset.univ \ (pset (Ring.bk 4 k))) (sent m c (k + 1))
    ∗ ∃ f e, ⌜(piece (Ring.bk 4 k)).view.read (Elt F) f = gateT m c (pt k)⌝ ∗ flightP c (Ring.bk 4 k) f e)
/-- Nothing under way. -/
def still (c : Dev nD) (k : ℕ) : sProp 𝕄 :=
  iprop(cellP c ∗ (∃ e, tileP c e) ∗ restP c Finset.univ (sent m c k))

/-- A whole array gives a piece out. -/
theorem give (c : Dev nD) (u : Fin 4) (S : Finset S2048x12800.Idx) (hS : (pset u) ⊆ S) (g : Buf (Elt F) ((c : Thread nD τ).loc main_v8_4)) :
    restP c S g ⊢ iprop(pieceP c u g ∗ restP c (S \ (pset u)) g) := (pointsTo_split_subset hS).1
/-- A piece that reads what was to be written goes back in its place. -/
theorem take (c : Dev nD) (u : Fin 4) (S : Finset S2048x12800.Idx) (hS : (pset u) ⊆ S) (f : BufOf (F := F) c (piece u)) (g : Buf (Elt F) ((c : Thread nD τ).loc main_v8_4)) (x : Vec F S512x1024 .bf16)
    (h : (piece u).view.read (Elt F) f = x) :
    iprop(pieceP c u f ∗ restP c (S \ (pset u)) ((piece u).view.write (Elt F) g x Finset.univ))
      ⊢ restP c S ((piece u).view.write (Elt F) g x Finset.univ) := by
  rw [piece_eq c u f g x h]; exact (pointsTo_split_subset hS).2

theorem next_ne (k : ℕ) (h : k < 3) : Ring.bk 4 (k + 1) ≠ Ring.bk 4 k := fun e => by
  have := congrArg Fin.val e
  rw [bk_val _ (by omega), bk_val _ (by omega)] at this
  omega

/-- The copy of step `k` has come back while the piece of step `k + 1` is out. -/
theorem back (c : Dev nD) (k : ℕ) (h : k < 3) (f : BufOf (F := F) c (piece (Ring.bk 4 k))) (hf : (piece (Ring.bk 4 k)).view.read (Elt F) f = gateT m c (pt k)) :
    iprop(pieceP c (Ring.bk 4 k) f ∗ restP c ((Finset.univ \ (pset (Ring.bk 4 k))) \ (pset (Ring.bk 4 (k + 1)))) (sent m c (k + 1)))
      ⊢ restP c (Finset.univ \ (pset (Ring.bk 4 (k + 1)))) (sent m c (k + 1)) := by
  rw [sdiff_right_comm]
  exact take c (Ring.bk 4 k) _ (fun i hi => Finset.mem_sdiff.mpr ⟨Finset.mem_univ _, fun hj =>
    Finset.disjoint_left.mp (pieces_disjoint (next_ne k h)) hj hi⟩) f (sent m c k) (gateT m c (pt k)) hf

/-! ## The region's data -/

/-- What is held before step `k`. -/
def Phi (c : Dev nD) (k : ℕ) : sProp 𝕄 :=
  iprop((∃ r, prngReg c r) ∗ if k = 0 then still m c 0 else if k = 4 then still m c 4 else going m c (k - 1))

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => duT m c t
    | ⟨7, _⟩ => lgN m c (t.val + 1)
    | ⟨8, _⟩ => lbN m c (t.val + 1)
    | ⟨9, _⟩ => cbN m c (t.val + 1)
  Φ t := Phi m c t.val
  q w := Pipeline.shareOf spec0 w
  owed _ := 0

theorem A_eq (c : Dev nD) (w : Fin cfg0.W) : (dats m 0 c).A w = V m c (Pipeline.arrRef spec0 w) := by
  dsimp only [dats]
theorem Phi_castSucc (c : Dev nD) (t : Fin cfg0.N) : (dats m 0 c).Φ t.castSucc = Phi m c t.val := by
  dsimp only [dats]; simp only [Fin.coe_castSucc]
theorem Phi_succ (c : Dev nD) (t : Fin cfg0.N) : (dats m 0 c).Φ t.succ = Phi m c (t.val + 1) := by
  dsimp only [dats]; simp only [Fin.val_succ]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = duT m c t := by dsimp only [dats]
theorem after_7 (c : Dev nD) (t : Fin cfg0.N) : (dats m 0 c).after 7 t = lgN m c (t.val + 1) := by dsimp only [dats]
theorem after_8 (c : Dev nD) (t : Fin cfg0.N) : (dats m 0 c).after 8 t = lbN m c (t.val + 1) := by dsimp only [dats]
theorem after_9 (c : Dev nD) (t : Fin cfg0.N) : (dats m 0 c).after 9 t = cbN m c (t.val + 1) := by dsimp only [dats]

/-- An input's buffer holds its block at every point. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
/-- An accumulated row's buffer holds what the step before left. -/
theorem before_7 (c : Dev nD) (t : Fin cfg0.N) (h : 1 ≤ t.val) (d) : (dats m 0 c).before 7 t d = lgN m c t.val := by
  have hN : t.val < 4 := lt_of_lt_of_eq t.isLt (show cfg0.N = 4 from N_0)
  rw [Dat.before_out_kept _ 7 rfl t (by omega) (Bool.eq_false_iff.mpr fun h => by have := (flush0_7 _).mp h; dsimp only at this; omega)
    (fun _ => rfl) (fun _ _ => rfl), after_7]
  dsimp only
  rw [Nat.sub_add_cancel h]
theorem before_8 (c : Dev nD) (t : Fin cfg0.N) (h : 1 ≤ t.val) (d) : (dats m 0 c).before 8 t d = lbN m c t.val := by
  have hN : t.val < 4 := lt_of_lt_of_eq t.isLt (show cfg0.N = 4 from N_0)
  rw [Dat.before_out_kept _ 8 rfl t (by omega) (Bool.eq_false_iff.mpr fun h => by have := (flush0_8 _).mp h; dsimp only at this; omega)
    (fun _ => rfl) (fun _ _ => rfl), after_8]
  dsimp only
  rw [Nat.sub_add_cancel h]
theorem before_9 (c : Dev nD) (t : Fin cfg0.N) (h : 1 ≤ t.val) (d) : (dats m 0 c).before 9 t d = cbN m c t.val := by
  have hN : t.val < 4 := lt_of_lt_of_eq t.isLt (show cfg0.N = 4 from N_0)
  rw [Dat.before_out_kept _ 9 rfl t (by omega) (Bool.eq_false_iff.mpr fun h => by have := (flush0_9 _).mp h; dsimp only at this; omega)
    (fun _ => rfl) (fun _ _ => rfl), after_9]
  dsimp only
  rw [Nat.sub_add_cancel h]
abbrev ms_0 (t : Fin cfg0.N) : Memref sig .tc .vmem S512x1024 .f32 := win0_0.stage (cfg0.slots t 0)
abbrev ms_1 (t : Fin cfg0.N) : Memref sig .tc .vmem S512x1024 .f32 := win0_1.stage (cfg0.slots t 1)
abbrev ms_2 (t : Fin cfg0.N) : Memref sig .tc .vmem S512x512 .f32 := win0_2.stage (cfg0.slots t 2)
abbrev ms_3 (t : Fin cfg0.N) : Memref sig .tc .vmem S512x512 .f32 := win0_3.stage (cfg0.slots t 3)
abbrev ms_4 (t : Fin cfg0.N) : Memref sig .tc .vmem S1x1024 .f32 := win0_4.stage (cfg0.slots t 4)
abbrev ms_5 (t : Fin cfg0.N) : Memref sig .tc .vmem S1x1024 .f32 := win0_5.stage (cfg0.slots t 5)
abbrev ms_6 (t : Fin cfg0.N) : Memref sig .tc .vmem S512x1024 .f32 := win0_6.stage (cfg0.slots t 6)
abbrev ms_7 (t : Fin cfg0.N) : Memref sig .tc .vmem S1x1024 .f32 := win0_7.stage (cfg0.slots t 7)
abbrev ms_8 (t : Fin cfg0.N) : Memref sig .tc .vmem S1x1024 .f32 := win0_8.stage (cfg0.slots t 8)
abbrev ms_9 (t : Fin cfg0.N) : Memref sig .tc .vmem S1x1024 .f32 := win0_9.stage (cfg0.slots t 9)

/-- What the body is called with at a point, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d))
    ∗ (∃ d, owns (c : Thread nD τ) (ms_7 t) fullShare ((dats m 0 c).before 7 t d))
    ∗ (∃ d, owns (c : Thread nD τ) (ms_8 t) fullShare ((dats m 0 c).before 8 t d))
    ∗ (∃ d, owns (c : Thread nD τ) (ms_9 t) fullShare ((dats m 0 c).before 9 t d)))
def bodyPost (c : Dev nD) (t : Fin cfg0.N) : sProp 𝕄 :=
  iprop((dats m 0 c).Φ t.succ ∗ (dats m 0 c).owesAt () t.succ
    ∗ owns (c : Thread nD τ) (ms_0 t) fullShare ((dats m 0 c).after 0 t)
    ∗ owns (c : Thread nD τ) (ms_1 t) fullShare ((dats m 0 c).after 1 t)
    ∗ owns (c : Thread nD τ) (ms_2 t) fullShare ((dats m 0 c).after 2 t)
    ∗ owns (c : Thread nD τ) (ms_3 t) fullShare ((dats m 0 c).after 3 t)
    ∗ owns (c : Thread nD τ) (ms_4 t) fullShare ((dats m 0 c).after 4 t)
    ∗ owns (c : Thread nD τ) (ms_5 t) fullShare ((dats m 0 c).after 5 t)
    ∗ owns (c : Thread nD τ) (ms_6 t) fullShare ((dats m 0 c).after 6 t)
    ∗ owns (c : Thread nD τ) (ms_7 t) fullShare ((dats m 0 c).after 7 t)
    ∗ owns (c : Thread nD τ) (ms_8 t) fullShare ((dats m 0 c).after 8 t)
    ∗ owns (c : Thread nD τ) (ms_9 t) fullShare ((dats m 0 c).after 9 t))

set_option maxHeartbeats 1000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [after_0, after_1, after_2, after_3, after_4, after_5, after_6, after_7, after_8, after_9]
  rw [Phi_castSucc m c t, Phi_succ m c t]
  unfold Dat.owesAt Pipeline.owesWithin
  rw [show (dats m 0 c).owed t.castSucc = 0 from rfl, show (dats m 0 c).owed t.succ = 0 from rfl]
  have ht : t.val < 4 := lt_of_lt_of_eq t.isLt (show cfg0.N = 4 from N_0)
  have hp : pt t.val = t := pt_val t
  rw [lgN_succ, lbN_succ, cbN_succ]
  by_cases h0 : t.val = 0
  · have e7 : lgN m c t.val = k0_pay13 := by rw [h0]; rfl
    have e8 : lbN m c t.val = k0_pay16 := by rw [h0]; rfl
    have e9 : cbN m c t.val = k0_pay3 := by rw [h0]; rfl
    rw [e7, e8, e9]
    rw [show Phi m c t.val = iprop((∃ r, prngReg c r) ∗ still m c t.val) by unfold Phi; rw [if_pos h0, h0],
      show Phi m c (t.val + 1) = iprop((∃ r, prngReg c r) ∗ going m c t.val) by
        unfold Phi; rw [if_neg (by omega), if_neg (by omega), Nat.add_sub_cancel]]
    unfold still going
    iintro ⟨⟨Hg, Hq, ⟨%ev, Ht⟩, Hr⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    ihave Hx := (give (F := F) c (stepOf t) Finset.univ (Finset.subset_univ _) (sent m c t.val)) $$ Hr
    icases Hx with ⟨Hp, Hr⟩
    iapply (runA c t _ _ _ _ _ _ _ _ _ _ _ _ _ _ _ _ _ _ _ _ (fun h => by have := (later_iff t).mp h; omega) (fun h => by have := (final_iff t).mp h; omega) ((first_iff t).mpr (by omega))
      (iblk m c 0 t) (iblk m c 1 t) (iblk m c 2 t) (iblk m c 3 t) (iblk m c 4 t) (iblk m c 5 t) ev (sent m c t.val) W _)
    unfold ins outs
    isplitl [H0 H1 H2 H3 H4 H5]
    · isplitl [H0]; · iexact H0
      isplitl [H1]; · iexact H1
      isplitl [H2]; · iexact H2
      isplitl [H3]; · iexact H3
      isplitl [H4]; · iexact H4
      iexact H5
    isplitl [H6]; · iexists _; iexact H6
    isplitl [H7]; · iexists _; iexact H7
    isplitl [H8]; · iexists _; iexact H8
    isplitl [H9]; · iexists _; iexact H9
    isplitl [Hp]; · iexact Hp
    isplitl [Hq]; · iexact Hq
    isplitl [Ht]; · iexact Ht
    isplitl [HW]; · iexact HW
    iintro ⟨⟨H0, H1, H2, H3, H4, H5⟩, ⟨H6, H7, H8, H9⟩, ⟨%f, %e, %hf, HF⟩, ⟨%W', HW'⟩⟩
    isplitl [Hg Hr HF]
    · isplitl [Hg]; · iexact Hg
      isplitl [Hr]
      · rw [show sent m c (t.val + 1) = (piece (stepOf t)).view.write (Elt F) (sent m c t.val) (gateT m c (pt t.val)) Finset.univ from rfl,
          ← rest_eq c (stepOf t) _ Finset.sdiff_disjoint]
        iexact Hr
      iexists f, e; isplitr; swap; · iexact HF
      ipureintro; rw [hp]; exact hf
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  have h1 : 1 ≤ t.val := by omega
  obtain ⟨k, hk⟩ : ∃ k, k + 1 = t.val := ⟨t.val - 1, by omega⟩
  have hkk : k = t.val - 1 := by omega
  have hne : stepOf t ≠ Ring.bk 4 k := by have := next_ne k (by omega); rwa [hk] at this
  have hsub : pset (stepOf t) ⊆ Finset.univ \ pset (Ring.bk 4 k) := fun i hi =>
    Finset.mem_sdiff.mpr ⟨Finset.mem_univ _, fun h => Finset.disjoint_left.mp (pieces_disjoint hne) hi h⟩
  simp only [before_7 m c t h1, before_8 m c t h1, before_9 m c t h1]
  by_cases h3 : t.val = 3
  · rw [show Phi m c t.val = iprop((∃ r, prngReg c r) ∗ going m c k) by unfold Phi; rw [if_neg (by omega), if_neg (by omega), show t.val - 1 = k by omega],
      show Phi m c (t.val + 1) = iprop((∃ r, prngReg c r) ∗ still m c (t.val + 1)) by
        unfold Phi; rw [if_neg (by omega), if_pos (by omega), show t.val + 1 = 4 by omega]]
    unfold still going
    rw [hk]
    iintro ⟨⟨Hg, Hr, ⟨%fv, %ev, %hv, HF⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    ihave Hx := (give (F := F) c (stepOf t) _ hsub (sent m c t.val)) $$ Hr
    icases Hx with ⟨Hp, Hr⟩
    iapply (runD c t _ _ _ _ _ _ _ _ _ _ _ _ _ _ _ _ _ _ _ _ ((later_iff t).mpr h1) ((final_iff t).mpr (by omega)) (fun h => by have := (first_iff t).mp h; omega)
      (iblk m c 0 t) (iblk m c 1 t) (iblk m c 2 t) (iblk m c 3 t) (iblk m c 4 t) (iblk m c 5 t) (lgN m c t.val) (lbN m c t.val) (cbN m c t.val) (Ring.bk 4 k) fv ev (sent m c t.val) W _)
    unfold ins outs
    isplitl [H0 H1 H2 H3 H4 H5]
    · isplitl [H0]; · iexact H0
      isplitl [H1]; · iexact H1
      isplitl [H2]; · iexact H2
      isplitl [H3]; · iexact H3
      isplitl [H4]; · iexact H4
      iexact H5
    isplitl [H6]; · iexists _; iexact H6
    isplitl [H7]; · iexact H7
    isplitl [H8]; · iexact H8
    isplitl [H9]; · iexact H9
    isplitl [Hp]; · iexact Hp
    isplitl [HF]; · iexact HF
    isplitl [HW]; · iexact HW
    iintro ⟨⟨H0, H1, H2, H3, H4, H5⟩, ⟨H6, H7, H8, H9⟩, Hv, Hq, ⟨%f, %hf, Hp⟩, ⟨%e, Ht⟩, ⟨%W', HW'⟩⟩
    isplitl [Hg Hr Hv Hq Hp Ht]
    · isplitl [Hg]; · iexact Hg
      isplitl [Hq]; · iexact Hq
      isplitl [Ht]; · iexists e; iexact Ht
      ihave Hb := (back m c k (by omega) fv hv) $$ [Hv Hr]
      · isplitl [Hv]; · iexact Hv
        rw [hk]; iexact Hr
      rw [hk]
      rw [show sent m c (t.val + 1) = (piece (stepOf t)).view.write (Elt F) (sent m c t.val) (gateT m c (pt t.val)) Finset.univ from rfl]
      iapply (take c (stepOf t) Finset.univ (Finset.subset_univ _) f (sent m c t.val) (gateT m c (pt t.val)) (by rw [hp]; exact hf))
      isplitl [Hp]; · iexact Hp
      rw [← rest_eq c (stepOf t) _ Finset.sdiff_disjoint]
      iexact Hb
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · rw [show Phi m c t.val = iprop((∃ r, prngReg c r) ∗ going m c k) by unfold Phi; rw [if_neg (by omega), if_neg (by omega), show t.val - 1 = k by omega],
      show Phi m c (t.val + 1) = iprop((∃ r, prngReg c r) ∗ going m c t.val) by
        unfold Phi; rw [if_neg (by omega), if_neg (by omega), Nat.add_sub_cancel]]
    unfold going
    rw [hk]
    iintro ⟨⟨Hg, Hr, ⟨%fv, %ev, %hv, HF⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    ihave Hx := (give (F := F) c (stepOf t) _ hsub (sent m c t.val)) $$ Hr
    icases Hx with ⟨Hp, Hr⟩
    iapply (runB c t _ _ _ _ _ _ _ _ _ _ _ _ _ _ _ _ _ _ _ _ ((later_iff t).mpr h1) (fun h => by have := (final_iff t).mp h; omega) (fun h => by have := (first_iff t).mp h; omega)
      (iblk m c 0 t) (iblk m c 1 t) (iblk m c 2 t) (iblk m c 3 t) (iblk m c 4 t) (iblk m c 5 t) (lgN m c t.val) (lbN m c t.val) (cbN m c t.val) (Ring.bk 4 k) fv ev (sent m c t.val) W _)
    unfold ins outs
    isplitl [H0 H1 H2 H3 H4 H5]
    · isplitl [H0]; · iexact H0
      isplitl [H1]; · iexact H1
      isplitl [H2]; · iexact H2
      isplitl [H3]; · iexact H3
      isplitl [H4]; · iexact H4
      iexact H5
    isplitl [H6]; · iexists _; iexact H6
    isplitl [H7]; · iexact H7
    isplitl [H8]; · iexact H8
    isplitl [H9]; · iexact H9
    isplitl [Hp]; · iexact Hp
    isplitl [HF]; · iexact HF
    isplitl [HW]; · iexact HW
    iintro ⟨⟨H0, H1, H2, H3, H4, H5⟩, ⟨H6, H7, H8, H9⟩, Hv, ⟨%f, %e, %hf, HF⟩, ⟨%W', HW'⟩⟩
    isplitl [Hg Hr Hv HF]
    · isplitl [Hg]; · iexact Hg
      isplitl [Hr Hv]
      · ihave Hb := (back m c k (by omega) fv hv) $$ [Hv Hr]
        · isplitl [Hv]; · iexact Hv
          rw [hk]; iexact Hr
        rw [hk]
        rw [show sent m c (t.val + 1) = (piece (stepOf t)).view.write (Elt F) (sent m c t.val) (gateT m c (pt t.val)) Finset.univ from rfl,
          ← rest_eq c (stepOf t) _ Finset.sdiff_disjoint]
        iexact Hb
      iexists f, e; isplitr; swap; · iexact HF
      ipureintro; rw [hp]; exact hf
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

abbrev osem0 : Fin 1 → SemLoc sig := fun j => (![SemLoc.dma 15] : Fin 1 → SemLoc sig) j
theorem ownSemFacts0 : Pipeline.OwnSemFacts spec0 osem0 := by decide
theorem ownSems_eq (c : Dev nD) :
    (Pipeline.ownSems0 (Ix := Unit) (Name := ℕ) (U := Pipeline.UD sig nD τ) (Lvl := ℕ) (Val := Elt F) (τ := τ) osem0 c : sProp 𝕄) = cellP c := by
  rw [Pipeline.ownSems0_eq_of_list c osem0 [0] (by decide) (by decide)]; rfl
/-- The array the copies write. -/
def written : Finset (Ref sig .tc) := {main_v8_4}
theorem written_sub : written ⊆ Pipeline.restRefs sig spec0 \ ∅ := by decide

theorem PhiDRG_eq (c : Dev nD) (G' : (c : Dev nD) → (b : Ref sig .tc) → Buf (Elt F) ((c : Thread nD τ).loc b)) :
    (Pipeline.ΦDRG osem0 spec0 ∅ written (V m) G' c : sProp 𝕄)
      = iprop((∃ f : Buf (Elt F) ((c : Thread nD τ).loc cc0_scratch0), ((c : Thread nD τ).loc cc0_scratch0) ↦{fullShare} f) ∗ (∃ r, prngReg c r)
        ∗ cellP c ∗ BI.emp ∗ restP c Finset.univ (G' c main_v8_4)) := by
  rw [Pipeline.ΦDRG_eq, scopedRest0_eq, ownSems_eq, bigSep_empty]; unfold written; rw [Pipeline.routed_singleton]

theorem tile_eq (c : Dev nD) (e : Buf (Elt F) ((c : Thread nD τ).loc cc0_scratch0)) :
    tileP c e = (((c : Thread nD τ).loc cc0_scratch0) ↦{fullShare} e : sProp 𝕄) :=
  congrArg (fun S : Finset S1x512x1024.Idx => (((c : Thread nD τ).loc cc0_scratch0) ↦[S]{fullShare} e : sProp 𝕄)) tile_set

/-- What the launch leaves in the buffers the copies write. -/
def left (c : Dev nD) : (b : Ref sig .tc) → Buf (Elt F) ((c : Thread nD τ).loc b) := Function.update (V m c) main_v8_4 (sent m c 4)
theorem left_eq (c : Dev nD) : left m c main_v8_4 = sent m c 4 := Function.update_self _ _ _

theorem hin (c : Dev nD) : Pipeline.ΦDRG osem0 spec0 ∅ written (V m) (V m) c ⊢ (dats m 0 c).Φ 0 := by
  rw [PhiDRG_eq, show (dats m 0 c).Φ 0 = iprop((∃ r, prngReg c r) ∗ still m c 0) from rfl]
  unfold still
  iintro ⟨⟨%e, Ht⟩, Hg, Hq, -, Hr⟩
  isplitl [Hg]; · iexact Hg
  isplitl [Hq]; · iexact Hq
  isplitl [Ht]
  · iexists e; rw [tile_eq]; iexact Ht
  iexact Hr
theorem hout (c : Dev nD) : (dats m 0 c).Φ (Fin.last cfg0.N) ⊢ Pipeline.ΦDRG osem0 spec0 ∅ written (V m) (left m) c := by
  rw [PhiDRG_eq, show (dats m 0 c).Φ (Fin.last cfg0.N) = Phi m c grid0.N from rfl, show grid0.N = 4 by rw [N_0], left_eq,
    show Phi m c 4 = iprop((∃ r, prngReg c r) ∗ still m c 4) by unfold Phi; rw [if_neg (by decide), if_pos rfl]]
  unfold still
  iintro ⟨Hg, Hq, ⟨%e, Ht⟩, Hr⟩
  isplitl [Ht]
  · iexists e; iapply (Entails.of_eq (tile_eq c e)); iexact Ht
  isplitl [Hg]; · iexact Hg
  isplitl [Hq]; · iexact Hq
  isplitr; · iempintro
  iexact Hr

theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
/-- Every execution ends, the arrays as the region's data say, the copied array as the copies leave it, every counter
at zero. -/
theorem run_main : θ_run defs (onTc (τ := τ) (main (F := F))) (s₀ m ρ)
    (fun r => Pipeline.FramePostRG cfgs (dats m) 0 written (V m) (left m) r ∧ r.2.sem = fun _ => 0) :=
  Pipeline.θ_run_frame_dmaRG_shared (Q' := _) cfgs (dats m) (0 : Fin 1) launch₀0 osem0 defs₀ Variants.none ownSemFacts0 ∅ written (by decide) written_sub m ρ main
    (hbody := fun c => (body_obligation m c).loose) (hq := fun _ _ _ => rfl) (howed := fun _ _ => rfl) (V := V m) (hmain := hmain m Variants.none) (hA := A_eq m)
    (G := left m) (hin := hin m) (hout := hout m)

/-- What a run leaves of the arguments and the results. -/
theorem run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_v8_0) = (dats m 0 c).arrAt 6 cfg0.N
      ∧ r.2.mem ((c.tc : Thread nD τ).loc main_v8_1) = (dats m 0 c).arrAt 7 cfg0.N
      ∧ r.2.mem ((c.tc : Thread nD τ).loc main_v8_2) = (dats m 0 c).arrAt 8 cfg0.N
      ∧ r.2.mem ((c.tc : Thread nD τ).loc main_v8_3) = (dats m 0 c).arrAt 9 cfg0.N
      ∧ r.2.mem ((c.tc : Thread nD τ).loc main_v8_4) = sent m c 4)
      ∧ r.2.sem = fun _ => 0) :=
  (θ_run defs _ _).mono (fun r h => ⟨fun c => by
    have hr : ∀ b ∈ Pipeline.restRefs sig spec0 \ written, r.2.mem ((c.tc : Thread nD τ).loc b) = V m c b := (h.1.1 c).2
    exact ⟨(hr main_arg0 (by decide)).trans (V_main_arg0 m c), (hr main_arg1 (by decide)).trans (V_main_arg1 m c), (hr main_arg2 (by decide)).trans (V_main_arg2 m c),
      (hr main_arg3 (by decide)).trans (V_main_arg3 m c), (hr main_arg4 (by decide)).trans (V_main_arg4 m c), (hr main_arg5 (by decide)).trans (V_main_arg5 m c),
      (hr main_arg6 (by decide)).trans (V_main_arg6 m c), (h.1.1 c).1 6, (h.1.1 c).1 7, (h.1.1 c).1 8, (h.1.1 c).1 9,
      (h.1.written c (Finset.mem_singleton_self _)).trans (left_eq m c)⟩, h.2⟩) (run_main m ρ)

end Cert.KernelBrC2Ideal.Hand

end
-- ==== Proof.BrC2Val.lean ====
/-
  What one step of the second gate's backward kernel computes, and what its copies and its accumulated rows come to, over
  the reals.
-/
module

public import proofs.«01_k».proof.Proof.BrC2Ref
public import proofs.«01_k».proof.Proof.BrC2Frame
public import proofs.«01_k».proof.Proof.FiniteArgs
public import proofs.«01_k».proof.Pre_finite_brc2
public import proofs.«01_k».proof.Defs

@[expose] public section

set_option maxRecDepth 16384

noncomputable section

namespace Cert.BrC2

open Idealize.ShloMosaic Idealize.ShloMosaic.TcCoe Idealize.SL.Sem
open Cert.KernelBrC2Ideal Cert.KernelBrC2Ideal.Gen Cert.KernelBrC2Ideal.Hand Cert.Maths

instance facts_finite_brc2 : Cert.Pre_finite_brc2.Facts := ⟨by decide, by decide, by decide⟩

section Block

variable {x0 x1 : Vec Ideal S512x1024 .f32} {x2 x3 : Vec Ideal S512x512 .f32} {x4 x5 : Vec Ideal S1x1024 .f32}
  {D U C : Fin 512 → Fin 1024 → ℝ} {G B : Fin 1024 → ℝ}

section Norm
variable (hu : ∀ r i, x1 (ix2 r i) = (U r i : EReal))
include hu

theorem cen_at (r i) : k0_pay7 (F := Ideal) x1 (ix2 r i) = (Layer.cen 1024 (U r) i : EReal) := by
  pointwise [k0_pay7]
  rw [w_1024, Ideal.div_coe (by norm_num)]
  simp only [hu, zero_add, ← EReal.coe_mul, ← coe_sum, ← EReal.coe_sub]
  rfl

theorem inv_at (r) : k0_pay8 (F := Ideal) x1 (ix2 r 0) = (Layer.inv 1024 (U r) : EReal) := by
  have h := cen_at hu r
  rw [← Layer.rsqrt_at _ (by norm_num)]
  unfold k0_pay8
  generalize k0_pay7 (F := Ideal) x1 = y at h ⊢
  pointwise
  rw [w_1024, Layer.w_eps, Ideal.div_coe (by norm_num)]
  simp only [h, zero_add, ← EReal.coe_mul, ← coe_sum, ← EReal.coe_add]
  rfl

theorem xn_at (r i) : k0_pay9 (F := Ideal) x1 (ix2 r i) = (Layer.xn 1024 (U r) i : EReal) := by
  have h := cen_at hu r i
  have h' := inv_at hu r
  unfold k0_pay9
  generalize k0_pay7 (F := Ideal) x1 = y at h ⊢
  generalize k0_pay8 (F := Ideal) x1 = y at h' ⊢
  pointwise
  rw [h, h', ← EReal.coe_mul]
  rfl

variable (hg : ∀ i, x4 (ix2 0 i) = (G i : EReal)) (hb : ∀ i, x5 (ix2 0 i) = (B i : EReal))
include hg hb

theorem ln_at (r i) : k0_pay10 (F := Ideal) x1 x4 x5 (ix2 r i) = (ln U G B r i : EReal) := by
  have h := xn_at hu r i
  unfold k0_pay10
  generalize k0_pay9 (F := Ideal) x1 = y at h ⊢
  pointwise
  rw [h, hg, hb, ← EReal.coe_mul, ← EReal.coe_add]
  rfl

end Norm

theorem gate_cat (hc : ∀ r (j : Fin 512), x2 (ix2 r j) = (C r ⟨j.val, by omega⟩ : EReal))
    (hc' : ∀ r (j : Fin 512), x3 (ix2 r j) = (C r ⟨512 + j.val, by omega⟩ : EReal)) (r i) :
    k0_pay5 (F := Ideal) x2 x3 (ix2 r i) = (C r i : EReal) := by
  pointwise [k0_pay5]
  by_cases h : i.val < 512
  · rw [dif_pos h, hc]
  · rw [dif_neg h, hc']
    exact congrArg _ (congrArg (C r) (Fin.ext (Nat.add_sub_cancel' (not_lt.mp h))))

section Gates
variable {v4 v8 v34 : FVec Ideal S512x1024 .f32} {L : Fin 512 → Fin 1024 → ℝ} (h4 : ∀ r i, v4 (ix2 r i) = (C r i : EReal))
  (h8 : ∀ r i, v8 (ix2 r i) = (D r i : EReal)) (h34 : ∀ r i, v34 (ix2 r i) = (L r i : EReal))
include h4 h8 h34

theorem pay12_at (r i) : k0_pay12 (F := Ideal) v4 v8 v34 (ix2 r i)
    = ((D r i * (C r i * Layer.sg (C r i)) * Layer.dsilu (L r i) : ℝ) : EReal) := by
  pointwise [k0_pay12]
  simp only [h4, h8, h34, Layer.sg_of_sub, Layer.sg_of_neg, Layer.coe_one_sub, ← EReal.coe_mul, Layer.coe_one_add]
  rfl

theorem pay11_at (r i) : k0_pay11 (F := Ideal) v4 v8 v34 (ix3 0 r i)
    = ((D r i * (L r i * Layer.sg (L r i)) * Layer.dsilu (C r i) : ℝ) : EReal) := by
  pointwise [k0_pay11]
  simp only [h4, h8, h34, Layer.sg_of_sub, Layer.sg_of_neg, Layer.coe_one_sub, ← EReal.coe_mul, Layer.coe_one_add]
  rfl

end Gates

section Acc
variable {v24 : FVec Ideal S512x1 .f32} {v26 v95 : FVec Ideal S512x1024 .f32} {A : Fin 512 → Fin 1024 → ℝ}
  (h24 : ∀ r, v24 (ix2 r 0) = (Layer.inv 1024 (U r) : EReal)) (h26 : ∀ r i, v26 (ix2 r i) = (Layer.xn 1024 (U r) i : EReal))
  (h95 : ∀ r i, v95 (ix2 r i) = (A r i : EReal)) (hg : ∀ i, x4 (ix2 0 i) = (G i : EReal))
include h24 h26 h95 hg

theorem pay2_at (r i) : k0_pay2 (F := Ideal) v24 v26 v95 x4 (ix2 r i) = (Layer.dx 1024 (U r) (fun j => A r j * G j) i : EReal) := by
  pointwise [k0_pay2]
  simp only [h24, h26, h95, hg, w_1024, Ideal.div_coe (show (1024 : ℝ) ≠ 0 by norm_num), zero_add, ← EReal.coe_mul, ← coe_sum, ← EReal.coe_sub]
  rfl

theorem pay4_at (prev) (i) : k0_pay4 (F := Ideal) v24 v26 v95 x4 prev (ix2 0 i)
    = prev (ix2 0 i) + ((∑ r, Layer.dx 1024 (U r) (fun j => A r j * G j) i : ℝ) : EReal) := by
  have h := pay2_at h24 h26 h95 hg
  unfold k0_pay4
  generalize k0_pay2 (F := Ideal) v24 v26 v95 x4 = y at h ⊢
  pointwise
  simp only [h, zero_add, ← coe_sum]

end Acc

variable (hd : ∀ r i, x0 (ix2 r i) = (D r i : EReal)) (hu : ∀ r i, x1 (ix2 r i) = (U r i : EReal))
  (hc : ∀ r (j : Fin 512), x2 (ix2 r j) = (C r ⟨j.val, by omega⟩ : EReal))
  (hc' : ∀ r (j : Fin 512), x3 (ix2 r j) = (C r ⟨512 + j.val, by omega⟩ : EReal))
  (hg : ∀ i, x4 (ix2 0 i) = (G i : EReal)) (hb : ∀ i, x5 (ix2 0 i) = (B i : EReal))
include hd hu hc hc' hg hb

theorem d_at (r i) : k0_pay6 (F := Ideal) x0 (ix2 r i) = (D r i : EReal) := by
  rw [← hd]
  pointwise [k0_pay6]

theorem dlnAt_at (r i) : dlnAt (F := Ideal) x0 x1 x2 x3 x4 x5 (ix2 r i) = (dln D U G B C r i : EReal) :=
  pay12_at (gate_cat hc hc') (d_at hd hu hc hc' hg hb) (ln_at hu hg hb) r i

theorem gateAt_at (r i) : gateAt (F := Ideal) x0 x1 x2 x3 x4 x5 (ix2 r i) = (dgate D U G B C r i : EReal) := by
  have h := pay11_at (gate_cat hc hc') (d_at hd hu hc hc' hg hb) (ln_at hu hg hb) r i
  change shapeCast S512x1024 (k0_pay11 (k0_pay5 x2 x3) (k0_pay6 x0) (k0_pay10 x1 x4 x5)) squeezes_S1x512x1024_S512x1024.numel_eq (ix2 r i) = _
  generalize k0_pay11 (F := Ideal) (k0_pay5 x2 x3) (k0_pay6 x0) (k0_pay10 x1 x4 x5) = y at h ⊢
  pointwise
  rw [h]
  rfl

theorem duAt_at (r i) : duAt (F := Ideal) x0 x1 x2 x3 x4 x5 (ix2 r i) = (du D U G B C r i : EReal) :=
  pay2_at (inv_at hu) (xn_at hu) (dlnAt_at hd hu hc hc' hg hb) hg r i

theorem cbAt_at (prev) (i) : cbAt (F := Ideal) x0 x1 x2 x3 x4 x5 prev (ix2 0 i)
    = prev (ix2 0 i) + ((∑ r, du D U G B C r i : ℝ) : EReal) :=
  pay4_at (inv_at hu) (xn_at hu) (dlnAt_at hd hu hc hc' hg hb) hg prev i

theorem lgAt_at (prev) (i) : lgAt (F := Ideal) x0 x1 x2 x3 x4 x5 prev (ix2 0 i)
    = prev (ix2 0 i) + ((∑ r, dln D U G B C r i * Layer.xn 1024 (U r) i : ℝ) : EReal) := by
  have h := dlnAt_at hd hu hc hc' hg hb
  have h' := xn_at hu
  unfold lgAt k0_pay14
  unfold dlnAt at h
  generalize k0_pay12 (F := Ideal) (k0_pay5 x2 x3) (k0_pay6 x0) (k0_pay10 x1 x4 x5) = y at h ⊢
  generalize k0_pay9 (F := Ideal) x1 = y at h' ⊢
  pointwise
  simp only [h, h', zero_add, ← EReal.coe_mul, ← coe_sum]

theorem lbAt_at (prev) (i) : lbAt (F := Ideal) x0 x1 x2 x3 x4 x5 prev (ix2 0 i)
    = prev (ix2 0 i) + ((∑ r, dln D U G B C r i : ℝ) : EReal) := by
  have h := dlnAt_at hd hu hc hc' hg hb
  unfold lbAt k0_pay15 k0_pay1
  unfold dlnAt at h
  generalize k0_pay12 (F := Ideal) (k0_pay5 x2 x3) (k0_pay6 x0) (k0_pay10 x1 x4 x5) = y at h ⊢
  pointwise
  simp only [h, zero_add, ← coe_sum]

end Block

/-! ## The arrays -/

variable (m : (ℓ : Loc nD τ sig) → Buf (Elt Ideal) ℓ) (c : Dev nD)

theorem read_d (R i) : V m c main_v4 (ix2 R i) = m ((c : Thread nD τ).loc main_arg0) (ix3 0 R i) := by
  entry_read
  pointwise
  blk_ext

theorem read_u (R i) : V m c main_v3 (ix2 R i)
    = @HAdd.hAdd EReal EReal EReal _ (m ((c : Thread nD τ).loc main_arg1) (ix3 0 R i)) (m ((c : Thread nD τ).loc main_arg2) (ix1 i)) := by
  entry_read
  pointwise

theorem read_p (R k) : V m c main_v5 (ix2 R k) = m ((c : Thread nD τ).loc main_arg5) (ix3 0 R k) := by
  entry_read
  pointwise
  blk_ext

theorem read_g (i) : V m c main_v6 (ix2 0 i) = m ((c : Thread nD τ).loc main_arg3) (ix1 i) := by
  entry_read
  pointwise

theorem read_b (i) : V m c main_v7 (ix2 0 i) = m ((c : Thread nD τ).loc main_arg4) (ix1 i) := by
  entry_read
  pointwise

/-- The real arguments behind the arrays. -/
abbrev rd (R : Fin 2048) (i : Fin 1024) : ℝ := EReal.toReal (m ((c : Thread nD τ).loc main_arg0) (ix3 0 R i))
abbrev rx (R : Fin 2048) (i : Fin 1024) : ℝ := EReal.toReal (m ((c : Thread nD τ).loc main_arg1) (ix3 0 R i))
abbrev rk (i : Fin 1024) : ℝ := EReal.toReal (m ((c : Thread nD τ).loc main_arg2) (ix1 i))
abbrev rg (i : Fin 1024) : ℝ := EReal.toReal (m ((c : Thread nD τ).loc main_arg3) (ix1 i))
abbrev rb (i : Fin 1024) : ℝ := EReal.toReal (m ((c : Thread nD τ).loc main_arg4) (ix1 i))
abbrev rp (R : Fin 2048) (k : Fin 12800) : ℝ := EReal.toReal (m ((c : Thread nD τ).loc main_arg5) (ix3 0 R k))

/-- Every entry of the arguments but the projection's gradient is a real. -/
structure Finite : Prop where
  d : ∀ R i, m ((c : Thread nD τ).loc main_arg0) (ix3 0 R i) = (rd m c R i : EReal)
  x : ∀ R i, m ((c : Thread nD τ).loc main_arg1) (ix3 0 R i) = (rx m c R i : EReal)
  k : ∀ i, m ((c : Thread nD τ).loc main_arg2) (ix1 i) = (rk m c i : EReal)
  g : ∀ i, m ((c : Thread nD τ).loc main_arg3) (ix1 i) = (rg m c i : EReal)
  b : ∀ i, m ((c : Thread nD τ).loc main_arg4) (ix1 i) = (rb m c i : EReal)
  p : ∀ R k, m ((c : Thread nD τ).loc main_arg5) (ix3 0 R k) = (rp m c R k : EReal)

theorem finite_of_pre (m : (ℓ : Loc nD τ sig) → Buf (Elt Ideal) ℓ) (hpre : Cert.Pre_KernelBrC2Ideal_finite_brc2 m) (c : Dev nD) : Finite m c where
  d R i := real_of_mask (congrFun (hpre c).1 (ix3 0 R i))
  x R i := real_of_mask (congrFun (hpre c).2.1 (ix3 0 R i))
  k i := real_of_mask (congrFun (hpre c).2.2.1 (ix1 i))
  g i := real_of_mask (congrFun (hpre c).2.2.2.1 (ix1 i))
  b i := real_of_mask (congrFun (hpre c).2.2.2.2.1 (ix1 i))
  p R k := real_of_mask (congrFun (hpre c).2.2.2.2.2 (ix3 0 R k))

theorem idx : ∀ t : Fin cfg0.N, win0_0.index t = ![t.val, 0] ∧ win0_1.index t = ![t.val, 0] ∧ win0_2.index t = ![t.val, 17]
    ∧ win0_3.index t = ![t.val, 18] ∧ win0_4.index t = ![0, 0] ∧ win0_5.index t = ![0, 0] ∧ win0_6.index t = ![t.val, 0]
    ∧ win0_7.index t = ![0, 0] ∧ win0_8.index t = ![0, 0] ∧ win0_9.index t = ![0, 0] ∧ t.val < 4 :=
  (by decide +kernel : ∀ t : Fin grid0.N, _)

theorem lt4 (t : Fin cfg0.N) : t.val < 4 := Nat.lt_of_lt_of_eq t.isLt N_0

/-- The row of the arrays at row `r` of point `t`'s blocks. -/
def row (t : Fin cfg0.N) (r : Fin 512) : Fin 2048 := ⟨t.val * 512 + r.val, by have := lt4 t; omega⟩

variable {m c} (h : Finite m c)
include h

theorem block_d (t : Fin cfg0.N) (r i) : iblk m c 0 t (ix2 r i) = (rd m c (row t r) i : EReal) := by
  rw [← h.d, ← read_d m c]
  blk_ext [iblk, row, idx t]

theorem block_u (t : Fin cfg0.N) (r i) : iblk m c 1 t (ix2 r i) = (biased (rx m c) (rk m c) (row t r) i : EReal) := by
  unfold biased
  rw [EReal.coe_add, ← h.x, ← h.k, ← read_u m c _ _]
  blk_ext [iblk, row, idx t]

theorem block_c (t : Fin cfg0.N) (r) (j : Fin 512) : iblk m c 2 t (ix2 r j) = (gatecol (rp m c) (row t r) ⟨j.val, by omega⟩ : EReal) := by
  unfold gatecol
  rw [← h.p, ← read_p m c]
  blk_ext [iblk, row, idx t]

theorem block_c' (t : Fin cfg0.N) (r) (j : Fin 512) : iblk m c 3 t (ix2 r j) = (gatecol (rp m c) (row t r) ⟨512 + j.val, by omega⟩ : EReal) := by
  unfold gatecol
  rw [← h.p, ← read_p m c]
  blk_ext [iblk, row, idx t]

theorem block_g (t : Fin cfg0.N) (i) : iblk m c 4 t (ix2 0 i) = (rg m c i : EReal) := by
  rw [← h.g, ← read_g m c]
  blk_ext [iblk, idx t]

theorem block_b (t : Fin cfg0.N) (i) : iblk m c 5 t (ix2 0 i) = (rb m c i : EReal) := by
  rw [← h.b, ← read_b m c]
  blk_ext [iblk, idx t]

omit h in
theorem row_val (t : Fin cfg0.N) (r : Fin 512) : (row t r).val = t.val * 512 + r.val := rfl

theorem final_du : (dats m 0 c).arrAt 6 cfg0.N = Cert.ReferenceBrC2Ideal.Read.val_main_v74 (F := Ideal) (m ((c : Thread nD τ).loc main_arg0))
    (m ((c : Thread nD τ).loc main_arg1)) (m ((c : Thread nD τ).loc main_arg2)) (m ((c : Thread nD τ).loc main_arg3)) (m ((c : Thread nD τ).loc main_arg4))
    (m ((c : Thread nD τ).loc main_arg5)) := by
  refine (dats m 0 c).arrAt_eq_of_covers 6 _ (by decide +kernel) fun t hf y => ?_
  blk_simp
  rw [after_6]
  idx_vars y
  rw [show ((cfg0.win 6).blk t).view.emb (ix2 y0 y1) = ix2 (row t y0) y1 by blk_ext [row, idx t]]
  exact (duAt_at (block_d h t) (block_u h t) (block_c h t) (block_c' h t) (block_g h t) (block_b h t) _ _).trans
    (ref_du h.d h.x h.k h.g h.b h.p _ _).symm

omit h in
/-- Four blocks of 512 rows are the 2048 rows. -/
theorem sum_rows (f : Fin 2048 → ℝ) : (((((0 + ∑ r, f (row (pt 0) r)) + ∑ r, f (row (pt 1) r)) + ∑ r, f (row (pt 2) r)) + ∑ r, f (row (pt 3) r) : ℝ)) = ∑ R, f R := by
  rw [← Fin.sum_mul_add_congr (S := 4) (n := 512) (F := fun b r => f ⟨b.val * 512 + r.val, by omega⟩) (fun _ _ _ => rfl) rfl, Fin.sum_univ_four, zero_add]
  rfl

theorem lg_at (k : ℕ) (i) : lgN m c (k + 1) (ix2 0 i) = lgN m c k (ix2 0 i)
    + ((∑ r, (fun R => dln (rd m c) (biased (rx m c) (rk m c)) (rg m c) (rb m c) (gatecol (rp m c)) R i * Layer.xn 1024 (biased (rx m c) (rk m c) R) i) (row (pt k) r) : ℝ) : EReal) :=
  lgAt_at (block_d h _) (block_u h _) (block_c h _) (block_c' h _) (block_g h _) (block_b h _) _ _

theorem lb_at (k : ℕ) (i) : lbN m c (k + 1) (ix2 0 i) = lbN m c k (ix2 0 i)
    + ((∑ r, (fun R => dln (rd m c) (biased (rx m c) (rk m c)) (rg m c) (rb m c) (gatecol (rp m c)) R i) (row (pt k) r) : ℝ) : EReal) :=
  lbAt_at (block_d h _) (block_u h _) (block_c h _) (block_c' h _) (block_g h _) (block_b h _) _ _

theorem cb_at (k : ℕ) (i) : cbN m c (k + 1) (ix2 0 i) = cbN m c k (ix2 0 i)
    + ((∑ r, (fun R => du (rd m c) (biased (rx m c) (rk m c)) (rg m c) (rb m c) (gatecol (rp m c)) R i) (row (pt k) r) : ℝ) : EReal) :=
  cbAt_at (block_d h _) (block_u h _) (block_c h _) (block_c' h _) (block_g h _) (block_b h _) _ _

omit h in
/-- A row that adds one block's sum at each of the four steps ends as the sum over all the rows. -/
theorem fold_rows (a : ℕ → EReal) (f : Fin 2048 → ℝ) (h0 : a 0 = 0) (hs : ∀ k, a (k + 1) = a k + ((∑ r, f (row (pt k) r) : ℝ) : EReal)) :
    a 4 = ((∑ R, f R : ℝ) : EReal) := by
  rw [← sum_rows, hs, hs, hs, hs, h0, ← EReal.coe_zero]
  simp only [← EReal.coe_add]

theorem t0_3_val : (t0_3 : Fin cfg0.N).val = 3 := rfl

theorem final_dg : (dats m 0 c).arrAt 7 cfg0.N = Cert.ReferenceBrC2Ideal.Read.val_main_v75 (F := Ideal) (m ((c : Thread nD τ).loc main_arg0))
    (m ((c : Thread nD τ).loc main_arg1)) (m ((c : Thread nD τ).loc main_arg2)) (m ((c : Thread nD τ).loc main_arg3)) (m ((c : Thread nD τ).loc main_arg4))
    (m ((c : Thread nD τ).loc main_arg5)) := by
  refine (dats m 0 c).arrAt_eq_of_after_last 7 t0_3 (by decide +kernel) _ fun j => ?_
  blk_simp
  rw [after_7]
  idx_vars j
  obtain rfl : j0 = 0 := Subsingleton.elim _ _
  exact (fold_rows (fun k => lgN m c k (ix2 0 j1)) _ (by change k0_pay13 (F := Ideal) (ix2 0 j1) = 0; pointwise [k0_pay13]) fun k => lg_at h k j1).trans
    (ref_dg h.d h.x h.k h.g h.b h.p _).symm

theorem final_db : (dats m 0 c).arrAt 8 cfg0.N = Cert.ReferenceBrC2Ideal.Read.val_main_v76 (F := Ideal) (m ((c : Thread nD τ).loc main_arg0))
    (m ((c : Thread nD τ).loc main_arg1)) (m ((c : Thread nD τ).loc main_arg2)) (m ((c : Thread nD τ).loc main_arg3)) (m ((c : Thread nD τ).loc main_arg4))
    (m ((c : Thread nD τ).loc main_arg5)) := by
  refine (dats m 0 c).arrAt_eq_of_after_last 8 t0_3 (by decide +kernel) _ fun j => ?_
  blk_simp
  rw [after_8]
  idx_vars j
  obtain rfl : j0 = 0 := Subsingleton.elim _ _
  exact (fold_rows (fun k => lbN m c k (ix2 0 j1)) _ (by change k0_pay16 (F := Ideal) (ix2 0 j1) = 0; pointwise [k0_pay16]) fun k => lb_at h k j1).trans
    (ref_db h.d h.x h.k h.g h.b h.p _).symm

theorem final_dk : (dats m 0 c).arrAt 9 cfg0.N = Cert.ReferenceBrC2Ideal.Read.val_main_v77 (F := Ideal) (m ((c : Thread nD τ).loc main_arg0))
    (m ((c : Thread nD τ).loc main_arg1)) (m ((c : Thread nD τ).loc main_arg2)) (m ((c : Thread nD τ).loc main_arg3)) (m ((c : Thread nD τ).loc main_arg4))
    (m ((c : Thread nD τ).loc main_arg5)) := by
  refine (dats m 0 c).arrAt_eq_of_after_last 9 t0_3 (by decide +kernel) _ fun j => ?_
  blk_simp
  rw [after_9]
  idx_vars j
  obtain rfl : j0 = 0 := Subsingleton.elim _ _
  exact (fold_rows (fun k => cbN m c k (ix2 0 j1)) _ (by change k0_pay3 (F := Ideal) (ix2 0 j1) = 0; pointwise [k0_pay3]) fun k => cb_at h k j1).trans
    (ref_dk h.d h.x h.k h.g h.b h.p _).symm

end Cert.BrC2

end
-- ==== Proof.BrC2.lean ====
/-
  The second gate's backward kernel: its frames, its results as the reference's, and the claims.
-/
module

public import proofs.«01_k».proof.Proof.BrC2Val
public import proofs.«01_k».proof.Proof.Gen.KernelBrC2.Launch
public import proofs.«01_k».proof.Proof.Gen.ReferenceBrC2Ideal.Run
public import Idealize.ShloMosaic.Lib.Claim

@[expose] public section

set_option maxRecDepth 16384

noncomputable section

namespace Cert.BrC2

open Idealize.ShloMosaic Idealize.ShloMosaic.TcCoe Idealize.SL.Sem
open Cert.KernelBrC2Ideal Cert.KernelBrC2Ideal.Gen Cert.KernelBrC2Ideal.Hand Cert.Maths

section Copies
variable (m : (ℓ : Loc nD τ sig) → Buf (Elt Ideal) ℓ) (c : Dev nD)

/-! ## The projection's gradient, after the copies -/

theorem read_dproj : V m c main_v8_4 = m ((c : Thread nD τ).loc main_arg6) := by
  entry_read
  rfl

theorem col_lt (i : Fin 1024) : 8704 + i.val < 12800 := by omega
theorem row_lt (b : Fin 4) (r : Fin 512) : b.val * 512 + r.val < 2048 := by omega

/-- The copy of step `b` lands on the rows of its block, in the gate's columns. -/
theorem piece_emb (b : Fin 4) (r : Fin 512) (i : Fin 1024) :
    (piece b).view.emb (ix2 r i) = ix2 (⟨b.val * 512 + r.val, row_lt b r⟩ : Fin 2048) (⟨8704 + i.val, col_lt i⟩ : Fin 12800) := by
  funext a
  match a with
  | ⟨0, _⟩ => exact Fin.ext (by change 512 * b.val + 1 * r.val = b.val * 512 + r.val; omega)
  | ⟨1, _⟩ => exact Fin.ext (by change 8704 + 1 * i.val = 8704 + i.val; omega)

theorem bk_lt (b : Fin 4) : Ring.bk 4 b.val = b := Fin.ext (Nat.mod_eq_of_lt b.isLt)

/-- Once a step has copied its rows they stay. -/
theorem sent_in (n : ℕ) (hn : n ≤ 4) (b : Fin 4) (hb : b.val < n) (y) : sent m c n ((piece b).view.emb y) = gateT m c (pt b.val) y := by
  induction n with
  | zero => exact absurd hb (by omega)
  | succ n ih =>
    change (piece (Ring.bk 4 n)).view.write (Elt Ideal) (sent m c n) (gateT m c (pt n)) Finset.univ _ = _
    by_cases e : b.val = n
    · subst e
      rw [bk_lt]
      exact congrFun (View.read_write_univ (v := (piece b).view) (sent m c b.val) (gateT m c (pt b.val))) y
    · refine (View.write_of_not_mem _ _ _ fun hm => ?_).trans (ih (by omega) (by omega))
      have hne : (Ring.bk 4 n : Fin 4) ≠ b := fun he => e (by rw [← he]; exact (Nat.mod_eq_of_lt (by omega)))
      exact Finset.disjoint_left.mp (pieces_disjoint hne) hm (Finset.mem_map_of_mem _ (Finset.mem_univ y))

/-- What no copy reaches stays as it was. -/
theorem sent_out (n : ℕ) (i : S2048x12800.Idx) (hi : ∀ b, i ∉ pset b) : sent m c n i = m ((c : Thread nD τ).loc main_arg6) i := by
  induction n with
  | zero => exact congrFun (read_dproj m c) i
  | succ n ih => exact (View.write_of_not_mem _ _ _ (hi _)).trans ih

variable {m c} (h : Finite m c)
include h

theorem final_dproj : sent m c 4 = Cert.ReferenceBrC2Ideal.Read.val_main_v80 (F := Ideal) (m ((c : Thread nD τ).loc main_arg0))
    (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg6)) := by
  funext j
  idx_vars j
  by_cases hk : 8704 ≤ j1.val ∧ j1.val < 9728
  · obtain ⟨i, rfl⟩ : ∃ i : Fin 1024, j1 = (⟨8704 + i.val, col_lt i⟩ : Fin 12800) := ⟨⟨j1.val - 8704, by omega⟩, Fin.ext (by simp only; omega)⟩
    obtain ⟨b, r, rfl⟩ : ∃ (b : Fin 4) (r : Fin 512), j0 = (⟨b.val * 512 + r.val, row_lt b r⟩ : Fin 2048) :=
      ⟨⟨j0.val / 512, by omega⟩, ⟨j0.val % 512, by omega⟩, Fin.ext (by simp only; omega)⟩
    rw [← piece_emb b r i]
    refine (sent_in m c 4 (le_refl _) b b.isLt _).trans ?_
    rw [piece_emb b r i]
    refine ((gateAt_at (block_d h _) (block_u h _) (block_c h _) (block_c' h _) (block_g h _) (block_b h _) r i).trans ?_).trans
      (ref_dproj_in h.d h.x h.k h.g h.b h.p _ i).symm
    have e : row (pt b.val) r = (⟨b.val * 512 + r.val, row_lt b r⟩ : Fin 2048) := Fin.ext (by
      change b.val % 4 * 512 + r.val = b.val * 512 + r.val; omega)
    simp only [dgate, ln, e]
  · refine (sent_out m c 4 _ fun b hm => ?_).trans (ref_dproj_out j0 j1 hk).symm
    obtain ⟨y, -, hy⟩ := Finset.mem_map.mp hm
    obtain ⟨y0, y1, rfl⟩ : ∃ (y0 : Fin 512) (y1 : Fin 1024), y = ix2 y0 y1 := ⟨y 0, y 1, by funext a; match a with | ⟨0, _⟩ => rfl | ⟨1, _⟩ => rfl⟩
    replace hy := (piece_emb b y0 y1).symm.trans hy
    have e : 8704 + y1.val = j1.val := congrArg (fun i : S2048x12800.Idx => (i 1 : Nat)) hy
    omega

end Copies

/-! ## The claims -/

theorem frame_ideal : Cert.quiescent_KernelBrC2Ideal := fun m ρ _ =>
  (θ_run Cert.KernelBrC2Ideal.defs _ _).mono (fun _ h => ⟨fun c => by
    obtain ⟨h0, h1, h2, h3, h4, h5, h6, -⟩ := h.1 c
    exact ⟨h0, h1, h2, h3, h4, h5, h6⟩, h.2⟩) (run (F := Ideal) m ρ)

/-- The frame at the bit-exact floats, in the names of the idealized program. -/
def QuietBits : Prop :=
  ∀ (m : (ℓ : Loc Cert.KernelBrC2Ideal.nD Cert.KernelBrC2Ideal.τ Cert.KernelBrC2Ideal.sig) → Buf (Elt Bits) ℓ) (g : Dev Cert.KernelBrC2Ideal.nD → PrngReg), True →
    θ_run (Cert.KernelBrC2Ideal.defs (F := Bits)) (onTc (τ := Cert.KernelBrC2Ideal.τ) (Cert.KernelBrC2Ideal.main (F := Bits))) ⟨m, fun _ => 0, g⟩ (fun r => (∀ c : Dev Cert.KernelBrC2Ideal.nD,
      r.2.mem ((c.tc : Thread Cert.KernelBrC2Ideal.nD Cert.KernelBrC2Ideal.τ).loc Cert.KernelBrC2Ideal.main_arg0) = m ((c.tc : Thread Cert.KernelBrC2Ideal.nD Cert.KernelBrC2Ideal.τ).loc Cert.KernelBrC2Ideal.main_arg0)
      ∧ r.2.mem ((c.tc : Thread Cert.KernelBrC2Ideal.nD Cert.KernelBrC2Ideal.τ).loc Cert.KernelBrC2Ideal.main_arg1) = m ((c.tc : Thread Cert.KernelBrC2Ideal.nD Cert.KernelBrC2Ideal.τ).loc Cert.KernelBrC2Ideal.main_arg1)
      ∧ r.2.mem ((c.tc : Thread Cert.KernelBrC2Ideal.nD Cert.KernelBrC2Ideal.τ).loc Cert.KernelBrC2Ideal.main_arg2) = m ((c.tc : Thread Cert.KernelBrC2Ideal.nD Cert.KernelBrC2Ideal.τ).loc Cert.KernelBrC2Ideal.main_arg2)
      ∧ r.2.mem ((c.tc : Thread Cert.KernelBrC2Ideal.nD Cert.KernelBrC2Ideal.τ).loc Cert.KernelBrC2Ideal.main_arg3) = m ((c.tc : Thread Cert.KernelBrC2Ideal.nD Cert.KernelBrC2Ideal.τ).loc Cert.KernelBrC2Ideal.main_arg3)
      ∧ r.2.mem ((c.tc : Thread Cert.KernelBrC2Ideal.nD Cert.KernelBrC2Ideal.τ).loc Cert.KernelBrC2Ideal.main_arg4) = m ((c.tc : Thread Cert.KernelBrC2Ideal.nD Cert.KernelBrC2Ideal.τ).loc Cert.KernelBrC2Ideal.main_arg4)
      ∧ r.2.mem ((c.tc : Thread Cert.KernelBrC2Ideal.nD Cert.KernelBrC2Ideal.τ).loc Cert.KernelBrC2Ideal.main_arg5) = m ((c.tc : Thread Cert.KernelBrC2Ideal.nD Cert.KernelBrC2Ideal.τ).loc Cert.KernelBrC2Ideal.main_arg5)
      ∧ r.2.mem ((c.tc : Thread Cert.KernelBrC2Ideal.nD Cert.KernelBrC2Ideal.τ).loc Cert.KernelBrC2Ideal.main_arg6) = m ((c.tc : Thread Cert.KernelBrC2Ideal.nD Cert.KernelBrC2Ideal.τ).loc Cert.KernelBrC2Ideal.main_arg6))
      ∧ r.2.sem = fun _ => 0)

theorem quiet_bits : QuietBits := fun m ρ _ =>
  (θ_run Cert.KernelBrC2Ideal.defs _ _).mono (fun _ h => ⟨fun c => by
    obtain ⟨h0, h1, h2, h3, h4, h5, h6, -⟩ := h.1 c
    exact ⟨h0, h1, h2, h3, h4, h5, h6⟩, h.2⟩) (run (F := Bits) m ρ)

/-- The two programs print the same text, so the two statements are one. -/
theorem quiet_eq : Cert.quiescent_KernelBrC2 = QuietBits := by sl_kernel_rfl

theorem frame_kernel : Cert.quiescent_KernelBrC2 := quiet_eq ▸ quiet_bits

end Cert.BrC2

namespace Cert.BrC2.Ref

open Idealize.ShloMosaic Idealize.ShloMosaic.TcCoe Idealize.SL.Sem
open Cert.ReferenceBrC2Ideal Cert.ReferenceBrC2Ideal.Read

theorem frame_ref : Cert.quiescent_ReferenceBrC2Ideal := fun m ρ _ =>
  (θ_run defs _ _).mono (fun r h => ⟨fun c => (h c).2.2.2.2.2, sem_eq_zero_of_no_sems (by decide) r.2⟩)
    (Cert.ReferenceBrC2Ideal.Value.run (F := Ideal) m ρ)

end Cert.BrC2.Ref

namespace Cert.BrC2

open Idealize.ShloMosaic Idealize.ShloMosaic.TcCoe Idealize.SL.Sem

theorem algebraic : Cert.algebraic_KernelBrC2Ideal_ReferenceBrC2Ideal_pre_finite_brc2 := by
  intro m g m' g' hpre hagree
  refine ⟨fun c => Cert.ReferenceBrC2Ideal.Read.val_main_v74 (F := Ideal) (m ((c.tc : Thread Cert.KernelBrC2Ideal.nD Cert.KernelBrC2Ideal.τ).loc Cert.KernelBrC2Ideal.main_arg0)) (m ((c.tc : Thread Cert.KernelBrC2Ideal.nD Cert.KernelBrC2Ideal.τ).loc Cert.KernelBrC2Ideal.main_arg1)) (m ((c.tc : Thread Cert.KernelBrC2Ideal.nD Cert.KernelBrC2Ideal.τ).loc Cert.KernelBrC2Ideal.main_arg2)) (m ((c.tc : Thread Cert.KernelBrC2Ideal.nD Cert.KernelBrC2Ideal.τ).loc Cert.KernelBrC2Ideal.main_arg3)) (m ((c.tc : Thread Cert.KernelBrC2Ideal.nD Cert.KernelBrC2Ideal.τ).loc Cert.KernelBrC2Ideal.main_arg4)) (m ((c.tc : Thread Cert.KernelBrC2Ideal.nD Cert.KernelBrC2Ideal.τ).loc Cert.KernelBrC2Ideal.main_arg5)),
    fun c => Cert.ReferenceBrC2Ideal.Read.val_main_v75 (F := Ideal) (m ((c.tc : Thread Cert.KernelBrC2Ideal.nD Cert.KernelBrC2Ideal.τ).loc Cert.KernelBrC2Ideal.main_arg0)) (m ((c.tc : Thread Cert.KernelBrC2Ideal.nD Cert.KernelBrC2Ideal.τ).loc Cert.KernelBrC2Ideal.main_arg1)) (m ((c.tc : Thread Cert.KernelBrC2Ideal.nD Cert.KernelBrC2Ideal.τ).loc Cert.KernelBrC2Ideal.main_arg2)) (m ((c.tc : Thread Cert.KernelBrC2Ideal.nD Cert.KernelBrC2Ideal.τ).loc Cert.KernelBrC2Ideal.main_arg3)) (m ((c.tc : Thread Cert.KernelBrC2Ideal.nD Cert.KernelBrC2Ideal.τ).loc Cert.KernelBrC2Ideal.main_arg4)) (m ((c.tc : Thread Cert.KernelBrC2Ideal.nD Cert.KernelBrC2Ideal.τ).loc Cert.KernelBrC2Ideal.main_arg5)),
    fun c => Cert.ReferenceBrC2Ideal.Read.val_main_v76 (F := Ideal) (m ((c.tc : Thread Cert.KernelBrC2Ideal.nD Cert.KernelBrC2Ideal.τ).loc Cert.KernelBrC2Ideal.main_arg0)) (m ((c.tc : Thread Cert.KernelBrC2Ideal.nD Cert.KernelBrC2Ideal.τ).loc Cert.KernelBrC2Ideal.main_arg1)) (m ((c.tc : Thread Cert.KernelBrC2Ideal.nD Cert.KernelBrC2Ideal.τ).loc Cert.KernelBrC2Ideal.main_arg2)) (m ((c.tc : Thread Cert.KernelBrC2Ideal.nD Cert.KernelBrC2Ideal.τ).loc Cert.KernelBrC2Ideal.main_arg3)) (m ((c.tc : Thread Cert.KernelBrC2Ideal.nD Cert.KernelBrC2Ideal.τ).loc Cert.KernelBrC2Ideal.main_arg4)) (m ((c.tc : Thread Cert.KernelBrC2Ideal.nD Cert.KernelBrC2Ideal.τ).loc Cert.KernelBrC2Ideal.main_arg5)),
    fun c => Cert.ReferenceBrC2Ideal.Read.val_main_v77 (F := Ideal) (m ((c.tc : Thread Cert.KernelBrC2Ideal.nD Cert.KernelBrC2Ideal.τ).loc Cert.KernelBrC2Ideal.main_arg0)) (m ((c.tc : Thread Cert.KernelBrC2Ideal.nD Cert.KernelBrC2Ideal.τ).loc Cert.KernelBrC2Ideal.main_arg1)) (m ((c.tc : Thread Cert.KernelBrC2Ideal.nD Cert.KernelBrC2Ideal.τ).loc Cert.KernelBrC2Ideal.main_arg2)) (m ((c.tc : Thread Cert.KernelBrC2Ideal.nD Cert.KernelBrC2Ideal.τ).loc Cert.KernelBrC2Ideal.main_arg3)) (m ((c.tc : Thread Cert.KernelBrC2Ideal.nD Cert.KernelBrC2Ideal.τ).loc Cert.KernelBrC2Ideal.main_arg4)) (m ((c.tc : Thread Cert.KernelBrC2Ideal.nD Cert.KernelBrC2Ideal.τ).loc Cert.KernelBrC2Ideal.main_arg5)),
    fun c => Cert.ReferenceBrC2Ideal.Read.val_main_v80 (F := Ideal) (m ((c.tc : Thread Cert.KernelBrC2Ideal.nD Cert.KernelBrC2Ideal.τ).loc Cert.KernelBrC2Ideal.main_arg0)) (m ((c.tc : Thread Cert.KernelBrC2Ideal.nD Cert.KernelBrC2Ideal.τ).loc Cert.KernelBrC2Ideal.main_arg1)) (m ((c.tc : Thread Cert.KernelBrC2Ideal.nD Cert.KernelBrC2Ideal.τ).loc Cert.KernelBrC2Ideal.main_arg2)) (m ((c.tc : Thread Cert.KernelBrC2Ideal.nD Cert.KernelBrC2Ideal.τ).loc Cert.KernelBrC2Ideal.main_arg3)) (m ((c.tc : Thread Cert.KernelBrC2Ideal.nD Cert.KernelBrC2Ideal.τ).loc Cert.KernelBrC2Ideal.main_arg4)) (m ((c.tc : Thread Cert.KernelBrC2Ideal.nD Cert.KernelBrC2Ideal.τ).loc Cert.KernelBrC2Ideal.main_arg5)) (m ((c.tc : Thread Cert.KernelBrC2Ideal.nD Cert.KernelBrC2Ideal.τ).loc Cert.KernelBrC2Ideal.main_arg6)),
    (θ_run _ _ _).mono (fun r h c => ?_) (Cert.KernelBrC2Ideal.Hand.run (F := Ideal) m g), (θ_run _ _ _).mono (fun r h c => ?_) (Cert.ReferenceBrC2Ideal.Value.run (F := Ideal) m' g')⟩
  · obtain ⟨h0, h1, h2, h3, h4, h5, h6, r0, r1, r2, r3, r4⟩ := h.1 c
    have f := finite_of_pre m hpre c
    exact ⟨r0.trans (final_du f), r1.trans (final_dg f), r2.trans (final_db f), r3.trans (final_dk f), r4.trans (final_dproj f), h0, h1, h2, h3, h4, h5, h6⟩
  · obtain ⟨a0, a1, a2, a3, a4, a5, a6⟩ := hagree c
    obtain ⟨e0, e1, e2, e3, e4, hs⟩ := h c
    refine ⟨e0.trans ((Cert.ReferenceBrC2Ideal.Read.val_main_v74_eq _).trans ?_), e1.trans ((Cert.ReferenceBrC2Ideal.Read.val_main_v75_eq _).trans ?_), e2.trans ((Cert.ReferenceBrC2Ideal.Read.val_main_v76_eq _).trans ?_), e3.trans ((Cert.ReferenceBrC2Ideal.Read.val_main_v77_eq _).trans ?_), e4.trans ((Cert.ReferenceBrC2Ideal.Read.val_main_v80_eq _).trans ?_), hs⟩
    · change Cert.ReferenceBrC2Ideal.Read.val_main_v74 (F := Ideal) (m' ((c.tc : Thread Cert.ReferenceBrC2Ideal.nD Cert.ReferenceBrC2Ideal.τ).loc Cert.ReferenceBrC2Ideal.main_arg0)) (m' ((c.tc : Thread Cert.ReferenceBrC2Ideal.nD Cert.ReferenceBrC2Ideal.τ).loc Cert.ReferenceBrC2Ideal.main_arg1)) (m' ((c.tc : Thread Cert.ReferenceBrC2Ideal.nD Cert.ReferenceBrC2Ideal.τ).loc Cert.ReferenceBrC2Ideal.main_arg2)) (m' ((c.tc : Thread Cert.ReferenceBrC2Ideal.nD Cert.ReferenceBrC2Ideal.τ).loc Cert.ReferenceBrC2Ideal.main_arg3)) (m' ((c.tc : Thread Cert.ReferenceBrC2Ideal.nD Cert.ReferenceBrC2Ideal.τ).loc Cert.ReferenceBrC2Ideal.main_arg4)) (m' ((c.tc : Thread Cert.ReferenceBrC2Ideal.nD Cert.ReferenceBrC2Ideal.τ).loc Cert.ReferenceBrC2Ideal.main_arg5)) = _
      rw [a0, a1, a2, a3, a4, a5]
    · change Cert.ReferenceBrC2Ideal.Read.val_main_v75 (F := Ideal) (m' ((c.tc : Thread Cert.ReferenceBrC2Ideal.nD Cert.ReferenceBrC2Ideal.τ).loc Cert.ReferenceBrC2Ideal.main_arg0)) (m' ((c.tc : Thread Cert.ReferenceBrC2Ideal.nD Cert.ReferenceBrC2Ideal.τ).loc Cert.ReferenceBrC2Ideal.main_arg1)) (m' ((c.tc : Thread Cert.ReferenceBrC2Ideal.nD Cert.ReferenceBrC2Ideal.τ).loc Cert.ReferenceBrC2Ideal.main_arg2)) (m' ((c.tc : Thread Cert.ReferenceBrC2Ideal.nD Cert.ReferenceBrC2Ideal.τ).loc Cert.ReferenceBrC2Ideal.main_arg3)) (m' ((c.tc : Thread Cert.ReferenceBrC2Ideal.nD Cert.ReferenceBrC2Ideal.τ).loc Cert.ReferenceBrC2Ideal.main_arg4)) (m' ((c.tc : Thread Cert.ReferenceBrC2Ideal.nD Cert.ReferenceBrC2Ideal.τ).loc Cert.ReferenceBrC2Ideal.main_arg5)) = _
      rw [a0, a1, a2, a3, a4, a5]
    · change Cert.ReferenceBrC2Ideal.Read.val_main_v76 (F := Ideal) (m' ((c.tc : Thread Cert.ReferenceBrC2Ideal.nD Cert.ReferenceBrC2Ideal.τ).loc Cert.ReferenceBrC2Ideal.main_arg0)) (m' ((c.tc : Thread Cert.ReferenceBrC2Ideal.nD Cert.ReferenceBrC2Ideal.τ).loc Cert.ReferenceBrC2Ideal.main_arg1)) (m' ((c.tc : Thread Cert.ReferenceBrC2Ideal.nD Cert.ReferenceBrC2Ideal.τ).loc Cert.ReferenceBrC2Ideal.main_arg2)) (m' ((c.tc : Thread Cert.ReferenceBrC2Ideal.nD Cert.ReferenceBrC2Ideal.τ).loc Cert.ReferenceBrC2Ideal.main_arg3)) (m' ((c.tc : Thread Cert.ReferenceBrC2Ideal.nD Cert.ReferenceBrC2Ideal.τ).loc Cert.ReferenceBrC2Ideal.main_arg4)) (m' ((c.tc : Thread Cert.ReferenceBrC2Ideal.nD Cert.ReferenceBrC2Ideal.τ).loc Cert.ReferenceBrC2Ideal.main_arg5)) = _
      rw [a0, a1, a2, a3, a4, a5]
    · change Cert.ReferenceBrC2Ideal.Read.val_main_v77 (F := Ideal) (m' ((c.tc : Thread Cert.ReferenceBrC2Ideal.nD Cert.ReferenceBrC2Ideal.τ).loc Cert.ReferenceBrC2Ideal.main_arg0)) (m' ((c.tc : Thread Cert.ReferenceBrC2Ideal.nD Cert.ReferenceBrC2Ideal.τ).loc Cert.ReferenceBrC2Ideal.main_arg1)) (m' ((c.tc : Thread Cert.ReferenceBrC2Ideal.nD Cert.ReferenceBrC2Ideal.τ).loc Cert.ReferenceBrC2Ideal.main_arg2)) (m' ((c.tc : Thread Cert.ReferenceBrC2Ideal.nD Cert.ReferenceBrC2Ideal.τ).loc Cert.ReferenceBrC2Ideal.main_arg3)) (m' ((c.tc : Thread Cert.ReferenceBrC2Ideal.nD Cert.ReferenceBrC2Ideal.τ).loc Cert.ReferenceBrC2Ideal.main_arg4)) (m' ((c.tc : Thread Cert.ReferenceBrC2Ideal.nD Cert.ReferenceBrC2Ideal.τ).loc Cert.ReferenceBrC2Ideal.main_arg5)) = _
      rw [a0, a1, a2, a3, a4, a5]
    · change Cert.ReferenceBrC2Ideal.Read.val_main_v80 (F := Ideal) (m' ((c.tc : Thread Cert.ReferenceBrC2Ideal.nD Cert.ReferenceBrC2Ideal.τ).loc Cert.ReferenceBrC2Ideal.main_arg0)) (m' ((c.tc : Thread Cert.ReferenceBrC2Ideal.nD Cert.ReferenceBrC2Ideal.τ).loc Cert.ReferenceBrC2Ideal.main_arg1)) (m' ((c.tc : Thread Cert.ReferenceBrC2Ideal.nD Cert.ReferenceBrC2Ideal.τ).loc Cert.ReferenceBrC2Ideal.main_arg2)) (m' ((c.tc : Thread Cert.ReferenceBrC2Ideal.nD Cert.ReferenceBrC2Ideal.τ).loc Cert.ReferenceBrC2Ideal.main_arg3)) (m' ((c.tc : Thread Cert.ReferenceBrC2Ideal.nD Cert.ReferenceBrC2Ideal.τ).loc Cert.ReferenceBrC2Ideal.main_arg4)) (m' ((c.tc : Thread Cert.ReferenceBrC2Ideal.nD Cert.ReferenceBrC2Ideal.τ).loc Cert.ReferenceBrC2Ideal.main_arg5)) (m' ((c.tc : Thread Cert.ReferenceBrC2Ideal.nD Cert.ReferenceBrC2Ideal.τ).loc Cert.ReferenceBrC2Ideal.main_arg6)) = _
      rw [a0, a1, a2, a3, a4, a5, a6]

end Cert.BrC2

end
-- ==== Proof.QkvRope.lean ====
/-
  The reference's gradients of the queries' and the keys' norm and rotary embedding, read over the reals where the
  cotangents, the projection and the norms' weights hold reals.
-/
module

public import proofs.«01_k».proof.Proof.NormReal
public import proofs.«01_k».proof.Proof.Gen.ReferenceQkvIdeal.Read
public import Idealize.ShloMosaic.Lib.Pipeline.ValueKit
public import Idealize.ShloMosaic.Lib.ValueIdxRank6

@[expose] public section

set_option maxRecDepth 16384

noncomputable section

namespace Cert.Qkv

open Idealize.ShloMosaic Idealize.ShloMosaic.TcCoe Idealize.SL.Sem
open Cert.ReferenceQkvIdeal Cert.ReferenceQkvIdeal.Read Cert.Maths

/-! ## The rotary embedding over the reals -/

theorem half_lt (j : Fin 128) : j.val % 32 < 32 := Nat.mod_lt _ (by norm_num)
/-- The lane that a rotation pairs with lane `j`. -/
theorem pair_lt (j : Fin 128) : (if j.val / 32 % 2 = 1 then j.val - 32 else j.val + 32) < 128 := by
  have := j.isLt
  split <;> omega
def pair (j : Fin 128) : Fin 128 := ⟨if j.val / 32 % 2 = 1 then j.val - 32 else j.val + 32, pair_lt j⟩

/-- The frequency of a lane, the angle of row `r` at a coordinate (0: the row of the grid, 1: its column) and frequency. -/
def freq (l : Fin 32) : ℝ := Real.rpow 10000 (-(l.val : ℝ) * (1 / 32))
def angle (r : Fin 2048) (a : Fin 2) (l : Fin 32) : ℝ := (if a = 0 then ((r.val / 64 : ℕ) : ℝ) else ((r.val % 64 : ℕ) : ℝ)) * freq l

theorem axis_lt (j : Fin 128) : j.val / 64 < 2 := by omega
/-- The tables over all the lanes of a head: the cosine, and the sine with the sign that the pair's part takes. -/
def cosT (r : Fin 2048) (j : Fin 128) : ℝ := Real.cos (angle r ⟨j.val / 64, axis_lt j⟩ ⟨j.val % 32, half_lt j⟩)
def sinT (r : Fin 2048) (j : Fin 128) : ℝ :=
  if j.val / 32 % 2 = 1 then Real.sin (angle r ⟨j.val / 64, axis_lt j⟩ ⟨j.val % 32, half_lt j⟩)
    else -Real.sin (angle r ⟨j.val / 64, axis_lt j⟩ ⟨j.val % 32, half_lt j⟩)

/-- The transposed rotation of row `r`. -/
def rot (r : Fin 2048) (d : Fin 128 → ℝ) (j : Fin 128) : ℝ := d j * cosT r j + d (pair j) * sinT r (pair j)

/-! ## The reference's tables -/

theorem w_32 : Ideal.ofBits .f32 0x42000000#32 = ((32 : ℝ) : EReal) := by
  simp [Ideal.ofBits, Ideal.ieee, -EReal.coe_mul]; norm_num
theorem w_10000 : Ideal.ofBits .f32 0x461C4000#32 = ((10000 : ℝ) : EReal) := by
  simp [Ideal.ofBits, Ideal.ieee, -EReal.coe_mul]; norm_num

/-- A small number as a word, converted to a float. -/
theorem small_float (n : ℕ) (h : n < 2 ^ 31) : (FloatOps.sitofp (F := Ideal) FTy.f32 (BitVec.ofNat 32 n) : EReal) = ((n : ℝ) : EReal) := by
  show (((BitVec.ofNat 32 n).toInt : ℝ) : EReal) = _
  rw [BitVec.toInt_ofNat', Int.bmod_def]
  norm_cast
  omega

theorem ref_freq (l : Fin 32) : val_main_v12 (F := Ideal) (ix1 l) = (freq l : EReal) := by
  unfold val_main_v12 val_main_v11 val_main_v10 val_main_v9 val_main_v8 val_main_v7 val_main_cst val_main_cst_0
  pointwise
  rw [w_32, w_10000, Ideal.div_coe (by norm_num)]
  rw [small_float l.val (by omega), ← EReal.coe_neg, ← EReal.coe_mul, Ideal.pow_coe_coe]
  rfl

theorem ref_row (r : Fin 2048) : val_main_v2 (F := Ideal) (ix1 r) = BitVec.ofNat 32 (r.val / 64) := by
  rw [val_main_v2_apply, val_main_v1_apply, val_main_v0_apply]
  rfl

theorem ref_col (r : Fin 2048) : val_main_v6 (F := Ideal) (ix1 r) = BitVec.ofNat 32 (r.val % 64) := by
  rw [val_main_v6_apply, val_main_v5_apply, val_main_v4_apply, val_main_v3_apply]
  refine congrArg (BitVec.ofNat 32) ?_
  show 0 * 64 + r.val % 64 = r.val % 64
  omega

theorem ref_pos (r : Fin 2048) (a : Fin 2) : val_main_v16 (F := Ideal) (ix2 r a)
    = ((if a = 0 then ((r.val / 64 : ℕ) : ℝ) else ((r.val % 64 : ℕ) : ℝ) : ℝ) : EReal) := by
  have h1 := ref_row r
  have h2 := ref_col r
  unfold val_main_v16 val_main_v15 val_main_v14 val_main_v13
  generalize val_main_v2 (F := Ideal) = y1 at h1 ⊢
  generalize val_main_v6 (F := Ideal) = y2 at h2 ⊢
  fin_cases a
  · pointwise
    rw [h1]
    exact small_float _ (by omega)
  · pointwise
    rw [h2]
    exact small_float _ (by omega)

theorem ref_angle (r : Fin 2048) (a : Fin 2) (l : Fin 32) : val_main_v21 (F := Ideal) (ix3 r a l) = (angle r a l : EReal) := by
  have h1 := ref_pos r a
  have h2 := ref_freq l
  unfold val_main_v21 val_main_v20 val_main_v19 val_main_v18 val_main_v17
  generalize val_main_v16 (F := Ideal) = y1 at h1 ⊢
  generalize val_main_v12 (F := Ideal) = y2 at h2 ⊢
  pointwise
  rw [h1, h2, ← EReal.coe_mul]
  rfl

theorem ref_cos (r : Fin 2048) (a : Fin 2) (l : Fin 32) : val_main_v22 (F := Ideal) (ix3 r a l) = (Real.cos (angle r a l) : EReal) := by
  have h1 := ref_angle r a l
  unfold val_main_v22
  generalize val_main_v21 (F := Ideal) = y1 at h1 ⊢
  pointwise
  rw [h1]
  rfl

theorem ref_sin (r : Fin 2048) (a : Fin 2) (l : Fin 32) : val_main_v23 (F := Ideal) (ix3 r a l) = (Real.sin (angle r a l) : EReal) := by
  have h1 := ref_angle r a l
  unfold val_main_v23
  generalize val_main_v21 (F := Ideal) = y1 at h1 ⊢
  pointwise
  rw [h1]
  rfl

/-- A sum over three axes of size one is the one entry. -/
theorem sum_unit (x : S1x1x1x128.Idx → EReal) (init : EReal) (j : Fin 128) :
    Ideal.hostReduceAdd Gen.reducesTo_S1x1x1x128_S128_d0_1_2 x init (ix1 j) = init + x (ix4 0 0 0 j) := by
  unfold Ideal.hostReduceAdd
  congr 1
  have hd : ∀ j', Gen.reducesTo_S1x1x1x128_S128_d0_1_2.drop (ix4 (0 : Fin 1) (0 : Fin 1) (0 : Fin 1) (j' : Fin 128)) = ix1 j' := fun j' =>
    funext fun a => match a with
    | ⟨0, _⟩ => rfl
  refine (Finset.sum_eq_single (ix4 0 0 0 j) (fun i hi hne => ?_) fun e => (e (Finset.mem_filter.mpr ⟨Finset.mem_univ _, hd j⟩)).elim)
  idx_vars i
  obtain rfl : i0 = 0 := Subsingleton.elim _ _
  obtain rfl : i1 = 0 := Subsingleton.elim _ _
  obtain rfl : i2 = 0 := Subsingleton.elim _ _
  have e := (Finset.mem_filter.mp hi).2
  rw [hd] at e
  exact (hne (by rw [show i3 = j from congrFun e 0])).elim

theorem lane_lt (a b : Fin 2) (l : Fin 32) : 64 * a.val + 32 * b.val + l.val < 128 := by omega

/-- The two halves' gradients as the derivative leaves them, lane by lane, are the transposed rotation. -/
theorem rot_of (r : Fin 2048) (d : Fin 128 → ℝ) (j : Fin 128) :
    (if (⟨j.val / 32 % 2, Nat.mod_lt _ (by norm_num)⟩ : Fin 2) = 0 then
      (d ⟨64 * (j.val / 64) + 32 * (1 : Fin 2).val + j.val % 32, by have := j.isLt; show 64 * (j.val / 64) + 32 * 1 + j.val % 32 < 128; omega⟩ : EReal)
          * (Real.sin (angle r ⟨j.val / 64, axis_lt j⟩ ⟨j.val % 32, half_lt j⟩) : EReal)
        + (d ⟨64 * (j.val / 64) + 32 * (0 : Fin 2).val + j.val % 32, by have := j.isLt; show 64 * (j.val / 64) + 32 * 0 + j.val % 32 < 128; omega⟩ : EReal)
          * (Real.cos (angle r ⟨j.val / 64, axis_lt j⟩ ⟨j.val % 32, half_lt j⟩) : EReal)
      else (d ⟨64 * (j.val / 64) + 32 * (1 : Fin 2).val + j.val % 32, by have := j.isLt; show 64 * (j.val / 64) + 32 * 1 + j.val % 32 < 128; omega⟩ : EReal)
          * (Real.cos (angle r ⟨j.val / 64, axis_lt j⟩ ⟨j.val % 32, half_lt j⟩) : EReal)
        + -(d ⟨64 * (j.val / 64) + 32 * (0 : Fin 2).val + j.val % 32, by have := j.isLt; show 64 * (j.val / 64) + 32 * 0 + j.val % 32 < 128; omega⟩ : EReal)
          * (Real.sin (angle r ⟨j.val / 64, axis_lt j⟩ ⟨j.val % 32, half_lt j⟩) : EReal))
      = (rot r d j : EReal) := by
  have hj := j.isLt
  unfold rot cosT sinT
  rcases Nat.mod_two_eq_zero_or_one (j.val / 32) with hb | hb
  · have hp : pair j = ⟨j.val + 32, by omega⟩ := Fin.ext (by show (if _ then _ else _) = _; rw [if_neg (by omega)])
    rw [if_pos (Fin.ext hb), hp]
    have h1 : (⟨64 * (j.val / 64) + 32 * (1 : Fin 2).val + j.val % 32, by show 64 * (j.val / 64) + 32 * 1 + j.val % 32 < 128; omega⟩ : Fin 128) = ⟨j.val + 32, by omega⟩ :=
      Fin.ext (by show 64 * (j.val / 64) + 32 * 1 + j.val % 32 = j.val + 32; omega)
    have h0 : (⟨64 * (j.val / 64) + 32 * (0 : Fin 2).val + j.val % 32, by show 64 * (j.val / 64) + 32 * 0 + j.val % 32 < 128; omega⟩ : Fin 128) = j :=
      Fin.ext (by show 64 * (j.val / 64) + 32 * 0 + j.val % 32 = j.val; omega)
    have ha : (⟨(j.val + 32) / 64, axis_lt ⟨j.val + 32, by omega⟩⟩ : Fin 2) = ⟨j.val / 64, axis_lt j⟩ := Fin.ext (by show (j.val + 32) / 64 = j.val / 64; omega)
    have hl : (⟨(j.val + 32) % 32, half_lt ⟨j.val + 32, by omega⟩⟩ : Fin 32) = ⟨j.val % 32, half_lt j⟩ := Fin.ext (by show (j.val + 32) % 32 = j.val % 32; omega)
    rw [h1, h0, if_pos (show (j.val + 32) / 32 % 2 = 1 by omega), ha, hl, add_comm, ← EReal.coe_mul, ← EReal.coe_mul, ← EReal.coe_add]
  · have hp : pair j = ⟨j.val - 32, by omega⟩ := Fin.ext (by show (if _ then _ else _) = _; rw [if_pos hb])
    rw [if_neg (fun h => by have := congrArg Fin.val h; change j.val / 32 % 2 = 0 at this; omega), hp]
    have h1 : (⟨64 * (j.val / 64) + 32 * (1 : Fin 2).val + j.val % 32, by show 64 * (j.val / 64) + 32 * 1 + j.val % 32 < 128; omega⟩ : Fin 128) = j :=
      Fin.ext (by show 64 * (j.val / 64) + 32 * 1 + j.val % 32 = j.val; omega)
    have h0 : (⟨64 * (j.val / 64) + 32 * (0 : Fin 2).val + j.val % 32, by show 64 * (j.val / 64) + 32 * 0 + j.val % 32 < 128; omega⟩ : Fin 128) = ⟨j.val - 32, by omega⟩ :=
      Fin.ext (by show 64 * (j.val / 64) + 32 * 0 + j.val % 32 = j.val - 32; omega)
    have ha : (⟨(j.val - 32) / 64, axis_lt ⟨j.val - 32, by omega⟩⟩ : Fin 2) = ⟨j.val / 64, axis_lt j⟩ := Fin.ext (by show (j.val - 32) / 64 = j.val / 64; omega)
    have hl : (⟨(j.val - 32) % 32, half_lt ⟨j.val - 32, by omega⟩⟩ : Fin 32) = ⟨j.val % 32, half_lt j⟩ := Fin.ext (by show (j.val - 32) % 32 = j.val % 32; omega)
    rw [h1, h0, if_neg (show ¬ (j.val - 32) / 32 % 2 = 1 by omega), ha, hl, ← EReal.coe_neg, ← EReal.coe_mul, ← EReal.coe_mul, ← EReal.coe_add, mul_neg, neg_mul]

end Cert.Qkv

end
-- ==== Proof.QkvRefQ.lean ====
/-
  The reference's gradients of the queries' norm and rotary embedding, read over the reals where the
  cotangents, the projection and the norms' weights hold reals.
-/
module

public import proofs.«01_k».proof.Proof.QkvRope
public import Idealize.ShloMosaic.Lib.Pipeline.ValueKit
public import Idealize.ShloMosaic.Lib.ValueIdxRank6

@[expose] public section

set_option maxRecDepth 16384

noncomputable section

namespace Cert.Qkv

open Idealize.ShloMosaic Idealize.ShloMosaic.TcCoe Idealize.SL.Sem
open Cert.ReferenceQkvIdeal Cert.ReferenceQkvIdeal.Read Cert.Maths

variable {x0 : FVec Ideal S1x2048x8x128 .f32} {x1 x2 : FVec Ideal S1x2048x2x128 .f32} {x3 : FVec Ideal S1x2048x12800 .f32}
  {x4 x5 : FVec Ideal S128 .f32} {P : Fin 2048 → Fin 12800 → ℝ}

/-! ## The queries -/

theorem sum4_q (x : S1x2048x8x1.Idx → EReal) (init : EReal) (r : Fin 2048) (h : Fin 8) :
    Ideal.hostReduceAdd Gen.reducesTo_S1x2048x8x1_S2048x8_d0_3 x init (ix2 r h) = init + x (ix4 0 r h 0) := by
  unfold Ideal.hostReduceAdd
  congr 1
  have hd : ∀ r' h', Gen.reducesTo_S1x2048x8x1_S2048x8_d0_3.drop (ix4 (0 : Fin 1) (r' : Fin 2048) (h' : Fin 8) (0 : Fin 1)) = ix2 r' h' := fun r' h' =>
    funext fun a => match a with
    | ⟨0, _⟩ => rfl
    | ⟨1, _⟩ => rfl
  refine (Finset.sum_eq_single (ix4 0 r h 0) (fun i hi hne => ?_) fun e => (e (Finset.mem_filter.mpr ⟨Finset.mem_univ _, hd r h⟩)).elim)
  idx_vars i
  obtain rfl : i0 = 0 := Subsingleton.elim _ _
  obtain rfl : i3 = 0 := Subsingleton.elim _ _
  have e := (Finset.mem_filter.mp hi).2
  rw [hd] at e
  exact (hne (by rw [show i1 = r from congrFun e 0, show i2 = h from congrFun e 1])).elim

theorem sumrows_q (x : S1x2048x8x128.Idx → EReal) (init : EReal) (j : Fin 128) :
    Ideal.hostReduceAdd Gen.reducesTo_S1x2048x8x128_S1x128_d1_2 x init (ix2 0 j) = init + ∑ r, ∑ h, x (ix4 0 r h j) := by
  have hd : ∀ r' h' j', Gen.reducesTo_S1x2048x8x128_S1x128_d1_2.drop (ix4 (0 : Fin 1) (r' : Fin 2048) (h' : Fin 8) (j' : Fin 128)) = ix2 0 j' :=
    fun r' h' j' => funext fun a => match a with
    | ⟨0, _⟩ => rfl
    | ⟨1, _⟩ => rfl
  have hc : ∀ i : S1x2048x8x128.Idx, ∃ (r : Fin 2048) (h : Fin 8) (k : Fin 128), i = ix4 0 r h k := fun i => by
    idx_vars i
    obtain rfl : i0 = 0 := Subsingleton.elim _ _
    exact ⟨i1, i2, i3, rfl⟩
  have hs : (Finset.univ.filter fun i => Gen.reducesTo_S1x2048x8x128_S1x128_d1_2.drop i = ix2 0 j)
      = Finset.univ.image (fun p : Fin 2048 × Fin 8 => (ix4 0 p.1 p.2 j : S1x2048x8x128.Idx)) := by
    apply Finset.ext
    intro i
    obtain ⟨r, h, k, rfl⟩ := hc i
    rw [Finset.mem_filter, Finset.mem_image, hd]
    constructor
    · intro e
      have e' : k = j := congrFun e.2 1
      refine ⟨(r, h), ?_, ?_⟩
      · simp only [Finset.mem_univ]
      show (ix4 0 r h j : S1x2048x8x128.Idx) = ix4 0 r h k
      rw [e']
    · rintro ⟨p, -, hp⟩
      have hp' : (ix4 0 p.1 p.2 j : S1x2048x8x128.Idx) = ix4 0 r h k := hp
      have e' : j = k := congrFun hp' 3
      rw [e']
      refine ⟨?_, rfl⟩
      simp only [Finset.mem_univ]
  unfold Ideal.hostReduceAdd
  rw [hs, Finset.sum_image, Fintype.sum_prod_type]
  intro p _ q _ e
  replace e : (ix4 0 p.1 p.2 j : S1x2048x8x128.Idx) = ix4 0 q.1 q.2 j := e
  have e1 : p.1 = q.1 := congrFun e 1
  have e2 : p.2 = q.2 := congrFun e 2
  exact Prod.ext e1 e2

theorem qat_lt_q (h : Fin 8) (j : Fin 128) : 4096 + (128 * h.val + j.val) < 12800 := by omega
/-- The head's columns of the projection. -/
def qc_q (P : Fin 2048 → Fin 12800 → ℝ) (r : Fin 2048) (h : Fin 8) (j : Fin 128) : ℝ := P r ⟨4096 + (128 * h.val + j.val), qat_lt_q h j⟩

section Qn_q
variable (hp : ∀ r k, x3 (ix3 0 r k) = (P r k : EReal))
include hp

theorem ref_q_q (r : Fin 2048) (h : Fin 8) (j : Fin 128) : val_main_v27 (F := Ideal) x3 (ix4 0 r h j) = (qc_q P r h j : EReal) := by
  rw [val_main_v27_apply, val_main_v24_apply]
  unfold qc_q
  rw [← hp]
  refine congrArg x3 (funext fun a => Fin.ext ?_)
  match a with
  | ⟨0, _⟩ => rfl
  | ⟨1, _⟩ => show ((((0 * 2048 + r.val) * 8 + h.val) * 128 + j.val) / 1024 % 2048) = r.val; omega
  | ⟨2, _⟩ => show 4096 + ((((0 * 2048 + r.val) * 8 + h.val) * 128 + j.val) % 1024) = 4096 + (128 * h.val + j.val); omega

theorem ref_qms_q (r : Fin 2048) (h : Fin 8) : val_main_v34 (F := Ideal) x3 (ix4 0 r h 0) = (Norm.ms 128 (qc_q P r h) : EReal) := by
  have e := ref_q_q hp r h
  unfold val_main_v34 val_main_v33 val_main_v32 val_main_v31 val_main_v30 val_main_v29 val_main_v28 val_main_cst_1 val_main_cst_2 val_main_cst_3
  generalize val_main_v27 (F := Ideal) x3 = y at e ⊢
  pointwise
  rw [Norm.w_128, Norm.w_eps, Ideal.div_coe (by norm_num)]
  simp only [e, zero_add, ← EReal.coe_mul, ← coe_sum, ← EReal.coe_add]
  rfl

theorem ref_qinv_q (r : Fin 2048) (h : Fin 8) : val_main_v35 (F := Ideal) x3 (ix4 0 r h 0) = (Norm.inv 128 (qc_q P r h) : EReal) := by
  have e := ref_qms_q hp r h
  unfold val_main_v35
  generalize val_main_v34 (F := Ideal) x3 = y at e ⊢
  pointwise
  rw [e, Norm.rsqrt_ms _ (by norm_num)]

theorem ref_qhalf_q (r : Fin 2048) (h : Fin 8) : val_main_v38 (F := Ideal) x3 (ix4 0 r h 0)
    = ((-(1 / 2) * (Norm.inv 128 (qc_q P r h) * (1 / Norm.ms 128 (qc_q P r h))) : ℝ) : EReal) := by
  have e := ref_qms_q hp r h
  have e' := ref_qinv_q hp r h
  unfold val_main_v38 val_main_v37 val_main_v36 val_main_cst_4
  generalize val_main_v35 (F := Ideal) x3 = y at e' ⊢
  generalize val_main_v34 (F := Ideal) x3 = y at e ⊢
  pointwise
  rw [e, e', Norm.w_neg_half, Ideal.div_coe (Norm.ms_pos _ (by norm_num)).ne', ← EReal.coe_mul, ← EReal.coe_mul]

theorem ref_qxn_q (r : Fin 2048) (h : Fin 8) (j : Fin 128) : val_main_v40 (F := Ideal) x3 (ix4 0 r h j) = (Norm.xn 128 (qc_q P r h) j : EReal) := by
  have e := ref_q_q hp r h j
  have e' := ref_qinv_q hp r h
  unfold val_main_v40 val_main_v39
  generalize val_main_v35 (F := Ideal) x3 = y at e' ⊢
  generalize val_main_v27 (F := Ideal) x3 = y at e ⊢
  pointwise
  rw [e, e', ← EReal.coe_mul]
  rfl

end Qn_q

section Qr_q
variable {D : Fin 2048 → Fin 8 → Fin 128 → ℝ} (hd : ∀ r h j, x0 (ix4 0 r h j) = (D r h j : EReal))
include hd

theorem ref_d_q (r : Fin 2048) (h : Fin 8) (a b : Fin 2) (l : Fin 32) :
    val_main_v149 (F := Ideal) x0 (ValueIdx.ix6 0 r h a b l) = (D r h ⟨64 * a.val + 32 * b.val + l.val, lane_lt a b l⟩ : EReal) := by
  rw [← hd]
  unfold val_main_v149
  refine shapeCast_apply x0 Gen.shapeCasts_S1x2048x8x128_S1x2048x8x2x2x32 _ _ ?_
  rw [Shape.rowMajor_val_six, Shape.rowMajor_val_four]
  show ((0 * 2048 + r.val) * 8 + h.val) * 128 + (64 * a.val + 32 * b.val + l.val)
    = ((((0 * 2048 + r.val) * 8 + h.val) * 2 + a.val) * 2 + b.val) * 32 + l.val
  omega

theorem ref_d1_q (r : Fin 2048) (h : Fin 8) (a : Fin 2) (l : Fin 32) :
    val_main_v151 (F := Ideal) x0 (ValueIdx.ix5 0 r h a l) = (D r h ⟨64 * a.val + 32 * (0 : Fin 2).val + l.val, lane_lt a 0 l⟩ : EReal) := by
  rw [← ref_d_q hd]
  unfold val_main_v151
  refine (shapeCast_apply (val_main_v150 (F := Ideal) x0) Gen.shapeCasts_S1x2048x8x2x1x32_S1x2048x8x2x32 _ (ValueIdx.ix6 0 r h a 0 l) ?_).trans ?_
  · rw [Shape.rowMajor_val_six, Shape.rowMajor_val_five]
    show ((((0 * 2048 + r.val) * 8 + h.val) * 2 + a.val) * 1 + 0) * 32 + l.val = (((0 * 2048 + r.val) * 8 + h.val) * 2 + a.val) * 32 + l.val
    omega
  · rw [val_main_v150_apply]
    refine congrArg _ (funext fun g => Fin.ext ?_)
    match g with
    | ⟨0, _⟩ => rfl
    | ⟨1, _⟩ => rfl
    | ⟨2, _⟩ => rfl
    | ⟨3, _⟩ => rfl
    | ⟨4, _⟩ => rfl
    | ⟨5, _⟩ => rfl

theorem ref_d2_q (r : Fin 2048) (h : Fin 8) (a : Fin 2) (l : Fin 32) :
    val_main_v153 (F := Ideal) x0 (ValueIdx.ix5 0 r h a l) = (D r h ⟨64 * a.val + 32 * (1 : Fin 2).val + l.val, lane_lt a 1 l⟩ : EReal) := by
  rw [← ref_d_q hd]
  unfold val_main_v153
  refine (shapeCast_apply (val_main_v152 (F := Ideal) x0) Gen.shapeCasts_S1x2048x8x2x1x32_S1x2048x8x2x32 _ (ValueIdx.ix6 0 r h a 0 l) ?_).trans ?_
  · rw [Shape.rowMajor_val_six, Shape.rowMajor_val_five]
    show ((((0 * 2048 + r.val) * 8 + h.val) * 2 + a.val) * 1 + 0) * 32 + l.val = (((0 * 2048 + r.val) * 8 + h.val) * 2 + a.val) * 32 + l.val
    omega
  · rw [val_main_v152_apply]
    refine congrArg _ (funext fun g => Fin.ext ?_)
    match g with
    | ⟨0, _⟩ => rfl
    | ⟨1, _⟩ => rfl
    | ⟨2, _⟩ => rfl
    | ⟨3, _⟩ => rfl
    | ⟨4, _⟩ => rfl
    | ⟨5, _⟩ => rfl

omit hd in
theorem ref_c5_q (r : Fin 2048) (h : Fin 8) (a : Fin 2) (l : Fin 32) :
    val_main_v156 (F := Ideal) (ValueIdx.ix5 0 r h a l) = (Real.cos (angle r a l) : EReal)
    ∧ val_main_v162 (F := Ideal) (ValueIdx.ix5 0 r h a l) = (Real.cos (angle r a l) : EReal) := by
  rw [val_main_v156_apply, val_main_v162_apply, val_main_v49_apply]
  refine ⟨(congrArg (val_main_v22 (F := Ideal)) (funext fun g => ?_)).trans (ref_cos r a l), (congrArg (val_main_v22 (F := Ideal)) (funext fun g => ?_)).trans (ref_cos r a l)⟩
  all_goals
    match g with
    | ⟨0, _⟩ => rfl
    | ⟨1, _⟩ => rfl
    | ⟨2, _⟩ => rfl

omit hd in
theorem ref_s5_q (r : Fin 2048) (h : Fin 8) (a : Fin 2) (l : Fin 32) :
    val_main_v154 (F := Ideal) (ValueIdx.ix5 0 r h a l) = (Real.sin (angle r a l) : EReal)
    ∧ val_main_v159 (F := Ideal) (ValueIdx.ix5 0 r h a l) = (Real.sin (angle r a l) : EReal) := by
  rw [val_main_v154_apply, val_main_v159_apply, val_main_v50_apply]
  refine ⟨(congrArg (val_main_v23 (F := Ideal)) (funext fun g => ?_)).trans (ref_sin r a l), (congrArg (val_main_v23 (F := Ideal)) (funext fun g => ?_)).trans (ref_sin r a l)⟩
  all_goals
    match g with
    | ⟨0, _⟩ => rfl
    | ⟨1, _⟩ => rfl
    | ⟨2, _⟩ => rfl

/-- The two halves' gradients, side by side: each half stands on its own lanes, with zeros on the other's. -/
theorem ref_cat_q (r : Fin 2048) (h : Fin 8) (a b : Fin 2) (l : Fin 32) : val_main_v169 (F := Ideal) x0 (ValueIdx.ix6 0 r h a b l)
    = if b = 0 then val_main_v164 (F := Ideal) x0 (ValueIdx.ix5 0 r h a l) else val_main_v161 (F := Ideal) x0 (ValueIdx.ix5 0 r h a l) := by
  unfold val_main_v169 val_main_v166 val_main_v168 val_main_v165 val_main_v167 val_main_cst_16 val_main_cst_17
  generalize val_main_v164 (F := Ideal) x0 = y1
  generalize val_main_v161 (F := Ideal) x0 = y2
  fin_cases b
  · pointwise
    rfl
  · pointwise
    rfl

theorem ref_rot_q (r : Fin 2048) (h : Fin 8) (j : Fin 128) : val_main_v170 (F := Ideal) x0 (ix4 0 r h j) = (rot r (D r h) j : EReal) := by
  have hc := ref_cat_q hd r h ⟨j.val / 64, axis_lt j⟩ ⟨j.val / 32 % 2, Nat.mod_lt _ (by norm_num)⟩ ⟨j.val % 32, half_lt j⟩
  unfold val_main_v170
  refine (shapeCast_apply (val_main_v169 (F := Ideal) x0) Gen.shapeCasts_S1x2048x8x2x2x32_S1x2048x8x128 _
    (ValueIdx.ix6 0 r h ⟨j.val / 64, axis_lt j⟩ ⟨j.val / 32 % 2, Nat.mod_lt _ (by norm_num)⟩ ⟨j.val % 32, half_lt j⟩) ?_).trans (hc.trans ?_)
  · rw [Shape.rowMajor_val_six, Shape.rowMajor_val_four]
    show ((((0 * 2048 + r.val) * 8 + h.val) * 2 + j.val / 64) * 2 + j.val / 32 % 2) * 32 + j.val % 32 = ((0 * 2048 + r.val) * 8 + h.val) * 128 + j.val
    omega
  · rw [val_main_v164_apply, val_main_v161_apply, val_main_v155_apply, val_main_v163_apply, val_main_v157_apply, val_main_v160_apply,
      val_main_v158_apply, ref_d1_q hd, ref_d2_q hd, (ref_c5_q r h _ _).1, (ref_c5_q r h _ _).2, (ref_s5_q r h _ _).1, (ref_s5_q r h _ _).2]
    exact rot_of r (D r h) j

variable (hp : ∀ r k, x3 (ix3 0 r k) = (P r k : EReal))
include hp

theorem ref_gain_q (j : Fin 128) : val_main_v196 (F := Ideal) x0 x3 (ix2 0 j)
    = ((∑ r, ∑ h, Norm.xn 128 (qc_q P r h) j * rot r (D r h) j : ℝ) : EReal) := by
  have e1 := ref_rot_q hd
  have e2 := ref_qxn_q hp
  have h2 : val_main_v176 (F := Ideal) x0 x3 (ix1 j) = val_main_v172 (F := Ideal) x0 x3 (ix2 0 j) := by
    unfold val_main_v176
    refine (sum_unit _ _ j).trans ?_
    unfold val_main_v173 val_main_cst_19
    generalize val_main_v172 (F := Ideal) x0 x3 = y
    pointwise
  rw [val_main_v196_apply]
  refine (congrArg (val_main_v176 (F := Ideal) x0 x3) (funext fun a => Fin.ext (by
    match a with | ⟨0, _⟩ => show 0 * 128 + j.val = j.val; omega))).trans (h2.trans ?_)
  unfold val_main_v172
  refine (sumrows_q _ _ j).trans ?_
  unfold val_main_v171 val_main_cst_18
  generalize val_main_v170 (F := Ideal) x0 = y1 at e1 ⊢
  generalize val_main_v40 (F := Ideal) x3 = y2 at e2 ⊢
  pointwise
  simp only [e1, e2, zero_add, ← EReal.coe_mul, ← coe_sum]

variable {G : Fin 128 → ℝ} (hg : ∀ j, x4 (ix1 j) = (G j : EReal))
include hg

theorem ref_z_q (r : Fin 2048) (h : Fin 8) (j : Fin 128) : val_main_v175 (F := Ideal) x0 x4 (ix4 0 r h j) = ((rot r (D r h) j * G j : ℝ) : EReal) := by
  have e1 := ref_rot_q hd r h j
  unfold val_main_v175 val_main_v174 val_main_v41
  generalize val_main_v170 (F := Ideal) x0 = y1 at e1 ⊢
  pointwise
  rw [e1, hg, ← EReal.coe_mul]

theorem ref_mean_q (r : Fin 2048) (h : Fin 8) : val_main_v184 (F := Ideal) x0 x3 x4 (ix4 0 r h 0)
    = (((∑ j, qc_q P r h j * (rot r (D r h) j * G j)) * (-(1 / 2) * (Norm.inv 128 (qc_q P r h) * (1 / Norm.ms 128 (qc_q P r h)))) * (1 / 128) : ℝ) : EReal) := by
  have e1 := ref_z_q hd hp hg r h
  have e2 := ref_q_q hp r h
  have e3 := ref_qhalf_q hp r h
  unfold val_main_v184 val_main_v183 val_main_v182 val_main_v179 val_main_v178 val_main_v177 val_main_cst_20 val_main_cst_21
  generalize val_main_v175 (F := Ideal) x0 x4 = y1 at e1 ⊢
  generalize val_main_v27 (F := Ideal) x3 = y2 at e2 ⊢
  generalize val_main_v38 (F := Ideal) x3 = y3 at e3 ⊢
  pointwise
  rw [Norm.w_128, e3, Ideal.div_coe (by norm_num)]
  simp only [e1, e2, zero_add, ← EReal.coe_mul, ← coe_sum]

theorem ref_mean2_q (r : Fin 2048) (h : Fin 8) (j : Fin 128) : val_main_v187 (F := Ideal) x0 x3 x4 (ix4 0 r h j)
    = val_main_v184 (F := Ideal) x0 x3 x4 (ix4 0 r h 0) := by
  have h2 : val_main_v185 (F := Ideal) x0 x3 x4 (ix2 r h) = val_main_v184 (F := Ideal) x0 x3 x4 (ix4 0 r h 0) := by
    unfold val_main_v185
    refine (sum4_q _ _ r h).trans ?_
    generalize val_main_v184 (F := Ideal) x0 x3 x4 = y
    unfold val_main_cst_22
    pointwise
  rw [← h2, val_main_v187_apply, val_main_v186_apply]
  refine congrArg _ (funext fun a => ?_)
  match a with
  | ⟨0, _⟩ => rfl
  | ⟨1, _⟩ => rfl

/-- The gradient of the head's columns. -/
theorem ref_dx_q (r : Fin 2048) (h : Fin 8) (j : Fin 128) : val_main_v191 (F := Ideal) x0 x3 x4 (ix4 0 r h j)
    = (Norm.dx 128 (qc_q P r h) (fun i => rot r (D r h) i * G i) j : EReal) := by
  have e1 := ref_z_q hd hp hg r h j
  have e2 := ref_q_q hp r h j
  have e3 := (ref_mean2_q hd hp hg r h j).trans (ref_mean_q hd hp hg r h)
  have e4 := ref_qinv_q hp r h
  rw [← Norm.dx_eq _ _ (by norm_num)]
  unfold val_main_v191 val_main_v190 val_main_v189 val_main_v188 val_main_v181 val_main_v180
  generalize val_main_v187 (F := Ideal) x0 x3 x4 = y3 at e3 ⊢
  generalize val_main_v175 (F := Ideal) x0 x4 = y1 at e1 ⊢
  generalize val_main_v27 (F := Ideal) x3 = y2 at e2 ⊢
  generalize val_main_v35 (F := Ideal) x3 = y4 at e4 ⊢
  pointwise
  rw [e1, e2, e3, e4]
  simp only [← EReal.coe_mul, ← EReal.coe_add]

end Qr_q

end Cert.Qkv

end
-- ==== Proof.QkvRefK.lean ====
/-
  The reference's gradients of the keys' norm and rotary embedding, read over the reals where the
  cotangents, the projection and the norms' weights hold reals.
-/
module

public import proofs.«01_k».proof.Proof.QkvRope
public import Idealize.ShloMosaic.Lib.Pipeline.ValueKit
public import Idealize.ShloMosaic.Lib.ValueIdxRank6

@[expose] public section

set_option maxRecDepth 16384

noncomputable section

namespace Cert.Qkv

open Idealize.ShloMosaic Idealize.ShloMosaic.TcCoe Idealize.SL.Sem
open Cert.ReferenceQkvIdeal Cert.ReferenceQkvIdeal.Read Cert.Maths

variable {x0 : FVec Ideal S1x2048x8x128 .f32} {x1 x2 : FVec Ideal S1x2048x2x128 .f32} {x3 : FVec Ideal S1x2048x12800 .f32}
  {x4 x5 : FVec Ideal S128 .f32} {P : Fin 2048 → Fin 12800 → ℝ}

/-! ## The keys -/

theorem sum4_k (x : S1x2048x2x1.Idx → EReal) (init : EReal) (r : Fin 2048) (h : Fin 2) :
    Ideal.hostReduceAdd Gen.reducesTo_S1x2048x2x1_S2048x2_d0_3 x init (ix2 r h) = init + x (ix4 0 r h 0) := by
  unfold Ideal.hostReduceAdd
  congr 1
  have hd : ∀ r' h', Gen.reducesTo_S1x2048x2x1_S2048x2_d0_3.drop (ix4 (0 : Fin 1) (r' : Fin 2048) (h' : Fin 2) (0 : Fin 1)) = ix2 r' h' := fun r' h' =>
    funext fun a => match a with
    | ⟨0, _⟩ => rfl
    | ⟨1, _⟩ => rfl
  refine (Finset.sum_eq_single (ix4 0 r h 0) (fun i hi hne => ?_) fun e => (e (Finset.mem_filter.mpr ⟨Finset.mem_univ _, hd r h⟩)).elim)
  idx_vars i
  obtain rfl : i0 = 0 := Subsingleton.elim _ _
  obtain rfl : i3 = 0 := Subsingleton.elim _ _
  have e := (Finset.mem_filter.mp hi).2
  rw [hd] at e
  exact (hne (by rw [show i1 = r from congrFun e 0, show i2 = h from congrFun e 1])).elim

theorem sumrows_k (x : S1x2048x2x128.Idx → EReal) (init : EReal) (j : Fin 128) :
    Ideal.hostReduceAdd Gen.reducesTo_S1x2048x2x128_S1x128_d1_2 x init (ix2 0 j) = init + ∑ r, ∑ h, x (ix4 0 r h j) := by
  have hd : ∀ r' h' j', Gen.reducesTo_S1x2048x2x128_S1x128_d1_2.drop (ix4 (0 : Fin 1) (r' : Fin 2048) (h' : Fin 2) (j' : Fin 128)) = ix2 0 j' :=
    fun r' h' j' => funext fun a => match a with
    | ⟨0, _⟩ => rfl
    | ⟨1, _⟩ => rfl
  have hc : ∀ i : S1x2048x2x128.Idx, ∃ (r : Fin 2048) (h : Fin 2) (k : Fin 128), i = ix4 0 r h k := fun i => by
    idx_vars i
    obtain rfl : i0 = 0 := Subsingleton.elim _ _
    exact ⟨i1, i2, i3, rfl⟩
  have hs : (Finset.univ.filter fun i => Gen.reducesTo_S1x2048x2x128_S1x128_d1_2.drop i = ix2 0 j)
      = Finset.univ.image (fun p : Fin 2048 × Fin 2 => (ix4 0 p.1 p.2 j : S1x2048x2x128.Idx)) := by
    apply Finset.ext
    intro i
    obtain ⟨r, h, k, rfl⟩ := hc i
    rw [Finset.mem_filter, Finset.mem_image, hd]
    constructor
    · intro e
      have e' : k = j := congrFun e.2 1
      refine ⟨(r, h), ?_, ?_⟩
      · simp only [Finset.mem_univ]
      show (ix4 0 r h j : S1x2048x2x128.Idx) = ix4 0 r h k
      rw [e']
    · rintro ⟨p, -, hp⟩
      have hp' : (ix4 0 p.1 p.2 j : S1x2048x2x128.Idx) = ix4 0 r h k := hp
      have e' : j = k := congrFun hp' 3
      rw [e']
      refine ⟨?_, rfl⟩
      simp only [Finset.mem_univ]
  unfold Ideal.hostReduceAdd
  rw [hs, Finset.sum_image, Fintype.sum_prod_type]
  intro p _ q _ e
  replace e : (ix4 0 p.1 p.2 j : S1x2048x2x128.Idx) = ix4 0 q.1 q.2 j := e
  have e1 : p.1 = q.1 := congrFun e 1
  have e2 : p.2 = q.2 := congrFun e 2
  exact Prod.ext e1 e2

theorem qat_lt_k (h : Fin 2) (j : Fin 128) : 5120 + (128 * h.val + j.val) < 12800 := by omega
/-- The head's columns of the projection. -/
def qc_k (P : Fin 2048 → Fin 12800 → ℝ) (r : Fin 2048) (h : Fin 2) (j : Fin 128) : ℝ := P r ⟨5120 + (128 * h.val + j.val), qat_lt_k h j⟩

section Qn_k
variable (hp : ∀ r k, x3 (ix3 0 r k) = (P r k : EReal))
include hp

theorem ref_q_k (r : Fin 2048) (h : Fin 2) (j : Fin 128) : val_main_v65 (F := Ideal) x3 (ix4 0 r h j) = (qc_k P r h j : EReal) := by
  rw [val_main_v65_apply, val_main_v25_apply]
  unfold qc_k
  rw [← hp]
  refine congrArg x3 (funext fun a => Fin.ext ?_)
  match a with
  | ⟨0, _⟩ => rfl
  | ⟨1, _⟩ => show ((((0 * 2048 + r.val) * 2 + h.val) * 128 + j.val) / 256 % 2048) = r.val; omega
  | ⟨2, _⟩ => show 5120 + ((((0 * 2048 + r.val) * 2 + h.val) * 128 + j.val) % 256) = 5120 + (128 * h.val + j.val); omega

theorem ref_qms_k (r : Fin 2048) (h : Fin 2) : val_main_v72 (F := Ideal) x3 (ix4 0 r h 0) = (Norm.ms 128 (qc_k P r h) : EReal) := by
  have e := ref_q_k hp r h
  unfold val_main_v72 val_main_v71 val_main_v70 val_main_v69 val_main_v68 val_main_v67 val_main_v66 val_main_cst_5 val_main_cst_6 val_main_cst_7
  generalize val_main_v65 (F := Ideal) x3 = y at e ⊢
  pointwise
  rw [Norm.w_128, Norm.w_eps, Ideal.div_coe (by norm_num)]
  simp only [e, zero_add, ← EReal.coe_mul, ← coe_sum, ← EReal.coe_add]
  rfl

theorem ref_qinv_k (r : Fin 2048) (h : Fin 2) : val_main_v73 (F := Ideal) x3 (ix4 0 r h 0) = (Norm.inv 128 (qc_k P r h) : EReal) := by
  have e := ref_qms_k hp r h
  unfold val_main_v73
  generalize val_main_v72 (F := Ideal) x3 = y at e ⊢
  pointwise
  rw [e, Norm.rsqrt_ms _ (by norm_num)]

theorem ref_qhalf_k (r : Fin 2048) (h : Fin 2) : val_main_v76 (F := Ideal) x3 (ix4 0 r h 0)
    = ((-(1 / 2) * (Norm.inv 128 (qc_k P r h) * (1 / Norm.ms 128 (qc_k P r h))) : ℝ) : EReal) := by
  have e := ref_qms_k hp r h
  have e' := ref_qinv_k hp r h
  unfold val_main_v76 val_main_v75 val_main_v74 val_main_cst_8
  generalize val_main_v73 (F := Ideal) x3 = y at e' ⊢
  generalize val_main_v72 (F := Ideal) x3 = y at e ⊢
  pointwise
  rw [e, e', Norm.w_neg_half, Ideal.div_coe (Norm.ms_pos _ (by norm_num)).ne', ← EReal.coe_mul, ← EReal.coe_mul]

theorem ref_qxn_k (r : Fin 2048) (h : Fin 2) (j : Fin 128) : val_main_v78 (F := Ideal) x3 (ix4 0 r h j) = (Norm.xn 128 (qc_k P r h) j : EReal) := by
  have e := ref_q_k hp r h j
  have e' := ref_qinv_k hp r h
  unfold val_main_v78 val_main_v77
  generalize val_main_v73 (F := Ideal) x3 = y at e' ⊢
  generalize val_main_v65 (F := Ideal) x3 = y at e ⊢
  pointwise
  rw [e, e', ← EReal.coe_mul]
  rfl

end Qn_k

section Qr_k
variable {D : Fin 2048 → Fin 2 → Fin 128 → ℝ} (hd : ∀ r h j, x1 (ix4 0 r h j) = (D r h j : EReal))
include hd

theorem ref_d_k (r : Fin 2048) (h : Fin 2) (a b : Fin 2) (l : Fin 32) :
    val_main_v105 (F := Ideal) x1 (ValueIdx.ix6 0 r h a b l) = (D r h ⟨64 * a.val + 32 * b.val + l.val, lane_lt a b l⟩ : EReal) := by
  rw [← hd]
  unfold val_main_v105
  refine shapeCast_apply x1 Gen.shapeCasts_S1x2048x2x128_S1x2048x2x2x2x32 _ _ ?_
  rw [Shape.rowMajor_val_six, Shape.rowMajor_val_four]
  show ((0 * 2048 + r.val) * 2 + h.val) * 128 + (64 * a.val + 32 * b.val + l.val)
    = ((((0 * 2048 + r.val) * 2 + h.val) * 2 + a.val) * 2 + b.val) * 32 + l.val
  omega

theorem ref_d1_k (r : Fin 2048) (h : Fin 2) (a : Fin 2) (l : Fin 32) :
    val_main_v107 (F := Ideal) x1 (ValueIdx.ix5 0 r h a l) = (D r h ⟨64 * a.val + 32 * (0 : Fin 2).val + l.val, lane_lt a 0 l⟩ : EReal) := by
  rw [← ref_d_k hd]
  unfold val_main_v107
  refine (shapeCast_apply (val_main_v106 (F := Ideal) x1) Gen.shapeCasts_S1x2048x2x2x1x32_S1x2048x2x2x32 _ (ValueIdx.ix6 0 r h a 0 l) ?_).trans ?_
  · rw [Shape.rowMajor_val_six, Shape.rowMajor_val_five]
    show ((((0 * 2048 + r.val) * 2 + h.val) * 2 + a.val) * 1 + 0) * 32 + l.val = (((0 * 2048 + r.val) * 2 + h.val) * 2 + a.val) * 32 + l.val
    omega
  · rw [val_main_v106_apply]
    refine congrArg _ (funext fun g => Fin.ext ?_)
    match g with
    | ⟨0, _⟩ => rfl
    | ⟨1, _⟩ => rfl
    | ⟨2, _⟩ => rfl
    | ⟨3, _⟩ => rfl
    | ⟨4, _⟩ => rfl
    | ⟨5, _⟩ => rfl

theorem ref_d2_k (r : Fin 2048) (h : Fin 2) (a : Fin 2) (l : Fin 32) :
    val_main_v109 (F := Ideal) x1 (ValueIdx.ix5 0 r h a l) = (D r h ⟨64 * a.val + 32 * (1 : Fin 2).val + l.val, lane_lt a 1 l⟩ : EReal) := by
  rw [← ref_d_k hd]
  unfold val_main_v109
  refine (shapeCast_apply (val_main_v108 (F := Ideal) x1) Gen.shapeCasts_S1x2048x2x2x1x32_S1x2048x2x2x32 _ (ValueIdx.ix6 0 r h a 0 l) ?_).trans ?_
  · rw [Shape.rowMajor_val_six, Shape.rowMajor_val_five]
    show ((((0 * 2048 + r.val) * 2 + h.val) * 2 + a.val) * 1 + 0) * 32 + l.val = (((0 * 2048 + r.val) * 2 + h.val) * 2 + a.val) * 32 + l.val
    omega
  · rw [val_main_v108_apply]
    refine congrArg _ (funext fun g => Fin.ext ?_)
    match g with
    | ⟨0, _⟩ => rfl
    | ⟨1, _⟩ => rfl
    | ⟨2, _⟩ => rfl
    | ⟨3, _⟩ => rfl
    | ⟨4, _⟩ => rfl
    | ⟨5, _⟩ => rfl

omit hd in
theorem ref_c5_k (r : Fin 2048) (h : Fin 2) (a : Fin 2) (l : Fin 32) :
    val_main_v112 (F := Ideal) (ValueIdx.ix5 0 r h a l) = (Real.cos (angle r a l) : EReal)
    ∧ val_main_v118 (F := Ideal) (ValueIdx.ix5 0 r h a l) = (Real.cos (angle r a l) : EReal) := by
  rw [val_main_v112_apply, val_main_v118_apply, val_main_v87_apply]
  refine ⟨(congrArg (val_main_v22 (F := Ideal)) (funext fun g => ?_)).trans (ref_cos r a l), (congrArg (val_main_v22 (F := Ideal)) (funext fun g => ?_)).trans (ref_cos r a l)⟩
  all_goals
    match g with
    | ⟨0, _⟩ => rfl
    | ⟨1, _⟩ => rfl
    | ⟨2, _⟩ => rfl

omit hd in
theorem ref_s5_k (r : Fin 2048) (h : Fin 2) (a : Fin 2) (l : Fin 32) :
    val_main_v110 (F := Ideal) (ValueIdx.ix5 0 r h a l) = (Real.sin (angle r a l) : EReal)
    ∧ val_main_v115 (F := Ideal) (ValueIdx.ix5 0 r h a l) = (Real.sin (angle r a l) : EReal) := by
  rw [val_main_v110_apply, val_main_v115_apply, val_main_v88_apply]
  refine ⟨(congrArg (val_main_v23 (F := Ideal)) (funext fun g => ?_)).trans (ref_sin r a l), (congrArg (val_main_v23 (F := Ideal)) (funext fun g => ?_)).trans (ref_sin r a l)⟩
  all_goals
    match g with
    | ⟨0, _⟩ => rfl
    | ⟨1, _⟩ => rfl
    | ⟨2, _⟩ => rfl

/-- The two halves' gradients, side by side: each half stands on its own lanes, with zeros on the other's. -/
theorem ref_cat_k (r : Fin 2048) (h : Fin 2) (a b : Fin 2) (l : Fin 32) : val_main_v125 (F := Ideal) x1 (ValueIdx.ix6 0 r h a b l)
    = if b = 0 then val_main_v120 (F := Ideal) x1 (ValueIdx.ix5 0 r h a l) else val_main_v117 (F := Ideal) x1 (ValueIdx.ix5 0 r h a l) := by
  unfold val_main_v125 val_main_v122 val_main_v124 val_main_v121 val_main_v123 val_main_cst_9 val_main_cst_10
  generalize val_main_v120 (F := Ideal) x1 = y1
  generalize val_main_v117 (F := Ideal) x1 = y2
  fin_cases b
  · pointwise
    rfl
  · pointwise
    rfl

theorem ref_rot_k (r : Fin 2048) (h : Fin 2) (j : Fin 128) : val_main_v126 (F := Ideal) x1 (ix4 0 r h j) = (rot r (D r h) j : EReal) := by
  have hc := ref_cat_k hd r h ⟨j.val / 64, axis_lt j⟩ ⟨j.val / 32 % 2, Nat.mod_lt _ (by norm_num)⟩ ⟨j.val % 32, half_lt j⟩
  unfold val_main_v126
  refine (shapeCast_apply (val_main_v125 (F := Ideal) x1) Gen.shapeCasts_S1x2048x2x2x2x32_S1x2048x2x128 _
    (ValueIdx.ix6 0 r h ⟨j.val / 64, axis_lt j⟩ ⟨j.val / 32 % 2, Nat.mod_lt _ (by norm_num)⟩ ⟨j.val % 32, half_lt j⟩) ?_).trans (hc.trans ?_)
  · rw [Shape.rowMajor_val_six, Shape.rowMajor_val_four]
    show ((((0 * 2048 + r.val) * 2 + h.val) * 2 + j.val / 64) * 2 + j.val / 32 % 2) * 32 + j.val % 32 = ((0 * 2048 + r.val) * 2 + h.val) * 128 + j.val
    omega
  · rw [val_main_v120_apply, val_main_v117_apply, val_main_v111_apply, val_main_v119_apply, val_main_v113_apply, val_main_v116_apply,
      val_main_v114_apply, ref_d1_k hd, ref_d2_k hd, (ref_c5_k r h _ _).1, (ref_c5_k r h _ _).2, (ref_s5_k r h _ _).1, (ref_s5_k r h _ _).2]
    exact rot_of r (D r h) j

variable (hp : ∀ r k, x3 (ix3 0 r k) = (P r k : EReal))
include hp

theorem ref_gain_k (j : Fin 128) : val_main_v197 (F := Ideal) x1 x3 (ix2 0 j)
    = ((∑ r, ∑ h, Norm.xn 128 (qc_k P r h) j * rot r (D r h) j : ℝ) : EReal) := by
  have e1 := ref_rot_k hd
  have e2 := ref_qxn_k hp
  have h2 : val_main_v132 (F := Ideal) x1 x3 (ix1 j) = val_main_v128 (F := Ideal) x1 x3 (ix2 0 j) := by
    unfold val_main_v132
    refine (sum_unit _ _ j).trans ?_
    unfold val_main_v129 val_main_cst_12
    generalize val_main_v128 (F := Ideal) x1 x3 = y
    pointwise
  rw [val_main_v197_apply]
  refine (congrArg (val_main_v132 (F := Ideal) x1 x3) (funext fun a => Fin.ext (by
    match a with | ⟨0, _⟩ => show 0 * 128 + j.val = j.val; omega))).trans (h2.trans ?_)
  unfold val_main_v128
  refine (sumrows_k _ _ j).trans ?_
  unfold val_main_v127 val_main_cst_11
  generalize val_main_v126 (F := Ideal) x1 = y1 at e1 ⊢
  generalize val_main_v78 (F := Ideal) x3 = y2 at e2 ⊢
  pointwise
  simp only [e1, e2, zero_add, ← EReal.coe_mul, ← coe_sum]

variable {G : Fin 128 → ℝ} (hg : ∀ j, x5 (ix1 j) = (G j : EReal))
include hg

theorem ref_z_k (r : Fin 2048) (h : Fin 2) (j : Fin 128) : val_main_v131 (F := Ideal) x1 x5 (ix4 0 r h j) = ((rot r (D r h) j * G j : ℝ) : EReal) := by
  have e1 := ref_rot_k hd r h j
  unfold val_main_v131 val_main_v130 val_main_v79
  generalize val_main_v126 (F := Ideal) x1 = y1 at e1 ⊢
  pointwise
  rw [e1, hg, ← EReal.coe_mul]

theorem ref_mean_k (r : Fin 2048) (h : Fin 2) : val_main_v140 (F := Ideal) x1 x3 x5 (ix4 0 r h 0)
    = (((∑ j, qc_k P r h j * (rot r (D r h) j * G j)) * (-(1 / 2) * (Norm.inv 128 (qc_k P r h) * (1 / Norm.ms 128 (qc_k P r h)))) * (1 / 128) : ℝ) : EReal) := by
  have e1 := ref_z_k hd hp hg r h
  have e2 := ref_q_k hp r h
  have e3 := ref_qhalf_k hp r h
  unfold val_main_v140 val_main_v139 val_main_v138 val_main_v135 val_main_v134 val_main_v133 val_main_cst_13 val_main_cst_14
  generalize val_main_v131 (F := Ideal) x1 x5 = y1 at e1 ⊢
  generalize val_main_v65 (F := Ideal) x3 = y2 at e2 ⊢
  generalize val_main_v76 (F := Ideal) x3 = y3 at e3 ⊢
  pointwise
  rw [Norm.w_128, e3, Ideal.div_coe (by norm_num)]
  simp only [e1, e2, zero_add, ← EReal.coe_mul, ← coe_sum]

theorem ref_mean2_k (r : Fin 2048) (h : Fin 2) (j : Fin 128) : val_main_v143 (F := Ideal) x1 x3 x5 (ix4 0 r h j)
    = val_main_v140 (F := Ideal) x1 x3 x5 (ix4 0 r h 0) := by
  have h2 : val_main_v141 (F := Ideal) x1 x3 x5 (ix2 r h) = val_main_v140 (F := Ideal) x1 x3 x5 (ix4 0 r h 0) := by
    unfold val_main_v141
    refine (sum4_k _ _ r h).trans ?_
    generalize val_main_v140 (F := Ideal) x1 x3 x5 = y
    unfold val_main_cst_15
    pointwise
  rw [← h2, val_main_v143_apply, val_main_v142_apply]
  refine congrArg _ (funext fun a => ?_)
  match a with
  | ⟨0, _⟩ => rfl
  | ⟨1, _⟩ => rfl

/-- The gradient of the head's columns. -/
theorem ref_dx_k (r : Fin 2048) (h : Fin 2) (j : Fin 128) : val_main_v147 (F := Ideal) x1 x3 x5 (ix4 0 r h j)
    = (Norm.dx 128 (qc_k P r h) (fun i => rot r (D r h) i * G i) j : EReal) := by
  have e1 := ref_z_k hd hp hg r h j
  have e2 := ref_q_k hp r h j
  have e3 := (ref_mean2_k hd hp hg r h j).trans (ref_mean_k hd hp hg r h)
  have e4 := ref_qinv_k hp r h
  rw [← Norm.dx_eq _ _ (by norm_num)]
  unfold val_main_v147 val_main_v146 val_main_v145 val_main_v144 val_main_v137 val_main_v136
  generalize val_main_v143 (F := Ideal) x1 x3 x5 = y3 at e3 ⊢
  generalize val_main_v131 (F := Ideal) x1 x5 = y1 at e1 ⊢
  generalize val_main_v65 (F := Ideal) x3 = y2 at e2 ⊢
  generalize val_main_v73 (F := Ideal) x3 = y4 at e4 ⊢
  pointwise
  rw [e1, e2, e3, e4]
  simp only [← EReal.coe_mul, ← EReal.coe_add]

end Qr_k

end Cert.Qkv

end
-- ==== Proof.QkvHead.lean ====
module

public import proofs.«01_k».proof.Proof.Gen.KernelQkvIdeal.Frame
public import proofs.«01_k».proof.Proof.Gen.KernelQkvIdeal.Skeleton
public import Idealize.ShloMosaic.Lib.Pipeline.FrameValue
public import Idealize.ShloMosaic.Lib.Ring
public import Idealize.ShloMosaic.Lib.Pipeline.ValueKit
public import Idealize.ShloMosaic.Lib.VecWindow
public import Idealize.ShloMosaic.Lib.ValueLayout

@[expose] public section

set_option maxRecDepth 16384

noncomputable section

/-! # The body of the queries' and keys' norm and rotary gradient: what a step computes

At step `t` the body reads a block of 512 rows of its inputs, packs the gradients of the eight query heads, of the two
key heads and of the values into its stash, adds to the two accumulated gains, and sends the stash behind its back to
the rows' place in the array of the projection's gradient.  Before it packs, it waits for the copy the step before
has sent; at the last step it also waits for its own. -/

namespace Cert.KernelQkvIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelQkvIdeal Cert.KernelQkvIdeal.Gen

variable {F : FTy → Type} [FloatOps F]

local notation "𝕄" => MT nD τ sig Unit (Elt F) ℕ (Pipeline.UD sig nD τ) ℕ

/-! ## Names for what the copies touch -/

/-- The array the copies write, and the stash they read. -/
abbrev hbM : Memref sig .tc .hbm S2048x12800 .bf16 := Memref.whole main_v39_2
abbrev scM : Memref sig .tc .vmem S1x512x1536 .bf16 := Memref.whole cc0_scratch0

theorem inb_piece (u : Fin 4) : ∀ a, (![512 * u.val, 4096] : Fin 2 → Nat) a + S512x1536.size a ≤ S2048x12800.size a := by
  revert u; decide

/-- The stash as a copy names it. -/
def tile : Memref sig .tc .vmem S512x1536 .bf16 :=
  (scM.slice (Rect.unit (s := S1x512x1536) ![0, 0, 0] S1x512x1536.size inb_S1x512x1536_S1x512x1536_0_0_0) (fun _ => rfl)).squeeze S512x1536 squeezes_S1x512x1536_S512x1536

/-- The place step `u` writes: its 512 rows, the 1536 columns of queries, keys and values. -/
def piece (u : Fin 4) : Memref sig .tc .hbm S512x1536 .bf16 :=
  hbM.slice (Rect.unit (s := S2048x12800) ![512 * u.val, 4096] S512x1536.size (inb_piece u)) (fun _ => rfl)

/-- The one cell the copies are counted on. -/
def cellA : DmaSems sig S_ := (cc0_scratch1.slice (Rect.unit (s := S1) ![0] S1.size inb_S1_S1_0)).squeeze S_ squeezes_S1_S_
abbrev cellR : SemLoc sig := SemLoc.dma cellA.sem

/-- Contents of the buffer under a memref. -/
abbrev BufOf (c : Dev nD) {sp : Space} {S : Shape} {e : EltTy} (M : Memref sig .tc sp S e) : Type := Buf (Elt F) (M.view.loc (c : Thread nD τ))

abbrev tileP (c : Dev nD) (e : BufOf (F := F) c tile) : sProp 𝕄 := tile.view.loc (c : Thread nD τ) ↦[tile.view.set]{fullShare} e
abbrev cellP (c : Dev nD) : sProp 𝕄 := semVal ((c : Thread nD τ), cellR) 0
abbrev pieceP (c : Dev nD) (u : Fin 4) (f : BufOf (F := F) c (piece u)) : sProp 𝕄 := (piece u).view.loc (c : Thread nD τ) ↦[(piece u).view.set]{fullShare} f
/-- The copy of step `u` under way: it will hand over the piece at `f` and the stash at `e`. -/
abbrev flightP (c : Dev nD) (u : Fin 4) (f : BufOf (F := F) c (piece u)) (e : BufOf (F := F) c tile) : sProp 𝕄 :=
  Transfers.Flight countersEmb (c : Thread nD τ) cellR default ((piece u).view.amount cellR) iprop(pieceP c u f ∗ tileP c e)

/-- The step of a point, as a number below 4. -/
abbrev stepOf (t : Fin cfg0.N) : Fin 4 := Ring.bk 4 t.val

section Canon
omit [FloatOps F]
@[sl_canon] theorem tile_canon :
    (scM.slice (Rect.unit (s := S1x512x1536) ![0, 0, 0] S1x512x1536.size inb_S1x512x1536_S1x512x1536_0_0_0) (fun _ => rfl)).squeeze S512x1536 squeezes_S1x512x1536_S512x1536 = tile := rfl
@[sl_canon] theorem tile_canon' :
    (scM.slice (Rect.unit (s := S1x512x1536) ![0, 0, 0] ![1, 512, 1536] inb_S1x512x1536_S1x512x1536_0_0_0) (fun _ => rfl)).squeeze S512x1536 squeezes_S1x512x1536_S512x1536 = tile := rfl
@[sl_canon] theorem cell_canon : (cc0_scratch1.slice (Rect.unit (s := S1) ![0] S1.size inb_S1_S1_0)).squeeze S_ squeezes_S1_S_ = cellA := rfl
@[sl_canon] theorem cell_canon' : (cc0_scratch1.slice (Rect.unit (s := S1) ![0] ![1] inb_S1_S1_0)).squeeze S_ squeezes_S1_S_ = cellA := rfl
theorem off2_eq : ∀ t : Fin grid0.N, k0_off2 (grid0.coords t) = ![512 * (Ring.bk 4 t.val).val, 4096] := by decide +kernel
@[sl_canon] theorem piece_canon (t : Fin grid0.N) :
    hbM.slice (Rect.unit (s := S2048x12800) (k0_off2 (grid0.coords t)) S512x1536.size (k0_off2_inb (grid0.coords t))) (fun _ => rfl) = piece (Ring.bk 4 t.val) :=
  congrArg (fun M : Memref sig .tc .hbm S512x1536 .bf16 => M) (Memref.slice_unit_congr _ (off2_eq t) _ _ (fun _ => rfl) (fun _ => rfl))
@[sl_canon] theorem piece_canon' (t : Fin grid0.N) :
    hbM.slice (Rect.unit (s := S2048x12800) (k0_off2 (grid0.coords t)) ![512, 1536] (k0_off2_inb (grid0.coords t))) (fun _ => rfl) = piece (Ring.bk 4 t.val) :=
  piece_canon t
end Canon

/-! ## The conditions of the body -/

abbrev later (i : grid0.Coords) : Prop := k0_cond1 i = 1#1
abbrev final (i : grid0.Coords) : Prop := k0_cond4 i = 1#1
abbrev first (i : grid0.Coords) : Prop := (Scalar.cmpi .ne (Scalar.extui (Scalar.cmpi .eq (BitVec.ofNat 32 (i 0).val) 0#32)) 0#32) = 1#1
theorem later_iff : ∀ t : Fin cfg0.N, later (grid0.coords t) ↔ 1 ≤ t.val :=
  (by decide +kernel : ∀ t : Fin grid0.N, later (grid0.coords t) ↔ 1 ≤ t.val)
theorem final_iff : ∀ t : Fin cfg0.N, final (grid0.coords t) ↔ t.val % 4 = 3 :=
  (by decide +kernel : ∀ t : Fin grid0.N, final (grid0.coords t) ↔ t.val % 4 = 3)
theorem first_iff : ∀ t : Fin cfg0.N, first (grid0.coords t) ↔ t.val % 4 = 0 := fun t => by
  have ht : t.val < 4 := Nat.lt_of_lt_of_eq t.isLt N_0
  have e0 : (grid0.coords t 0).val = t.val / 1 % 4 := Pipeline.Grid.coords_val t 0 (by decide) rfl
  simp only [first, e0]
  word_cmp

/-! ## The runs -/

/-- The nine inputs' buffers at their blocks. -/
def ins (c : Dev nD) (arg1 : Memref sig .tc .vmem S512x1024 .f32) (arg2 : Memref sig .tc .vmem S512x256 .f32) (arg3 : Memref sig .tc .vmem S512x256 .f32) (arg4 : Memref sig .tc .vmem S512x1024 .f32) (arg5 : Memref sig .tc .vmem S512x256 .f32) (arg6 : Memref sig .tc .vmem S1x128 .f32) (arg7 : Memref sig .tc .vmem S1x128 .f32) (arg8 : Memref sig .tc .vmem S512x128 .f32) (arg9 : Memref sig .tc .vmem S512x128 .f32)
    (x0 : Vec F S512x1024 .f32) (x1 : Vec F S512x256 .f32) (x2 : Vec F S512x256 .f32) (x3 : Vec F S512x1024 .f32) (x4 : Vec F S512x256 .f32) (x5 : Vec F S1x128 .f32) (x6 : Vec F S1x128 .f32) (x7 : Vec F S512x128 .f32) (x8 : Vec F S512x128 .f32) : sProp 𝕄 :=
  iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8)

/-- The two outputs' buffers at what a step leaves. -/
def outs (c : Dev nD) (arg11 arg12 : Memref sig .tc .vmem S1x128 .f32) (y9 y10 : Vec F S1x128 .f32) : sProp 𝕄 :=
  iprop(owns (c : Thread nD τ) arg11 fullShare y9 ∗ owns (c : Thread nD τ) arg12 fullShare y10)

/-! What a step computes of one head: from its block `x` the factor of the norm and the normalised block, from the
block `d` of its cotangent the gradient before the rotation, and from these the packed gradient of the block. -/

section Values

theorem slq (h : Fin 8) : S512x1024.Slices ![0, 128 * h.val] S512x128 := by revert h; decide
theorem slk (h : Fin 2) : S512x256.Slices ![0, 128 * h.val] S512x128 := by revert h; decide

/-- The columns of one query head, and of one key head. -/
def qcol (x : FVec F S512x1024 .f32) (h : Fin 8) : FVec F S512x128 .f32 := extractStridedSlice S512x128 ![0, 128 * h.val] x (slq h)
def kcol (x : FVec F S512x256 .f32) (h : Fin 2) : FVec F S512x128 .f32 := extractStridedSlice S512x128 ![0, 128 * h.val] x (slk h)

def rOf (x : FVec F S512x128 .f32) : FVec F S512x1 .f32 :=
  rsqrt (addf (divf (shapeCast S512x1 (multiReduction .add [1] S512 (mulf x x) 0x00000000#32 reduces_S512x128_S512 (.inl rfl) rfl) shapeCasts_S512_S512x1)
    (broadcast S512x1 (Scalar.ofBits .f32 0x43000000#32))) (broadcast S512x1 (Scalar.ofBits .f32 0x358637BD#32)))
def xnOf (x : FVec F S512x128 .f32) : FVec F S512x128 .f32 := mulf x (broadcastTo S512x128 (rOf x) broadcasts_S512x1_S512x128)
def dyOf (d cos sin : FVec F S512x128 .f32) : FVec F S512x128 .f32 :=
  k0_pay17 (mulf d cos) (mulf d sin) (iota .tc S512x128 32 [1] iota_S512x128_d1_w32) 32#32 k0_pay16 0#32
def packOf (x d cos sin : FVec F S512x128 .f32) (g : FVec F S1x128 .f32) : Vec F S1x512x128 .bf16 := k0_pay20 g (rOf x) (xnOf x) (dyOf d cos sin)
/-- The gain's row with one more head in it. -/
def gainOf (x d cos sin : FVec F S512x128 .f32) (a : FVec F S1x128 .f32) : FVec F S1x128 .f32 := k0_pay19 a (mulf (dyOf d cos sin) (xnOf x))

variable (x0 : Vec F S512x1024 .f32) (x1 : Vec F S512x256 .f32) (x2 : Vec F S512x256 .f32) (x3 : Vec F S512x1024 .f32) (x4 : Vec F S512x256 .f32) (x5 : Vec F S1x128 .f32) (x6 : Vec F S1x128 .f32) (x7 : Vec F S512x128 .f32) (x8 : Vec F S512x128 .f32)

def qpack (h : Fin 8) : Vec F S1x512x128 .bf16 := packOf (qcol (k0_pay3 x3) h) (qcol (k0_pay7 x0) h) (k0_pay5 x7) (k0_pay6 x8) (k0_pay8 x5)
def kpack (h : Fin 2) : Vec F S1x512x128 .bf16 := packOf (kcol (k0_pay4 x4) h) (kcol (k0_pay107 x1) h) (k0_pay5 x7) (k0_pay6 x8) (k0_pay108 x6)
/-- The gain's row of the first `n` heads. -/
def qgain : ℕ → FVec F S1x128 .f32
  | 0 => k0_pay9
  | n + 1 => gainOf (qcol (k0_pay3 x3) (Ring.bk 8 n)) (qcol (k0_pay7 x0) (Ring.bk 8 n)) (k0_pay5 x7) (k0_pay6 x8) (qgain n)
def kgain : ℕ → FVec F S1x128 .f32
  | 0 => k0_pay109
  | n + 1 => gainOf (kcol (k0_pay4 x4) (Ring.bk 2 n)) (kcol (k0_pay107 x1) (Ring.bk 2 n)) (k0_pay5 x7) (k0_pay6 x8) (kgain n)
def dqnAt (y : Vec F S1x128 .f32) : Vec F S1x128 .f32 := k0_pay106 (qgain x0 x3 x7 x8 8) y
def dknAt (y : Vec F S1x128 .f32) : Vec F S1x128 .f32 := k0_pay1 (kgain x1 x4 x7 x8 2) y

/-- The ten heads' blocks, in the order the stash holds them. -/
def packs (k : ℕ) : Vec F S1x512x128 .bf16 :=
  if k < 8 then qpack x0 x3 x5 x7 x8 (Ring.bk 8 k) else kpack x1 x4 x6 x7 x8 (Ring.bk 2 (k - 8))
end Values

/-- A stash of ten blocks of 128 columns and one of 256, read at a row and a column. -/
def laid (p : ℕ → Vec F S1x512x128 .bf16) (q : Vec F S1x512x256 .bf16) : Vec F S512x1536 .bf16 := fun y =>
  if h : 1280 ≤ (y 1).val then q (ValueIdx.ix3 (0 : Fin 1) (y 0 : Fin 512) (⟨(y 1).val - 1280, by have h1 : (y 1).val < 1536 := (y 1).isLt; omega⟩ : Fin 256))
  else p ((y 1).val / 128) (ValueIdx.ix3 (0 : Fin 1) (y 0 : Fin 512) (⟨(y 1).val % 128, Nat.mod_lt _ (by decide)⟩ : Fin 128))

def stashAt (x0 : Vec F S512x1024 .f32) (x1 : Vec F S512x256 .f32) (x2 : Vec F S512x256 .f32) (x3 : Vec F S512x1024 .f32) (x4 : Vec F S512x256 .f32) (x5 : Vec F S1x128 .f32) (x6 : Vec F S1x128 .f32) (x7 : Vec F S512x128 .f32) (x8 : Vec F S512x128 .f32) : Vec F S512x1536 .bf16 :=
  laid (packs x0 x1 x3 x4 x5 x6 x7 x8) (k0_pay2 x2)

/-! ## The stash after the body has packed it -/

/-- An entry of the stash as the copy reads it. -/
theorem tile_at (f : scM.view.ty.Contents (Elt F)) (y0 : Fin 512) (y1 : Fin 1536) :
    tile.view.read (Elt F) f (ValueIdx.ix2 y0 y1)
      = (scM.slice (Rect.unit (s := S1x512x1536) ![0, 0, 0] S1x512x1536.size inb_S1x512x1536_S1x512x1536_0_0_0) (fun _ => rfl)).view.read (Elt F) f (ValueIdx.ix3 (0 : Fin 1) y0 y1) :=
  congrArg ((scM.slice (Rect.unit (s := S1x512x1536) ![0, 0, 0] S1x512x1536.size inb_S1x512x1536_S1x512x1536_0_0_0) (fun _ => rfl)).view.read (Elt F) f)
    (ValueIdx.reshapeEquiv_ix2_1ab _ y0 y1)

/-- A block of `w` columns is read where it was stored … -/
theorem slab_hit (col w : ℕ) (inb : ∀ a, (![0, 0, col] : Fin 3 → ℕ) a + (![1, 512, w] : Fin 3 → ℕ) a ≤ S1x512x1536.size a)
    (f : scM.view.ty.Contents (Elt F)) (x : (⟨3, ![1, 512, w]⟩ : Shape).Idx → Elt F .bf16) (y0 : Fin 512) (y1 : Fin 1536) (j : Fin w)
    (h : y1.val = col + j.val) :
    tile.view.read (Elt F) (View.write (Elt F) (scM.access (Rect.unit (s := S1x512x1536) ![0, 0, col] ![1, 512, w] inb)) f x Finset.univ) (ValueIdx.ix2 y0 y1)
      = x (ValueIdx.ix3 (0 : Fin 1) y0 j) := by
  refine (tile_at _ y0 y1).trans ?_
  have e : (scM.slice (Rect.unit (s := S1x512x1536) ![0, 0, 0] S1x512x1536.size inb_S1x512x1536_S1x512x1536_0_0_0) (fun _ => rfl)).view.emb (ValueIdx.ix3 (0 : Fin 1) y0 y1)
      = (scM.access (Rect.unit (s := S1x512x1536) ![0, 0, col] ![1, 512, w] inb)).emb (ValueIdx.ix3 (0 : Fin 1) y0 j) := by
    funext a
    match a with
    | ⟨0, _⟩ => rfl
    | ⟨1, _⟩ => rfl
    | ⟨2, _⟩ => exact Fin.ext (by change 0 + 1 * y1.val = col + 1 * j.val; omega)
  rw [View.read_apply, e]
  exact View.read_write_of_mem (v := scM.access (Rect.unit (s := S1x512x1536) ![0, 0, col] ![1, 512, w] inb)) f x (Finset.mem_univ _)

/-- … and elsewhere the stash keeps what it held. -/
theorem slab_miss (col w : ℕ) (inb : ∀ a, (![0, 0, col] : Fin 3 → ℕ) a + (![1, 512, w] : Fin 3 → ℕ) a ≤ S1x512x1536.size a)
    (f : scM.view.ty.Contents (Elt F)) (x : (⟨3, ![1, 512, w]⟩ : Shape).Idx → Elt F .bf16) (y0 : Fin 512) (y1 : Fin 1536)
    (h : y1.val < col) :
    tile.view.read (Elt F) (View.write (Elt F) (scM.access (Rect.unit (s := S1x512x1536) ![0, 0, col] ![1, 512, w] inb)) f x Finset.univ) (ValueIdx.ix2 y0 y1)
      = tile.view.read (Elt F) f (ValueIdx.ix2 y0 y1) := by
  refine (tile_at _ y0 y1).trans (Eq.trans ?_ (tile_at f y0 y1).symm)
  rw [View.read_apply, View.read_apply]
  refine congrArg _ (View.write_of_not_mem _ _ _ fun hm => ?_)
  obtain ⟨y, -, hy⟩ := Finset.mem_map.mp hm
  have e : col + 1 * (y 2).val = 0 + 1 * y1.val := congrArg (fun i : S1x512x1536.Idx => (i 2 : ℕ)) hy
  omega

theorem inb_block (n : Fin 10) : ∀ a, (![0, 0, 128 * n.val] : Fin 3 → ℕ) a + (![1, 512, 128] : Fin 3 → ℕ) a ≤ S1x512x1536.size a := by
  revert n; decide

/-- The stash with the first `n` heads' blocks stored in turn. -/
def filled (f : scM.view.ty.Contents (Elt F)) (p : ℕ → Vec F S1x512x128 .bf16) : ℕ → scM.view.ty.Contents (Elt F)
  | 0 => f
  | n + 1 => View.write (Elt F) (scM.access (Rect.unit ![0, 0, 128 * (Ring.bk 10 n).val] ![1, 512, 128] (inb_block (Ring.bk 10 n)))) (filled f p n) (p n) Finset.univ

theorem filled_at (f : scM.view.ty.Contents (Elt F)) (p : ℕ → Vec F S1x512x128 .bf16) (y0 : Fin 512) (y1 : Fin 1536) (n : ℕ) (hn : n ≤ 10)
    (h : y1.val < 128 * n) :
    tile.view.read (Elt F) (filled f p n) (ValueIdx.ix2 y0 y1)
      = p (y1.val / 128) (ValueIdx.ix3 (0 : Fin 1) y0 (⟨y1.val % 128, Nat.mod_lt _ (by decide)⟩ : Fin 128)) := by
  induction n with
  | zero => exact absurd h (by omega)
  | succ n ih =>
    have hb : (Ring.bk 10 n).val = n := Nat.mod_eq_of_lt (by omega)
    by_cases hl : y1.val < 128 * n
    · exact (slab_miss _ 128 _ _ (p n) y0 y1 (by rw [hb]; exact hl)).trans (ih (by omega) hl)
    · refine (slab_hit _ 128 _ _ (p n) y0 y1 ⟨y1.val % 128, Nat.mod_lt _ (by decide)⟩ (by rw [hb]; simp only; omega)).trans ?_
      exact congrArg (fun k => p k (ValueIdx.ix3 (0 : Fin 1) y0 (⟨y1.val % 128, Nat.mod_lt _ (by decide)⟩ : Fin 128))) (by omega : n = y1.val / 128)

/-- Ten blocks of 128 columns and one of 256, stored one after the other. -/
theorem stash_read (f : scM.view.ty.Contents (Elt F)) (p : ℕ → Vec F S1x512x128 .bf16) (q : Vec F S1x512x256 .bf16) :
    tile.view.read (Elt F) (View.write (Elt F) (scM.access (Rect.unit ![0, 0, 1280] ![1, 512, 256] inb_S1x512x1536_S1x512x256_0_0_1280)) (filled f p 10) q Finset.univ)
      = laid p q := by
  funext y
  obtain ⟨y0, y1, rfl⟩ : ∃ (y0 : Fin 512) (y1 : Fin 1536), y = ValueIdx.ix2 y0 y1 := ⟨y 0, y 1, by funext a; match a with | ⟨0, _⟩ => rfl | ⟨1, _⟩ => rfl⟩
  unfold laid
  by_cases h : 1280 ≤ y1.val
  · refine Eq.trans ?_ (dif_pos (c := 1280 ≤ y1.val) h).symm
    exact slab_hit 1280 256 _ _ q y0 y1 ⟨y1.val - 1280, by have := y1.isLt; omega⟩ (by simp only; omega)
  · refine Eq.trans ?_ (dif_neg (c := 1280 ≤ y1.val) h).symm
    refine (slab_miss 1280 256 _ _ q y0 y1 (by omega)).trans ?_
    exact filled_at f p y0 y1 10 (le_refl _) (by omega)

end Cert.KernelQkvIdeal.Hand

end
-- ==== Proof.QkvBlock.lean ====
/-
  What one step of the queries' and keys' norm and rotary gradient computes of one head, over the reals.
-/
module

public import proofs.«01_k».proof.Proof.QkvRope
public import proofs.«01_k».proof.Proof.QkvHead

@[expose] public section

set_option maxRecDepth 16384

noncomputable section

namespace Cert.Qkv

open Idealize.ShloMosaic Idealize.ShloMosaic.TcCoe Idealize.SL.Sem
open Cert.KernelQkvIdeal Cert.KernelQkvIdeal.Gen Cert.KernelQkvIdeal.Hand Cert.Maths

/-- The rotation by two tables of a block's rows. -/
def turn (c s d : Fin 128 → ℝ) (j : Fin 128) : ℝ := d j * c j + d (pair j) * s (pair j)

section Head
variable {x d cos sin : FVec Ideal S512x128 .f32} {g : FVec Ideal S1x128 .f32} {X D C S : Fin 512 → Fin 128 → ℝ} {G : Fin 128 → ℝ}

section Norm
variable (hx : ∀ r j, x (ix2 r j) = (X r j : EReal))
include hx

theorem rOf_at (r) : rOf (F := Ideal) x (ix2 r 0) = (Norm.inv 128 (X r) : EReal) := by
  unfold rOf
  pointwise
  rw [Norm.w_128, Norm.w_eps, Ideal.div_coe (by norm_num)]
  simp only [hx, zero_add, ← EReal.coe_mul, ← coe_sum, ← EReal.coe_add]
  exact Norm.rsqrt_ms _ (by norm_num)

theorem xnOf_at (r j) : xnOf (F := Ideal) x (ix2 r j) = (Norm.xn 128 (X r) j : EReal) := by
  have h := rOf_at hx r
  unfold xnOf
  generalize rOf (F := Ideal) x = y at h ⊢
  pointwise
  rw [h, hx, ← EReal.coe_mul]
  rfl
end Norm

/-- A choice by a word that marks the odd quarters of a head's lanes. -/
theorem choice (w : BitVec 1) (j : Fin 128) (A B T : EReal) (hw : w = if j.val / 32 % 2 = 1 then 1#1 else 0#1)
    (hA : j.val / 32 % 2 = 1 → A = T) (hB : ¬ j.val / 32 % 2 = 1 → B = T) : Scalar.select w A B = T := by
  subst hw
  by_cases h : j.val / 32 % 2 = 1
  · rw [if_pos h]; exact hA h
  · rw [if_neg h]; exact hB h

/-- The swap of the two quarters of each half: every lane takes its pair's. -/
theorem swap_at (a b : FVec Ideal S512x128 .f32) (r : Fin 512) (j : Fin 128) :
    k0_pay17 (F := Ideal) a b (iota .tc S512x128 32 [1] iota_S512x128_d1_w32) 32#32 k0_pay16 0#32 (ix2 r j)
      = @HAdd.hAdd EReal EReal EReal _ (a (ix2 r j)) (b (ix2 r (pair j))) := by
  unfold k0_pay17 k0_pay16
  pointwise
  refine congrArg (fun z : EReal => a (ix2 r j) + z) (choice _ j _ _ _ ?_ (fun h => ?_) fun h => ?_)
  · clear a b r
    revert j
    decide +kernel
  · refine congrArg (fun k => b (ix2 r k)) (Fin.ext ?_)
    have := j.isLt
    simp only [pair, if_pos h]
    try omega
  · refine congrArg (fun k => b (ix2 r k)) (Fin.ext ?_)
    have := j.isLt
    simp only [pair, if_neg h]
    try omega

section Turn
variable (hd : ∀ r j, d (ix2 r j) = (D r j : EReal)) (hc : ∀ r j, cos (ix2 r j) = (C r j : EReal)) (hs : ∀ r j, sin (ix2 r j) = (S r j : EReal))
include hd hc hs

theorem dyOf_at (r j) : dyOf (F := Ideal) d cos sin (ix2 r j) = (turn (C r) (S r) (D r) j : EReal) := by
  refine (swap_at _ _ r j).trans ?_
  pointwise
  rw [hd, hd, hc, hs, ← EReal.coe_mul, ← EReal.coe_mul, ← EReal.coe_add]
  rfl

variable (hx : ∀ r j, x (ix2 r j) = (X r j : EReal))
include hx

theorem gainOf_at (a : FVec Ideal S1x128 .f32) (j) : gainOf (F := Ideal) x d cos sin a (ix2 0 j)
    = a (ix2 0 j) + ((∑ r, turn (C r) (S r) (D r) j * Norm.xn 128 (X r) j : ℝ) : EReal) := by
  have h1 := dyOf_at hd hc hs
  have h2 := xnOf_at hx
  unfold gainOf k0_pay19
  generalize dyOf (F := Ideal) d cos sin = y1 at h1 ⊢
  generalize xnOf (F := Ideal) x = y2 at h2 ⊢
  pointwise
  simp only [h1, h2, zero_add, ← EReal.coe_mul, ← coe_sum]

variable (hg : ∀ j, g (ix2 0 j) = (G j : EReal))
include hg

theorem packOf_at (r j) : packOf (F := Ideal) x d cos sin g (ValueIdx.ix3 (0 : Fin 1) r j)
    = (Norm.dx 128 (X r) (fun i => turn (C r) (S r) (D r) i * G i) j : EReal) := by
  have h1 := dyOf_at hd hc hs
  have h2 := xnOf_at hx
  have h3 := rOf_at hx
  unfold packOf k0_pay20
  generalize dyOf (F := Ideal) d cos sin = y1 at h1 ⊢
  generalize xnOf (F := Ideal) x = y2 at h2 ⊢
  generalize rOf (F := Ideal) x = y3 at h3 ⊢
  pointwise
  simp only [h1, h2, h3, hg, zero_add, ← EReal.coe_mul, ← coe_sum]
  rw [Norm.w_128, Ideal.div_coe (by norm_num)]
  simp only [← EReal.coe_mul, ← EReal.coe_sub]
  rfl
end Turn

end Head

/-! ## The heads of a block -/

section Heads
variable {x0 x3 : Vec Ideal S512x1024 .f32} {x1 x2 x4 : Vec Ideal S512x256 .f32} {x5 x6 : Vec Ideal S1x128 .f32} {x7 x8 : Vec Ideal S512x128 .f32}
  {Dq Q : Fin 512 → Fin 8 → Fin 128 → ℝ} {Dk K : Fin 512 → Fin 2 → Fin 128 → ℝ} {C S : Fin 512 → Fin 128 → ℝ} {Gq Gk : Fin 128 → ℝ}

theorem q_lt (h : Fin 8) (j : Fin 128) : 128 * h.val + j.val < 1024 := by omega
theorem k_lt (h : Fin 2) (j : Fin 128) : 128 * h.val + j.val < 256 := by omega

theorem qcol_at (x : Vec Ideal S512x1024 .f32) (h : Fin 8) (r j) : qcol (F := Ideal) x h (ix2 r j) = x (ix2 r ⟨128 * h.val + j.val, q_lt h j⟩) := by
  unfold qcol
  pointwise
theorem kcol_at (x : Vec Ideal S512x256 .f32) (h : Fin 2) (r j) : kcol (F := Ideal) x h (ix2 r j) = x (ix2 r ⟨128 * h.val + j.val, k_lt h j⟩) := by
  unfold kcol
  pointwise

/-- A cast to the same shape. -/
theorem same3 : k0_pay3 (F := Ideal) x3 = x3 := shapeCast_self _ _
theorem same4 : k0_pay4 (F := Ideal) x4 = x4 := shapeCast_self _ _
theorem same5 : k0_pay5 (F := Ideal) x7 = x7 := shapeCast_self _ _
theorem same6 : k0_pay6 (F := Ideal) x8 = x8 := shapeCast_self _ _
theorem same7 : k0_pay7 (F := Ideal) x0 = x0 := shapeCast_self _ _
theorem same8 : k0_pay8 (F := Ideal) x5 = x5 := shapeCast_self _ _
theorem same107 : k0_pay107 (F := Ideal) x1 = x1 := shapeCast_self _ _
theorem same108 : k0_pay108 (F := Ideal) x6 = x6 := shapeCast_self _ _

section Qs
variable (hd : ∀ r h j, x0 (ix2 r ⟨128 * h.val + j.val, q_lt h j⟩) = (Dq r h j : EReal)) (hx : ∀ r h j, x3 (ix2 r ⟨128 * h.val + j.val, q_lt h j⟩) = (Q r h j : EReal))
  (hc : ∀ r j, x7 (ix2 r j) = (C r j : EReal)) (hs : ∀ r j, x8 (ix2 r j) = (S r j : EReal))
include hd hx hc hs

theorem qpack_at (hg : ∀ j, x5 (ix2 0 j) = (Gq j : EReal)) (h : Fin 8) (r j) : qpack (F := Ideal) x0 x3 x5 x7 x8 h (ValueIdx.ix3 (0 : Fin 1) r j)
    = (Norm.dx 128 (Q r h) (fun i => turn (C r) (S r) (Dq r h) i * Gq i) j : EReal) := by
  unfold qpack
  rw [same3, same5, same6, same7, same8]
  exact packOf_at (D := fun r => Dq r h) (X := fun r => Q r h) (fun r j => (qcol_at x0 h r j).trans (hd r h j)) hc hs (fun r j => (qcol_at x3 h r j).trans (hx r h j)) hg r j

theorem qgain_at (n : ℕ) (j) : qgain (F := Ideal) x0 x3 x7 x8 n (ix2 0 j)
    = ((∑ u ∈ Finset.range n, ∑ r, turn (C r) (S r) (Dq r (Ring.bk 8 u)) j * Norm.xn 128 (Q r (Ring.bk 8 u)) j : ℝ) : EReal) := by
  induction n with
  | zero =>
    rw [Finset.range_zero, Finset.sum_empty]
    show k0_pay9 (F := Ideal) (ix2 0 j) = 0
    pointwise [k0_pay9]
  | succ n ih =>
    have e := gainOf_at (D := fun r => Dq r (Ring.bk 8 n)) (X := fun r => Q r (Ring.bk 8 n)) (fun r j => (qcol_at x0 (Ring.bk 8 n) r j).trans (hd r _ j)) hc hs
      (fun r j => (qcol_at x3 (Ring.bk 8 n) r j).trans (hx r _ j)) (qgain (F := Ideal) x0 x3 x7 x8 n) j
    rw [ih, ← EReal.coe_add, ← Finset.sum_range_succ (fun u => ∑ r, turn (C r) (S r) (Dq r (Ring.bk 8 u)) j * Norm.xn 128 (Q r (Ring.bk 8 u)) j)] at e
    refine Eq.trans ?_ e
    show gainOf (qcol (k0_pay3 x3) _) (qcol (k0_pay7 x0) _) (k0_pay5 x7) (k0_pay6 x8) _ _ = _
    rw [same3, same5, same6, same7]

theorem dqnAt_at (y : Vec Ideal S1x128 .f32) (j) : dqnAt (F := Ideal) x0 x3 x7 x8 y (ix2 0 j)
    = y (ix2 0 j) + ((∑ r, ∑ h, Norm.xn 128 (Q r h) j * turn (C r) (S r) (Dq r h) j : ℝ) : EReal) := by
  have e := qgain_at hd hx hc hs 8 j
  unfold dqnAt k0_pay106
  generalize qgain (F := Ideal) x0 x3 x7 x8 8 = w at e ⊢
  rw [shapeCast_self]
  pointwise
  rw [e]
  refine congrArg (fun z : ℝ => y (ix2 0 j) + (z : EReal)) ?_
  rw [Finset.sum_comm]
  refine Finset.sum_congr rfl fun r _ => ?_
  rw [Finset.sum_range]
  refine Finset.sum_congr rfl fun u _ => ?_
  rw [mul_comm, show (Ring.bk 8 u.val : Fin 8) = u from Fin.ext (Nat.mod_eq_of_lt u.isLt)]
end Qs

section Ks
variable (hd : ∀ r h j, x1 (ix2 r ⟨128 * h.val + j.val, k_lt h j⟩) = (Dk r h j : EReal)) (hx : ∀ r h j, x4 (ix2 r ⟨128 * h.val + j.val, k_lt h j⟩) = (K r h j : EReal))
  (hc : ∀ r j, x7 (ix2 r j) = (C r j : EReal)) (hs : ∀ r j, x8 (ix2 r j) = (S r j : EReal))
include hd hx hc hs

theorem kpack_at (hg : ∀ j, x6 (ix2 0 j) = (Gk j : EReal)) (h : Fin 2) (r j) : kpack (F := Ideal) x1 x4 x6 x7 x8 h (ValueIdx.ix3 (0 : Fin 1) r j)
    = (Norm.dx 128 (K r h) (fun i => turn (C r) (S r) (Dk r h) i * Gk i) j : EReal) := by
  unfold kpack
  rw [same4, same5, same6, same107, same108]
  exact packOf_at (D := fun r => Dk r h) (X := fun r => K r h) (fun r j => (kcol_at x1 h r j).trans (hd r h j)) hc hs (fun r j => (kcol_at x4 h r j).trans (hx r h j)) hg r j

theorem kgain_at (n : ℕ) (j) : kgain (F := Ideal) x1 x4 x7 x8 n (ix2 0 j)
    = ((∑ u ∈ Finset.range n, ∑ r, turn (C r) (S r) (Dk r (Ring.bk 2 u)) j * Norm.xn 128 (K r (Ring.bk 2 u)) j : ℝ) : EReal) := by
  induction n with
  | zero =>
    rw [Finset.range_zero, Finset.sum_empty]
    show k0_pay109 (F := Ideal) (ix2 0 j) = 0
    pointwise [k0_pay109]
  | succ n ih =>
    have e := gainOf_at (D := fun r => Dk r (Ring.bk 2 n)) (X := fun r => K r (Ring.bk 2 n)) (fun r j => (kcol_at x1 (Ring.bk 2 n) r j).trans (hd r _ j)) hc hs
      (fun r j => (kcol_at x4 (Ring.bk 2 n) r j).trans (hx r _ j)) (kgain (F := Ideal) x1 x4 x7 x8 n) j
    rw [ih, ← EReal.coe_add, ← Finset.sum_range_succ (fun u => ∑ r, turn (C r) (S r) (Dk r (Ring.bk 2 u)) j * Norm.xn 128 (K r (Ring.bk 2 u)) j)] at e
    refine Eq.trans ?_ e
    show gainOf (kcol (k0_pay4 x4) _) (kcol (k0_pay107 x1) _) (k0_pay5 x7) (k0_pay6 x8) _ _ = _
    rw [same4, same5, same6, same107]

theorem dknAt_at (y : Vec Ideal S1x128 .f32) (j) : dknAt (F := Ideal) x1 x4 x7 x8 y (ix2 0 j)
    = y (ix2 0 j) + ((∑ r, ∑ h, Norm.xn 128 (K r h) j * turn (C r) (S r) (Dk r h) j : ℝ) : EReal) := by
  have e := kgain_at hd hx hc hs 2 j
  unfold dknAt k0_pay1
  generalize kgain (F := Ideal) x1 x4 x7 x8 2 = w at e ⊢
  rw [shapeCast_self]
  pointwise
  rw [e]
  refine congrArg (fun z : ℝ => y (ix2 0 j) + (z : EReal)) ?_
  rw [Finset.sum_comm]
  refine Finset.sum_congr rfl fun r _ => ?_
  rw [Finset.sum_range]
  refine Finset.sum_congr rfl fun u _ => ?_
  rw [mul_comm, show (Ring.bk 2 u.val : Fin 2) = u from Fin.ext (Nat.mod_eq_of_lt u.isLt)]
end Ks

end Heads

end Cert.Qkv

end
-- ==== Proof.QkvRun.lean ====
module

public import proofs.«01_k».proof.Proof.QkvHead

@[expose] public section

set_option maxRecDepth 16384

noncomputable section

/-! # The body of the queries' and keys' norm and rotary gradient, run once

At step `t` the body reads a block of 512 rows of its inputs, packs the gradients of the eight query heads, of the two
key heads and of the values into its stash, adds to the two accumulated gains, and sends the stash behind its back to
the rows' place in the array of the projection's gradient.  Before it packs, it waits for the copy the step before
has sent; at the last step it also waits for its own. -/

namespace Cert.KernelQkvIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelQkvIdeal Cert.KernelQkvIdeal.Gen

variable {F : FTy → Type} [FloatOps F]

local notation "𝕄" => MT nD τ sig Unit (Elt F) ℕ (Pipeline.UD sig nD τ) ℕ

set_option maxHeartbeats 2000000 in
/-- The first step: the accumulated gains are reset, nothing is waited for. -/
theorem runA (c : Dev nD) (t : Fin cfg0.N) (arg1 : Memref sig .tc .vmem S512x1024 .f32) (harg1 : arg1.IsWhole) (arg2 : Memref sig .tc .vmem S512x256 .f32) (harg2 : arg2.IsWhole) (arg3 : Memref sig .tc .vmem S512x256 .f32) (harg3 : arg3.IsWhole) (arg4 : Memref sig .tc .vmem S512x1024 .f32) (harg4 : arg4.IsWhole) (arg5 : Memref sig .tc .vmem S512x256 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg11 : Memref sig .tc .vmem S1x128 .f32) (harg11 : arg11.IsWhole) (arg12 : Memref sig .tc .vmem S1x128 .f32) (harg12 : arg12.IsWhole) (hc0 : ¬later (grid0.coords t)) (hc1 : ¬final (grid0.coords t)) (hc2 : first (grid0.coords t))
    (x0 : Vec F S512x1024 .f32) (x1 : Vec F S512x256 .f32) (x2 : Vec F S512x256 .f32) (x3 : Vec F S512x1024 .f32) (x4 : Vec F S512x256 .f32) (x5 : Vec F S1x128 .f32) (x6 : Vec F S1x128 .f32) (x7 : Vec F S512x128 .f32) (x8 : Vec F S512x128 .f32)
     (ev : BufOf (F := F) c tile) (fp : BufOf (F := F) c (piece (stepOf t))) (W : Waits sig Unit) (K : PUnit → sProp 𝕄) :
    iprop(ins (F := F) c arg1 arg2 arg3 arg4 arg5 arg6 arg7 arg8 arg9 x0 x1 x2 x3 x4 x5 x6 x7 x8 ∗ (∃ d, owns (c : Thread nD τ) arg11 fullShare d) ∗ (∃ d, owns (c : Thread nD τ) arg12 fullShare d) ∗ pieceP c (stepOf t) fp ∗ cellP c ∗ tileP c ev ∗ owes (c : Thread nD τ) 0 W
        ∗ (iprop(ins (F := F) c arg1 arg2 arg3 arg4 arg5 arg6 arg7 arg8 arg9 x0 x1 x2 x3 x4 x5 x6 x7 x8 ∗ outs (F := F) c arg11 arg12 (dqnAt x0 x3 x7 x8 k0_pay105) (dknAt x1 x4 x7 x8 k0_pay133) ∗ (∃ f e, ⌜(piece (stepOf t)).view.read (Elt F) f = stashAt x0 x1 x2 x3 x4 x5 x6 x7 x8⌝ ∗ flightP c (stepOf t) f e) ∗ (∃ W', owes (c : Thread nD τ) 0 W')) -∗ K ⟨⟩))
      ⊢ wp frame (wpE (defs₀ (F := F)) Variants.none c none) Set.univ (cc0_qkv_bwd (grid0.coords t) arg1 harg1 arg2 harg2 arg3 harg3 arg4 harg4 arg5 harg5 arg6 harg6 arg7 harg7 arg8 harg8 arg9 harg9 hbM (Memref.isWhole_whole _) arg11 harg11 arg12 harg12 hbM (Memref.isWhole_whole _) scM (Memref.isWhole_whole _) cc0_scratch1) K := by
  haveI : Fact (¬later (grid0.coords t)) := ⟨hc0⟩
  haveI : Fact (¬final (grid0.coords t)) := ⟨hc1⟩
  haveI : Fact (first (grid0.coords t)) := ⟨hc2⟩
  simp only [cc0_qkv_bwd_eq_skeleton]; unfold cc0_qkv_bwd_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
  unfold ins outs owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, ⟨%d9, %f9, -, H9⟩, ⟨%d10, %f10, -, H10⟩, Hp, Hq, Ht, HW, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8

  sl_exec (disch := first | sl_exact hc0 | sl_exact hc1 | sl_exact hc2)
  sl_step
  iapply Hk
  isplitl [H0 H1 H2 H3 H4 H5 H6 H7 H8]
  · isplitl [H0]
    · iexists _; isplitr; swap; · iexact H0
      ipureintro; exact hf0
    isplitl [H1]
    · iexists _; isplitr; swap; · iexact H1
      ipureintro; exact hf1
    isplitl [H2]
    · iexists _; isplitr; swap; · iexact H2
      ipureintro; exact hf2
    isplitl [H3]
    · iexists _; isplitr; swap; · iexact H3
      ipureintro; exact hf3
    isplitl [H4]
    · iexists _; isplitr; swap; · iexact H4
      ipureintro; exact hf4
    isplitl [H5]
    · iexists _; isplitr; swap; · iexact H5
      ipureintro; exact hf5
    isplitl [H6]
    · iexists _; isplitr; swap; · iexact H6
      ipureintro; exact hf6
    isplitl [H7]
    · iexists _; isplitr; swap; · iexact H7
      ipureintro; exact hf7
    iexists _; isplitr; swap; · iexact H8
    ipureintro; exact hf8
  isplitl [H9 H10]
  · isplitl [H9]
    · iexists _; isplitr; swap; · iexact H9
      ipureintro; (try frame_out); exact View.read_writes_full _ _ _ _ []
    iexists _; isplitr; swap; · iexact H10
    ipureintro; (try frame_out); exact View.read_writes_full _ _ _ _ []
  isplitl [Hq]
  · iexists _, _; isplitr; swap; · iexact Hq
    ipureintro; refine (View.read_writes_whole _ _ _).trans ?_; frame_out; exact stash_read _ (packs x0 x1 x3 x4 x5 x6 x7 x8) _
  iexists _; iexact HW

set_option maxHeartbeats 2000000 in
/-- A middle step: the copy of the step before is waited for, the accumulated gains hold what that step left. -/
theorem runB (c : Dev nD) (t : Fin cfg0.N) (arg1 : Memref sig .tc .vmem S512x1024 .f32) (harg1 : arg1.IsWhole) (arg2 : Memref sig .tc .vmem S512x256 .f32) (harg2 : arg2.IsWhole) (arg3 : Memref sig .tc .vmem S512x256 .f32) (harg3 : arg3.IsWhole) (arg4 : Memref sig .tc .vmem S512x1024 .f32) (harg4 : arg4.IsWhole) (arg5 : Memref sig .tc .vmem S512x256 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg11 : Memref sig .tc .vmem S1x128 .f32) (harg11 : arg11.IsWhole) (arg12 : Memref sig .tc .vmem S1x128 .f32) (harg12 : arg12.IsWhole) (hc0 : later (grid0.coords t)) (hc1 : ¬final (grid0.coords t)) (hc2 : ¬first (grid0.coords t))
    (x0 : Vec F S512x1024 .f32) (x1 : Vec F S512x256 .f32) (x2 : Vec F S512x256 .f32) (x3 : Vec F S512x1024 .f32) (x4 : Vec F S512x256 .f32) (x5 : Vec F S1x128 .f32) (x6 : Vec F S1x128 .f32) (x7 : Vec F S512x128 .f32) (x8 : Vec F S512x128 .f32) (xo9 xo10 : Vec F S1x128 .f32)
     (v : Fin 4) (fv : BufOf (F := F) c (piece v)) (ev : BufOf (F := F) c tile) (fp : BufOf (F := F) c (piece (stepOf t))) (W : Waits sig Unit) (K : PUnit → sProp 𝕄) :
    iprop(ins (F := F) c arg1 arg2 arg3 arg4 arg5 arg6 arg7 arg8 arg9 x0 x1 x2 x3 x4 x5 x6 x7 x8 ∗ owns (c : Thread nD τ) arg11 fullShare xo9 ∗ owns (c : Thread nD τ) arg12 fullShare xo10 ∗ pieceP c (stepOf t) fp ∗ flightP c v fv ev ∗ owes (c : Thread nD τ) 0 W
        ∗ (iprop(ins (F := F) c arg1 arg2 arg3 arg4 arg5 arg6 arg7 arg8 arg9 x0 x1 x2 x3 x4 x5 x6 x7 x8 ∗ outs (F := F) c arg11 arg12 (dqnAt x0 x3 x7 x8 xo9) (dknAt x1 x4 x7 x8 xo10) ∗ pieceP c v fv ∗ (∃ f e, ⌜(piece (stepOf t)).view.read (Elt F) f = stashAt x0 x1 x2 x3 x4 x5 x6 x7 x8⌝ ∗ flightP c (stepOf t) f e) ∗ (∃ W', owes (c : Thread nD τ) 0 W')) -∗ K ⟨⟩))
      ⊢ wp frame (wpE (defs₀ (F := F)) Variants.none c none) Set.univ (cc0_qkv_bwd (grid0.coords t) arg1 harg1 arg2 harg2 arg3 harg3 arg4 harg4 arg5 harg5 arg6 harg6 arg7 harg7 arg8 harg8 arg9 harg9 hbM (Memref.isWhole_whole _) arg11 harg11 arg12 harg12 hbM (Memref.isWhole_whole _) scM (Memref.isWhole_whole _) cc0_scratch1) K := by
  haveI : Fact (later (grid0.coords t)) := ⟨hc0⟩
  haveI : Fact (¬final (grid0.coords t)) := ⟨hc1⟩
  haveI : Fact (¬first (grid0.coords t)) := ⟨hc2⟩
  simp only [cc0_qkv_bwd_eq_skeleton]; unfold cc0_qkv_bwd_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
  unfold ins outs owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, ⟨%f9, %hf9, H9⟩, ⟨%f10, %hf10, H10⟩, Hp, HF, HW, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
  obtain rfl := harg11.eq_unread hf9; obtain rfl := harg12.eq_unread hf10
  sl_exec (disch := first | sl_exact hc0 | sl_exact hc1 | sl_exact hc2)
  sl_step
  iapply Hk
  isplitl [H0 H1 H2 H3 H4 H5 H6 H7 H8]
  · isplitl [H0]
    · iexists _; isplitr; swap; · iexact H0
      ipureintro; exact hf0
    isplitl [H1]
    · iexists _; isplitr; swap; · iexact H1
      ipureintro; exact hf1
    isplitl [H2]
    · iexists _; isplitr; swap; · iexact H2
      ipureintro; exact hf2
    isplitl [H3]
    · iexists _; isplitr; swap; · iexact H3
      ipureintro; exact hf3
    isplitl [H4]
    · iexists _; isplitr; swap; · iexact H4
      ipureintro; exact hf4
    isplitl [H5]
    · iexists _; isplitr; swap; · iexact H5
      ipureintro; exact hf5
    isplitl [H6]
    · iexists _; isplitr; swap; · iexact H6
      ipureintro; exact hf6
    isplitl [H7]
    · iexists _; isplitr; swap; · iexact H7
      ipureintro; exact hf7
    iexists _; isplitr; swap; · iexact H8
    ipureintro; exact hf8
  isplitl [H9 H10]
  · isplitl [H9]
    · iexists _; isplitr; swap; · iexact H9
      ipureintro; (try frame_out); exact View.read_writes_full _ _ _ _ []
    iexists _; isplitr; swap; · iexact H10
    ipureintro; (try frame_out); exact View.read_writes_full _ _ _ _ []
  isplitl [HF_dst]; · iexact HF_dst
  isplitl [HF]
  · iexists _, _; isplitr; swap; · iexact HF
    ipureintro; refine (View.read_writes_whole _ _ _).trans ?_; frame_out; exact stash_read _ (packs x0 x1 x3 x4 x5 x6 x7 x8) _
  iexists _; iexact HW

set_option maxHeartbeats 2000000 in
/-- The last step: as a middle one, and its own copy is waited for too. -/
theorem runD (c : Dev nD) (t : Fin cfg0.N) (arg1 : Memref sig .tc .vmem S512x1024 .f32) (harg1 : arg1.IsWhole) (arg2 : Memref sig .tc .vmem S512x256 .f32) (harg2 : arg2.IsWhole) (arg3 : Memref sig .tc .vmem S512x256 .f32) (harg3 : arg3.IsWhole) (arg4 : Memref sig .tc .vmem S512x1024 .f32) (harg4 : arg4.IsWhole) (arg5 : Memref sig .tc .vmem S512x256 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg11 : Memref sig .tc .vmem S1x128 .f32) (harg11 : arg11.IsWhole) (arg12 : Memref sig .tc .vmem S1x128 .f32) (harg12 : arg12.IsWhole) (hc0 : later (grid0.coords t)) (hc1 : final (grid0.coords t)) (hc2 : ¬first (grid0.coords t))
    (x0 : Vec F S512x1024 .f32) (x1 : Vec F S512x256 .f32) (x2 : Vec F S512x256 .f32) (x3 : Vec F S512x1024 .f32) (x4 : Vec F S512x256 .f32) (x5 : Vec F S1x128 .f32) (x6 : Vec F S1x128 .f32) (x7 : Vec F S512x128 .f32) (x8 : Vec F S512x128 .f32) (xo9 xo10 : Vec F S1x128 .f32)
     (v : Fin 4) (fv : BufOf (F := F) c (piece v)) (ev : BufOf (F := F) c tile) (fp : BufOf (F := F) c (piece (stepOf t))) (W : Waits sig Unit) (K : PUnit → sProp 𝕄) :
    iprop(ins (F := F) c arg1 arg2 arg3 arg4 arg5 arg6 arg7 arg8 arg9 x0 x1 x2 x3 x4 x5 x6 x7 x8 ∗ owns (c : Thread nD τ) arg11 fullShare xo9 ∗ owns (c : Thread nD τ) arg12 fullShare xo10 ∗ pieceP c (stepOf t) fp ∗ flightP c v fv ev ∗ owes (c : Thread nD τ) 0 W
        ∗ (iprop(ins (F := F) c arg1 arg2 arg3 arg4 arg5 arg6 arg7 arg8 arg9 x0 x1 x2 x3 x4 x5 x6 x7 x8 ∗ outs (F := F) c arg11 arg12 (dqnAt x0 x3 x7 x8 xo9) (dknAt x1 x4 x7 x8 xo10) ∗ pieceP c v fv ∗ cellP c ∗ (∃ f, ⌜(piece (stepOf t)).view.read (Elt F) f = stashAt x0 x1 x2 x3 x4 x5 x6 x7 x8⌝ ∗ pieceP c (stepOf t) f) ∗ (∃ e, tileP c e) ∗ (∃ W', owes (c : Thread nD τ) 0 W')) -∗ K ⟨⟩))
      ⊢ wp frame (wpE (defs₀ (F := F)) Variants.none c none) Set.univ (cc0_qkv_bwd (grid0.coords t) arg1 harg1 arg2 harg2 arg3 harg3 arg4 harg4 arg5 harg5 arg6 harg6 arg7 harg7 arg8 harg8 arg9 harg9 hbM (Memref.isWhole_whole _) arg11 harg11 arg12 harg12 hbM (Memref.isWhole_whole _) scM (Memref.isWhole_whole _) cc0_scratch1) K := by
  haveI : Fact (later (grid0.coords t)) := ⟨hc0⟩
  haveI : Fact (final (grid0.coords t)) := ⟨hc1⟩
  haveI : Fact (¬first (grid0.coords t)) := ⟨hc2⟩
  simp only [cc0_qkv_bwd_eq_skeleton]; unfold cc0_qkv_bwd_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
  unfold ins outs owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, ⟨%f9, %hf9, H9⟩, ⟨%f10, %hf10, H10⟩, Hp, HF, HW, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
  obtain rfl := harg11.eq_unread hf9; obtain rfl := harg12.eq_unread hf10
  sl_exec (disch := first | sl_exact hc0 | sl_exact hc1 | sl_exact hc2)
  sl_step
  iapply Hk
  isplitl [H0 H1 H2 H3 H4 H5 H6 H7 H8]
  · isplitl [H0]
    · iexists _; isplitr; swap; · iexact H0
      ipureintro; exact hf0
    isplitl [H1]
    · iexists _; isplitr; swap; · iexact H1
      ipureintro; exact hf1
    isplitl [H2]
    · iexists _; isplitr; swap; · iexact H2
      ipureintro; exact hf2
    isplitl [H3]
    · iexists _; isplitr; swap; · iexact H3
      ipureintro; exact hf3
    isplitl [H4]
    · iexists _; isplitr; swap; · iexact H4
      ipureintro; exact hf4
    isplitl [H5]
    · iexists _; isplitr; swap; · iexact H5
      ipureintro; exact hf5
    isplitl [H6]
    · iexists _; isplitr; swap; · iexact H6
      ipureintro; exact hf6
    isplitl [H7]
    · iexists _; isplitr; swap; · iexact H7
      ipureintro; exact hf7
    iexists _; isplitr; swap; · iexact H8
    ipureintro; exact hf8
  isplitl [H9 H10]
  · isplitl [H9]
    · iexists _; isplitr; swap; · iexact H9
      ipureintro; (try frame_out); exact View.read_writes_full _ _ _ _ []
    iexists _; isplitr; swap; · iexact H10
    ipureintro; (try frame_out); exact View.read_writes_full _ _ _ _ []
  isplitl [HF_dst]; · iexact HF_dst
  isplitl [HF]; · iexact HF
  isplitl [Hp]
  · iexists _; isplitr; swap; · iexact Hp
    ipureintro; refine (View.read_writes_whole _ _ _).trans ?_; frame_out; exact stash_read _ (packs x0 x1 x3 x4 x5 x6 x7 x8) _
  isplitl [HF_src]; · iexists _; iexact HF_src
  iexists _; iexact HW

end Cert.KernelQkvIdeal.Hand

end
-- ==== Proof.QkvFrame.lean ====
module

public import proofs.«01_k».proof.Proof.QkvRun
public import Idealize.ShloMosaic.Lib.ViewIndex

@[expose] public section

set_option maxRecDepth 16384

noncomputable section

/-! # The backward kernel of the queries' and keys' norm and rotary embedding from launch to end

The copies out of the stash are one at a time: before step `k` (but the first) the copy of step `k - 1` is under way.
So before step `k` the array of the projection's gradient holds, outside the piece of that copy, what the first `k`
copies make of it (`sent k`), and the copy will hand the piece over at the same contents. -/

namespace Cert.KernelQkvIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelQkvIdeal Cert.KernelQkvIdeal.Gen

variable {F : FTy → Type} [FloatOps F]

local notation "𝕄" => MT nD τ sig Unit (Elt F) ℕ (Pipeline.UD sig nD τ) ℕ

/-! ## The pieces -/

section Pieces
omit [FloatOps F]

theorem piece_emb (u : Fin 4) (y : S512x1536.Idx) (a : Fin 2) :
    ((piece u).view.emb y a : Nat) = (![512 * u.val, 4096] : Fin 2 → Nat) a + 1 * (y a).val := rfl

/-- The elements of step `u`'s piece. -/
abbrev pset (u : Fin 4) : Finset S2048x12800.Idx := (piece u).view.set

theorem pieces_disjoint {u v : Fin 4} (h : u ≠ v) : Disjoint (pset u) (pset v) := by
  refine Finset.disjoint_left.mpr fun i hi hj => h ?_
  obtain ⟨y, -, rfl⟩ := Finset.mem_map.mp hi
  obtain ⟨z, -, e⟩ := Finset.mem_map.mp hj
  have e0 := congrArg (fun i : S2048x12800.Idx => (i 0 : Nat)) e
  have hy : (y 0).val < 512 := (y 0).isLt
  have hz : (z 0).val < 512 := (z 0).isLt
  have e1 : 512 * v.val + 1 * (z 0).val = 512 * u.val + 1 * (y 0).val := e0
  exact Fin.ext (by omega)

theorem tile_set : tile.view.set = (Finset.univ : Finset S1x512x1536.Idx) := by
  simp only [tile, Memref.view_squeeze, View.set_reshape]
  exact (View.set_slice_whole _ _).trans (Rect.set_eq_univ_of_whole _ (by decide))

end Pieces

variable (m : (ℓ : Loc nD τ sig) → Buf (Elt F) ℓ) (ρ : Dev nD → PrngReg)

/-! ## What the steps leave -/

/-- The point of step `k`. -/
def pt (k : ℕ) : Fin cfg0.N := ⟨k % 4, lt_of_lt_of_eq (Nat.mod_lt k (by decide)) N_0.symm⟩
theorem pt_val (t : Fin cfg0.N) : pt t.val = t := by
  have ht : t.val < 4 := Nat.lt_of_lt_of_eq t.isLt N_0
  exact Fin.ext (Nat.mod_eq_of_lt ht)

/-- The two accumulated rows before step `k`. -/
def dqN (c : Dev nD) : ℕ → Vec F S1x128 .f32
  | 0 => k0_pay105
  | k + 1 => dqnAt (iblk m c 0 (pt k)) (X0_3 m c (pt k)) (iblk m c 7 (pt k)) (iblk m c 8 (pt k)) (dqN c k)
def dkN (c : Dev nD) : ℕ → Vec F S1x128 .f32
  | 0 => k0_pay133
  | k + 1 => dknAt (iblk m c 1 (pt k)) (iblk m c 4 (pt k)) (iblk m c 7 (pt k)) (iblk m c 8 (pt k)) (dkN c k)
/-- What the copy of step `t` carries. -/
def packT (c : Dev nD) (t : Fin cfg0.N) : Vec F S512x1536 .bf16 :=
  stashAt (iblk m c 0 t) (iblk m c 1 t) (iblk m c 2 t) (X0_3 m c t) (iblk m c 4 t) (iblk m c 5 t) (iblk m c 6 t) (iblk m c 7 t) (iblk m c 8 t)

/-- The array of the projection's gradient after the first `k` copies. -/
def sent (c : Dev nD) : ℕ → Buf (Elt F) ((c : Thread nD τ).loc main_v39_2)
  | 0 => V m c main_v39_2
  | k + 1 => (piece (Ring.bk 4 k)).view.write (Elt F) (sent c k) (packT m c (pt k)) Finset.univ

theorem dqN_succ (c : Dev nD) (t : Fin cfg0.N) : dqN m c (t.val + 1) = dqnAt (iblk m c 0 t) (X0_3 m c t) (iblk m c 7 t) (iblk m c 8 t) (dqN m c t.val) := by
  rw [dqN, pt_val]
theorem dkN_succ (c : Dev nD) (t : Fin cfg0.N) : dkN m c (t.val + 1) = dknAt (iblk m c 1 t) (iblk m c 4 t) (iblk m c 7 t) (iblk m c 8 t) (dkN m c t.val) := by
  rw [dkN, pt_val]

/-! ## Handing pieces out and taking them back -/

/-- The array, but for some of its elements. -/
abbrev restP (c : Dev nD) (S : Finset S2048x12800.Idx) (f : Buf (Elt F) ((c : Thread nD τ).loc main_v39_2)) : sProp 𝕄 :=
  ((c : Thread nD τ).loc main_v39_2) ↦[S]{fullShare} f

/-- A piece is held by what is read of it. -/
theorem piece_eq (c : Dev nD) (u : Fin 4) (f : BufOf (F := F) c (piece u)) (g : Buf (Elt F) ((c : Thread nD τ).loc main_v39_2)) (x : Vec F S512x1536 .bf16)
    (h : (piece u).view.read (Elt F) f = x) :
    pieceP c u f = restP c (pset u) ((piece u).view.write (Elt F) g x Finset.univ) := by
  refine pointsTo_congr fun i hi => ?_
  obtain ⟨y, -, rfl⟩ := Finset.mem_map.mp hi
  refine View.eq_of_read_eq (v := (piece u).view) (f := f) (x := y) ?_
  exact (congrFun h y).trans (congrFun (View.read_write_univ (v := (piece u).view) g x).symm y)

/-- Off the piece, the array is as before the write. -/
theorem rest_eq (c : Dev nD) (u : Fin 4) (S : Finset S2048x12800.Idx) (hS : Disjoint S (pset u)) (g : Buf (Elt F) ((c : Thread nD τ).loc main_v39_2)) (x : Vec F S512x1536 .bf16) :
    restP c S g = restP c S ((piece u).view.write (Elt F) g x Finset.univ) :=
  pointsTo_congr fun i hi => (View.write_of_not_mem _ _ _ (fun h => Finset.disjoint_left.mp hS hi h)).symm

theorem bk_val (k : ℕ) (h : k < 4) : (Ring.bk 4 k).val = k := Nat.mod_eq_of_lt h

/-- Before step `k` with a copy under way: the array off that copy's piece, and the copy. -/
def going (c : Dev nD) (k : ℕ) : sProp 𝕄 :=
  iprop(restP c (Finset.univ \ (pset (Ring.bk 4 k))) (sent m c (k + 1))
    ∗ ∃ f e, ⌜(piece (Ring.bk 4 k)).view.read (Elt F) f = packT m c (pt k)⌝ ∗ flightP c (Ring.bk 4 k) f e)
/-- Nothing under way. -/
def still (c : Dev nD) (k : ℕ) : sProp 𝕄 :=
  iprop(cellP c ∗ (∃ e, tileP c e) ∗ restP c Finset.univ (sent m c k))

/-- A whole array gives a piece out. -/
theorem give (c : Dev nD) (u : Fin 4) (S : Finset S2048x12800.Idx) (hS : (pset u) ⊆ S) (g : Buf (Elt F) ((c : Thread nD τ).loc main_v39_2)) :
    restP c S g ⊢ iprop(pieceP c u g ∗ restP c (S \ (pset u)) g) := (pointsTo_split_subset hS).1
/-- A piece that reads what was to be written goes back in its place. -/
theorem take (c : Dev nD) (u : Fin 4) (S : Finset S2048x12800.Idx) (hS : (pset u) ⊆ S) (f : BufOf (F := F) c (piece u)) (g : Buf (Elt F) ((c : Thread nD τ).loc main_v39_2)) (x : Vec F S512x1536 .bf16)
    (h : (piece u).view.read (Elt F) f = x) :
    iprop(pieceP c u f ∗ restP c (S \ (pset u)) ((piece u).view.write (Elt F) g x Finset.univ))
      ⊢ restP c S ((piece u).view.write (Elt F) g x Finset.univ) := by
  rw [piece_eq c u f g x h]; exact (pointsTo_split_subset hS).2

theorem next_ne (k : ℕ) (h : k < 3) : Ring.bk 4 (k + 1) ≠ Ring.bk 4 k := fun e => by
  have := congrArg Fin.val e
  rw [bk_val _ (by omega), bk_val _ (by omega)] at this
  omega

/-- The copy of step `k` has come back while the piece of step `k + 1` is out. -/
theorem back (c : Dev nD) (k : ℕ) (h : k < 3) (f : BufOf (F := F) c (piece (Ring.bk 4 k))) (hf : (piece (Ring.bk 4 k)).view.read (Elt F) f = packT m c (pt k)) :
    iprop(pieceP c (Ring.bk 4 k) f ∗ restP c ((Finset.univ \ (pset (Ring.bk 4 k))) \ (pset (Ring.bk 4 (k + 1)))) (sent m c (k + 1)))
      ⊢ restP c (Finset.univ \ (pset (Ring.bk 4 (k + 1)))) (sent m c (k + 1)) := by
  rw [sdiff_right_comm]
  exact take c (Ring.bk 4 k) _ (fun i hi => Finset.mem_sdiff.mpr ⟨Finset.mem_univ _, fun hj =>
    Finset.disjoint_left.mp (pieces_disjoint (next_ne k h)) hj hi⟩) f (sent m c k) (packT m c (pt k)) hf

/-! ## The region's data -/

/-- What is held before step `k`. -/
def Phi (c : Dev nD) (k : ℕ) : sProp 𝕄 :=
  iprop((∃ r, prngReg c r) ∗ if k = 0 then still m c 0 else if k = 4 then still m c 4 else going m c (k - 1))

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => X0_3 m c t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => dqN m c (t.val + 1)
    | ⟨10, _⟩ => dkN m c (t.val + 1)
  Φ t := Phi m c t.val
  q w := Pipeline.shareOf spec0 w
  owed _ := 0

theorem A_eq (c : Dev nD) (w : Fin cfg0.W) : (dats m 0 c).A w = V m c (Pipeline.arrRef spec0 w) := by
  dsimp only [dats]
theorem Phi_castSucc (c : Dev nD) (t : Fin cfg0.N) : (dats m 0 c).Φ t.castSucc = Phi m c t.val := by
  dsimp only [dats]; simp only [Fin.coe_castSucc]
theorem Phi_succ (c : Dev nD) (t : Fin cfg0.N) : (dats m 0 c).Φ t.succ = Phi m c (t.val + 1) := by
  dsimp only [dats]; simp only [Fin.val_succ]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = X0_3 m c t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = dqN m c (t.val + 1) := by dsimp only [dats]
theorem after_10 (c : Dev nD) (t : Fin cfg0.N) : (dats m 0 c).after 10 t = dkN m c (t.val + 1) := by dsimp only [dats]

/-- An input's buffer holds its block at every point. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = X0_3 m c t :=
  ((dats m 0 c).before_in_eq_fetched 3 rfl (fun _ => rfl)
      (fun t t' h => funext fun a => congrArg (fun n => Pipeline.Clip.of n ((cfg0.win 3).size a) (S2048x12800.size a)) (congrFun h a))
      (fun t => by rw [after_3]; unfold X0_3; rw [Pipeline.Window.cut_fill]; unfold Dat.blockOf iblk; rw [A_eq]; try rfl) t d).trans
    (by unfold Dat.fetched X0_3; rw [fill0_3 t d dflt0_3]; unfold Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin cfg0.N) (d) : (dats m 0 c).before 6 t d = iblk m c 6 t :=
  ((dats m 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem before_7 (c : Dev nD) (t : Fin cfg0.N) (d) : (dats m 0 c).before 7 t d = iblk m c 7 t :=
  ((dats m 0 c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)
theorem before_8 (c : Dev nD) (t : Fin cfg0.N) (d) : (dats m 0 c).before 8 t d = iblk m c 8 t :=
  ((dats m 0 c).before_in_eq_fetched 8 rfl (fun _ => rfl) (fun _ _ _ => rfl) (fun t => by rw [after_8]; unfold Dat.blockOf iblk; rw [A_eq]; try rfl) t d).trans
    (by unfold Dat.fetched Dat.blockOf iblk; rw [A_eq]; try rfl)
/-- An accumulated row's buffer holds what the step before left. -/
theorem before_9 (c : Dev nD) (t : Fin cfg0.N) (h : 1 ≤ t.val) (d) : (dats m 0 c).before 9 t d = dqN m c t.val := by
  have hN : t.val < 4 := lt_of_lt_of_eq t.isLt (show cfg0.N = 4 from N_0)
  rw [Dat.before_out_kept _ 9 rfl t (by omega) (Bool.eq_false_iff.mpr fun h => by have := (flush0_9 _).mp h; dsimp only at this; omega)
    (fun _ => rfl) (fun _ _ => rfl), after_9]
  dsimp only
  rw [Nat.sub_add_cancel h]
theorem before_10 (c : Dev nD) (t : Fin cfg0.N) (h : 1 ≤ t.val) (d) : (dats m 0 c).before 10 t d = dkN m c t.val := by
  have hN : t.val < 4 := lt_of_lt_of_eq t.isLt (show cfg0.N = 4 from N_0)
  rw [Dat.before_out_kept _ 10 rfl t (by omega) (Bool.eq_false_iff.mpr fun h => by have := (flush0_10 _).mp h; dsimp only at this; omega)
    (fun _ => rfl) (fun _ _ => rfl), after_10]
  dsimp only
  rw [Nat.sub_add_cancel h]
abbrev ms_0 (t : Fin cfg0.N) : Memref sig .tc .vmem S512x1024 .f32 := win0_0.stage (cfg0.slots t 0)
abbrev ms_1 (t : Fin cfg0.N) : Memref sig .tc .vmem S512x256 .f32 := win0_1.stage (cfg0.slots t 1)
abbrev ms_2 (t : Fin cfg0.N) : Memref sig .tc .vmem S512x256 .f32 := win0_2.stage (cfg0.slots t 2)
abbrev ms_3 (t : Fin cfg0.N) : Memref sig .tc .vmem S512x1024 .f32 := win0_3.stage (cfg0.slots t 3)
abbrev ms_4 (t : Fin cfg0.N) : Memref sig .tc .vmem S512x256 .f32 := win0_4.stage (cfg0.slots t 4)
abbrev ms_5 (t : Fin cfg0.N) : Memref sig .tc .vmem S1x128 .f32 := win0_5.stage (cfg0.slots t 5)
abbrev ms_6 (t : Fin cfg0.N) : Memref sig .tc .vmem S1x128 .f32 := win0_6.stage (cfg0.slots t 6)
abbrev ms_7 (t : Fin cfg0.N) : Memref sig .tc .vmem S512x128 .f32 := win0_7.stage (cfg0.slots t 7)
abbrev ms_8 (t : Fin cfg0.N) : Memref sig .tc .vmem S512x128 .f32 := win0_8.stage (cfg0.slots t 8)
abbrev ms_9 (t : Fin cfg0.N) : Memref sig .tc .vmem S1x128 .f32 := win0_9.stage (cfg0.slots t 9)
abbrev ms_10 (t : Fin cfg0.N) : Memref sig .tc .vmem S1x128 .f32 := win0_10.stage (cfg0.slots t 10)

/-- What the body is called with at a point, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d))
    ∗ (∃ d, owns (c : Thread nD τ) (ms_7 t) fullShare ((dats m 0 c).before 7 t d))
    ∗ (∃ d, owns (c : Thread nD τ) (ms_8 t) fullShare ((dats m 0 c).before 8 t d))
    ∗ (∃ d, owns (c : Thread nD τ) (ms_9 t) fullShare ((dats m 0 c).before 9 t d))
    ∗ (∃ d, owns (c : Thread nD τ) (ms_10 t) fullShare ((dats m 0 c).before 10 t d)))
def bodyPost (c : Dev nD) (t : Fin cfg0.N) : sProp 𝕄 :=
  iprop((dats m 0 c).Φ t.succ ∗ (dats m 0 c).owesAt () t.succ
    ∗ owns (c : Thread nD τ) (ms_0 t) fullShare ((dats m 0 c).after 0 t)
    ∗ owns (c : Thread nD τ) (ms_1 t) fullShare ((dats m 0 c).after 1 t)
    ∗ owns (c : Thread nD τ) (ms_2 t) fullShare ((dats m 0 c).after 2 t)
    ∗ owns (c : Thread nD τ) (ms_3 t) fullShare ((dats m 0 c).after 3 t)
    ∗ owns (c : Thread nD τ) (ms_4 t) fullShare ((dats m 0 c).after 4 t)
    ∗ owns (c : Thread nD τ) (ms_5 t) fullShare ((dats m 0 c).after 5 t)
    ∗ owns (c : Thread nD τ) (ms_6 t) fullShare ((dats m 0 c).after 6 t)
    ∗ owns (c : Thread nD τ) (ms_7 t) fullShare ((dats m 0 c).after 7 t)
    ∗ owns (c : Thread nD τ) (ms_8 t) fullShare ((dats m 0 c).after 8 t)
    ∗ owns (c : Thread nD τ) (ms_9 t) fullShare ((dats m 0 c).after 9 t)
    ∗ owns (c : Thread nD τ) (ms_10 t) fullShare ((dats m 0 c).after 10 t))

set_option maxHeartbeats 1000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [after_0, after_1, after_2, after_3, after_4, after_5, after_6, after_7, after_8, after_9, after_10]
  rw [Phi_castSucc m c t, Phi_succ m c t]
  unfold Dat.owesAt Pipeline.owesWithin
  rw [show (dats m 0 c).owed t.castSucc = 0 from rfl, show (dats m 0 c).owed t.succ = 0 from rfl]
  have ht : t.val < 4 := lt_of_lt_of_eq t.isLt (show cfg0.N = 4 from N_0)
  have hp : pt t.val = t := pt_val t
  rw [dqN_succ, dkN_succ]
  by_cases h0 : t.val = 0
  · have e9 : dqN m c t.val = k0_pay105 := by rw [h0]; rfl
    have e10 : dkN m c t.val = k0_pay133 := by rw [h0]; rfl
    rw [e9, e10]
    rw [show Phi m c t.val = iprop((∃ r, prngReg c r) ∗ still m c t.val) by unfold Phi; rw [if_pos h0, h0],
      show Phi m c (t.val + 1) = iprop((∃ r, prngReg c r) ∗ going m c t.val) by
        unfold Phi; rw [if_neg (by omega), if_neg (by omega), Nat.add_sub_cancel]]
    unfold still going
    iintro ⟨⟨Hg, Hq, ⟨%ev, Ht⟩, Hr⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    ihave Hx := (give (F := F) c (stepOf t) Finset.univ (Finset.subset_univ _) (sent m c t.val)) $$ Hr
    icases Hx with ⟨Hp, Hr⟩
    iapply (runA c t _ _ _ _ _ _ _ _ _ _ _ _ _ _ _ _ _ _ _ _ _ _ (fun h => by have := (later_iff t).mp h; omega) (fun h => by have := (final_iff t).mp h; omega) ((first_iff t).mpr (by omega))
      (iblk m c 0 t) (iblk m c 1 t) (iblk m c 2 t) (X0_3 m c t) (iblk m c 4 t) (iblk m c 5 t) (iblk m c 6 t) (iblk m c 7 t) (iblk m c 8 t) ev (sent m c t.val) W _)
    unfold ins outs
    isplitl [H0 H1 H2 H3 H4 H5 H6 H7 H8]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    isplitl [H9]; · iexists _; iexact H9
    isplitl [H10]; · iexists _; iexact H10
    isplitl [Hp]; · iexact Hp
    isplitl [Hq]; · iexact Hq
    isplitl [Ht]; · iexact Ht
    isplitl [HW]; · iexact HW
    iintro ⟨⟨H0, H1, H2, H3, H4, H5, H6, H7, H8⟩, ⟨H9, H10⟩, ⟨%f, %e, %hf, HF⟩, ⟨%W', HW'⟩⟩
    isplitl [Hg Hr HF]
    · isplitl [Hg]; · iexact Hg
      isplitl [Hr]
      · rw [show sent m c (t.val + 1) = (piece (stepOf t)).view.write (Elt F) (sent m c t.val) (packT m c (pt t.val)) Finset.univ from rfl,
          ← rest_eq c (stepOf t) _ Finset.sdiff_disjoint]
        iexact Hr
      iexists f, e; isplitr; swap; · iexact HF
      ipureintro; rw [hp]; exact hf
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  have h1 : 1 ≤ t.val := by omega
  obtain ⟨k, hk⟩ : ∃ k, k + 1 = t.val := ⟨t.val - 1, by omega⟩
  have hkk : k = t.val - 1 := by omega
  have hne : stepOf t ≠ Ring.bk 4 k := by have := next_ne k (by omega); rwa [hk] at this
  have hsub : pset (stepOf t) ⊆ Finset.univ \ pset (Ring.bk 4 k) := fun i hi =>
    Finset.mem_sdiff.mpr ⟨Finset.mem_univ _, fun h => Finset.disjoint_left.mp (pieces_disjoint hne) hi h⟩
  simp only [before_9 m c t h1, before_10 m c t h1]
  by_cases h3 : t.val = 3
  · rw [show Phi m c t.val = iprop((∃ r, prngReg c r) ∗ going m c k) by unfold Phi; rw [if_neg (by omega), if_neg (by omega), show t.val - 1 = k by omega],
      show Phi m c (t.val + 1) = iprop((∃ r, prngReg c r) ∗ still m c (t.val + 1)) by
        unfold Phi; rw [if_neg (by omega), if_pos (by omega), show t.val + 1 = 4 by omega]]
    unfold still going
    rw [hk]
    iintro ⟨⟨Hg, Hr, ⟨%fv, %ev, %hv, HF⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    ihave Hx := (give (F := F) c (stepOf t) _ hsub (sent m c t.val)) $$ Hr
    icases Hx with ⟨Hp, Hr⟩
    iapply (runD c t _ _ _ _ _ _ _ _ _ _ _ _ _ _ _ _ _ _ _ _ _ _ ((later_iff t).mpr h1) ((final_iff t).mpr (by omega)) (fun h => by have := (first_iff t).mp h; omega)
      (iblk m c 0 t) (iblk m c 1 t) (iblk m c 2 t) (X0_3 m c t) (iblk m c 4 t) (iblk m c 5 t) (iblk m c 6 t) (iblk m c 7 t) (iblk m c 8 t) (dqN m c t.val) (dkN m c t.val) (Ring.bk 4 k) fv ev (sent m c t.val) W _)
    unfold ins outs
    isplitl [H0 H1 H2 H3 H4 H5 H6 H7 H8]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    isplitl [H9]; · iexact H9
    isplitl [H10]; · iexact H10
    isplitl [Hp]; · iexact Hp
    isplitl [HF]; · iexact HF
    isplitl [HW]; · iexact HW
    iintro ⟨⟨H0, H1, H2, H3, H4, H5, H6, H7, H8⟩, ⟨H9, H10⟩, Hv, Hq, ⟨%f, %hf, Hp⟩, ⟨%e, Ht⟩, ⟨%W', HW'⟩⟩
    isplitl [Hg Hr Hv Hq Hp Ht]
    · isplitl [Hg]; · iexact Hg
      isplitl [Hq]; · iexact Hq
      isplitl [Ht]; · iexists e; iexact Ht
      ihave Hb := (back m c k (by omega) fv hv) $$ [Hv Hr]
      · isplitl [Hv]; · iexact Hv
        rw [hk]; iexact Hr
      rw [hk]
      rw [show sent m c (t.val + 1) = (piece (stepOf t)).view.write (Elt F) (sent m c t.val) (packT m c (pt t.val)) Finset.univ from rfl]
      iapply (take c (stepOf t) Finset.univ (Finset.subset_univ _) f (sent m c t.val) (packT m c (pt t.val)) (by rw [hp]; exact hf))
      isplitl [Hp]; · iexact Hp
      rw [← rest_eq c (stepOf t) _ Finset.sdiff_disjoint]
      iexact Hb
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · rw [show Phi m c t.val = iprop((∃ r, prngReg c r) ∗ going m c k) by unfold Phi; rw [if_neg (by omega), if_neg (by omega), show t.val - 1 = k by omega],
      show Phi m c (t.val + 1) = iprop((∃ r, prngReg c r) ∗ going m c t.val) by
        unfold Phi; rw [if_neg (by omega), if_neg (by omega), Nat.add_sub_cancel]]
    unfold going
    rw [hk]
    iintro ⟨⟨Hg, Hr, ⟨%fv, %ev, %hv, HF⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    ihave Hx := (give (F := F) c (stepOf t) _ hsub (sent m c t.val)) $$ Hr
    icases Hx with ⟨Hp, Hr⟩
    iapply (runB c t _ _ _ _ _ _ _ _ _ _ _ _ _ _ _ _ _ _ _ _ _ _ ((later_iff t).mpr h1) (fun h => by have := (final_iff t).mp h; omega) (fun h => by have := (first_iff t).mp h; omega)
      (iblk m c 0 t) (iblk m c 1 t) (iblk m c 2 t) (X0_3 m c t) (iblk m c 4 t) (iblk m c 5 t) (iblk m c 6 t) (iblk m c 7 t) (iblk m c 8 t) (dqN m c t.val) (dkN m c t.val) (Ring.bk 4 k) fv ev (sent m c t.val) W _)
    unfold ins outs
    isplitl [H0 H1 H2 H3 H4 H5 H6 H7 H8]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    isplitl [H9]; · iexact H9
    isplitl [H10]; · iexact H10
    isplitl [Hp]; · iexact Hp
    isplitl [HF]; · iexact HF
    isplitl [HW]; · iexact HW
    iintro ⟨⟨H0, H1, H2, H3, H4, H5, H6, H7, H8⟩, ⟨H9, H10⟩, Hv, ⟨%f, %e, %hf, HF⟩, ⟨%W', HW'⟩⟩
    isplitl [Hg Hr Hv HF]
    · isplitl [Hg]; · iexact Hg
      isplitl [Hr Hv]
      · ihave Hb := (back m c k (by omega) fv hv) $$ [Hv Hr]
        · isplitl [Hv]; · iexact Hv
          rw [hk]; iexact Hr
        rw [hk]
        rw [show sent m c (t.val + 1) = (piece (stepOf t)).view.write (Elt F) (sent m c t.val) (packT m c (pt t.val)) Finset.univ from rfl,
          ← rest_eq c (stepOf t) _ Finset.sdiff_disjoint]
        iexact Hb
      iexists f, e; isplitr; swap; · iexact HF
      ipureintro; rw [hp]; exact hf
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

abbrev osem0 : Fin 1 → SemLoc sig := fun j => (![SemLoc.dma 18] : Fin 1 → SemLoc sig) j
theorem ownSemFacts0 : Pipeline.OwnSemFacts spec0 osem0 := by decide
theorem ownSems_eq (c : Dev nD) :
    (Pipeline.ownSems0 (Ix := Unit) (Name := ℕ) (U := Pipeline.UD sig nD τ) (Lvl := ℕ) (Val := Elt F) (τ := τ) osem0 c : sProp 𝕄) = cellP c := by
  rw [Pipeline.ownSems0_eq_of_list c osem0 [0] (by decide) (by decide)]; rfl
/-- The array the copies write. -/
def written : Finset (Ref sig .tc) := {main_v39_2}
theorem written_sub : written ⊆ Pipeline.restRefs sig spec0 \ ∅ := by decide

theorem PhiDRG_eq (c : Dev nD) (G' : (c : Dev nD) → (b : Ref sig .tc) → Buf (Elt F) ((c : Thread nD τ).loc b)) :
    (Pipeline.ΦDRG osem0 spec0 ∅ written (V m) G' c : sProp 𝕄)
      = iprop((∃ f : Buf (Elt F) ((c : Thread nD τ).loc cc0_scratch0), ((c : Thread nD τ).loc cc0_scratch0) ↦{fullShare} f) ∗ (∃ r, prngReg c r)
        ∗ cellP c ∗ BI.emp ∗ restP c Finset.univ (G' c main_v39_2)) := by
  rw [Pipeline.ΦDRG_eq, scopedRest0_eq, ownSems_eq, bigSep_empty]; unfold written; rw [Pipeline.routed_singleton]

theorem tile_eq (c : Dev nD) (e : Buf (Elt F) ((c : Thread nD τ).loc cc0_scratch0)) :
    tileP c e = (((c : Thread nD τ).loc cc0_scratch0) ↦{fullShare} e : sProp 𝕄) :=
  congrArg (fun S : Finset S1x512x1536.Idx => (((c : Thread nD τ).loc cc0_scratch0) ↦[S]{fullShare} e : sProp 𝕄)) tile_set

/-- What the launch leaves in the buffers the copies write. -/
def left (c : Dev nD) : (b : Ref sig .tc) → Buf (Elt F) ((c : Thread nD τ).loc b) := Function.update (V m c) main_v39_2 (sent m c 4)
theorem left_eq (c : Dev nD) : left m c main_v39_2 = sent m c 4 := Function.update_self _ _ _

theorem hin (c : Dev nD) : Pipeline.ΦDRG osem0 spec0 ∅ written (V m) (V m) c ⊢ (dats m 0 c).Φ 0 := by
  rw [PhiDRG_eq, show (dats m 0 c).Φ 0 = iprop((∃ r, prngReg c r) ∗ still m c 0) from rfl]
  unfold still
  iintro ⟨⟨%e, Ht⟩, Hg, Hq, -, Hr⟩
  isplitl [Hg]; · iexact Hg
  isplitl [Hq]; · iexact Hq
  isplitl [Ht]
  · iexists e; rw [tile_eq]; iexact Ht
  iexact Hr
theorem hout (c : Dev nD) : (dats m 0 c).Φ (Fin.last cfg0.N) ⊢ Pipeline.ΦDRG osem0 spec0 ∅ written (V m) (left m) c := by
  rw [PhiDRG_eq, show (dats m 0 c).Φ (Fin.last cfg0.N) = Phi m c grid0.N from rfl, show grid0.N = 4 by rw [N_0], left_eq,
    show Phi m c 4 = iprop((∃ r, prngReg c r) ∗ still m c 4) by unfold Phi; rw [if_neg (by decide), if_pos rfl]]
  unfold still
  iintro ⟨Hg, Hq, ⟨%e, Ht⟩, Hr⟩
  isplitl [Ht]
  · iexists e; iapply (Entails.of_eq (tile_eq c e)); iexact Ht
  isplitl [Hg]; · iexact Hg
  isplitl [Hq]; · iexact Hq
  isplitr; · iempintro
  iexact Hr

theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

set_option backward.isDefEq.respectTransparency.types false in
/-- Every execution ends, the arrays as the region's data say, the copied array as the copies leave it, every counter
at zero. -/
theorem run_main : θ_run defs (onTc (τ := τ) (main (F := F))) (s₀ m ρ)
    (fun r => Pipeline.FramePostRG cfgs (dats m) 0 written (V m) (left m) r ∧ r.2.sem = fun _ => 0) :=
  Pipeline.θ_run_frame_dmaRG_shared (Q' := _) cfgs (dats m) (0 : Fin 1) launch₀0 osem0 defs₀ Variants.none ownSemFacts0 ∅ written (by decide) written_sub m ρ main
    (hbody := fun c => (body_obligation m c).loose) (hq := fun _ _ _ => rfl) (howed := fun _ _ => rfl) (V := V m) (hmain := hmain m Variants.none) (hA := A_eq m)
    (G := left m) (hin := hin m) (hout := hout m)

/-- What a run leaves of the arguments and the results. -/
theorem run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_v39_0) = (dats m 0 c).arrAt 9 cfg0.N
      ∧ r.2.mem ((c.tc : Thread nD τ).loc main_v39_1) = (dats m 0 c).arrAt 10 cfg0.N
      ∧ r.2.mem ((c.tc : Thread nD τ).loc main_v39_2) = sent m c 4)
      ∧ r.2.sem = fun _ => 0) :=
  (θ_run defs _ _).mono (fun r h => ⟨fun c => by
    have hr : ∀ b ∈ Pipeline.restRefs sig spec0 \ written, r.2.mem ((c.tc : Thread nD τ).loc b) = V m c b := (h.1.1 c).2
    exact ⟨(hr main_arg0 (by decide)).trans (V_main_arg0 m c), (hr main_arg1 (by decide)).trans (V_main_arg1 m c), (hr main_arg2 (by decide)).trans (V_main_arg2 m c),
      (hr main_arg3 (by decide)).trans (V_main_arg3 m c), (hr main_arg4 (by decide)).trans (V_main_arg4 m c), (hr main_arg5 (by decide)).trans (V_main_arg5 m c),
      (hr main_arg6 (by decide)).trans (V_main_arg6 m c), (h.1.1 c).1 9, (h.1.1 c).1 10,
      (h.1.written c (Finset.mem_singleton_self _)).trans (left_eq m c)⟩, h.2⟩) (run_main m ρ)

end Cert.KernelQkvIdeal.Hand

end
-- ==== Proof.QkvTab.lean ====
/-
  The arrays that the queries' and keys' gradient kernel reads, entry by entry: its arguments in a flat layout, and the
  two tables of the rotary embedding.
-/
module

public import proofs.«01_k».proof.Proof.QkvRope
public import proofs.«01_k».proof.Proof.QkvFrame

@[expose] public section

set_option maxRecDepth 16384

noncomputable section

namespace Cert.Qkv

open Idealize.ShloMosaic Idealize.ShloMosaic.TcCoe Idealize.SL.Sem
open Cert.KernelQkvIdeal Cert.KernelQkvIdeal.Gen Cert.KernelQkvIdeal.Hand Cert.Maths

/-! ## Arrays laid flat -/

theorem flat_q (x : S1x2048x8x128.Idx → EReal) (R : Fin 2048) (h : Fin 8) (j : Fin 128) (hb : 128 * h.val + j.val < 1024) :
    shapeCast S2048x1024 x shapeCasts_S1x2048x8x128_S2048x1024 (ix2 R ⟨128 * h.val + j.val, hb⟩) = x (ix4 0 R h j) := by
  refine shapeCast_apply _ _ _ _ ?_
  rw [Shape.rowMajor_val_four, Shape.rowMajor_val_two]
  show ((0 * 2048 + R.val) * 8 + h.val) * 128 + j.val = R.val * 1024 + (128 * h.val + j.val)
  omega

theorem flat_k (x : S1x2048x2x128.Idx → EReal) (R : Fin 2048) (h : Fin 2) (j : Fin 128) (hb : 128 * h.val + j.val < 256) :
    shapeCast S2048x256 x shapeCasts_S1x2048x2x128_S2048x256 (ix2 R ⟨128 * h.val + j.val, hb⟩) = x (ix4 0 R h j) := by
  refine shapeCast_apply _ _ _ _ ?_
  rw [Shape.rowMajor_val_four, Shape.rowMajor_val_two]
  show ((0 * 2048 + R.val) * 2 + h.val) * 128 + j.val = R.val * 256 + (128 * h.val + j.val)
  omega

theorem flat_p (x : S1x2048x12800.Idx → EReal) (R : Fin 2048) (k : Fin 12800) :
    shapeCast S2048x12800 x shapeCasts_S1x2048x12800_S2048x12800 (ix2 R k) = x (ix3 0 R k) := by
  refine shapeCast_apply _ _ _ _ ?_
  rw [Shape.rowMajor_val_three, Shape.rowMajor_val_two]
  show (0 * 2048 + R.val) * 12800 + k.val = R.val * 12800 + k.val
  omega

variable (m : (ℓ : Loc nD τ sig) → Buf (Elt Ideal) ℓ) (c : Dev nD)

theorem flatten_last {α : Type*} (a b c d e : List α) : [a, b, c, d, e].flatten = [a, b, c, d].flatten ++ e := by
  simp only [List.flatten_cons, List.flatten_nil, List.append_nil, List.append_assoc]

/-- The arrays once the rows' and columns' numbers are there. -/
def early : Valuation τ sig (Elt Ideal) := StableHlo.after [hostOps0, hostOps0_1, hostOps0_2, hostOps0_3].flatten (fun b => m (c, b))

theorem V_late (b : Ref sig .tc) : V m c b = StableHlo.after hostOps0_4 (early m c) (Proc.tc.devRef b) := by
  exact congrArg (fun o => StableHlo.after o (fun b => m (c, b)) (Proc.tc.devRef b)) (flatten_last hostOps0 hostOps0_1 hostOps0_2 hostOps0_3 hostOps0_4) |>.trans
    (congrFun (StableHlo.after_append _ _ _) _)

/-- The remainder by 64, as the host computes it. -/
def remW : S2048.Idx → BitVec 32 :=
  let z : S_.Idx → BitVec 32 := constantI S_ 32 0#32
  let n : S_.Idx → BitVec 32 := select (cmpi .eq (constantI S_ 32 64#32) z) (constantI S_ 32 1#32) (constantI S_ 32 64#32)
  let r : S2048.Idx → BitVec 32 := Host.remsi (iotaInDim S2048 32 0) (broadcastInDim S2048 ![] bcast_S_S2048 n)
  select (andi (cmpi .ne (cmpi .slt r (broadcastInDim S2048 ![] bcast_S_S2048 z)) (broadcastInDim S2048 ![] bcast_S_S2048 (cmpi .slt n z)))
    (cmpi .ne r (broadcastInDim S2048 ![] bcast_S_S2048 z))) (addi r (broadcastInDim S2048 ![] bcast_S_S2048 n)) r

theorem remW_at : ∀ R : Fin 2048, remW (ix1 R) = BitVec.ofNat 32 (R.val % 64) := by decide +kernel

/-- The quotient by 64, as the host computes it. -/
def divW : S2048.Idx → BitVec 32 :=
  let n : S_.Idx → BitVec 32 := constantI S_ 32 64#32
  let i : S2048.Idx → BitVec 32 := iotaInDim S2048 32 0
  let q : S2048.Idx → BitVec 32 := Host.divsi i (broadcastInDim S2048 ![] bcast_S_S2048 n)
  select (andi (cmpi .ne (signi i) (broadcastInDim S2048 ![] bcast_S_S2048 (signi n)))
    (cmpi .ne (Host.remsi i (broadcastInDim S2048 ![] bcast_S_S2048 n)) (broadcastInDim S2048 ![] bcast_S_S2048 (constantI S_ 32 0#32))))
    (subi q (broadcastInDim S2048 ![] bcast_S_S2048 (constantI S_ 32 1#32))) q

theorem divW_at : ∀ R : Fin 2048, divW (ix1 R) = BitVec.ofNat 32 (R.val / 64) := by decide +kernel

theorem early_row (R : Fin 2048) : (early m c (Proc.tc.devRef main_v2) : S2048.Idx → EReal) (ix1 R) = (((R.val / 64 : ℕ) : ℝ) : EReal) := by
  unfold early
  simp only [List.flatten_cons, List.flatten_nil, List.append_nil, List.cons_append, List.nil_append, hostOps0, hostOps0_1, hostOps0_2, hostOps0_3]
  entry_read
  exact Eq.trans (congrArg (FloatOps.sitofp (F := Ideal) FTy.f32) ((rfl : _ = divW (ix1 R)).trans (divW_at R))) (small_float _ (by omega))

theorem early_col (R : Fin 2048) : (early m c (Proc.tc.devRef main_v3) : S2048.Idx → BitVec 32) (ix1 R) = BitVec.ofNat 32 (R.val % 64) := by
  unfold early
  simp only [List.flatten_cons, List.flatten_nil, List.append_nil, List.cons_append, List.nil_append, hostOps0, hostOps0_1, hostOps0_2, hostOps0_3]
  entry_read
  exact (rfl : _ = remW (ix1 R)).trans (remW_at R)

theorem early_arg (b : Ref sig .tc) (hb : b = main_arg0 ∨ b = main_arg1 ∨ b = main_arg2 ∨ b = main_arg3 ∨ b = main_arg4 ∨ b = main_arg5 ∨ b = main_arg6) :
    early m c (Proc.tc.devRef b) = m ((c : Thread nD τ).loc b) := by
  rcases hb with rfl | rfl | rfl | rfl | rfl | rfl | rfl <;>
    (unfold early
     simp only [List.flatten_cons, List.flatten_nil, List.append_nil, List.cons_append, List.nil_append, hostOps0, hostOps0_1, hostOps0_2, hostOps0_3]
     entry_read
     rfl)

theorem read_dq (R) (h : Fin 8) (j : Fin 128) (hb : 128 * h.val + j.val < 1024) : V m c main_v33 (ix2 R ⟨128 * h.val + j.val, hb⟩) = m ((c : Thread nD τ).loc main_arg0) (ix4 0 R h j) := by
  rw [V_late]
  entry_read
  rw [early_arg m c main_arg0 (by simp)]
  exact flat_q _ R h j hb

theorem read_dk (R) (h : Fin 2) (j : Fin 128) (hb : 128 * h.val + j.val < 256) : V m c main_v34 (ix2 R ⟨128 * h.val + j.val, hb⟩) = m ((c : Thread nD τ).loc main_arg1) (ix4 0 R h j) := by
  rw [V_late]
  entry_read
  rw [early_arg m c main_arg1 (by simp)]
  exact flat_k _ R h j hb

theorem read_dv (R) (h : Fin 2) (j : Fin 128) (hb : 128 * h.val + j.val < 256) : V m c main_v35 (ix2 R ⟨128 * h.val + j.val, hb⟩) = m ((c : Thread nD τ).loc main_arg2) (ix4 0 R h j) := by
  rw [V_late]
  entry_read
  rw [early_arg m c main_arg2 (by simp)]
  exact flat_k _ R h j hb

theorem read_proj (R k) : V m c main_v36 (ix2 R k) = m ((c : Thread nD τ).loc main_arg3) (ix3 0 R k) := by
  rw [V_late]
  entry_read
  rw [early_arg m c main_arg3 (by simp)]
  exact flat_p _ R k

theorem read_qn (j) : V m c main_v37 (ix2 0 j) = m ((c : Thread nD τ).loc main_arg4) (ix1 j) := by
  rw [V_late]
  entry_read
  rw [early_arg m c main_arg4 (by simp)]
  pointwise

theorem read_kn (j) : V m c main_v38 (ix2 0 j) = m ((c : Thread nD τ).loc main_arg5) (ix1 j) := by
  rw [V_late]
  entry_read
  rw [early_arg m c main_arg5 (by simp)]
  pointwise

theorem read_dproj : V m c main_v39_2 = m ((c : Thread nD τ).loc main_arg6) := by
  rw [V_late]
  entry_read
  exact early_arg m c main_arg6 (by simp)

/-! ## The tables -/

/-- The arrays once the angles are there. -/
def mid : Valuation τ sig (Elt Ideal) := StableHlo.after (hostOps0_4.take 19) (early m c)

theorem V_mid (b : Ref sig .tc) : V m c b = StableHlo.after (hostOps0_4.drop 19) (mid m c) (Proc.tc.devRef b) :=
  (V_late m c b).trans ((congrArg (fun o => StableHlo.after o (early m c) (Proc.tc.devRef b)) (List.take_append_drop 19 hostOps0_4).symm).trans
    (congrFun (StableHlo.after_append _ _ _) _))

theorem mid_row (R) (l : Fin 32) : (mid m c (Proc.tc.devRef main_v15) : S2048x32.Idx → EReal) (ix2 R l) = (angle R 0 l : EReal) := by
  have h1 := early_row m c R
  unfold mid
  simp only [hostOps0_4, List.take_succ_cons, List.take_zero]
  entry_read
  generalize early m c (Proc.tc.devRef main_v2) = y2 at h1 ⊢
  pointwise
  rw [h1, w_32, w_10000, Ideal.div_coe (by norm_num), small_float l.val (by omega), ← EReal.coe_neg, ← EReal.coe_mul, Ideal.pow_coe_coe, ← EReal.coe_mul]
  rfl

theorem mid_col (R) (l : Fin 32) : (mid m c (Proc.tc.devRef main_v20) : S2048x32.Idx → EReal) (ix2 R l) = (angle R 1 l : EReal) := by
  have h1 := early_col m c R
  unfold mid
  simp only [hostOps0_4, List.take_succ_cons, List.take_zero]
  entry_read
  generalize early m c (Proc.tc.devRef main_v3) = y2 at h1 ⊢
  pointwise
  rw [h1, w_32, w_10000, Ideal.div_coe (by norm_num), small_float l.val (by omega), small_float _ (by omega), ← EReal.coe_neg, ← EReal.coe_mul, Ideal.pow_coe_coe, ← EReal.coe_mul]
  rfl

end Cert.Qkv

end
-- ==== Proof.QkvTrig.lean ====
/-
  The tables of the rotary embedding that the queries' and keys' gradient kernel reads.
-/
module

public import proofs.«01_k».proof.Proof.QkvTab

@[expose] public section

set_option maxRecDepth 16384

noncomputable section

namespace Cert.Qkv

open Idealize.ShloMosaic Idealize.ShloMosaic.TcCoe Idealize.SL.Sem
open Cert.KernelQkvIdeal Cert.KernelQkvIdeal.Gen Cert.KernelQkvIdeal.Hand Cert.Maths

variable (W : Valuation τ sig (Elt Ideal))

theorem split (l : List (HloOp τ sig (Elt Ideal))) (n k : ℕ) (b : DevRef τ sig) :
    StableHlo.after (l.drop n) W b = StableHlo.after (l.drop (n + k)) (StableHlo.after ((l.drop n).take k) W) b := by
  refine (congrArg (fun o => StableHlo.after o W b) (List.take_append_drop k (l.drop n)).symm).trans ((congrFun (StableHlo.after_append _ _ _) _).trans ?_)
  rw [List.drop_drop]

theorem cos_tail : StableHlo.after (hostOps0_4.drop 23) W (Proc.tc.devRef main_v25) = concatenate S2048x128 1 [⟨S2048x32, (W (Proc.tc.devRef main_v21) : S2048x32.Idx → EReal)⟩, ⟨S2048x32, (W (Proc.tc.devRef main_v22) : S2048x32.Idx → EReal)⟩, ⟨S2048x32, (W (Proc.tc.devRef main_v23) : S2048x32.Idx → EReal)⟩, ⟨S2048x32, (W (Proc.tc.devRef main_v24) : S2048x32.Idx → EReal)⟩] concatenates_S2048x32_S2048x32_S2048x32_S2048x32_S2048x128_d1 := by
  unfold hostOps0_4
  iterate 23 rw [List.drop_succ_cons]
  rw [List.drop_zero]
  iterate 15 rw [StableHlo.after_cons]
  rw [StableHlo.after_nil]
  refine (StableHlo.unary_result_ne _ _ _ _ _ _ (by decide)).trans ?_
  refine (StableHlo.unary_result_ne _ _ _ _ _ _ (by decide)).trans ?_
  refine (StableHlo.unary_result_ne _ _ _ _ _ _ (by decide)).trans ?_
  refine (StableHlo.reshape_result_ne _ _ _ _ _ _ _ (by decide)).trans ?_
  refine (StableHlo.reshape_result_ne _ _ _ _ _ _ _ (by decide)).trans ?_
  refine (StableHlo.reshape_result_ne _ _ _ _ _ _ _ (by decide)).trans ?_
  refine (StableHlo.reshape_result_ne _ _ _ _ _ _ _ (by decide)).trans ?_
  refine (StableHlo.nary_result_ne _ _ _ _ _ _ (by decide)).trans ?_
  refine (StableHlo.unary_result_ne _ _ _ _ _ _ (by decide)).trans ?_
  refine (StableHlo.unary_result_ne _ _ _ _ _ _ (by decide)).trans ?_
  refine (StableHlo.unary_result_ne _ _ _ _ _ _ (by decide)).trans ?_
  refine (StableHlo.unary_result_ne _ _ _ _ _ _ (by decide)).trans ?_
  refine (StableHlo.unary_result_ne _ _ _ _ _ _ (by decide)).trans ?_
  refine (StableHlo.unary_result_ne _ _ _ _ _ _ (by decide)).trans ?_
  exact StableHlo.nary_result _ _ _ _ _ _

theorem sin_tail : StableHlo.after (hostOps0_4.drop 30) W (Proc.tc.devRef main_v32) = concatenate S2048x128 1 [⟨S2048x32, (W (Proc.tc.devRef main_v27) : S2048x32.Idx → EReal)⟩, ⟨S2048x32, (W (Proc.tc.devRef main_v28) : S2048x32.Idx → EReal)⟩, ⟨S2048x32, (W (Proc.tc.devRef main_v30) : S2048x32.Idx → EReal)⟩, ⟨S2048x32, (W (Proc.tc.devRef main_v31) : S2048x32.Idx → EReal)⟩] concatenates_S2048x32_S2048x32_S2048x32_S2048x32_S2048x128_d1 := by
  unfold hostOps0_4
  iterate 30 rw [List.drop_succ_cons]
  rw [List.drop_zero]
  iterate 8 rw [StableHlo.after_cons]
  rw [StableHlo.after_nil]
  refine (StableHlo.unary_result_ne _ _ _ _ _ _ (by decide)).trans ?_
  refine (StableHlo.unary_result_ne _ _ _ _ _ _ (by decide)).trans ?_
  refine (StableHlo.unary_result_ne _ _ _ _ _ _ (by decide)).trans ?_
  refine (StableHlo.reshape_result_ne _ _ _ _ _ _ _ (by decide)).trans ?_
  refine (StableHlo.reshape_result_ne _ _ _ _ _ _ _ (by decide)).trans ?_
  refine (StableHlo.reshape_result_ne _ _ _ _ _ _ _ (by decide)).trans ?_
  refine (StableHlo.reshape_result_ne _ _ _ _ _ _ _ (by decide)).trans ?_
  exact StableHlo.nary_result _ _ _ _ _ _

theorem cos_21 : StableHlo.after ((hostOps0_4.drop 19).take 4) W (Proc.tc.devRef main_v21) = Host.cos (F := Ideal) (s := S2048x32) (φ := .f32) (W (Proc.tc.devRef main_v15)) := by
  unfold hostOps0_4
  iterate 19 rw [List.drop_succ_cons]
  rw [List.drop_zero]
  iterate 4 rw [List.take_succ_cons]
  rw [List.take_zero]
  entry_read
  rfl

theorem cos_22 : StableHlo.after ((hostOps0_4.drop 19).take 4) W (Proc.tc.devRef main_v22) = Host.cos (F := Ideal) (s := S2048x32) (φ := .f32) (W (Proc.tc.devRef main_v15)) := by
  unfold hostOps0_4
  iterate 19 rw [List.drop_succ_cons]
  rw [List.drop_zero]
  iterate 4 rw [List.take_succ_cons]
  rw [List.take_zero]
  entry_read
  rfl

theorem cos_23 : StableHlo.after ((hostOps0_4.drop 19).take 4) W (Proc.tc.devRef main_v23) = Host.cos (F := Ideal) (s := S2048x32) (φ := .f32) (W (Proc.tc.devRef main_v20)) := by
  unfold hostOps0_4
  iterate 19 rw [List.drop_succ_cons]
  rw [List.drop_zero]
  iterate 4 rw [List.take_succ_cons]
  rw [List.take_zero]
  entry_read
  rfl

theorem cos_24 : StableHlo.after ((hostOps0_4.drop 19).take 4) W (Proc.tc.devRef main_v24) = Host.cos (F := Ideal) (s := S2048x32) (φ := .f32) (W (Proc.tc.devRef main_v20)) := by
  unfold hostOps0_4
  iterate 19 rw [List.drop_succ_cons]
  rw [List.drop_zero]
  iterate 4 rw [List.take_succ_cons]
  rw [List.take_zero]
  entry_read
  rfl

theorem sin_27 : StableHlo.after ((hostOps0_4.drop 24).take 6) W (Proc.tc.devRef main_v27) = Host.negf (F := Ideal) (s := S2048x32) (φ := .f32) (Host.sin (F := Ideal) (s := S2048x32) (φ := .f32) (W (Proc.tc.devRef main_v15))) := by
  unfold hostOps0_4
  iterate 24 rw [List.drop_succ_cons]
  rw [List.drop_zero]
  iterate 6 rw [List.take_succ_cons]
  rw [List.take_zero]
  entry_read
  rfl

theorem sin_28 : StableHlo.after ((hostOps0_4.drop 24).take 6) W (Proc.tc.devRef main_v28) = Host.sin (F := Ideal) (s := S2048x32) (φ := .f32) (W (Proc.tc.devRef main_v15)) := by
  unfold hostOps0_4
  iterate 24 rw [List.drop_succ_cons]
  rw [List.drop_zero]
  iterate 6 rw [List.take_succ_cons]
  rw [List.take_zero]
  entry_read
  rfl

theorem sin_30 : StableHlo.after ((hostOps0_4.drop 24).take 6) W (Proc.tc.devRef main_v30) = Host.negf (F := Ideal) (s := S2048x32) (φ := .f32) (Host.sin (F := Ideal) (s := S2048x32) (φ := .f32) (W (Proc.tc.devRef main_v20))) := by
  unfold hostOps0_4
  iterate 24 rw [List.drop_succ_cons]
  rw [List.drop_zero]
  iterate 6 rw [List.take_succ_cons]
  rw [List.take_zero]
  entry_read
  rfl

theorem sin_31 : StableHlo.after ((hostOps0_4.drop 24).take 6) W (Proc.tc.devRef main_v31) = Host.sin (F := Ideal) (s := S2048x32) (φ := .f32) (W (Proc.tc.devRef main_v20)) := by
  unfold hostOps0_4
  iterate 24 rw [List.drop_succ_cons]
  rw [List.drop_zero]
  iterate 6 rw [List.take_succ_cons]
  rw [List.take_zero]
  entry_read
  rfl

theorem past_15 : StableHlo.after ((hostOps0_4.drop 19).take 5) W (Proc.tc.devRef main_v15) = W (Proc.tc.devRef main_v15) := by
  unfold hostOps0_4
  iterate 19 rw [List.drop_succ_cons]
  rw [List.drop_zero]
  iterate 5 rw [List.take_succ_cons]
  rw [List.take_zero]
  iterate 5 rw [StableHlo.after_cons]
  rw [StableHlo.after_nil]
  refine (StableHlo.nary_result_ne _ _ _ _ _ _ (by decide)).trans ?_
  refine (StableHlo.unary_result_ne _ _ _ _ _ _ (by decide)).trans ?_
  refine (StableHlo.unary_result_ne _ _ _ _ _ _ (by decide)).trans ?_
  refine (StableHlo.unary_result_ne _ _ _ _ _ _ (by decide)).trans ?_
  exact StableHlo.unary_result_ne _ _ _ _ _ _ (by decide)

theorem past_20 : StableHlo.after ((hostOps0_4.drop 19).take 5) W (Proc.tc.devRef main_v20) = W (Proc.tc.devRef main_v20) := by
  unfold hostOps0_4
  iterate 19 rw [List.drop_succ_cons]
  rw [List.drop_zero]
  iterate 5 rw [List.take_succ_cons]
  rw [List.take_zero]
  iterate 5 rw [StableHlo.after_cons]
  rw [StableHlo.after_nil]
  refine (StableHlo.nary_result_ne _ _ _ _ _ _ (by decide)).trans ?_
  refine (StableHlo.unary_result_ne _ _ _ _ _ _ (by decide)).trans ?_
  refine (StableHlo.unary_result_ne _ _ _ _ _ _ (by decide)).trans ?_
  refine (StableHlo.unary_result_ne _ _ _ _ _ _ (by decide)).trans ?_
  exact StableHlo.unary_result_ne _ _ _ _ _ _ (by decide)

/-- A row of four blocks of 32 lanes, read at a lane. -/
theorem quarters (x0 x1 x2 x3 : S2048x32.Idx → EReal) (R : Fin 2048) (j : Fin 128) :
    concatenate S2048x128 1 [⟨S2048x32, x0⟩, ⟨S2048x32, x1⟩, ⟨S2048x32, x2⟩, ⟨S2048x32, x3⟩] concatenates_S2048x32_S2048x32_S2048x32_S2048x32_S2048x128_d1 (ix2 R j)
      = if j.val / 64 = 0 then (if j.val / 32 % 2 = 0 then x0 (ix2 R ⟨j.val % 32, half_lt j⟩) else x1 (ix2 R ⟨j.val % 32, half_lt j⟩))
        else (if j.val / 32 % 2 = 0 then x2 (ix2 R ⟨j.val % 32, half_lt j⟩) else x3 (ix2 R ⟨j.val % 32, half_lt j⟩)) := by
  pointwise
  have hj := j.isLt
  have key : ∀ (x : S2048x32.Idx → EReal) (n : ℕ) (hn : n < 32), n = j.val % 32 → x (ix2 R ⟨n, hn⟩) = x (ix2 R ⟨j.val % 32, half_lt j⟩) := fun x n hn e => by
    subst e; rfl
  by_cases a1 : j.val < 32
  · exact (dif_pos a1).trans ((key _ _ _ (by omega)).trans ((if_pos (by omega)).trans (if_pos (by omega))).symm)
  refine (dif_neg a1).trans ?_
  by_cases a2 : j.val - 32 < 32
  · exact (dif_pos a2).trans ((key _ _ _ (by omega)).trans ((if_pos (by omega)).trans (if_neg (by omega))).symm)
  refine (dif_neg a2).trans ?_
  by_cases a3 : j.val - 32 - 32 < 32
  · exact (dif_pos a3).trans ((key _ _ _ (by omega)).trans ((if_neg (by omega)).trans (if_pos (by omega))).symm)
  · exact (dif_neg a3).trans ((key _ _ _ (by omega)).trans ((if_neg (by omega)).trans (if_neg (by omega))).symm)

variable (m : (ℓ : Loc nD τ sig) → Buf (Elt Ideal) ℓ) (c : Dev nD)

theorem read_cos (R) (j : Fin 128) : V m c main_v25 (ix2 R j) = (cosT R j : EReal) := by
  have h1 := mid_row m c R
  have h2 := mid_col m c R
  rw [V_mid, split (mid m c) hostOps0_4 19 4, cos_tail, cos_21, cos_22, cos_23, cos_24]
  generalize mid m c (Proc.tc.devRef main_v15) = y2 at h1 ⊢
  generalize mid m c (Proc.tc.devRef main_v20) = y3 at h2 ⊢
  refine (quarters _ _ _ _ R j).trans ?_
  have hj := j.isLt
  unfold cosT
  by_cases ha : j.val / 64 = 0
  · have e : (⟨j.val / 64, axis_lt j⟩ : Fin 2) = 0 := Fin.ext ha
    rw [if_pos ha, e]
    rw [ite_self]
    show (Ideal.cos (y2 _) : EReal) = _
    rw [h1]
    rfl
  · have e : (⟨j.val / 64, axis_lt j⟩ : Fin 2) = 1 := Fin.ext (by show j.val / 64 = 1; omega)
    rw [if_neg ha, e]
    rw [ite_self]
    show (Ideal.cos (y3 _) : EReal) = _
    rw [h2]
    rfl

theorem read_sin (R) (j : Fin 128) : V m c main_v32 (ix2 R j) = (sinT R j : EReal) := by
  have h1 := mid_row m c R
  have h2 := mid_col m c R
  rw [V_mid, split (mid m c) hostOps0_4 19 5, split _ hostOps0_4 24 6, sin_tail, sin_27, sin_28, sin_30, sin_31, past_15, past_20]
  generalize mid m c (Proc.tc.devRef main_v15) = y2 at h1 ⊢
  generalize mid m c (Proc.tc.devRef main_v20) = y3 at h2 ⊢
  refine (quarters _ _ _ _ R j).trans ?_
  have hj := j.isLt
  unfold sinT
  by_cases ha : j.val / 64 = 0
  · have e : (⟨j.val / 64, axis_lt j⟩ : Fin 2) = 0 := Fin.ext ha
    rw [if_pos ha, e]
    by_cases hb : j.val / 32 % 2 = 0
    · rw [if_pos hb, if_neg (by omega)]
      show -(Ideal.sin (y2 _) : EReal) = _
      rw [h1, EReal.coe_neg]
      rfl
    · rw [if_neg hb, if_pos (by omega)]
      show (Ideal.sin (y2 _) : EReal) = _
      rw [h1]
      rfl
  · have e : (⟨j.val / 64, axis_lt j⟩ : Fin 2) = 1 := Fin.ext (by show j.val / 64 = 1; omega)
    rw [if_neg ha, e]
    by_cases hb : j.val / 32 % 2 = 0
    · rw [if_pos hb, if_neg (by omega)]
      show -(Ideal.sin (y3 _) : EReal) = _
      rw [h2, EReal.coe_neg]
      rfl
    · rw [if_neg hb, if_pos (by omega)]
      show (Ideal.sin (y3 _) : EReal) = _
      rw [h2]
      rfl

end Cert.Qkv

end
-- ==== Proof.QkvVal.lean ====
/-
  What the queries' and keys' norm and rotary gradient kernel accumulates and copies, over the reals.
-/
module

public import proofs.«01_k».proof.Proof.QkvRefQ
public import proofs.«01_k».proof.Proof.QkvRefK
public import proofs.«01_k».proof.Proof.QkvBlock
public import proofs.«01_k».proof.Proof.QkvTrig
public import proofs.«01_k».proof.Proof.FiniteArgs
public import proofs.«01_k».proof.Pre_finite_qkv
public import proofs.«01_k».proof.Defs

@[expose] public section

set_option maxRecDepth 16384

noncomputable section

namespace Cert.Qkv

open Idealize.ShloMosaic Idealize.ShloMosaic.TcCoe Idealize.SL.Sem
open Cert.KernelQkvIdeal Cert.KernelQkvIdeal.Gen Cert.KernelQkvIdeal.Hand Cert.Maths

instance facts_finite_qkv : Cert.Pre_finite_qkv.Facts := ⟨by decide, by decide, by decide, by decide, by decide⟩

variable (m : (ℓ : Loc nD τ sig) → Buf (Elt Ideal) ℓ) (c : Dev nD)

/-- The real arguments behind the arrays. -/
abbrev rdq (R : Fin 2048) (h : Fin 8) (j : Fin 128) : ℝ := EReal.toReal (m ((c : Thread nD τ).loc main_arg0) (ix4 0 R h j))
abbrev rdk (R : Fin 2048) (h : Fin 2) (j : Fin 128) : ℝ := EReal.toReal (m ((c : Thread nD τ).loc main_arg1) (ix4 0 R h j))
abbrev rp (R : Fin 2048) (k : Fin 12800) : ℝ := EReal.toReal (m ((c : Thread nD τ).loc main_arg3) (ix3 0 R k))
abbrev rgq (j : Fin 128) : ℝ := EReal.toReal (m ((c : Thread nD τ).loc main_arg4) (ix1 j))
abbrev rgk (j : Fin 128) : ℝ := EReal.toReal (m ((c : Thread nD τ).loc main_arg5) (ix1 j))

/-- Every entry of the arguments but the values' cotangent and the projection's gradient is a real. -/
structure Finite : Prop where
  dq : ∀ R h j, m ((c : Thread nD τ).loc main_arg0) (ix4 0 R h j) = (rdq m c R h j : EReal)
  dk : ∀ R h j, m ((c : Thread nD τ).loc main_arg1) (ix4 0 R h j) = (rdk m c R h j : EReal)
  p : ∀ R k, m ((c : Thread nD τ).loc main_arg3) (ix3 0 R k) = (rp m c R k : EReal)
  gq : ∀ j, m ((c : Thread nD τ).loc main_arg4) (ix1 j) = (rgq m c j : EReal)
  gk : ∀ j, m ((c : Thread nD τ).loc main_arg5) (ix1 j) = (rgk m c j : EReal)

theorem finite_of_pre (m : (ℓ : Loc nD τ sig) → Buf (Elt Ideal) ℓ) (hpre : Cert.Pre_KernelQkvIdeal_finite_qkv m) (c : Dev nD) : Finite m c where
  dq R h j := real_of_mask (congrFun (hpre c).1 (ix4 0 R h j))
  dk R h j := real_of_mask (congrFun (hpre c).2.1 (ix4 0 R h j))
  p R k := real_of_mask (congrFun (hpre c).2.2.1 (ix3 0 R k))
  gq j := real_of_mask (congrFun (hpre c).2.2.2.1 (ix1 j))
  gk j := real_of_mask (congrFun (hpre c).2.2.2.2 (ix1 j))

theorem idx : ∀ t : Fin cfg0.N, win0_0.index t = ![t.val, 0] ∧ win0_1.index t = ![t.val, 0] ∧ win0_2.index t = ![t.val, 0]
    ∧ win0_3.index t = ![t.val, 4] ∧ win0_4.index t = ![t.val, 20] ∧ win0_5.index t = ![0, 0] ∧ win0_6.index t = ![0, 0]
    ∧ win0_7.index t = ![t.val, 0] ∧ win0_8.index t = ![t.val, 0] ∧ win0_9.index t = ![0, 0] ∧ win0_10.index t = ![0, 0] ∧ t.val < 4 :=
  (by decide +kernel : ∀ t : Fin grid0.N, _)

theorem lt4 (t : Fin cfg0.N) : t.val < 4 := Nat.lt_of_lt_of_eq t.isLt N_0

/-- The row of the arrays at row `r` of point `t`'s blocks. -/
def row (t : Fin cfg0.N) (r : Fin 512) : Fin 2048 := ⟨t.val * 512 + r.val, by have := lt4 t; omega⟩

variable {m c} (f : Finite m c)

section Blocks
include f
theorem block_dq (t : Fin cfg0.N) (r) (h : Fin 8) (j : Fin 128) : iblk m c 0 t (ix2 r ⟨128 * h.val + j.val, q_lt h j⟩) = (rdq m c (row t r) h j : EReal) := by
  rw [← f.dq, ← read_dq m c _ h j (q_lt h j)]
  blk_ext [iblk, row, idx t]
theorem block_dk (t : Fin cfg0.N) (r) (h : Fin 2) (j : Fin 128) : iblk m c 1 t (ix2 r ⟨128 * h.val + j.val, k_lt h j⟩) = (rdk m c (row t r) h j : EReal) := by
  rw [← f.dk, ← read_dk m c _ h j (k_lt h j)]
  blk_ext [iblk, row, idx t]
theorem block_q (t : Fin cfg0.N) (r) (h : Fin 8) (j : Fin 128) : X0_3 m c t (ix2 r ⟨128 * h.val + j.val, q_lt h j⟩) = (qc_q (rp m c) (row t r) h j : EReal) := by
  unfold qc_q
  rw [← f.p, ← read_proj m c]
  unfold X0_3 Pipeline.Window.fill
  rw [dif_pos (moved0_3 t _)]
  blk_ext [iblk, row, idx t]
theorem block_k (t : Fin cfg0.N) (r) (h : Fin 2) (j : Fin 128) : iblk m c 4 t (ix2 r ⟨128 * h.val + j.val, k_lt h j⟩) = (qc_k (rp m c) (row t r) h j : EReal) := by
  unfold qc_k
  rw [← f.p, ← read_proj m c]
  blk_ext [iblk, row, idx t]
theorem block_gq (t : Fin cfg0.N) (j) : iblk m c 5 t (ix2 0 j) = (rgq m c j : EReal) := by
  rw [← f.gq, ← read_qn m c]
  blk_ext [iblk, idx t]
theorem block_gk (t : Fin cfg0.N) (j) : iblk m c 6 t (ix2 0 j) = (rgk m c j : EReal) := by
  rw [← f.gk, ← read_kn m c]
  blk_ext [iblk, idx t]
omit f
theorem block_cos (t : Fin cfg0.N) (r j) : iblk m c 7 t (ix2 r j) = (cosT (row t r) j : EReal) := by
  rw [← read_cos m c]
  blk_ext [iblk, row, idx t]
theorem block_sin (t : Fin cfg0.N) (r j) : iblk m c 8 t (ix2 r j) = (sinT (row t r) j : EReal) := by
  rw [← read_sin m c]
  blk_ext [iblk, row, idx t]
theorem block_dv (t : Fin cfg0.N) (r) (h : Fin 2) (j : Fin 128) : iblk m c 2 t (ix2 r ⟨128 * h.val + j.val, k_lt h j⟩) = m ((c : Thread nD τ).loc main_arg2) (ix4 0 (row t r) h j) := by
  rw [← read_dv m c _ h j (k_lt h j)]
  blk_ext [iblk, row, idx t]
end Blocks

/-! ## The gains -/

/-- Four blocks of 512 rows are the 2048 rows. -/
theorem sum_rows (g : Fin 2048 → ℝ) : (((((0 + ∑ r, g (row (pt 0) r)) + ∑ r, g (row (pt 1) r)) + ∑ r, g (row (pt 2) r)) + ∑ r, g (row (pt 3) r) : ℝ)) = ∑ R, g R := by
  rw [← Fin.sum_mul_add_congr (S := 4) (n := 512) (F := fun b r => g ⟨b.val * 512 + r.val, by omega⟩) (fun _ _ _ => rfl) rfl, Fin.sum_univ_four, zero_add]
  rfl

/-- A row that adds one block's sum at each of the four steps ends as the sum over all the rows. -/
theorem fold_rows (a : ℕ → EReal) (g : Fin 2048 → ℝ) (h0 : a 0 = 0) (hs : ∀ k, a (k + 1) = a k + ((∑ r, g (row (pt k) r) : ℝ) : EReal)) :
    a 4 = ((∑ R, g R : ℝ) : EReal) := by
  rw [← sum_rows, hs, hs, hs, hs, h0, ← EReal.coe_zero]
  simp only [← EReal.coe_add]

section Gains
include f
theorem dq_at (k : ℕ) (j) : dqN m c (k + 1) (ix2 0 j) = dqN m c k (ix2 0 j)
    + ((∑ r, (fun R => ∑ h, Norm.xn 128 (qc_q (rp m c) R h) j * rot R (rdq m c R h) j) (row (pt k) r) : ℝ) : EReal) :=
  dqnAt_at (block_dq f (pt k)) (block_q f (pt k)) (block_cos (pt k)) (block_sin (pt k)) _ j

theorem dk_at (k : ℕ) (j) : dkN m c (k + 1) (ix2 0 j) = dkN m c k (ix2 0 j)
    + ((∑ r, (fun R => ∑ h, Norm.xn 128 (qc_k (rp m c) R h) j * rot R (rdk m c R h) j) (row (pt k) r) : ℝ) : EReal) :=
  dknAt_at (block_dk f (pt k)) (block_k f (pt k)) (block_cos (pt k)) (block_sin (pt k)) _ j

theorem final_dqn : (dats m 0 c).arrAt 9 cfg0.N = Cert.ReferenceQkvIdeal.Read.val_main_v196 (F := Ideal) (m ((c : Thread nD τ).loc main_arg0)) (m ((c : Thread nD τ).loc main_arg3)) := by
  refine (dats m 0 c).arrAt_eq_of_after_last 9 t0_3 (by decide +kernel) _ fun j => ?_
  blk_simp
  rw [after_9]
  idx_vars j
  obtain rfl : j0 = 0 := Subsingleton.elim _ _
  exact (fold_rows (fun k => dqN m c k (ix2 0 j1)) _ (by change k0_pay105 (F := Ideal) (ix2 0 j1) = 0; pointwise [k0_pay105]) fun k => dq_at f k j1).trans
    (ref_gain_q f.dq f.p _).symm

theorem final_dkn : (dats m 0 c).arrAt 10 cfg0.N = Cert.ReferenceQkvIdeal.Read.val_main_v197 (F := Ideal) (m ((c : Thread nD τ).loc main_arg1)) (m ((c : Thread nD τ).loc main_arg3)) := by
  refine (dats m 0 c).arrAt_eq_of_after_last 10 t0_3 (by decide +kernel) _ fun j => ?_
  blk_simp
  rw [after_10]
  idx_vars j
  obtain rfl : j0 = 0 := Subsingleton.elim _ _
  exact (fold_rows (fun k => dkN m c k (ix2 0 j1)) _ (by change k0_pay133 (F := Ideal) (ix2 0 j1) = 0; pointwise [k0_pay133]) fun k => dk_at f k j1).trans
    (ref_gain_k f.dk f.p _).symm
end Gains

/-! ## The packed columns -/

theorem pack_v (t : Fin cfg0.N) (r : Fin 512) (h : Fin 2) (j : Fin 128) (hb : 1280 + (128 * h.val + j.val) < 1536) :
    packT m c t (ix2 r ⟨1280 + (128 * h.val + j.val), hb⟩) = m ((c : Thread nD τ).loc main_arg2) (ix4 0 (row t r) h j) := by
  rw [← block_dv (m := m) (c := c) t r h j]
  unfold packT stashAt laid
  have e : 1280 ≤ 1280 + (128 * h.val + j.val) := Nat.le_add_right _ _
  refine (dif_pos e).trans ?_
  generalize iblk m c 2 t = y
  show k0_pay2 (F := Ideal) y (ValueIdx.ix3 (0 : Fin 1) r ⟨1280 + (128 * h.val + j.val) - 1280, _⟩) = _
  unfold k0_pay2
  pointwise

/-- A stash's block of 128 columns. -/
theorem laid_at (p : ℕ → Vec Ideal S1x512x128 .bf16) (q : Vec Ideal S1x512x256 .bf16) (r : Fin 512) (u : ℕ) (hu : u < 10) (j : Fin 128) (hb : 128 * u + j.val < 1536) :
    laid (F := Ideal) p q (ix2 r ⟨128 * u + j.val, hb⟩) = p u (ValueIdx.ix3 (0 : Fin 1) r j) := by
  unfold laid
  have e : ¬ 1280 ≤ 128 * u + j.val := by omega
  refine (dif_neg e).trans ?_
  have e1 : (128 * u + j.val) / 128 = u := by omega
  have e2 : (128 * u + j.val) % 128 = j.val := by omega
  show p ((128 * u + j.val) / 128) (ValueIdx.ix3 (0 : Fin 1) r ⟨(128 * u + j.val) % 128, _⟩) = _
  rw [e1]
  exact congrArg (fun k => p u (ValueIdx.ix3 (0 : Fin 1) r k)) (Fin.ext e2)

section Packs
include f
theorem pack_q (t : Fin cfg0.N) (r : Fin 512) (h : Fin 8) (j : Fin 128) (hb : 128 * h.val + j.val < 1536) :
    packT m c t (ix2 r ⟨128 * h.val + j.val, hb⟩)
      = (Norm.dx 128 (qc_q (rp m c) (row t r) h) (fun i => rot (row t r) (rdq m c (row t r) h) i * rgq m c i) j : EReal) := by
  unfold packT stashAt
  refine (laid_at _ _ r h.val (by omega) j hb).trans ?_
  unfold packs
  rw [if_pos h.isLt, show (Ring.bk 8 h.val : Fin 8) = h from Fin.ext (Nat.mod_eq_of_lt h.isLt)]
  exact qpack_at (block_dq f t) (block_q f t) (block_cos t) (block_sin t) (block_gq f t) h r j

theorem pack_k (t : Fin cfg0.N) (r : Fin 512) (h : Fin 2) (j : Fin 128) (hb : 128 * (8 + h.val) + j.val < 1536) :
    packT m c t (ix2 r ⟨128 * (8 + h.val) + j.val, hb⟩)
      = (Norm.dx 128 (qc_k (rp m c) (row t r) h) (fun i => rot (row t r) (rdk m c (row t r) h) i * rgk m c i) j : EReal) := by
  unfold packT stashAt
  refine (laid_at _ _ r (8 + h.val) (by omega) j hb).trans ?_
  unfold packs
  rw [if_neg (by omega), show (Ring.bk 2 (8 + h.val - 8) : Fin 2) = h from Fin.ext (by show (8 + h.val - 8) % 2 = h.val; omega)]
  exact kpack_at (block_dk f t) (block_k f t) (block_cos t) (block_sin t) (block_gk f t) h r j
end Packs

/-! ## The reference's packed columns -/

section Ref
open Cert.ReferenceQkvIdeal.Read

variable (x0 : (⟨S1x2048x8x128, .f32⟩ : BufTy).Contents (Elt Ideal)) (x1 x2 : (⟨S1x2048x2x128, .f32⟩ : BufTy).Contents (Elt Ideal)) (x3 : (⟨S1x2048x12800, .f32⟩ : BufTy).Contents (Elt Ideal))
  (x4 x5 : (⟨S128, .f32⟩ : BufTy).Contents (Elt Ideal)) (x6 : (⟨S2048x12800, .bf16⟩ : BufTy).Contents (Elt Ideal))

theorem flat3_q (x : S1x2048x8x128.Idx → EReal) (hc) (R : Fin 2048) (h : Fin 8) (j : Fin 128) (hb : 128 * h.val + j.val < 1024) :
    shapeCast Cert.ReferenceQkvIdeal.S1x2048x1024 x hc (ix3 0 R ⟨128 * h.val + j.val, hb⟩) = x (ix4 0 R h j) := by
  refine shapeCast_apply _ _ _ _ ?_
  rw [Shape.rowMajor_val_four, Shape.rowMajor_val_three]
  show ((0 * 2048 + R.val) * 8 + h.val) * 128 + j.val = (0 * 2048 + R.val) * 1024 + (128 * h.val + j.val)
  omega

theorem flat3_k (x : S1x2048x2x128.Idx → EReal) (hc) (R : Fin 2048) (h : Fin 2) (j : Fin 128) (hb : 128 * h.val + j.val < 256) :
    shapeCast Cert.ReferenceQkvIdeal.S1x2048x256 x hc (ix3 0 R ⟨128 * h.val + j.val, hb⟩) = x (ix4 0 R h j) := by
  refine shapeCast_apply _ _ _ _ ?_
  rw [Shape.rowMajor_val_four, Shape.rowMajor_val_three]
  show ((0 * 2048 + R.val) * 2 + h.val) * 128 + j.val = (0 * 2048 + R.val) * 256 + (128 * h.val + j.val)
  omega

/-- The gradient of the packed columns, at a column counted from the first query's. -/
theorem ref_pack (R : Fin 2048) (k : Fin 1536) : val_main_v195 (F := Ideal) x0 x1 x2 x3 x4 x5 (ix2 R k)
    = if h : k.val < 1024 then val_main_v192 (F := Ideal) x0 x3 x4 (ix3 0 R ⟨k.val, h⟩)
      else if h' : k.val - 1024 < 256 then val_main_v148 (F := Ideal) x1 x3 x5 (ix3 0 R ⟨k.val - 1024, h'⟩)
      else val_main_v104 (F := Ideal) x2 (ix3 0 R ⟨k.val - 1024 - 256, by omega⟩) := by
  refine (val_main_v195_apply x0 x1 x2 x3 x4 x5 (ix2 R k)).trans ((val_main_v194_apply x0 x1 x2 x3 x4 x5 (ix2 R k)).trans ?_)
  unfold val_main_v193
  generalize val_main_v192 (F := Ideal) x0 x3 x4 = y1
  generalize val_main_v148 (F := Ideal) x1 x3 x5 = y2
  generalize val_main_v104 (F := Ideal) x2 = y3
  rw [show idx_main_v194 (ix2 R k) = ix3 0 R k from by
    funext a
    match a with
    | ⟨0, _⟩ => rfl
    | ⟨1, _⟩ => exact Fin.ext (by show (R.val * 1536 + k.val) / 1536 % 2048 = R.val; omega)
    | ⟨2, _⟩ => exact Fin.ext (by show (R.val * 1536 + k.val) % 1536 = k.val; omega)]
  pointwise

theorem ref_in (R : Fin 2048) (k : Fin 1536) (hb : 4096 + k.val < 12800) : val_main_v200 (F := Ideal) x0 x1 x2 x3 x4 x5 x6 (ix2 R ⟨4096 + k.val, hb⟩)
    = val_main_v195 (F := Ideal) x0 x1 x2 x3 x4 x5 (ix2 R k) := by
  unfold val_main_v200
  generalize val_main_v195 (F := Ideal) x0 x1 x2 x3 x4 x5 = y
  generalize val_main_v198 (F := Ideal) x6 = y1
  generalize val_main_v199 (F := Ideal) x6 = y2
  pointwise

theorem ref_out (R : Fin 2048) (k : Fin 12800) (hk : ¬ (4096 ≤ k.val ∧ k.val < 5632)) : val_main_v200 (F := Ideal) x0 x1 x2 x3 x4 x5 x6 (ix2 R k) = x6 (ix2 R k) := by
  unfold val_main_v200 val_main_v198 val_main_v199
  generalize val_main_v195 (F := Ideal) x0 x1 x2 x3 x4 x5 = y
  pointwise
  split
  · rfl
  rename_i h1
  have h2 : ¬ k.val - 4096 < 1536 := by omega
  refine (dif_neg h2).trans (congrArg (fun l => x6 (ix2 R l)) (Fin.ext ?_))
  show 5632 + (k.val - 4096 - 1536) = k.val
  omega

/-- The three parts of the packed columns. -/
theorem ref_pack_q (R : Fin 2048) (h : Fin 8) (j : Fin 128) (hb : 128 * h.val + j.val < 1536) :
    val_main_v195 (F := Ideal) x0 x1 x2 x3 x4 x5 (ix2 R ⟨128 * h.val + j.val, hb⟩) = val_main_v191 (F := Ideal) x0 x3 x4 (ix4 0 R h j) := by
  refine (ref_pack x0 x1 x2 x3 x4 x5 R _).trans ((dif_pos (q_lt h j)).trans ?_)
  unfold val_main_v192
  exact flat3_q _ _ R h j (q_lt h j)

theorem ref_pack_k (R : Fin 2048) (h : Fin 2) (j : Fin 128) (hb : 128 * (8 + h.val) + j.val < 1536) :
    val_main_v195 (F := Ideal) x0 x1 x2 x3 x4 x5 (ix2 R ⟨128 * (8 + h.val) + j.val, hb⟩) = val_main_v147 (F := Ideal) x1 x3 x5 (ix4 0 R h j) := by
  have e1 : ¬ 128 * (8 + h.val) + j.val < 1024 := by omega
  have e2 : 128 * (8 + h.val) + j.val - 1024 < 256 := by omega
  refine (ref_pack x0 x1 x2 x3 x4 x5 R _).trans ((dif_neg e1).trans ((dif_pos e2).trans ?_))
  unfold val_main_v148
  exact (congrArg (fun l => shapeCast Cert.ReferenceQkvIdeal.S1x2048x256 _ _ (ix3 0 R l)) (Fin.ext (by show 128 * (8 + h.val) + j.val - 1024 = 128 * h.val + j.val; omega))).trans (flat3_k _ _ R h j (k_lt h j))

theorem ref_pack_v (R : Fin 2048) (h : Fin 2) (j : Fin 128) (hb : 1280 + (128 * h.val + j.val) < 1536) :
    val_main_v195 (F := Ideal) x0 x1 x2 x3 x4 x5 (ix2 R ⟨1280 + (128 * h.val + j.val), hb⟩) = x2 (ix4 0 R h j) := by
  have e1 : ¬ 1280 + (128 * h.val + j.val) < 1024 := by omega
  have e2 : ¬ 1280 + (128 * h.val + j.val) - 1024 < 256 := by omega
  refine (ref_pack x0 x1 x2 x3 x4 x5 R _).trans ((dif_neg e1).trans ((dif_neg e2).trans ?_))
  unfold val_main_v104
  exact (congrArg (fun l => shapeCast Cert.ReferenceQkvIdeal.S1x2048x256 _ _ (ix3 0 R l)) (Fin.ext (by show 1280 + (128 * h.val + j.val) - 1024 - 256 = 128 * h.val + j.val; omega))).trans (flat3_k _ _ R h j (k_lt h j))
end Ref

theorem q_in (h : Fin 8) (j : Fin 128) : 128 * h.val + j.val < 1536 := by omega
theorem k_in (h : Fin 2) (j : Fin 128) : 128 * (8 + h.val) + j.val < 1536 := by omega
theorem v_in (h : Fin 2) (j : Fin 128) : 1280 + (128 * h.val + j.val) < 1536 := by omega

/-- A block's packed columns are the reference's. -/
theorem pack_eq (f : Finite m c) (t : Fin cfg0.N) (r : Fin 512) (k : Fin 1536) : packT m c t (ix2 r k)
    = Cert.ReferenceQkvIdeal.Read.val_main_v195 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (ix2 (row t r) k) := by
  by_cases h1 : k.val < 1024
  · obtain ⟨h, j, rfl⟩ : ∃ (h : Fin 8) (j : Fin 128), k = ⟨128 * h.val + j.val, q_in h j⟩ :=
      ⟨⟨k.val / 128, by omega⟩, ⟨k.val % 128, by omega⟩, Fin.ext (by show k.val = 128 * (k.val / 128) + k.val % 128; omega)⟩
    exact (pack_q f t r h j _).trans ((ref_pack_q _ _ _ _ _ _ _ h j _).trans (ref_dx_q f.dq f.p f.gq _ h j)).symm
  by_cases h2 : k.val < 1280
  · obtain ⟨h, j, rfl⟩ : ∃ (h : Fin 2) (j : Fin 128), k = ⟨128 * (8 + h.val) + j.val, k_in h j⟩ :=
      ⟨⟨k.val / 128 - 8, by omega⟩, ⟨k.val % 128, by omega⟩, Fin.ext (by show k.val = 128 * (8 + (k.val / 128 - 8)) + k.val % 128; omega)⟩
    exact (pack_k f t r h j _).trans ((ref_pack_k _ _ _ _ _ _ _ h j _).trans (ref_dx_k f.dk f.p f.gk _ h j)).symm
  · obtain ⟨h, j, rfl⟩ : ∃ (h : Fin 2) (j : Fin 128), k = ⟨1280 + (128 * h.val + j.val), v_in h j⟩ :=
      ⟨⟨(k.val - 1280) / 128, by omega⟩, ⟨k.val % 128, by omega⟩, Fin.ext (by show k.val = 1280 + (128 * ((k.val - 1280) / 128) + k.val % 128); omega)⟩
    exact (pack_v t r h j _).trans (ref_pack_v _ _ _ _ _ _ _ h j _).symm

end Cert.Qkv

end
-- ==== Proof.Qkv.lean ====
/-
  The backward kernel of the queries' and keys' norm and rotary embedding: its frames, its results as the reference's, and the claims.
-/
module

public import proofs.«01_k».proof.Proof.QkvVal
public import proofs.«01_k».proof.Proof.Gen.KernelQkv.Launch
public import proofs.«01_k».proof.Proof.Gen.ReferenceQkvIdeal.Run
public import Idealize.ShloMosaic.Lib.Claim

@[expose] public section

set_option maxRecDepth 16384

noncomputable section

namespace Cert.Qkv

open Idealize.ShloMosaic Idealize.ShloMosaic.TcCoe Idealize.SL.Sem
open Cert.KernelQkvIdeal Cert.KernelQkvIdeal.Gen Cert.KernelQkvIdeal.Hand Cert.Maths

section Copies
variable (m : (ℓ : Loc nD τ sig) → Buf (Elt Ideal) ℓ) (c : Dev nD)

/-! ## The projection's gradient, after the copies -/

theorem col_lt (i : Fin 1536) : 4096 + i.val < 12800 := by omega
theorem row_lt (b : Fin 4) (r : Fin 512) : b.val * 512 + r.val < 2048 := by omega

/-- The copy of step `b` lands on the rows of its block, in the packed columns. -/
theorem piece_at (b : Fin 4) (r : Fin 512) (i : Fin 1536) :
    (piece b).view.emb (ix2 r i) = ix2 (⟨b.val * 512 + r.val, row_lt b r⟩ : Fin 2048) (⟨4096 + i.val, col_lt i⟩ : Fin 12800) := by
  funext a
  match a with
  | ⟨0, _⟩ => exact Fin.ext (by change 512 * b.val + 1 * r.val = b.val * 512 + r.val; omega)
  | ⟨1, _⟩ => exact Fin.ext (by change 4096 + 1 * i.val = 4096 + i.val; omega)

theorem bk_same (b : Fin 4) : Ring.bk 4 b.val = b := Fin.ext (Nat.mod_eq_of_lt b.isLt)

/-- Once a step has copied its rows they stay. -/
theorem sent_in (n : ℕ) (hn : n ≤ 4) (b : Fin 4) (hb : b.val < n) (y) : sent m c n ((piece b).view.emb y) = packT m c (pt b.val) y := by
  induction n with
  | zero => exact absurd hb (by omega)
  | succ n ih =>
    change (piece (Ring.bk 4 n)).view.write (Elt Ideal) (sent m c n) (packT m c (pt n)) Finset.univ _ = _
    by_cases e : b.val = n
    · subst e
      rw [bk_same]
      exact congrFun (View.read_write_univ (v := (piece b).view) (sent m c b.val) (packT m c (pt b.val))) y
    · refine (View.write_of_not_mem _ _ _ fun hm => ?_).trans (ih (by omega) (by omega))
      have hne : (Ring.bk 4 n : Fin 4) ≠ b := fun he => e (by rw [← he]; exact (Nat.mod_eq_of_lt (by omega)))
      exact Finset.disjoint_left.mp (pieces_disjoint hne) hm (Finset.mem_map_of_mem _ (Finset.mem_univ y))

/-- What no copy reaches stays as it was. -/
theorem sent_out (n : ℕ) (i : S2048x12800.Idx) (hi : ∀ b, i ∉ pset b) : sent m c n i = m ((c : Thread nD τ).loc main_arg6) i := by
  induction n with
  | zero => exact congrFun (read_dproj m c) i
  | succ n ih => exact (View.write_of_not_mem _ _ _ (hi _)).trans ih

variable {m c} (f : Finite m c)
include f

theorem final_dproj : sent m c 4 = Cert.ReferenceQkvIdeal.Read.val_main_v200 (F := Ideal) (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) := by
  funext j
  idx_vars j
  by_cases hk : 4096 ≤ j1.val ∧ j1.val < 5632
  · obtain ⟨i, rfl⟩ : ∃ i : Fin 1536, j1 = (⟨4096 + i.val, col_lt i⟩ : Fin 12800) := ⟨⟨j1.val - 4096, by omega⟩, Fin.ext (by simp only; omega)⟩
    obtain ⟨b, r, rfl⟩ : ∃ (b : Fin 4) (r : Fin 512), j0 = (⟨b.val * 512 + r.val, row_lt b r⟩ : Fin 2048) :=
      ⟨⟨j0.val / 512, by omega⟩, ⟨j0.val % 512, by omega⟩, Fin.ext (by simp only; omega)⟩
    rw [← piece_at b r i]
    refine (sent_in m c 4 (le_refl _) b b.isLt _).trans ?_
    rw [piece_at b r i]
    have e : row (pt b.val) r = (⟨b.val * 512 + r.val, row_lt b r⟩ : Fin 2048) := Fin.ext (by
      change b.val % 4 * 512 + r.val = b.val * 512 + r.val; omega)
    refine (pack_eq f (pt b.val) r i).trans ?_
    rw [e]
    exact (ref_in _ _ _ _ _ _ _ _ i (col_lt i)).symm
  · refine (sent_out m c 4 _ fun b hm => ?_).trans (ref_out _ _ _ _ _ _ _ j0 j1 hk).symm
    obtain ⟨y, -, hy⟩ := Finset.mem_map.mp hm
    obtain ⟨y0, y1, rfl⟩ : ∃ (y0 : Fin 512) (y1 : Fin 1536), y = ix2 y0 y1 := ⟨y 0, y 1, by funext a; match a with | ⟨0, _⟩ => rfl | ⟨1, _⟩ => rfl⟩
    replace hy := (piece_at b y0 y1).symm.trans hy
    have e : 4096 + y1.val = j1.val := congrArg (fun i : S2048x12800.Idx => (i 1 : Nat)) hy
    omega

end Copies

/-! ## The claims -/

theorem frame_ideal : Cert.quiescent_KernelQkvIdeal := fun m ρ _ =>
  (θ_run Cert.KernelQkvIdeal.defs _ _).mono (fun _ h => ⟨fun c => by
    obtain ⟨h0, h1, h2, h3, h4, h5, h6, -⟩ := h.1 c
    exact ⟨h0, h1, h2, h3, h4, h5, h6⟩, h.2⟩) (run (F := Ideal) m ρ)

/-- The frame at the bit-exact floats, in the names of the idealized program. -/
def QuietBits : Prop :=
  ∀ (m : (ℓ : Loc Cert.KernelQkvIdeal.nD Cert.KernelQkvIdeal.τ Cert.KernelQkvIdeal.sig) → Buf (Elt Bits) ℓ) (g : Dev Cert.KernelQkvIdeal.nD → PrngReg), True →
    θ_run (Cert.KernelQkvIdeal.defs (F := Bits)) (onTc (τ := Cert.KernelQkvIdeal.τ) (Cert.KernelQkvIdeal.main (F := Bits))) ⟨m, fun _ => 0, g⟩ (fun r => (∀ c : Dev Cert.KernelQkvIdeal.nD,
      r.2.mem ((c.tc : Thread Cert.KernelQkvIdeal.nD Cert.KernelQkvIdeal.τ).loc Cert.KernelQkvIdeal.main_arg0) = m ((c.tc : Thread Cert.KernelQkvIdeal.nD Cert.KernelQkvIdeal.τ).loc Cert.KernelQkvIdeal.main_arg0)
      ∧ r.2.mem ((c.tc : Thread Cert.KernelQkvIdeal.nD Cert.KernelQkvIdeal.τ).loc Cert.KernelQkvIdeal.main_arg1) = m ((c.tc : Thread Cert.KernelQkvIdeal.nD Cert.KernelQkvIdeal.τ).loc Cert.KernelQkvIdeal.main_arg1)
      ∧ r.2.mem ((c.tc : Thread Cert.KernelQkvIdeal.nD Cert.KernelQkvIdeal.τ).loc Cert.KernelQkvIdeal.main_arg2) = m ((c.tc : Thread Cert.KernelQkvIdeal.nD Cert.KernelQkvIdeal.τ).loc Cert.KernelQkvIdeal.main_arg2)
      ∧ r.2.mem ((c.tc : Thread Cert.KernelQkvIdeal.nD Cert.KernelQkvIdeal.τ).loc Cert.KernelQkvIdeal.main_arg3) = m ((c.tc : Thread Cert.KernelQkvIdeal.nD Cert.KernelQkvIdeal.τ).loc Cert.KernelQkvIdeal.main_arg3)
      ∧ r.2.mem ((c.tc : Thread Cert.KernelQkvIdeal.nD Cert.KernelQkvIdeal.τ).loc Cert.KernelQkvIdeal.main_arg4) = m ((c.tc : Thread Cert.KernelQkvIdeal.nD Cert.KernelQkvIdeal.τ).loc Cert.KernelQkvIdeal.main_arg4)
      ∧ r.2.mem ((c.tc : Thread Cert.KernelQkvIdeal.nD Cert.KernelQkvIdeal.τ).loc Cert.KernelQkvIdeal.main_arg5) = m ((c.tc : Thread Cert.KernelQkvIdeal.nD Cert.KernelQkvIdeal.τ).loc Cert.KernelQkvIdeal.main_arg5)
      ∧ r.2.mem ((c.tc : Thread Cert.KernelQkvIdeal.nD Cert.KernelQkvIdeal.τ).loc Cert.KernelQkvIdeal.main_arg6) = m ((c.tc : Thread Cert.KernelQkvIdeal.nD Cert.KernelQkvIdeal.τ).loc Cert.KernelQkvIdeal.main_arg6))
      ∧ r.2.sem = fun _ => 0)

theorem quiet_bits : QuietBits := fun m ρ _ =>
  (θ_run Cert.KernelQkvIdeal.defs _ _).mono (fun _ h => ⟨fun c => by
    obtain ⟨h0, h1, h2, h3, h4, h5, h6, -⟩ := h.1 c
    exact ⟨h0, h1, h2, h3, h4, h5, h6⟩, h.2⟩) (run (F := Bits) m ρ)

/-- The two programs print the same text, so the two statements are one. -/
theorem quiet_eq : Cert.quiescent_KernelQkv = QuietBits := by sl_kernel_rfl

theorem frame_kernel : Cert.quiescent_KernelQkv := quiet_eq ▸ quiet_bits

end Cert.Qkv

namespace Cert.Qkv.Ref

open Idealize.ShloMosaic Idealize.ShloMosaic.TcCoe Idealize.SL.Sem
open Cert.ReferenceQkvIdeal Cert.ReferenceQkvIdeal.Read

theorem frame_ref : Cert.quiescent_ReferenceQkvIdeal := fun m ρ _ =>
  (θ_run defs _ _).mono (fun r h => ⟨fun c => (h c).2.2.2, sem_eq_zero_of_no_sems (by decide) r.2⟩)
    (Cert.ReferenceQkvIdeal.Value.run (F := Ideal) m ρ)

end Cert.Qkv.Ref

namespace Cert.Qkv

open Idealize.ShloMosaic Idealize.ShloMosaic.TcCoe Idealize.SL.Sem

theorem algebraic : Cert.algebraic_KernelQkvIdeal_ReferenceQkvIdeal_pre_finite_qkv := by
  intro m g m' g' hpre hagree
  refine ⟨fun c => Cert.ReferenceQkvIdeal.Read.val_main_v196 (F := Ideal) (m ((c.tc : Thread Cert.KernelQkvIdeal.nD Cert.KernelQkvIdeal.τ).loc Cert.KernelQkvIdeal.main_arg0)) (m ((c.tc : Thread Cert.KernelQkvIdeal.nD Cert.KernelQkvIdeal.τ).loc Cert.KernelQkvIdeal.main_arg3)),
    fun c => Cert.ReferenceQkvIdeal.Read.val_main_v197 (F := Ideal) (m ((c.tc : Thread Cert.KernelQkvIdeal.nD Cert.KernelQkvIdeal.τ).loc Cert.KernelQkvIdeal.main_arg1)) (m ((c.tc : Thread Cert.KernelQkvIdeal.nD Cert.KernelQkvIdeal.τ).loc Cert.KernelQkvIdeal.main_arg3)),
    fun c => Cert.ReferenceQkvIdeal.Read.val_main_v200 (F := Ideal) (m ((c.tc : Thread Cert.KernelQkvIdeal.nD Cert.KernelQkvIdeal.τ).loc Cert.KernelQkvIdeal.main_arg0)) (m ((c.tc : Thread Cert.KernelQkvIdeal.nD Cert.KernelQkvIdeal.τ).loc Cert.KernelQkvIdeal.main_arg1)) (m ((c.tc : Thread Cert.KernelQkvIdeal.nD Cert.KernelQkvIdeal.τ).loc Cert.KernelQkvIdeal.main_arg2)) (m ((c.tc : Thread Cert.KernelQkvIdeal.nD Cert.KernelQkvIdeal.τ).loc Cert.KernelQkvIdeal.main_arg3)) (m ((c.tc : Thread Cert.KernelQkvIdeal.nD Cert.KernelQkvIdeal.τ).loc Cert.KernelQkvIdeal.main_arg4)) (m ((c.tc : Thread Cert.KernelQkvIdeal.nD Cert.KernelQkvIdeal.τ).loc Cert.KernelQkvIdeal.main_arg5)) (m ((c.tc : Thread Cert.KernelQkvIdeal.nD Cert.KernelQkvIdeal.τ).loc Cert.KernelQkvIdeal.main_arg6)),
    (θ_run _ _ _).mono (fun r h c => ?_) (Cert.KernelQkvIdeal.Hand.run (F := Ideal) m g), (θ_run _ _ _).mono (fun r h c => ?_) (Cert.ReferenceQkvIdeal.Value.run (F := Ideal) m' g')⟩
  · obtain ⟨h0, h1, h2, h3, h4, h5, h6, r0, r1, r2⟩ := h.1 c
    have f := finite_of_pre m hpre c
    exact ⟨r0.trans (final_dqn f), r1.trans (final_dkn f), r2.trans (final_dproj f), h0, h1, h2, h3, h4, h5, h6⟩
  · obtain ⟨a0, a1, a2, a3, a4, a5, a6⟩ := hagree c
    obtain ⟨e0, e1, e2, hs⟩ := h c
    refine ⟨e0.trans ((Cert.ReferenceQkvIdeal.Read.val_main_v196_eq _).trans ?_), e1.trans ((Cert.ReferenceQkvIdeal.Read.val_main_v197_eq _).trans ?_), e2.trans ((Cert.ReferenceQkvIdeal.Read.val_main_v200_eq _).trans ?_), hs⟩
    · change Cert.ReferenceQkvIdeal.Read.val_main_v196 (F := Ideal) (m' ((c.tc : Thread Cert.ReferenceQkvIdeal.nD Cert.ReferenceQkvIdeal.τ).loc Cert.ReferenceQkvIdeal.main_arg0)) (m' ((c.tc : Thread Cert.ReferenceQkvIdeal.nD Cert.ReferenceQkvIdeal.τ).loc Cert.ReferenceQkvIdeal.main_arg3)) = _
      rw [a0, a3]
    · change Cert.ReferenceQkvIdeal.Read.val_main_v197 (F := Ideal) (m' ((c.tc : Thread Cert.ReferenceQkvIdeal.nD Cert.ReferenceQkvIdeal.τ).loc Cert.ReferenceQkvIdeal.main_arg1)) (m' ((c.tc : Thread Cert.ReferenceQkvIdeal.nD Cert.ReferenceQkvIdeal.τ).loc Cert.ReferenceQkvIdeal.main_arg3)) = _
      rw [a1, a3]
    · change Cert.ReferenceQkvIdeal.Read.val_main_v200 (F := Ideal) (m' ((c.tc : Thread Cert.ReferenceQkvIdeal.nD Cert.ReferenceQkvIdeal.τ).loc Cert.ReferenceQkvIdeal.main_arg0)) (m' ((c.tc : Thread Cert.ReferenceQkvIdeal.nD Cert.ReferenceQkvIdeal.τ).loc Cert.ReferenceQkvIdeal.main_arg1)) (m' ((c.tc : Thread Cert.ReferenceQkvIdeal.nD Cert.ReferenceQkvIdeal.τ).loc Cert.ReferenceQkvIdeal.main_arg2)) (m' ((c.tc : Thread Cert.ReferenceQkvIdeal.nD Cert.ReferenceQkvIdeal.τ).loc Cert.ReferenceQkvIdeal.main_arg3)) (m' ((c.tc : Thread Cert.ReferenceQkvIdeal.nD Cert.ReferenceQkvIdeal.τ).loc Cert.ReferenceQkvIdeal.main_arg4)) (m' ((c.tc : Thread Cert.ReferenceQkvIdeal.nD Cert.ReferenceQkvIdeal.τ).loc Cert.ReferenceQkvIdeal.main_arg5)) (m' ((c.tc : Thread Cert.ReferenceQkvIdeal.nD Cert.ReferenceQkvIdeal.τ).loc Cert.ReferenceQkvIdeal.main_arg6)) = _
      rw [a0, a1, a2, a3, a4, a5, a6]

end Cert.Qkv

end
-- ==== Proof.BrC2F.lean ====
/-
  The second half of branch C, forward: the layer norm of the convolution's output, the two gates. The kernel and the
  reference compute the same function of every row, whatever the entries.
-/
module

public import proofs.«01_k».proof.Proof.Consts
public import proofs.«01_k».proof.Proof.Gen.KernelBrC2FIdeal.Value
public import proofs.«01_k».proof.Proof.Gen.ReferenceBrC2FIdeal.Read
public import proofs.«01_k».proof.Defs
public import Idealize.ShloMosaic.Lib.Pipeline.ValueKit
public import Idealize.ShloMosaic.Lib.Claim

@[expose] public section

set_option maxRecDepth 16384

noncomputable section

namespace Cert.BrC2F

open Idealize.ShloMosaic Idealize.ShloMosaic.TcCoe Idealize.SL.Sem
open Idealize.ShloMosaic.Pipeline (Dat)
open Cert.KernelBrC2FIdeal Cert.KernelBrC2FIdeal.Gen Cert.Maths

/-- An entry times its logistic function. -/
def silu (e : EReal) : EReal := e * Ideal.div 1 (1 + Ideal.exp (-e))
/-- A row's mean. -/
def mean (z : Fin 1024 → EReal) : EReal := Ideal.div (∑ j, z j) (Ideal.ofBits .f32 0x44800000#32)
/-- The inverse root of a row's mean squared distance from its mean, with epsilon. -/
def spread (z : Fin 1024 → EReal) : EReal :=
  Ideal.rsqrt (Ideal.div (∑ j, (z j - mean z) * (z j - mean z)) (Ideal.ofBits .f32 0x44800000#32) + Ideal.ofBits .f32 0x3727C5AC#32)
/-- The row's layer norm. -/
def ln (z : Fin 1024 → EReal) (g b : EReal) (i : Fin 1024) : EReal := (z i - mean z) * spread z * g + b

section Kernel

theorem ln_at (x0 : Vec Ideal S512x1024 .f32) (x3 x4 : Vec Ideal S1x1024 .f32) (r : Fin 512) (i : Fin 1024) :
    k0_pay3 (F := Ideal) x0 x3 x4 (ix2 r i) = silu (ln (fun j => x0 (ix2 r j)) (x3 (ix2 0 i)) (x4 (ix2 0 i)) i) := by
  unfold silu ln spread mean
  pointwise [k0_pay3]
  simp only [zero_add, zero_sub]

theorem gate_at (x1 x2 : Vec Ideal S512x512 .f32) (s : Vec Ideal S512x1024 .f32) (r : Fin 512) (i : Fin 1024) :
    k0_pay1 (F := Ideal) (k0_pay2 (F := Ideal) x1 x2) s (k0_pay4 (F := Ideal)) (ix2 r i)
      = s (ix2 r i) * silu (if h : i.val < 512 then x1 (ix2 r ⟨i.val, h⟩) else x2 (ix2 r ⟨i.val - 512, by omega⟩)) := by
  have e : k0_pay2 (F := Ideal) x1 x2 (ix2 r i) = if h : i.val < 512 then x1 (ix2 r ⟨i.val, h⟩) else x2 (ix2 r ⟨i.val - 512, by omega⟩) := by
    pointwise [k0_pay2]
  rw [← e]
  generalize k0_pay2 (F := Ideal) x1 x2 = y
  unfold silu
  pointwise [k0_pay1, k0_pay4]
  simp only [zero_sub]

end Kernel

section Ref
open Cert.ReferenceBrC2FIdeal.Read

variable (x0 : (⟨S1x2048x1024, .f32⟩ : BufTy).Contents (Elt Ideal)) (x1 x2 : (⟨S1024, .f32⟩ : BufTy).Contents (Elt Ideal)) (x3 : (⟨S1x2048x12800, .f32⟩ : BufTy).Contents (Elt Ideal))

theorem ref_mean (R : Fin 2048) : val_main_v4 (F := Ideal) x0 (ix3 0 R 0) = mean fun j => x0 (ix3 0 R j) := by
  unfold mean
  pointwise [val_main_v4, val_main_v3, val_main_v2, val_main_v1, val_main_cst, val_main_cst_0]

theorem ref_cen (R : Fin 2048) (i : Fin 1024) : val_main_v6 (F := Ideal) x0 (ix3 0 R i) = x0 (ix3 0 R i) - mean fun j => x0 (ix3 0 R j) := by
  rw [← ref_mean]
  unfold val_main_v6 val_main_v5
  generalize val_main_v4 (F := Ideal) x0 = y
  pointwise

theorem ref_spread (R : Fin 2048) : val_main_v14 (F := Ideal) x0 (ix3 0 R 0) = spread fun j => x0 (ix3 0 R j) := by
  have h := ref_cen x0 R
  unfold spread
  unfold val_main_v14 val_main_v13 val_main_v12 val_main_v11 val_main_v10 val_main_v9 val_main_v8 val_main_v7
  generalize val_main_v6 (F := Ideal) x0 = y at h ⊢
  pointwise [val_main_cst_1, val_main_cst_2, val_main_cst_3]
  simp only [h]

theorem ref_ln (R : Fin 2048) (i : Fin 1024) : val_main_v22 (F := Ideal) x0 x1 x2 (ix3 0 R i) = ln (fun j => x0 (ix3 0 R j)) (x1 (ix1 i)) (x2 (ix1 i)) i := by
  unfold ln
  rw [← ref_spread, ← ref_cen]
  unfold val_main_v22 val_main_v21 val_main_v20 val_main_v19 val_main_v18 val_main_v17 val_main_v16 val_main_v15
  generalize val_main_v14 (F := Ideal) x0 = z
  generalize val_main_v6 (F := Ideal) x0 = y
  pointwise

theorem ref_silu (R : Fin 2048) (i : Fin 1024) : val_main_v23 (F := Ideal) x0 x1 x2 (ix3 0 R i) = silu (val_main_v22 (F := Ideal) x0 x1 x2 (ix3 0 R i)) := by
  unfold silu val_main_v23 val_main_call0_v5 val_main_call0_v4 val_main_call0_v3 val_main_call0_v2 val_main_call0_v1 val_main_call0_v0
  generalize val_main_v22 (F := Ideal) x0 x1 x2 = y
  pointwise [val_main_call0_cst, val_main_call0_cst_0]

theorem gate_lt (i : Fin 1024) : 8704 + i.val < 12800 := by omega

theorem ref_gate (R : Fin 2048) (i : Fin 1024) : val_main_v24 (F := Ideal) x3 (ix3 0 R i) = silu (x3 (ix3 0 R ⟨8704 + i.val, gate_lt i⟩)) := by
  unfold silu
  pointwise [val_main_v24, val_main_call1_v5, val_main_call1_v4, val_main_call1_v3, val_main_call1_v2, val_main_call1_v1, val_main_call1_v0, val_main_v0,
    val_main_call1_cst, val_main_call1_cst_0]

/-- The reference's result at a row and a column. -/
theorem ref_at (R : Fin 2048) (i : Fin 1024) : val_main_v27 (F := Ideal) x0 x1 x2 x3 (ix2 R i)
    = silu (ln (fun j => x0 (ix3 0 R j)) (x1 (ix1 i)) (x2 (ix1 i)) i) * silu (x3 (ix3 0 R ⟨8704 + i.val, gate_lt i⟩)) := by
  rw [← ref_ln, ← ref_silu, ← ref_gate]
  unfold val_main_v27 val_main_v26 val_main_v25
  generalize val_main_v23 (F := Ideal) x0 x1 x2 = y
  generalize val_main_v24 (F := Ideal) x3 = z
  pointwise
  blk_ext

end Ref

section Blocks
variable (m : (ℓ : Loc nD τ sig) → Buf (Elt Ideal) ℓ) (c : Dev nD)

theorem read_u (R i) : V m c main_v0 (ix2 R i) = m ((c : Thread nD τ).loc main_arg0) (ix3 0 R i) := by
  entry_read
  pointwise
  blk_ext

theorem read_p (R i) : V m c main_v1 (ix2 R i) = m ((c : Thread nD τ).loc main_arg3) (ix3 0 R i) := by
  entry_read
  pointwise
  blk_ext

theorem read_g (i) : V m c main_v2 (ix2 0 i) = m ((c : Thread nD τ).loc main_arg1) (ix1 i) := by
  entry_read
  pointwise

theorem read_b (i) : V m c main_v3 (ix2 0 i) = m ((c : Thread nD τ).loc main_arg2) (ix1 i) := by
  entry_read
  pointwise

theorem idx : ∀ t : Fin cfg0.N, win0_0.index t = ![t.val, 0] ∧ win0_1.index t = ![t.val, 17] ∧ win0_2.index t = ![t.val, 18]
    ∧ win0_3.index t = ![0, 0] ∧ win0_4.index t = ![0, 0] ∧ win0_5.index t = ![t.val, 0] ∧ t.val < 4 :=
  (by decide +kernel : ∀ t : Fin grid0.N, _)

/-- The row of the arrays at row `r` of point `t`'s blocks. -/
def row (t : Fin cfg0.N) (r : Fin 512) : Fin 2048 := ⟨t.val * 512 + r.val, by have := (idx t).2.2.2.2.2.2; omega⟩

theorem block_u (t : Fin cfg0.N) (r i) : iblk m c 0 t (ix2 r i) = m ((c : Thread nD τ).loc main_arg0) (ix3 0 (row t r) i) := by
  rw [← read_u m c]
  blk_ext [iblk, row, idx t]

theorem block_g (t : Fin cfg0.N) (i) : iblk m c 3 t (ix2 0 i) = m ((c : Thread nD τ).loc main_arg1) (ix1 i) := by
  rw [← read_g m c]
  blk_ext [iblk, idx t]

theorem block_b (t : Fin cfg0.N) (i) : iblk m c 4 t (ix2 0 i) = m ((c : Thread nD τ).loc main_arg2) (ix1 i) := by
  rw [← read_b m c]
  blk_ext [iblk, idx t]

/-- The gate's columns come as two blocks of 512. -/
theorem block_p (t : Fin cfg0.N) (r : Fin 512) (i : Fin 1024) :
    (if h : i.val < 512 then iblk m c 1 t (ix2 r ⟨i.val, h⟩) else iblk m c 2 t (ix2 r ⟨i.val - 512, by omega⟩))
      = m ((c : Thread nD τ).loc main_arg3) (ix3 0 (row t r) ⟨8704 + i.val, gate_lt i⟩) := by
  rw [← read_p m c]
  by_cases h : i.val < 512
  · refine (dif_pos h).trans ?_
    blk_ext [iblk, row, idx t]
  · refine (dif_neg h).trans ?_
    blk_ext [iblk, row, idx t]

theorem final : (dats m 0 c).arrAt 5 cfg0.N = Cert.ReferenceBrC2FIdeal.Read.val_main_v27 (F := Ideal) (m ((c : Thread nD τ).loc main_arg0))
    (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  idx_vars y
  rw [show ((cfg0.win 5).blk t).view.emb (ix2 y0 y1) = ix2 (row t y0) y1 by blk_ext [row, idx t]]
  unfold out0_5
  frame_out
  rw [ref_at, gate_at, ln_at, block_p, block_g, block_b]
  simp only [block_u]

end Blocks

end Cert.BrC2F

namespace Cert.BrC2F.Ref

open Idealize.ShloMosaic Idealize.ShloMosaic.TcCoe Idealize.SL.Sem
open Cert.ReferenceBrC2FIdeal Cert.ReferenceBrC2FIdeal.Read

theorem frame_ref : Cert.quiescent_ReferenceBrC2FIdeal := fun m ρ _ =>
  (θ_run defs _ _).mono (fun r h => ⟨fun c => (h c).2, sem_eq_zero_of_no_sems (by decide) r.2⟩)
    (Cert.ReferenceBrC2FIdeal.Value.run (F := Ideal) m ρ)

end Cert.BrC2F.Ref

namespace Cert.BrC2F

open Idealize.ShloMosaic Idealize.ShloMosaic.TcCoe Idealize.SL.Sem

theorem algebraic : Cert.algebraic_KernelBrC2FIdeal_ReferenceBrC2FIdeal := by
  intro m g m' g' _ hagree
  refine ⟨_, (θ_run _ _ _).mono (fun r h c => ⟨(h c).1.trans (final m c), (h c).2⟩) (Cert.KernelBrC2FIdeal.Value.run_blocks (F := Ideal) m g),
    (θ_run _ _ _).mono (fun r h c => ?_) (Cert.ReferenceBrC2FIdeal.Value.run (F := Ideal) m' g')⟩
  have e := Cert.ReferenceBrC2FIdeal.Read.val_main_v27_eq m' c
  have e' := h c
  rw [(hagree c).1, (hagree c).2.1, (hagree c).2.2.1, (hagree c).2.2.2] at e e' ⊢
  exact ⟨e'.1.trans e, e'.2⟩

end Cert.BrC2F

end
-- ==== Proof.MergeF.lean ====
/-
  The gated merge, forward: the three branches' output products, their gated sum, the output product and the residual
  added to its root mean square norm. The kernel and the reference compute the same functions, whatever the entries.
-/
module

public import proofs.«01_k».proof.Proof.Consts
public import proofs.«01_k».proof.Proof.Gen.KernelMergeFIdeal.Value
public import proofs.«01_k».proof.Proof.Gen.ReferenceMergeFIdeal.Read
public import proofs.«01_k».proof.Defs
public import Idealize.ShloMosaic.Lib.Pipeline.ValueKit
public import Idealize.ShloMosaic.Lib.Claim

@[expose] public section

set_option maxRecDepth 16384

noncomputable section

namespace Cert.MergeF

open Idealize.ShloMosaic Idealize.ShloMosaic.TcCoe Idealize.SL.Sem
open Idealize.ShloMosaic.Pipeline (Dat)
open Cert.KernelMergeFIdeal Cert.KernelMergeFIdeal.Gen Cert.Maths

/-- A row times a matrix. -/
def dot (h : Fin 1024 → EReal) (w : Fin 1024 → Fin 1024 → EReal) (i : Fin 1024) : EReal := ∑ k, h k * w k i
/-- The logistic function. -/
def sg (e : EReal) : EReal := Ideal.div 1 (1 + Ideal.exp (-e))
/-- The inverse root of a row's mean square, with epsilon. -/
def inv (z : Fin 1024 → EReal) : EReal :=
  Ideal.rsqrt (Ideal.div (∑ j, z j * z j) (Ideal.ofBits .f32 0x44800000#32) + Ideal.ofBits .f32 0x358637BD#32)

section Kernel

/-- The matrix of 1024 rows behind eight pieces of 128. -/
def mat (w : Vec Ideal S8x1x128x1024 .bf16) (k i : Fin 1024) : EReal := w (ix4 ⟨k.val / 128, by omega⟩ 0 ⟨k.val % 128, by omega⟩ i)
/-- Two blocks of 512 columns side by side. -/
def halves (u v : Vec Ideal S512x512 .f32) (r : Fin 512) (i : Fin 1024) : EReal :=
  if h : i.val < 512 then u (ix2 r ⟨i.val, h⟩) else v (ix2 r ⟨i.val - 512, by omega⟩)

theorem prod_y (a : Vec Ideal S512x1024 .bf16) (w) (r i) : k0_pay1 (F := Ideal) a w (ix2 r i) = dot (fun k => a (ix2 r k)) (mat w) i := by
  unfold dot mat
  pointwise [k0_pay1]

theorem prod_a (a w r i) : k0_pay5 (F := Ideal) a w (ix2 r i) = dot (fun k => a (ix2 r k)) (mat w) i := by
  unfold dot mat
  pointwise [k0_pay5]

theorem prod_b (a w r i) : k0_pay7 (F := Ideal) a w (ix2 r i) = dot (fun k => a (ix2 r k)) (mat w) i := by
  unfold dot mat
  pointwise [k0_pay7]

theorem prod_c (a w r i) : k0_pay8 (F := Ideal) a w (ix2 r i) = dot (fun k => a (ix2 r k)) (mat w) i := by
  unfold dot mat
  pointwise [k0_pay8]

theorem gate_b (u v) (r i) : k0_pay3 (F := Ideal) u v (ix2 r i) = halves u v r i := by
  unfold halves
  pointwise [k0_pay3]

theorem gate_c (u v) (r i) : k0_pay4 (F := Ideal) u v (ix2 r i) = halves u v r i := by
  unfold halves
  pointwise [k0_pay4]

theorem first (u v a w) (r i) : k0_pay6 (F := Ideal) u v a w (ix2 r i) = sg (halves u v r i) * dot (fun k => a (ix2 r k)) (mat w) i := by
  rw [← prod_a]
  unfold k0_pay6 sg halves
  generalize k0_pay5 (F := Ideal) a w = y
  pointwise
  simp only [zero_sub, zero_add]

theorem sum_at (p q s : Vec Ideal S512x1024 .f32) (a w b w') (r i) : k0_pay9 (F := Ideal) p q s a w b w' (ix2 r i)
    = s (ix2 r i) + sg (p (ix2 r i)) * dot (fun k => a (ix2 r k)) (mat w) i + sg (q (ix2 r i)) * dot (fun k => b (ix2 r k)) (mat w') i := by
  rw [← prod_b, ← prod_c]
  unfold k0_pay9 sg
  generalize k0_pay7 (F := Ideal) a w = y
  generalize k0_pay8 (F := Ideal) b w' = z
  pointwise
  simp only [zero_sub]

theorem out_at (a : Vec Ideal S512x1024 .bf16) (w x g) (r i) : k0_pay2 (F := Ideal) a w x g (ix2 r i)
    = x (ix2 r i) + dot (fun k => a (ix2 r k)) (mat w) i * inv (fun j => dot (fun k => a (ix2 r k)) (mat w) j) * g (ix2 0 i) := by
  simp only [← prod_y]
  unfold k0_pay2 inv
  generalize k0_pay1 (F := Ideal) a w = y
  pointwise

end Kernel

section Ref
open Cert.ReferenceMergeFIdeal.Read

variable (x0 x1 x2 x3 : (⟨S1x2048x1024, .f32⟩ : BufTy).Contents (Elt Ideal)) (x4 : (⟨S1x2048x12800, .f32⟩ : BufTy).Contents (Elt Ideal))
  (x5 x6 x7 x8 : (⟨S1024x1024, .f32⟩ : BufTy).Contents (Elt Ideal)) (x9 : (⟨S1024, .f32⟩ : BufTy).Contents (Elt Ideal))

/-- A row of a three-axis array, a matrix, and the three gates' columns of the projection. -/
abbrev rowOf (x : (⟨S1x2048x1024, .f32⟩ : BufTy).Contents (Elt Ideal)) (R : Fin 2048) (k : Fin 1024) : EReal := x (ix3 0 R k)
abbrev matOf (w : (⟨S1024x1024, .f32⟩ : BufTy).Contents (Elt Ideal)) (k i : Fin 1024) : EReal := w (ix2 k i)
abbrev gateOf (R : Fin 2048) (p : ℕ) (h : p < 3072) : EReal := x4 (ix3 0 R ⟨9728 + p, by omega⟩)

/-- The gated sum of the three products. -/
def merged (R : Fin 2048) (i : Fin 1024) : EReal :=
  sg (gateOf x4 R i.val (by omega)) * dot (rowOf x1 R) (matOf x5) i + sg (gateOf x4 R (1024 + i.val) (by omega)) * dot (rowOf x2 R) (matOf x6) i
    + sg (gateOf x4 R (2048 + i.val) (by omega)) * dot (rowOf x3 R) (matOf x7) i

theorem ref_a (R i) : val_main_v4 (F := Ideal) x1 x5 (ix3 0 R i) = dot (rowOf x1 R) (matOf x5) i := by
  unfold dot
  pointwise [val_main_v4]

theorem ref_b (R i) : val_main_v5 (F := Ideal) x2 x6 (ix3 0 R i) = dot (rowOf x2 R) (matOf x6) i := by
  unfold dot
  pointwise [val_main_v5]

theorem ref_c (R i) : val_main_v6 (F := Ideal) x3 x7 (ix3 0 R i) = dot (rowOf x3 R) (matOf x7) i := by
  unfold dot
  pointwise [val_main_v6]

theorem ref_ga (R i) : val_main_v12 (F := Ideal) x4 (ix3 0 R i) = sg (gateOf x4 R i.val (by omega)) := by
  unfold sg
  pointwise [val_main_v12, val_main_v11, val_main_v10, val_main_v9, val_main_v8, val_main_v7, val_main_v1, val_main_v0, val_main_cst, val_main_cst_0]

theorem ref_gb (R i) : val_main_v19 (F := Ideal) x4 (ix3 0 R i) = sg (gateOf x4 R (1024 + i.val) (by omega)) := by
  unfold sg
  pointwise [val_main_v19, val_main_v18, val_main_v17, val_main_v16, val_main_v15, val_main_v14, val_main_v2, val_main_v0, val_main_cst_1, val_main_cst_2]

theorem ref_gc (R i) : val_main_v27 (F := Ideal) x4 (ix3 0 R i) = sg (gateOf x4 R (2048 + i.val) (by omega)) := by
  unfold sg
  pointwise [val_main_v27, val_main_v26, val_main_v25, val_main_v24, val_main_v23, val_main_v22, val_main_v3, val_main_v0, val_main_cst_3, val_main_cst_4]

theorem ref_y (R i) : val_main_v29 (F := Ideal) x1 x2 x3 x4 x5 x6 x7 (ix3 0 R i) = merged x1 x2 x3 x4 x5 x6 x7 R i := by
  unfold merged
  rw [← ref_a, ← ref_b, ← ref_c, ← ref_ga, ← ref_gb, ← ref_gc]
  unfold val_main_v29 val_main_v28 val_main_v21 val_main_v20 val_main_v13
  generalize val_main_v4 (F := Ideal) x1 x5 = a
  generalize val_main_v5 (F := Ideal) x2 x6 = b
  generalize val_main_v6 (F := Ideal) x3 x7 = d
  generalize val_main_v12 (F := Ideal) x4 = a'
  generalize val_main_v19 (F := Ideal) x4 = b'
  generalize val_main_v27 (F := Ideal) x4 = d'
  pointwise

theorem ref_z (R i) : val_main_v30 (F := Ideal) x1 x2 x3 x4 x5 x6 x7 x8 (ix3 0 R i) = dot (merged x1 x2 x3 x4 x5 x6 x7 R) (matOf x8) i := by
  have h := ref_y x1 x2 x3 x4 x5 x6 x7 R
  unfold dot
  unfold val_main_v30
  generalize val_main_v29 (F := Ideal) x1 x2 x3 x4 x5 x6 x7 = y at h ⊢
  pointwise
  simp only [h]

theorem ref_out (R i) : val_main_v44 (F := Ideal) x0 x1 x2 x3 x4 x5 x6 x7 x8 x9 (ix3 0 R i)
    = x0 (ix3 0 R i) + dot (merged x1 x2 x3 x4 x5 x6 x7 R) (matOf x8) i * inv (dot (merged x1 x2 x3 x4 x5 x6 x7 R) (matOf x8)) * x9 (ix1 i) := by
  have h := ref_z x1 x2 x3 x4 x5 x6 x7 x8 R
  rw [show dot (merged x1 x2 x3 x4 x5 x6 x7 R) (matOf x8) = _ from funext fun i => (h i).symm]
  unfold inv
  unfold val_main_v44 val_main_v43 val_main_v42 val_main_v41 val_main_v40 val_main_v39 val_main_v38 val_main_v37 val_main_v36 val_main_v35 val_main_v34
    val_main_v33 val_main_v32 val_main_v31
  generalize val_main_v30 (F := Ideal) x1 x2 x3 x4 x5 x6 x7 x8 = y
  pointwise [val_main_cst_5, val_main_cst_6, val_main_cst_7]

/-! A result's two axes are the array's last two. -/

theorem flat_45 (R i) : val_main_v45 (F := Ideal) x1 x5 (ix2 R i) = val_main_v4 (F := Ideal) x1 x5 (ix3 0 R i) := by
  unfold val_main_v45
  generalize val_main_v4 (F := Ideal) x1 x5 = y
  pointwise
  blk_ext

theorem flat_46 (R i) : val_main_v46 (F := Ideal) x2 x6 (ix2 R i) = val_main_v5 (F := Ideal) x2 x6 (ix3 0 R i) := by
  unfold val_main_v46
  generalize val_main_v5 (F := Ideal) x2 x6 = y
  pointwise
  blk_ext

theorem flat_47 (R i) : val_main_v47 (F := Ideal) x3 x7 (ix2 R i) = val_main_v6 (F := Ideal) x3 x7 (ix3 0 R i) := by
  unfold val_main_v47
  generalize val_main_v6 (F := Ideal) x3 x7 = y
  pointwise
  blk_ext

theorem flat_49 (R i) : val_main_v49 (F := Ideal) x1 x2 x3 x4 x5 x6 x7 (ix2 R i) = val_main_v29 (F := Ideal) x1 x2 x3 x4 x5 x6 x7 (ix3 0 R i) := by
  unfold val_main_v49 val_main_v48
  generalize val_main_v29 (F := Ideal) x1 x2 x3 x4 x5 x6 x7 = y
  pointwise
  blk_ext

theorem flat_50 (R i) : val_main_v50 (F := Ideal) x1 x2 x3 x4 x5 x6 x7 x8 (ix2 R i) = val_main_v30 (F := Ideal) x1 x2 x3 x4 x5 x6 x7 x8 (ix3 0 R i) := by
  unfold val_main_v50
  generalize val_main_v30 (F := Ideal) x1 x2 x3 x4 x5 x6 x7 x8 = y
  pointwise
  blk_ext

theorem flat_51 (R i) : val_main_v51 (F := Ideal) x0 x1 x2 x3 x4 x5 x6 x7 x8 x9 (ix2 R i) = val_main_v44 (F := Ideal) x0 x1 x2 x3 x4 x5 x6 x7 x8 x9 (ix3 0 R i) := by
  unfold val_main_v51
  generalize val_main_v44 (F := Ideal) x0 x1 x2 x3 x4 x5 x6 x7 x8 x9 = y
  pointwise
  blk_ext

end Ref

section Blocks
variable (m : (ℓ : Loc nD τ sig) → Buf (Elt Ideal) ℓ) (c : Dev nD)

abbrev A0 := m ((c : Thread nD τ).loc main_arg0)
abbrev A1 := m ((c : Thread nD τ).loc main_arg1)
abbrev A2 := m ((c : Thread nD τ).loc main_arg2)
abbrev A3 := m ((c : Thread nD τ).loc main_arg3)
abbrev A4 := m ((c : Thread nD τ).loc main_arg4)
abbrev A5 := m ((c : Thread nD τ).loc main_arg5)
abbrev A6 := m ((c : Thread nD τ).loc main_arg6)
abbrev A7 := m ((c : Thread nD τ).loc main_arg7)
abbrev A8 := m ((c : Thread nD τ).loc main_arg8)
abbrev A9 := m ((c : Thread nD τ).loc main_arg9)

theorem read_x (R i) : V m c main_v0 (ix2 R i) = A0 m c (ix3 0 R i) := by
  entry_read
  pointwise
  blk_ext

theorem read_a (R i) : V m c main_v2 (ix2 R i) = A1 m c (ix3 0 R i) := by
  entry_read
  pointwise
  blk_ext

theorem read_b (R i) : V m c main_v4 (ix2 R i) = A2 m c (ix3 0 R i) := by
  entry_read
  pointwise
  blk_ext

theorem read_c (R i) : V m c main_v6 (ix2 R i) = A3 m c (ix3 0 R i) := by
  entry_read
  pointwise
  blk_ext

theorem read_p (R i) : V m c main_v7 (ix2 R i) = A4 m c (ix3 0 R i) := by
  entry_read
  pointwise
  blk_ext

theorem read_g (i) : V m c main_v18 (ix2 0 i) = A9 m c (ix1 i) := by
  entry_read
  pointwise

section Stack
variable (W : Valuation τ sig (Elt Ideal))

/-- The stack of the four matrices, from the four arrays it is made of. -/
theorem stack_tail : (StableHlo.after (hostOps0.drop 16) W (Proc.tc.devRef main_v17) : S8x4x128x1024.Idx → EReal) = concatenate S8x4x128x1024 1
      [⟨S8x1x128x1024, (W (Proc.tc.devRef main_v12) : S8x1x128x1024.Idx → EReal)⟩, ⟨S8x1x128x1024, (W (Proc.tc.devRef main_v13) : S8x1x128x1024.Idx → EReal)⟩,
        ⟨S8x1x128x1024, (W (Proc.tc.devRef main_v14) : S8x1x128x1024.Idx → EReal)⟩, ⟨S8x1x128x1024, (W (Proc.tc.devRef main_v15) : S8x1x128x1024.Idx → EReal)⟩]
      concatenates_S8x1x128x1024_S8x1x128x1024_S8x1x128x1024_S8x1x128x1024_S8x4x128x1024_d1 := by
  iterate 16 rw [List.drop_succ_cons]
  rw [List.drop_zero]
  iterate 3 rw [StableHlo.after_cons]
  rw [StableHlo.after_nil]
  refine (StableHlo.unary_result_ne _ _ _ _ _ _ (by decide)).trans ?_
  refine (StableHlo.unary_result _ _ _ _ _ _).trans ?_
  exact congrArg (fun z : S8x4x128x1024.Idx → EReal => (truncf (F := Ideal) .bf16 (z : FVec Ideal S8x4x128x1024 .f32) bitsLt_bf16_f32 : S8x4x128x1024.Idx → EReal)) (StableHlo.nary_result _ _ _ _ _ _)

/-- What the last three host operations leave alone. -/
theorem stack_keep (b : Ref sig .tc) (h16 : b ≠ main_v16) (h17 : b ≠ main_v17)
    (h18 : b ≠ main_v18) :
    StableHlo.after (hostOps0.drop 16) W (Proc.tc.devRef b) = W (Proc.tc.devRef b) := by
  iterate 16 rw [List.drop_succ_cons]
  rw [List.drop_zero]
  iterate 3 rw [StableHlo.after_cons]
  rw [StableHlo.after_nil]
  refine (StableHlo.unary_result_ne _ _ _ _ _ _ h18).trans ?_
  refine (StableHlo.unary_result_ne _ _ _ _ _ _ h17).trans ?_
  exact StableHlo.nary_result_ne _ _ _ _ _ _ h16

end Stack

/-- The arrays before the stack is made. -/
def before : Valuation τ sig (Elt Ideal) := StableHlo.after (hostOps0.take 16) (fun b => m (c, b))

theorem V_before (b : Ref sig .tc) : V m c b = StableHlo.after (hostOps0.drop 16) (before m c) (Proc.tc.devRef b) :=
  (congrArg (fun o => StableHlo.after o (fun b => m (c, b)) (Proc.tc.devRef b)) (List.take_append_drop 16 hostOps0).symm).trans
    (congrFun (StableHlo.after_append _ _ _) _)

theorem whole (p : Fin 8) (q : Fin 128) : p.val * 128 + q.val < 1024 := by omega

theorem part_a (p : Fin 8) (q : Fin 128) (i) : (before m c (Proc.tc.devRef main_v12) : S8x1x128x1024.Idx → EReal) (ix4 p 0 q i) = A5 m c (ix2 ⟨p.val * 128 + q.val, whole p q⟩ i) := by
  rw [← stack_keep (before m c) main_v12 (by decide) (by decide) (by decide), ← V_before]
  entry_read
  pointwise
  blk_ext

theorem part_b (p : Fin 8) (q : Fin 128) (i) : (before m c (Proc.tc.devRef main_v13) : S8x1x128x1024.Idx → EReal) (ix4 p 0 q i) = A6 m c (ix2 ⟨p.val * 128 + q.val, whole p q⟩ i) := by
  rw [← stack_keep (before m c) main_v13 (by decide) (by decide) (by decide), ← V_before]
  entry_read
  pointwise
  blk_ext

theorem part_c (p : Fin 8) (q : Fin 128) (i) : (before m c (Proc.tc.devRef main_v14) : S8x1x128x1024.Idx → EReal) (ix4 p 0 q i) = A7 m c (ix2 ⟨p.val * 128 + q.val, whole p q⟩ i) := by
  rw [← stack_keep (before m c) main_v14 (by decide) (by decide) (by decide), ← V_before]
  entry_read
  pointwise
  blk_ext

theorem part_o (p : Fin 8) (q : Fin 128) (i) : (before m c (Proc.tc.devRef main_v15) : S8x1x128x1024.Idx → EReal) (ix4 p 0 q i) = A8 m c (ix2 ⟨p.val * 128 + q.val, whole p q⟩ i) := by
  rw [← stack_keep (before m c) main_v15 (by decide) (by decide) (by decide), ← V_before]
  entry_read
  pointwise
  blk_ext

/-- A stack of four, read at one of them. -/
theorem stacked (y0 y1 y2 y3 : S8x1x128x1024.Idx → EReal) (p : Fin 8) (n : Fin 4) (q : Fin 128) (i : Fin 1024) :
    concatenate S8x4x128x1024 1 [⟨S8x1x128x1024, y0⟩, ⟨S8x1x128x1024, y1⟩, ⟨S8x1x128x1024, y2⟩, ⟨S8x1x128x1024, y3⟩]
      concatenates_S8x1x128x1024_S8x1x128x1024_S8x1x128x1024_S8x1x128x1024_S8x4x128x1024_d1 (ix4 p n q i) = (![y0, y1, y2, y3] n) (ix4 p 0 q i) := by
  fin_cases n <;> pointwise <;> rfl

/-- The four matrices, one behind the other in every piece of rows. -/
theorem read_w (p : Fin 8) (n : Fin 4) (q : Fin 128) (i) :
    V m c main_v17 (ix4 p n q i) = (![A5 m c, A6 m c, A7 m c, A8 m c] n) (ix2 ⟨p.val * 128 + q.val, whole p q⟩ i) := by
  rw [V_before, stack_tail]
  refine (stacked _ _ _ _ p n q i).trans ?_
  fin_cases n
  · exact part_a m c p q i
  · exact part_b m c p q i
  · exact part_c m c p q i
  · exact part_o m c p q i

theorem idx : ∀ t : Fin cfg0.N, win0_0.index t = ![t.val, 0] ∧ win0_1.index t = ![t.val, 0] ∧ win0_2.index t = ![t.val, 0] ∧ win0_3.index t = ![t.val, 0]
    ∧ win0_4.index t = ![t.val, 19] ∧ win0_5.index t = ![t.val, 20] ∧ win0_6.index t = ![t.val, 21] ∧ win0_7.index t = ![t.val, 22]
    ∧ win0_8.index t = ![t.val, 23] ∧ win0_9.index t = ![t.val, 24] ∧ win0_10.index t = ![0, 0, 0, 0] ∧ win0_11.index t = ![0, 0]
    ∧ win0_12.index t = ![t.val, 0] ∧ win0_13.index t = ![t.val, 0] ∧ win0_14.index t = ![t.val, 0] ∧ win0_15.index t = ![t.val, 0]
    ∧ win0_16.index t = ![t.val, 0] ∧ win0_17.index t = ![t.val, 0] ∧ t.val < 4 :=
  (by decide +kernel : ∀ t : Fin grid0.N, _)

theorem pt (t : Fin cfg0.N) : t.val < 4 := t.isLt.trans_le (by decide +kernel)

/-- The row of the arrays at row `r` of point `t`'s blocks. -/
def row (t : Fin cfg0.N) (r : Fin 512) : Fin 2048 := ⟨t.val * 512 + r.val, by have := pt t; omega⟩

theorem block_x (t : Fin cfg0.N) (r i) : iblk m c 0 t (ix2 r i) = A0 m c (ix3 0 (row t r) i) := by
  rw [← read_x m c]
  blk_ext [iblk, row, idx t]

theorem block_a (t : Fin cfg0.N) (r i) : iblk m c 1 t (ix2 r i) = A1 m c (ix3 0 (row t r) i) := by
  rw [← read_a m c]
  blk_ext [iblk, row, idx t]

theorem block_b (t : Fin cfg0.N) (r i) : iblk m c 2 t (ix2 r i) = A2 m c (ix3 0 (row t r) i) := by
  rw [← read_b m c]
  blk_ext [iblk, row, idx t]

theorem block_c (t : Fin cfg0.N) (r i) : iblk m c 3 t (ix2 r i) = A3 m c (ix3 0 (row t r) i) := by
  rw [← read_c m c]
  blk_ext [iblk, row, idx t]

theorem block_g (t : Fin cfg0.N) (i) : iblk m c 11 t (ix2 0 i) = A9 m c (ix1 i) := by
  rw [← read_g m c]
  blk_ext [iblk, idx t]

theorem gate0 (t : Fin cfg0.N) (r i) : halves (iblk m c 4 t) (iblk m c 5 t) r i = gateOf (A4 m c) (row t r) i.val (by omega) := by
  unfold halves gateOf
  rw [← read_p m c]
  by_cases h : i.val < 512
  · refine (dif_pos h).trans ?_
    blk_ext [iblk, row, idx t]
  · refine (dif_neg h).trans ?_
    blk_ext [iblk, row, idx t]

theorem gate1 (t : Fin cfg0.N) (r i) : halves (iblk m c 6 t) (iblk m c 7 t) r i = gateOf (A4 m c) (row t r) (1024 + i.val) (by omega) := by
  unfold halves gateOf
  rw [← read_p m c]
  by_cases h : i.val < 512
  · refine (dif_pos h).trans ?_
    blk_ext [iblk, row, idx t]
  · refine (dif_neg h).trans ?_
    blk_ext [iblk, row, idx t]

theorem gate2 (t : Fin cfg0.N) (r i) : halves (iblk m c 8 t) (iblk m c 9 t) r i = gateOf (A4 m c) (row t r) (2048 + i.val) (by omega) := by
  unfold halves gateOf
  rw [← read_p m c]
  by_cases h : i.val < 512
  · refine (dif_pos h).trans ?_
    blk_ext [iblk, row, idx t]
  · refine (dif_neg h).trans ?_
    blk_ext [iblk, row, idx t]

theorem block_w (t : Fin cfg0.N) (p q s i) : iblk m c 10 t (ix4 p q s i) = V m c main_v17 (ix4 p q s i) := by
  blk_ext [iblk, idx t]

theorem split (k : Fin 1024) : k.val / 128 * 128 + k.val % 128 = k.val := by omega

theorem ld_a (w : Vec Ideal S8x4x128x1024 .bf16) (k i : Fin 1024) : mat (View.ld w r0_2) k i = w (ix4 ⟨k.val / 128, by omega⟩ 0 ⟨k.val % 128, by omega⟩ i) := by
  show w (r0_2.emb _) = _
  blk_ext

theorem mat_a (t : Fin cfg0.N) : mat (View.ld (iblk m c 10 t) r0_2) = matOf (A5 m c) := by
  funext k i
  refine (ld_a _ k i).trans ((block_w m c t _ _ _ _).trans ((read_w m c _ _ _ _).trans ?_))
  exact congrArg (fun k' => A5 m c (ix2 k' i)) (Fin.ext (split k))

theorem ld_b (w : Vec Ideal S8x4x128x1024 .bf16) (k i : Fin 1024) : mat (View.ld w r0_3) k i = w (ix4 ⟨k.val / 128, by omega⟩ 1 ⟨k.val % 128, by omega⟩ i) := by
  show w (r0_3.emb _) = _
  blk_ext

theorem mat_b (t : Fin cfg0.N) : mat (View.ld (iblk m c 10 t) r0_3) = matOf (A6 m c) := by
  funext k i
  refine (ld_b _ k i).trans ((block_w m c t _ _ _ _).trans ((read_w m c _ _ _ _).trans ?_))
  exact congrArg (fun k' => A6 m c (ix2 k' i)) (Fin.ext (split k))

theorem ld_c (w : Vec Ideal S8x4x128x1024 .bf16) (k i : Fin 1024) : mat (View.ld w r0_4) k i = w (ix4 ⟨k.val / 128, by omega⟩ 2 ⟨k.val % 128, by omega⟩ i) := by
  show w (r0_4.emb _) = _
  blk_ext

theorem mat_c (t : Fin cfg0.N) : mat (View.ld (iblk m c 10 t) r0_4) = matOf (A7 m c) := by
  funext k i
  refine (ld_c _ k i).trans ((block_w m c t _ _ _ _).trans ((read_w m c _ _ _ _).trans ?_))
  exact congrArg (fun k' => A7 m c (ix2 k' i)) (Fin.ext (split k))

theorem ld_o (w : Vec Ideal S8x4x128x1024 .bf16) (k i : Fin 1024) : mat (View.ld w r0_5) k i = w (ix4 ⟨k.val / 128, by omega⟩ 3 ⟨k.val % 128, by omega⟩ i) := by
  show w (r0_5.emb _) = _
  blk_ext

theorem mat_o (t : Fin cfg0.N) : mat (View.ld (iblk m c 10 t) r0_5) = matOf (A8 m c) := by
  funext k i
  refine (ld_o _ k i).trans ((block_w m c t _ _ _ _).trans ((read_w m c _ _ _ _).trans ?_))
  exact congrArg (fun k' => A8 m c (ix2 k' i)) (Fin.ext (split k))

/-- A whole block read is the block. -/
theorem ld_row {e} (x : Vec Ideal S512x1024 e) : View.ld x r0_1 = x := View.ld_unit_zero (off := ![0, 0]) (by decide) _ x
theorem ld_half {e} (x : Vec Ideal S512x512 e) : View.ld x r0_0 = x := View.ld_unit_zero (off := ![0, 0]) (by decide) _ x
theorem ld_gain {e} (x : Vec Ideal S1x1024 e) : View.ld x r0_6 = x := View.ld_unit_zero (off := ![0, 0]) (by decide) _ x

theorem row_a (t : Fin cfg0.N) (r) : (fun k => View.ld (iblk m c 1 t) r0_1 (ix2 r k)) = rowOf (A1 m c) (row t r) :=
  funext fun k => (congrFun (ld_row (iblk m c 1 t)) (ix2 r k)).trans (block_a m c t r k)

theorem row_b (t : Fin cfg0.N) (r) : (fun k => View.ld (iblk m c 2 t) r0_1 (ix2 r k)) = rowOf (A2 m c) (row t r) :=
  funext fun k => (congrFun (ld_row (iblk m c 2 t)) (ix2 r k)).trans (block_b m c t r k)

theorem row_c (t : Fin cfg0.N) (r) : (fun k => View.ld (iblk m c 3 t) r0_1 (ix2 r k)) = rowOf (A3 m c) (row t r) :=
  funext fun k => (congrFun (ld_row (iblk m c 3 t)) (ix2 r k)).trans (block_c m c t r k)

/-- The gated sum of point `t`, over its blocks. -/
abbrev yblk (t : Fin cfg0.N) : Vec Ideal S512x1024 .bf16 :=
  k0_pay10 (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t)

theorem y_at (t : Fin cfg0.N) (r i) : yblk m c t (ix2 r i) = merged (A1 m c) (A2 m c) (A3 m c) (A4 m c) (A5 m c) (A6 m c) (A7 m c) (row t r) i := by
  unfold yblk k0_pay10 merged
  rw [sum_at, gate_b, gate_c, first, mat_a, mat_b, mat_c]
  simp only [ld_half, gate0, gate1, gate2]
  exact congrArg₂ (· + ·) (congrArg₂ (· + ·) (congrArg (fun h => sg _ * dot h _ i) (row_a m c t r)) (congrArg (fun h => sg _ * dot h _ i) (row_b m c t r)))
    (congrArg (fun h => sg _ * dot h _ i) (row_c m c t r))

theorem y_row (t : Fin cfg0.N) (r) : (fun k => yblk m c t (ix2 r k)) = merged (A1 m c) (A2 m c) (A3 m c) (A4 m c) (A5 m c) (A6 m c) (A7 m c) (row t r) :=
  funext fun k => y_at m c t r k

theorem final_45 : (dats m 0 c).arrAt 12 cfg0.N = Cert.ReferenceMergeFIdeal.Read.val_main_v45 (F := Ideal) (A1 m c) (A5 m c) := by
  refine (dats m 0 c).arrAt_eq_of_covers 12 _ (by decide +kernel) fun t hf y => ?_
  blk_simp
  rw [after0_12]
  idx_vars y
  rw [show ((cfg0.win 12).blk t).view.emb (ix2 y0 y1) = ix2 (row t y0) y1 by blk_ext [row, idx t]]
  unfold out0_12
  frame_out
  rw [flat_45, ref_a, prod_a, mat_a]
  simp only [block_a]

theorem final_46 : (dats m 0 c).arrAt 13 cfg0.N = Cert.ReferenceMergeFIdeal.Read.val_main_v46 (F := Ideal) (A2 m c) (A6 m c) := by
  refine (dats m 0 c).arrAt_eq_of_covers 13 _ (by decide +kernel) fun t hf y => ?_
  blk_simp
  rw [after0_13]
  idx_vars y
  rw [show ((cfg0.win 13).blk t).view.emb (ix2 y0 y1) = ix2 (row t y0) y1 by blk_ext [row, idx t]]
  unfold out0_13
  frame_out
  rw [flat_46, ref_b, prod_b, mat_b]
  simp only [block_b]

theorem final_47 : (dats m 0 c).arrAt 14 cfg0.N = Cert.ReferenceMergeFIdeal.Read.val_main_v47 (F := Ideal) (A3 m c) (A7 m c) := by
  refine (dats m 0 c).arrAt_eq_of_covers 14 _ (by decide +kernel) fun t hf y => ?_
  blk_simp
  rw [after0_14]
  idx_vars y
  rw [show ((cfg0.win 14).blk t).view.emb (ix2 y0 y1) = ix2 (row t y0) y1 by blk_ext [row, idx t]]
  unfold out0_14
  frame_out
  rw [flat_47, ref_c, prod_c, mat_c]
  simp only [block_c]

theorem final_49 : (dats m 0 c).arrAt 15 cfg0.N = Cert.ReferenceMergeFIdeal.Read.val_main_v49 (F := Ideal) (A1 m c) (A2 m c) (A3 m c) (A4 m c) (A5 m c) (A6 m c) (A7 m c) := by
  refine (dats m 0 c).arrAt_eq_of_covers 15 _ (by decide +kernel) fun t hf y => ?_
  blk_simp
  rw [after0_15]
  idx_vars y
  rw [show ((cfg0.win 15).blk t).view.emb (ix2 y0 y1) = ix2 (row t y0) y1 by blk_ext [row, idx t]]
  unfold out0_15
  frame_out
  exact (y_at m c t y0 y1).trans ((flat_49 _ _ _ _ _ _ _ _ _).trans (ref_y _ _ _ _ _ _ _ _ _)).symm

theorem final_50 : (dats m 0 c).arrAt 16 cfg0.N = Cert.ReferenceMergeFIdeal.Read.val_main_v50 (F := Ideal) (A1 m c) (A2 m c) (A3 m c) (A4 m c) (A5 m c) (A6 m c) (A7 m c) (A8 m c) := by
  refine (dats m 0 c).arrAt_eq_of_covers 16 _ (by decide +kernel) fun t hf y => ?_
  blk_simp
  rw [after0_16]
  idx_vars y
  rw [show ((cfg0.win 16).blk t).view.emb (ix2 y0 y1) = ix2 (row t y0) y1 by blk_ext [row, idx t]]
  unfold out0_16
  frame_out
  rw [flat_50, ref_z, prod_y, mat_o, y_row]

theorem final_51 : (dats m 0 c).arrAt 17 cfg0.N = Cert.ReferenceMergeFIdeal.Read.val_main_v51 (F := Ideal) (A0 m c) (A1 m c) (A2 m c) (A3 m c) (A4 m c) (A5 m c) (A6 m c) (A7 m c) (A8 m c) (A9 m c) := by
  refine (dats m 0 c).arrAt_eq_of_covers 17 _ (by decide +kernel) fun t hf y => ?_
  blk_simp
  rw [after0_17]
  idx_vars y
  rw [show ((cfg0.win 17).blk t).view.emb (ix2 y0 y1) = ix2 (row t y0) y1 by blk_ext [row, idx t]]
  unfold out0_17
  frame_out
  rw [flat_51, ref_out, out_at, y_row, block_x, block_g]
  simp only [mat_o]

end Blocks

end Cert.MergeF

namespace Cert.MergeF.Ref

open Idealize.ShloMosaic Idealize.ShloMosaic.TcCoe Idealize.SL.Sem
open Cert.ReferenceMergeFIdeal Cert.ReferenceMergeFIdeal.Read

theorem frame_ref : Cert.quiescent_ReferenceMergeFIdeal := fun m ρ _ =>
  (θ_run defs _ _).mono (fun r h => ⟨fun c => (h c).2.2.2.2.2.2, sem_eq_zero_of_no_sems (by decide) r.2⟩)
    (Cert.ReferenceMergeFIdeal.Value.run (F := Ideal) m ρ)

end Cert.MergeF.Ref

namespace Cert.MergeF

open Idealize.ShloMosaic Idealize.ShloMosaic.TcCoe Idealize.SL.Sem
open Cert.ReferenceMergeFIdeal.Read

theorem algebraic : Cert.algebraic_KernelMergeFIdeal_ReferenceMergeFIdeal := by
  intro m g m' g' _ hagree
  refine ⟨_, _, _, _, _, _, (θ_run _ _ _).mono (fun r h c => ⟨(h c).1.trans (final_45 m c), (h c).2.1.trans (final_46 m c), (h c).2.2.1.trans (final_47 m c),
      (h c).2.2.2.1.trans (final_49 m c), (h c).2.2.2.2.1.trans (final_50 m c), (h c).2.2.2.2.2.1.trans (final_51 m c), (h c).2.2.2.2.2.2⟩)
      (Cert.KernelMergeFIdeal.Value.run_blocks (F := Ideal) m g),
    (θ_run _ _ _).mono (fun r h c => ?_) (Cert.ReferenceMergeFIdeal.Value.run (F := Ideal) m' g')⟩
  obtain ⟨e0, e1, e2, e3, e4, e5, e⟩ := h c
  replace e0 := e0.trans (val_main_v45_eq _ _)
  replace e1 := e1.trans (val_main_v46_eq _ _)
  replace e2 := e2.trans (val_main_v47_eq _ _)
  replace e3 := e3.trans (val_main_v49_eq _ _ _ _ _ _ _)
  replace e4 := e4.trans (val_main_v50_eq _ _ _ _ _ _ _ _)
  replace e5 := e5.trans (val_main_v51_eq m' c)
  obtain ⟨h0, h1, h2, h3, h4, h5, h6, h7, h8, h9⟩ := hagree c
  rw [h1, h5] at e0
  rw [h2, h6] at e1
  rw [h3, h7] at e2
  rw [h1, h2, h3, h4, h5, h6, h7] at e3
  rw [h1, h2, h3, h4, h5, h6, h7, h8] at e4
  rw [h0, h1, h2, h3, h4, h5, h6, h7, h8, h9] at e5
  exact ⟨e0, e1, e2, e3, e4, e5, e⟩

end Cert.MergeF

end
-- ==== Proof.Dw.lean ====
/-
  The gradient of `w_in`, transposed: every entry is a column of the projection's gradient times a column of the hidden rows. The
  kernel computes it 1280 rows at a time, the reference in one product.
-/
module

public import proofs.«01_k».proof.Proof.Gen.KernelDwIdeal.Value
public import proofs.«01_k».proof.Proof.Gen.ReferenceDwIdeal.Read
public import proofs.«01_k».proof.Defs
public import Idealize.ShloMosaic.Lib.Pipeline.ValueKit
public import Idealize.ShloMosaic.Lib.Claim

@[expose] public section

set_option maxRecDepth 16384

noncomputable section

namespace Cert.Dw

open Idealize.ShloMosaic Idealize.ShloMosaic.TcCoe Idealize.SL.Sem
open Idealize.ShloMosaic.Pipeline (Dat)
open Cert.KernelDwIdeal Cert.KernelDwIdeal.Gen

/-- A product's block at a row and a column. -/
theorem block_at (x : Vec Ideal S2048x1280 .bf16) (y : Vec Ideal S2048x1024 .bf16) (r : Fin 1280) (i : Fin 1024) :
    k0_pay1 (F := Ideal) x y (ix2 r i) = ∑ s : Fin 2048, x (ix2 s r) * y (ix2 s i) := by
  pointwise [k0_pay1]

section Ref
open Cert.ReferenceDwIdeal.Read

variable (x0 : (⟨S1x2048x1024, .f32⟩ : BufTy).Contents (Elt Ideal)) (x1 : (⟨S1x2048x12800, .f32⟩ : BufTy).Contents (Elt Ideal))

/-- The reference's result at a row and a column. -/
theorem ref_at (R : Fin 12800) (i : Fin 1024) : val_main_v7 (F := Ideal) x0 x1 (ix2 R i)
    = ∑ s : Fin 2048, x1 (ix3 0 s R) * x0 (ix3 0 s i) := by
  pointwise [val_main_v7, val_main_v6, val_main_v5, val_main_v4, val_main_v3, val_main_v1]

end Ref

section Blocks
variable (m : (ℓ : Loc nD τ sig) → Buf (Elt Ideal) ℓ) (c : Dev nD)

theorem read_l (R i) : V m c main_v3 (ix2 R i) = m ((c : Thread nD τ).loc main_arg1) (ix3 0 R i) := by
  entry_read
  pointwise
  blk_ext

theorem read_r (R i) : V m c main_v1 (ix2 R i) = m ((c : Thread nD τ).loc main_arg0) (ix3 0 R i) := by
  entry_read
  pointwise
  blk_ext

theorem idx : ∀ t : Fin cfg0.N, win0_0.index t = ![0, t.val] ∧ win0_1.index t = ![0, 0] ∧ win0_2.index t = ![t.val, 0] ∧ t.val < 10 :=
  (by decide +kernel : ∀ t : Fin grid0.N, _)

/-- The row of the result at row `r` of point `t`'s block. -/
def row (t : Fin cfg0.N) (r : Fin 1280) : Fin 12800 := ⟨t.val * 1280 + r.val, by have := (idx t).2.2.2; omega⟩

theorem block_l (t : Fin cfg0.N) (s r) : iblk m c 0 t (ix2 s r) = m ((c : Thread nD τ).loc main_arg1) (ix3 0 s (row t r)) := by
  rw [← read_l m c]
  blk_ext [iblk, row, idx t]

theorem block_r (t : Fin cfg0.N) (s i) : iblk m c 1 t (ix2 s i) = m ((c : Thread nD τ).loc main_arg0) (ix3 0 s i) := by
  rw [← read_r m c]
  blk_ext [iblk, idx t]

theorem final : (dats m 0 c).arrAt 2 cfg0.N = Cert.ReferenceDwIdeal.Read.val_main_v7 (F := Ideal) (m ((c : Thread nD τ).loc main_arg0))
    (m ((c : Thread nD τ).loc main_arg1)) := by
  refine (dats m 0 c).arrAt_eq_of_covers 2 _ (by decide +kernel) fun t hf y => ?_
  blk_simp
  rw [after0_2]
  idx_vars y
  rw [show ((cfg0.win 2).blk t).view.emb (ix2 y0 y1) = ix2 (row t y0) y1 by blk_ext [row, idx t]]
  unfold out0_2
  frame_out
  rw [ref_at, block_at]
  simp only [block_l, block_r]

end Blocks

end Cert.Dw

namespace Cert.Dw.Ref

open Idealize.ShloMosaic Idealize.ShloMosaic.TcCoe Idealize.SL.Sem
open Cert.ReferenceDwIdeal Cert.ReferenceDwIdeal.Read

theorem frame_ref : Cert.quiescent_ReferenceDwIdeal := fun m ρ _ =>
  (θ_run defs _ _).mono (fun r h => ⟨fun c => (h c).2, sem_eq_zero_of_no_sems (by decide) r.2⟩)
    (Cert.ReferenceDwIdeal.Value.run (F := Ideal) m ρ)

end Cert.Dw.Ref

namespace Cert.Dw

open Idealize.ShloMosaic Idealize.ShloMosaic.TcCoe Idealize.SL.Sem

theorem algebraic : Cert.algebraic_KernelDwIdeal_ReferenceDwIdeal := by
  intro m g m' g' _ hagree
  refine ⟨_, (θ_run _ _ _).mono (fun r h c => ⟨(h c).1.trans (final m c), (h c).2⟩) (Cert.KernelDwIdeal.Value.run_blocks (F := Ideal) m g),
    (θ_run _ _ _).mono (fun r h c => ?_) (Cert.ReferenceDwIdeal.Value.run (F := Ideal) m' g')⟩
  have e := Cert.ReferenceDwIdeal.Read.val_main_v7_eq (m' ((c.tc : Thread Cert.ReferenceDwIdeal.nD Cert.ReferenceDwIdeal.τ).loc Cert.ReferenceDwIdeal.main_arg0)) (m' ((c.tc : Thread Cert.ReferenceDwIdeal.nD Cert.ReferenceDwIdeal.τ).loc Cert.ReferenceDwIdeal.main_arg1))
  have e' := h c
  rw [(hagree c).1, (hagree c).2] at e e' ⊢
  exact ⟨e'.1.trans e, e'.2⟩

end Cert.Dw

end
-- ==== Proof.Tn.lean ====
/-
  The gradient of a square output matrix: every entry is a column of the product's left operand times a column of its result's
  gradient. The kernel computes it 512 rows at a time, the reference in one product.
-/
module

public import proofs.«01_k».proof.Proof.Gen.KernelTnIdeal.Value
public import proofs.«01_k».proof.Proof.Gen.ReferenceTnIdeal.Read
public import proofs.«01_k».proof.Defs
public import Idealize.ShloMosaic.Lib.Pipeline.ValueKit
public import Idealize.ShloMosaic.Lib.Claim

@[expose] public section

set_option maxRecDepth 16384

noncomputable section

namespace Cert.Tn

open Idealize.ShloMosaic Idealize.ShloMosaic.TcCoe Idealize.SL.Sem
open Idealize.ShloMosaic.Pipeline (Dat)
open Cert.KernelTnIdeal Cert.KernelTnIdeal.Gen

/-- A product's block at a row and a column. -/
theorem block_at (x : Vec Ideal S2048x512 .bf16) (y : Vec Ideal S2048x1024 .bf16) (r : Fin 512) (i : Fin 1024) :
    k0_pay1 (F := Ideal) x y (ix2 r i) = ∑ s : Fin 2048, x (ix2 s r) * y (ix2 s i) := by
  pointwise [k0_pay1]

section Ref
open Cert.ReferenceTnIdeal.Read

variable (x0 : (⟨S1x2048x1024, .f32⟩ : BufTy).Contents (Elt Ideal)) (x1 : (⟨S1x2048x1024, .f32⟩ : BufTy).Contents (Elt Ideal))

/-- The reference's result at a row and a column. -/
theorem ref_at (R : Fin 1024) (i : Fin 1024) : val_main_v6 (F := Ideal) x0 x1 (ix2 R i)
    = ∑ s : Fin 2048, x0 (ix3 0 s R) * x1 (ix3 0 s i) := by
  pointwise [val_main_v6, val_main_v5, val_main_v4, val_main_v3, val_main_v1]
  exact Finset.sum_congr rfl fun s _ => mul_comm _ _

end Ref

section Blocks
variable (m : (ℓ : Loc nD τ sig) → Buf (Elt Ideal) ℓ) (c : Dev nD)

theorem read_l (R i) : V m c main_v1 (ix2 R i) = m ((c : Thread nD τ).loc main_arg0) (ix3 0 R i) := by
  entry_read
  pointwise
  blk_ext

theorem read_r (R i) : V m c main_v3 (ix2 R i) = m ((c : Thread nD τ).loc main_arg1) (ix3 0 R i) := by
  entry_read
  pointwise
  blk_ext

theorem idx : ∀ t : Fin cfg0.N, win0_0.index t = ![0, t.val] ∧ win0_1.index t = ![0, 0] ∧ win0_2.index t = ![t.val, 0] ∧ t.val < 2 :=
  (by decide +kernel : ∀ t : Fin grid0.N, _)

/-- The row of the result at row `r` of point `t`'s block. -/
def row (t : Fin cfg0.N) (r : Fin 512) : Fin 1024 := ⟨t.val * 512 + r.val, by have := (idx t).2.2.2; omega⟩

theorem block_l (t : Fin cfg0.N) (s r) : iblk m c 0 t (ix2 s r) = m ((c : Thread nD τ).loc main_arg0) (ix3 0 s (row t r)) := by
  rw [← read_l m c]
  blk_ext [iblk, row, idx t]

theorem block_r (t : Fin cfg0.N) (s i) : iblk m c 1 t (ix2 s i) = m ((c : Thread nD τ).loc main_arg1) (ix3 0 s i) := by
  rw [← read_r m c]
  blk_ext [iblk, idx t]

theorem final : (dats m 0 c).arrAt 2 cfg0.N = Cert.ReferenceTnIdeal.Read.val_main_v6 (F := Ideal) (m ((c : Thread nD τ).loc main_arg0))
    (m ((c : Thread nD τ).loc main_arg1)) := by
  refine (dats m 0 c).arrAt_eq_of_covers 2 _ (by decide +kernel) fun t hf y => ?_
  blk_simp
  rw [after0_2]
  idx_vars y
  rw [show ((cfg0.win 2).blk t).view.emb (ix2 y0 y1) = ix2 (row t y0) y1 by blk_ext [row, idx t]]
  unfold out0_2
  frame_out
  rw [ref_at, block_at]
  simp only [block_l, block_r]

end Blocks

end Cert.Tn

namespace Cert.Tn.Ref

open Idealize.ShloMosaic Idealize.ShloMosaic.TcCoe Idealize.SL.Sem
open Cert.ReferenceTnIdeal Cert.ReferenceTnIdeal.Read

theorem frame_ref : Cert.quiescent_ReferenceTnIdeal := fun m ρ _ =>
  (θ_run defs _ _).mono (fun r h => ⟨fun c => (h c).2, sem_eq_zero_of_no_sems (by decide) r.2⟩)
    (Cert.ReferenceTnIdeal.Value.run (F := Ideal) m ρ)

end Cert.Tn.Ref

namespace Cert.Tn

open Idealize.ShloMosaic Idealize.ShloMosaic.TcCoe Idealize.SL.Sem

theorem algebraic : Cert.algebraic_KernelTnIdeal_ReferenceTnIdeal := by
  intro m g m' g' _ hagree
  refine ⟨_, (θ_run _ _ _).mono (fun r h c => ⟨(h c).1.trans (final m c), (h c).2⟩) (Cert.KernelTnIdeal.Value.run_blocks (F := Ideal) m g),
    (θ_run _ _ _).mono (fun r h c => ?_) (Cert.ReferenceTnIdeal.Value.run (F := Ideal) m' g')⟩
  have e := Cert.ReferenceTnIdeal.Read.val_main_v6_eq (m' ((c.tc : Thread Cert.ReferenceTnIdeal.nD Cert.ReferenceTnIdeal.τ).loc Cert.ReferenceTnIdeal.main_arg0)) (m' ((c.tc : Thread Cert.ReferenceTnIdeal.nD Cert.ReferenceTnIdeal.τ).loc Cert.ReferenceTnIdeal.main_arg1))
  have e' := h c
  rw [(hagree c).1, (hagree c).2] at e e' ⊢
  exact ⟨e'.1.trans e, e'.2⟩

end Cert.Tn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelAttn
public import proofs.«01_k».proof.Proof.Gen.KernelAttn.Frame
public import proofs.«01_k».proof.Proof.Gen.KernelAttnIdeal
public import proofs.«01_k».proof.Proof.Gen.KernelAttnIdeal.Skeleton
public import proofs.«01_k».proof.Proof.Gen.KernelAttnIdeal.Launch
public import proofs.«01_k».proof.Proof.Gen.KernelAttnIdeal.Points
public import proofs.«01_k».proof.Proof.Gen.KernelAttnIdeal.Frame
public import proofs.«01_k».proof.Proof.Gen.ReferenceAttnIdeal
public import proofs.«01_k».proof.Proof.Gen.ReferenceAttnIdeal.Run
public import proofs.«01_k».proof.Proof.Gen.ReferenceAttnIdeal.Read
public import proofs.«01_k».proof.Proof.Gen.KernelDh
public import proofs.«01_k».proof.Proof.Gen.KernelDh.Frame
public import proofs.«01_k».proof.Proof.Gen.KernelDhIdeal
public import proofs.«01_k».proof.Proof.Gen.KernelDhIdeal.Frame
public import proofs.«01_k».proof.Proof.Gen.KernelDhIdeal.Value
public import proofs.«01_k».proof.Proof.Gen.ReferenceDhIdeal
public import proofs.«01_k».proof.Proof.Gen.ReferenceDhIdeal.Run
public import proofs.«01_k».proof.Proof.Gen.ReferenceDhIdeal.Read
public import proofs.«01_k».proof.Proof.Gen.KernelBrC2
public import proofs.«01_k».proof.Proof.Gen.KernelBrC2Ideal
public import proofs.«01_k».proof.Proof.Gen.KernelBrC2.Skeleton
public import proofs.«01_k».proof.Proof.Gen.KernelBrC2.Launch
public import proofs.«01_k».proof.Proof.Gen.KernelBrC2.Points
public import proofs.«01_k».proof.Proof.Gen.KernelBrC2Ideal.Skeleton
public import proofs.«01_k».proof.Proof.Gen.KernelBrC2Ideal.Launch
public import proofs.«01_k».proof.Proof.Gen.KernelBrC2Ideal.Points
public import proofs.«01_k».proof.Proof.Gen.ReferenceBrC2Ideal
public import proofs.«01_k».proof.Proof.Gen.ReferenceBrC2Ideal.Run
public import proofs.«01_k».proof.Proof.Gen.ReferenceBrC2Ideal.Read
public import proofs.«01_k».proof.Proof.Gen.KernelBrC2Ideal.Frame
public import proofs.«01_k».proof.Proof.Gen.KernelQkv
public import proofs.«01_k».proof.Proof.Gen.KernelQkvIdeal
public import proofs.«01_k».proof.Proof.Gen.KernelQkv.Skeleton
public import proofs.«01_k».proof.Proof.Gen.KernelQkv.Launch
public import proofs.«01_k».proof.Proof.Gen.KernelQkv.Points
public import proofs.«01_k».proof.Proof.Gen.KernelQkvIdeal.Skeleton
public import proofs.«01_k».proof.Proof.Gen.KernelQkvIdeal.Launch
public import proofs.«01_k».proof.Proof.Gen.KernelQkvIdeal.Points
public import proofs.«01_k».proof.Proof.Gen.KernelQkvIdeal.Frame
public import proofs.«01_k».proof.Proof.Gen.ReferenceQkvIdeal
public import proofs.«01_k».proof.Proof.Gen.ReferenceQkvIdeal.Run
public import proofs.«01_k».proof.Proof.Gen.ReferenceQkvIdeal.Read
public import proofs.«01_k».proof.Proof.Gen.KernelBrC2F
public import proofs.«01_k».proof.Proof.Gen.KernelBrC2F.Frame
public import proofs.«01_k».proof.Proof.Gen.KernelBrC2FIdeal
public import proofs.«01_k».proof.Proof.Gen.KernelBrC2FIdeal.Frame
public import proofs.«01_k».proof.Proof.Gen.KernelBrC2FIdeal.Value
public import proofs.«01_k».proof.Proof.Gen.ReferenceBrC2FIdeal
public import proofs.«01_k».proof.Proof.Gen.ReferenceBrC2FIdeal.Run
public import proofs.«01_k».proof.Proof.Gen.ReferenceBrC2FIdeal.Read
public import proofs.«01_k».proof.Proof.Gen.KernelDwIdeal.Value
public import proofs.«01_k».proof.Proof.Gen.KernelDw.Frame
public import proofs.«01_k».proof.Proof.Gen.ReferenceDwIdeal.Read
public import proofs.«01_k».proof.Proof.Gen.KernelTnIdeal.Value
public import proofs.«01_k».proof.Proof.Gen.KernelTn.Frame
public import proofs.«01_k».proof.Proof.Gen.ReferenceTnIdeal.Read
public import proofs.«01_k».proof.Proof.Loss
public import proofs.«01_k».proof.Proof.AttnClaim
public import proofs.«01_k».proof.Proof.Dh
public import proofs.«01_k».proof.Proof.BrC2
public import proofs.«01_k».proof.Proof.Qkv
public import proofs.«01_k».proof.Proof.BrC2F
public import proofs.«01_k».proof.Proof.MergeF
public import proofs.«01_k».proof.Proof.Dw
public import proofs.«01_k».proof.Proof.Tn
public import Idealize.ShloMosaic.Lib.Claim
public import Idealize.ShloMosaic.Adequacy
public import Idealize.ShloMosaic.Init
public import proofs.«01_k».proof.Proof.Gen.KernelMergeF
public import proofs.«01_k».proof.Proof.Gen.KernelMergeF.Frame
public import proofs.«01_k».proof.Proof.Gen.KernelMergeFIdeal
public import proofs.«01_k».proof.Proof.Gen.KernelMergeFIdeal.Frame
public import proofs.«01_k».proof.Proof.Gen.KernelMergeFIdeal.Value
public import proofs.«01_k».proof.Proof.Gen.ReferenceMergeFIdeal
public import proofs.«01_k».proof.Proof.Gen.ReferenceMergeFIdeal.Run
public import proofs.«01_k».proof.Proof.Gen.ReferenceMergeFIdeal.Read

@[expose] public section

noncomputable section

namespace Cert.Proof

open Idealize.ShloMosaic Idealize.ShloMosaic.TcCoe Idealize.SL.Sem

theorem algebraic_loss : Cert.algebraic_KernelIdeal_ReferenceIdeal := by
  pair_intro
  · run_from Cert.KernelIdeal.Gen.run_main m g
  · run_from Cert.ReferenceIdeal.Value.run m' g'
    · exact (Cert.Loss.final_dy m c).symm
    · exact (Cert.Loss.final_loss m c).symm

/-- The reference of the loss head keeps its arguments; it has no semaphore. -/
theorem frame_ref_loss : Cert.quiescent_ReferenceIdeal := fun m ρ _ =>
  (θ_run Cert.ReferenceIdeal.defs _ _).mono
    (fun r h => ⟨fun c => (h c).2.2, sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts,
  Cert.KernelAttn.Gen.facts, Cert.KernelAttnIdeal.Gen.facts, Cert.ReferenceAttnIdeal.Gen.facts,
  Cert.KernelDh.Gen.facts, Cert.KernelDhIdeal.Gen.facts, Cert.ReferenceDhIdeal.Gen.facts,
  Cert.KernelBrC2.Gen.facts, Cert.KernelBrC2Ideal.Gen.facts, Cert.ReferenceBrC2Ideal.Gen.facts,
  Cert.KernelQkv.Gen.facts, Cert.KernelQkvIdeal.Gen.facts, Cert.ReferenceQkvIdeal.Gen.facts,
  Cert.KernelBrC2F.Gen.facts, Cert.KernelBrC2FIdeal.Gen.facts, Cert.ReferenceBrC2FIdeal.Gen.facts,
  Cert.KernelMergeF.Gen.facts, Cert.KernelMergeFIdeal.Gen.facts, Cert.ReferenceMergeFIdeal.Gen.facts,
  Cert.KernelDw.Gen.facts, Cert.KernelDwIdeal.Gen.facts, Cert.ReferenceDwIdeal.Gen.facts,
  Cert.KernelTn.Gen.facts, Cert.KernelTnIdeal.Gen.facts, Cert.ReferenceTnIdeal.Gen.facts,
  Cert.Maths.facts_finite_attn,
  Cert.Dh.facts_finite_dh,
  Cert.BrC2.facts_finite_brc2,
  Cert.Qkv.facts_finite_qkv,
  fun m ρ _ => Cert.Kernel.Gen.frame m ρ, fun m ρ _ => Cert.KernelIdeal.Gen.frame m ρ, frame_ref_loss,
  fun m ρ _ => Cert.KernelAttn.Gen.frame m ρ, fun m ρ _ => Cert.KernelAttnIdeal.Gen.frame m ρ, fun m ρ _ => Cert.KernelAttnIdeal.Gen.frame m ρ, Cert.Attn.Ref.frame_ref, fun m ρ _ => Cert.Attn.Ref.frame_ref m ρ trivial,
  fun m ρ _ => Cert.KernelDh.Gen.frame m ρ, fun m ρ _ => Cert.KernelDhIdeal.Gen.frame m ρ, fun m ρ _ => Cert.KernelDhIdeal.Gen.frame m ρ, Cert.Dh.Ref.frame_ref, fun m ρ _ => Cert.Dh.Ref.frame_ref m ρ trivial,
  Cert.BrC2.frame_kernel, fun m ρ _ => Cert.BrC2.frame_ideal m ρ trivial, fun m ρ _ => Cert.BrC2.frame_ideal m ρ trivial, Cert.BrC2.Ref.frame_ref, fun m ρ _ => Cert.BrC2.Ref.frame_ref m ρ trivial,
  Cert.Qkv.frame_kernel, fun m ρ _ => Cert.Qkv.frame_ideal m ρ trivial, fun m ρ _ => Cert.Qkv.frame_ideal m ρ trivial, Cert.Qkv.Ref.frame_ref, fun m ρ _ => Cert.Qkv.Ref.frame_ref m ρ trivial,
  fun m ρ _ => Cert.KernelBrC2F.Gen.frame m ρ, fun m ρ _ => Cert.KernelBrC2FIdeal.Gen.frame m ρ, Cert.BrC2F.Ref.frame_ref,
  fun m ρ _ => Cert.KernelMergeF.Gen.frame m ρ, fun m ρ _ => Cert.KernelMergeFIdeal.Gen.frame m ρ, Cert.MergeF.Ref.frame_ref,
  fun m ρ _ => Cert.KernelDw.Gen.frame m ρ, fun m ρ _ => Cert.KernelDwIdeal.Gen.frame m ρ, Cert.Dw.Ref.frame_ref,
  fun m ρ _ => Cert.KernelTn.Gen.frame m ρ, fun m ρ _ => Cert.KernelTnIdeal.Gen.frame m ρ, Cert.Tn.Ref.frame_ref,
  trivial, algebraic_loss,
  trivial, Cert.Attn.algebraic,
  trivial, Cert.Dh.algebraic,
  trivial, Cert.BrC2.algebraic,
  trivial, Cert.Qkv.algebraic,
  trivial, Cert.BrC2F.algebraic,
  trivial, Cert.MergeF.algebraic,
  trivial, Cert.Dw.algebraic,
  trivial, Cert.Tn.algebraic⟩

end Cert.Proof

end
